-- ==== Defs.lean ====
def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_Loss (m : (ℓ : Loc Cert.Loss.nD Cert.Loss.τ Cert.Loss.sig) → Buf (Elt Bits) ℓ) : Prop :=
  True

def Pre_Loss_loss_finite [hPre_loss_finite : Cert.Pre_loss_finite.Facts] (m : (ℓ : Loc Cert.Loss.nD Cert.Loss.τ Cert.Loss.sig) → Buf (Elt Bits) ℓ) : Prop :=
  ∀ c : Dev Cert.Loss.nD,
    (Cert.Pre_loss_finite.fn (F := Bits) (m ((c.tc : Thread Cert.Loss.nD Cert.Loss.τ).loc Cert.Loss.main_arg0)) (m ((c.tc : Thread Cert.Loss.nD Cert.Loss.τ).loc Cert.Loss.main_arg1)) (m ((c.tc : Thread Cert.Loss.nD Cert.Loss.τ).loc Cert.Loss.main_arg2))) = (fun _ => 1#1)

def Pre_LossIdeal (m : (ℓ : Loc Cert.LossIdeal.nD Cert.LossIdeal.τ Cert.LossIdeal.sig) → Buf (Elt Ideal) ℓ) : Prop :=
  True

def Pre_LossIdeal_loss_finite [hPre_loss_finite : Cert.Pre_loss_finite.Facts] (m : (ℓ : Loc Cert.LossIdeal.nD Cert.LossIdeal.τ Cert.LossIdeal.sig) → Buf (Elt Ideal) ℓ) : Prop :=
  ∀ c : Dev Cert.LossIdeal.nD,
    (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))) = (fun _ => 1#1)

def Pre_NormGate (m : (ℓ : Loc Cert.NormGate.nD Cert.NormGate.τ Cert.NormGate.sig) → Buf (Elt Bits) ℓ) : Prop :=
  True

def Pre_NormGate_normgate_finite [hPre_normgate_finite : Cert.Pre_normgate_finite.Facts] (m : (ℓ : Loc Cert.NormGate.nD Cert.NormGate.τ Cert.NormGate.sig) → Buf (Elt Bits) ℓ) : Prop :=
  ∀ c : Dev Cert.NormGate.nD,
    (Cert.Pre_normgate_finite.fn (F := Bits) (m ((c.tc : Thread Cert.NormGate.nD Cert.NormGate.τ).loc Cert.NormGate.main_arg0)) (m ((c.tc : Thread Cert.NormGate.nD Cert.NormGate.τ).loc Cert.NormGate.main_arg1)) (m ((c.tc : Thread Cert.NormGate.nD Cert.NormGate.τ).loc Cert.NormGate.main_arg2)) (m ((c.tc : Thread Cert.NormGate.nD Cert.NormGate.τ).loc Cert.NormGate.main_arg3)) (m ((c.tc : Thread Cert.NormGate.nD Cert.NormGate.τ).loc Cert.NormGate.main_arg4))) = (fun _ => 1#1)

def Pre_NormGateIdeal (m : (ℓ : Loc Cert.NormGateIdeal.nD Cert.NormGateIdeal.τ Cert.NormGateIdeal.sig) → Buf (Elt Ideal) ℓ) : Prop :=
  True

def Pre_NormGateIdeal_normgate_finite [hPre_normgate_finite : Cert.Pre_normgate_finite.Facts] (m : (ℓ : Loc Cert.NormGateIdeal.nD Cert.NormGateIdeal.τ Cert.NormGateIdeal.sig) → Buf (Elt Ideal) ℓ) : Prop :=
  ∀ c : Dev Cert.NormGateIdeal.nD,
    (Cert.Pre_normgate_finite.fn (F := Ideal) (m ((c.tc : Thread Cert.NormGateIdeal.nD Cert.NormGateIdeal.τ).loc Cert.NormGateIdeal.main_arg0)) (m ((c.tc : Thread Cert.NormGateIdeal.nD Cert.NormGateIdeal.τ).loc Cert.NormGateIdeal.main_arg1)) (m ((c.tc : Thread Cert.NormGateIdeal.nD Cert.NormGateIdeal.τ).loc Cert.NormGateIdeal.main_arg2)) (m ((c.tc : Thread Cert.NormGateIdeal.nD Cert.NormGateIdeal.τ).loc Cert.NormGateIdeal.main_arg3)) (m ((c.tc : Thread Cert.NormGateIdeal.nD Cert.NormGateIdeal.τ).loc Cert.NormGateIdeal.main_arg4))) = (fun _ => 1#1)

def Pre_NormGateRefIdeal (m : (ℓ : Loc Cert.NormGateRefIdeal.nD Cert.NormGateRefIdeal.τ Cert.NormGateRefIdeal.sig) → Buf (Elt Ideal) ℓ) : Prop :=
  True

def Pre_NormGateRefIdeal_normgate_finite [hPre_normgate_finite : Cert.Pre_normgate_finite.Facts] (m : (ℓ : Loc Cert.NormGateRefIdeal.nD Cert.NormGateRefIdeal.τ Cert.NormGateRefIdeal.sig) → Buf (Elt Ideal) ℓ) : Prop :=
  ∀ c : Dev Cert.NormGateRefIdeal.nD,
    (Cert.Pre_normgate_finite.fn (F := Ideal) (m ((c.tc : Thread Cert.NormGateRefIdeal.nD Cert.NormGateRefIdeal.τ).loc Cert.NormGateRefIdeal.main_arg0)) (m ((c.tc : Thread Cert.NormGateRefIdeal.nD Cert.NormGateRefIdeal.τ).loc Cert.NormGateRefIdeal.main_arg1)) (m ((c.tc : Thread Cert.NormGateRefIdeal.nD Cert.NormGateRefIdeal.τ).loc Cert.NormGateRefIdeal.main_arg2)) (m ((c.tc : Thread Cert.NormGateRefIdeal.nD Cert.NormGateRefIdeal.τ).loc Cert.NormGateRefIdeal.main_arg3)) (m ((c.tc : Thread Cert.NormGateRefIdeal.nD Cert.NormGateRefIdeal.τ).loc Cert.NormGateRefIdeal.main_arg4))) = (fun _ => 1#1)

def Pre_NormQkv (m : (ℓ : Loc Cert.NormQkv.nD Cert.NormQkv.τ Cert.NormQkv.sig) → Buf (Elt Bits) ℓ) : Prop :=
  True

def Pre_NormQkv_normqkv_finite [hPre_normqkv_finite : Cert.Pre_normqkv_finite.Facts] (m : (ℓ : Loc Cert.NormQkv.nD Cert.NormQkv.τ Cert.NormQkv.sig) → Buf (Elt Bits) ℓ) : Prop :=
  ∀ c : Dev Cert.NormQkv.nD,
    (Cert.Pre_normqkv_finite.fn (F := Bits) (m ((c.tc : Thread Cert.NormQkv.nD Cert.NormQkv.τ).loc Cert.NormQkv.main_arg0)) (m ((c.tc : Thread Cert.NormQkv.nD Cert.NormQkv.τ).loc Cert.NormQkv.main_arg1)) (m ((c.tc : Thread Cert.NormQkv.nD Cert.NormQkv.τ).loc Cert.NormQkv.main_arg2)) (m ((c.tc : Thread Cert.NormQkv.nD Cert.NormQkv.τ).loc Cert.NormQkv.main_arg3)) (m ((c.tc : Thread Cert.NormQkv.nD Cert.NormQkv.τ).loc Cert.NormQkv.main_arg4))) = (fun _ => 1#1)

def Pre_NormQkvIdeal (m : (ℓ : Loc Cert.NormQkvIdeal.nD Cert.NormQkvIdeal.τ Cert.NormQkvIdeal.sig) → Buf (Elt Ideal) ℓ) : Prop :=
  True

def Pre_NormQkvIdeal_normqkv_finite [hPre_normqkv_finite : Cert.Pre_normqkv_finite.Facts] (m : (ℓ : Loc Cert.NormQkvIdeal.nD Cert.NormQkvIdeal.τ Cert.NormQkvIdeal.sig) → Buf (Elt Ideal) ℓ) : Prop :=
  ∀ c : Dev Cert.NormQkvIdeal.nD,
    (Cert.Pre_normqkv_finite.fn (F := Ideal) (m ((c.tc : Thread Cert.NormQkvIdeal.nD Cert.NormQkvIdeal.τ).loc Cert.NormQkvIdeal.main_arg0)) (m ((c.tc : Thread Cert.NormQkvIdeal.nD Cert.NormQkvIdeal.τ).loc Cert.NormQkvIdeal.main_arg1)) (m ((c.tc : Thread Cert.NormQkvIdeal.nD Cert.NormQkvIdeal.τ).loc Cert.NormQkvIdeal.main_arg2)) (m ((c.tc : Thread Cert.NormQkvIdeal.nD Cert.NormQkvIdeal.τ).loc Cert.NormQkvIdeal.main_arg3)) (m ((c.tc : Thread Cert.NormQkvIdeal.nD Cert.NormQkvIdeal.τ).loc Cert.NormQkvIdeal.main_arg4))) = (fun _ => 1#1)

def Pre_NormQkvRefIdeal (m : (ℓ : Loc Cert.NormQkvRefIdeal.nD Cert.NormQkvRefIdeal.τ Cert.NormQkvRefIdeal.sig) → Buf (Elt Ideal) ℓ) : Prop :=
  True

def Pre_NormQkvRefIdeal_normqkv_finite [hPre_normqkv_finite : Cert.Pre_normqkv_finite.Facts] (m : (ℓ : Loc Cert.NormQkvRefIdeal.nD Cert.NormQkvRefIdeal.τ Cert.NormQkvRefIdeal.sig) → Buf (Elt Ideal) ℓ) : Prop :=
  ∀ c : Dev Cert.NormQkvRefIdeal.nD,
    (Cert.Pre_normqkv_finite.fn (F := Ideal) (m ((c.tc : Thread Cert.NormQkvRefIdeal.nD Cert.NormQkvRefIdeal.τ).loc Cert.NormQkvRefIdeal.main_arg0)) (m ((c.tc : Thread Cert.NormQkvRefIdeal.nD Cert.NormQkvRefIdeal.τ).loc Cert.NormQkvRefIdeal.main_arg1)) (m ((c.tc : Thread Cert.NormQkvRefIdeal.nD Cert.NormQkvRefIdeal.τ).loc Cert.NormQkvRefIdeal.main_arg2)) (m ((c.tc : Thread Cert.NormQkvRefIdeal.nD Cert.NormQkvRefIdeal.τ).loc Cert.NormQkvRefIdeal.main_arg3)) (m ((c.tc : Thread Cert.NormQkvRefIdeal.nD Cert.NormQkvRefIdeal.τ).loc Cert.NormQkvRefIdeal.main_arg4))) = (fun _ => 1#1)

def Pre_NormProj (m : (ℓ : Loc Cert.NormProj.nD Cert.NormProj.τ Cert.NormProj.sig) → Buf (Elt Bits) ℓ) : Prop :=
  True

def Pre_NormProj_normproj_finite [hPre_normproj_finite : Cert.Pre_normproj_finite.Facts] (m : (ℓ : Loc Cert.NormProj.nD Cert.NormProj.τ Cert.NormProj.sig) → Buf (Elt Bits) ℓ) : Prop :=
  ∀ c : Dev Cert.NormProj.nD,
    (Cert.Pre_normproj_finite.fn (F := Bits) (m ((c.tc : Thread Cert.NormProj.nD Cert.NormProj.τ).loc Cert.NormProj.main_arg0)) (m ((c.tc : Thread Cert.NormProj.nD Cert.NormProj.τ).loc Cert.NormProj.main_arg1)) (m ((c.tc : Thread Cert.NormProj.nD Cert.NormProj.τ).loc Cert.NormProj.main_arg2)) (m ((c.tc : Thread Cert.NormProj.nD Cert.NormProj.τ).loc Cert.NormProj.main_arg3)) (m ((c.tc : Thread Cert.NormProj.nD Cert.NormProj.τ).loc Cert.NormProj.main_arg4))) = (fun _ => 1#1)

def Pre_NormProjIdeal (m : (ℓ : Loc Cert.NormProjIdeal.nD Cert.NormProjIdeal.τ Cert.NormProjIdeal.sig) → Buf (Elt Ideal) ℓ) : Prop :=
  True

def Pre_NormProjIdeal_normproj_finite [hPre_normproj_finite : Cert.Pre_normproj_finite.Facts] (m : (ℓ : Loc Cert.NormProjIdeal.nD Cert.NormProjIdeal.τ Cert.NormProjIdeal.sig) → Buf (Elt Ideal) ℓ) : Prop :=
  ∀ c : Dev Cert.NormProjIdeal.nD,
    (Cert.Pre_normproj_finite.fn (F := Ideal) (m ((c.tc : Thread Cert.NormProjIdeal.nD Cert.NormProjIdeal.τ).loc Cert.NormProjIdeal.main_arg0)) (m ((c.tc : Thread Cert.NormProjIdeal.nD Cert.NormProjIdeal.τ).loc Cert.NormProjIdeal.main_arg1)) (m ((c.tc : Thread Cert.NormProjIdeal.nD Cert.NormProjIdeal.τ).loc Cert.NormProjIdeal.main_arg2)) (m ((c.tc : Thread Cert.NormProjIdeal.nD Cert.NormProjIdeal.τ).loc Cert.NormProjIdeal.main_arg3)) (m ((c.tc : Thread Cert.NormProjIdeal.nD Cert.NormProjIdeal.τ).loc Cert.NormProjIdeal.main_arg4))) = (fun _ => 1#1)

def Pre_NormProjRefIdeal (m : (ℓ : Loc Cert.NormProjRefIdeal.nD Cert.NormProjRefIdeal.τ Cert.NormProjRefIdeal.sig) → Buf (Elt Ideal) ℓ) : Prop :=
  True

def Pre_NormProjRefIdeal_normproj_finite [hPre_normproj_finite : Cert.Pre_normproj_finite.Facts] (m : (ℓ : Loc Cert.NormProjRefIdeal.nD Cert.NormProjRefIdeal.τ Cert.NormProjRefIdeal.sig) → Buf (Elt Ideal) ℓ) : Prop :=
  ∀ c : Dev Cert.NormProjRefIdeal.nD,
    (Cert.Pre_normproj_finite.fn (F := Ideal) (m ((c.tc : Thread Cert.NormProjRefIdeal.nD Cert.NormProjRefIdeal.τ).loc Cert.NormProjRefIdeal.main_arg0)) (m ((c.tc : Thread Cert.NormProjRefIdeal.nD Cert.NormProjRefIdeal.τ).loc Cert.NormProjRefIdeal.main_arg1)) (m ((c.tc : Thread Cert.NormProjRefIdeal.nD Cert.NormProjRefIdeal.τ).loc Cert.NormProjRefIdeal.main_arg2)) (m ((c.tc : Thread Cert.NormProjRefIdeal.nD Cert.NormProjRefIdeal.τ).loc Cert.NormProjRefIdeal.main_arg3)) (m ((c.tc : Thread Cert.NormProjRefIdeal.nD Cert.NormProjRefIdeal.τ).loc Cert.NormProjRefIdeal.main_arg4))) = (fun _ => 1#1)

def Pre_NormUp (m : (ℓ : Loc Cert.NormUp.nD Cert.NormUp.τ Cert.NormUp.sig) → Buf (Elt Bits) ℓ) : Prop :=
  True

def Pre_NormUp_normup_finite [hPre_normup_finite : Cert.Pre_normup_finite.Facts] (m : (ℓ : Loc Cert.NormUp.nD Cert.NormUp.τ Cert.NormUp.sig) → Buf (Elt Bits) ℓ) : Prop :=
  ∀ c : Dev Cert.NormUp.nD,
    (Cert.Pre_normup_finite.fn (F := Bits) (m ((c.tc : Thread Cert.NormUp.nD Cert.NormUp.τ).loc Cert.NormUp.main_arg0)) (m ((c.tc : Thread Cert.NormUp.nD Cert.NormUp.τ).loc Cert.NormUp.main_arg1)) (m ((c.tc : Thread Cert.NormUp.nD Cert.NormUp.τ).loc Cert.NormUp.main_arg2)) (m ((c.tc : Thread Cert.NormUp.nD Cert.NormUp.τ).loc Cert.NormUp.main_arg3)) (m ((c.tc : Thread Cert.NormUp.nD Cert.NormUp.τ).loc Cert.NormUp.main_arg4))) = (fun _ => 1#1)

def Pre_NormUpIdeal (m : (ℓ : Loc Cert.NormUpIdeal.nD Cert.NormUpIdeal.τ Cert.NormUpIdeal.sig) → Buf (Elt Ideal) ℓ) : Prop :=
  True

def Pre_NormUpIdeal_normup_finite [hPre_normup_finite : Cert.Pre_normup_finite.Facts] (m : (ℓ : Loc Cert.NormUpIdeal.nD Cert.NormUpIdeal.τ Cert.NormUpIdeal.sig) → Buf (Elt Ideal) ℓ) : Prop :=
  ∀ c : Dev Cert.NormUpIdeal.nD,
    (Cert.Pre_normup_finite.fn (F := Ideal) (m ((c.tc : Thread Cert.NormUpIdeal.nD Cert.NormUpIdeal.τ).loc Cert.NormUpIdeal.main_arg0)) (m ((c.tc : Thread Cert.NormUpIdeal.nD Cert.NormUpIdeal.τ).loc Cert.NormUpIdeal.main_arg1)) (m ((c.tc : Thread Cert.NormUpIdeal.nD Cert.NormUpIdeal.τ).loc Cert.NormUpIdeal.main_arg2)) (m ((c.tc : Thread Cert.NormUpIdeal.nD Cert.NormUpIdeal.τ).loc Cert.NormUpIdeal.main_arg3)) (m ((c.tc : Thread Cert.NormUpIdeal.nD Cert.NormUpIdeal.τ).loc Cert.NormUpIdeal.main_arg4))) = (fun _ => 1#1)

def Pre_NormUpRefIdeal (m : (ℓ : Loc Cert.NormUpRefIdeal.nD Cert.NormUpRefIdeal.τ Cert.NormUpRefIdeal.sig) → Buf (Elt Ideal) ℓ) : Prop :=
  True

def Pre_NormUpRefIdeal_normup_finite [hPre_normup_finite : Cert.Pre_normup_finite.Facts] (m : (ℓ : Loc Cert.NormUpRefIdeal.nD Cert.NormUpRefIdeal.τ Cert.NormUpRefIdeal.sig) → Buf (Elt Ideal) ℓ) : Prop :=
  ∀ c : Dev Cert.NormUpRefIdeal.nD,
    (Cert.Pre_normup_finite.fn (F := Ideal) (m ((c.tc : Thread Cert.NormUpRefIdeal.nD Cert.NormUpRefIdeal.τ).loc Cert.NormUpRefIdeal.main_arg0)) (m ((c.tc : Thread Cert.NormUpRefIdeal.nD Cert.NormUpRefIdeal.τ).loc Cert.NormUpRefIdeal.main_arg1)) (m ((c.tc : Thread Cert.NormUpRefIdeal.nD Cert.NormUpRefIdeal.τ).loc Cert.NormUpRefIdeal.main_arg2)) (m ((c.tc : Thread Cert.NormUpRefIdeal.nD Cert.NormUpRefIdeal.τ).loc Cert.NormUpRefIdeal.main_arg3)) (m ((c.tc : Thread Cert.NormUpRefIdeal.nD Cert.NormUpRefIdeal.τ).loc Cert.NormUpRefIdeal.main_arg4))) = (fun _ => 1#1)

def Pre_Swa (m : (ℓ : Loc Cert.Swa.nD Cert.Swa.τ Cert.Swa.sig) → Buf (Elt Bits) ℓ) : Prop :=
  True

def Pre_Swa_swa_finite [hPre_swa_finite : Cert.Pre_swa_finite.Facts] (m : (ℓ : Loc Cert.Swa.nD Cert.Swa.τ Cert.Swa.sig) → Buf (Elt Bits) ℓ) : Prop :=
  ∀ c : Dev Cert.Swa.nD,
    (Cert.Pre_swa_finite.fn (F := Bits) (m ((c.tc : Thread Cert.Swa.nD Cert.Swa.τ).loc Cert.Swa.main_arg0)) (m ((c.tc : Thread Cert.Swa.nD Cert.Swa.τ).loc Cert.Swa.main_arg1)) (m ((c.tc : Thread Cert.Swa.nD Cert.Swa.τ).loc Cert.Swa.main_arg2))) = (fun _ => 1#1)

def Pre_SwaIdeal (m : (ℓ : Loc Cert.SwaIdeal.nD Cert.SwaIdeal.τ Cert.SwaIdeal.sig) → Buf (Elt Ideal) ℓ) : Prop :=
  True

def Pre_SwaIdeal_swa_finite [hPre_swa_finite : Cert.Pre_swa_finite.Facts] (m : (ℓ : Loc Cert.SwaIdeal.nD Cert.SwaIdeal.τ Cert.SwaIdeal.sig) → Buf (Elt Ideal) ℓ) : Prop :=
  ∀ c : Dev Cert.SwaIdeal.nD,
    (Cert.Pre_swa_finite.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2))) = (fun _ => 1#1)

def Pre_SwaRefIdeal (m : (ℓ : Loc Cert.SwaRefIdeal.nD Cert.SwaRefIdeal.τ Cert.SwaRefIdeal.sig) → Buf (Elt Ideal) ℓ) : Prop :=
  True

def Pre_SwaRefIdeal_swa_finite [hPre_swa_finite : Cert.Pre_swa_finite.Facts] (m : (ℓ : Loc Cert.SwaRefIdeal.nD Cert.SwaRefIdeal.τ Cert.SwaRefIdeal.sig) → Buf (Elt Ideal) ℓ) : Prop :=
  ∀ c : Dev Cert.SwaRefIdeal.nD,
    (Cert.Pre_swa_finite.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2))) = (fun _ => 1#1)

def Pre_SwaFwd (m : (ℓ : Loc Cert.SwaFwd.nD Cert.SwaFwd.τ Cert.SwaFwd.sig) → Buf (Elt Bits) ℓ) : Prop :=
  True

def Pre_SwaFwd_swafwd_finite [hPre_swafwd_finite : Cert.Pre_swafwd_finite.Facts] (m : (ℓ : Loc Cert.SwaFwd.nD Cert.SwaFwd.τ Cert.SwaFwd.sig) → Buf (Elt Bits) ℓ) : Prop :=
  ∀ c : Dev Cert.SwaFwd.nD,
    (Cert.Pre_swafwd_finite.fn (F := Bits) (m ((c.tc : Thread Cert.SwaFwd.nD Cert.SwaFwd.τ).loc Cert.SwaFwd.main_arg0)) (m ((c.tc : Thread Cert.SwaFwd.nD Cert.SwaFwd.τ).loc Cert.SwaFwd.main_arg1))) = (fun _ => 1#1)

def Pre_SwaFwdIdeal (m : (ℓ : Loc Cert.SwaFwdIdeal.nD Cert.SwaFwdIdeal.τ Cert.SwaFwdIdeal.sig) → Buf (Elt Ideal) ℓ) : Prop :=
  True

def Pre_SwaFwdIdeal_swafwd_finite [hPre_swafwd_finite : Cert.Pre_swafwd_finite.Facts] (m : (ℓ : Loc Cert.SwaFwdIdeal.nD Cert.SwaFwdIdeal.τ Cert.SwaFwdIdeal.sig) → Buf (Elt Ideal) ℓ) : Prop :=
  ∀ c : Dev Cert.SwaFwdIdeal.nD,
    (Cert.Pre_swafwd_finite.fn (F := Ideal) (m ((c.tc : Thread Cert.SwaFwdIdeal.nD Cert.SwaFwdIdeal.τ).loc Cert.SwaFwdIdeal.main_arg0)) (m ((c.tc : Thread Cert.SwaFwdIdeal.nD Cert.SwaFwdIdeal.τ).loc Cert.SwaFwdIdeal.main_arg1))) = (fun _ => 1#1)

def Pre_SwaFwdRefIdeal (m : (ℓ : Loc Cert.SwaFwdRefIdeal.nD Cert.SwaFwdRefIdeal.τ Cert.SwaFwdRefIdeal.sig) → Buf (Elt Ideal) ℓ) : Prop :=
  True

def Pre_SwaFwdRefIdeal_swafwd_finite [hPre_swafwd_finite : Cert.Pre_swafwd_finite.Facts] (m : (ℓ : Loc Cert.SwaFwdRefIdeal.nD Cert.SwaFwdRefIdeal.τ Cert.SwaFwdRefIdeal.sig) → Buf (Elt Ideal) ℓ) : Prop :=
  ∀ c : Dev Cert.SwaFwdRefIdeal.nD,
    (Cert.Pre_swafwd_finite.fn (F := Ideal) (m ((c.tc : Thread Cert.SwaFwdRefIdeal.nD Cert.SwaFwdRefIdeal.τ).loc Cert.SwaFwdRefIdeal.main_arg0)) (m ((c.tc : Thread Cert.SwaFwdRefIdeal.nD Cert.SwaFwdRefIdeal.τ).loc Cert.SwaFwdRefIdeal.main_arg1))) = (fun _ => 1#1)

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def Pre_ResFwd (m : (ℓ : Loc Cert.ResFwd.nD Cert.ResFwd.τ Cert.ResFwd.sig) → Buf (Elt Bits) ℓ) : Prop :=
  True

def Pre_ResFwdIdeal (m : (ℓ : Loc Cert.ResFwdIdeal.nD Cert.ResFwdIdeal.τ Cert.ResFwdIdeal.sig) → Buf (Elt Ideal) ℓ) : Prop :=
  True

def Pre_ResFwdRefIdeal (m : (ℓ : Loc Cert.ResFwdRefIdeal.nD Cert.ResFwdRefIdeal.τ Cert.ResFwdRefIdeal.sig) → Buf (Elt Ideal) ℓ) : Prop :=
  True

def Pre_GateFwd (m : (ℓ : Loc Cert.GateFwd.nD Cert.GateFwd.τ Cert.GateFwd.sig) → Buf (Elt Bits) ℓ) : Prop :=
  True

def Pre_GateFwdIdeal (m : (ℓ : Loc Cert.GateFwdIdeal.nD Cert.GateFwdIdeal.τ Cert.GateFwdIdeal.sig) → Buf (Elt Ideal) ℓ) : Prop :=
  True

def Pre_GateFwdRefIdeal (m : (ℓ : Loc Cert.GateFwdRefIdeal.nD Cert.GateFwdRefIdeal.τ Cert.GateFwdRefIdeal.sig) → Buf (Elt Ideal) ℓ) : Prop :=
  True

def Pre_GateLast (m : (ℓ : Loc Cert.GateLast.nD Cert.GateLast.τ Cert.GateLast.sig) → Buf (Elt Bits) ℓ) : Prop :=
  True

def Pre_GateLastIdeal (m : (ℓ : Loc Cert.GateLastIdeal.nD Cert.GateLastIdeal.τ Cert.GateLastIdeal.sig) → Buf (Elt Ideal) ℓ) : Prop :=
  True

def Pre_GateLastRefIdeal (m : (ℓ : Loc Cert.GateLastRefIdeal.nD Cert.GateLastRefIdeal.τ Cert.GateLastRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_Ffn_ffn_finite [hPre_ffn_finite : Cert.Pre_ffn_finite.Facts] (m : (ℓ : Loc Cert.Ffn.nD Cert.Ffn.τ Cert.Ffn.sig) → Buf (Elt Bits) ℓ) : Prop :=
  ∀ c : Dev Cert.Ffn.nD,
    (Cert.Pre_ffn_finite.fn (F := Bits) (m ((c.tc : Thread Cert.Ffn.nD Cert.Ffn.τ).loc Cert.Ffn.main_arg0)) (m ((c.tc : Thread Cert.Ffn.nD Cert.Ffn.τ).loc Cert.Ffn.main_arg1)) (m ((c.tc : Thread Cert.Ffn.nD Cert.Ffn.τ).loc Cert.Ffn.main_arg2)) (m ((c.tc : Thread Cert.Ffn.nD Cert.Ffn.τ).loc Cert.Ffn.main_arg3))) = (fun _ => 1#1)

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Sum (m : (ℓ : Loc Cert.Sum.nD Cert.Sum.τ Cert.Sum.sig) → Buf (Elt Bits) ℓ) : Prop :=
  True

def Pre_SumIdeal (m : (ℓ : Loc Cert.SumIdeal.nD Cert.SumIdeal.τ Cert.SumIdeal.sig) → Buf (Elt Ideal) ℓ) : Prop :=
  True

def Pre_SumRefIdeal (m : (ℓ : Loc Cert.SumRefIdeal.nD Cert.SumRefIdeal.τ Cert.SumRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_Mat (m : (ℓ : Loc Cert.Mat.nD Cert.Mat.τ Cert.Mat.sig) → Buf (Elt Bits) ℓ) : Prop :=
  True

def Pre_MatIdeal (m : (ℓ : Loc Cert.MatIdeal.nD Cert.MatIdeal.τ Cert.MatIdeal.sig) → Buf (Elt Ideal) ℓ) : Prop :=
  True

def Pre_MatRefIdeal (m : (ℓ : Loc Cert.MatRefIdeal.nD Cert.MatRefIdeal.τ Cert.MatRefIdeal.sig) → Buf (Elt Ideal) ℓ) : Prop :=
  True

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_Loss_pre_loss_finite [hLoss : Cert.Loss.Facts] [hPre_loss_finite : Cert.Pre_loss_finite.Facts] : Prop :=
  ∀ (m : (ℓ : Loc Cert.Loss.nD Cert.Loss.τ Cert.Loss.sig) → Buf (Elt Bits) ℓ) (g : Dev Cert.Loss.nD → PrngReg), Pre_Loss_loss_finite m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossIdeal_pre_loss_finite [hLossIdeal : Cert.LossIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg), Pre_LossIdeal_loss_finite m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_NormGate [hNormGate : Cert.NormGate.Facts] : Prop :=
  ∀ (m : (ℓ : Loc Cert.NormGate.nD Cert.NormGate.τ Cert.NormGate.sig) → Buf (Elt Bits) ℓ) (g : Dev Cert.NormGate.nD → PrngReg), Pre_NormGate m →
    θ_run (Cert.NormGate.defs (F := Bits)) (onTc (τ := Cert.NormGate.τ) (Cert.NormGate.main (F := Bits))) ⟨m, fun _ => 0, g⟩ (fun r => (∀ c : Dev Cert.NormGate.nD,
      r.2.mem ((c.tc : Thread Cert.NormGate.nD Cert.NormGate.τ).loc Cert.NormGate.main_arg0) = m ((c.tc : Thread Cert.NormGate.nD Cert.NormGate.τ).loc Cert.NormGate.main_arg0)
      ∧ r.2.mem ((c.tc : Thread Cert.NormGate.nD Cert.NormGate.τ).loc Cert.NormGate.main_arg1) = m ((c.tc : Thread Cert.NormGate.nD Cert.NormGate.τ).loc Cert.NormGate.main_arg1)
      ∧ r.2.mem ((c.tc : Thread Cert.NormGate.nD Cert.NormGate.τ).loc Cert.NormGate.main_arg2) = m ((c.tc : Thread Cert.NormGate.nD Cert.NormGate.τ).loc Cert.NormGate.main_arg2)
      ∧ r.2.mem ((c.tc : Thread Cert.NormGate.nD Cert.NormGate.τ).loc Cert.NormGate.main_arg3) = m ((c.tc : Thread Cert.NormGate.nD Cert.NormGate.τ).loc Cert.NormGate.main_arg3)
      ∧ r.2.mem ((c.tc : Thread Cert.NormGate.nD Cert.NormGate.τ).loc Cert.NormGate.main_arg4) = m ((c.tc : Thread Cert.NormGate.nD Cert.NormGate.τ).loc Cert.NormGate.main_arg4))
      ∧ r.2.sem = fun _ => 0)

def quiescent_NormGate_pre_normgate_finite [hNormGate : Cert.NormGate.Facts] [hPre_normgate_finite : Cert.Pre_normgate_finite.Facts] : Prop :=
  ∀ (m : (ℓ : Loc Cert.NormGate.nD Cert.NormGate.τ Cert.NormGate.sig) → Buf (Elt Bits) ℓ) (g : Dev Cert.NormGate.nD → PrngReg), Pre_NormGate_normgate_finite m →
    θ_run (Cert.NormGate.defs (F := Bits)) (onTc (τ := Cert.NormGate.τ) (Cert.NormGate.main (F := Bits))) ⟨m, fun _ => 0, g⟩ (fun r => (∀ c : Dev Cert.NormGate.nD,
      r.2.mem ((c.tc : Thread Cert.NormGate.nD Cert.NormGate.τ).loc Cert.NormGate.main_arg0) = m ((c.tc : Thread Cert.NormGate.nD Cert.NormGate.τ).loc Cert.NormGate.main_arg0)
      ∧ r.2.mem ((c.tc : Thread Cert.NormGate.nD Cert.NormGate.τ).loc Cert.NormGate.main_arg1) = m ((c.tc : Thread Cert.NormGate.nD Cert.NormGate.τ).loc Cert.NormGate.main_arg1)
      ∧ r.2.mem ((c.tc : Thread Cert.NormGate.nD Cert.NormGate.τ).loc Cert.NormGate.main_arg2) = m ((c.tc : Thread Cert.NormGate.nD Cert.NormGate.τ).loc Cert.NormGate.main_arg2)
      ∧ r.2.mem ((c.tc : Thread Cert.NormGate.nD Cert.NormGate.τ).loc Cert.NormGate.main_arg3) = m ((c.tc : Thread Cert.NormGate.nD Cert.NormGate.τ).loc Cert.NormGate.main_arg3)
      ∧ r.2.mem ((c.tc : Thread Cert.NormGate.nD Cert.NormGate.τ).loc Cert.NormGate.main_arg4) = m ((c.tc : Thread Cert.NormGate.nD Cert.NormGate.τ).loc Cert.NormGate.main_arg4))
      ∧ r.2.sem = fun _ => 0)

def quiescent_NormGateIdeal [hNormGateIdeal : Cert.NormGateIdeal.Facts] : Prop :=
  ∀ (m : (ℓ : Loc Cert.NormGateIdeal.nD Cert.NormGateIdeal.τ Cert.NormGateIdeal.sig) → Buf (Elt Ideal) ℓ) (g : Dev Cert.NormGateIdeal.nD → PrngReg), Pre_NormGateIdeal m →
    θ_run (Cert.NormGateIdeal.defs (F := Ideal)) (onTc (τ := Cert.NormGateIdeal.τ) (Cert.NormGateIdeal.main (F := Ideal))) ⟨m, fun _ => 0, g⟩ (fun r => (∀ c : Dev Cert.NormGateIdeal.nD,
      r.2.mem ((c.tc : Thread Cert.NormGateIdeal.nD Cert.NormGateIdeal.τ).loc Cert.NormGateIdeal.main_arg0) = m ((c.tc : Thread Cert.NormGateIdeal.nD Cert.NormGateIdeal.τ).loc Cert.NormGateIdeal.main_arg0)
      ∧ r.2.mem ((c.tc : Thread Cert.NormGateIdeal.nD Cert.NormGateIdeal.τ).loc Cert.NormGateIdeal.main_arg1) = m ((c.tc : Thread Cert.NormGateIdeal.nD Cert.NormGateIdeal.τ).loc Cert.NormGateIdeal.main_arg1)
      ∧ r.2.mem ((c.tc : Thread Cert.NormGateIdeal.nD Cert.NormGateIdeal.τ).loc Cert.NormGateIdeal.main_arg2) = m ((c.tc : Thread Cert.NormGateIdeal.nD Cert.NormGateIdeal.τ).loc Cert.NormGateIdeal.main_arg2)
      ∧ r.2.mem ((c.tc : Thread Cert.NormGateIdeal.nD Cert.NormGateIdeal.τ).loc Cert.NormGateIdeal.main_arg3) = m ((c.tc : Thread Cert.NormGateIdeal.nD Cert.NormGateIdeal.τ).loc Cert.NormGateIdeal.main_arg3)
      ∧ r.2.mem ((c.tc : Thread Cert.NormGateIdeal.nD Cert.NormGateIdeal.τ).loc Cert.NormGateIdeal.main_arg4) = m ((c.tc : Thread Cert.NormGateIdeal.nD Cert.NormGateIdeal.τ).loc Cert.NormGateIdeal.main_arg4))
      ∧ r.2.sem = fun _ => 0)

def quiescent_NormGateIdeal_pre_normgate_finite [hNormGateIdeal : Cert.NormGateIdeal.Facts] [hPre_normgate_finite : Cert.Pre_normgate_finite.Facts] : Prop :=
  ∀ (m : (ℓ : Loc Cert.NormGateIdeal.nD Cert.NormGateIdeal.τ Cert.NormGateIdeal.sig) → Buf (Elt Ideal) ℓ) (g : Dev Cert.NormGateIdeal.nD → PrngReg), Pre_NormGateIdeal_normgate_finite m →
    θ_run (Cert.NormGateIdeal.defs (F := Ideal)) (onTc (τ := Cert.NormGateIdeal.τ) (Cert.NormGateIdeal.main (F := Ideal))) ⟨m, fun _ => 0, g⟩ (fun r => (∀ c : Dev Cert.NormGateIdeal.nD,
      r.2.mem ((c.tc : Thread Cert.NormGateIdeal.nD Cert.NormGateIdeal.τ).loc Cert.NormGateIdeal.main_arg0) = m ((c.tc : Thread Cert.NormGateIdeal.nD Cert.NormGateIdeal.τ).loc Cert.NormGateIdeal.main_arg0)
      ∧ r.2.mem ((c.tc : Thread Cert.NormGateIdeal.nD Cert.NormGateIdeal.τ).loc Cert.NormGateIdeal.main_arg1) = m ((c.tc : Thread Cert.NormGateIdeal.nD Cert.NormGateIdeal.τ).loc Cert.NormGateIdeal.main_arg1)
      ∧ r.2.mem ((c.tc : Thread Cert.NormGateIdeal.nD Cert.NormGateIdeal.τ).loc Cert.NormGateIdeal.main_arg2) = m ((c.tc : Thread Cert.NormGateIdeal.nD Cert.NormGateIdeal.τ).loc Cert.NormGateIdeal.main_arg2)
      ∧ r.2.mem ((c.tc : Thread Cert.NormGateIdeal.nD Cert.NormGateIdeal.τ).loc Cert.NormGateIdeal.main_arg3) = m ((c.tc : Thread Cert.NormGateIdeal.nD Cert.NormGateIdeal.τ).loc Cert.NormGateIdeal.main_arg3)
      ∧ r.2.mem ((c.tc : Thread Cert.NormGateIdeal.nD Cert.NormGateIdeal.τ).loc Cert.NormGateIdeal.main_arg4) = m ((c.tc : Thread Cert.NormGateIdeal.nD Cert.NormGateIdeal.τ).loc Cert.NormGateIdeal.main_arg4))
      ∧ r.2.sem = fun _ => 0)

def quiescent_NormGateRefIdeal [hNormGateRefIdeal : Cert.NormGateRefIdeal.Facts] : Prop :=
  ∀ (m : (ℓ : Loc Cert.NormGateRefIdeal.nD Cert.NormGateRefIdeal.τ Cert.NormGateRefIdeal.sig) → Buf (Elt Ideal) ℓ) (g : Dev Cert.NormGateRefIdeal.nD → PrngReg), Pre_NormGateRefIdeal m →
    θ_run (Cert.NormGateRefIdeal.defs (F := Ideal)) (onTc (τ := Cert.NormGateRefIdeal.τ) (Cert.NormGateRefIdeal.main (F := Ideal))) ⟨m, fun _ => 0, g⟩ (fun r => (∀ c : Dev Cert.NormGateRefIdeal.nD,
      r.2.mem ((c.tc : Thread Cert.NormGateRefIdeal.nD Cert.NormGateRefIdeal.τ).loc Cert.NormGateRefIdeal.main_arg0) = m ((c.tc : Thread Cert.NormGateRefIdeal.nD Cert.NormGateRefIdeal.τ).loc Cert.NormGateRefIdeal.main_arg0)
      ∧ r.2.mem ((c.tc : Thread Cert.NormGateRefIdeal.nD Cert.NormGateRefIdeal.τ).loc Cert.NormGateRefIdeal.main_arg1) = m ((c.tc : Thread Cert.NormGateRefIdeal.nD Cert.NormGateRefIdeal.τ).loc Cert.NormGateRefIdeal.main_arg1)
      ∧ r.2.mem ((c.tc : Thread Cert.NormGateRefIdeal.nD Cert.NormGateRefIdeal.τ).loc Cert.NormGateRefIdeal.main_arg2) = m ((c.tc : Thread Cert.NormGateRefIdeal.nD Cert.NormGateRefIdeal.τ).loc Cert.NormGateRefIdeal.main_arg2)
      ∧ r.2.mem ((c.tc : Thread Cert.NormGateRefIdeal.nD Cert.NormGateRefIdeal.τ).loc Cert.NormGateRefIdeal.main_arg3) = m ((c.tc : Thread Cert.NormGateRefIdeal.nD Cert.NormGateRefIdeal.τ).loc Cert.NormGateRefIdeal.main_arg3)
      ∧ r.2.mem ((c.tc : Thread Cert.NormGateRefIdeal.nD Cert.NormGateRefIdeal.τ).loc Cert.NormGateRefIdeal.main_arg4) = m ((c.tc : Thread Cert.NormGateRefIdeal.nD Cert.NormGateRefIdeal.τ).loc Cert.NormGateRefIdeal.main_arg4))
      ∧ r.2.sem = fun _ => 0)

def quiescent_NormGateRefIdeal_pre_normgate_finite [hNormGateRefIdeal : Cert.NormGateRefIdeal.Facts] [hPre_normgate_finite : Cert.Pre_normgate_finite.Facts] : Prop :=
  ∀ (m : (ℓ : Loc Cert.NormGateRefIdeal.nD Cert.NormGateRefIdeal.τ Cert.NormGateRefIdeal.sig) → Buf (Elt Ideal) ℓ) (g : Dev Cert.NormGateRefIdeal.nD → PrngReg), Pre_NormGateRefIdeal_normgate_finite m →
    θ_run (Cert.NormGateRefIdeal.defs (F := Ideal)) (onTc (τ := Cert.NormGateRefIdeal.τ) (Cert.NormGateRefIdeal.main (F := Ideal))) ⟨m, fun _ => 0, g⟩ (fun r => (∀ c : Dev Cert.NormGateRefIdeal.nD,
      r.2.mem ((c.tc : Thread Cert.NormGateRefIdeal.nD Cert.NormGateRefIdeal.τ).loc Cert.NormGateRefIdeal.main_arg0) = m ((c.tc : Thread Cert.NormGateRefIdeal.nD Cert.NormGateRefIdeal.τ).loc Cert.NormGateRefIdeal.main_arg0)
      ∧ r.2.mem ((c.tc : Thread Cert.NormGateRefIdeal.nD Cert.NormGateRefIdeal.τ).loc Cert.NormGateRefIdeal.main_arg1) = m ((c.tc : Thread Cert.NormGateRefIdeal.nD Cert.NormGateRefIdeal.τ).loc Cert.NormGateRefIdeal.main_arg1)
      ∧ r.2.mem ((c.tc : Thread Cert.NormGateRefIdeal.nD Cert.NormGateRefIdeal.τ).loc Cert.NormGateRefIdeal.main_arg2) = m ((c.tc : Thread Cert.NormGateRefIdeal.nD Cert.NormGateRefIdeal.τ).loc Cert.NormGateRefIdeal.main_arg2)
      ∧ r.2.mem ((c.tc : Thread Cert.NormGateRefIdeal.nD Cert.NormGateRefIdeal.τ).loc Cert.NormGateRefIdeal.main_arg3) = m ((c.tc : Thread Cert.NormGateRefIdeal.nD Cert.NormGateRefIdeal.τ).loc Cert.NormGateRefIdeal.main_arg3)
      ∧ r.2.mem ((c.tc : Thread Cert.NormGateRefIdeal.nD Cert.NormGateRefIdeal.τ).loc Cert.NormGateRefIdeal.main_arg4) = m ((c.tc : Thread Cert.NormGateRefIdeal.nD Cert.NormGateRefIdeal.τ).loc Cert.NormGateRefIdeal.main_arg4))
      ∧ r.2.sem = fun _ => 0)

def quiescent_NormQkv [hNormQkv : Cert.NormQkv.Facts] : Prop :=
  ∀ (m : (ℓ : Loc Cert.NormQkv.nD Cert.NormQkv.τ Cert.NormQkv.sig) → Buf (Elt Bits) ℓ) (g : Dev Cert.NormQkv.nD → PrngReg), Pre_NormQkv m →
    θ_run (Cert.NormQkv.defs (F := Bits)) (onTc (τ := Cert.NormQkv.τ) (Cert.NormQkv.main (F := Bits))) ⟨m, fun _ => 0, g⟩ (fun r => (∀ c : Dev Cert.NormQkv.nD,
      r.2.mem ((c.tc : Thread Cert.NormQkv.nD Cert.NormQkv.τ).loc Cert.NormQkv.main_arg0) = m ((c.tc : Thread Cert.NormQkv.nD Cert.NormQkv.τ).loc Cert.NormQkv.main_arg0)
      ∧ r.2.mem ((c.tc : Thread Cert.NormQkv.nD Cert.NormQkv.τ).loc Cert.NormQkv.main_arg1) = m ((c.tc : Thread Cert.NormQkv.nD Cert.NormQkv.τ).loc Cert.NormQkv.main_arg1)
      ∧ r.2.mem ((c.tc : Thread Cert.NormQkv.nD Cert.NormQkv.τ).loc Cert.NormQkv.main_arg2) = m ((c.tc : Thread Cert.NormQkv.nD Cert.NormQkv.τ).loc Cert.NormQkv.main_arg2)
      ∧ r.2.mem ((c.tc : Thread Cert.NormQkv.nD Cert.NormQkv.τ).loc Cert.NormQkv.main_arg3) = m ((c.tc : Thread Cert.NormQkv.nD Cert.NormQkv.τ).loc Cert.NormQkv.main_arg3)
      ∧ r.2.mem ((c.tc : Thread Cert.NormQkv.nD Cert.NormQkv.τ).loc Cert.NormQkv.main_arg4) = m ((c.tc : Thread Cert.NormQkv.nD Cert.NormQkv.τ).loc Cert.NormQkv.main_arg4))
      ∧ r.2.sem = fun _ => 0)

def quiescent_NormQkv_pre_normqkv_finite [hNormQkv : Cert.NormQkv.Facts] [hPre_normqkv_finite : Cert.Pre_normqkv_finite.Facts] : Prop :=
  ∀ (m : (ℓ : Loc Cert.NormQkv.nD Cert.NormQkv.τ Cert.NormQkv.sig) → Buf (Elt Bits) ℓ) (g : Dev Cert.NormQkv.nD → PrngReg), Pre_NormQkv_normqkv_finite m →
    θ_run (Cert.NormQkv.defs (F := Bits)) (onTc (τ := Cert.NormQkv.τ) (Cert.NormQkv.main (F := Bits))) ⟨m, fun _ => 0, g⟩ (fun r => (∀ c : Dev Cert.NormQkv.nD,
      r.2.mem ((c.tc : Thread Cert.NormQkv.nD Cert.NormQkv.τ).loc Cert.NormQkv.main_arg0) = m ((c.tc : Thread Cert.NormQkv.nD Cert.NormQkv.τ).loc Cert.NormQkv.main_arg0)
      ∧ r.2.mem ((c.tc : Thread Cert.NormQkv.nD Cert.NormQkv.τ).loc Cert.NormQkv.main_arg1) = m ((c.tc : Thread Cert.NormQkv.nD Cert.NormQkv.τ).loc Cert.NormQkv.main_arg1)
      ∧ r.2.mem ((c.tc : Thread Cert.NormQkv.nD Cert.NormQkv.τ).loc Cert.NormQkv.main_arg2) = m ((c.tc : Thread Cert.NormQkv.nD Cert.NormQkv.τ).loc Cert.NormQkv.main_arg2)
      ∧ r.2.mem ((c.tc : Thread Cert.NormQkv.nD Cert.NormQkv.τ).loc Cert.NormQkv.main_arg3) = m ((c.tc : Thread Cert.NormQkv.nD Cert.NormQkv.τ).loc Cert.NormQkv.main_arg3)
      ∧ r.2.mem ((c.tc : Thread Cert.NormQkv.nD Cert.NormQkv.τ).loc Cert.NormQkv.main_arg4) = m ((c.tc : Thread Cert.NormQkv.nD Cert.NormQkv.τ).loc Cert.NormQkv.main_arg4))
      ∧ r.2.sem = fun _ => 0)

def quiescent_NormQkvIdeal [hNormQkvIdeal : Cert.NormQkvIdeal.Facts] : Prop :=
  ∀ (m : (ℓ : Loc Cert.NormQkvIdeal.nD Cert.NormQkvIdeal.τ Cert.NormQkvIdeal.sig) → Buf (Elt Ideal) ℓ) (g : Dev Cert.NormQkvIdeal.nD → PrngReg), Pre_NormQkvIdeal m →
    θ_run (Cert.NormQkvIdeal.defs (F := Ideal)) (onTc (τ := Cert.NormQkvIdeal.τ) (Cert.NormQkvIdeal.main (F := Ideal))) ⟨m, fun _ => 0, g⟩ (fun r => (∀ c : Dev Cert.NormQkvIdeal.nD,
      r.2.mem ((c.tc : Thread Cert.NormQkvIdeal.nD Cert.NormQkvIdeal.τ).loc Cert.NormQkvIdeal.main_arg0) = m ((c.tc : Thread Cert.NormQkvIdeal.nD Cert.NormQkvIdeal.τ).loc Cert.NormQkvIdeal.main_arg0)
      ∧ r.2.mem ((c.tc : Thread Cert.NormQkvIdeal.nD Cert.NormQkvIdeal.τ).loc Cert.NormQkvIdeal.main_arg1) = m ((c.tc : Thread Cert.NormQkvIdeal.nD Cert.NormQkvIdeal.τ).loc Cert.NormQkvIdeal.main_arg1)
      ∧ r.2.mem ((c.tc : Thread Cert.NormQkvIdeal.nD Cert.NormQkvIdeal.τ).loc Cert.NormQkvIdeal.main_arg2) = m ((c.tc : Thread Cert.NormQkvIdeal.nD Cert.NormQkvIdeal.τ).loc Cert.NormQkvIdeal.main_arg2)
      ∧ r.2.mem ((c.tc : Thread Cert.NormQkvIdeal.nD Cert.NormQkvIdeal.τ).loc Cert.NormQkvIdeal.main_arg3) = m ((c.tc : Thread Cert.NormQkvIdeal.nD Cert.NormQkvIdeal.τ).loc Cert.NormQkvIdeal.main_arg3)
      ∧ r.2.mem ((c.tc : Thread Cert.NormQkvIdeal.nD Cert.NormQkvIdeal.τ).loc Cert.NormQkvIdeal.main_arg4) = m ((c.tc : Thread Cert.NormQkvIdeal.nD Cert.NormQkvIdeal.τ).loc Cert.NormQkvIdeal.main_arg4))
      ∧ r.2.sem = fun _ => 0)

def quiescent_NormQkvIdeal_pre_normqkv_finite [hNormQkvIdeal : Cert.NormQkvIdeal.Facts] [hPre_normqkv_finite : Cert.Pre_normqkv_finite.Facts] : Prop :=
  ∀ (m : (ℓ : Loc Cert.NormQkvIdeal.nD Cert.NormQkvIdeal.τ Cert.NormQkvIdeal.sig) → Buf (Elt Ideal) ℓ) (g : Dev Cert.NormQkvIdeal.nD → PrngReg), Pre_NormQkvIdeal_normqkv_finite m →
    θ_run (Cert.NormQkvIdeal.defs (F := Ideal)) (onTc (τ := Cert.NormQkvIdeal.τ) (Cert.NormQkvIdeal.main (F := Ideal))) ⟨m, fun _ => 0, g⟩ (fun r => (∀ c : Dev Cert.NormQkvIdeal.nD,
      r.2.mem ((c.tc : Thread Cert.NormQkvIdeal.nD Cert.NormQkvIdeal.τ).loc Cert.NormQkvIdeal.main_arg0) = m ((c.tc : Thread Cert.NormQkvIdeal.nD Cert.NormQkvIdeal.τ).loc Cert.NormQkvIdeal.main_arg0)
      ∧ r.2.mem ((c.tc : Thread Cert.NormQkvIdeal.nD Cert.NormQkvIdeal.τ).loc Cert.NormQkvIdeal.main_arg1) = m ((c.tc : Thread Cert.NormQkvIdeal.nD Cert.NormQkvIdeal.τ).loc Cert.NormQkvIdeal.main_arg1)
      ∧ r.2.mem ((c.tc : Thread Cert.NormQkvIdeal.nD Cert.NormQkvIdeal.τ).loc Cert.NormQkvIdeal.main_arg2) = m ((c.tc : Thread Cert.NormQkvIdeal.nD Cert.NormQkvIdeal.τ).loc Cert.NormQkvIdeal.main_arg2)
      ∧ r.2.mem ((c.tc : Thread Cert.NormQkvIdeal.nD Cert.NormQkvIdeal.τ).loc Cert.NormQkvIdeal.main_arg3) = m ((c.tc : Thread Cert.NormQkvIdeal.nD Cert.NormQkvIdeal.τ).loc Cert.NormQkvIdeal.main_arg3)
      ∧ r.2.mem ((c.tc : Thread Cert.NormQkvIdeal.nD Cert.NormQkvIdeal.τ).loc Cert.NormQkvIdeal.main_arg4) = m ((c.tc : Thread Cert.NormQkvIdeal.nD Cert.NormQkvIdeal.τ).loc Cert.NormQkvIdeal.main_arg4))
      ∧ r.2.sem = fun _ => 0)

def quiescent_NormQkvRefIdeal [hNormQkvRefIdeal : Cert.NormQkvRefIdeal.Facts] : Prop :=
  ∀ (m : (ℓ : Loc Cert.NormQkvRefIdeal.nD Cert.NormQkvRefIdeal.τ Cert.NormQkvRefIdeal.sig) → Buf (Elt Ideal) ℓ) (g : Dev Cert.NormQkvRefIdeal.nD → PrngReg), Pre_NormQkvRefIdeal m →
    θ_run (Cert.NormQkvRefIdeal.defs (F := Ideal)) (onTc (τ := Cert.NormQkvRefIdeal.τ) (Cert.NormQkvRefIdeal.main (F := Ideal))) ⟨m, fun _ => 0, g⟩ (fun r => (∀ c : Dev Cert.NormQkvRefIdeal.nD,
      r.2.mem ((c.tc : Thread Cert.NormQkvRefIdeal.nD Cert.NormQkvRefIdeal.τ).loc Cert.NormQkvRefIdeal.main_arg0) = m ((c.tc : Thread Cert.NormQkvRefIdeal.nD Cert.NormQkvRefIdeal.τ).loc Cert.NormQkvRefIdeal.main_arg0)
      ∧ r.2.mem ((c.tc : Thread Cert.NormQkvRefIdeal.nD Cert.NormQkvRefIdeal.τ).loc Cert.NormQkvRefIdeal.main_arg1) = m ((c.tc : Thread Cert.NormQkvRefIdeal.nD Cert.NormQkvRefIdeal.τ).loc Cert.NormQkvRefIdeal.main_arg1)
      ∧ r.2.mem ((c.tc : Thread Cert.NormQkvRefIdeal.nD Cert.NormQkvRefIdeal.τ).loc Cert.NormQkvRefIdeal.main_arg2) = m ((c.tc : Thread Cert.NormQkvRefIdeal.nD Cert.NormQkvRefIdeal.τ).loc Cert.NormQkvRefIdeal.main_arg2)
      ∧ r.2.mem ((c.tc : Thread Cert.NormQkvRefIdeal.nD Cert.NormQkvRefIdeal.τ).loc Cert.NormQkvRefIdeal.main_arg3) = m ((c.tc : Thread Cert.NormQkvRefIdeal.nD Cert.NormQkvRefIdeal.τ).loc Cert.NormQkvRefIdeal.main_arg3)
      ∧ r.2.mem ((c.tc : Thread Cert.NormQkvRefIdeal.nD Cert.NormQkvRefIdeal.τ).loc Cert.NormQkvRefIdeal.main_arg4) = m ((c.tc : Thread Cert.NormQkvRefIdeal.nD Cert.NormQkvRefIdeal.τ).loc Cert.NormQkvRefIdeal.main_arg4))
      ∧ r.2.sem = fun _ => 0)

def quiescent_NormQkvRefIdeal_pre_normqkv_finite [hNormQkvRefIdeal : Cert.NormQkvRefIdeal.Facts] [hPre_normqkv_finite : Cert.Pre_normqkv_finite.Facts] : Prop :=
  ∀ (m : (ℓ : Loc Cert.NormQkvRefIdeal.nD Cert.NormQkvRefIdeal.τ Cert.NormQkvRefIdeal.sig) → Buf (Elt Ideal) ℓ) (g : Dev Cert.NormQkvRefIdeal.nD → PrngReg), Pre_NormQkvRefIdeal_normqkv_finite m →
    θ_run (Cert.NormQkvRefIdeal.defs (F := Ideal)) (onTc (τ := Cert.NormQkvRefIdeal.τ) (Cert.NormQkvRefIdeal.main (F := Ideal))) ⟨m, fun _ => 0, g⟩ (fun r => (∀ c : Dev Cert.NormQkvRefIdeal.nD,
      r.2.mem ((c.tc : Thread Cert.NormQkvRefIdeal.nD Cert.NormQkvRefIdeal.τ).loc Cert.NormQkvRefIdeal.main_arg0) = m ((c.tc : Thread Cert.NormQkvRefIdeal.nD Cert.NormQkvRefIdeal.τ).loc Cert.NormQkvRefIdeal.main_arg0)
      ∧ r.2.mem ((c.tc : Thread Cert.NormQkvRefIdeal.nD Cert.NormQkvRefIdeal.τ).loc Cert.NormQkvRefIdeal.main_arg1) = m ((c.tc : Thread Cert.NormQkvRefIdeal.nD Cert.NormQkvRefIdeal.τ).loc Cert.NormQkvRefIdeal.main_arg1)
      ∧ r.2.mem ((c.tc : Thread Cert.NormQkvRefIdeal.nD Cert.NormQkvRefIdeal.τ).loc Cert.NormQkvRefIdeal.main_arg2) = m ((c.tc : Thread Cert.NormQkvRefIdeal.nD Cert.NormQkvRefIdeal.τ).loc Cert.NormQkvRefIdeal.main_arg2)
      ∧ r.2.mem ((c.tc : Thread Cert.NormQkvRefIdeal.nD Cert.NormQkvRefIdeal.τ).loc Cert.NormQkvRefIdeal.main_arg3) = m ((c.tc : Thread Cert.NormQkvRefIdeal.nD Cert.NormQkvRefIdeal.τ).loc Cert.NormQkvRefIdeal.main_arg3)
      ∧ r.2.mem ((c.tc : Thread Cert.NormQkvRefIdeal.nD Cert.NormQkvRefIdeal.τ).loc Cert.NormQkvRefIdeal.main_arg4) = m ((c.tc : Thread Cert.NormQkvRefIdeal.nD Cert.NormQkvRefIdeal.τ).loc Cert.NormQkvRefIdeal.main_arg4))
      ∧ r.2.sem = fun _ => 0)

def quiescent_NormProj [hNormProj : Cert.NormProj.Facts] : Prop :=
  ∀ (m : (ℓ : Loc Cert.NormProj.nD Cert.NormProj.τ Cert.NormProj.sig) → Buf (Elt Bits) ℓ) (g : Dev Cert.NormProj.nD → PrngReg), Pre_NormProj m →
    θ_run (Cert.NormProj.defs (F := Bits)) (onTc (τ := Cert.NormProj.τ) (Cert.NormProj.main (F := Bits))) ⟨m, fun _ => 0, g⟩ (fun r => (∀ c : Dev Cert.NormProj.nD,
      r.2.mem ((c.tc : Thread Cert.NormProj.nD Cert.NormProj.τ).loc Cert.NormProj.main_arg0) = m ((c.tc : Thread Cert.NormProj.nD Cert.NormProj.τ).loc Cert.NormProj.main_arg0)
      ∧ r.2.mem ((c.tc : Thread Cert.NormProj.nD Cert.NormProj.τ).loc Cert.NormProj.main_arg1) = m ((c.tc : Thread Cert.NormProj.nD Cert.NormProj.τ).loc Cert.NormProj.main_arg1)
      ∧ r.2.mem ((c.tc : Thread Cert.NormProj.nD Cert.NormProj.τ).loc Cert.NormProj.main_arg2) = m ((c.tc : Thread Cert.NormProj.nD Cert.NormProj.τ).loc Cert.NormProj.main_arg2)
      ∧ r.2.mem ((c.tc : Thread Cert.NormProj.nD Cert.NormProj.τ).loc Cert.NormProj.main_arg3) = m ((c.tc : Thread Cert.NormProj.nD Cert.NormProj.τ).loc Cert.NormProj.main_arg3)
      ∧ r.2.mem ((c.tc : Thread Cert.NormProj.nD Cert.NormProj.τ).loc Cert.NormProj.main_arg4) = m ((c.tc : Thread Cert.NormProj.nD Cert.NormProj.τ).loc Cert.NormProj.main_arg4))
      ∧ r.2.sem = fun _ => 0)

def quiescent_NormProj_pre_normproj_finite [hNormProj : Cert.NormProj.Facts] [hPre_normproj_finite : Cert.Pre_normproj_finite.Facts] : Prop :=
  ∀ (m : (ℓ : Loc Cert.NormProj.nD Cert.NormProj.τ Cert.NormProj.sig) → Buf (Elt Bits) ℓ) (g : Dev Cert.NormProj.nD → PrngReg), Pre_NormProj_normproj_finite m →
    θ_run (Cert.NormProj.defs (F := Bits)) (onTc (τ := Cert.NormProj.τ) (Cert.NormProj.main (F := Bits))) ⟨m, fun _ => 0, g⟩ (fun r => (∀ c : Dev Cert.NormProj.nD,
      r.2.mem ((c.tc : Thread Cert.NormProj.nD Cert.NormProj.τ).loc Cert.NormProj.main_arg0) = m ((c.tc : Thread Cert.NormProj.nD Cert.NormProj.τ).loc Cert.NormProj.main_arg0)
      ∧ r.2.mem ((c.tc : Thread Cert.NormProj.nD Cert.NormProj.τ).loc Cert.NormProj.main_arg1) = m ((c.tc : Thread Cert.NormProj.nD Cert.NormProj.τ).loc Cert.NormProj.main_arg1)
      ∧ r.2.mem ((c.tc : Thread Cert.NormProj.nD Cert.NormProj.τ).loc Cert.NormProj.main_arg2) = m ((c.tc : Thread Cert.NormProj.nD Cert.NormProj.τ).loc Cert.NormProj.main_arg2)
      ∧ r.2.mem ((c.tc : Thread Cert.NormProj.nD Cert.NormProj.τ).loc Cert.NormProj.main_arg3) = m ((c.tc : Thread Cert.NormProj.nD Cert.NormProj.τ).loc Cert.NormProj.main_arg3)
      ∧ r.2.mem ((c.tc : Thread Cert.NormProj.nD Cert.NormProj.τ).loc Cert.NormProj.main_arg4) = m ((c.tc : Thread Cert.NormProj.nD Cert.NormProj.τ).loc Cert.NormProj.main_arg4))
      ∧ r.2.sem = fun _ => 0)

def quiescent_NormProjIdeal [hNormProjIdeal : Cert.NormProjIdeal.Facts] : Prop :=
  ∀ (m : (ℓ : Loc Cert.NormProjIdeal.nD Cert.NormProjIdeal.τ Cert.NormProjIdeal.sig) → Buf (Elt Ideal) ℓ) (g : Dev Cert.NormProjIdeal.nD → PrngReg), Pre_NormProjIdeal m →
    θ_run (Cert.NormProjIdeal.defs (F := Ideal)) (onTc (τ := Cert.NormProjIdeal.τ) (Cert.NormProjIdeal.main (F := Ideal))) ⟨m, fun _ => 0, g⟩ (fun r => (∀ c : Dev Cert.NormProjIdeal.nD,
      r.2.mem ((c.tc : Thread Cert.NormProjIdeal.nD Cert.NormProjIdeal.τ).loc Cert.NormProjIdeal.main_arg0) = m ((c.tc : Thread Cert.NormProjIdeal.nD Cert.NormProjIdeal.τ).loc Cert.NormProjIdeal.main_arg0)
      ∧ r.2.mem ((c.tc : Thread Cert.NormProjIdeal.nD Cert.NormProjIdeal.τ).loc Cert.NormProjIdeal.main_arg1) = m ((c.tc : Thread Cert.NormProjIdeal.nD Cert.NormProjIdeal.τ).loc Cert.NormProjIdeal.main_arg1)
      ∧ r.2.mem ((c.tc : Thread Cert.NormProjIdeal.nD Cert.NormProjIdeal.τ).loc Cert.NormProjIdeal.main_arg2) = m ((c.tc : Thread Cert.NormProjIdeal.nD Cert.NormProjIdeal.τ).loc Cert.NormProjIdeal.main_arg2)
      ∧ r.2.mem ((c.tc : Thread Cert.NormProjIdeal.nD Cert.NormProjIdeal.τ).loc Cert.NormProjIdeal.main_arg3) = m ((c.tc : Thread Cert.NormProjIdeal.nD Cert.NormProjIdeal.τ).loc Cert.NormProjIdeal.main_arg3)
      ∧ r.2.mem ((c.tc : Thread Cert.NormProjIdeal.nD Cert.NormProjIdeal.τ).loc Cert.NormProjIdeal.main_arg4) = m ((c.tc : Thread Cert.NormProjIdeal.nD Cert.NormProjIdeal.τ).loc Cert.NormProjIdeal.main_arg4))
      ∧ r.2.sem = fun _ => 0)

def quiescent_NormProjIdeal_pre_normproj_finite [hNormProjIdeal : Cert.NormProjIdeal.Facts] [hPre_normproj_finite : Cert.Pre_normproj_finite.Facts] : Prop :=
  ∀ (m : (ℓ : Loc Cert.NormProjIdeal.nD Cert.NormProjIdeal.τ Cert.NormProjIdeal.sig) → Buf (Elt Ideal) ℓ) (g : Dev Cert.NormProjIdeal.nD → PrngReg), Pre_NormProjIdeal_normproj_finite m →
    θ_run (Cert.NormProjIdeal.defs (F := Ideal)) (onTc (τ := Cert.NormProjIdeal.τ) (Cert.NormProjIdeal.main (F := Ideal))) ⟨m, fun _ => 0, g⟩ (fun r => (∀ c : Dev Cert.NormProjIdeal.nD,
      r.2.mem ((c.tc : Thread Cert.NormProjIdeal.nD Cert.NormProjIdeal.τ).loc Cert.NormProjIdeal.main_arg0) = m ((c.tc : Thread Cert.NormProjIdeal.nD Cert.NormProjIdeal.τ).loc Cert.NormProjIdeal.main_arg0)
      ∧ r.2.mem ((c.tc : Thread Cert.NormProjIdeal.nD Cert.NormProjIdeal.τ).loc Cert.NormProjIdeal.main_arg1) = m ((c.tc : Thread Cert.NormProjIdeal.nD Cert.NormProjIdeal.τ).loc Cert.NormProjIdeal.main_arg1)
      ∧ r.2.mem ((c.tc : Thread Cert.NormProjIdeal.nD Cert.NormProjIdeal.τ).loc Cert.NormProjIdeal.main_arg2) = m ((c.tc : Thread Cert.NormProjIdeal.nD Cert.NormProjIdeal.τ).loc Cert.NormProjIdeal.main_arg2)
      ∧ r.2.mem ((c.tc : Thread Cert.NormProjIdeal.nD Cert.NormProjIdeal.τ).loc Cert.NormProjIdeal.main_arg3) = m ((c.tc : Thread Cert.NormProjIdeal.nD Cert.NormProjIdeal.τ).loc Cert.NormProjIdeal.main_arg3)
      ∧ r.2.mem ((c.tc : Thread Cert.NormProjIdeal.nD Cert.NormProjIdeal.τ).loc Cert.NormProjIdeal.main_arg4) = m ((c.tc : Thread Cert.NormProjIdeal.nD Cert.NormProjIdeal.τ).loc Cert.NormProjIdeal.main_arg4))
      ∧ r.2.sem = fun _ => 0)

def quiescent_NormProjRefIdeal [hNormProjRefIdeal : Cert.NormProjRefIdeal.Facts] : Prop :=
  ∀ (m : (ℓ : Loc Cert.NormProjRefIdeal.nD Cert.NormProjRefIdeal.τ Cert.NormProjRefIdeal.sig) → Buf (Elt Ideal) ℓ) (g : Dev Cert.NormProjRefIdeal.nD → PrngReg), Pre_NormProjRefIdeal m →
    θ_run (Cert.NormProjRefIdeal.defs (F := Ideal)) (onTc (τ := Cert.NormProjRefIdeal.τ) (Cert.NormProjRefIdeal.main (F := Ideal))) ⟨m, fun _ => 0, g⟩ (fun r => (∀ c : Dev Cert.NormProjRefIdeal.nD,
      r.2.mem ((c.tc : Thread Cert.NormProjRefIdeal.nD Cert.NormProjRefIdeal.τ).loc Cert.NormProjRefIdeal.main_arg0) = m ((c.tc : Thread Cert.NormProjRefIdeal.nD Cert.NormProjRefIdeal.τ).loc Cert.NormProjRefIdeal.main_arg0)
      ∧ r.2.mem ((c.tc : Thread Cert.NormProjRefIdeal.nD Cert.NormProjRefIdeal.τ).loc Cert.NormProjRefIdeal.main_arg1) = m ((c.tc : Thread Cert.NormProjRefIdeal.nD Cert.NormProjRefIdeal.τ).loc Cert.NormProjRefIdeal.main_arg1)
      ∧ r.2.mem ((c.tc : Thread Cert.NormProjRefIdeal.nD Cert.NormProjRefIdeal.τ).loc Cert.NormProjRefIdeal.main_arg2) = m ((c.tc : Thread Cert.NormProjRefIdeal.nD Cert.NormProjRefIdeal.τ).loc Cert.NormProjRefIdeal.main_arg2)
      ∧ r.2.mem ((c.tc : Thread Cert.NormProjRefIdeal.nD Cert.NormProjRefIdeal.τ).loc Cert.NormProjRefIdeal.main_arg3) = m ((c.tc : Thread Cert.NormProjRefIdeal.nD Cert.NormProjRefIdeal.τ).loc Cert.NormProjRefIdeal.main_arg3)
      ∧ r.2.mem ((c.tc : Thread Cert.NormProjRefIdeal.nD Cert.NormProjRefIdeal.τ).loc Cert.NormProjRefIdeal.main_arg4) = m ((c.tc : Thread Cert.NormProjRefIdeal.nD Cert.NormProjRefIdeal.τ).loc Cert.NormProjRefIdeal.main_arg4))
      ∧ r.2.sem = fun _ => 0)

def quiescent_NormProjRefIdeal_pre_normproj_finite [hNormProjRefIdeal : Cert.NormProjRefIdeal.Facts] [hPre_normproj_finite : Cert.Pre_normproj_finite.Facts] : Prop :=
  ∀ (m : (ℓ : Loc Cert.NormProjRefIdeal.nD Cert.NormProjRefIdeal.τ Cert.NormProjRefIdeal.sig) → Buf (Elt Ideal) ℓ) (g : Dev Cert.NormProjRefIdeal.nD → PrngReg), Pre_NormProjRefIdeal_normproj_finite m →
    θ_run (Cert.NormProjRefIdeal.defs (F := Ideal)) (onTc (τ := Cert.NormProjRefIdeal.τ) (Cert.NormProjRefIdeal.main (F := Ideal))) ⟨m, fun _ => 0, g⟩ (fun r => (∀ c : Dev Cert.NormProjRefIdeal.nD,
      r.2.mem ((c.tc : Thread Cert.NormProjRefIdeal.nD Cert.NormProjRefIdeal.τ).loc Cert.NormProjRefIdeal.main_arg0) = m ((c.tc : Thread Cert.NormProjRefIdeal.nD Cert.NormProjRefIdeal.τ).loc Cert.NormProjRefIdeal.main_arg0)
      ∧ r.2.mem ((c.tc : Thread Cert.NormProjRefIdeal.nD Cert.NormProjRefIdeal.τ).loc Cert.NormProjRefIdeal.main_arg1) = m ((c.tc : Thread Cert.NormProjRefIdeal.nD Cert.NormProjRefIdeal.τ).loc Cert.NormProjRefIdeal.main_arg1)
      ∧ r.2.mem ((c.tc : Thread Cert.NormProjRefIdeal.nD Cert.NormProjRefIdeal.τ).loc Cert.NormProjRefIdeal.main_arg2) = m ((c.tc : Thread Cert.NormProjRefIdeal.nD Cert.NormProjRefIdeal.τ).loc Cert.NormProjRefIdeal.main_arg2)
      ∧ r.2.mem ((c.tc : Thread Cert.NormProjRefIdeal.nD Cert.NormProjRefIdeal.τ).loc Cert.NormProjRefIdeal.main_arg3) = m ((c.tc : Thread Cert.NormProjRefIdeal.nD Cert.NormProjRefIdeal.τ).loc Cert.NormProjRefIdeal.main_arg3)
      ∧ r.2.mem ((c.tc : Thread Cert.NormProjRefIdeal.nD Cert.NormProjRefIdeal.τ).loc Cert.NormProjRefIdeal.main_arg4) = m ((c.tc : Thread Cert.NormProjRefIdeal.nD Cert.NormProjRefIdeal.τ).loc Cert.NormProjRefIdeal.main_arg4))
      ∧ r.2.sem = fun _ => 0)

def quiescent_NormUp [hNormUp : Cert.NormUp.Facts] : Prop :=
  ∀ (m : (ℓ : Loc Cert.NormUp.nD Cert.NormUp.τ Cert.NormUp.sig) → Buf (Elt Bits) ℓ) (g : Dev Cert.NormUp.nD → PrngReg), Pre_NormUp m →
    θ_run (Cert.NormUp.defs (F := Bits)) (onTc (τ := Cert.NormUp.τ) (Cert.NormUp.main (F := Bits))) ⟨m, fun _ => 0, g⟩ (fun r => (∀ c : Dev Cert.NormUp.nD,
      r.2.mem ((c.tc : Thread Cert.NormUp.nD Cert.NormUp.τ).loc Cert.NormUp.main_arg0) = m ((c.tc : Thread Cert.NormUp.nD Cert.NormUp.τ).loc Cert.NormUp.main_arg0)
      ∧ r.2.mem ((c.tc : Thread Cert.NormUp.nD Cert.NormUp.τ).loc Cert.NormUp.main_arg1) = m ((c.tc : Thread Cert.NormUp.nD Cert.NormUp.τ).loc Cert.NormUp.main_arg1)
      ∧ r.2.mem ((c.tc : Thread Cert.NormUp.nD Cert.NormUp.τ).loc Cert.NormUp.main_arg2) = m ((c.tc : Thread Cert.NormUp.nD Cert.NormUp.τ).loc Cert.NormUp.main_arg2)
      ∧ r.2.mem ((c.tc : Thread Cert.NormUp.nD Cert.NormUp.τ).loc Cert.NormUp.main_arg3) = m ((c.tc : Thread Cert.NormUp.nD Cert.NormUp.τ).loc Cert.NormUp.main_arg3)
      ∧ r.2.mem ((c.tc : Thread Cert.NormUp.nD Cert.NormUp.τ).loc Cert.NormUp.main_arg4) = m ((c.tc : Thread Cert.NormUp.nD Cert.NormUp.τ).loc Cert.NormUp.main_arg4))
      ∧ r.2.sem = fun _ => 0)

def quiescent_NormUp_pre_normup_finite [hNormUp : Cert.NormUp.Facts] [hPre_normup_finite : Cert.Pre_normup_finite.Facts] : Prop :=
  ∀ (m : (ℓ : Loc Cert.NormUp.nD Cert.NormUp.τ Cert.NormUp.sig) → Buf (Elt Bits) ℓ) (g : Dev Cert.NormUp.nD → PrngReg), Pre_NormUp_normup_finite m →
    θ_run (Cert.NormUp.defs (F := Bits)) (onTc (τ := Cert.NormUp.τ) (Cert.NormUp.main (F := Bits))) ⟨m, fun _ => 0, g⟩ (fun r => (∀ c : Dev Cert.NormUp.nD,
      r.2.mem ((c.tc : Thread Cert.NormUp.nD Cert.NormUp.τ).loc Cert.NormUp.main_arg0) = m ((c.tc : Thread Cert.NormUp.nD Cert.NormUp.τ).loc Cert.NormUp.main_arg0)
      ∧ r.2.mem ((c.tc : Thread Cert.NormUp.nD Cert.NormUp.τ).loc Cert.NormUp.main_arg1) = m ((c.tc : Thread Cert.NormUp.nD Cert.NormUp.τ).loc Cert.NormUp.main_arg1)
      ∧ r.2.mem ((c.tc : Thread Cert.NormUp.nD Cert.NormUp.τ).loc Cert.NormUp.main_arg2) = m ((c.tc : Thread Cert.NormUp.nD Cert.NormUp.τ).loc Cert.NormUp.main_arg2)
      ∧ r.2.mem ((c.tc : Thread Cert.NormUp.nD Cert.NormUp.τ).loc Cert.NormUp.main_arg3) = m ((c.tc : Thread Cert.NormUp.nD Cert.NormUp.τ).loc Cert.NormUp.main_arg3)
      ∧ r.2.mem ((c.tc : Thread Cert.NormUp.nD Cert.NormUp.τ).loc Cert.NormUp.main_arg4) = m ((c.tc : Thread Cert.NormUp.nD Cert.NormUp.τ).loc Cert.NormUp.main_arg4))
      ∧ r.2.sem = fun _ => 0)

def quiescent_NormUpIdeal [hNormUpIdeal : Cert.NormUpIdeal.Facts] : Prop :=
  ∀ (m : (ℓ : Loc Cert.NormUpIdeal.nD Cert.NormUpIdeal.τ Cert.NormUpIdeal.sig) → Buf (Elt Ideal) ℓ) (g : Dev Cert.NormUpIdeal.nD → PrngReg), Pre_NormUpIdeal m →
    θ_run (Cert.NormUpIdeal.defs (F := Ideal)) (onTc (τ := Cert.NormUpIdeal.τ) (Cert.NormUpIdeal.main (F := Ideal))) ⟨m, fun _ => 0, g⟩ (fun r => (∀ c : Dev Cert.NormUpIdeal.nD,
      r.2.mem ((c.tc : Thread Cert.NormUpIdeal.nD Cert.NormUpIdeal.τ).loc Cert.NormUpIdeal.main_arg0) = m ((c.tc : Thread Cert.NormUpIdeal.nD Cert.NormUpIdeal.τ).loc Cert.NormUpIdeal.main_arg0)
      ∧ r.2.mem ((c.tc : Thread Cert.NormUpIdeal.nD Cert.NormUpIdeal.τ).loc Cert.NormUpIdeal.main_arg1) = m ((c.tc : Thread Cert.NormUpIdeal.nD Cert.NormUpIdeal.τ).loc Cert.NormUpIdeal.main_arg1)
      ∧ r.2.mem ((c.tc : Thread Cert.NormUpIdeal.nD Cert.NormUpIdeal.τ).loc Cert.NormUpIdeal.main_arg2) = m ((c.tc : Thread Cert.NormUpIdeal.nD Cert.NormUpIdeal.τ).loc Cert.NormUpIdeal.main_arg2)
      ∧ r.2.mem ((c.tc : Thread Cert.NormUpIdeal.nD Cert.NormUpIdeal.τ).loc Cert.NormUpIdeal.main_arg3) = m ((c.tc : Thread Cert.NormUpIdeal.nD Cert.NormUpIdeal.τ).loc Cert.NormUpIdeal.main_arg3)
      ∧ r.2.mem ((c.tc : Thread Cert.NormUpIdeal.nD Cert.NormUpIdeal.τ).loc Cert.NormUpIdeal.main_arg4) = m ((c.tc : Thread Cert.NormUpIdeal.nD Cert.NormUpIdeal.τ).loc Cert.NormUpIdeal.main_arg4))
      ∧ r.2.sem = fun _ => 0)

def quiescent_NormUpIdeal_pre_normup_finite [hNormUpIdeal : Cert.NormUpIdeal.Facts] [hPre_normup_finite : Cert.Pre_normup_finite.Facts] : Prop :=
  ∀ (m : (ℓ : Loc Cert.NormUpIdeal.nD Cert.NormUpIdeal.τ Cert.NormUpIdeal.sig) → Buf (Elt Ideal) ℓ) (g : Dev Cert.NormUpIdeal.nD → PrngReg), Pre_NormUpIdeal_normup_finite m →
    θ_run (Cert.NormUpIdeal.defs (F := Ideal)) (onTc (τ := Cert.NormUpIdeal.τ) (Cert.NormUpIdeal.main (F := Ideal))) ⟨m, fun _ => 0, g⟩ (fun r => (∀ c : Dev Cert.NormUpIdeal.nD,
      r.2.mem ((c.tc : Thread Cert.NormUpIdeal.nD Cert.NormUpIdeal.τ).loc Cert.NormUpIdeal.main_arg0) = m ((c.tc : Thread Cert.NormUpIdeal.nD Cert.NormUpIdeal.τ).loc Cert.NormUpIdeal.main_arg0)
      ∧ r.2.mem ((c.tc : Thread Cert.NormUpIdeal.nD Cert.NormUpIdeal.τ).loc Cert.NormUpIdeal.main_arg1) = m ((c.tc : Thread Cert.NormUpIdeal.nD Cert.NormUpIdeal.τ).loc Cert.NormUpIdeal.main_arg1)
      ∧ r.2.mem ((c.tc : Thread Cert.NormUpIdeal.nD Cert.NormUpIdeal.τ).loc Cert.NormUpIdeal.main_arg2) = m ((c.tc : Thread Cert.NormUpIdeal.nD Cert.NormUpIdeal.τ).loc Cert.NormUpIdeal.main_arg2)
      ∧ r.2.mem ((c.tc : Thread Cert.NormUpIdeal.nD Cert.NormUpIdeal.τ).loc Cert.NormUpIdeal.main_arg3) = m ((c.tc : Thread Cert.NormUpIdeal.nD Cert.NormUpIdeal.τ).loc Cert.NormUpIdeal.main_arg3)
      ∧ r.2.mem ((c.tc : Thread Cert.NormUpIdeal.nD Cert.NormUpIdeal.τ).loc Cert.NormUpIdeal.main_arg4) = m ((c.tc : Thread Cert.NormUpIdeal.nD Cert.NormUpIdeal.τ).loc Cert.NormUpIdeal.main_arg4))
      ∧ r.2.sem = fun _ => 0)

def quiescent_NormUpRefIdeal [hNormUpRefIdeal : Cert.NormUpRefIdeal.Facts] : Prop :=
  ∀ (m : (ℓ : Loc Cert.NormUpRefIdeal.nD Cert.NormUpRefIdeal.τ Cert.NormUpRefIdeal.sig) → Buf (Elt Ideal) ℓ) (g : Dev Cert.NormUpRefIdeal.nD → PrngReg), Pre_NormUpRefIdeal m →
    θ_run (Cert.NormUpRefIdeal.defs (F := Ideal)) (onTc (τ := Cert.NormUpRefIdeal.τ) (Cert.NormUpRefIdeal.main (F := Ideal))) ⟨m, fun _ => 0, g⟩ (fun r => (∀ c : Dev Cert.NormUpRefIdeal.nD,
      r.2.mem ((c.tc : Thread Cert.NormUpRefIdeal.nD Cert.NormUpRefIdeal.τ).loc Cert.NormUpRefIdeal.main_arg0) = m ((c.tc : Thread Cert.NormUpRefIdeal.nD Cert.NormUpRefIdeal.τ).loc Cert.NormUpRefIdeal.main_arg0)
      ∧ r.2.mem ((c.tc : Thread Cert.NormUpRefIdeal.nD Cert.NormUpRefIdeal.τ).loc Cert.NormUpRefIdeal.main_arg1) = m ((c.tc : Thread Cert.NormUpRefIdeal.nD Cert.NormUpRefIdeal.τ).loc Cert.NormUpRefIdeal.main_arg1)
      ∧ r.2.mem ((c.tc : Thread Cert.NormUpRefIdeal.nD Cert.NormUpRefIdeal.τ).loc Cert.NormUpRefIdeal.main_arg2) = m ((c.tc : Thread Cert.NormUpRefIdeal.nD Cert.NormUpRefIdeal.τ).loc Cert.NormUpRefIdeal.main_arg2)
      ∧ r.2.mem ((c.tc : Thread Cert.NormUpRefIdeal.nD Cert.NormUpRefIdeal.τ).loc Cert.NormUpRefIdeal.main_arg3) = m ((c.tc : Thread Cert.NormUpRefIdeal.nD Cert.NormUpRefIdeal.τ).loc Cert.NormUpRefIdeal.main_arg3)
      ∧ r.2.mem ((c.tc : Thread Cert.NormUpRefIdeal.nD Cert.NormUpRefIdeal.τ).loc Cert.NormUpRefIdeal.main_arg4) = m ((c.tc : Thread Cert.NormUpRefIdeal.nD Cert.NormUpRefIdeal.τ).loc Cert.NormUpRefIdeal.main_arg4))
      ∧ r.2.sem = fun _ => 0)

def quiescent_NormUpRefIdeal_pre_normup_finite [hNormUpRefIdeal : Cert.NormUpRefIdeal.Facts] [hPre_normup_finite : Cert.Pre_normup_finite.Facts] : Prop :=
  ∀ (m : (ℓ : Loc Cert.NormUpRefIdeal.nD Cert.NormUpRefIdeal.τ Cert.NormUpRefIdeal.sig) → Buf (Elt Ideal) ℓ) (g : Dev Cert.NormUpRefIdeal.nD → PrngReg), Pre_NormUpRefIdeal_normup_finite m →
    θ_run (Cert.NormUpRefIdeal.defs (F := Ideal)) (onTc (τ := Cert.NormUpRefIdeal.τ) (Cert.NormUpRefIdeal.main (F := Ideal))) ⟨m, fun _ => 0, g⟩ (fun r => (∀ c : Dev Cert.NormUpRefIdeal.nD,
      r.2.mem ((c.tc : Thread Cert.NormUpRefIdeal.nD Cert.NormUpRefIdeal.τ).loc Cert.NormUpRefIdeal.main_arg0) = m ((c.tc : Thread Cert.NormUpRefIdeal.nD Cert.NormUpRefIdeal.τ).loc Cert.NormUpRefIdeal.main_arg0)
      ∧ r.2.mem ((c.tc : Thread Cert.NormUpRefIdeal.nD Cert.NormUpRefIdeal.τ).loc Cert.NormUpRefIdeal.main_arg1) = m ((c.tc : Thread Cert.NormUpRefIdeal.nD Cert.NormUpRefIdeal.τ).loc Cert.NormUpRefIdeal.main_arg1)
      ∧ r.2.mem ((c.tc : Thread Cert.NormUpRefIdeal.nD Cert.NormUpRefIdeal.τ).loc Cert.NormUpRefIdeal.main_arg2) = m ((c.tc : Thread Cert.NormUpRefIdeal.nD Cert.NormUpRefIdeal.τ).loc Cert.NormUpRefIdeal.main_arg2)
      ∧ r.2.mem ((c.tc : Thread Cert.NormUpRefIdeal.nD Cert.NormUpRefIdeal.τ).loc Cert.NormUpRefIdeal.main_arg3) = m ((c.tc : Thread Cert.NormUpRefIdeal.nD Cert.NormUpRefIdeal.τ).loc Cert.NormUpRefIdeal.main_arg3)
      ∧ r.2.mem ((c.tc : Thread Cert.NormUpRefIdeal.nD Cert.NormUpRefIdeal.τ).loc Cert.NormUpRefIdeal.main_arg4) = m ((c.tc : Thread Cert.NormUpRefIdeal.nD Cert.NormUpRefIdeal.τ).loc Cert.NormUpRefIdeal.main_arg4))
      ∧ r.2.sem = fun _ => 0)

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1)
      ∧ r.2.mem ((c.tc : Thread Cert.Swa.nD Cert.Swa.τ).loc Cert.Swa.main_arg2) = m ((c.tc : Thread Cert.Swa.nD Cert.Swa.τ).loc Cert.Swa.main_arg2))
      ∧ r.2.sem = fun _ => 0)

def quiescent_Swa_pre_swa_finite [hSwa : Cert.Swa.Facts] [hPre_swa_finite : Cert.Pre_swa_finite.Facts] : Prop :=
  ∀ (m : (ℓ : Loc Cert.Swa.nD Cert.Swa.τ Cert.Swa.sig) → Buf (Elt Bits) ℓ) (g : Dev Cert.Swa.nD → PrngReg), Pre_Swa_swa_finite m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1)
      ∧ r.2.mem ((c.tc : Thread Cert.Swa.nD Cert.Swa.τ).loc Cert.Swa.main_arg2) = m ((c.tc : Thread Cert.Swa.nD Cert.Swa.τ).loc Cert.Swa.main_arg2))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2))
      ∧ r.2.sem = fun _ => 0)

def quiescent_SwaIdeal_pre_swa_finite [hSwaIdeal : Cert.SwaIdeal.Facts] [hPre_swa_finite : Cert.Pre_swa_finite.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal_swa_finite m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2))
      ∧ r.2.sem = fun _ => 0)

def quiescent_SwaRefIdeal [hSwaRefIdeal : Cert.SwaRefIdeal.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2))
      ∧ r.2.sem = fun _ => 0)

def quiescent_SwaRefIdeal_pre_swa_finite [hSwaRefIdeal : Cert.SwaRefIdeal.Facts] [hPre_swa_finite : Cert.Pre_swa_finite.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal_swa_finite m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2))
      ∧ r.2.sem = fun _ => 0)

def quiescent_SwaFwd [hSwaFwd : Cert.SwaFwd.Facts] : Prop :=
  ∀ (m : (ℓ : Loc Cert.SwaFwd.nD Cert.SwaFwd.τ Cert.SwaFwd.sig) → Buf (Elt Bits) ℓ) (g : Dev Cert.SwaFwd.nD → PrngReg), Pre_SwaFwd m →
    θ_run (Cert.SwaFwd.defs (F := Bits)) (onTc (τ := Cert.SwaFwd.τ) (Cert.SwaFwd.main (F := Bits))) ⟨m, fun _ => 0, g⟩ (fun r => (∀ c : Dev Cert.SwaFwd.nD,
      r.2.mem ((c.tc : Thread Cert.SwaFwd.nD Cert.SwaFwd.τ).loc Cert.SwaFwd.main_arg0) = m ((c.tc : Thread Cert.SwaFwd.nD Cert.SwaFwd.τ).loc Cert.SwaFwd.main_arg0)
      ∧ r.2.mem ((c.tc : Thread Cert.SwaFwd.nD Cert.SwaFwd.τ).loc Cert.SwaFwd.main_arg1) = m ((c.tc : Thread Cert.SwaFwd.nD Cert.SwaFwd.τ).loc Cert.SwaFwd.main_arg1))
      ∧ r.2.sem = fun _ => 0)

def quiescent_SwaFwd_pre_swafwd_finite [hSwaFwd : Cert.SwaFwd.Facts] [hPre_swafwd_finite : Cert.Pre_swafwd_finite.Facts] : Prop :=
  ∀ (m : (ℓ : Loc Cert.SwaFwd.nD Cert.SwaFwd.τ Cert.SwaFwd.sig) → Buf (Elt Bits) ℓ) (g : Dev Cert.SwaFwd.nD → PrngReg), Pre_SwaFwd_swafwd_finite m →
    θ_run (Cert.SwaFwd.defs (F := Bits)) (onTc (τ := Cert.SwaFwd.τ) (Cert.SwaFwd.main (F := Bits))) ⟨m, fun _ => 0, g⟩ (fun r => (∀ c : Dev Cert.SwaFwd.nD,
      r.2.mem ((c.tc : Thread Cert.SwaFwd.nD Cert.SwaFwd.τ).loc Cert.SwaFwd.main_arg0) = m ((c.tc : Thread Cert.SwaFwd.nD Cert.SwaFwd.τ).loc Cert.SwaFwd.main_arg0)
      ∧ r.2.mem ((c.tc : Thread Cert.SwaFwd.nD Cert.SwaFwd.τ).loc Cert.SwaFwd.main_arg1) = m ((c.tc : Thread Cert.SwaFwd.nD Cert.SwaFwd.τ).loc Cert.SwaFwd.main_arg1))
      ∧ r.2.sem = fun _ => 0)

def quiescent_SwaFwdIdeal [hSwaFwdIdeal : Cert.SwaFwdIdeal.Facts] : Prop :=
  ∀ (m : (ℓ : Loc Cert.SwaFwdIdeal.nD Cert.SwaFwdIdeal.τ Cert.SwaFwdIdeal.sig) → Buf (Elt Ideal) ℓ) (g : Dev Cert.SwaFwdIdeal.nD → PrngReg), Pre_SwaFwdIdeal m →
    θ_run (Cert.SwaFwdIdeal.defs (F := Ideal)) (onTc (τ := Cert.SwaFwdIdeal.τ) (Cert.SwaFwdIdeal.main (F := Ideal))) ⟨m, fun _ => 0, g⟩ (fun r => (∀ c : Dev Cert.SwaFwdIdeal.nD,
      r.2.mem ((c.tc : Thread Cert.SwaFwdIdeal.nD Cert.SwaFwdIdeal.τ).loc Cert.SwaFwdIdeal.main_arg0) = m ((c.tc : Thread Cert.SwaFwdIdeal.nD Cert.SwaFwdIdeal.τ).loc Cert.SwaFwdIdeal.main_arg0)
      ∧ r.2.mem ((c.tc : Thread Cert.SwaFwdIdeal.nD Cert.SwaFwdIdeal.τ).loc Cert.SwaFwdIdeal.main_arg1) = m ((c.tc : Thread Cert.SwaFwdIdeal.nD Cert.SwaFwdIdeal.τ).loc Cert.SwaFwdIdeal.main_arg1))
      ∧ r.2.sem = fun _ => 0)

def quiescent_SwaFwdIdeal_pre_swafwd_finite [hSwaFwdIdeal : Cert.SwaFwdIdeal.Facts] [hPre_swafwd_finite : Cert.Pre_swafwd_finite.Facts] : Prop :=
  ∀ (m : (ℓ : Loc Cert.SwaFwdIdeal.nD Cert.SwaFwdIdeal.τ Cert.SwaFwdIdeal.sig) → Buf (Elt Ideal) ℓ) (g : Dev Cert.SwaFwdIdeal.nD → PrngReg), Pre_SwaFwdIdeal_swafwd_finite m →
    θ_run (Cert.SwaFwdIdeal.defs (F := Ideal)) (onTc (τ := Cert.SwaFwdIdeal.τ) (Cert.SwaFwdIdeal.main (F := Ideal))) ⟨m, fun _ => 0, g⟩ (fun r => (∀ c : Dev Cert.SwaFwdIdeal.nD,
      r.2.mem ((c.tc : Thread Cert.SwaFwdIdeal.nD Cert.SwaFwdIdeal.τ).loc Cert.SwaFwdIdeal.main_arg0) = m ((c.tc : Thread Cert.SwaFwdIdeal.nD Cert.SwaFwdIdeal.τ).loc Cert.SwaFwdIdeal.main_arg0)
      ∧ r.2.mem ((c.tc : Thread Cert.SwaFwdIdeal.nD Cert.SwaFwdIdeal.τ).loc Cert.SwaFwdIdeal.main_arg1) = m ((c.tc : Thread Cert.SwaFwdIdeal.nD Cert.SwaFwdIdeal.τ).loc Cert.SwaFwdIdeal.main_arg1))
      ∧ r.2.sem = fun _ => 0)

def quiescent_SwaFwdRefIdeal [hSwaFwdRefIdeal : Cert.SwaFwdRefIdeal.Facts] : Prop :=
  ∀ (m : (ℓ : Loc Cert.SwaFwdRefIdeal.nD Cert.SwaFwdRefIdeal.τ Cert.SwaFwdRefIdeal.sig) → Buf (Elt Ideal) ℓ) (g : Dev Cert.SwaFwdRefIdeal.nD → PrngReg), Pre_SwaFwdRefIdeal m →
    θ_run (Cert.SwaFwdRefIdeal.defs (F := Ideal)) (onTc (τ := Cert.SwaFwdRefIdeal.τ) (Cert.SwaFwdRefIdeal.main (F := Ideal))) ⟨m, fun _ => 0, g⟩ (fun r => (∀ c : Dev Cert.SwaFwdRefIdeal.nD,
      r.2.mem ((c.tc : Thread Cert.SwaFwdRefIdeal.nD Cert.SwaFwdRefIdeal.τ).loc Cert.SwaFwdRefIdeal.main_arg0) = m ((c.tc : Thread Cert.SwaFwdRefIdeal.nD Cert.SwaFwdRefIdeal.τ).loc Cert.SwaFwdRefIdeal.main_arg0)
      ∧ r.2.mem ((c.tc : Thread Cert.SwaFwdRefIdeal.nD Cert.SwaFwdRefIdeal.τ).loc Cert.SwaFwdRefIdeal.main_arg1) = m ((c.tc : Thread Cert.SwaFwdRefIdeal.nD Cert.SwaFwdRefIdeal.τ).loc Cert.SwaFwdRefIdeal.main_arg1))
      ∧ r.2.sem = fun _ => 0)

def quiescent_SwaFwdRefIdeal_pre_swafwd_finite [hSwaFwdRefIdeal : Cert.SwaFwdRefIdeal.Facts] [hPre_swafwd_finite : Cert.Pre_swafwd_finite.Facts] : Prop :=
  ∀ (m : (ℓ : Loc Cert.SwaFwdRefIdeal.nD Cert.SwaFwdRefIdeal.τ Cert.SwaFwdRefIdeal.sig) → Buf (Elt Ideal) ℓ) (g : Dev Cert.SwaFwdRefIdeal.nD → PrngReg), Pre_SwaFwdRefIdeal_swafwd_finite m →
    θ_run (Cert.SwaFwdRefIdeal.defs (F := Ideal)) (onTc (τ := Cert.SwaFwdRefIdeal.τ) (Cert.SwaFwdRefIdeal.main (F := Ideal))) ⟨m, fun _ => 0, g⟩ (fun r => (∀ c : Dev Cert.SwaFwdRefIdeal.nD,
      r.2.mem ((c.tc : Thread Cert.SwaFwdRefIdeal.nD Cert.SwaFwdRefIdeal.τ).loc Cert.SwaFwdRefIdeal.main_arg0) = m ((c.tc : Thread Cert.SwaFwdRefIdeal.nD Cert.SwaFwdRefIdeal.τ).loc Cert.SwaFwdRefIdeal.main_arg0)
      ∧ r.2.mem ((c.tc : Thread Cert.SwaFwdRefIdeal.nD Cert.SwaFwdRefIdeal.τ).loc Cert.SwaFwdRefIdeal.main_arg1) = m ((c.tc : Thread Cert.SwaFwdRefIdeal.nD Cert.SwaFwdRefIdeal.τ).loc Cert.SwaFwdRefIdeal.main_arg1))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def quiescent_ResFwd [hResFwd : Cert.ResFwd.Facts] : Prop :=
  ∀ (m : (ℓ : Loc Cert.ResFwd.nD Cert.ResFwd.τ Cert.ResFwd.sig) → Buf (Elt Bits) ℓ) (g : Dev Cert.ResFwd.nD → PrngReg), Pre_ResFwd m →
    θ_run (Cert.ResFwd.defs (F := Bits)) (onTc (τ := Cert.ResFwd.τ) (Cert.ResFwd.main (F := Bits))) ⟨m, fun _ => 0, g⟩ (fun r => (∀ c : Dev Cert.ResFwd.nD,
      r.2.mem ((c.tc : Thread Cert.ResFwd.nD Cert.ResFwd.τ).loc Cert.ResFwd.main_arg0) = m ((c.tc : Thread Cert.ResFwd.nD Cert.ResFwd.τ).loc Cert.ResFwd.main_arg0)
      ∧ r.2.mem ((c.tc : Thread Cert.ResFwd.nD Cert.ResFwd.τ).loc Cert.ResFwd.main_arg1) = m ((c.tc : Thread Cert.ResFwd.nD Cert.ResFwd.τ).loc Cert.ResFwd.main_arg1)
      ∧ r.2.mem ((c.tc : Thread Cert.ResFwd.nD Cert.ResFwd.τ).loc Cert.ResFwd.main_arg2) = m ((c.tc : Thread Cert.ResFwd.nD Cert.ResFwd.τ).loc Cert.ResFwd.main_arg2)
      ∧ r.2.mem ((c.tc : Thread Cert.ResFwd.nD Cert.ResFwd.τ).loc Cert.ResFwd.main_arg3) = m ((c.tc : Thread Cert.ResFwd.nD Cert.ResFwd.τ).loc Cert.ResFwd.main_arg3))
      ∧ r.2.sem = fun _ => 0)

def quiescent_ResFwdIdeal [hResFwdIdeal : Cert.ResFwdIdeal.Facts] : Prop :=
  ∀ (m : (ℓ : Loc Cert.ResFwdIdeal.nD Cert.ResFwdIdeal.τ Cert.ResFwdIdeal.sig) → Buf (Elt Ideal) ℓ) (g : Dev Cert.ResFwdIdeal.nD → PrngReg), Pre_ResFwdIdeal m →
    θ_run (Cert.ResFwdIdeal.defs (F := Ideal)) (onTc (τ := Cert.ResFwdIdeal.τ) (Cert.ResFwdIdeal.main (F := Ideal))) ⟨m, fun _ => 0, g⟩ (fun r => (∀ c : Dev Cert.ResFwdIdeal.nD,
      r.2.mem ((c.tc : Thread Cert.ResFwdIdeal.nD Cert.ResFwdIdeal.τ).loc Cert.ResFwdIdeal.main_arg0) = m ((c.tc : Thread Cert.ResFwdIdeal.nD Cert.ResFwdIdeal.τ).loc Cert.ResFwdIdeal.main_arg0)
      ∧ r.2.mem ((c.tc : Thread Cert.ResFwdIdeal.nD Cert.ResFwdIdeal.τ).loc Cert.ResFwdIdeal.main_arg1) = m ((c.tc : Thread Cert.ResFwdIdeal.nD Cert.ResFwdIdeal.τ).loc Cert.ResFwdIdeal.main_arg1)
      ∧ r.2.mem ((c.tc : Thread Cert.ResFwdIdeal.nD Cert.ResFwdIdeal.τ).loc Cert.ResFwdIdeal.main_arg2) = m ((c.tc : Thread Cert.ResFwdIdeal.nD Cert.ResFwdIdeal.τ).loc Cert.ResFwdIdeal.main_arg2)
      ∧ r.2.mem ((c.tc : Thread Cert.ResFwdIdeal.nD Cert.ResFwdIdeal.τ).loc Cert.ResFwdIdeal.main_arg3) = m ((c.tc : Thread Cert.ResFwdIdeal.nD Cert.ResFwdIdeal.τ).loc Cert.ResFwdIdeal.main_arg3))
      ∧ r.2.sem = fun _ => 0)

def quiescent_ResFwdRefIdeal [hResFwdRefIdeal : Cert.ResFwdRefIdeal.Facts] : Prop :=
  ∀ (m : (ℓ : Loc Cert.ResFwdRefIdeal.nD Cert.ResFwdRefIdeal.τ Cert.ResFwdRefIdeal.sig) → Buf (Elt Ideal) ℓ) (g : Dev Cert.ResFwdRefIdeal.nD → PrngReg), Pre_ResFwdRefIdeal m →
    θ_run (Cert.ResFwdRefIdeal.defs (F := Ideal)) (onTc (τ := Cert.ResFwdRefIdeal.τ) (Cert.ResFwdRefIdeal.main (F := Ideal))) ⟨m, fun _ => 0, g⟩ (fun r => (∀ c : Dev Cert.ResFwdRefIdeal.nD,
      r.2.mem ((c.tc : Thread Cert.ResFwdRefIdeal.nD Cert.ResFwdRefIdeal.τ).loc Cert.ResFwdRefIdeal.main_arg0) = m ((c.tc : Thread Cert.ResFwdRefIdeal.nD Cert.ResFwdRefIdeal.τ).loc Cert.ResFwdRefIdeal.main_arg0)
      ∧ r.2.mem ((c.tc : Thread Cert.ResFwdRefIdeal.nD Cert.ResFwdRefIdeal.τ).loc Cert.ResFwdRefIdeal.main_arg1) = m ((c.tc : Thread Cert.ResFwdRefIdeal.nD Cert.ResFwdRefIdeal.τ).loc Cert.ResFwdRefIdeal.main_arg1)
      ∧ r.2.mem ((c.tc : Thread Cert.ResFwdRefIdeal.nD Cert.ResFwdRefIdeal.τ).loc Cert.ResFwdRefIdeal.main_arg2) = m ((c.tc : Thread Cert.ResFwdRefIdeal.nD Cert.ResFwdRefIdeal.τ).loc Cert.ResFwdRefIdeal.main_arg2)
      ∧ r.2.mem ((c.tc : Thread Cert.ResFwdRefIdeal.nD Cert.ResFwdRefIdeal.τ).loc Cert.ResFwdRefIdeal.main_arg3) = m ((c.tc : Thread Cert.ResFwdRefIdeal.nD Cert.ResFwdRefIdeal.τ).loc Cert.ResFwdRefIdeal.main_arg3))
      ∧ r.2.sem = fun _ => 0)

def quiescent_GateFwd [hGateFwd : Cert.GateFwd.Facts] : Prop :=
  ∀ (m : (ℓ : Loc Cert.GateFwd.nD Cert.GateFwd.τ Cert.GateFwd.sig) → Buf (Elt Bits) ℓ) (g : Dev Cert.GateFwd.nD → PrngReg), Pre_GateFwd m →
    θ_run (Cert.GateFwd.defs (F := Bits)) (onTc (τ := Cert.GateFwd.τ) (Cert.GateFwd.main (F := Bits))) ⟨m, fun _ => 0, g⟩ (fun r => (∀ c : Dev Cert.GateFwd.nD,
      r.2.mem ((c.tc : Thread Cert.GateFwd.nD Cert.GateFwd.τ).loc Cert.GateFwd.main_arg0) = m ((c.tc : Thread Cert.GateFwd.nD Cert.GateFwd.τ).loc Cert.GateFwd.main_arg0)
      ∧ r.2.mem ((c.tc : Thread Cert.GateFwd.nD Cert.GateFwd.τ).loc Cert.GateFwd.main_arg1) = m ((c.tc : Thread Cert.GateFwd.nD Cert.GateFwd.τ).loc Cert.GateFwd.main_arg1)
      ∧ r.2.mem ((c.tc : Thread Cert.GateFwd.nD Cert.GateFwd.τ).loc Cert.GateFwd.main_arg2) = m ((c.tc : Thread Cert.GateFwd.nD Cert.GateFwd.τ).loc Cert.GateFwd.main_arg2)
      ∧ r.2.mem ((c.tc : Thread Cert.GateFwd.nD Cert.GateFwd.τ).loc Cert.GateFwd.main_arg3) = m ((c.tc : Thread Cert.GateFwd.nD Cert.GateFwd.τ).loc Cert.GateFwd.main_arg3)
      ∧ r.2.mem ((c.tc : Thread Cert.GateFwd.nD Cert.GateFwd.τ).loc Cert.GateFwd.main_arg4) = m ((c.tc : Thread Cert.GateFwd.nD Cert.GateFwd.τ).loc Cert.GateFwd.main_arg4))
      ∧ r.2.sem = fun _ => 0)

def quiescent_GateFwdIdeal [hGateFwdIdeal : Cert.GateFwdIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg), Pre_GateFwdIdeal m →
    θ_run (Cert.GateFwdIdeal.defs (F := Ideal)) (onTc (τ := Cert.GateFwdIdeal.τ) (Cert.GateFwdIdeal.main (F := Ideal))) ⟨m, fun _ => 0, g⟩ (fun r => (∀ c : Dev Cert.GateFwdIdeal.nD,
      r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
      ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
      ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2)
      ∧ r.2.mem ((c.tc : Thread Cert.GateFwdIdeal.nD Cert.GateFwdIdeal.τ).loc Cert.GateFwdIdeal.main_arg3) = m ((c.tc : Thread Cert.GateFwdIdeal.nD Cert.GateFwdIdeal.τ).loc Cert.GateFwdIdeal.main_arg3)
      ∧ r.2.mem ((c.tc : Thread Cert.GateFwdIdeal.nD Cert.GateFwdIdeal.τ).loc Cert.GateFwdIdeal.main_arg4) = m ((c.tc : Thread Cert.GateFwdIdeal.nD Cert.GateFwdIdeal.τ).loc Cert.GateFwdIdeal.main_arg4))
      ∧ r.2.sem = fun _ => 0)

def quiescent_GateFwdRefIdeal [hGateFwdRefIdeal : Cert.GateFwdRefIdeal.Facts] : Prop :=
  ∀ (m : (ℓ : Loc Cert.GateFwdRefIdeal.nD Cert.GateFwdRefIdeal.τ Cert.GateFwdRefIdeal.sig) → Buf (Elt Ideal) ℓ) (g : Dev Cert.GateFwdRefIdeal.nD → PrngReg), Pre_GateFwdRefIdeal m →
    θ_run (Cert.GateFwdRefIdeal.defs (F := Ideal)) (onTc (τ := Cert.GateFwdRefIdeal.τ) (Cert.GateFwdRefIdeal.main (F := Ideal))) ⟨m, fun _ => 0, g⟩ (fun r => (∀ c : Dev Cert.GateFwdRefIdeal.nD,
      r.2.mem ((c.tc : Thread Cert.GateFwdRefIdeal.nD Cert.GateFwdRefIdeal.τ).loc Cert.GateFwdRefIdeal.main_arg0) = m ((c.tc : Thread Cert.GateFwdRefIdeal.nD Cert.GateFwdRefIdeal.τ).loc Cert.GateFwdRefIdeal.main_arg0)
      ∧ r.2.mem ((c.tc : Thread Cert.GateFwdRefIdeal.nD Cert.GateFwdRefIdeal.τ).loc Cert.GateFwdRefIdeal.main_arg1) = m ((c.tc : Thread Cert.GateFwdRefIdeal.nD Cert.GateFwdRefIdeal.τ).loc Cert.GateFwdRefIdeal.main_arg1)
      ∧ r.2.mem ((c.tc : Thread Cert.GateFwdRefIdeal.nD Cert.GateFwdRefIdeal.τ).loc Cert.GateFwdRefIdeal.main_arg2) = m ((c.tc : Thread Cert.GateFwdRefIdeal.nD Cert.GateFwdRefIdeal.τ).loc Cert.GateFwdRefIdeal.main_arg2)
      ∧ r.2.mem ((c.tc : Thread Cert.GateFwdRefIdeal.nD Cert.GateFwdRefIdeal.τ).loc Cert.GateFwdRefIdeal.main_arg3) = m ((c.tc : Thread Cert.GateFwdRefIdeal.nD Cert.GateFwdRefIdeal.τ).loc Cert.GateFwdRefIdeal.main_arg3)
      ∧ r.2.mem ((c.tc : Thread Cert.GateFwdRefIdeal.nD Cert.GateFwdRefIdeal.τ).loc Cert.GateFwdRefIdeal.main_arg4) = m ((c.tc : Thread Cert.GateFwdRefIdeal.nD Cert.GateFwdRefIdeal.τ).loc Cert.GateFwdRefIdeal.main_arg4))
      ∧ r.2.sem = fun _ => 0)

def quiescent_GateLast [hGateLast : Cert.GateLast.Facts] : Prop :=
  ∀ (m : (ℓ : Loc Cert.GateLast.nD Cert.GateLast.τ Cert.GateLast.sig) → Buf (Elt Bits) ℓ) (g : Dev Cert.GateLast.nD → PrngReg), Pre_GateLast m →
    θ_run (Cert.GateLast.defs (F := Bits)) (onTc (τ := Cert.GateLast.τ) (Cert.GateLast.main (F := Bits))) ⟨m, fun _ => 0, g⟩ (fun r => (∀ c : Dev Cert.GateLast.nD,
      r.2.mem ((c.tc : Thread Cert.GateLast.nD Cert.GateLast.τ).loc Cert.GateLast.main_arg0) = m ((c.tc : Thread Cert.GateLast.nD Cert.GateLast.τ).loc Cert.GateLast.main_arg0)
      ∧ r.2.mem ((c.tc : Thread Cert.GateLast.nD Cert.GateLast.τ).loc Cert.GateLast.main_arg1) = m ((c.tc : Thread Cert.GateLast.nD Cert.GateLast.τ).loc Cert.GateLast.main_arg1)
      ∧ r.2.mem ((c.tc : Thread Cert.GateLast.nD Cert.GateLast.τ).loc Cert.GateLast.main_arg2) = m ((c.tc : Thread Cert.GateLast.nD Cert.GateLast.τ).loc Cert.GateLast.main_arg2)
      ∧ r.2.mem ((c.tc : Thread Cert.GateLast.nD Cert.GateLast.τ).loc Cert.GateLast.main_arg3) = m ((c.tc : Thread Cert.GateLast.nD Cert.GateLast.τ).loc Cert.GateLast.main_arg3))
      ∧ r.2.sem = fun _ => 0)

def quiescent_GateLastIdeal [hGateLastIdeal : Cert.GateLastIdeal.Facts] : Prop :=
  ∀ (m : (ℓ : Loc Cert.GateLastIdeal.nD Cert.GateLastIdeal.τ Cert.GateLastIdeal.sig) → Buf (Elt Ideal) ℓ) (g : Dev Cert.GateLastIdeal.nD → PrngReg), Pre_GateLastIdeal m →
    θ_run (Cert.GateLastIdeal.defs (F := Ideal)) (onTc (τ := Cert.GateLastIdeal.τ) (Cert.GateLastIdeal.main (F := Ideal))) ⟨m, fun _ => 0, g⟩ (fun r => (∀ c : Dev Cert.GateLastIdeal.nD,
      r.2.mem ((c.tc : Thread Cert.GateLastIdeal.nD Cert.GateLastIdeal.τ).loc Cert.GateLastIdeal.main_arg0) = m ((c.tc : Thread Cert.GateLastIdeal.nD Cert.GateLastIdeal.τ).loc Cert.GateLastIdeal.main_arg0)
      ∧ r.2.mem ((c.tc : Thread Cert.GateLastIdeal.nD Cert.GateLastIdeal.τ).loc Cert.GateLastIdeal.main_arg1) = m ((c.tc : Thread Cert.GateLastIdeal.nD Cert.GateLastIdeal.τ).loc Cert.GateLastIdeal.main_arg1)
      ∧ r.2.mem ((c.tc : Thread Cert.GateLastIdeal.nD Cert.GateLastIdeal.τ).loc Cert.GateLastIdeal.main_arg2) = m ((c.tc : Thread Cert.GateLastIdeal.nD Cert.GateLastIdeal.τ).loc Cert.GateLastIdeal.main_arg2)
      ∧ r.2.mem ((c.tc : Thread Cert.GateLastIdeal.nD Cert.GateLastIdeal.τ).loc Cert.GateLastIdeal.main_arg3) = m ((c.tc : Thread Cert.GateLastIdeal.nD Cert.GateLastIdeal.τ).loc Cert.GateLastIdeal.main_arg3))
      ∧ r.2.sem = fun _ => 0)

def quiescent_GateLastRefIdeal [hGateLastRefIdeal : Cert.GateLastRefIdeal.Facts] : Prop :=
  ∀ (m : (ℓ : Loc Cert.GateLastRefIdeal.nD Cert.GateLastRefIdeal.τ Cert.GateLastRefIdeal.sig) → Buf (Elt Ideal) ℓ) (g : Dev Cert.GateLastRefIdeal.nD → PrngReg), Pre_GateLastRefIdeal m →
    θ_run (Cert.GateLastRefIdeal.defs (F := Ideal)) (onTc (τ := Cert.GateLastRefIdeal.τ) (Cert.GateLastRefIdeal.main (F := Ideal))) ⟨m, fun _ => 0, g⟩ (fun r => (∀ c : Dev Cert.GateLastRefIdeal.nD,
      r.2.mem ((c.tc : Thread Cert.GateLastRefIdeal.nD Cert.GateLastRefIdeal.τ).loc Cert.GateLastRefIdeal.main_arg0) = m ((c.tc : Thread Cert.GateLastRefIdeal.nD Cert.GateLastRefIdeal.τ).loc Cert.GateLastRefIdeal.main_arg0)
      ∧ r.2.mem ((c.tc : Thread Cert.GateLastRefIdeal.nD Cert.GateLastRefIdeal.τ).loc Cert.GateLastRefIdeal.main_arg1) = m ((c.tc : Thread Cert.GateLastRefIdeal.nD Cert.GateLastRefIdeal.τ).loc Cert.GateLastRefIdeal.main_arg1)
      ∧ r.2.mem ((c.tc : Thread Cert.GateLastRefIdeal.nD Cert.GateLastRefIdeal.τ).loc Cert.GateLastRefIdeal.main_arg2) = m ((c.tc : Thread Cert.GateLastRefIdeal.nD Cert.GateLastRefIdeal.τ).loc Cert.GateLastRefIdeal.main_arg2)
      ∧ r.2.mem ((c.tc : Thread Cert.GateLastRefIdeal.nD Cert.GateLastRefIdeal.τ).loc Cert.GateLastRefIdeal.main_arg3) = m ((c.tc : Thread Cert.GateLastRefIdeal.nD Cert.GateLastRefIdeal.τ).loc Cert.GateLastRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_Ffn_pre_ffn_finite [hFfn : Cert.Ffn.Facts] [hPre_ffn_finite : Cert.Pre_ffn_finite.Facts] : Prop :=
  ∀ (m : (ℓ : Loc Cert.Ffn.nD Cert.Ffn.τ Cert.Ffn.sig) → Buf (Elt Bits) ℓ) (g : Dev Cert.Ffn.nD → PrngReg), Pre_Ffn_ffn_finite m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_Sum [hSum : Cert.Sum.Facts] : Prop :=
  ∀ (m : (ℓ : Loc Cert.Sum.nD Cert.Sum.τ Cert.Sum.sig) → Buf (Elt Bits) ℓ) (g : Dev Cert.Sum.nD → PrngReg), Pre_Sum m →
    θ_run (Cert.Sum.defs (F := Bits)) (onTc (τ := Cert.Sum.τ) (Cert.Sum.main (F := Bits))) ⟨m, fun _ => 0, g⟩ (fun r => (∀ c : Dev Cert.Sum.nD,
      r.2.mem ((c.tc : Thread Cert.Sum.nD Cert.Sum.τ).loc Cert.Sum.main_arg0) = m ((c.tc : Thread Cert.Sum.nD Cert.Sum.τ).loc Cert.Sum.main_arg0))
      ∧ r.2.sem = fun _ => 0)

def quiescent_SumIdeal [hSumIdeal : Cert.SumIdeal.Facts] : Prop :=
  ∀ (m : (ℓ : Loc Cert.SumIdeal.nD Cert.SumIdeal.τ Cert.SumIdeal.sig) → Buf (Elt Ideal) ℓ) (g : Dev Cert.SumIdeal.nD → PrngReg), Pre_SumIdeal m →
    θ_run (Cert.SumIdeal.defs (F := Ideal)) (onTc (τ := Cert.SumIdeal.τ) (Cert.SumIdeal.main (F := Ideal))) ⟨m, fun _ => 0, g⟩ (fun r => (∀ c : Dev Cert.SumIdeal.nD,
      r.2.mem ((c.tc : Thread Cert.SumIdeal.nD Cert.SumIdeal.τ).loc Cert.SumIdeal.main_arg0) = m ((c.tc : Thread Cert.SumIdeal.nD Cert.SumIdeal.τ).loc Cert.SumIdeal.main_arg0))
      ∧ r.2.sem = fun _ => 0)

def quiescent_SumRefIdeal [hSumRefIdeal : Cert.SumRefIdeal.Facts] : Prop :=
  ∀ (m : (ℓ : Loc Cert.SumRefIdeal.nD Cert.SumRefIdeal.τ Cert.SumRefIdeal.sig) → Buf (Elt Ideal) ℓ) (g : Dev Cert.SumRefIdeal.nD → PrngReg), Pre_SumRefIdeal m →
    θ_run (Cert.SumRefIdeal.defs (F := Ideal)) (onTc (τ := Cert.SumRefIdeal.τ) (Cert.SumRefIdeal.main (F := Ideal))) ⟨m, fun _ => 0, g⟩ (fun r => (∀ c : Dev Cert.SumRefIdeal.nD,
      r.2.mem ((c.tc : Thread Cert.SumRefIdeal.nD Cert.SumRefIdeal.τ).loc Cert.SumRefIdeal.main_arg0) = m ((c.tc : Thread Cert.SumRefIdeal.nD Cert.SumRefIdeal.τ).loc Cert.SumRefIdeal.main_arg0))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_Mat [hMat : Cert.Mat.Facts] : Prop :=
  ∀ (m : (ℓ : Loc Cert.Mat.nD Cert.Mat.τ Cert.Mat.sig) → Buf (Elt Bits) ℓ) (g : Dev Cert.Mat.nD → PrngReg), Pre_Mat m →
    θ_run (Cert.Mat.defs (F := Bits)) (onTc (τ := Cert.Mat.τ) (Cert.Mat.main (F := Bits))) ⟨m, fun _ => 0, g⟩ (fun r => (∀ c : Dev Cert.Mat.nD,
      r.2.mem ((c.tc : Thread Cert.Mat.nD Cert.Mat.τ).loc Cert.Mat.main_arg0) = m ((c.tc : Thread Cert.Mat.nD Cert.Mat.τ).loc Cert.Mat.main_arg0)
      ∧ r.2.mem ((c.tc : Thread Cert.Mat.nD Cert.Mat.τ).loc Cert.Mat.main_arg1) = m ((c.tc : Thread Cert.Mat.nD Cert.Mat.τ).loc Cert.Mat.main_arg1))
      ∧ r.2.sem = fun _ => 0)

def quiescent_MatIdeal [hMatIdeal : Cert.MatIdeal.Facts] : Prop :=
  ∀ (m : (ℓ : Loc Cert.MatIdeal.nD Cert.MatIdeal.τ Cert.MatIdeal.sig) → Buf (Elt Ideal) ℓ) (g : Dev Cert.MatIdeal.nD → PrngReg), Pre_MatIdeal m →
    θ_run (Cert.MatIdeal.defs (F := Ideal)) (onTc (τ := Cert.MatIdeal.τ) (Cert.MatIdeal.main (F := Ideal))) ⟨m, fun _ => 0, g⟩ (fun r => (∀ c : Dev Cert.MatIdeal.nD,
      r.2.mem ((c.tc : Thread Cert.MatIdeal.nD Cert.MatIdeal.τ).loc Cert.MatIdeal.main_arg0) = m ((c.tc : Thread Cert.MatIdeal.nD Cert.MatIdeal.τ).loc Cert.MatIdeal.main_arg0)
      ∧ r.2.mem ((c.tc : Thread Cert.MatIdeal.nD Cert.MatIdeal.τ).loc Cert.MatIdeal.main_arg1) = m ((c.tc : Thread Cert.MatIdeal.nD Cert.MatIdeal.τ).loc Cert.MatIdeal.main_arg1))
      ∧ r.2.sem = fun _ => 0)

def quiescent_MatRefIdeal [hMatRefIdeal : Cert.MatRefIdeal.Facts] : Prop :=
  ∀ (m : (ℓ : Loc Cert.MatRefIdeal.nD Cert.MatRefIdeal.τ Cert.MatRefIdeal.sig) → Buf (Elt Ideal) ℓ) (g : Dev Cert.MatRefIdeal.nD → PrngReg), Pre_MatRefIdeal m →
    θ_run (Cert.MatRefIdeal.defs (F := Ideal)) (onTc (τ := Cert.MatRefIdeal.τ) (Cert.MatRefIdeal.main (F := Ideal))) ⟨m, fun _ => 0, g⟩ (fun r => (∀ c : Dev Cert.MatRefIdeal.nD,
      r.2.mem ((c.tc : Thread Cert.MatRefIdeal.nD Cert.MatRefIdeal.τ).loc Cert.MatRefIdeal.main_arg0) = m ((c.tc : Thread Cert.MatRefIdeal.nD Cert.MatRefIdeal.τ).loc Cert.MatRefIdeal.main_arg0)
      ∧ r.2.mem ((c.tc : Thread Cert.MatRefIdeal.nD Cert.MatRefIdeal.τ).loc Cert.MatRefIdeal.main_arg1) = m ((c.tc : Thread Cert.MatRefIdeal.nD Cert.MatRefIdeal.τ).loc Cert.MatRefIdeal.main_arg1))
      ∧ r.2.sem = fun _ => 0)

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)) →
    ∃ (v0 : (c : Dev Cert.PleIdeal.nD) → Buf (Elt Ideal) ((c.tc : Thread Cert.PleIdeal.nD Cert.PleIdeal.τ).loc Cert.PleIdeal.main_v0_0)) (v1 : (c : Dev Cert.PleIdeal.nD) → Buf (Elt Ideal) ((c.tc : Thread Cert.PleIdeal.nD Cert.PleIdeal.τ).loc Cert.PleIdeal.main_v0_1)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v0_0) = v0 c
          ∧ r.2.mem ((c.tc : Thread Cert.PleIdeal.nD Cert.PleIdeal.τ).loc Cert.PleIdeal.main_v0_1) = v1 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v14) = v0 c
          ∧ r.2.mem ((c.tc : Thread Cert.PleRefIdeal.nD Cert.PleRefIdeal.τ).loc Cert.PleRefIdeal.main_v15) = v1 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3))

def preserves_Loss_LossIdeal : Prop :=
  True

def algebraic_LossIdeal_LossRefIdeal_pre_loss_finite [hLossIdeal : Cert.LossIdeal.Facts] [hLossRefIdeal : Cert.LossRefIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_loss_finite m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v51) = v0 c
          ∧ r.2.mem ((c.tc : Thread Cert.LossRefIdeal.nD Cert.LossRefIdeal.τ).loc Cert.LossRefIdeal.main_v50) = v1 c
          ∧ r.2.mem ((c.tc : Thread Cert.LossRefIdeal.nD Cert.LossRefIdeal.τ).loc Cert.LossRefIdeal.main_v52) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_NormGate_NormGateIdeal : Prop :=
  True

def algebraic_NormGateIdeal_NormGateRefIdeal_pre_normgate_finite [hNormGateIdeal : Cert.NormGateIdeal.Facts] [hNormGateRefIdeal : Cert.NormGateRefIdeal.Facts] [hPre_normgate_finite : Cert.Pre_normgate_finite.Facts] : Prop :=
  ∀ (m : (ℓ : Loc Cert.NormGateIdeal.nD Cert.NormGateIdeal.τ Cert.NormGateIdeal.sig) → Buf (Elt Ideal) ℓ) (g : Dev Cert.NormGateIdeal.nD → PrngReg)
    (m' : (ℓ : Loc Cert.NormGateRefIdeal.nD Cert.NormGateRefIdeal.τ Cert.NormGateRefIdeal.sig) → Buf (Elt Ideal) ℓ) (g' : Dev Cert.NormGateRefIdeal.nD → PrngReg), Pre_NormGateIdeal_normgate_finite m →
    (∀ c : Dev Cert.NormGateIdeal.nD,
      m' ((c.tc : Thread Cert.NormGateRefIdeal.nD Cert.NormGateRefIdeal.τ).loc Cert.NormGateRefIdeal.main_arg0) = m ((c.tc : Thread Cert.NormGateIdeal.nD Cert.NormGateIdeal.τ).loc Cert.NormGateIdeal.main_arg0)
      ∧ m' ((c.tc : Thread Cert.NormGateRefIdeal.nD Cert.NormGateRefIdeal.τ).loc Cert.NormGateRefIdeal.main_arg1) = m ((c.tc : Thread Cert.NormGateIdeal.nD Cert.NormGateIdeal.τ).loc Cert.NormGateIdeal.main_arg1)
      ∧ m' ((c.tc : Thread Cert.NormGateRefIdeal.nD Cert.NormGateRefIdeal.τ).loc Cert.NormGateRefIdeal.main_arg2) = m ((c.tc : Thread Cert.NormGateIdeal.nD Cert.NormGateIdeal.τ).loc Cert.NormGateIdeal.main_arg2)
      ∧ m' ((c.tc : Thread Cert.NormGateRefIdeal.nD Cert.NormGateRefIdeal.τ).loc Cert.NormGateRefIdeal.main_arg3) = m ((c.tc : Thread Cert.NormGateIdeal.nD Cert.NormGateIdeal.τ).loc Cert.NormGateIdeal.main_arg3)
      ∧ m' ((c.tc : Thread Cert.NormGateRefIdeal.nD Cert.NormGateRefIdeal.τ).loc Cert.NormGateRefIdeal.main_arg4) = m ((c.tc : Thread Cert.NormGateIdeal.nD Cert.NormGateIdeal.τ).loc Cert.NormGateIdeal.main_arg4)) →
    ∃ (v0 : (c : Dev Cert.NormGateIdeal.nD) → Buf (Elt Ideal) ((c.tc : Thread Cert.NormGateIdeal.nD Cert.NormGateIdeal.τ).loc Cert.NormGateIdeal.main_v2_0)) (v1 : (c : Dev Cert.NormGateIdeal.nD) → Buf (Elt Ideal) ((c.tc : Thread Cert.NormGateIdeal.nD Cert.NormGateIdeal.τ).loc Cert.NormGateIdeal.main_v2_1)),
      θ_run (Cert.NormGateIdeal.defs (F := Ideal)) (onTc (τ := Cert.NormGateIdeal.τ) (Cert.NormGateIdeal.main (F := Ideal))) ⟨m, fun _ => 0, g⟩ (fun r => ∀ c : Dev Cert.NormGateIdeal.nD,
          r.2.mem ((c.tc : Thread Cert.NormGateIdeal.nD Cert.NormGateIdeal.τ).loc Cert.NormGateIdeal.main_v2_0) = v0 c
          ∧ r.2.mem ((c.tc : Thread Cert.NormGateIdeal.nD Cert.NormGateIdeal.τ).loc Cert.NormGateIdeal.main_v2_1) = v1 c
          ∧ r.2.mem ((c.tc : Thread Cert.NormGateIdeal.nD Cert.NormGateIdeal.τ).loc Cert.NormGateIdeal.main_arg0) = m ((c.tc : Thread Cert.NormGateIdeal.nD Cert.NormGateIdeal.τ).loc Cert.NormGateIdeal.main_arg0)
          ∧ r.2.mem ((c.tc : Thread Cert.NormGateIdeal.nD Cert.NormGateIdeal.τ).loc Cert.NormGateIdeal.main_arg1) = m ((c.tc : Thread Cert.NormGateIdeal.nD Cert.NormGateIdeal.τ).loc Cert.NormGateIdeal.main_arg1)
          ∧ r.2.mem ((c.tc : Thread Cert.NormGateIdeal.nD Cert.NormGateIdeal.τ).loc Cert.NormGateIdeal.main_arg2) = m ((c.tc : Thread Cert.NormGateIdeal.nD Cert.NormGateIdeal.τ).loc Cert.NormGateIdeal.main_arg2)
          ∧ r.2.mem ((c.tc : Thread Cert.NormGateIdeal.nD Cert.NormGateIdeal.τ).loc Cert.NormGateIdeal.main_arg3) = m ((c.tc : Thread Cert.NormGateIdeal.nD Cert.NormGateIdeal.τ).loc Cert.NormGateIdeal.main_arg3)
          ∧ r.2.mem ((c.tc : Thread Cert.NormGateIdeal.nD Cert.NormGateIdeal.τ).loc Cert.NormGateIdeal.main_arg4) = m ((c.tc : Thread Cert.NormGateIdeal.nD Cert.NormGateIdeal.τ).loc Cert.NormGateIdeal.main_arg4))
      ∧ θ_run (Cert.NormGateRefIdeal.defs (F := Ideal)) (onTc (τ := Cert.NormGateRefIdeal.τ) (Cert.NormGateRefIdeal.main (F := Ideal))) ⟨m', fun _ => 0, g'⟩ (fun r => ∀ c : Dev Cert.NormGateRefIdeal.nD,
          r.2.mem ((c.tc : Thread Cert.NormGateRefIdeal.nD Cert.NormGateRefIdeal.τ).loc Cert.NormGateRefIdeal.main_v39) = v0 c
          ∧ r.2.mem ((c.tc : Thread Cert.NormGateRefIdeal.nD Cert.NormGateRefIdeal.τ).loc Cert.NormGateRefIdeal.main_v40) = v1 c
          ∧ r.2.mem ((c.tc : Thread Cert.NormGateRefIdeal.nD Cert.NormGateRefIdeal.τ).loc Cert.NormGateRefIdeal.main_arg0) = m' ((c.tc : Thread Cert.NormGateRefIdeal.nD Cert.NormGateRefIdeal.τ).loc Cert.NormGateRefIdeal.main_arg0)
          ∧ r.2.mem ((c.tc : Thread Cert.NormGateRefIdeal.nD Cert.NormGateRefIdeal.τ).loc Cert.NormGateRefIdeal.main_arg1) = m' ((c.tc : Thread Cert.NormGateRefIdeal.nD Cert.NormGateRefIdeal.τ).loc Cert.NormGateRefIdeal.main_arg1)
          ∧ r.2.mem ((c.tc : Thread Cert.NormGateRefIdeal.nD Cert.NormGateRefIdeal.τ).loc Cert.NormGateRefIdeal.main_arg2) = m' ((c.tc : Thread Cert.NormGateRefIdeal.nD Cert.NormGateRefIdeal.τ).loc Cert.NormGateRefIdeal.main_arg2)
          ∧ r.2.mem ((c.tc : Thread Cert.NormGateRefIdeal.nD Cert.NormGateRefIdeal.τ).loc Cert.NormGateRefIdeal.main_arg3) = m' ((c.tc : Thread Cert.NormGateRefIdeal.nD Cert.NormGateRefIdeal.τ).loc Cert.NormGateRefIdeal.main_arg3)
          ∧ r.2.mem ((c.tc : Thread Cert.NormGateRefIdeal.nD Cert.NormGateRefIdeal.τ).loc Cert.NormGateRefIdeal.main_arg4) = m' ((c.tc : Thread Cert.NormGateRefIdeal.nD Cert.NormGateRefIdeal.τ).loc Cert.NormGateRefIdeal.main_arg4))

def preserves_NormQkv_NormQkvIdeal : Prop :=
  True

def algebraic_NormQkvIdeal_NormQkvRefIdeal_pre_normqkv_finite [hNormQkvIdeal : Cert.NormQkvIdeal.Facts] [hNormQkvRefIdeal : Cert.NormQkvRefIdeal.Facts] [hPre_normqkv_finite : Cert.Pre_normqkv_finite.Facts] : Prop :=
  ∀ (m : (ℓ : Loc Cert.NormQkvIdeal.nD Cert.NormQkvIdeal.τ Cert.NormQkvIdeal.sig) → Buf (Elt Ideal) ℓ) (g : Dev Cert.NormQkvIdeal.nD → PrngReg)
    (m' : (ℓ : Loc Cert.NormQkvRefIdeal.nD Cert.NormQkvRefIdeal.τ Cert.NormQkvRefIdeal.sig) → Buf (Elt Ideal) ℓ) (g' : Dev Cert.NormQkvRefIdeal.nD → PrngReg), Pre_NormQkvIdeal_normqkv_finite m →
    (∀ c : Dev Cert.NormQkvIdeal.nD,
      m' ((c.tc : Thread Cert.NormQkvRefIdeal.nD Cert.NormQkvRefIdeal.τ).loc Cert.NormQkvRefIdeal.main_arg0) = m ((c.tc : Thread Cert.NormQkvIdeal.nD Cert.NormQkvIdeal.τ).loc Cert.NormQkvIdeal.main_arg0)
      ∧ m' ((c.tc : Thread Cert.NormQkvRefIdeal.nD Cert.NormQkvRefIdeal.τ).loc Cert.NormQkvRefIdeal.main_arg1) = m ((c.tc : Thread Cert.NormQkvIdeal.nD Cert.NormQkvIdeal.τ).loc Cert.NormQkvIdeal.main_arg1)
      ∧ m' ((c.tc : Thread Cert.NormQkvRefIdeal.nD Cert.NormQkvRefIdeal.τ).loc Cert.NormQkvRefIdeal.main_arg2) = m ((c.tc : Thread Cert.NormQkvIdeal.nD Cert.NormQkvIdeal.τ).loc Cert.NormQkvIdeal.main_arg2)
      ∧ m' ((c.tc : Thread Cert.NormQkvRefIdeal.nD Cert.NormQkvRefIdeal.τ).loc Cert.NormQkvRefIdeal.main_arg3) = m ((c.tc : Thread Cert.NormQkvIdeal.nD Cert.NormQkvIdeal.τ).loc Cert.NormQkvIdeal.main_arg3)
      ∧ m' ((c.tc : Thread Cert.NormQkvRefIdeal.nD Cert.NormQkvRefIdeal.τ).loc Cert.NormQkvRefIdeal.main_arg4) = m ((c.tc : Thread Cert.NormQkvIdeal.nD Cert.NormQkvIdeal.τ).loc Cert.NormQkvIdeal.main_arg4)) →
    ∃ (v0 : (c : Dev Cert.NormQkvIdeal.nD) → Buf (Elt Ideal) ((c.tc : Thread Cert.NormQkvIdeal.nD Cert.NormQkvIdeal.τ).loc Cert.NormQkvIdeal.main_v3_0)) (v1 : (c : Dev Cert.NormQkvIdeal.nD) → Buf (Elt Ideal) ((c.tc : Thread Cert.NormQkvIdeal.nD Cert.NormQkvIdeal.τ).loc Cert.NormQkvIdeal.main_v3_1)),
      θ_run (Cert.NormQkvIdeal.defs (F := Ideal)) (onTc (τ := Cert.NormQkvIdeal.τ) (Cert.NormQkvIdeal.main (F := Ideal))) ⟨m, fun _ => 0, g⟩ (fun r => ∀ c : Dev Cert.NormQkvIdeal.nD,
          r.2.mem ((c.tc : Thread Cert.NormQkvIdeal.nD Cert.NormQkvIdeal.τ).loc Cert.NormQkvIdeal.main_v3_0) = v0 c
          ∧ r.2.mem ((c.tc : Thread Cert.NormQkvIdeal.nD Cert.NormQkvIdeal.τ).loc Cert.NormQkvIdeal.main_v3_1) = v1 c
          ∧ r.2.mem ((c.tc : Thread Cert.NormQkvIdeal.nD Cert.NormQkvIdeal.τ).loc Cert.NormQkvIdeal.main_arg0) = m ((c.tc : Thread Cert.NormQkvIdeal.nD Cert.NormQkvIdeal.τ).loc Cert.NormQkvIdeal.main_arg0)
          ∧ r.2.mem ((c.tc : Thread Cert.NormQkvIdeal.nD Cert.NormQkvIdeal.τ).loc Cert.NormQkvIdeal.main_arg1) = m ((c.tc : Thread Cert.NormQkvIdeal.nD Cert.NormQkvIdeal.τ).loc Cert.NormQkvIdeal.main_arg1)
          ∧ r.2.mem ((c.tc : Thread Cert.NormQkvIdeal.nD Cert.NormQkvIdeal.τ).loc Cert.NormQkvIdeal.main_arg2) = m ((c.tc : Thread Cert.NormQkvIdeal.nD Cert.NormQkvIdeal.τ).loc Cert.NormQkvIdeal.main_arg2)
          ∧ r.2.mem ((c.tc : Thread Cert.NormQkvIdeal.nD Cert.NormQkvIdeal.τ).loc Cert.NormQkvIdeal.main_arg3) = m ((c.tc : Thread Cert.NormQkvIdeal.nD Cert.NormQkvIdeal.τ).loc Cert.NormQkvIdeal.main_arg3)
          ∧ r.2.mem ((c.tc : Thread Cert.NormQkvIdeal.nD Cert.NormQkvIdeal.τ).loc Cert.NormQkvIdeal.main_arg4) = m ((c.tc : Thread Cert.NormQkvIdeal.nD Cert.NormQkvIdeal.τ).loc Cert.NormQkvIdeal.main_arg4))
      ∧ θ_run (Cert.NormQkvRefIdeal.defs (F := Ideal)) (onTc (τ := Cert.NormQkvRefIdeal.τ) (Cert.NormQkvRefIdeal.main (F := Ideal))) ⟨m', fun _ => 0, g'⟩ (fun r => ∀ c : Dev Cert.NormQkvRefIdeal.nD,
          r.2.mem ((c.tc : Thread Cert.NormQkvRefIdeal.nD Cert.NormQkvRefIdeal.τ).loc Cert.NormQkvRefIdeal.main_v39) = v0 c
          ∧ r.2.mem ((c.tc : Thread Cert.NormQkvRefIdeal.nD Cert.NormQkvRefIdeal.τ).loc Cert.NormQkvRefIdeal.main_v40) = v1 c
          ∧ r.2.mem ((c.tc : Thread Cert.NormQkvRefIdeal.nD Cert.NormQkvRefIdeal.τ).loc Cert.NormQkvRefIdeal.main_arg0) = m' ((c.tc : Thread Cert.NormQkvRefIdeal.nD Cert.NormQkvRefIdeal.τ).loc Cert.NormQkvRefIdeal.main_arg0)
          ∧ r.2.mem ((c.tc : Thread Cert.NormQkvRefIdeal.nD Cert.NormQkvRefIdeal.τ).loc Cert.NormQkvRefIdeal.main_arg1) = m' ((c.tc : Thread Cert.NormQkvRefIdeal.nD Cert.NormQkvRefIdeal.τ).loc Cert.NormQkvRefIdeal.main_arg1)
          ∧ r.2.mem ((c.tc : Thread Cert.NormQkvRefIdeal.nD Cert.NormQkvRefIdeal.τ).loc Cert.NormQkvRefIdeal.main_arg2) = m' ((c.tc : Thread Cert.NormQkvRefIdeal.nD Cert.NormQkvRefIdeal.τ).loc Cert.NormQkvRefIdeal.main_arg2)
          ∧ r.2.mem ((c.tc : Thread Cert.NormQkvRefIdeal.nD Cert.NormQkvRefIdeal.τ).loc Cert.NormQkvRefIdeal.main_arg3) = m' ((c.tc : Thread Cert.NormQkvRefIdeal.nD Cert.NormQkvRefIdeal.τ).loc Cert.NormQkvRefIdeal.main_arg3)
          ∧ r.2.mem ((c.tc : Thread Cert.NormQkvRefIdeal.nD Cert.NormQkvRefIdeal.τ).loc Cert.NormQkvRefIdeal.main_arg4) = m' ((c.tc : Thread Cert.NormQkvRefIdeal.nD Cert.NormQkvRefIdeal.τ).loc Cert.NormQkvRefIdeal.main_arg4))

def preserves_NormProj_NormProjIdeal : Prop :=
  True

def algebraic_NormProjIdeal_NormProjRefIdeal_pre_normproj_finite [hNormProjIdeal : Cert.NormProjIdeal.Facts] [hNormProjRefIdeal : Cert.NormProjRefIdeal.Facts] [hPre_normproj_finite : Cert.Pre_normproj_finite.Facts] : Prop :=
  ∀ (m : (ℓ : Loc Cert.NormProjIdeal.nD Cert.NormProjIdeal.τ Cert.NormProjIdeal.sig) → Buf (Elt Ideal) ℓ) (g : Dev Cert.NormProjIdeal.nD → PrngReg)
    (m' : (ℓ : Loc Cert.NormProjRefIdeal.nD Cert.NormProjRefIdeal.τ Cert.NormProjRefIdeal.sig) → Buf (Elt Ideal) ℓ) (g' : Dev Cert.NormProjRefIdeal.nD → PrngReg), Pre_NormProjIdeal_normproj_finite m →
    (∀ c : Dev Cert.NormProjIdeal.nD,
      m' ((c.tc : Thread Cert.NormProjRefIdeal.nD Cert.NormProjRefIdeal.τ).loc Cert.NormProjRefIdeal.main_arg0) = m ((c.tc : Thread Cert.NormProjIdeal.nD Cert.NormProjIdeal.τ).loc Cert.NormProjIdeal.main_arg0)
      ∧ m' ((c.tc : Thread Cert.NormProjRefIdeal.nD Cert.NormProjRefIdeal.τ).loc Cert.NormProjRefIdeal.main_arg1) = m ((c.tc : Thread Cert.NormProjIdeal.nD Cert.NormProjIdeal.τ).loc Cert.NormProjIdeal.main_arg1)
      ∧ m' ((c.tc : Thread Cert.NormProjRefIdeal.nD Cert.NormProjRefIdeal.τ).loc Cert.NormProjRefIdeal.main_arg2) = m ((c.tc : Thread Cert.NormProjIdeal.nD Cert.NormProjIdeal.τ).loc Cert.NormProjIdeal.main_arg2)
      ∧ m' ((c.tc : Thread Cert.NormProjRefIdeal.nD Cert.NormProjRefIdeal.τ).loc Cert.NormProjRefIdeal.main_arg3) = m ((c.tc : Thread Cert.NormProjIdeal.nD Cert.NormProjIdeal.τ).loc Cert.NormProjIdeal.main_arg3)
      ∧ m' ((c.tc : Thread Cert.NormProjRefIdeal.nD Cert.NormProjRefIdeal.τ).loc Cert.NormProjRefIdeal.main_arg4) = m ((c.tc : Thread Cert.NormProjIdeal.nD Cert.NormProjIdeal.τ).loc Cert.NormProjIdeal.main_arg4)) →
    ∃ (v0 : (c : Dev Cert.NormProjIdeal.nD) → Buf (Elt Ideal) ((c.tc : Thread Cert.NormProjIdeal.nD Cert.NormProjIdeal.τ).loc Cert.NormProjIdeal.main_v4_0)) (v1 : (c : Dev Cert.NormProjIdeal.nD) → Buf (Elt Ideal) ((c.tc : Thread Cert.NormProjIdeal.nD Cert.NormProjIdeal.τ).loc Cert.NormProjIdeal.main_v4_1)),
      θ_run (Cert.NormProjIdeal.defs (F := Ideal)) (onTc (τ := Cert.NormProjIdeal.τ) (Cert.NormProjIdeal.main (F := Ideal))) ⟨m, fun _ => 0, g⟩ (fun r => ∀ c : Dev Cert.NormProjIdeal.nD,
          r.2.mem ((c.tc : Thread Cert.NormProjIdeal.nD Cert.NormProjIdeal.τ).loc Cert.NormProjIdeal.main_v4_0) = v0 c
          ∧ r.2.mem ((c.tc : Thread Cert.NormProjIdeal.nD Cert.NormProjIdeal.τ).loc Cert.NormProjIdeal.main_v4_1) = v1 c
          ∧ r.2.mem ((c.tc : Thread Cert.NormProjIdeal.nD Cert.NormProjIdeal.τ).loc Cert.NormProjIdeal.main_arg0) = m ((c.tc : Thread Cert.NormProjIdeal.nD Cert.NormProjIdeal.τ).loc Cert.NormProjIdeal.main_arg0)
          ∧ r.2.mem ((c.tc : Thread Cert.NormProjIdeal.nD Cert.NormProjIdeal.τ).loc Cert.NormProjIdeal.main_arg1) = m ((c.tc : Thread Cert.NormProjIdeal.nD Cert.NormProjIdeal.τ).loc Cert.NormProjIdeal.main_arg1)
          ∧ r.2.mem ((c.tc : Thread Cert.NormProjIdeal.nD Cert.NormProjIdeal.τ).loc Cert.NormProjIdeal.main_arg2) = m ((c.tc : Thread Cert.NormProjIdeal.nD Cert.NormProjIdeal.τ).loc Cert.NormProjIdeal.main_arg2)
          ∧ r.2.mem ((c.tc : Thread Cert.NormProjIdeal.nD Cert.NormProjIdeal.τ).loc Cert.NormProjIdeal.main_arg3) = m ((c.tc : Thread Cert.NormProjIdeal.nD Cert.NormProjIdeal.τ).loc Cert.NormProjIdeal.main_arg3)
          ∧ r.2.mem ((c.tc : Thread Cert.NormProjIdeal.nD Cert.NormProjIdeal.τ).loc Cert.NormProjIdeal.main_arg4) = m ((c.tc : Thread Cert.NormProjIdeal.nD Cert.NormProjIdeal.τ).loc Cert.NormProjIdeal.main_arg4))
      ∧ θ_run (Cert.NormProjRefIdeal.defs (F := Ideal)) (onTc (τ := Cert.NormProjRefIdeal.τ) (Cert.NormProjRefIdeal.main (F := Ideal))) ⟨m', fun _ => 0, g'⟩ (fun r => ∀ c : Dev Cert.NormProjRefIdeal.nD,
          r.2.mem ((c.tc : Thread Cert.NormProjRefIdeal.nD Cert.NormProjRefIdeal.τ).loc Cert.NormProjRefIdeal.main_v44) = v0 c
          ∧ r.2.mem ((c.tc : Thread Cert.NormProjRefIdeal.nD Cert.NormProjRefIdeal.τ).loc Cert.NormProjRefIdeal.main_v45) = v1 c
          ∧ r.2.mem ((c.tc : Thread Cert.NormProjRefIdeal.nD Cert.NormProjRefIdeal.τ).loc Cert.NormProjRefIdeal.main_arg0) = m' ((c.tc : Thread Cert.NormProjRefIdeal.nD Cert.NormProjRefIdeal.τ).loc Cert.NormProjRefIdeal.main_arg0)
          ∧ r.2.mem ((c.tc : Thread Cert.NormProjRefIdeal.nD Cert.NormProjRefIdeal.τ).loc Cert.NormProjRefIdeal.main_arg1) = m' ((c.tc : Thread Cert.NormProjRefIdeal.nD Cert.NormProjRefIdeal.τ).loc Cert.NormProjRefIdeal.main_arg1)
          ∧ r.2.mem ((c.tc : Thread Cert.NormProjRefIdeal.nD Cert.NormProjRefIdeal.τ).loc Cert.NormProjRefIdeal.main_arg2) = m' ((c.tc : Thread Cert.NormProjRefIdeal.nD Cert.NormProjRefIdeal.τ).loc Cert.NormProjRefIdeal.main_arg2)
          ∧ r.2.mem ((c.tc : Thread Cert.NormProjRefIdeal.nD Cert.NormProjRefIdeal.τ).loc Cert.NormProjRefIdeal.main_arg3) = m' ((c.tc : Thread Cert.NormProjRefIdeal.nD Cert.NormProjRefIdeal.τ).loc Cert.NormProjRefIdeal.main_arg3)
          ∧ r.2.mem ((c.tc : Thread Cert.NormProjRefIdeal.nD Cert.NormProjRefIdeal.τ).loc Cert.NormProjRefIdeal.main_arg4) = m' ((c.tc : Thread Cert.NormProjRefIdeal.nD Cert.NormProjRefIdeal.τ).loc Cert.NormProjRefIdeal.main_arg4))

def preserves_NormUp_NormUpIdeal : Prop :=
  True

def algebraic_NormUpIdeal_NormUpRefIdeal_pre_normup_finite [hNormUpIdeal : Cert.NormUpIdeal.Facts] [hNormUpRefIdeal : Cert.NormUpRefIdeal.Facts] [hPre_normup_finite : Cert.Pre_normup_finite.Facts] : Prop :=
  ∀ (m : (ℓ : Loc Cert.NormUpIdeal.nD Cert.NormUpIdeal.τ Cert.NormUpIdeal.sig) → Buf (Elt Ideal) ℓ) (g : Dev Cert.NormUpIdeal.nD → PrngReg)
    (m' : (ℓ : Loc Cert.NormUpRefIdeal.nD Cert.NormUpRefIdeal.τ Cert.NormUpRefIdeal.sig) → Buf (Elt Ideal) ℓ) (g' : Dev Cert.NormUpRefIdeal.nD → PrngReg), Pre_NormUpIdeal_normup_finite m →
    (∀ c : Dev Cert.NormUpIdeal.nD,
      m' ((c.tc : Thread Cert.NormUpRefIdeal.nD Cert.NormUpRefIdeal.τ).loc Cert.NormUpRefIdeal.main_arg0) = m ((c.tc : Thread Cert.NormUpIdeal.nD Cert.NormUpIdeal.τ).loc Cert.NormUpIdeal.main_arg0)
      ∧ m' ((c.tc : Thread Cert.NormUpRefIdeal.nD Cert.NormUpRefIdeal.τ).loc Cert.NormUpRefIdeal.main_arg1) = m ((c.tc : Thread Cert.NormUpIdeal.nD Cert.NormUpIdeal.τ).loc Cert.NormUpIdeal.main_arg1)
      ∧ m' ((c.tc : Thread Cert.NormUpRefIdeal.nD Cert.NormUpRefIdeal.τ).loc Cert.NormUpRefIdeal.main_arg2) = m ((c.tc : Thread Cert.NormUpIdeal.nD Cert.NormUpIdeal.τ).loc Cert.NormUpIdeal.main_arg2)
      ∧ m' ((c.tc : Thread Cert.NormUpRefIdeal.nD Cert.NormUpRefIdeal.τ).loc Cert.NormUpRefIdeal.main_arg3) = m ((c.tc : Thread Cert.NormUpIdeal.nD Cert.NormUpIdeal.τ).loc Cert.NormUpIdeal.main_arg3)
      ∧ m' ((c.tc : Thread Cert.NormUpRefIdeal.nD Cert.NormUpRefIdeal.τ).loc Cert.NormUpRefIdeal.main_arg4) = m ((c.tc : Thread Cert.NormUpIdeal.nD Cert.NormUpIdeal.τ).loc Cert.NormUpIdeal.main_arg4)) →
    ∃ (v0 : (c : Dev Cert.NormUpIdeal.nD) → Buf (Elt Ideal) ((c.tc : Thread Cert.NormUpIdeal.nD Cert.NormUpIdeal.τ).loc Cert.NormUpIdeal.main_v4_0)) (v1 : (c : Dev Cert.NormUpIdeal.nD) → Buf (Elt Ideal) ((c.tc : Thread Cert.NormUpIdeal.nD Cert.NormUpIdeal.τ).loc Cert.NormUpIdeal.main_v4_1)),
      θ_run (Cert.NormUpIdeal.defs (F := Ideal)) (onTc (τ := Cert.NormUpIdeal.τ) (Cert.NormUpIdeal.main (F := Ideal))) ⟨m, fun _ => 0, g⟩ (fun r => ∀ c : Dev Cert.NormUpIdeal.nD,
          r.2.mem ((c.tc : Thread Cert.NormUpIdeal.nD Cert.NormUpIdeal.τ).loc Cert.NormUpIdeal.main_v4_0) = v0 c
          ∧ r.2.mem ((c.tc : Thread Cert.NormUpIdeal.nD Cert.NormUpIdeal.τ).loc Cert.NormUpIdeal.main_v4_1) = v1 c
          ∧ r.2.mem ((c.tc : Thread Cert.NormUpIdeal.nD Cert.NormUpIdeal.τ).loc Cert.NormUpIdeal.main_arg0) = m ((c.tc : Thread Cert.NormUpIdeal.nD Cert.NormUpIdeal.τ).loc Cert.NormUpIdeal.main_arg0)
          ∧ r.2.mem ((c.tc : Thread Cert.NormUpIdeal.nD Cert.NormUpIdeal.τ).loc Cert.NormUpIdeal.main_arg1) = m ((c.tc : Thread Cert.NormUpIdeal.nD Cert.NormUpIdeal.τ).loc Cert.NormUpIdeal.main_arg1)
          ∧ r.2.mem ((c.tc : Thread Cert.NormUpIdeal.nD Cert.NormUpIdeal.τ).loc Cert.NormUpIdeal.main_arg2) = m ((c.tc : Thread Cert.NormUpIdeal.nD Cert.NormUpIdeal.τ).loc Cert.NormUpIdeal.main_arg2)
          ∧ r.2.mem ((c.tc : Thread Cert.NormUpIdeal.nD Cert.NormUpIdeal.τ).loc Cert.NormUpIdeal.main_arg3) = m ((c.tc : Thread Cert.NormUpIdeal.nD Cert.NormUpIdeal.τ).loc Cert.NormUpIdeal.main_arg3)
          ∧ r.2.mem ((c.tc : Thread Cert.NormUpIdeal.nD Cert.NormUpIdeal.τ).loc Cert.NormUpIdeal.main_arg4) = m ((c.tc : Thread Cert.NormUpIdeal.nD Cert.NormUpIdeal.τ).loc Cert.NormUpIdeal.main_arg4))
      ∧ θ_run (Cert.NormUpRefIdeal.defs (F := Ideal)) (onTc (τ := Cert.NormUpRefIdeal.τ) (Cert.NormUpRefIdeal.main (F := Ideal))) ⟨m', fun _ => 0, g'⟩ (fun r => ∀ c : Dev Cert.NormUpRefIdeal.nD,
          r.2.mem ((c.tc : Thread Cert.NormUpRefIdeal.nD Cert.NormUpRefIdeal.τ).loc Cert.NormUpRefIdeal.main_v43) = v0 c
          ∧ r.2.mem ((c.tc : Thread Cert.NormUpRefIdeal.nD Cert.NormUpRefIdeal.τ).loc Cert.NormUpRefIdeal.main_v44) = v1 c
          ∧ r.2.mem ((c.tc : Thread Cert.NormUpRefIdeal.nD Cert.NormUpRefIdeal.τ).loc Cert.NormUpRefIdeal.main_arg0) = m' ((c.tc : Thread Cert.NormUpRefIdeal.nD Cert.NormUpRefIdeal.τ).loc Cert.NormUpRefIdeal.main_arg0)
          ∧ r.2.mem ((c.tc : Thread Cert.NormUpRefIdeal.nD Cert.NormUpRefIdeal.τ).loc Cert.NormUpRefIdeal.main_arg1) = m' ((c.tc : Thread Cert.NormUpRefIdeal.nD Cert.NormUpRefIdeal.τ).loc Cert.NormUpRefIdeal.main_arg1)
          ∧ r.2.mem ((c.tc : Thread Cert.NormUpRefIdeal.nD Cert.NormUpRefIdeal.τ).loc Cert.NormUpRefIdeal.main_arg2) = m' ((c.tc : Thread Cert.NormUpRefIdeal.nD Cert.NormUpRefIdeal.τ).loc Cert.NormUpRefIdeal.main_arg2)
          ∧ r.2.mem ((c.tc : Thread Cert.NormUpRefIdeal.nD Cert.NormUpRefIdeal.τ).loc Cert.NormUpRefIdeal.main_arg3) = m' ((c.tc : Thread Cert.NormUpRefIdeal.nD Cert.NormUpRefIdeal.τ).loc Cert.NormUpRefIdeal.main_arg3)
          ∧ r.2.mem ((c.tc : Thread Cert.NormUpRefIdeal.nD Cert.NormUpRefIdeal.τ).loc Cert.NormUpRefIdeal.main_arg4) = m' ((c.tc : Thread Cert.NormUpRefIdeal.nD Cert.NormUpRefIdeal.τ).loc Cert.NormUpRefIdeal.main_arg4))

def preserves_Swa_SwaIdeal : Prop :=
  IdealRules.named_const.Statement Cert.SwaIdeal.κ "slope1" .f32 0x3F3504F3#32 (((Real.sqrt 2)⁻¹ : ℝ) : EReal)
  ∧ IdealRules.named_const.Statement Cert.SwaIdeal.κ "slope3" .f32 0x3EB504F3#32 (((Real.sqrt 8)⁻¹ : ℝ) : EReal)
  ∧ IdealRules.named_const.Statement Cert.SwaIdeal.κ "slope5" .f32 0x3E3504F3#32 (((Real.sqrt 32)⁻¹ : ℝ) : EReal)
  ∧ IdealRules.named_const.Statement Cert.SwaIdeal.κ "slope7" .f32 0x3DB504F3#32 (((Real.sqrt 128)⁻¹ : ℝ) : EReal)
  ∧ IdealRules.named_const.Statement Cert.SwaIdeal.κ "slope9" .f32 0x3D3504F3#32 (((Real.sqrt 512)⁻¹ : ℝ) : EReal)
  ∧ IdealRules.named_const.Statement Cert.SwaIdeal.κ "slope11" .f32 0x3CB504F3#32 (((Real.sqrt 2048)⁻¹ : ℝ) : EReal)
  ∧ IdealRules.named_const.Statement Cert.SwaIdeal.κ "slope13" .f32 0x3C3504F3#32 (((Real.sqrt 8192)⁻¹ : ℝ) : EReal)
  ∧ IdealRules.named_const.Statement Cert.SwaIdeal.κ "slope15" .f32 0x3BB504F3#32 (((Real.sqrt 32768)⁻¹ : ℝ) : EReal)
  ∧ IdealRules.named_const.Statement Cert.SwaIdeal.κ "mask" .f32 0xF149F2CA#32 ⊥

def algebraic_SwaIdeal_SwaRefIdeal_pre_swa_finite [hSwaIdeal : Cert.SwaIdeal.Facts] [hSwaRefIdeal : Cert.SwaRefIdeal.Facts] [hPre_swa_finite : Cert.Pre_swa_finite.Facts] : Prop :=
  ∀ (m : (ℓ : Loc Cert.SwaIdeal.nD Cert.SwaIdeal.τ Cert.SwaIdeal.sig) → Buf (Elt Ideal) ℓ) (g : Dev Cert.SwaIdeal.nD → PrngReg)
    (m' : (ℓ : Loc Cert.SwaRefIdeal.nD Cert.SwaRefIdeal.τ Cert.SwaRefIdeal.sig) → Buf (Elt Ideal) ℓ) (g' : Dev Cert.SwaRefIdeal.nD → PrngReg), Pre_SwaIdeal_swa_finite m →
    (∀ c : Dev Cert.SwaIdeal.nD,
      m' ((c.tc : Thread Cert.SwaRefIdeal.nD Cert.SwaRefIdeal.τ).loc Cert.SwaRefIdeal.main_arg0) = m ((c.tc : Thread Cert.SwaIdeal.nD Cert.SwaIdeal.τ).loc Cert.SwaIdeal.main_arg0)
      ∧ m' ((c.tc : Thread Cert.SwaRefIdeal.nD Cert.SwaRefIdeal.τ).loc Cert.SwaRefIdeal.main_arg1) = m ((c.tc : Thread Cert.SwaIdeal.nD Cert.SwaIdeal.τ).loc Cert.SwaIdeal.main_arg1)
      ∧ m' ((c.tc : Thread Cert.SwaRefIdeal.nD Cert.SwaRefIdeal.τ).loc Cert.SwaRefIdeal.main_arg2) = m ((c.tc : Thread Cert.SwaIdeal.nD Cert.SwaIdeal.τ).loc Cert.SwaIdeal.main_arg2)) →
    ∃ (v0 : (c : Dev Cert.SwaIdeal.nD) → Buf (Elt Ideal) ((c.tc : Thread Cert.SwaIdeal.nD Cert.SwaIdeal.τ).loc Cert.SwaIdeal.main_v0_0)) (v1 : (c : Dev Cert.SwaIdeal.nD) → Buf (Elt Ideal) ((c.tc : Thread Cert.SwaIdeal.nD Cert.SwaIdeal.τ).loc Cert.SwaIdeal.main_v0_1)) (v2 : (c : Dev Cert.SwaIdeal.nD) → Buf (Elt Ideal) ((c.tc : Thread Cert.SwaIdeal.nD Cert.SwaIdeal.τ).loc Cert.SwaIdeal.main_v0_2)) (v3 : (c : Dev Cert.SwaIdeal.nD) → Buf (Elt Ideal) ((c.tc : Thread Cert.SwaIdeal.nD Cert.SwaIdeal.τ).loc Cert.SwaIdeal.main_v0_3)),
      θ_run (Cert.SwaIdeal.defs (F := Ideal)) (onTc (τ := Cert.SwaIdeal.τ) (Cert.SwaIdeal.main (F := Ideal))) ⟨m, fun _ => 0, g⟩ (fun r => ∀ c : Dev Cert.SwaIdeal.nD,
          r.2.mem ((c.tc : Thread Cert.SwaIdeal.nD Cert.SwaIdeal.τ).loc Cert.SwaIdeal.main_v0_0) = v0 c
          ∧ r.2.mem ((c.tc : Thread Cert.SwaIdeal.nD Cert.SwaIdeal.τ).loc Cert.SwaIdeal.main_v0_1) = v1 c
          ∧ r.2.mem ((c.tc : Thread Cert.SwaIdeal.nD Cert.SwaIdeal.τ).loc Cert.SwaIdeal.main_v0_2) = v2 c
          ∧ r.2.mem ((c.tc : Thread Cert.SwaIdeal.nD Cert.SwaIdeal.τ).loc Cert.SwaIdeal.main_v0_3) = v3 c
          ∧ r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
          ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
          ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2))
      ∧ θ_run (Cert.SwaRefIdeal.defs (F := Ideal)) (onTc (τ := Cert.SwaRefIdeal.τ) (Cert.SwaRefIdeal.main (F := Ideal))) ⟨m', fun _ => 0, g'⟩ (fun r => ∀ c : Dev Cert.SwaRefIdeal.nD,
          r.2.mem ((c.tc : Thread Cert.SwaRefIdeal.nD Cert.SwaRefIdeal.τ).loc Cert.SwaRefIdeal.main_v185) = v0 c
          ∧ r.2.mem ((c.tc : Thread Cert.SwaRefIdeal.nD Cert.SwaRefIdeal.τ).loc Cert.SwaRefIdeal.main_v186) = v1 c
          ∧ r.2.mem ((c.tc : Thread Cert.SwaRefIdeal.nD Cert.SwaRefIdeal.τ).loc Cert.SwaRefIdeal.main_v187) = v2 c
          ∧ r.2.mem ((c.tc : Thread Cert.SwaRefIdeal.nD Cert.SwaRefIdeal.τ).loc Cert.SwaRefIdeal.main_v183) = v3 c
          ∧ r.2.mem ((c.tc : Thread Cert.SwaRefIdeal.nD Cert.SwaRefIdeal.τ).loc Cert.SwaRefIdeal.main_arg0) = m' ((c.tc : Thread Cert.SwaRefIdeal.nD Cert.SwaRefIdeal.τ).loc Cert.SwaRefIdeal.main_arg0)
          ∧ r.2.mem ((c.tc : Thread Cert.SwaRefIdeal.nD Cert.SwaRefIdeal.τ).loc Cert.SwaRefIdeal.main_arg1) = m' ((c.tc : Thread Cert.SwaRefIdeal.nD Cert.SwaRefIdeal.τ).loc Cert.SwaRefIdeal.main_arg1)
          ∧ r.2.mem ((c.tc : Thread Cert.SwaRefIdeal.nD Cert.SwaRefIdeal.τ).loc Cert.SwaRefIdeal.main_arg2) = m' ((c.tc : Thread Cert.SwaRefIdeal.nD Cert.SwaRefIdeal.τ).loc Cert.SwaRefIdeal.main_arg2))

def preserves_SwaFwd_SwaFwdIdeal : Prop :=
  IdealRules.named_const.Statement Cert.SwaFwdIdeal.κ "slope1" .f32 0x3F3504F3#32 (((Real.sqrt 2)⁻¹ : ℝ) : EReal)
  ∧ IdealRules.named_const.Statement Cert.SwaFwdIdeal.κ "slope3" .f32 0x3EB504F3#32 (((Real.sqrt 8)⁻¹ : ℝ) : EReal)
  ∧ IdealRules.named_const.Statement Cert.SwaFwdIdeal.κ "slope5" .f32 0x3E3504F3#32 (((Real.sqrt 32)⁻¹ : ℝ) : EReal)
  ∧ IdealRules.named_const.Statement Cert.SwaFwdIdeal.κ "slope7" .f32 0x3DB504F3#32 (((Real.sqrt 128)⁻¹ : ℝ) : EReal)
  ∧ IdealRules.named_const.Statement Cert.SwaFwdIdeal.κ "slope9" .f32 0x3D3504F3#32 (((Real.sqrt 512)⁻¹ : ℝ) : EReal)
  ∧ IdealRules.named_const.Statement Cert.SwaFwdIdeal.κ "slope11" .f32 0x3CB504F3#32 (((Real.sqrt 2048)⁻¹ : ℝ) : EReal)
  ∧ IdealRules.named_const.Statement Cert.SwaFwdIdeal.κ "slope13" .f32 0x3C3504F3#32 (((Real.sqrt 8192)⁻¹ : ℝ) : EReal)
  ∧ IdealRules.named_const.Statement Cert.SwaFwdIdeal.κ "slope15" .f32 0x3BB504F3#32 (((Real.sqrt 32768)⁻¹ : ℝ) : EReal)
  ∧ IdealRules.named_const.Statement Cert.SwaFwdIdeal.κ "mask" .f32 0xF149F2CA#32 ⊥

def algebraic_SwaFwdIdeal_SwaFwdRefIdeal_pre_swafwd_finite [hSwaFwdIdeal : Cert.SwaFwdIdeal.Facts] [hSwaFwdRefIdeal : Cert.SwaFwdRefIdeal.Facts] [hPre_swafwd_finite : Cert.Pre_swafwd_finite.Facts] : Prop :=
  ∀ (m : (ℓ : Loc Cert.SwaFwdIdeal.nD Cert.SwaFwdIdeal.τ Cert.SwaFwdIdeal.sig) → Buf (Elt Ideal) ℓ) (g : Dev Cert.SwaFwdIdeal.nD → PrngReg)
    (m' : (ℓ : Loc Cert.SwaFwdRefIdeal.nD Cert.SwaFwdRefIdeal.τ Cert.SwaFwdRefIdeal.sig) → Buf (Elt Ideal) ℓ) (g' : Dev Cert.SwaFwdRefIdeal.nD → PrngReg), Pre_SwaFwdIdeal_swafwd_finite m →
    (∀ c : Dev Cert.SwaFwdIdeal.nD,
      m' ((c.tc : Thread Cert.SwaFwdRefIdeal.nD Cert.SwaFwdRefIdeal.τ).loc Cert.SwaFwdRefIdeal.main_arg0) = m ((c.tc : Thread Cert.SwaFwdIdeal.nD Cert.SwaFwdIdeal.τ).loc Cert.SwaFwdIdeal.main_arg0)
      ∧ m' ((c.tc : Thread Cert.SwaFwdRefIdeal.nD Cert.SwaFwdRefIdeal.τ).loc Cert.SwaFwdRefIdeal.main_arg1) = m ((c.tc : Thread Cert.SwaFwdIdeal.nD Cert.SwaFwdIdeal.τ).loc Cert.SwaFwdIdeal.main_arg1)) →
    ∃ (v0 : (c : Dev Cert.SwaFwdIdeal.nD) → Buf (Elt Ideal) ((c.tc : Thread Cert.SwaFwdIdeal.nD Cert.SwaFwdIdeal.τ).loc Cert.SwaFwdIdeal.main_v0)),
      θ_run (Cert.SwaFwdIdeal.defs (F := Ideal)) (onTc (τ := Cert.SwaFwdIdeal.τ) (Cert.SwaFwdIdeal.main (F := Ideal))) ⟨m, fun _ => 0, g⟩ (fun r => ∀ c : Dev Cert.SwaFwdIdeal.nD,
          r.2.mem ((c.tc : Thread Cert.SwaFwdIdeal.nD Cert.SwaFwdIdeal.τ).loc Cert.SwaFwdIdeal.main_v0) = v0 c
          ∧ r.2.mem ((c.tc : Thread Cert.SwaFwdIdeal.nD Cert.SwaFwdIdeal.τ).loc Cert.SwaFwdIdeal.main_arg0) = m ((c.tc : Thread Cert.SwaFwdIdeal.nD Cert.SwaFwdIdeal.τ).loc Cert.SwaFwdIdeal.main_arg0)
          ∧ r.2.mem ((c.tc : Thread Cert.SwaFwdIdeal.nD Cert.SwaFwdIdeal.τ).loc Cert.SwaFwdIdeal.main_arg1) = m ((c.tc : Thread Cert.SwaFwdIdeal.nD Cert.SwaFwdIdeal.τ).loc Cert.SwaFwdIdeal.main_arg1))
      ∧ θ_run (Cert.SwaFwdRefIdeal.defs (F := Ideal)) (onTc (τ := Cert.SwaFwdRefIdeal.τ) (Cert.SwaFwdRefIdeal.main (F := Ideal))) ⟨m', fun _ => 0, g'⟩ (fun r => ∀ c : Dev Cert.SwaFwdRefIdeal.nD,
          r.2.mem ((c.tc : Thread Cert.SwaFwdRefIdeal.nD Cert.SwaFwdRefIdeal.τ).loc Cert.SwaFwdRefIdeal.main_v88) = v0 c
          ∧ r.2.mem ((c.tc : Thread Cert.SwaFwdRefIdeal.nD Cert.SwaFwdRefIdeal.τ).loc Cert.SwaFwdRefIdeal.main_arg0) = m' ((c.tc : Thread Cert.SwaFwdRefIdeal.nD Cert.SwaFwdRefIdeal.τ).loc Cert.SwaFwdRefIdeal.main_arg0)
          ∧ r.2.mem ((c.tc : Thread Cert.SwaFwdRefIdeal.nD Cert.SwaFwdRefIdeal.τ).loc Cert.SwaFwdRefIdeal.main_arg1) = m' ((c.tc : Thread Cert.SwaFwdRefIdeal.nD Cert.SwaFwdRefIdeal.τ).loc Cert.SwaFwdRefIdeal.main_arg1))

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v1)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v1) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v13) = v0 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def preserves_ResFwd_ResFwdIdeal : Prop :=
  True

def algebraic_ResFwdIdeal_ResFwdRefIdeal [hResFwdIdeal : Cert.ResFwdIdeal.Facts] [hResFwdRefIdeal : Cert.ResFwdRefIdeal.Facts] : Prop :=
  ∀ (m : (ℓ : Loc Cert.ResFwdIdeal.nD Cert.ResFwdIdeal.τ Cert.ResFwdIdeal.sig) → Buf (Elt Ideal) ℓ) (g : Dev Cert.ResFwdIdeal.nD → PrngReg)
    (m' : (ℓ : Loc Cert.ResFwdRefIdeal.nD Cert.ResFwdRefIdeal.τ Cert.ResFwdRefIdeal.sig) → Buf (Elt Ideal) ℓ) (g' : Dev Cert.ResFwdRefIdeal.nD → PrngReg), Pre_ResFwdIdeal m →
    (∀ c : Dev Cert.ResFwdIdeal.nD,
      m' ((c.tc : Thread Cert.ResFwdRefIdeal.nD Cert.ResFwdRefIdeal.τ).loc Cert.ResFwdRefIdeal.main_arg0) = m ((c.tc : Thread Cert.ResFwdIdeal.nD Cert.ResFwdIdeal.τ).loc Cert.ResFwdIdeal.main_arg0)
      ∧ m' ((c.tc : Thread Cert.ResFwdRefIdeal.nD Cert.ResFwdRefIdeal.τ).loc Cert.ResFwdRefIdeal.main_arg1) = m ((c.tc : Thread Cert.ResFwdIdeal.nD Cert.ResFwdIdeal.τ).loc Cert.ResFwdIdeal.main_arg1)
      ∧ m' ((c.tc : Thread Cert.ResFwdRefIdeal.nD Cert.ResFwdRefIdeal.τ).loc Cert.ResFwdRefIdeal.main_arg2) = m ((c.tc : Thread Cert.ResFwdIdeal.nD Cert.ResFwdIdeal.τ).loc Cert.ResFwdIdeal.main_arg2)
      ∧ m' ((c.tc : Thread Cert.ResFwdRefIdeal.nD Cert.ResFwdRefIdeal.τ).loc Cert.ResFwdRefIdeal.main_arg3) = m ((c.tc : Thread Cert.ResFwdIdeal.nD Cert.ResFwdIdeal.τ).loc Cert.ResFwdIdeal.main_arg3)) →
    ∃ (v0 : (c : Dev Cert.ResFwdIdeal.nD) → Buf (Elt Ideal) ((c.tc : Thread Cert.ResFwdIdeal.nD Cert.ResFwdIdeal.τ).loc Cert.ResFwdIdeal.main_v2_0)) (v1 : (c : Dev Cert.ResFwdIdeal.nD) → Buf (Elt Ideal) ((c.tc : Thread Cert.ResFwdIdeal.nD Cert.ResFwdIdeal.τ).loc Cert.ResFwdIdeal.main_v2_1)),
      θ_run (Cert.ResFwdIdeal.defs (F := Ideal)) (onTc (τ := Cert.ResFwdIdeal.τ) (Cert.ResFwdIdeal.main (F := Ideal))) ⟨m, fun _ => 0, g⟩ (fun r => ∀ c : Dev Cert.ResFwdIdeal.nD,
          r.2.mem ((c.tc : Thread Cert.ResFwdIdeal.nD Cert.ResFwdIdeal.τ).loc Cert.ResFwdIdeal.main_v2_0) = v0 c
          ∧ r.2.mem ((c.tc : Thread Cert.ResFwdIdeal.nD Cert.ResFwdIdeal.τ).loc Cert.ResFwdIdeal.main_v2_1) = v1 c
          ∧ r.2.mem ((c.tc : Thread Cert.ResFwdIdeal.nD Cert.ResFwdIdeal.τ).loc Cert.ResFwdIdeal.main_arg0) = m ((c.tc : Thread Cert.ResFwdIdeal.nD Cert.ResFwdIdeal.τ).loc Cert.ResFwdIdeal.main_arg0)
          ∧ r.2.mem ((c.tc : Thread Cert.ResFwdIdeal.nD Cert.ResFwdIdeal.τ).loc Cert.ResFwdIdeal.main_arg1) = m ((c.tc : Thread Cert.ResFwdIdeal.nD Cert.ResFwdIdeal.τ).loc Cert.ResFwdIdeal.main_arg1)
          ∧ r.2.mem ((c.tc : Thread Cert.ResFwdIdeal.nD Cert.ResFwdIdeal.τ).loc Cert.ResFwdIdeal.main_arg2) = m ((c.tc : Thread Cert.ResFwdIdeal.nD Cert.ResFwdIdeal.τ).loc Cert.ResFwdIdeal.main_arg2)
          ∧ r.2.mem ((c.tc : Thread Cert.ResFwdIdeal.nD Cert.ResFwdIdeal.τ).loc Cert.ResFwdIdeal.main_arg3) = m ((c.tc : Thread Cert.ResFwdIdeal.nD Cert.ResFwdIdeal.τ).loc Cert.ResFwdIdeal.main_arg3))
      ∧ θ_run (Cert.ResFwdRefIdeal.defs (F := Ideal)) (onTc (τ := Cert.ResFwdRefIdeal.τ) (Cert.ResFwdRefIdeal.main (F := Ideal))) ⟨m', fun _ => 0, g'⟩ (fun r => ∀ c : Dev Cert.ResFwdRefIdeal.nD,
          r.2.mem ((c.tc : Thread Cert.ResFwdRefIdeal.nD Cert.ResFwdRefIdeal.τ).loc Cert.ResFwdRefIdeal.main_v2) = v0 c
          ∧ r.2.mem ((c.tc : Thread Cert.ResFwdRefIdeal.nD Cert.ResFwdRefIdeal.τ).loc Cert.ResFwdRefIdeal.main_v16) = v1 c
          ∧ r.2.mem ((c.tc : Thread Cert.ResFwdRefIdeal.nD Cert.ResFwdRefIdeal.τ).loc Cert.ResFwdRefIdeal.main_arg0) = m' ((c.tc : Thread Cert.ResFwdRefIdeal.nD Cert.ResFwdRefIdeal.τ).loc Cert.ResFwdRefIdeal.main_arg0)
          ∧ r.2.mem ((c.tc : Thread Cert.ResFwdRefIdeal.nD Cert.ResFwdRefIdeal.τ).loc Cert.ResFwdRefIdeal.main_arg1) = m' ((c.tc : Thread Cert.ResFwdRefIdeal.nD Cert.ResFwdRefIdeal.τ).loc Cert.ResFwdRefIdeal.main_arg1)
          ∧ r.2.mem ((c.tc : Thread Cert.ResFwdRefIdeal.nD Cert.ResFwdRefIdeal.τ).loc Cert.ResFwdRefIdeal.main_arg2) = m' ((c.tc : Thread Cert.ResFwdRefIdeal.nD Cert.ResFwdRefIdeal.τ).loc Cert.ResFwdRefIdeal.main_arg2)
          ∧ r.2.mem ((c.tc : Thread Cert.ResFwdRefIdeal.nD Cert.ResFwdRefIdeal.τ).loc Cert.ResFwdRefIdeal.main_arg3) = m' ((c.tc : Thread Cert.ResFwdRefIdeal.nD Cert.ResFwdRefIdeal.τ).loc Cert.ResFwdRefIdeal.main_arg3))

def preserves_GateFwd_GateFwdIdeal : Prop :=
  True

def algebraic_GateFwdIdeal_GateFwdRefIdeal [hGateFwdIdeal : Cert.GateFwdIdeal.Facts] [hGateFwdRefIdeal : Cert.GateFwdRefIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg)
    (m' : (ℓ : Loc Cert.GateFwdRefIdeal.nD Cert.GateFwdRefIdeal.τ Cert.GateFwdRefIdeal.sig) → Buf (Elt Ideal) ℓ) (g' : Dev Cert.GateFwdRefIdeal.nD → PrngReg), Pre_GateFwdIdeal m →
    (∀ c : Dev Cert.GateFwdIdeal.nD,
      m' ((c.tc : Thread Cert.GateFwdRefIdeal.nD Cert.GateFwdRefIdeal.τ).loc Cert.GateFwdRefIdeal.main_arg0) = m ((c.tc : Thread Cert.GateFwdIdeal.nD Cert.GateFwdIdeal.τ).loc Cert.GateFwdIdeal.main_arg0)
      ∧ m' ((c.tc : Thread Cert.GateFwdRefIdeal.nD Cert.GateFwdRefIdeal.τ).loc Cert.GateFwdRefIdeal.main_arg1) = m ((c.tc : Thread Cert.GateFwdIdeal.nD Cert.GateFwdIdeal.τ).loc Cert.GateFwdIdeal.main_arg1)
      ∧ m' ((c.tc : Thread Cert.GateFwdRefIdeal.nD Cert.GateFwdRefIdeal.τ).loc Cert.GateFwdRefIdeal.main_arg2) = m ((c.tc : Thread Cert.GateFwdIdeal.nD Cert.GateFwdIdeal.τ).loc Cert.GateFwdIdeal.main_arg2)
      ∧ m' ((c.tc : Thread Cert.GateFwdRefIdeal.nD Cert.GateFwdRefIdeal.τ).loc Cert.GateFwdRefIdeal.main_arg3) = m ((c.tc : Thread Cert.GateFwdIdeal.nD Cert.GateFwdIdeal.τ).loc Cert.GateFwdIdeal.main_arg3)
      ∧ m' ((c.tc : Thread Cert.GateFwdRefIdeal.nD Cert.GateFwdRefIdeal.τ).loc Cert.GateFwdRefIdeal.main_arg4) = m ((c.tc : Thread Cert.GateFwdIdeal.nD Cert.GateFwdIdeal.τ).loc Cert.GateFwdIdeal.main_arg4)) →
    ∃ (v0 : (c : Dev Cert.GateFwdIdeal.nD) → Buf (Elt Ideal) ((c.tc : Thread Cert.GateFwdIdeal.nD Cert.GateFwdIdeal.τ).loc Cert.GateFwdIdeal.main_v2_0)) (v1 : (c : Dev Cert.GateFwdIdeal.nD) → Buf (Elt Ideal) ((c.tc : Thread Cert.GateFwdIdeal.nD Cert.GateFwdIdeal.τ).loc Cert.GateFwdIdeal.main_v2_1)) (v2 : (c : Dev Cert.GateFwdIdeal.nD) → Buf (Elt Ideal) ((c.tc : Thread Cert.GateFwdIdeal.nD Cert.GateFwdIdeal.τ).loc Cert.GateFwdIdeal.main_v2_2)),
      θ_run (Cert.GateFwdIdeal.defs (F := Ideal)) (onTc (τ := Cert.GateFwdIdeal.τ) (Cert.GateFwdIdeal.main (F := Ideal))) ⟨m, fun _ => 0, g⟩ (fun r => ∀ c : Dev Cert.GateFwdIdeal.nD,
          r.2.mem ((c.tc : Thread Cert.GateFwdIdeal.nD Cert.GateFwdIdeal.τ).loc Cert.GateFwdIdeal.main_v2_0) = v0 c
          ∧ r.2.mem ((c.tc : Thread Cert.GateFwdIdeal.nD Cert.GateFwdIdeal.τ).loc Cert.GateFwdIdeal.main_v2_1) = v1 c
          ∧ r.2.mem ((c.tc : Thread Cert.GateFwdIdeal.nD Cert.GateFwdIdeal.τ).loc Cert.GateFwdIdeal.main_v2_2) = v2 c
          ∧ r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
          ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
          ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2)
          ∧ r.2.mem ((c.tc : Thread Cert.GateFwdIdeal.nD Cert.GateFwdIdeal.τ).loc Cert.GateFwdIdeal.main_arg3) = m ((c.tc : Thread Cert.GateFwdIdeal.nD Cert.GateFwdIdeal.τ).loc Cert.GateFwdIdeal.main_arg3)
          ∧ r.2.mem ((c.tc : Thread Cert.GateFwdIdeal.nD Cert.GateFwdIdeal.τ).loc Cert.GateFwdIdeal.main_arg4) = m ((c.tc : Thread Cert.GateFwdIdeal.nD Cert.GateFwdIdeal.τ).loc Cert.GateFwdIdeal.main_arg4))
      ∧ θ_run (Cert.GateFwdRefIdeal.defs (F := Ideal)) (onTc (τ := Cert.GateFwdRefIdeal.τ) (Cert.GateFwdRefIdeal.main (F := Ideal))) ⟨m', fun _ => 0, g'⟩ (fun r => ∀ c : Dev Cert.GateFwdRefIdeal.nD,
          r.2.mem ((c.tc : Thread Cert.GateFwdRefIdeal.nD Cert.GateFwdRefIdeal.τ).loc Cert.GateFwdRefIdeal.main_v1) = v0 c
          ∧ r.2.mem ((c.tc : Thread Cert.GateFwdRefIdeal.nD Cert.GateFwdRefIdeal.τ).loc Cert.GateFwdRefIdeal.main_v9) = v1 c
          ∧ r.2.mem ((c.tc : Thread Cert.GateFwdRefIdeal.nD Cert.GateFwdRefIdeal.τ).loc Cert.GateFwdRefIdeal.main_v23) = v2 c
          ∧ r.2.mem ((c.tc : Thread Cert.GateFwdRefIdeal.nD Cert.GateFwdRefIdeal.τ).loc Cert.GateFwdRefIdeal.main_arg0) = m' ((c.tc : Thread Cert.GateFwdRefIdeal.nD Cert.GateFwdRefIdeal.τ).loc Cert.GateFwdRefIdeal.main_arg0)
          ∧ r.2.mem ((c.tc : Thread Cert.GateFwdRefIdeal.nD Cert.GateFwdRefIdeal.τ).loc Cert.GateFwdRefIdeal.main_arg1) = m' ((c.tc : Thread Cert.GateFwdRefIdeal.nD Cert.GateFwdRefIdeal.τ).loc Cert.GateFwdRefIdeal.main_arg1)
          ∧ r.2.mem ((c.tc : Thread Cert.GateFwdRefIdeal.nD Cert.GateFwdRefIdeal.τ).loc Cert.GateFwdRefIdeal.main_arg2) = m' ((c.tc : Thread Cert.GateFwdRefIdeal.nD Cert.GateFwdRefIdeal.τ).loc Cert.GateFwdRefIdeal.main_arg2)
          ∧ r.2.mem ((c.tc : Thread Cert.GateFwdRefIdeal.nD Cert.GateFwdRefIdeal.τ).loc Cert.GateFwdRefIdeal.main_arg3) = m' ((c.tc : Thread Cert.GateFwdRefIdeal.nD Cert.GateFwdRefIdeal.τ).loc Cert.GateFwdRefIdeal.main_arg3)
          ∧ r.2.mem ((c.tc : Thread Cert.GateFwdRefIdeal.nD Cert.GateFwdRefIdeal.τ).loc Cert.GateFwdRefIdeal.main_arg4) = m' ((c.tc : Thread Cert.GateFwdRefIdeal.nD Cert.GateFwdRefIdeal.τ).loc Cert.GateFwdRefIdeal.main_arg4))

def preserves_GateLast_GateLastIdeal : Prop :=
  True

def algebraic_GateLastIdeal_GateLastRefIdeal [hGateLastIdeal : Cert.GateLastIdeal.Facts] [hGateLastRefIdeal : Cert.GateLastRefIdeal.Facts] : Prop :=
  ∀ (m : (ℓ : Loc Cert.GateLastIdeal.nD Cert.GateLastIdeal.τ Cert.GateLastIdeal.sig) → Buf (Elt Ideal) ℓ) (g : Dev Cert.GateLastIdeal.nD → PrngReg)
    (m' : (ℓ : Loc Cert.GateLastRefIdeal.nD Cert.GateLastRefIdeal.τ Cert.GateLastRefIdeal.sig) → Buf (Elt Ideal) ℓ) (g' : Dev Cert.GateLastRefIdeal.nD → PrngReg), Pre_GateLastIdeal m →
    (∀ c : Dev Cert.GateLastIdeal.nD,
      m' ((c.tc : Thread Cert.GateLastRefIdeal.nD Cert.GateLastRefIdeal.τ).loc Cert.GateLastRefIdeal.main_arg0) = m ((c.tc : Thread Cert.GateLastIdeal.nD Cert.GateLastIdeal.τ).loc Cert.GateLastIdeal.main_arg0)
      ∧ m' ((c.tc : Thread Cert.GateLastRefIdeal.nD Cert.GateLastRefIdeal.τ).loc Cert.GateLastRefIdeal.main_arg1) = m ((c.tc : Thread Cert.GateLastIdeal.nD Cert.GateLastIdeal.τ).loc Cert.GateLastIdeal.main_arg1)
      ∧ m' ((c.tc : Thread Cert.GateLastRefIdeal.nD Cert.GateLastRefIdeal.τ).loc Cert.GateLastRefIdeal.main_arg2) = m ((c.tc : Thread Cert.GateLastIdeal.nD Cert.GateLastIdeal.τ).loc Cert.GateLastIdeal.main_arg2)
      ∧ m' ((c.tc : Thread Cert.GateLastRefIdeal.nD Cert.GateLastRefIdeal.τ).loc Cert.GateLastRefIdeal.main_arg3) = m ((c.tc : Thread Cert.GateLastIdeal.nD Cert.GateLastIdeal.τ).loc Cert.GateLastIdeal.main_arg3)) →
    ∃ (v0 : (c : Dev Cert.GateLastIdeal.nD) → Buf (Elt Ideal) ((c.tc : Thread Cert.GateLastIdeal.nD Cert.GateLastIdeal.τ).loc Cert.GateLastIdeal.main_v1_0)) (v1 : (c : Dev Cert.GateLastIdeal.nD) → Buf (Elt Ideal) ((c.tc : Thread Cert.GateLastIdeal.nD Cert.GateLastIdeal.τ).loc Cert.GateLastIdeal.main_v1_1)),
      θ_run (Cert.GateLastIdeal.defs (F := Ideal)) (onTc (τ := Cert.GateLastIdeal.τ) (Cert.GateLastIdeal.main (F := Ideal))) ⟨m, fun _ => 0, g⟩ (fun r => ∀ c : Dev Cert.GateLastIdeal.nD,
          r.2.mem ((c.tc : Thread Cert.GateLastIdeal.nD Cert.GateLastIdeal.τ).loc Cert.GateLastIdeal.main_v1_0) = v0 c
          ∧ r.2.mem ((c.tc : Thread Cert.GateLastIdeal.nD Cert.GateLastIdeal.τ).loc Cert.GateLastIdeal.main_v1_1) = v1 c
          ∧ r.2.mem ((c.tc : Thread Cert.GateLastIdeal.nD Cert.GateLastIdeal.τ).loc Cert.GateLastIdeal.main_arg0) = m ((c.tc : Thread Cert.GateLastIdeal.nD Cert.GateLastIdeal.τ).loc Cert.GateLastIdeal.main_arg0)
          ∧ r.2.mem ((c.tc : Thread Cert.GateLastIdeal.nD Cert.GateLastIdeal.τ).loc Cert.GateLastIdeal.main_arg1) = m ((c.tc : Thread Cert.GateLastIdeal.nD Cert.GateLastIdeal.τ).loc Cert.GateLastIdeal.main_arg1)
          ∧ r.2.mem ((c.tc : Thread Cert.GateLastIdeal.nD Cert.GateLastIdeal.τ).loc Cert.GateLastIdeal.main_arg2) = m ((c.tc : Thread Cert.GateLastIdeal.nD Cert.GateLastIdeal.τ).loc Cert.GateLastIdeal.main_arg2)
          ∧ r.2.mem ((c.tc : Thread Cert.GateLastIdeal.nD Cert.GateLastIdeal.τ).loc Cert.GateLastIdeal.main_arg3) = m ((c.tc : Thread Cert.GateLastIdeal.nD Cert.GateLastIdeal.τ).loc Cert.GateLastIdeal.main_arg3))
      ∧ θ_run (Cert.GateLastRefIdeal.defs (F := Ideal)) (onTc (τ := Cert.GateLastRefIdeal.τ) (Cert.GateLastRefIdeal.main (F := Ideal))) ⟨m', fun _ => 0, g'⟩ (fun r => ∀ c : Dev Cert.GateLastRefIdeal.nD,
          r.2.mem ((c.tc : Thread Cert.GateLastRefIdeal.nD Cert.GateLastRefIdeal.τ).loc Cert.GateLastRefIdeal.main_v1) = v0 c
          ∧ r.2.mem ((c.tc : Thread Cert.GateLastRefIdeal.nD Cert.GateLastRefIdeal.τ).loc Cert.GateLastRefIdeal.main_v9) = v1 c
          ∧ r.2.mem ((c.tc : Thread Cert.GateLastRefIdeal.nD Cert.GateLastRefIdeal.τ).loc Cert.GateLastRefIdeal.main_arg0) = m' ((c.tc : Thread Cert.GateLastRefIdeal.nD Cert.GateLastRefIdeal.τ).loc Cert.GateLastRefIdeal.main_arg0)
          ∧ r.2.mem ((c.tc : Thread Cert.GateLastRefIdeal.nD Cert.GateLastRefIdeal.τ).loc Cert.GateLastRefIdeal.main_arg1) = m' ((c.tc : Thread Cert.GateLastRefIdeal.nD Cert.GateLastRefIdeal.τ).loc Cert.GateLastRefIdeal.main_arg1)
          ∧ r.2.mem ((c.tc : Thread Cert.GateLastRefIdeal.nD Cert.GateLastRefIdeal.τ).loc Cert.GateLastRefIdeal.main_arg2) = m' ((c.tc : Thread Cert.GateLastRefIdeal.nD Cert.GateLastRefIdeal.τ).loc Cert.GateLastRefIdeal.main_arg2)
          ∧ r.2.mem ((c.tc : Thread Cert.GateLastRefIdeal.nD Cert.GateLastRefIdeal.τ).loc Cert.GateLastRefIdeal.main_arg3) = m' ((c.tc : Thread Cert.GateLastRefIdeal.nD Cert.GateLastRefIdeal.τ).loc Cert.GateLastRefIdeal.main_arg3))

def preserves_Ffn_FfnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v33_0)) (v1 : (c : Dev Cert.FfnIdeal.nD) → Buf (Elt Ideal) ((c.tc : Thread Cert.FfnIdeal.nD Cert.FfnIdeal.τ).loc Cert.FfnIdeal.main_v33_1)) (v2 : (c : Dev Cert.FfnIdeal.nD) → Buf (Elt Ideal) ((c.tc : Thread Cert.FfnIdeal.nD Cert.FfnIdeal.τ).loc Cert.FfnIdeal.main_v33_2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v33_0) = v0 c
          ∧ r.2.mem ((c.tc : Thread Cert.FfnIdeal.nD Cert.FfnIdeal.τ).loc Cert.FfnIdeal.main_v33_1) = v1 c
          ∧ r.2.mem ((c.tc : Thread Cert.FfnIdeal.nD Cert.FfnIdeal.τ).loc Cert.FfnIdeal.main_v33_2) = v2 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v70) = v0 c
          ∧ r.2.mem ((c.tc : Thread Cert.FfnRefIdeal.nD Cert.FfnRefIdeal.τ).loc Cert.FfnRefIdeal.main_v71) = v1 c
          ∧ r.2.mem ((c.tc : Thread Cert.FfnRefIdeal.nD Cert.FfnRefIdeal.τ).loc Cert.FfnRefIdeal.main_v72) = v2 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v3_0)) (v1 : (c : Dev Cert.UpIdeal.nD) → Buf (Elt Ideal) ((c.tc : Thread Cert.UpIdeal.nD Cert.UpIdeal.τ).loc Cert.UpIdeal.main_v3_1)) (v2 : (c : Dev Cert.UpIdeal.nD) → Buf (Elt Ideal) ((c.tc : Thread Cert.UpIdeal.nD Cert.UpIdeal.τ).loc Cert.UpIdeal.main_v3_2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v3_0) = v0 c
          ∧ r.2.mem ((c.tc : Thread Cert.UpIdeal.nD Cert.UpIdeal.τ).loc Cert.UpIdeal.main_v3_1) = v1 c
          ∧ r.2.mem ((c.tc : Thread Cert.UpIdeal.nD Cert.UpIdeal.τ).loc Cert.UpIdeal.main_v3_2) = v2 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v25) = v0 c
          ∧ r.2.mem ((c.tc : Thread Cert.UpRefIdeal.nD Cert.UpRefIdeal.τ).loc Cert.UpRefIdeal.main_v27) = v1 c
          ∧ r.2.mem ((c.tc : Thread Cert.UpRefIdeal.nD Cert.UpRefIdeal.τ).loc Cert.UpRefIdeal.main_v32) = v2 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_Sum_SumIdeal : Prop :=
  True

def algebraic_SumIdeal_SumRefIdeal [hSumIdeal : Cert.SumIdeal.Facts] [hSumRefIdeal : Cert.SumRefIdeal.Facts] : Prop :=
  ∀ (m : (ℓ : Loc Cert.SumIdeal.nD Cert.SumIdeal.τ Cert.SumIdeal.sig) → Buf (Elt Ideal) ℓ) (g : Dev Cert.SumIdeal.nD → PrngReg)
    (m' : (ℓ : Loc Cert.SumRefIdeal.nD Cert.SumRefIdeal.τ Cert.SumRefIdeal.sig) → Buf (Elt Ideal) ℓ) (g' : Dev Cert.SumRefIdeal.nD → PrngReg), Pre_SumIdeal m →
    (∀ c : Dev Cert.SumIdeal.nD,
      m' ((c.tc : Thread Cert.SumRefIdeal.nD Cert.SumRefIdeal.τ).loc Cert.SumRefIdeal.main_arg0) = m ((c.tc : Thread Cert.SumIdeal.nD Cert.SumIdeal.τ).loc Cert.SumIdeal.main_arg0)) →
    ∃ (v0 : (c : Dev Cert.SumIdeal.nD) → Buf (Elt Ideal) ((c.tc : Thread Cert.SumIdeal.nD Cert.SumIdeal.τ).loc Cert.SumIdeal.main_v0)),
      θ_run (Cert.SumIdeal.defs (F := Ideal)) (onTc (τ := Cert.SumIdeal.τ) (Cert.SumIdeal.main (F := Ideal))) ⟨m, fun _ => 0, g⟩ (fun r => ∀ c : Dev Cert.SumIdeal.nD,
          r.2.mem ((c.tc : Thread Cert.SumIdeal.nD Cert.SumIdeal.τ).loc Cert.SumIdeal.main_v0) = v0 c
          ∧ r.2.mem ((c.tc : Thread Cert.SumIdeal.nD Cert.SumIdeal.τ).loc Cert.SumIdeal.main_arg0) = m ((c.tc : Thread Cert.SumIdeal.nD Cert.SumIdeal.τ).loc Cert.SumIdeal.main_arg0))
      ∧ θ_run (Cert.SumRefIdeal.defs (F := Ideal)) (onTc (τ := Cert.SumRefIdeal.τ) (Cert.SumRefIdeal.main (F := Ideal))) ⟨m', fun _ => 0, g'⟩ (fun r => ∀ c : Dev Cert.SumRefIdeal.nD,
          r.2.mem ((c.tc : Thread Cert.SumRefIdeal.nD Cert.SumRefIdeal.τ).loc Cert.SumRefIdeal.main_v0) = v0 c
          ∧ r.2.mem ((c.tc : Thread Cert.SumRefIdeal.nD Cert.SumRefIdeal.τ).loc Cert.SumRefIdeal.main_arg0) = m' ((c.tc : Thread Cert.SumRefIdeal.nD Cert.SumRefIdeal.τ).loc Cert.SumRefIdeal.main_arg0))

def preserves_Adam_AdamIdeal : Prop :=
  IdealRules.named_const.Statement Cert.AdamIdeal.κ "bias1" .f32 0x3FC48605#32 (((5463681 / 8388608)⁻¹ : ℝ) : EReal)
  ∧ IdealRules.named_const.Statement Cert.AdamIdeal.κ "bias2" .f32 0x42C8E6D3#32 (((2672307 / 268435456)⁻¹ : ℝ) : EReal)

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v23) = v0 c
          ∧ r.2.mem ((c.tc : Thread Cert.AdamRefIdeal.nD Cert.AdamRefIdeal.τ).loc Cert.AdamRefIdeal.main_v4) = v1 c
          ∧ r.2.mem ((c.tc : Thread Cert.AdamRefIdeal.nD Cert.AdamRefIdeal.τ).loc Cert.AdamRefIdeal.main_v10) = v2 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_Mat_MatIdeal : Prop :=
  True

def algebraic_MatIdeal_MatRefIdeal [hMatIdeal : Cert.MatIdeal.Facts] [hMatRefIdeal : Cert.MatRefIdeal.Facts] : Prop :=
  ∀ (m : (ℓ : Loc Cert.MatIdeal.nD Cert.MatIdeal.τ Cert.MatIdeal.sig) → Buf (Elt Ideal) ℓ) (g : Dev Cert.MatIdeal.nD → PrngReg)
    (m' : (ℓ : Loc Cert.MatRefIdeal.nD Cert.MatRefIdeal.τ Cert.MatRefIdeal.sig) → Buf (Elt Ideal) ℓ) (g' : Dev Cert.MatRefIdeal.nD → PrngReg), Pre_MatIdeal m →
    (∀ c : Dev Cert.MatIdeal.nD,
      m' ((c.tc : Thread Cert.MatRefIdeal.nD Cert.MatRefIdeal.τ).loc Cert.MatRefIdeal.main_arg0) = m ((c.tc : Thread Cert.MatIdeal.nD Cert.MatIdeal.τ).loc Cert.MatIdeal.main_arg0)
      ∧ m' ((c.tc : Thread Cert.MatRefIdeal.nD Cert.MatRefIdeal.τ).loc Cert.MatRefIdeal.main_arg1) = m ((c.tc : Thread Cert.MatIdeal.nD Cert.MatIdeal.τ).loc Cert.MatIdeal.main_arg1)) →
    ∃ (v0 : (c : Dev Cert.MatIdeal.nD) → Buf (Elt Ideal) ((c.tc : Thread Cert.MatIdeal.nD Cert.MatIdeal.τ).loc Cert.MatIdeal.main_v0)),
      θ_run (Cert.MatIdeal.defs (F := Ideal)) (onTc (τ := Cert.MatIdeal.τ) (Cert.MatIdeal.main (F := Ideal))) ⟨m, fun _ => 0, g⟩ (fun r => ∀ c : Dev Cert.MatIdeal.nD,
          r.2.mem ((c.tc : Thread Cert.MatIdeal.nD Cert.MatIdeal.τ).loc Cert.MatIdeal.main_v0) = v0 c
          ∧ r.2.mem ((c.tc : Thread Cert.MatIdeal.nD Cert.MatIdeal.τ).loc Cert.MatIdeal.main_arg0) = m ((c.tc : Thread Cert.MatIdeal.nD Cert.MatIdeal.τ).loc Cert.MatIdeal.main_arg0)
          ∧ r.2.mem ((c.tc : Thread Cert.MatIdeal.nD Cert.MatIdeal.τ).loc Cert.MatIdeal.main_arg1) = m ((c.tc : Thread Cert.MatIdeal.nD Cert.MatIdeal.τ).loc Cert.MatIdeal.main_arg1))
      ∧ θ_run (Cert.MatRefIdeal.defs (F := Ideal)) (onTc (τ := Cert.MatRefIdeal.τ) (Cert.MatRefIdeal.main (F := Ideal))) ⟨m', fun _ => 0, g'⟩ (fun r => ∀ c : Dev Cert.MatRefIdeal.nD,
          r.2.mem ((c.tc : Thread Cert.MatRefIdeal.nD Cert.MatRefIdeal.τ).loc Cert.MatRefIdeal.main_v3) = v0 c
          ∧ r.2.mem ((c.tc : Thread Cert.MatRefIdeal.nD Cert.MatRefIdeal.τ).loc Cert.MatRefIdeal.main_arg0) = m' ((c.tc : Thread Cert.MatRefIdeal.nD Cert.MatRefIdeal.τ).loc Cert.MatRefIdeal.main_arg0)
          ∧ r.2.mem ((c.tc : Thread Cert.MatRefIdeal.nD Cert.MatRefIdeal.τ).loc Cert.MatRefIdeal.main_arg1) = m' ((c.tc : Thread Cert.MatRefIdeal.nD Cert.MatRefIdeal.τ).loc Cert.MatRefIdeal.main_arg1))

def Claim : Prop :=
  ∃ (hPle : Cert.Ple.Facts) (hPleIdeal : Cert.PleIdeal.Facts) (hPleRefIdeal : Cert.PleRefIdeal.Facts) (hLoss : Cert.Loss.Facts) (hLossIdeal : Cert.LossIdeal.Facts) (hLossRefIdeal : Cert.LossRefIdeal.Facts) (hNormGate : Cert.NormGate.Facts) (hNormGateIdeal : Cert.NormGateIdeal.Facts) (hNormGateRefIdeal : Cert.NormGateRefIdeal.Facts) (hNormQkv : Cert.NormQkv.Facts) (hNormQkvIdeal : Cert.NormQkvIdeal.Facts) (hNormQkvRefIdeal : Cert.NormQkvRefIdeal.Facts) (hNormProj : Cert.NormProj.Facts) (hNormProjIdeal : Cert.NormProjIdeal.Facts) (hNormProjRefIdeal : Cert.NormProjRefIdeal.Facts) (hNormUp : Cert.NormUp.Facts) (hNormUpIdeal : Cert.NormUpIdeal.Facts) (hNormUpRefIdeal : Cert.NormUpRefIdeal.Facts) (hSwa : Cert.Swa.Facts) (hSwaIdeal : Cert.SwaIdeal.Facts) (hSwaRefIdeal : Cert.SwaRefIdeal.Facts) (hSwaFwd : Cert.SwaFwd.Facts) (hSwaFwdIdeal : Cert.SwaFwdIdeal.Facts) (hSwaFwdRefIdeal : Cert.SwaFwdRefIdeal.Facts) (hRmsFwd : Cert.RmsFwd.Facts) (hRmsFwdIdeal : Cert.RmsFwdIdeal.Facts) (hRmsFwdRefIdeal : Cert.RmsFwdRefIdeal.Facts) (hResFwd : Cert.ResFwd.Facts) (hResFwdIdeal : Cert.ResFwdIdeal.Facts) (hResFwdRefIdeal : Cert.ResFwdRefIdeal.Facts) (hGateFwd : Cert.GateFwd.Facts) (hGateFwdIdeal : Cert.GateFwdIdeal.Facts) (hGateFwdRefIdeal : Cert.GateFwdRefIdeal.Facts) (hGateLast : Cert.GateLast.Facts) (hGateLastIdeal : Cert.GateLastIdeal.Facts) (hGateLastRefIdeal : Cert.GateLastRefIdeal.Facts) (hFfn : Cert.Ffn.Facts) (hFfnIdeal : Cert.FfnIdeal.Facts) (hFfnRefIdeal : Cert.FfnRefIdeal.Facts) (hUp : Cert.Up.Facts) (hUpIdeal : Cert.UpIdeal.Facts) (hUpRefIdeal : Cert.UpRefIdeal.Facts) (hSum : Cert.Sum.Facts) (hSumIdeal : Cert.SumIdeal.Facts) (hSumRefIdeal : Cert.SumRefIdeal.Facts) (hAdam : Cert.Adam.Facts) (hAdamIdeal : Cert.AdamIdeal.Facts) (hAdamRefIdeal : Cert.AdamRefIdeal.Facts) (hMat : Cert.Mat.Facts) (hMatIdeal : Cert.MatIdeal.Facts) (hMatRefIdeal : Cert.MatRefIdeal.Facts) (hPre_loss_finite : Cert.Pre_loss_finite.Facts) (hPre_normgate_finite : Cert.Pre_normgate_finite.Facts) (hPre_normqkv_finite : Cert.Pre_normqkv_finite.Facts) (hPre_normproj_finite : Cert.Pre_normproj_finite.Facts) (hPre_normup_finite : Cert.Pre_normup_finite.Facts) (hPre_swa_finite : Cert.Pre_swa_finite.Facts) (hPre_swafwd_finite : Cert.Pre_swafwd_finite.Facts) (hPre_ffn_finite : Cert.Pre_ffn_finite.Facts),
    quiescent_Ple (hPle := hPle)
    ∧ quiescent_PleIdeal (hPleIdeal := hPleIdeal)
    ∧ quiescent_PleRefIdeal (hPleRefIdeal := hPleRefIdeal)
    ∧ quiescent_Loss (hLoss := hLoss)
    ∧ quiescent_Loss_pre_loss_finite (hLoss := hLoss) (hPre_loss_finite := hPre_loss_finite)
    ∧ quiescent_LossIdeal (hLossIdeal := hLossIdeal)
    ∧ quiescent_LossIdeal_pre_loss_finite (hLossIdeal := hLossIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_NormGate (hNormGate := hNormGate)
    ∧ quiescent_NormGate_pre_normgate_finite (hNormGate := hNormGate) (hPre_normgate_finite := hPre_normgate_finite)
    ∧ quiescent_NormGateIdeal (hNormGateIdeal := hNormGateIdeal)
    ∧ quiescent_NormGateIdeal_pre_normgate_finite (hNormGateIdeal := hNormGateIdeal) (hPre_normgate_finite := hPre_normgate_finite)
    ∧ quiescent_NormGateRefIdeal (hNormGateRefIdeal := hNormGateRefIdeal)
    ∧ quiescent_NormGateRefIdeal_pre_normgate_finite (hNormGateRefIdeal := hNormGateRefIdeal) (hPre_normgate_finite := hPre_normgate_finite)
    ∧ quiescent_NormQkv (hNormQkv := hNormQkv)
    ∧ quiescent_NormQkv_pre_normqkv_finite (hNormQkv := hNormQkv) (hPre_normqkv_finite := hPre_normqkv_finite)
    ∧ quiescent_NormQkvIdeal (hNormQkvIdeal := hNormQkvIdeal)
    ∧ quiescent_NormQkvIdeal_pre_normqkv_finite (hNormQkvIdeal := hNormQkvIdeal) (hPre_normqkv_finite := hPre_normqkv_finite)
    ∧ quiescent_NormQkvRefIdeal (hNormQkvRefIdeal := hNormQkvRefIdeal)
    ∧ quiescent_NormQkvRefIdeal_pre_normqkv_finite (hNormQkvRefIdeal := hNormQkvRefIdeal) (hPre_normqkv_finite := hPre_normqkv_finite)
    ∧ quiescent_NormProj (hNormProj := hNormProj)
    ∧ quiescent_NormProj_pre_normproj_finite (hNormProj := hNormProj) (hPre_normproj_finite := hPre_normproj_finite)
    ∧ quiescent_NormProjIdeal (hNormProjIdeal := hNormProjIdeal)
    ∧ quiescent_NormProjIdeal_pre_normproj_finite (hNormProjIdeal := hNormProjIdeal) (hPre_normproj_finite := hPre_normproj_finite)
    ∧ quiescent_NormProjRefIdeal (hNormProjRefIdeal := hNormProjRefIdeal)
    ∧ quiescent_NormProjRefIdeal_pre_normproj_finite (hNormProjRefIdeal := hNormProjRefIdeal) (hPre_normproj_finite := hPre_normproj_finite)
    ∧ quiescent_NormUp (hNormUp := hNormUp)
    ∧ quiescent_NormUp_pre_normup_finite (hNormUp := hNormUp) (hPre_normup_finite := hPre_normup_finite)
    ∧ quiescent_NormUpIdeal (hNormUpIdeal := hNormUpIdeal)
    ∧ quiescent_NormUpIdeal_pre_normup_finite (hNormUpIdeal := hNormUpIdeal) (hPre_normup_finite := hPre_normup_finite)
    ∧ quiescent_NormUpRefIdeal (hNormUpRefIdeal := hNormUpRefIdeal)
    ∧ quiescent_NormUpRefIdeal_pre_normup_finite (hNormUpRefIdeal := hNormUpRefIdeal) (hPre_normup_finite := hPre_normup_finite)
    ∧ quiescent_Swa (hSwa := hSwa)
    ∧ quiescent_Swa_pre_swa_finite (hSwa := hSwa) (hPre_swa_finite := hPre_swa_finite)
    ∧ quiescent_SwaIdeal (hSwaIdeal := hSwaIdeal)
    ∧ quiescent_SwaIdeal_pre_swa_finite (hSwaIdeal := hSwaIdeal) (hPre_swa_finite := hPre_swa_finite)
    ∧ quiescent_SwaRefIdeal (hSwaRefIdeal := hSwaRefIdeal)
    ∧ quiescent_SwaRefIdeal_pre_swa_finite (hSwaRefIdeal := hSwaRefIdeal) (hPre_swa_finite := hPre_swa_finite)
    ∧ quiescent_SwaFwd (hSwaFwd := hSwaFwd)
    ∧ quiescent_SwaFwd_pre_swafwd_finite (hSwaFwd := hSwaFwd) (hPre_swafwd_finite := hPre_swafwd_finite)
    ∧ quiescent_SwaFwdIdeal (hSwaFwdIdeal := hSwaFwdIdeal)
    ∧ quiescent_SwaFwdIdeal_pre_swafwd_finite (hSwaFwdIdeal := hSwaFwdIdeal) (hPre_swafwd_finite := hPre_swafwd_finite)
    ∧ quiescent_SwaFwdRefIdeal (hSwaFwdRefIdeal := hSwaFwdRefIdeal)
    ∧ quiescent_SwaFwdRefIdeal_pre_swafwd_finite (hSwaFwdRefIdeal := hSwaFwdRefIdeal) (hPre_swafwd_finite := hPre_swafwd_finite)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ quiescent_ResFwd (hResFwd := hResFwd)
    ∧ quiescent_ResFwdIdeal (hResFwdIdeal := hResFwdIdeal)
    ∧ quiescent_ResFwdRefIdeal (hResFwdRefIdeal := hResFwdRefIdeal)
    ∧ quiescent_GateFwd (hGateFwd := hGateFwd)
    ∧ quiescent_GateFwdIdeal (hGateFwdIdeal := hGateFwdIdeal)
    ∧ quiescent_GateFwdRefIdeal (hGateFwdRefIdeal := hGateFwdRefIdeal)
    ∧ quiescent_GateLast (hGateLast := hGateLast)
    ∧ quiescent_GateLastIdeal (hGateLastIdeal := hGateLastIdeal)
    ∧ quiescent_GateLastRefIdeal (hGateLastRefIdeal := hGateLastRefIdeal)
    ∧ quiescent_Ffn (hFfn := hFfn)
    ∧ quiescent_Ffn_pre_ffn_finite (hFfn := hFfn) (hPre_ffn_finite := hPre_ffn_finite)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_Up (hUp := hUp)
    ∧ quiescent_UpIdeal (hUpIdeal := hUpIdeal)
    ∧ quiescent_UpRefIdeal (hUpRefIdeal := hUpRefIdeal)
    ∧ quiescent_Sum (hSum := hSum)
    ∧ quiescent_SumIdeal (hSumIdeal := hSumIdeal)
    ∧ quiescent_SumRefIdeal (hSumRefIdeal := hSumRefIdeal)
    ∧ quiescent_Adam (hAdam := hAdam)
    ∧ quiescent_AdamIdeal (hAdamIdeal := hAdamIdeal)
    ∧ quiescent_AdamRefIdeal (hAdamRefIdeal := hAdamRefIdeal)
    ∧ quiescent_Mat (hMat := hMat)
    ∧ quiescent_MatIdeal (hMatIdeal := hMatIdeal)
    ∧ quiescent_MatRefIdeal (hMatRefIdeal := hMatRefIdeal)
    ∧ preserves_Ple_PleIdeal
    ∧ algebraic_PleIdeal_PleRefIdeal (hPleIdeal := hPleIdeal) (hPleRefIdeal := hPleRefIdeal)
    ∧ preserves_Loss_LossIdeal
    ∧ algebraic_LossIdeal_LossRefIdeal_pre_loss_finite (hLossIdeal := hLossIdeal) (hLossRefIdeal := hLossRefIdeal) (hPre_loss_finite := hPre_loss_finite)
    ∧ preserves_NormGate_NormGateIdeal
    ∧ algebraic_NormGateIdeal_NormGateRefIdeal_pre_normgate_finite (hNormGateIdeal := hNormGateIdeal) (hNormGateRefIdeal := hNormGateRefIdeal) (hPre_normgate_finite := hPre_normgate_finite)
    ∧ preserves_NormQkv_NormQkvIdeal
    ∧ algebraic_NormQkvIdeal_NormQkvRefIdeal_pre_normqkv_finite (hNormQkvIdeal := hNormQkvIdeal) (hNormQkvRefIdeal := hNormQkvRefIdeal) (hPre_normqkv_finite := hPre_normqkv_finite)
    ∧ preserves_NormProj_NormProjIdeal
    ∧ algebraic_NormProjIdeal_NormProjRefIdeal_pre_normproj_finite (hNormProjIdeal := hNormProjIdeal) (hNormProjRefIdeal := hNormProjRefIdeal) (hPre_normproj_finite := hPre_normproj_finite)
    ∧ preserves_NormUp_NormUpIdeal
    ∧ algebraic_NormUpIdeal_NormUpRefIdeal_pre_normup_finite (hNormUpIdeal := hNormUpIdeal) (hNormUpRefIdeal := hNormUpRefIdeal) (hPre_normup_finite := hPre_normup_finite)
    ∧ preserves_Swa_SwaIdeal
    ∧ algebraic_SwaIdeal_SwaRefIdeal_pre_swa_finite (hSwaIdeal := hSwaIdeal) (hSwaRefIdeal := hSwaRefIdeal) (hPre_swa_finite := hPre_swa_finite)
    ∧ preserves_SwaFwd_SwaFwdIdeal
    ∧ algebraic_SwaFwdIdeal_SwaFwdRefIdeal_pre_swafwd_finite (hSwaFwdIdeal := hSwaFwdIdeal) (hSwaFwdRefIdeal := hSwaFwdRefIdeal) (hPre_swafwd_finite := hPre_swafwd_finite)
    ∧ preserves_RmsFwd_RmsFwdIdeal
    ∧ algebraic_RmsFwdIdeal_RmsFwdRefIdeal (hRmsFwdIdeal := hRmsFwdIdeal) (hRmsFwdRefIdeal := hRmsFwdRefIdeal)
    ∧ preserves_ResFwd_ResFwdIdeal
    ∧ algebraic_ResFwdIdeal_ResFwdRefIdeal (hResFwdIdeal := hResFwdIdeal) (hResFwdRefIdeal := hResFwdRefIdeal)
    ∧ preserves_GateFwd_GateFwdIdeal
    ∧ algebraic_GateFwdIdeal_GateFwdRefIdeal (hGateFwdIdeal := hGateFwdIdeal) (hGateFwdRefIdeal := hGateFwdRefIdeal)
    ∧ preserves_GateLast_GateLastIdeal
    ∧ algebraic_GateLastIdeal_GateLastRefIdeal (hGateLastIdeal := hGateLastIdeal) (hGateLastRefIdeal := hGateLastRefIdeal)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_Up_UpIdeal
    ∧ algebraic_UpIdeal_UpRefIdeal (hUpIdeal := hUpIdeal) (hUpRefIdeal := hUpRefIdeal)
    ∧ preserves_Sum_SumIdeal
    ∧ algebraic_SumIdeal_SumRefIdeal (hSumIdeal := hSumIdeal) (hSumRefIdeal := hSumRefIdeal)
    ∧ preserves_Adam_AdamIdeal
    ∧ algebraic_AdamIdeal_AdamRefIdeal (hAdamIdeal := hAdamIdeal) (hAdamRefIdeal := hAdamRefIdeal)
    ∧ preserves_Mat_MatIdeal
    ∧ algebraic_MatIdeal_MatRefIdeal (hMatIdeal := hMatIdeal) (hMatRefIdeal := hMatRefIdeal)
-- ==== Pre_ffn_finite.lean ====
abbrev S4096x5632 : Shape := ⟨2, ![4096, 5632]⟩
abbrev S3x5632 : Shape := ⟨2, ![3, 5632]⟩
abbrev S2816x1024 : Shape := ⟨2, ![2816, 1024]⟩
abbrev S4096x1024 : Shape := ⟨2, ![4096, 1024]⟩
abbrev S_ : Shape := ⟨0, ![]⟩

class Facts : Prop where
  bcast_S_S4096x5632 : S_.BroadcastsInDim S4096x5632 (![] : Fin 0 → Fin S4096x5632.rank)
  reducesTo_S4096x5632_S_d0_1 : S4096x5632.ReducesTo [0, 1] S_
  h_S_ : 0 < S_.numel
  bcast_S_S3x5632 : S_.BroadcastsInDim S3x5632 (![] : Fin 0 → Fin S3x5632.rank)
  reducesTo_S3x5632_S_d0_1 : S3x5632.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S4096x5632 .f32) (main_arg1 : FVec F S3x5632 .f32) (main_arg2 : FVec F S2816x1024 .f32) (main_arg3 : FVec F S4096x1024 .f32) : IVec S_ 1 :=
  let main_v0 : FVec F S4096x5632 .f32 := Host.absf main_arg0
  let main_cst : FVec F S_ .f32 := constant S_ .f32 0x7F800000#32
  let main_v1 : FVec F S4096x5632 .f32 := broadcastInDim S4096x5632 ![] bcast_S_S4096x5632 main_cst
  let main_v2 : IVec S4096x5632 1 := cmpf .olt main_v0 main_v1
  let main_c : IVec S_ 1 := constantI S_ 1 1#1
  let main_v3 : IVec S_ 1 := (fun x v => Host.reduce IntOp.andi x v reducesTo_S4096x5632_S_d0_1 h_S_) main_v2 main_c
  let main_v4 : FVec F S3x5632 .f32 := Host.absf main_arg1
  let main_cst_0 : FVec F S_ .f32 := constant S_ .f32 0x7F800000#32
  let main_v5 : FVec F S3x5632 .f32 := broadcastInDim S3x5632 ![] bcast_S_S3x5632 main_cst_0
  let main_v6 : IVec S3x5632 1 := cmpf .olt main_v4 main_v5
  let main_c_1 : IVec S_ 1 := constantI S_ 1 1#1
  let main_v7 : IVec S_ 1 := (fun x v => Host.reduce IntOp.andi x v reducesTo_S3x5632_S_d0_1 h_S_) main_v6 main_c_1
  let main_v8 : FVec F S2816x1024 .f32 := Host.absf main_arg2
  let main_cst_2 : FVec F S_ .f32 := constant S_ .f32 0x7F800000#32
  let main_v9 : FVec F S2816x1024 .f32 := broadcastInDim S2816x1024 ![] bcast_S_S2816x1024 main_cst_2
  let main_v10 : IVec S2816x1024 1 := cmpf .olt main_v8 main_v9
  let main_c_3 : IVec S_ 1 := constantI S_ 1 1#1
  let main_v11 : IVec S_ 1 := (fun x v => Host.reduce IntOp.andi x v reducesTo_S2816x1024_S_d0_1 h_S_) main_v10 main_c_3
  let main_v12 : FVec F S4096x1024 .f32 := Host.absf main_arg3
  let main_cst_4 : FVec F S_ .f32 := constant S_ .f32 0x7F800000#32
  let main_v13 : FVec F S4096x1024 .f32 := broadcastInDim S4096x1024 ![] bcast_S_S4096x1024 main_cst_4
  let main_v14 : IVec S4096x1024 1 := cmpf .olt main_v12 main_v13
  let main_c_5 : IVec S_ 1 := constantI S_ 1 1#1
  let main_v15 : IVec S_ 1 := (fun x v => Host.reduce IntOp.andi x v reducesTo_S4096x1024_S_d0_1 h_S_) main_v14 main_c_5
  fn_part1 (F := F) main_v3 main_v7 main_v11 main_v15
-- ==== Pre_loss_finite.lean ====
abbrev S4096x1024 : Shape := ⟨2, ![4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S4096x1024 .f32) (main_arg1 : FVec F S1024 .f32) (main_arg2 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S4096x1024 .f32 := Host.absf main_arg2
  let main_cst_2 : FVec F S_ .f32 := constant S_ .f32 0x7F800000#32
  let main_v9 : FVec F S4096x1024 .f32 := broadcastInDim S4096x1024 ![] bcast_S_S4096x1024 main_cst_2
  let main_v10 : IVec S4096x1024 1 := cmpf .olt main_v8 main_v9
  let main_c_3 : IVec S_ 1 := constantI S_ 1 1#1
  let main_v11 : IVec S_ 1 := (fun x v => Host.reduce IntOp.andi x v reducesTo_S4096x1024_S_d0_1 h_S_) main_v10 main_c_3
  let main_v12 : IVec S_ 1 := andi main_v3 main_v7
  let main_v13 : IVec S_ 1 := andi main_v12 main_v11
  main_v13
-- ==== Pre_normgate_finite.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v4 : IVec S_ 1) (main_v8 : IVec S_ 1) (main_v12 : IVec S_ 1) (main_v15 : IVec S1024 1) (main_c_5 : IVec S_ 1) : IVec S_ 1 :=
  let main_v16 : IVec S_ 1 := (fun x v => Host.reduce IntOp.andi x v reducesTo_S1024_S_d0 h_S_) main_v15 main_c_5
  let main_v17 : IVec S_ 1 := andi main_v4 main_v8
  let main_v18 : IVec S_ 1 := andi main_v17 main_v12
  let main_v19 : IVec S_ 1 := andi main_v18 main_v16
  main_v19

def fn {F : FTy → Type} [FloatOps F] (main_arg0 : FVec F S4096x1024 .bf16) (main_arg1 : FVec F S1024x1024 .f32) (main_arg2 : FVec F S4096x1024 .f32) (main_arg3 : FVec F S4096x1024 .f32) (main_arg4 : FVec F S1024 .f32) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S1024x1024 .f32 := Host.absf main_arg1
  let main_cst_0 : FVec F S_ .f32 := constant S_ .f32 0x7F800000#32
  let main_v6 : FVec F S1024x1024 .f32 := broadcastInDim S1024x1024 ![] bcast_S_S1024x1024 main_cst_0
  let main_v7 : IVec S1024x1024 1 := cmpf .olt main_v5 main_v6
  let main_c_1 : IVec S_ 1 := constantI S_ 1 1#1
  let main_v8 : IVec S_ 1 := (fun x v => Host.reduce IntOp.andi x v reducesTo_S1024x1024_S_d0_1 h_S_) main_v7 main_c_1
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : FVec F S1024 .f32 := Host.absf main_arg4
  let main_cst_4 : FVec F S_ .f32 := constant S_ .f32 0x7F800000#32
  let main_v14 : FVec F S1024 .f32 := broadcastInDim S1024 ![] bcast_S_S1024 main_cst_4
  let main_v15 : IVec S1024 1 := cmpf .olt main_v13 main_v14
  let main_c_5 : IVec S_ 1 := constantI S_ 1 1#1
  fn_part1 (F := F) main_v4 main_v8 main_v12 main_v15 main_c_5
-- ==== Pre_normproj_finite.lean ====
abbrev S4096x4224 : Shape := ⟨2, ![4096, 4224]⟩
abbrev S1024x4112 : Shape := ⟨2, ![1024, 4112]⟩
abbrev S4096x1024 : Shape := ⟨2, ![4096, 1024]⟩
abbrev S1024 : Shape := ⟨1, ![1024]⟩
abbrev S_ : Shape := ⟨0, ![]⟩

class Facts : Prop where
  bitsLt_bf16_f32 : FTy.bits .bf16 < FTy.bits .f32
  bcast_S_S4096x4224 : S_.BroadcastsInDim S4096x4224 (![] : Fin 0 → Fin S4096x4224.rank)
  reducesTo_S4096x4224_S_d0_1 : S4096x4224.ReducesTo [0, 1] S_
  h_S_ : 0 < S_.numel
  bcast_S_S1024x4112 : S_.BroadcastsInDim S1024x4112 (![] : Fin 0 → Fin S1024x4112.rank)
  reducesTo_S1024x4112_S_d0_1 : S1024x4112.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v4 : IVec S_ 1) (main_v8 : IVec S_ 1) (main_v12 : IVec S_ 1) (main_v15 : IVec S1024 1) (main_c_5 : IVec S_ 1) : IVec S_ 1 :=
  let main_v16 : IVec S_ 1 := (fun x v => Host.reduce IntOp.andi x v reducesTo_S1024_S_d0 h_S_) main_v15 main_c_5
  let main_v17 : IVec S_ 1 := andi main_v4 main_v8
  let main_v18 : IVec S_ 1 := andi main_v17 main_v12
  let main_v19 : IVec S_ 1 := andi main_v18 main_v16
  main_v19

def fn {F : FTy → Type} [FloatOps F] (main_arg0 : FVec F S4096x4224 .bf16) (main_arg1 : FVec F S1024x4112 .f32) (main_arg2 : FVec F S4096x1024 .f32) (main_arg3 : FVec F S4096x1024 .f32) (main_arg4 : FVec F S1024 .f32) : IVec S_ 1 :=
  let main_v0 : FVec F S4096x4224 .f32 := (extf .f32 · bitsLt_bf16_f32) main_arg0
  let main_v1 : FVec F S4096x4224 .f32 := Host.absf main_v0
  let main_cst : FVec F S_ .f32 := constant S_ .f32 0x7F800000#32
  let main_v2 : FVec F S4096x4224 .f32 := broadcastInDim S4096x4224 ![] bcast_S_S4096x4224 main_cst
  let main_v3 : IVec S4096x4224 1 := cmpf .olt main_v1 main_v2
  let main_c : IVec S_ 1 := constantI S_ 1 1#1
  let main_v4 : IVec S_ 1 := (fun x v => Host.reduce IntOp.andi x v reducesTo_S4096x4224_S_d0_1 h_S_) main_v3 main_c
  let main_v5 : FVec F S1024x4112 .f32 := Host.absf main_arg1
  let main_cst_0 : FVec F S_ .f32 := constant S_ .f32 0x7F800000#32
  let main_v6 : FVec F S1024x4112 .f32 := broadcastInDim S1024x4112 ![] bcast_S_S1024x4112 main_cst_0
  let main_v7 : IVec S1024x4112 1 := cmpf .olt main_v5 main_v6
  let main_c_1 : IVec S_ 1 := constantI S_ 1 1#1
  let main_v8 : IVec S_ 1 := (fun x v => Host.reduce IntOp.andi x v reducesTo_S1024x4112_S_d0_1 h_S_) main_v7 main_c_1
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : FVec F S1024 .f32 := Host.absf main_arg4
  let main_cst_4 : FVec F S_ .f32 := constant S_ .f32 0x7F800000#32
  let main_v14 : FVec F S1024 .f32 := broadcastInDim S1024 ![] bcast_S_S1024 main_cst_4
  let main_v15 : IVec S1024 1 := cmpf .olt main_v13 main_v14
  let main_c_5 : IVec S_ 1 := constantI S_ 1 1#1
  fn_part1 (F := F) main_v4 main_v8 main_v12 main_v15 main_c_5
-- ==== Pre_normqkv_finite.lean ====
abbrev S4096x1536 : Shape := ⟨2, ![4096, 1536]⟩
abbrev S1024x1536 : Shape := ⟨2, ![1024, 1536]⟩
abbrev S4096x1024 : Shape := ⟨2, ![4096, 1024]⟩
abbrev S1024 : Shape := ⟨1, ![1024]⟩
abbrev S_ : Shape := ⟨0, ![]⟩

class Facts : Prop where
  bitsLt_bf16_f32 : FTy.bits .bf16 < FTy.bits .f32
  bcast_S_S4096x1536 : S_.BroadcastsInDim S4096x1536 (![] : Fin 0 → Fin S4096x1536.rank)
  reducesTo_S4096x1536_S_d0_1 : S4096x1536.ReducesTo [0, 1] S_
  h_S_ : 0 < S_.numel
  bcast_S_S1024x1536 : S_.BroadcastsInDim S1024x1536 (![] : Fin 0 → Fin S1024x1536.rank)
  reducesTo_S1024x1536_S_d0_1 : S1024x1536.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v4 : IVec S_ 1) (main_v8 : IVec S_ 1) (main_v12 : IVec S_ 1) (main_v15 : IVec S1024 1) (main_c_5 : IVec S_ 1) : IVec S_ 1 :=
  let main_v16 : IVec S_ 1 := (fun x v => Host.reduce IntOp.andi x v reducesTo_S1024_S_d0 h_S_) main_v15 main_c_5
  let main_v17 : IVec S_ 1 := andi main_v4 main_v8
  let main_v18 : IVec S_ 1 := andi main_v17 main_v12
  let main_v19 : IVec S_ 1 := andi main_v18 main_v16
  main_v19

def fn {F : FTy → Type} [FloatOps F] (main_arg0 : FVec F S4096x1536 .bf16) (main_arg1 : FVec F S1024x1536 .f32) (main_arg2 : FVec F S4096x1024 .f32) (main_arg3 : FVec F S4096x1024 .f32) (main_arg4 : FVec F S1024 .f32) : IVec S_ 1 :=
  let main_v0 : FVec F S4096x1536 .f32 := (extf .f32 · bitsLt_bf16_f32) main_arg0
  let main_v1 : FVec F S4096x1536 .f32 := Host.absf main_v0
  let main_cst : FVec F S_ .f32 := constant S_ .f32 0x7F800000#32
  let main_v2 : FVec F S4096x1536 .f32 := broadcastInDim S4096x1536 ![] bcast_S_S4096x1536 main_cst
  let main_v3 : IVec S4096x1536 1 := cmpf .olt main_v1 main_v2
  let main_c : IVec S_ 1 := constantI S_ 1 1#1
  let main_v4 : IVec S_ 1 := (fun x v => Host.reduce IntOp.andi x v reducesTo_S4096x1536_S_d0_1 h_S_) main_v3 main_c
  let main_v5 : FVec F S1024x1536 .f32 := Host.absf main_arg1
  let main_cst_0 : FVec F S_ .f32 := constant S_ .f32 0x7F800000#32
  let main_v6 : FVec F S1024x1536 .f32 := broadcastInDim S1024x1536 ![] bcast_S_S1024x1536 main_cst_0
  let main_v7 : IVec S1024x1536 1 := cmpf .olt main_v5 main_v6
  let main_c_1 : IVec S_ 1 := constantI S_ 1 1#1
  let main_v8 : IVec S_ 1 := (fun x v => Host.reduce IntOp.andi x v reducesTo_S1024x1536_S_d0_1 h_S_) main_v7 main_c_1
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : FVec F S1024 .f32 := Host.absf main_arg4
  let main_cst_4 : FVec F S_ .f32 := constant S_ .f32 0x7F800000#32
  let main_v14 : FVec F S1024 .f32 := broadcastInDim S1024 ![] bcast_S_S1024 main_cst_4
  let main_v15 : IVec S1024 1 := cmpf .olt main_v13 main_v14
  let main_c_5 : IVec S_ 1 := constantI S_ 1 1#1
  fn_part1 (F := F) main_v4 main_v8 main_v12 main_v15 main_c_5
-- ==== Pre_normup_finite.lean ====
abbrev S2x4096x2816 : Shape := ⟨3, ![2, 4096, 2816]⟩
abbrev S1024x5632 : Shape := ⟨2, ![1024, 5632]⟩
abbrev S4096x1024 : Shape := ⟨2, ![4096, 1024]⟩
abbrev S1024 : Shape := ⟨1, ![1024]⟩
abbrev S_ : Shape := ⟨0, ![]⟩

class Facts : Prop where
  bitsLt_bf16_f32 : FTy.bits .bf16 < FTy.bits .f32
  bcast_S_S2x4096x2816 : S_.BroadcastsInDim S2x4096x2816 (![] : Fin 0 → Fin S2x4096x2816.rank)
  reducesTo_S2x4096x2816_S_d0_1_2 : S2x4096x2816.ReducesTo [0, 1, 2] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v4 : IVec S_ 1) (main_v8 : IVec S_ 1) (main_v12 : IVec S_ 1) (main_v15 : IVec S1024 1) (main_c_5 : IVec S_ 1) : IVec S_ 1 :=
  let main_v16 : IVec S_ 1 := (fun x v => Host.reduce IntOp.andi x v reducesTo_S1024_S_d0 h_S_) main_v15 main_c_5
  let main_v17 : IVec S_ 1 := andi main_v4 main_v8
  let main_v18 : IVec S_ 1 := andi main_v17 main_v12
  let main_v19 : IVec S_ 1 := andi main_v18 main_v16
  main_v19

def fn {F : FTy → Type} [FloatOps F] (main_arg0 : FVec F S2x4096x2816 .bf16) (main_arg1 : FVec F S1024x5632 .f32) (main_arg2 : FVec F S4096x1024 .f32) (main_arg3 : FVec F S4096x1024 .f32) (main_arg4 : FVec F S1024 .f32) : IVec S_ 1 :=
  let main_v0 : FVec F S2x4096x2816 .f32 := (extf .f32 · bitsLt_bf16_f32) main_arg0
  let main_v1 : FVec F S2x4096x2816 .f32 := Host.absf main_v0
  let main_cst : FVec F S_ .f32 := constant S_ .f32 0x7F800000#32
  let main_v2 : FVec F S2x4096x2816 .f32 := broadcastInDim S2x4096x2816 ![] bcast_S_S2x4096x2816 main_cst
  let main_v3 : IVec S2x4096x2816 1 := cmpf .olt main_v1 main_v2
  let main_c : IVec S_ 1 := constantI S_ 1 1#1
  let main_v4 : IVec S_ 1 := (fun x v => Host.reduce IntOp.andi x v reducesTo_S2x4096x2816_S_d0_1_2 h_S_) main_v3 main_c
  let main_v5 : FVec F S1024x5632 .f32 := Host.absf main_arg1
  let main_cst_0 : FVec F S_ .f32 := constant S_ .f32 0x7F800000#32
  let main_v6 : FVec F S1024x5632 .f32 := broadcastInDim S1024x5632 ![] bcast_S_S1024x5632 main_cst_0
  let main_v7 : IVec S1024x5632 1 := cmpf .olt main_v5 main_v6
  let main_c_1 : IVec S_ 1 := constantI S_ 1 1#1
  let main_v8 : IVec S_ 1 := (fun x v => Host.reduce IntOp.andi x v reducesTo_S1024x5632_S_d0_1 h_S_) main_v7 main_c_1
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : FVec F S1024 .f32 := Host.absf main_arg4
  let main_cst_4 : FVec F S_ .f32 := constant S_ .f32 0x7F800000#32
  let main_v14 : FVec F S1024 .f32 := broadcastInDim S1024 ![] bcast_S_S1024 main_cst_4
  let main_v15 : IVec S1024 1 := cmpf .olt main_v13 main_v14
  let main_c_5 : IVec S_ 1 := constantI S_ 1 1#1
  fn_part1 (F := F) main_v4 main_v8 main_v12 main_v15 main_c_5
-- ==== Pre_swa_finite.lean ====
abbrev S4096x1536 : Shape := ⟨2, ![4096, 1536]⟩
abbrev S1x16 : Shape := ⟨2, ![1, 16]⟩
abbrev S4096x1024 : Shape := ⟨2, ![4096, 1024]⟩
abbrev S_ : Shape := ⟨0, ![]⟩

class Facts : Prop where
  bitsLt_bf16_f32 : FTy.bits .bf16 < FTy.bits .f32
  bcast_S_S4096x1536 : S_.BroadcastsInDim S4096x1536 (![] : Fin 0 → Fin S4096x1536.rank)
  reducesTo_S4096x1536_S_d0_1 : S4096x1536.ReducesTo [0, 1] S_
  h_S_ : 0 < S_.numel
  bcast_S_S1x16 : S_.BroadcastsInDim S1x16 (![] : Fin 0 → Fin S1x16.rank)
  reducesTo_S1x16_S_d0_1 : S1x16.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S4096x1536 .f32) (main_arg1 : FVec F S1x16 .f32) (main_arg2 : FVec F S4096x1024 .bf16) : IVec S_ 1 :=
  let main_v0 : FVec F S4096x1024 .f32 := (extf .f32 · bitsLt_bf16_f32) main_arg2
  let main_v1 : FVec F S4096x1536 .f32 := Host.absf main_arg0
  let main_cst : FVec F S_ .f32 := constant S_ .f32 0x7F800000#32
  let main_v2 : FVec F S4096x1536 .f32 := broadcastInDim S4096x1536 ![] bcast_S_S4096x1536 main_cst
  let main_v3 : IVec S4096x1536 1 := cmpf .olt main_v1 main_v2
  let main_c : IVec S_ 1 := constantI S_ 1 1#1
  let main_v4 : IVec S_ 1 := (fun x v => Host.reduce IntOp.andi x v reducesTo_S4096x1536_S_d0_1 h_S_) main_v3 main_c
  let main_v5 : FVec F S1x16 .f32 := Host.absf main_arg1
  let main_cst_0 : FVec F S_ .f32 := constant S_ .f32 0x7F800000#32
  let main_v6 : FVec F S1x16 .f32 := broadcastInDim S1x16 ![] bcast_S_S1x16 main_cst_0
  let main_v7 : IVec S1x16 1 := cmpf .olt main_v5 main_v6
  let main_c_1 : IVec S_ 1 := constantI S_ 1 1#1
  let main_v8 : IVec S_ 1 := (fun x v => Host.reduce IntOp.andi x v reducesTo_S1x16_S_d0_1 h_S_) main_v7 main_c_1
  let main_v9 : FVec F S4096x1024 .f32 := Host.absf main_v0
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v4 main_v8
  let main_v14 : IVec S_ 1 := andi main_v13 main_v12
  main_v14
-- ==== Pre_swafwd_finite.lean ====
abbrev S4096x1536 : Shape := ⟨2, ![4096, 1536]⟩
abbrev S1x16 : Shape := ⟨2, ![1, 16]⟩
abbrev S_ : Shape := ⟨0, ![]⟩

class Facts : Prop where
  bcast_S_S4096x1536 : S_.BroadcastsInDim S4096x1536 (![] : Fin 0 → Fin S4096x1536.rank)
  reducesTo_S4096x1536_S_d0_1 : S4096x1536.ReducesTo [0, 1] S_
  h_S_ : 0 < S_.numel
  bcast_S_S1x16 : S_.BroadcastsInDim S1x16 (![] : Fin 0 → Fin S1x16.rank)
  reducesTo_S1x16_S_d0_1 : S1x16.ReducesTo [0, 1] S_

variable [Facts]

def fn {F : FTy → Type} [FloatOps F] (main_arg0 : FVec F S4096x1536 .f32) (main_arg1 : FVec F S1x16 .f32) : IVec S_ 1 :=
  let main_v0 : FVec F S4096x1536 .f32 := Host.absf main_arg0
  let main_cst : FVec F S_ .f32 := constant S_ .f32 0x7F800000#32
  let main_v1 : FVec F S4096x1536 .f32 := broadcastInDim S4096x1536 ![] bcast_S_S4096x1536 main_cst
  let main_v2 : IVec S4096x1536 1 := cmpf .olt main_v0 main_v1
  let main_c : IVec S_ 1 := constantI S_ 1 1#1
  let main_v3 : IVec S_ 1 := (fun x v => Host.reduce IntOp.andi x v reducesTo_S4096x1536_S_d0_1 h_S_) main_v2 main_c
  let main_v4 : FVec F S1x16 .f32 := Host.absf main_arg1
  let main_cst_0 : FVec F S_ .f32 := constant S_ .f32 0x7F800000#32
  let main_v5 : FVec F S1x16 .f32 := broadcastInDim S1x16 ![] bcast_S_S1x16 main_cst_0
  let main_v6 : IVec S1x16 1 := cmpf .olt main_v4 main_v5
  let main_c_1 : IVec S_ 1 := constantI S_ 1 1#1
  let main_v7 : IVec S_ 1 := (fun x v => Host.reduce IntOp.andi x v reducesTo_S1x16_S_d0_1 h_S_) main_v6 main_c_1
  let main_v8 : IVec S_ 1 := andi main_v3 main_v7
  main_v8
-- ==== Ple.lean ====
abbrev S4096x1024 : Shape := ⟨2, ![4096, 1024]⟩
abbrev S512x1024 : Shape := ⟨2, ![512, 1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .bf16⟩
  | .hbm, ⟨5, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PleIdeal.lean ====
abbrev S4096x1024 : Shape := ⟨2, ![4096, 1024]⟩
abbrev S512x1024 : Shape := ⟨2, ![512, 1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .bf16⟩
  | .hbm, ⟨5, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PleRefIdeal.lean ====
abbrev S4096x1024 : Shape := ⟨2, ![4096, 1024]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .bf16⟩
  | .hbm, ⟨22, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Loss.lean ====
abbrev S4096x1024 : Shape := ⟨2, ![4096, 1024]⟩
abbrev S1024 : Shape := ⟨1, ![1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 7
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S1x128, .f32⟩
  | .hbm, ⟨5, _⟩ => ⟨S4096x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v46 : BitVec 1 := Scalar.cmpi .eq arg0 c0_i32
  let v47 : BitVec 32 := Scalar.extui v46
  let c0_i32_18 : BitVec 32 := 0#32
  let v48 : BitVec 1 := Scalar.cmpi .ne v47 c0_i32_18
  v48

def k0_cond2 (i : grid0.Coords) : BitVec 1 :=
  let arg0 : BitVec 32 := BitVec.ofNat 32 (i 0).val
  let c0_i32_19 : BitVec 32 := 0#32
  let v49 : BitVec 1 := Scalar.cmpi .sgt arg0 c0_i32_19
  let v50 : BitVec 32 := Scalar.extui v49
  let c0_i32_20 : BitVec 32 := 0#32
  let v51 : BitVec 1 := Scalar.cmpi .ne v50 c0_i32_20
  v51

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S1x128, .f32⟩
  | .hbm, ⟨72, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== NormGate.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S32x1024 : Shape := ⟨2, ![32, 1024]⟩
abbrev S32 : Shape := ⟨1, ![32]⟩
abbrev S32x1 : Shape := ⟨2, ![32, 1]⟩

abbrev nBuf : Space → Nat
  | .hbm => 9
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S1024x1024, .bf16⟩
  | .hbm, ⟨6, _⟩ => ⟨S1x1024, .f32⟩
  | .hbm, ⟨7, _⟩ => ⟨S4096x1024, .f32⟩
  | .hbm, ⟨8, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let arg1 : BitVec 32 := BitVec.ofNat 32 (i 1).val
  let c0_i32 : BitVec 32 := 0#32
  let v7 : BitVec 1 := Scalar.cmpi .eq arg1 c0_i32
  let v8 : BitVec 32 := Scalar.extui v7
  let c0_i32_5 : BitVec 32 := 0#32
  let v9 : BitVec 1 := Scalar.cmpi .ne v8 c0_i32_5
  v9

def k0_cond2 (i : grid0.Coords) : BitVec 1 :=
  let arg0 : BitVec 32 := BitVec.ofNat 32 (i 0).val
  let c0_i32_6 : BitVec 32 := 0#32
  let v10 : BitVec 1 := Scalar.cmpi .eq arg0 c0_i32_6
  let v668 : BitVec 32 := Scalar.extui v10
  let c0_i32_377 : BitVec 32 := 0#32
  let v669 : BitVec 1 := Scalar.cmpi .ne v668 c0_i32_377
  v669

def k0_cond3 (i : grid0.Coords) : BitVec 1 :=
  let arg0 : BitVec 32 := BitVec.ofNat 32 (i 0).val
  let c0_i32_6 : BitVec 32 := 0#32
  let v10 : BitVec 1 := Scalar.cmpi .eq arg0 c0_i32_6
  let v_true : BitVec 1 := 1#1
  let v670 : BitVec 1 := Scalar.xori v10 v_true
  let v671 : BitVec 32 := Scalar.extui v670
  let c0_i32_378 : BitVec 32 := 0#32
  let v672 : BitVec 1 := Scalar.cmpi .ne v671 c0_i32_378
  v672

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== NormGateIdeal.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S32x1024 : Shape := ⟨2, ![32, 1024]⟩
abbrev S32 : Shape := ⟨1, ![32]⟩
abbrev S32x1 : Shape := ⟨2, ![32, 1]⟩

abbrev nBuf : Space → Nat
  | .hbm => 9
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S1024x1024, .bf16⟩
  | .hbm, ⟨6, _⟩ => ⟨S1x1024, .f32⟩
  | .hbm, ⟨7, _⟩ => ⟨S4096x1024, .f32⟩
  | .hbm, ⟨8, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let arg1 : BitVec 32 := BitVec.ofNat 32 (i 1).val
  let c0_i32 : BitVec 32 := 0#32
  let v7 : BitVec 1 := Scalar.cmpi .eq arg1 c0_i32
  let v8 : BitVec 32 := Scalar.extui v7
  let c0_i32_5 : BitVec 32 := 0#32
  let v9 : BitVec 1 := Scalar.cmpi .ne v8 c0_i32_5
  v9

def k0_cond2 (i : grid0.Coords) : BitVec 1 :=
  let arg0 : BitVec 32 := BitVec.ofNat 32 (i 0).val
  let c0_i32_6 : BitVec 32 := 0#32
  let v10 : BitVec 1 := Scalar.cmpi .eq arg0 c0_i32_6
  let v668 : BitVec 32 := Scalar.extui v10
  let c0_i32_377 : BitVec 32 := 0#32
  let v669 : BitVec 1 := Scalar.cmpi .ne v668 c0_i32_377
  v669

def k0_cond3 (i : grid0.Coords) : BitVec 1 :=
  let arg0 : BitVec 32 := BitVec.ofNat 32 (i 0).val
  let c0_i32_6 : BitVec 32 := 0#32
  let v10 : BitVec 1 := Scalar.cmpi .eq arg0 c0_i32_6
  let v_true : BitVec 1 := 1#1
  let v670 : BitVec 1 := Scalar.xori v10 v_true
  let v671 : BitVec 32 := Scalar.extui v670
  let c0_i32_378 : BitVec 32 := 0#32
  let v672 : BitVec 1 := Scalar.cmpi .ne v671 c0_i32_378
  v672

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== NormGateRefIdeal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S1x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== NormQkv.lean ====
abbrev S4096x1536 : Shape := ⟨2, ![4096, 1536]⟩
abbrev S1024x1536 : Shape := ⟨2, ![1024, 1536]⟩
abbrev S4096x1024 : Shape := ⟨2, ![4096, 1024]⟩
abbrev S1024 : Shape := ⟨1, ![1024]⟩
abbrev S1536x1024 : Shape := ⟨2, ![1536, 1024]⟩
abbrev S1x1024 : Shape := ⟨2, ![1, 1024]⟩
abbrev S512x1536 : Shape := ⟨2, ![512, 1536]⟩
abbrev S512x1024 : Shape := ⟨2, ![512, 1024]⟩
abbrev S32x1024 : Shape := ⟨2, ![32, 1024]⟩
abbrev S32 : Shape := ⟨1, ![32]⟩
abbrev S32x1 : Shape := ⟨2, ![32, 1]⟩

abbrev nBuf : Space → Nat
  | .hbm => 10
  | .vmem => 12
  | .smem => 0
  | _ => 0

abbrev bufTy : (tb : Table) → Fin (tcTables nBuf tb) → BufTy
  | .hbm, ⟨0, _⟩ => ⟨S4096x1536, .bf16⟩
  | .hbm, ⟨1, _⟩ => ⟨S1024x1536, .f32⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S1536x1024, .f32⟩
  | .hbm, ⟨6, _⟩ => ⟨S1536x1024, .bf16⟩
  | .hbm, ⟨7, _⟩ => ⟨S1x1024, .f32⟩
  | .hbm, ⟨8, _⟩ => ⟨S4096x1024, .f32⟩
  | .hbm, ⟨9, _⟩ => ⟨S1x1024, .f32⟩
  | .local _ .vmem, ⟨0, _⟩ => ⟨S512x1536, .bf16⟩
  | .local _ .vmem, ⟨1, _⟩ => ⟨S512x1536, .bf16⟩
  | .local _ .vmem, ⟨2, _⟩ => ⟨S1536x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let arg1 : BitVec 32 := BitVec.ofNat 32 (i 1).val
  let c0_i32 : BitVec 32 := 0#32
  let v7 : BitVec 1 := Scalar.cmpi .eq arg1 c0_i32
  let v8 : BitVec 32 := Scalar.extui v7
  let c0_i32_5 : BitVec 32 := 0#32
  let v9 : BitVec 1 := Scalar.cmpi .ne v8 c0_i32_5
  v9

def k0_cond2 (i : grid0.Coords) : BitVec 1 :=
  let arg0 : BitVec 32 := BitVec.ofNat 32 (i 0).val
  let c0_i32_6 : BitVec 32 := 0#32
  let v10 : BitVec 1 := Scalar.cmpi .eq arg0 c0_i32_6
  let v668 : BitVec 32 := Scalar.extui v10
  let c0_i32_377 : BitVec 32 := 0#32
  let v669 : BitVec 1 := Scalar.cmpi .ne v668 c0_i32_377
  v669

def k0_cond3 (i : grid0.Coords) : BitVec 1 :=
  let arg0 : BitVec 32 := BitVec.ofNat 32 (i 0).val
  let c0_i32_6 : BitVec 32 := 0#32
  let v10 : BitVec 1 := Scalar.cmpi .eq arg0 c0_i32_6
  let v_true : BitVec 1 := 1#1
  let v670 : BitVec 1 := Scalar.xori v10 v_true
  let v671 : BitVec 32 := Scalar.extui v670
  let c0_i32_378 : BitVec 32 := 0#32
  let v672 : BitVec 1 := Scalar.cmpi .ne v671 c0_i32_378
  v672

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== NormQkvIdeal.lean ====
abbrev S4096x1536 : Shape := ⟨2, ![4096, 1536]⟩
abbrev S1024x1536 : Shape := ⟨2, ![1024, 1536]⟩
abbrev S4096x1024 : Shape := ⟨2, ![4096, 1024]⟩
abbrev S1024 : Shape := ⟨1, ![1024]⟩
abbrev S1536x1024 : Shape := ⟨2, ![1536, 1024]⟩
abbrev S1x1024 : Shape := ⟨2, ![1, 1024]⟩
abbrev S512x1536 : Shape := ⟨2, ![512, 1536]⟩
abbrev S512x1024 : Shape := ⟨2, ![512, 1024]⟩
abbrev S32x1024 : Shape := ⟨2, ![32, 1024]⟩
abbrev S32 : Shape := ⟨1, ![32]⟩
abbrev S32x1 : Shape := ⟨2, ![32, 1]⟩

abbrev nBuf : Space → Nat
  | .hbm => 10
  | .vmem => 12
  | .smem => 0
  | _ => 0

abbrev bufTy : (tb : Table) → Fin (tcTables nBuf tb) → BufTy
  | .hbm, ⟨0, _⟩ => ⟨S4096x1536, .bf16⟩
  | .hbm, ⟨1, _⟩ => ⟨S1024x1536, .f32⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S1536x1024, .f32⟩
  | .hbm, ⟨6, _⟩ => ⟨S1536x1024, .bf16⟩
  | .hbm, ⟨7, _⟩ => ⟨S1x1024, .f32⟩
  | .hbm, ⟨8, _⟩ => ⟨S4096x1024, .f32⟩
  | .hbm, ⟨9, _⟩ => ⟨S1x1024, .f32⟩
  | .local _ .vmem, ⟨0, _⟩ => ⟨S512x1536, .bf16⟩
  | .local _ .vmem, ⟨1, _⟩ => ⟨S512x1536, .bf16⟩
  | .local _ .vmem, ⟨2, _⟩ => ⟨S1536x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let arg1 : BitVec 32 := BitVec.ofNat 32 (i 1).val
  let c0_i32 : BitVec 32 := 0#32
  let v7 : BitVec 1 := Scalar.cmpi .eq arg1 c0_i32
  let v8 : BitVec 32 := Scalar.extui v7
  let c0_i32_5 : BitVec 32 := 0#32
  let v9 : BitVec 1 := Scalar.cmpi .ne v8 c0_i32_5
  v9

def k0_cond2 (i : grid0.Coords) : BitVec 1 :=
  let arg0 : BitVec 32 := BitVec.ofNat 32 (i 0).val
  let c0_i32_6 : BitVec 32 := 0#32
  let v10 : BitVec 1 := Scalar.cmpi .eq arg0 c0_i32_6
  let v668 : BitVec 32 := Scalar.extui v10
  let c0_i32_377 : BitVec 32 := 0#32
  let v669 : BitVec 1 := Scalar.cmpi .ne v668 c0_i32_377
  v669

def k0_cond3 (i : grid0.Coords) : BitVec 1 :=
  let arg0 : BitVec 32 := BitVec.ofNat 32 (i 0).val
  let c0_i32_6 : BitVec 32 := 0#32
  let v10 : BitVec 1 := Scalar.cmpi .eq arg0 c0_i32_6
  let v_true : BitVec 1 := 1#1
  let v670 : BitVec 1 := Scalar.xori v10 v_true
  let v671 : BitVec 32 := Scalar.extui v670
  let c0_i32_378 : BitVec 32 := 0#32
  let v672 : BitVec 1 := Scalar.cmpi .ne v671 c0_i32_378
  v672

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== NormQkvRefIdeal.lean ====
abbrev S4096x1536 : Shape := ⟨2, ![4096, 1536]⟩
abbrev S1024x1536 : Shape := ⟨2, ![1024, 1536]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S1024x1536, .f32⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1536, .f32⟩
  | .hbm, ⟨26, _⟩ => ⟨S4096x1536, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S1x1024, .f32⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== NormProj.lean ====
abbrev S4096x4224 : Shape := ⟨2, ![4096, 4224]⟩
abbrev S1024x4112 : Shape := ⟨2, ![1024, 4112]⟩
abbrev S4096x1024 : Shape := ⟨2, ![4096, 1024]⟩
abbrev S1024 : Shape := ⟨1, ![1024]⟩
abbrev S4112x1024 : Shape := ⟨2, ![4112, 1024]⟩
abbrev S_ : Shape := ⟨0, ![]⟩
abbrev S4224x1024 : Shape := ⟨2, ![4224, 1024]⟩
abbrev S1x1024 : Shape := ⟨2, ![1, 1024]⟩
abbrev S512x1408 : Shape := ⟨2, ![512, 1408]⟩
abbrev S1408x1024 : Shape := ⟨2, ![1408, 1024]⟩
abbrev S512x1024 : Shape := ⟨2, ![512, 1024]⟩
abbrev S32x1024 : Shape := ⟨2, ![32, 1024]⟩
abbrev S32 : Shape := ⟨1, ![32]⟩
abbrev S32x1 : Shape := ⟨2, ![32, 1]⟩

abbrev nBuf : Space → Nat
  | .hbm => 13
  | .vmem => 13
  | .smem => 0
  | _ => 0

abbrev bufTy : (tb : Table) → Fin (tcTables nBuf tb) → BufTy
  | .hbm, ⟨0, _⟩ => ⟨S4096x4224, .bf16⟩
  | .hbm, ⟨1, _⟩ => ⟨S1024x4112, .f32⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S4112x1024, .f32⟩
  | .hbm, ⟨6, _⟩ => ⟨S_, .i32⟩
  | .hbm, ⟨7, _⟩ => ⟨S_, .f32⟩
  | .hbm, ⟨8, _⟩ => ⟨S4224x1024, .f32⟩
  | .hbm, ⟨9, _⟩ => ⟨S4224x1024, .bf16⟩
  | .hbm, ⟨10, _⟩ => ⟨S1x1024, .f32⟩
  | .hbm, ⟨11, _⟩ => ⟨S4096x1024, .f32⟩
  | .hbm, ⟨12, _⟩ => ⟨S1x1024, .f32⟩
  | .local _ .vmem, ⟨0, _⟩ => ⟨S512x1408, .bf16⟩
  | .local _ .vmem, ⟨1, _⟩ => ⟨S512x1408, .bf16⟩
  | .local _ .vmem, ⟨2, _⟩ => ⟨S1408x1024, .bf16⟩
  | .local _ .vmem, ⟨3, _⟩ => ⟨S1408x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | _, _ => ⟨S4096x4224, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 3], ![false, false]⟩

def k0_cond3 (i : grid0.Coords) : BitVec 1 :=
  let arg1 : BitVec 32 := BitVec.ofNat 32 (i 1).val
  let c2_i32 : BitVec 32 := 2#32
  let v10 : BitVec 1 := Scalar.cmpi .eq arg1 c2_i32
  let v11 : BitVec 32 := Scalar.extui v10
  let c0_i32_6 : BitVec 32 := 0#32
  let v12 : BitVec 1 := Scalar.cmpi .ne v11 c0_i32_6
  v12

def k0_cond4 (i : grid0.Coords) : BitVec 1 :=
  let arg0 : BitVec 32 := BitVec.ofNat 32 (i 0).val
  let c0_i32_7 : BitVec 32 := 0#32
  let v13 : BitVec 1 := Scalar.cmpi .eq arg0 c0_i32_7
  let v671 : BitVec 32 := Scalar.extui v13
  let c0_i32_378 : BitVec 32 := 0#32
  let v672 : BitVec 1 := Scalar.cmpi .ne v671 c0_i32_378
  v672

def k0_cond5 (i : grid0.Coords) : BitVec 1 :=
  let arg0 : BitVec 32 := BitVec.ofNat 32 (i 0).val
  let c0_i32_7 : BitVec 32 := 0#32
  let v13 : BitVec 1 := Scalar.cmpi .eq arg0 c0_i32_7
  let v_true : BitVec 1 := 1#1
  let v673 : BitVec 1 := Scalar.xori v13 v_true
  let v674 : BitVec 32 := Scalar.extui v673
  let c0_i32_379 : BitVec 32 := 0#32
  let v675 : BitVec 1 := Scalar.cmpi .ne v674 c0_i32_379
  v675

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg0.toNat, v9.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== NormProjIdeal.lean ====
abbrev S4096x4224 : Shape := ⟨2, ![4096, 4224]⟩
abbrev S1024x4112 : Shape := ⟨2, ![1024, 4112]⟩
abbrev S4096x1024 : Shape := ⟨2, ![4096, 1024]⟩
abbrev S1024 : Shape := ⟨1, ![1024]⟩
abbrev S4112x1024 : Shape := ⟨2, ![4112, 1024]⟩
abbrev S_ : Shape := ⟨0, ![]⟩
abbrev S4224x1024 : Shape := ⟨2, ![4224, 1024]⟩
abbrev S1x1024 : Shape := ⟨2, ![1, 1024]⟩
abbrev S512x1408 : Shape := ⟨2, ![512, 1408]⟩
abbrev S1408x1024 : Shape := ⟨2, ![1408, 1024]⟩
abbrev S512x1024 : Shape := ⟨2, ![512, 1024]⟩
abbrev S32x1024 : Shape := ⟨2, ![32, 1024]⟩
abbrev S32 : Shape := ⟨1, ![32]⟩
abbrev S32x1 : Shape := ⟨2, ![32, 1]⟩

abbrev nBuf : Space → Nat
  | .hbm => 13
  | .vmem => 13
  | .smem => 0
  | _ => 0

abbrev bufTy : (tb : Table) → Fin (tcTables nBuf tb) → BufTy
  | .hbm, ⟨0, _⟩ => ⟨S4096x4224, .bf16⟩
  | .hbm, ⟨1, _⟩ => ⟨S1024x4112, .f32⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S4112x1024, .f32⟩
  | .hbm, ⟨6, _⟩ => ⟨S_, .i32⟩
  | .hbm, ⟨7, _⟩ => ⟨S_, .f32⟩
  | .hbm, ⟨8, _⟩ => ⟨S4224x1024, .f32⟩
  | .hbm, ⟨9, _⟩ => ⟨S4224x1024, .bf16⟩
  | .hbm, ⟨10, _⟩ => ⟨S1x1024, .f32⟩
  | .hbm, ⟨11, _⟩ => ⟨S4096x1024, .f32⟩
  | .hbm, ⟨12, _⟩ => ⟨S1x1024, .f32⟩
  | .local _ .vmem, ⟨0, _⟩ => ⟨S512x1408, .bf16⟩
  | .local _ .vmem, ⟨1, _⟩ => ⟨S512x1408, .bf16⟩
  | .local _ .vmem, ⟨2, _⟩ => ⟨S1408x1024, .bf16⟩
  | .local _ .vmem, ⟨3, _⟩ => ⟨S1408x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | _, _ => ⟨S4096x4224, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 3], ![false, false]⟩

def k0_cond3 (i : grid0.Coords) : BitVec 1 :=
  let arg1 : BitVec 32 := BitVec.ofNat 32 (i 1).val
  let c2_i32 : BitVec 32 := 2#32
  let v10 : BitVec 1 := Scalar.cmpi .eq arg1 c2_i32
  let v11 : BitVec 32 := Scalar.extui v10
  let c0_i32_6 : BitVec 32 := 0#32
  let v12 : BitVec 1 := Scalar.cmpi .ne v11 c0_i32_6
  v12

def k0_cond4 (i : grid0.Coords) : BitVec 1 :=
  let arg0 : BitVec 32 := BitVec.ofNat 32 (i 0).val
  let c0_i32_7 : BitVec 32 := 0#32
  let v13 : BitVec 1 := Scalar.cmpi .eq arg0 c0_i32_7
  let v671 : BitVec 32 := Scalar.extui v13
  let c0_i32_378 : BitVec 32 := 0#32
  let v672 : BitVec 1 := Scalar.cmpi .ne v671 c0_i32_378
  v672

def k0_cond5 (i : grid0.Coords) : BitVec 1 :=
  let arg0 : BitVec 32 := BitVec.ofNat 32 (i 0).val
  let c0_i32_7 : BitVec 32 := 0#32
  let v13 : BitVec 1 := Scalar.cmpi .eq arg0 c0_i32_7
  let v_true : BitVec 1 := 1#1
  let v673 : BitVec 1 := Scalar.xori v13 v_true
  let v674 : BitVec 32 := Scalar.extui v673
  let c0_i32_379 : BitVec 32 := 0#32
  let v675 : BitVec 1 := Scalar.cmpi .ne v674 c0_i32_379
  v675

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg0.toNat, v9.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== NormProjRefIdeal.lean ====
abbrev S4096x4224 : Shape := ⟨2, ![4096, 4224]⟩
abbrev S1024x4112 : Shape := ⟨2, ![1024, 4112]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4112 : Shape := ⟨2, ![4096, 4112]⟩
abbrev S4096x112 : Shape := ⟨2, ![4096, 112]⟩

abbrev nBuf : Space → Nat
  | .hbm => 62
  | .vmem => 0
  | .smem => 0
  | _ => 0

abbrev bufTy : (tb : Table) → Fin (tcTables nBuf tb) → BufTy
  | .hbm, ⟨0, _⟩ => ⟨S4096x4224, .bf16⟩
  | .hbm, ⟨1, _⟩ => ⟨S1024x4112, .f32⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x4112, .f32⟩
  | .hbm, ⟨26, _⟩ => ⟨S_, .f32⟩
  | .hbm, ⟨27, _⟩ => ⟨S4096x112, .f32⟩
  | .hbm, ⟨28, _⟩ => ⟨S4096x4224, .f32⟩
  | .hbm, ⟨29, _⟩ => ⟨S_, .f32⟩
  | .hbm, ⟨30, _⟩ => ⟨S4096x112, .f32⟩
  | .hbm, ⟨31, _⟩ => ⟨S4096x4224, .f32⟩
  | .hbm, ⟨32, _⟩ => ⟨S4096x4112, .f32⟩
  | .hbm, ⟨33, _⟩ => ⟨S4096x112, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S1x1024, .f32⟩
  | _, _ => ⟨S4096x4224, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_v38 : Ref sig .tc := ⟨.hbm, 53, rfl⟩
abbrev main_cst_9 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]
-- ==== NormUp.lean ====
abbrev S2x4096x2816 : Shape := ⟨3, ![2, 4096, 2816]⟩
abbrev S1024x5632 : Shape := ⟨2, ![1024, 5632]⟩
abbrev S4096x1024 : Shape := ⟨2, ![4096, 1024]⟩
abbrev S1024 : Shape := ⟨1, ![1024]⟩
abbrev S5632x1024 : Shape := ⟨2, ![5632, 1024]⟩
abbrev S2x2816x1024 : Shape := ⟨3, ![2, 2816, 1024]⟩
abbrev S1x1024 : Shape := ⟨2, ![1, 1024]⟩
abbrev S1x512x2816 : Shape := ⟨3, ![1, 512, 2816]⟩
abbrev S1x2816x1024 : Shape := ⟨3, ![1, 2816, 1024]⟩
abbrev S512x1024 : Shape := ⟨2, ![512, 1024]⟩
abbrev S512x2816 : Shape := ⟨2, ![512, 2816]⟩
abbrev S2816x1024 : Shape := ⟨2, ![2816, 1024]⟩
abbrev S32x1024 : Shape := ⟨2, ![32, 1024]⟩
abbrev S32 : Shape := ⟨1, ![32]⟩
abbrev S32x1 : Shape := ⟨2, ![32, 1]⟩

abbrev nBuf : Space → Nat
  | .hbm => 11
  | .vmem => 13
  | .smem => 0
  | _ => 0

abbrev bufTy : (tb : Table) → Fin (tcTables nBuf tb) → BufTy
  | .hbm, ⟨0, _⟩ => ⟨S2x4096x2816, .bf16⟩
  | .hbm, ⟨1, _⟩ => ⟨S1024x5632, .f32⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S5632x1024, .f32⟩
  | .hbm, ⟨6, _⟩ => ⟨S2x2816x1024, .f32⟩
  | .hbm, ⟨7, _⟩ => ⟨S2x2816x1024, .bf16⟩
  | .hbm, ⟨8, _⟩ => ⟨S1x1024, .f32⟩
  | .hbm, ⟨9, _⟩ => ⟨S4096x1024, .f32⟩
  | .hbm, ⟨10, _⟩ => ⟨S1x1024, .f32⟩
  | .local _ .vmem, ⟨0, _⟩ => ⟨S1x512x2816, .bf16⟩
  | .local _ .vmem, ⟨1, _⟩ => ⟨S1x512x2816, .bf16⟩
  | .local _ .vmem, ⟨2, _⟩ => ⟨S1x2816x1024, .bf16⟩
  | .local _ .vmem, ⟨3, _⟩ => ⟨S1x2816x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 2], ![false, false]⟩

def k0_cond3 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_8 : BitVec 32 := 0#32
  let v13 : BitVec 1 := Scalar.cmpi .ne v12 c0_i32_8
  v13

def k0_cond4 (i : grid0.Coords) : BitVec 1 :=
  let arg0 : BitVec 32 := BitVec.ofNat 32 (i 0).val
  let c0_i32_9 : BitVec 32 := 0#32
  let v14 : BitVec 1 := Scalar.cmpi .eq arg0 c0_i32_9
  let v672 : BitVec 32 := Scalar.extui v14
  let c0_i32_380 : BitVec 32 := 0#32
  let v673 : BitVec 1 := Scalar.cmpi .ne v672 c0_i32_380
  v673

def k0_cond5 (i : grid0.Coords) : BitVec 1 :=
  let arg0 : BitVec 32 := BitVec.ofNat 32 (i 0).val
  let c0_i32_9 : BitVec 32 := 0#32
  let v14 : BitVec 1 := Scalar.cmpi .eq arg0 c0_i32_9
  let v_true : BitVec 1 := 1#1
  let v674 : BitVec 1 := Scalar.xori v14 v_true
  let v675 : BitVec 32 := Scalar.extui v674
  let c0_i32_381 : BitVec 32 := 0#32
  let v676 : BitVec 1 := Scalar.cmpi .ne v675 c0_i32_381
  v676

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, arg0.toNat, c0_i32_5.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== NormUpRefIdeal.lean ====
abbrev S2x4096x2816 : Shape := ⟨3, ![2, 4096, 2816]⟩
abbrev S1024x5632 : Shape := ⟨2, ![1024, 5632]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2x2816 : Shape := ⟨3, ![4096, 2, 2816]⟩

abbrev nBuf : Space → Nat
  | .hbm => 59
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S1024x5632, .f32⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x5632, .f32⟩
  | .hbm, ⟨26, _⟩ => ⟨S4096x2x2816, .f32⟩
  | .hbm, ⟨27, _⟩ => ⟨S2x4096x2816, .f32⟩
  | .hbm, ⟨28, _⟩ => ⟨S2x4096x2816, .f32⟩
  | .hbm, ⟨29, _⟩ => ⟨S4096x2x2816, .f32⟩
  | .hbm, ⟨30, _⟩ => ⟨S4096x5632, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S1x1024, .f32⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Swa.lean ====
abbrev S4096x1536 : Shape := ⟨2, ![4096, 1536]⟩
abbrev S1x16 : Shape := ⟨2, ![1, 16]⟩
abbrev S4096x1024 : Shape := ⟨2, ![4096, 1024]⟩
abbrev S4096x256 : Shape := ⟨2, ![4096, 256]⟩
abbrev S1x128 : Shape := ⟨2, ![1, 128]⟩
abbrev S128x1024 : Shape := ⟨2, ![128, 1024]⟩
abbrev S128x256 : Shape := ⟨2, ![128, 256]⟩
abbrev S512x1 : Shape := ⟨2, ![512, 1]⟩
abbrev S128x64 : Shape := ⟨2, ![128, 64]⟩
abbrev S512x64 : Shape := ⟨2, ![512, 64]⟩
abbrev S256x64 : Shape := ⟨2, ![256, 64]⟩
abbrev S1x1 : Shape := ⟨2, ![1, 1]⟩
abbrev S512x256 : Shape := ⟨2, ![512, 256]⟩
abbrev S512 : Shape := ⟨1, ![512]⟩
abbrev S128x1 : Shape := ⟨2, ![128, 1]⟩
abbrev S1 : Shape := ⟨1, ![1]⟩

abbrev nBuf : Space → Nat
  | .hbm => 7
  | .vmem => 17
  | .smem => 1
  | _ => 0

abbrev bufTy : (tb : Table) → Fin (tcTables nBuf tb) → BufTy
  | .hbm, ⟨0, _⟩ => ⟨S4096x1536, .f32⟩
  | .hbm, ⟨1, _⟩ => ⟨S1x16, .f32⟩
  | .hbm, ⟨2, _⟩ => ⟨S4096x1024, .bf16⟩
  | .hbm, ⟨3, _⟩ => ⟨S4096x1024, .bf16⟩
  | .hbm, ⟨4, _⟩ => ⟨S4096x256, .f32⟩
  | .hbm, ⟨5, _⟩ => ⟨S4096x256, .f32⟩
  | .hbm, ⟨6, _⟩ => ⟨S1x128, .f32⟩
  | .local _ .vmem, ⟨0, _⟩ => ⟨S128x1024, .f32⟩
  | .local _ .vmem, ⟨1, _⟩ => ⟨S128x1024, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x1024, .bf16⟩
  | .local _ .vmem, ⟨11, _⟩ => ⟨S128x1024, .bf16⟩
  | .local _ .vmem, ⟨12, _⟩ => ⟨S128x1024, .bf16⟩
  | .local _ .vmem, ⟨13, _⟩ => ⟨S128x1024, .bf16⟩
  | .local _ .vmem, ⟨14, _⟩ => ⟨S4096x256, .f32⟩
  | .local _ .vmem, ⟨15, _⟩ => ⟨S4096x256, .f32⟩
  | .local _ .vmem, ⟨16, _⟩ => ⟨S1x128, .f32⟩
  | .local _ .smem, ⟨0, _⟩ => ⟨S1x16, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c128_i32 : BitVec 32 := 128#32
  let v4 : BitVec 32 := Scalar.muli arg0 c128_i32
  v4
def k0_mult2 (i : grid0.Coords) : BitVec 32 :=
  let arg0 : BitVec 32 := BitVec.ofNat 32 (i 0).val
  let c1_i32 : BitVec 32 := 1#32
  let v6 : BitVec 32 := Scalar.subi arg0 c1_i32
  let c0_i32_1 : BitVec 32 := 0#32
  let v7 : BitVec 32 := Scalar.maxsi v6 c0_i32_1
  let c128_i32_2 : BitVec 32 := 128#32
  let v8 : BitVec 32 := Scalar.muli v7 c128_i32_2
  v8
def k0_off1 (i : grid0.Coords) : Fin 2 → Nat :=
  let arg0 : BitVec 32 := BitVec.ofNat 32 (i 0).val
  let c128_i32 : BitVec 32 := 128#32
  let v4 : BitVec 32 := Scalar.muli arg0 c128_i32
  let v5 : BitVec 32 := v4
  let v505 : Index := Scalar.indexCast v5
  let c0_242 : Index := 0#32
  ![v505.toNat, 0]
def k0_cond2 (i : grid0.Coords) : BitVec 1 :=
  let arg0 : BitVec 32 := BitVec.ofNat 32 (i 0).val
  let c0_i32_246 : BitVec 32 := 0#32
  let v519 : BitVec 1 := Scalar.cmpi .sgt arg0 c0_i32_246
  let v520 : BitVec 32 := Scalar.extui v519
  let c0_i32_247 : BitVec 32 := 0#32
  let v521 : BitVec 1 := Scalar.cmpi .ne v520 c0_i32_247
  v521

def k0_off2 (i : grid0.Coords) : Fin 2 → Nat :=
  let arg0 : BitVec 32 := BitVec.ofNat 32 (i 0).val
  let c1_i32 : BitVec 32 := 1#32
  let v6 : BitVec 32 := Scalar.subi arg0 c1_i32
  let c0_i32_1 : BitVec 32 := 0#32
  let v7 : BitVec 32 := Scalar.maxsi v6 c0_i32_1
  let c128_i32_2 : BitVec 32 := 128#32
  let v8 : BitVec 32 := Scalar.muli v7 c128_i32_2
  let v9 : BitVec 32 := v8
  let v742 : Index := Scalar.indexCast v9
  let c0_321 : Index := 0#32
  ![v742.toNat, 0]
def k0_off3 (i : grid0.Coords) : Fin 2 → Nat :=
  let arg0 : BitVec 32 := BitVec.ofNat 32 (i 0).val
  let c128_i32 : BitVec 32 := 128#32
  let v4 : BitVec 32 := Scalar.muli arg0 c128_i32
  let v5 : BitVec 32 := v4
  let v577 : Index := Scalar.indexCast v5
  let c64_265 : Index := 64#32
  ![v577.toNat, 64]
def k0_cond3 (i : grid0.Coords) : BitVec 1 :=
  let arg0 : BitVec 32 := BitVec.ofNat 32 (i 0).val
  let c0_i32_269 : BitVec 32 := 0#32
  let v591 : BitVec 1 := Scalar.cmpi .sgt arg0 c0_i32_269
  let v592 : BitVec 32 := Scalar.extui v591
  let c0_i32_270 : BitVec 32 := 0#32
  let v593 : BitVec 1 := Scalar.cmpi .ne v592 c0_i32_270
  v593

def k0_off4 (i : grid0.Coords) : Fin 2 → Nat :=
  let arg0 : BitVec 32 := BitVec.ofNat 32 (i 0).val
  let c1_i32 : BitVec 32 := 1#32
  let v6 : BitVec 32 := Scalar.subi arg0 c1_i32
  let c0_i32_1 : BitVec 32 := 0#32
  let v7 : BitVec 32 := Scalar.maxsi v6 c0_i32_1
  let c128_i32_2 : BitVec 32 := 128#32
  let v8 : BitVec 32 := Scalar.muli v7 c128_i32_2
  let v9 : BitVec 32 := v8
  let v742 : Index := Scalar.indexCast v9
  let c64_321 : Index := 64#32
  ![v742.toNat, 64]
def k0_off5 (i : grid0.Coords) : Fin 2 → Nat :=
  let arg0 : BitVec 32 := BitVec.ofNat 32 (i 0).val
  let c128_i32 : BitVec 32 := 128#32
  let v4 : BitVec 32 := Scalar.muli arg0 c128_i32
  let v5 : BitVec 32 := v4
  let v649 : Index := Scalar.indexCast v5
  let c128_288 : Index := 128#32
  ![v649.toNat, 128]
def k0_cond4 (i : grid0.Coords) : BitVec 1 :=
  let arg0 : BitVec 32 := BitVec.ofNat 32 (i 0).val
  let c0_i32_292 : BitVec 32 := 0#32
  let v663 : BitVec 1 := Scalar.cmpi .sgt arg0 c0_i32_292
  let v664 : BitVec 32 := Scalar.extui v663
  let c0_i32_293 : BitVec 32 := 0#32
  let v665 : BitVec 1 := Scalar.cmpi .ne v664 c0_i32_293
  v665

def k0_off6 (i : grid0.Coords) : Fin 2 → Nat :=
  let arg0 : BitVec 32 := BitVec.ofNat 32 (i 0).val
  let c1_i32 : BitVec 32 := 1#32
  let v6 : BitVec 32 := Scalar.subi arg0 c1_i32
  let c0_i32_1 : BitVec 32 := 0#32
  let v7 : BitVec 32 := Scalar.maxsi v6 c0_i32_1
  let c128_i32_2 : BitVec 32 := 128#32
  let v8 : BitVec 32 := Scalar.muli v7 c128_i32_2
  let v9 : BitVec 32 := v8
  let v742 : Index := Scalar.indexCast v9
  let c128_321 : Index := 128#32
  ![v742.toNat, 128]
def k0_off7 (i : grid0.Coords) : Fin 2 → Nat :=
  let arg0 : BitVec 32 := BitVec.ofNat 32 (i 0).val
  let c128_i32 : BitVec 32 := 128#32
  let v4 : BitVec 32 := Scalar.muli arg0 c128_i32
  let v5 : BitVec 32 := v4
  let v721 : Index := Scalar.indexCast v5
  let c192_311 : Index := 192#32
  ![v721.toNat, 192]
def k0_cond5 (i : grid0.Coords) : BitVec 1 :=
  let arg0 : BitVec 32 := BitVec.ofNat 32 (i 0).val
  let c0_i32_315 : BitVec 32 := 0#32
  let v735 : BitVec 1 := Scalar.cmpi .sgt arg0 c0_i32_315
  let v736 : BitVec 32 := Scalar.extui v735
  let c0_i32_316 : BitVec 32 := 0#32
  let v737 : BitVec 1 := Scalar.cmpi .ne v736 c0_i32_316
  v737

def k0_off8 (i : grid0.Coords) : Fin 2 → Nat :=
  let arg0 : BitVec 32 := BitVec.ofNat 32 (i 0).val
  let c1_i32 : BitVec 32 := 1#32
  let v6 : BitVec 32 := Scalar.subi arg0 c1_i32
  let c0_i32_1 : BitVec 32 := 0#32
  let v7 : BitVec 32 := Scalar.maxsi v6 c0_i32_1
  let c128_i32_2 : BitVec 32 := 128#32
  let v8 : BitVec 32 := Scalar.muli v7 c128_i32_2
  let v9 : BitVec 32 := v8
  let v742 : Index := Scalar.indexCast v9
  let c192_321 : Index := 192#32
  ![v742.toNat, 192]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_0 : BitVec 32 := 0#32
  ![v1.toNat, c4_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c5_i32 : BitVec 32 := 5#32
  let c0_i32_0 : BitVec 32 := 0#32
  ![v1.toNat, c5_i32.toNat]

def cc0_transform_5 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4096x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4096x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== SwaIdeal.lean ====
variable {F : FTy → Type} [FloatOps F] [Named F]
def κ : String → Option EReal := fun
  | "mask" => some ⊥
  | "slope1" => some (((Real.sqrt 2)⁻¹ : ℝ) : EReal)
  | "slope11" => some (((Real.sqrt 2048)⁻¹ : ℝ) : EReal)
  | "slope13" => some (((Real.sqrt 8192)⁻¹ : ℝ) : EReal)
  | "slope15" => some (((Real.sqrt 32768)⁻¹ : ℝ) : EReal)
  | "slope3" => some (((Real.sqrt 8)⁻¹ : ℝ) : EReal)
  | "slope5" => some (((Real.sqrt 32)⁻¹ : ℝ) : EReal)
  | "slope7" => some (((Real.sqrt 128)⁻¹ : ℝ) : EReal)
  | "slope9" => some (((Real.sqrt 512)⁻¹ : ℝ) : EReal)
  | _ => none
-- ==== SwaRefIdeal.lean ====
abbrev S4096x1536 : Shape := ⟨2, ![4096, 1536]⟩
abbrev S1x16 : Shape := ⟨2, ![1, 16]⟩
abbrev S4096x1024 : Shape := ⟨2, ![4096, 1024]⟩
abbrev S32x128x4x4x64 : Shape := ⟨5, ![32, 128, 4, 4, 64]⟩
abbrev S4096x256 : Shape := ⟨2, ![4096, 256]⟩
abbrev S32x128x4x64 : Shape := ⟨4, ![32, 128, 4, 64]⟩
abbrev S1x128x4x64 : Shape := ⟨4, ![1, 128, 4, 64]⟩
abbrev S_ : Shape := ⟨0, ![]⟩
abbrev S31x128x4x64 : Shape := ⟨4, ![31, 128, 4, 64]⟩
abbrev S32x256x4x64 : Shape := ⟨4, ![32, 256, 4, 64]⟩
abbrev S4x32x256x128x4 : Shape := ⟨5, ![4, 32, 256, 128, 4]⟩
abbrev S4x4x32x128x256 : Shape := ⟨5, ![4, 4, 32, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S16 : Shape := ⟨1, ![16]⟩
abbrev S4x4 : Shape := ⟨2, ![4, 4]⟩
abbrev S4x4x1x1x1 : Shape := ⟨5, ![4, 4, 1, 1, 1]⟩
abbrev S1x1x1x128x256 : Shape := ⟨5, ![1, 1, 1, 128, 256]⟩
abbrev S4x4x1x128x256 : Shape := ⟨5, ![4, 4, 1, 128, 256]⟩
abbrev S4x4x32x128 : Shape := ⟨4, ![4, 4, 32, 128]⟩
abbrev S4x4x32x128x1 : Shape := ⟨5, ![4, 4, 32, 128, 1]⟩
abbrev S32x4x64x4x128 : Shape := ⟨5, ![32, 4, 64, 4, 128]⟩
abbrev S32x4x4x128x256 : Shape := ⟨5, ![32, 4, 4, 128, 256]⟩
abbrev S32x4x64x256 : Shape := ⟨4, ![32, 4, 64, 256]⟩
abbrev S4x4x1 : Shape := ⟨3, ![4, 4, 1]⟩
abbrev S4x32x128x4x64 : Shape := ⟨5, ![4, 32, 128, 4, 64]⟩
abbrev S4x32x256x64 : Shape := ⟨4, ![4, 32, 256, 64]⟩
abbrev S1x112 : Shape := ⟨2, ![1, 112]⟩
abbrev S1x128 : Shape := ⟨2, ![1, 128]⟩

abbrev nBuf : Space → Nat
  | .hbm => 237
  | .vmem => 0
  | .smem => 0
  | _ => 0

abbrev hbmTy0_0 (i : Nat) : BufTy := match i % 128 with
  | 0 => ⟨S4096x1536, .f32⟩
  | 1 => ⟨S1x16, .f32⟩
  | 2 => ⟨S4096x1024, .bf16⟩
  | 3 => ⟨S4096x1024, .f32⟩
  | 4 => ⟨S32x128x4x4x64, .f32⟩
  | 5 => ⟨S4096x256, .f32⟩
  | 6 => ⟨S32x128x4x64, .f32⟩
  | 7 => ⟨S4096x256, .f32⟩
  | 8 => ⟨S32x128x4x64, .f32⟩
  | 9 => ⟨S1x128x4x64, .f32⟩
  | 10 => ⟨S_, .f32⟩
  | 11 => ⟨S1x128x4x64, .f32⟩
  | 12 => ⟨S31x128x4x64, .f32⟩
  | 13 => ⟨S32x128x4x64, .f32⟩
  | 14 => ⟨S_, .f32⟩
  | 15 => ⟨S1x128x4x64, .f32⟩
  | 16 => ⟨S32x256x4x64, .f32⟩
  | 17 => ⟨S1x128x4x64, .f32⟩
  | 18 => ⟨S_, .f32⟩
  | 19 => ⟨S1x128x4x64, .f32⟩
  | 20 => ⟨S31x128x4x64, .f32⟩
  | 21 => ⟨S32x128x4x64, .f32⟩
  | 22 => ⟨S_, .f32⟩
  | 23 => ⟨S1x128x4x64, .f32⟩
  | 24 => ⟨S32x256x4x64, .f32⟩
  | 25 => ⟨S4x32x256x128x4, .f32⟩
  | 26 => ⟨S4x4x32x128x256, .f32⟩
  | 27 => ⟨S_, .f32⟩
  | 28 => ⟨S4x4x32x128x256, .f32⟩
  | 29 => ⟨S4x4x32x128x256, .f32⟩
  | 30 => ⟨S128, .i32⟩
  | 31 => ⟨S128x1, .i32⟩
  | 32 => ⟨S256, .i32⟩
  | 33 => ⟨S1x256, .i32⟩
  | 34 => ⟨S_, .i32⟩
  | 35 => ⟨S128x1, .i32⟩
  | 36 => ⟨S128x1, .i32⟩
  | 37 => ⟨S128x256, .i32⟩
  | 38 => ⟨S128x256, .i32⟩
  | 39 => ⟨S128x256, .i32⟩
  | 40 => ⟨S32, .i32⟩
  | 41 => ⟨S32x1x1, .i32⟩
  | 42 => ⟨S_, .i32⟩
  | 43 => ⟨S128x256, .i32⟩
  | 44 => ⟨S128x256, .i1⟩
  | 45 => ⟨S_, .i32⟩
  | 46 => ⟨S128x256, .i32⟩
  | 47 => ⟨S128x256, .i1⟩
  | 48 => ⟨S128x256, .i1⟩
  | 49 => ⟨S_, .i32⟩
  | 50 => ⟨S32x1x1, .i32⟩
  | 51 => ⟨S32x1x1, .i32⟩
  | 52 => ⟨S_, .i32⟩
  | 53 => ⟨S32x1x1, .i32⟩
  | 54 => ⟨S32x1x1, .i32⟩
  | 55 => ⟨S1x1x256, .i32⟩
  | 56 => ⟨S32x1x256, .i32⟩
  | 57 => ⟨S32x1x256, .i32⟩
  | 58 => ⟨S32x1x256, .i32⟩
  | 59 => ⟨S_, .i32⟩
  | 60 => ⟨S32x1x256, .i32⟩
  | 61 => ⟨S32x1x256, .i1⟩
  | 62 => ⟨S1x128x256, .i1⟩
  | 63 => ⟨S32x128x256, .i1⟩
  | 64 => ⟨S32x128x256, .i1⟩
  | 65 => ⟨S32x128x256, .i1⟩
  | 66 => ⟨S16, .f32⟩
  | 67 => ⟨S_, .f32⟩
  | 68 => ⟨S16, .f32⟩
  | 69 => ⟨S16, .f32⟩
  | 70 => ⟨S_, .f32⟩
  | 71 => ⟨S16, .f32⟩
  | 72 => ⟨S16, .f32⟩
  | 73 => ⟨S_, .f32⟩
  | 74 => ⟨S16, .f32⟩
  | 75 => ⟨S16, .f32⟩
  | 76 => ⟨S_, .f32⟩
  | 77 => ⟨S16, .f32⟩
  | 78 => ⟨S16, .f32⟩
  | 79 => ⟨S4x4, .f32⟩
  | 80 => ⟨S4x4x1x1x1, .f32⟩
  | 81 => ⟨S128x256, .f32⟩
  | 82 => ⟨S1x1x1x128x256, .f32⟩
  | 83 => ⟨S4x4x1x128x256, .f32⟩
  | 84 => ⟨S4x4x1x128x256, .f32⟩
  | 85 => ⟨S4x4x1x128x256, .f32⟩
  | 86 => ⟨S4x4x32x128x256, .f32⟩
  | 87 => ⟨S4x4x32x128x256, .f32⟩
  | 88 => ⟨S_, .f32⟩
  | 89 => ⟨S_, .f32⟩
  | 90 => ⟨S4x4x32x128x256, .i1⟩
  | 91 => ⟨S4x4x32x128x256, .f32⟩
  | 92 => ⟨S4x4x32x128x256, .f32⟩
  | 93 => ⟨S_, .f32⟩
  | 94 => ⟨S4x4x32x128x256, .f32⟩
  | 95 => ⟨S4x4x1x1x1, .f32⟩
  | 96 => ⟨S_, .f32⟩
  | 97 => ⟨S4x4x32x128, .f32⟩
  | 98 => ⟨S4x4x32x128x1, .f32⟩
  | 99 => ⟨S4x4x32x128x256, .f32⟩
  | 100 => ⟨S4x4x32x128x256, .i1⟩
  | 101 => ⟨S4x4x32x128x256, .f32⟩
  | 102 => ⟨S_, .f32⟩
  | 103 => ⟨S4x4x32x128, .f32⟩
  | 104 => ⟨S4x4x32x128x1, .f32⟩
  | 105 => ⟨S4x4x32x128x1, .f32⟩
  | 106 => ⟨S4x4x32x128x1, .f32⟩
  | 107 => ⟨S4x4x32x128x1, .f32⟩
  | 108 => ⟨S4x4x32x128x1, .i1⟩
  | 109 => ⟨S4x4x32x128x1, .f32⟩
  | 110 => ⟨S4x4x32x128x1, .i1⟩
  | 111 => ⟨S_, .f32⟩
  | 112 => ⟨S4x4x32x128x1, .f32⟩
  | 113 => ⟨S_, .f32⟩
  | 114 => ⟨S4x4x32x128x1, .f32⟩
  | 115 => ⟨S_, .f32⟩
  | 116 => ⟨S4x4x32x128x1, .f32⟩
  | 117 => ⟨S4x4x32x128x1, .f32⟩
  | 118 => ⟨S4x4x32x128x1, .f32⟩
  | 119 => ⟨S4x4x32x128x1, .f32⟩
  | 120 => ⟨S4x4x32x128x1, .i1⟩
  | 121 => ⟨S4x4x32x128x1, .f32⟩
  | 122 => ⟨S4x4x32x128x1, .i1⟩
  | 123 => ⟨S_, .f32⟩
  | 124 => ⟨S4x4x32x128x1, .f32⟩
  | 125 => ⟨S_, .f32⟩
  | 126 => ⟨S4x4x32x128x1, .f32⟩
  | 127 => ⟨S_, .f32⟩
  | _ => ⟨S4096x1536, .f32⟩

abbrev hbmTy0_1 (i : Nat) : BufTy := match i % 128 with
  | 0 => ⟨S4x4x32x128x1, .f32⟩
  | 1 => ⟨S4x4x32x128x1, .f32⟩
  | 2 => ⟨S4x4x32x128x1, .f32⟩
  | 3 => ⟨S4x4x32x128x256, .f32⟩
  | 4 => ⟨S4x4x32x128x256, .f32⟩
  | 5 => ⟨S4x4x32x128x256, .f32⟩
  | 6 => ⟨S_, .f32⟩
  | 7 => ⟨S4x4x32x128, .f32⟩
  | 8 => ⟨S4x4x32x128x1, .f32⟩
  | 9 => ⟨S4x4x32x128x1, .f32⟩
  | 10 => ⟨S4x4x32x128x1, .f32⟩
  | 11 => ⟨S4x4x32x128x1, .f32⟩
  | 12 => ⟨S4x4x32x128x1, .f32⟩
  | 13 => ⟨S4x4x32x128x256, .f32⟩
  | 14 => ⟨S4x4x32x128x256, .f32⟩
  | 15 => ⟨S4x4x32x128x1, .f32⟩
  | 16 => ⟨S_, .f32⟩
  | 17 => ⟨S4x4x32x128x1, .f32⟩
  | 18 => ⟨S4x4x32x128x1, .f32⟩
  | 19 => ⟨S32x4x64x4x128, .f32⟩
  | 20 => ⟨S32x128x4x4x64, .f32⟩
  | 21 => ⟨S4096x1024, .f32⟩
  | 22 => ⟨S4096x1024, .f32⟩
  | 23 => ⟨S32x128x4x4x64, .f32⟩
  | 24 => ⟨S32x4x64x4x128, .f32⟩
  | 25 => ⟨S32x4x4x128x256, .f32⟩
  | 26 => ⟨S4x4x32x128x256, .f32⟩
  | 27 => ⟨S32x4x64x256, .f32⟩
  | 28 => ⟨S32x256x4x64, .f32⟩
  | 29 => ⟨S4x4x32x128x256, .f32⟩
  | 30 => ⟨S4x4x32x128x256, .f32⟩
  | 31 => ⟨S4x4x32x128x256, .f32⟩
  | 32 => ⟨S_, .f32⟩
  | 33 => ⟨S4x4x32x128, .f32⟩
  | 34 => ⟨S4x4x32x128x1, .f32⟩
  | 35 => ⟨S4x4x32x128x1, .f32⟩
  | 36 => ⟨S4x4x32x128x256, .f32⟩
  | 37 => ⟨S4x4x32x128x256, .f32⟩
  | 38 => ⟨S4x4x32x128x1, .f32⟩
  | 39 => ⟨S_, .f32⟩
  | 40 => ⟨S4x4x1, .f32⟩
  | 41 => ⟨S4x4x1x1x1, .f32⟩
  | 42 => ⟨S4x4x32x128x1, .f32⟩
  | 43 => ⟨S_, .f32⟩
  | 44 => ⟨S4x4x32x128, .f32⟩
  | 45 => ⟨S4x4x32x128x256, .f32⟩
  | 46 => ⟨S4x4x32x128x256, .f32⟩
  | 47 => ⟨S4x4x32x128x256, .f32⟩
  | 48 => ⟨S4x4x32x128x256, .f32⟩
  | 49 => ⟨S_, .f32⟩
  | 50 => ⟨S4x4x32x128, .f32⟩
  | 51 => ⟨S4x4x32x128x1, .f32⟩
  | 52 => ⟨S4x4x32x128x1, .f32⟩
  | 53 => ⟨S4x4x32x128x1, .f32⟩
  | 54 => ⟨S_, .f32⟩
  | 55 => ⟨S4x4x1, .f32⟩
  | 56 => ⟨S4x4x1x1x1, .f32⟩
  | 57 => ⟨S4x4x1x1x1, .f32⟩
  | 58 => ⟨S4x4x32x128x1, .f32⟩
  | 59 => ⟨S_, .f32⟩
  | 60 => ⟨S4x4x32x128, .f32⟩
  | 61 => ⟨S4x4x32x128, .f32⟩
  | 62 => ⟨S4x4x32x128x256, .f32⟩
  | 63 => ⟨S4x4x32x128x256, .f32⟩
  | 64 => ⟨S4x4x32x128x256, .f32⟩
  | 65 => ⟨S1x16, .f32⟩
  | 66 => ⟨S_, .f32⟩
  | 67 => ⟨S4x4x32x128x256, .f32⟩
  | 68 => ⟨S4x4x32x128x256, .f32⟩
  | 69 => ⟨S_, .f32⟩
  | 70 => ⟨S4x4x32x128x256, .f32⟩
  | 71 => ⟨S4x4x32x128x256, .f32⟩
  | 72 => ⟨S4x32x256x128x4, .f32⟩
  | 73 => ⟨S4x32x128x4x64, .f32⟩
  | 74 => ⟨S32x128x4x4x64, .f32⟩
  | 75 => ⟨S4x32x256x64, .f32⟩
  | 76 => ⟨S32x256x4x64, .f32⟩
  | 77 => ⟨S32x128x4x64, .f32⟩
  | 78 => ⟨S32x128x4x64, .f32⟩
  | 79 => ⟨S1x128x4x64, .f32⟩
  | 80 => ⟨S31x128x4x64, .f32⟩
  | 81 => ⟨S_, .f32⟩
  | 82 => ⟨S32x128x4x64, .f32⟩
  | 83 => ⟨S32x128x4x64, .f32⟩
  | 84 => ⟨S32x128x4x64, .f32⟩
  | 85 => ⟨S32x128x4x64, .f32⟩
  | 86 => ⟨S1x128x4x64, .f32⟩
  | 87 => ⟨S31x128x4x64, .f32⟩
  | 88 => ⟨S_, .f32⟩
  | 89 => ⟨S32x128x4x64, .f32⟩
  | 90 => ⟨S32x128x4x64, .f32⟩
  | 91 => ⟨S4096x256, .f32⟩
  | 92 => ⟨S_, .f32⟩
  | 93 => ⟨S4096x1536, .f32⟩
  | 94 => ⟨S4096x256, .f32⟩
  | 95 => ⟨S_, .f32⟩
  | 96 => ⟨S4096x1536, .f32⟩
  | 97 => ⟨S4096x1536, .f32⟩
  | 98 => ⟨S4096x1024, .f32⟩
  | 99 => ⟨S_, .f32⟩
  | 100 => ⟨S4096x1536, .f32⟩
  | 101 => ⟨S4096x1536, .f32⟩
  | 102 => ⟨S_, .f32⟩
  | 103 => ⟨S1x112, .f32⟩
  | 104 => ⟨S1x128, .f32⟩
  | 105 => ⟨S4096x1024, .f32⟩
  | 106 => ⟨S4096x1024, .bf16⟩
  | 107 => ⟨S4096x256, .f32⟩
  | 108 => ⟨S4096x256, .f32⟩
  | _ => ⟨S4096x1536, .f32⟩

abbrev hbmTy (i : Nat) : BufTy := match i / 128 with
  | 0 => hbmTy0_0 i
  | 1 => hbmTy0_1 i
  | _ => ⟨S4096x1536, .f32⟩

abbrev bufTy : (tb : Table) → Fin (tcTables nBuf tb) → BufTy
  | .hbm, ⟨i, _⟩ => hbmTy i
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_c_4 : Ref sig .tc := ⟨.hbm, 42, rfl⟩
abbrev main_v33 : Ref sig .tc := ⟨.hbm, 43, rfl⟩
abbrev main_v34 : Ref sig .tc := ⟨.hbm, 44, rfl⟩
abbrev main_c_5 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c_6 : Ref sig .tc := ⟨.hbm, 49, rfl⟩
abbrev main_v38 : Ref sig .tc := ⟨.hbm, 50, rfl⟩
abbrev main_v39 : Ref sig .tc := ⟨.hbm, 51, rfl⟩
abbrev main_c_7 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_c_8 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_9 : Ref sig .tc := ⟨.hbm, 67, rfl⟩
abbrev main_v53 : Ref sig .tc := ⟨.hbm, 68, rfl⟩
abbrev main_v54 : Ref sig .tc := ⟨.hbm, 69, rfl⟩
abbrev main_cst_10 : Ref sig .tc := ⟨.hbm, 70, rfl⟩
abbrev main_v55 : Ref sig .tc := ⟨.hbm, 71, rfl⟩
abbrev main_v56 : Ref sig .tc := ⟨.hbm, 72, rfl⟩
abbrev main_cst_11 : Ref sig .tc := ⟨.hbm, 73, rfl⟩
abbrev main_v57 : Ref sig .tc := ⟨.hbm, 74, rfl⟩
abbrev main_v58 : Ref sig .tc := ⟨.hbm, 75, rfl⟩
abbrev main_cst_12 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_cst_13 : Ref sig .tc := ⟨.hbm, 88, rfl⟩
abbrev main_call0_v0 : Ref sig .tc := ⟨.hbm, 89, rfl⟩
abbrev main_v70_1 : Ref sig .tc := ⟨.hbm, 90, rfl⟩
abbrev main_call0_v2 : Ref sig .tc := ⟨.hbm, 91, rfl⟩
abbrev main_v70_0 : Ref sig .tc := ⟨.hbm, 92, rfl⟩
abbrev main_call0_cst : Ref sig .tc := ⟨.hbm, 93, rfl⟩
abbrev main_v70_2 : Ref sig .tc := ⟨.hbm, 94, rfl⟩
abbrev main_v71 : Ref sig .tc := ⟨.hbm, 95, rfl⟩
abbrev main_cst_14 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_15 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_cst_16 : Ref sig .tc := ⟨.hbm, 111, rfl⟩
abbrev main_v85 : Ref sig .tc := ⟨.hbm, 112, rfl⟩
abbrev main_cst_17 : Ref sig .tc := ⟨.hbm, 113, rfl⟩
abbrev main_v86 : Ref sig .tc := ⟨.hbm, 114, rfl⟩
abbrev main_cst_18 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_cst_19 : Ref sig .tc := ⟨.hbm, 123, rfl⟩
abbrev main_v94 : Ref sig .tc := ⟨.hbm, 124, rfl⟩
abbrev main_cst_20 : Ref sig .tc := ⟨.hbm, 125, rfl⟩
abbrev main_v95 : Ref sig .tc := ⟨.hbm, 126, rfl⟩
abbrev main_cst_21 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_cst_22 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_cst_23 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_cst_24 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_cst_25 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_cst_26 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_cst_27 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_cst_28 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_cst_29 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_call1_cst : Ref sig .tc := ⟨.hbm, 194, rfl⟩
abbrev main_call1_v0 : Ref sig .tc := ⟨.hbm, 195, rfl⟩
abbrev main_v154 : Ref sig .tc := ⟨.hbm, 196, rfl⟩
abbrev main_cst_30 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_cst_31 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_cst_32 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_cst_33 : Ref sig .tc := ⟨.hbm, 220, rfl⟩
abbrev main_v175 : Ref sig .tc := ⟨.hbm, 221, rfl⟩
abbrev main_v176 : Ref sig .tc := ⟨.hbm, 222, rfl⟩
abbrev main_cst_34 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_cst_35 : Ref sig .tc := ⟨.hbm, 227, rfl⟩
abbrev main_v180 : Ref sig .tc := ⟨.hbm, 228, rfl⟩
abbrev main_v181 : Ref sig .tc := ⟨.hbm, 229, rfl⟩
abbrev main_cst_36 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_v185 : Ref sig .tc := ⟨.hbm, 234, rfl⟩
abbrev main_v186 : Ref sig .tc := ⟨.hbm, 235, rfl⟩
abbrev main_v187 : Ref sig .tc := ⟨.hbm, 236, rfl⟩

abbrev nD : Nat := 1
abbrev τ : Topo := Topo.v7x

variable {F : FTy → Type} [FloatOps F]
-- ==== SwaFwd.lean ====
abbrev S4096x1536 : Shape := ⟨2, ![4096, 1536]⟩
abbrev S1x16 : Shape := ⟨2, ![1, 16]⟩
abbrev S4096x1024 : Shape := ⟨2, ![4096, 1024]⟩
abbrev S128x1024 : Shape := ⟨2, ![128, 1024]⟩
abbrev S128x256 : Shape := ⟨2, ![128, 256]⟩
abbrev S512x1 : Shape := ⟨2, ![512, 1]⟩
abbrev S128x64 : Shape := ⟨2, ![128, 64]⟩
abbrev S512x64 : Shape := ⟨2, ![512, 64]⟩
abbrev S256x64 : Shape := ⟨2, ![256, 64]⟩
abbrev S1x1 : Shape := ⟨2, ![1, 1]⟩
abbrev S512x256 : Shape := ⟨2, ![512, 256]⟩
abbrev S512 : Shape := ⟨1, ![512]⟩

abbrev nBuf : Space → Nat
  | .hbm => 3
  | .vmem => 12
  | .smem => 1
  | _ => 0

abbrev bufTy : (tb : Table) → Fin (tcTables nBuf tb) → BufTy
  | .hbm, ⟨0, _⟩ => ⟨S4096x1536, .f32⟩
  | .hbm, ⟨1, _⟩ => ⟨S1x16, .f32⟩
  | .hbm, ⟨2, _⟩ => ⟨S4096x1024, .bf16⟩
  | .local _ .vmem, ⟨0, _⟩ => ⟨S128x1024, .f32⟩
  | .local _ .vmem, ⟨1, _⟩ => ⟨S128x1024, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x1024, .bf16⟩
  | .local _ .vmem, ⟨11, _⟩ => ⟨S128x1024, .bf16⟩
  | .local _ .smem, ⟨0, _⟩ => ⟨S1x16, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_0 : BitVec 32 := 0#32
  ![v1.toNat, c4_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c5_i32 : BitVec 32 := 5#32
  let c0_i32_0 : BitVec 32 := 0#32
  ![v1.toNat, c5_i32.toNat]

def cc0_transform_5 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== SwaFwdIdeal.lean ====
variable {F : FTy → Type} [FloatOps F] [Named F]
def κ : String → Option EReal := fun
  | "mask" => some ⊥
  | "slope1" => some (((Real.sqrt 2)⁻¹ : ℝ) : EReal)
  | "slope11" => some (((Real.sqrt 2048)⁻¹ : ℝ) : EReal)
  | "slope13" => some (((Real.sqrt 8192)⁻¹ : ℝ) : EReal)
  | "slope15" => some (((Real.sqrt 32768)⁻¹ : ℝ) : EReal)
  | "slope3" => some (((Real.sqrt 8)⁻¹ : ℝ) : EReal)
  | "slope5" => some (((Real.sqrt 32)⁻¹ : ℝ) : EReal)
  | "slope7" => some (((Real.sqrt 128)⁻¹ : ℝ) : EReal)
  | "slope9" => some (((Real.sqrt 512)⁻¹ : ℝ) : EReal)
  | _ => none
-- ==== SwaFwdRefIdeal.lean ====
abbrev S4096x1536 : Shape := ⟨2, ![4096, 1536]⟩
abbrev S1x16 : Shape := ⟨2, ![1, 16]⟩
abbrev S4096x1024 : Shape := ⟨2, ![4096, 1024]⟩
abbrev S32x128x4x4x64 : Shape := ⟨5, ![32, 128, 4, 4, 64]⟩
abbrev S4096x256 : Shape := ⟨2, ![4096, 256]⟩
abbrev S32x128x4x64 : Shape := ⟨4, ![32, 128, 4, 64]⟩
abbrev S1x128x4x64 : Shape := ⟨4, ![1, 128, 4, 64]⟩
abbrev S_ : Shape := ⟨0, ![]⟩
abbrev S31x128x4x64 : Shape := ⟨4, ![31, 128, 4, 64]⟩
abbrev S32x256x4x64 : Shape := ⟨4, ![32, 256, 4, 64]⟩
abbrev S4x32x256x128x4 : Shape := ⟨5, ![4, 32, 256, 128, 4]⟩
abbrev S4x4x32x128x256 : Shape := ⟨5, ![4, 4, 32, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S16 : Shape := ⟨1, ![16]⟩
abbrev S4x4 : Shape := ⟨2, ![4, 4]⟩
abbrev S4x4x1x1x1 : Shape := ⟨5, ![4, 4, 1, 1, 1]⟩
abbrev S1x1x1x128x256 : Shape := ⟨5, ![1, 1, 1, 128, 256]⟩
abbrev S4x4x1x128x256 : Shape := ⟨5, ![4, 4, 1, 128, 256]⟩
abbrev S4x4x32x128 : Shape := ⟨4, ![4, 4, 32, 128]⟩
abbrev S4x4x32x128x1 : Shape := ⟨5, ![4, 4, 32, 128, 1]⟩
abbrev S32x4x64x4x128 : Shape := ⟨5, ![32, 4, 64, 4, 128]⟩

abbrev nBuf : Space → Nat
  | .hbm => 110
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S1x16, .f32⟩
  | .hbm, ⟨2, _⟩ => ⟨S4096x1024, .f32⟩
  | .hbm, ⟨3, _⟩ => ⟨S32x128x4x4x64, .f32⟩
  | .hbm, ⟨4, _⟩ => ⟨S4096x256, .f32⟩
  | .hbm, ⟨5, _⟩ => ⟨S32x128x4x64, .f32⟩
  | .hbm, ⟨6, _⟩ => ⟨S4096x256, .f32⟩
  | .hbm, ⟨7, _⟩ => ⟨S32x128x4x64, .f32⟩
  | .hbm, ⟨8, _⟩ => ⟨S1x128x4x64, .f32⟩
  | .hbm, ⟨9, _⟩ => ⟨S_, .f32⟩
  | .hbm, ⟨10, _⟩ => ⟨S1x128x4x64, .f32⟩
  | .hbm, ⟨11, _⟩ => ⟨S31x128x4x64, .f32⟩
  | .hbm, ⟨12, _⟩ => ⟨S32x128x4x64, .f32⟩
  | .hbm, ⟨13, _⟩ => ⟨S32x256x4x64, .f32⟩
  | .hbm, ⟨14, _⟩ => ⟨S1x128x4x64, .f32⟩
  | .hbm, ⟨15, _⟩ => ⟨S_, .f32⟩
  | .hbm, ⟨16, _⟩ => ⟨S1x128x4x64, .f32⟩
  | .hbm, ⟨17, _⟩ => ⟨S31x128x4x64, .f32⟩
  | .hbm, ⟨18, _⟩ => ⟨S32x128x4x64, .f32⟩
  | .hbm, ⟨19, _⟩ => ⟨S32x256x4x64, .f32⟩
  | .hbm, ⟨20, _⟩ => ⟨S4x32x256x128x4, .f32⟩
  | .hbm, ⟨21, _⟩ => ⟨S4x4x32x128x256, .f32⟩
  | .hbm, ⟨22, _⟩ => ⟨S_, .f32⟩
  | .hbm, ⟨23, _⟩ => ⟨S4x4x32x128x256, .f32⟩
  | .hbm, ⟨24, _⟩ => ⟨S4x4x32x128x256, .f32⟩
  | .hbm, ⟨25, _⟩ => ⟨S128, .i32⟩
  | .hbm, ⟨26, _⟩ => ⟨S128x1, .i32⟩
  | .hbm, ⟨27, _⟩ => ⟨S256, .i32⟩
  | .hbm, ⟨28, _⟩ => ⟨S1x256, .i32⟩
  | .hbm, ⟨29, _⟩ => ⟨S_, .i32⟩
  | .hbm, ⟨30, _⟩ => ⟨S128x1, .i32⟩
  | .hbm, ⟨31, _⟩ => ⟨S128x1, .i32⟩
  | .hbm, ⟨32, _⟩ => ⟨S128x256, .i32⟩
  | .hbm, ⟨33, _⟩ => ⟨S128x256, .i32⟩
  | .hbm, ⟨34, _⟩ => ⟨S128x256, .i32⟩
  | .hbm, ⟨35, _⟩ => ⟨S32, .i32⟩
  | .hbm, ⟨36, _⟩ => ⟨S32x1x1, .i32⟩
  | .hbm, ⟨37, _⟩ => ⟨S_, .i32⟩
  | .hbm, ⟨38, _⟩ => ⟨S128x256, .i32⟩
  | .hbm, ⟨39, _⟩ => ⟨S128x256, .i1⟩
  | .hbm, ⟨40, _⟩ => ⟨S_, .i32⟩
  | .hbm, ⟨41, _⟩ => ⟨S128x256, .i32⟩
  | .hbm, ⟨42, _⟩ => ⟨S128x256, .i1⟩
  | .hbm, ⟨43, _⟩ => ⟨S128x256, .i1⟩
  | .hbm, ⟨44, _⟩ => ⟨S_, .i32⟩
  | .hbm, ⟨45, _⟩ => ⟨S32x1x1, .i32⟩
  | .hbm, ⟨46, _⟩ => ⟨S32x1x1, .i32⟩
  | .hbm, ⟨47, _⟩ => ⟨S_, .i32⟩
  | .hbm, ⟨48, _⟩ => ⟨S32x1x1, .i32⟩
  | .hbm, ⟨49, _⟩ => ⟨S32x1x1, .i32⟩
  | .hbm, ⟨50, _⟩ => ⟨S1x1x256, .i32⟩
  | .hbm, ⟨51, _⟩ => ⟨S32x1x256, .i32⟩
  | .hbm, ⟨52, _⟩ => ⟨S32x1x256, .i32⟩
  | .hbm, ⟨53, _⟩ => ⟨S32x1x256, .i32⟩
  | .hbm, ⟨54, _⟩ => ⟨S_, .i32⟩
  | .hbm, ⟨55, _⟩ => ⟨S32x1x256, .i32⟩
  | .hbm, ⟨56, _⟩ => ⟨S32x1x256, .i1⟩
  | .hbm, ⟨57, _⟩ => ⟨S1x128x256, .i1⟩
  | .hbm, ⟨58, _⟩ => ⟨S32x128x256, .i1⟩
  | .hbm, ⟨59, _⟩ => ⟨S32x128x256, .i1⟩
  | .hbm, ⟨60, _⟩ => ⟨S32x128x256, .i1⟩
  | .hbm, ⟨61, _⟩ => ⟨S16, .f32⟩
  | .hbm, ⟨62, _⟩ => ⟨S_, .f32⟩
  | .hbm, ⟨63, _⟩ => ⟨S16, .f32⟩
  | .hbm, ⟨64, _⟩ => ⟨S16, .f32⟩
  | .hbm, ⟨65, _⟩ => ⟨S_, .f32⟩
  | .hbm, ⟨66, _⟩ => ⟨S16, .f32⟩
  | .hbm, ⟨67, _⟩ => ⟨S16, .f32⟩
  | .hbm, ⟨68, _⟩ => ⟨S_, .f32⟩
  | .hbm, ⟨69, _⟩ => ⟨S16, .f32⟩
  | .hbm, ⟨70, _⟩ => ⟨S16, .f32⟩
  | .hbm, ⟨71, _⟩ => ⟨S_, .f32⟩
  | .hbm, ⟨72, _⟩ => ⟨S16, .f32⟩
  | .hbm, ⟨73, _⟩ => ⟨S16, .f32⟩
  | .hbm, ⟨74, _⟩ => ⟨S4x4, .f32⟩
  | .hbm, ⟨75, _⟩ => ⟨S4x4x1x1x1, .f32⟩
  | .hbm, ⟨76, _⟩ => ⟨S128x256, .f32⟩
  | .hbm, ⟨77, _⟩ => ⟨S1x1x1x128x256, .f32⟩
  | .hbm, ⟨78, _⟩ => ⟨S4x4x1x128x256, .f32⟩
  | .hbm, ⟨79, _⟩ => ⟨S4x4x1x128x256, .f32⟩
  | .hbm, ⟨80, _⟩ => ⟨S4x4x1x128x256, .f32⟩
  | .hbm, ⟨81, _⟩ => ⟨S4x4x32x128x256, .f32⟩
  | .hbm, ⟨82, _⟩ => ⟨S4x4x32x128x256, .f32⟩
  | .hbm, ⟨83, _⟩ => ⟨S_, .f32⟩
  | .hbm, ⟨84, _⟩ => ⟨S_, .f32⟩
  | .hbm, ⟨85, _⟩ => ⟨S4x4x32x128x256, .i1⟩
  | .hbm, ⟨86, _⟩ => ⟨S4x4x32x128x256, .f32⟩
  | .hbm, ⟨87, _⟩ => ⟨S4x4x32x128x256, .f32⟩
  | .hbm, ⟨88, _⟩ => ⟨S4x4x1x1x1, .f32⟩
  | .hbm, ⟨89, _⟩ => ⟨S_, .f32⟩
  | .hbm, ⟨90, _⟩ => ⟨S4x4x32x128, .f32⟩
  | .hbm, ⟨91, _⟩ => ⟨S4x4x32x128x1, .f32⟩
  | .hbm, ⟨92, _⟩ => ⟨S4x4x32x128x1, .f32⟩
  | .hbm, ⟨93, _⟩ => ⟨S4x4x32x128x1, .f32⟩
  | .hbm, ⟨94, _⟩ => ⟨S4x4x32x128x256, .f32⟩
  | .hbm, ⟨95, _⟩ => ⟨S4x4x32x128x256, .f32⟩
  | .hbm, ⟨96, _⟩ => ⟨S4x4x32x128x256, .f32⟩
  | .hbm, ⟨97, _⟩ => ⟨S_, .f32⟩
  | .hbm, ⟨98, _⟩ => ⟨S4x4x32x128, .f32⟩
  | .hbm, ⟨99, _⟩ => ⟨S4x4x32x128x1, .f32⟩
  | .hbm, ⟨100, _⟩ => ⟨S4x4x32x128x1, .f32⟩
  | .hbm, ⟨101, _⟩ => ⟨S4x4x32x128x1, .f32⟩
  | .hbm, ⟨102, _⟩ => ⟨S4x4x32x128x1, .f32⟩
  | .hbm, ⟨103, _⟩ => ⟨S4x4x32x128x1, .f32⟩
  | .hbm, ⟨104, _⟩ => ⟨S4x4x32x128x256, .f32⟩
  | .hbm, ⟨105, _⟩ => ⟨S4x4x32x128x256, .f32⟩
  | .hbm, ⟨106, _⟩ => ⟨S32x4x64x4x128, .f32⟩
  | .hbm, ⟨107, _⟩ => ⟨S32x128x4x4x64, .f32⟩
  | .hbm, ⟨108, _⟩ => ⟨S4096x1024, .f32⟩
  | .hbm, ⟨109, _⟩ => ⟨S4096x1024, .bf16⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_c : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_c_2 : Ref sig .tc := ⟨.hbm, 37, rfl⟩
abbrev main_v31 : Ref sig .tc := ⟨.hbm, 38, rfl⟩
abbrev main_v32 : Ref sig .tc := ⟨.hbm, 39, rfl⟩
abbrev main_c_3 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_c_4 : Ref sig .tc := ⟨.hbm, 44, rfl⟩
abbrev main_v36 : Ref sig .tc := ⟨.hbm, 45, rfl⟩
abbrev main_v37 : Ref sig .tc := ⟨.hbm, 46, rfl⟩
abbrev main_c_5 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_c_6 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_7 : Ref sig .tc := ⟨.hbm, 62, rfl⟩
abbrev main_v51 : Ref sig .tc := ⟨.hbm, 63, rfl⟩
abbrev main_v52 : Ref sig .tc := ⟨.hbm, 64, rfl⟩
abbrev main_cst_8 : Ref sig .tc := ⟨.hbm, 65, rfl⟩
abbrev main_v53 : Ref sig .tc := ⟨.hbm, 66, rfl⟩
abbrev main_v54 : Ref sig .tc := ⟨.hbm, 67, rfl⟩
abbrev main_cst_9 : Ref sig .tc := ⟨.hbm, 68, rfl⟩
abbrev main_v55 : Ref sig .tc := ⟨.hbm, 69, rfl⟩
abbrev main_v56 : Ref sig .tc := ⟨.hbm, 70, rfl⟩
abbrev main_cst_10 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_11 : Ref sig .tc := ⟨.hbm, 83, rfl⟩
abbrev main_call0_v0 : Ref sig .tc := ⟨.hbm, 84, rfl⟩
abbrev main_call0_v1 : Ref sig .tc := ⟨.hbm, 85, rfl⟩
abbrev main_call0_v2 : Ref sig .tc := ⟨.hbm, 86, rfl⟩
abbrev main_v68 : Ref sig .tc := ⟨.hbm, 87, rfl⟩
abbrev main_v69 : Ref sig .tc := ⟨.hbm, 88, rfl⟩
abbrev main_cst_12 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_cst_13 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩

abbrev nD : Nat := 1
abbrev τ : Topo := Topo.v7x

variable {F : FTy → Type} [FloatOps F]
-- ==== RmsFwd.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFwdRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== ResFwd.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S1x1024 : Shape := ⟨2, ![1, 1024]⟩
abbrev S512x2816 : Shape := ⟨2, ![512, 2816]⟩
abbrev S512x1024 : Shape := ⟨2, ![512, 1024]⟩
abbrev S32x1024 : Shape := ⟨2, ![32, 1024]⟩
abbrev S32 : Shape := ⟨1, ![32]⟩
abbrev S32x1 : Shape := ⟨2, ![32, 1]⟩

abbrev nBuf : Space → Nat
  | .hbm => 8
  | .vmem => 11
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S2816x1024, .bf16⟩
  | .hbm, ⟨5, _⟩ => ⟨S1x1024, .f32⟩
  | .hbm, ⟨6, _⟩ => ⟨S4096x1024, .f32⟩
  | .hbm, ⟨7, _⟩ => ⟨S4096x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let arg1 : BitVec 32 := BitVec.ofNat 32 (i 1).val
  let c0_i32 : BitVec 32 := 0#32
  let v7 : BitVec 1 := Scalar.cmpi .eq arg1 c0_i32
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ResFwdRefIdeal.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== GateFwd.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S32x1024 : Shape := ⟨2, ![32, 1024]⟩
abbrev S32 : Shape := ⟨1, ![32]⟩
abbrev S32x1 : Shape := ⟨2, ![32, 1]⟩

abbrev nBuf : Space → Nat
  | .hbm => 10
  | .vmem => 15
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S1024x1024, .bf16⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let arg1 : BitVec 32 := BitVec.ofNat 32 (i 1).val
  let c0_i32 : BitVec 32 := 0#32
  let v7 : BitVec 1 := Scalar.cmpi .eq arg1 c0_i32
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== GateFwdRefIdeal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== GateLast.lean ====
abbrev S4096x1024 : Shape := ⟨2, ![4096, 1024]⟩
abbrev S1024x1024 : Shape := ⟨2, ![1024, 1024]⟩
abbrev S512x1024 : Shape := ⟨2, ![512, 1024]⟩
abbrev S32x1024 : Shape := ⟨2, ![32, 1024]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .bf16⟩
  | .hbm, ⟨5, _⟩ => ⟨S4096x1024, .f32⟩
  | .hbm, ⟨6, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let arg1 : BitVec 32 := BitVec.ofNat 32 (i 1).val
  let c0_i32 : BitVec 32 := 0#32
  let v7 : BitVec 1 := Scalar.cmpi .eq arg1 c0_i32
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== GateLastRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Ffn.lean ====
abbrev S4096x5632 : Shape := ⟨2, ![4096, 5632]⟩
abbrev S3x5632 : Shape := ⟨2, ![3, 5632]⟩
abbrev S2816x1024 : Shape := ⟨2, ![2816, 1024]⟩
abbrev S4096x1024 : Shape := ⟨2, ![4096, 1024]⟩
abbrev S_ : Shape := ⟨0, ![]⟩
abbrev S2x5632 : Shape := ⟨2, ![2, 5632]⟩
abbrev S4098x5632 : Shape := ⟨2, ![4098, 5632]⟩
abbrev S1x5632 : Shape := ⟨2, ![1, 5632]⟩
abbrev S5632 : Shape := ⟨1, ![5632]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S3x2816 : Shape := ⟨2, ![3, 2816]⟩
abbrev S512x1024 : Shape := ⟨2, ![512, 1024]⟩
abbrev S1408x1024 : Shape := ⟨2, ![1408, 1024]⟩
abbrev S1x512x1408 : Shape := ⟨3, ![1, 512, 1408]⟩
abbrev S3x1408 : Shape := ⟨2, ![3, 1408]⟩
abbrev S2x512x1408 : Shape := ⟨3, ![2, 512, 1408]⟩
abbrev S520x1408 : Shape := ⟨2, ![520, 1408]⟩
abbrev S512x1408 : Shape := ⟨2, ![512, 1408]⟩
abbrev S8x1408 : Shape := ⟨2, ![8, 1408]⟩
abbrev S512x512 : Shape := ⟨2, ![512, 512]⟩
abbrev S8x512 : Shape := ⟨2, ![8, 512]⟩
abbrev S1x16x512 : Shape := ⟨3, ![1, 16, 512]⟩
abbrev S16x512 : Shape := ⟨2, ![16, 512]⟩
abbrev S24x512 : Shape := ⟨2, ![24, 512]⟩
abbrev S1x512 : Shape := ⟨2, ![1, 512]⟩
abbrev S512 : Shape := ⟨1, ![512]⟩
abbrev S384x1024 : Shape := ⟨2, ![384, 1024]⟩
abbrev S512x384 : Shape := ⟨2, ![512, 384]⟩
abbrev S8x384 : Shape := ⟨2, ![8, 384]⟩
abbrev S1x16x384 : Shape := ⟨3, ![1, 16, 384]⟩
abbrev S16x384 : Shape := ⟨2, ![16, 384]⟩
abbrev S24x384 : Shape := ⟨2, ![24, 384]⟩
abbrev S1x384 : Shape := ⟨2, ![1, 384]⟩
abbrev S384 : Shape := ⟨1, ![384]⟩

abbrev nBuf : Space → Nat
  | .hbm => 41
  | .vmem => 26
  | .smem => 0
  | _ => 0

abbrev bufTy : (tb : Table) → Fin (tcTables nBuf tb) → BufTy
  | .hbm, ⟨0, _⟩ => ⟨S4096x5632, .f32⟩
  | .hbm, ⟨1, _⟩ => ⟨S3x5632, .f32⟩
  | .hbm, ⟨2, _⟩ => ⟨S2816x1024, .f32⟩
  | .hbm, ⟨3, _⟩ => ⟨S4096x1024, .f32⟩
  | .hbm, ⟨4, _⟩ => ⟨S_, .f32⟩
  | .hbm, ⟨5, _⟩ => ⟨S2x5632, .f32⟩
  | .hbm, ⟨6, _⟩ => ⟨S4098x5632, .f32⟩
  | .hbm, ⟨7, _⟩ => ⟨S1x5632, .f32⟩
  | .hbm, ⟨8, _⟩ => ⟨S5632, .f32⟩
  | .hbm, ⟨9, _⟩ => ⟨S4096x5632, .f32⟩
  | .hbm, ⟨10, _⟩ => ⟨S1x5632, .f32⟩
  | .hbm, ⟨11, _⟩ => ⟨S4096x5632, .f32⟩
  | .hbm, ⟨12, _⟩ => ⟨S4096x5632, .f32⟩
  | .hbm, ⟨13, _⟩ => ⟨S1x5632, .f32⟩
  | .hbm, ⟨14, _⟩ => ⟨S5632, .f32⟩
  | .hbm, ⟨15, _⟩ => ⟨S4096x5632, .f32⟩
  | .hbm, ⟨16, _⟩ => ⟨S1x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S1x5632, .f32⟩
  | .hbm, ⟨21, _⟩ => ⟨S5632, .f32⟩
  | .hbm, ⟨22, _⟩ => ⟨S4096x5632, .f32⟩
  | .hbm, ⟨23, _⟩ => ⟨S1x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S2816x1024, .bf16⟩
  | .hbm, ⟨28, _⟩ => ⟨S4096x2816, .f32⟩
  | .hbm, ⟨29, _⟩ => ⟨S4096x2816, .f32⟩
  | .hbm, ⟨30, _⟩ => ⟨S1x4096x2816, .f32⟩
  | .hbm, ⟨31, _⟩ => ⟨S1x4096x2816, .f32⟩
  | .hbm, ⟨32, _⟩ => ⟨S2x4096x2816, .f32⟩
  | .hbm, ⟨33, _⟩ => ⟨S4096x2816, .f32⟩
  | .hbm, ⟨34, _⟩ => ⟨S4096x2816, .f32⟩
  | .hbm, ⟨35, _⟩ => ⟨S1x4096x2816, .f32⟩
  | .hbm, ⟨36, _⟩ => ⟨S1x4096x2816, .f32⟩
  | .hbm, ⟨37, _⟩ => ⟨S2x4096x2816, .f32⟩
  | .hbm, ⟨38, _⟩ => ⟨S2x4096x2816, .bf16⟩
  | .hbm, ⟨39, _⟩ => ⟨S3x2816, .f32⟩
  | .hbm, ⟨40, _⟩ => ⟨S3x2816, .f32⟩
  | .local _ .vmem, ⟨0, _⟩ => ⟨S512x1024, .f32⟩
  | .local _ .vmem, ⟨1, _⟩ => ⟨S512x1024, .f32⟩
  | .local _ .vmem, ⟨2, _⟩ => ⟨S1408x1024, .bf16⟩
  | .local _ .vmem, ⟨3, _⟩ => ⟨S1408x1024, .bf16⟩
  | .local _ .vmem, ⟨4, _⟩ => ⟨S1x512x1408, .f32⟩
  | .local _ .vmem, ⟨5, _⟩ => ⟨S1x512x1408, .f32⟩
  | .local _ .vmem, ⟨6, _⟩ => ⟨S1x512x1408, .f32⟩
  | .local _ .vmem, ⟨7, _⟩ => ⟨S1x512x1408, .f32⟩
  | .local _ .vmem, ⟨8, _⟩ => ⟨S1x512x1408, .f32⟩
  | .local _ .vmem, ⟨9, _⟩ => ⟨S1x512x1408, .f32⟩
  | .local _ .vmem, ⟨10, _⟩ => ⟨S1x512x1408, .f32⟩
  | .local _ .vmem, ⟨11, _⟩ => ⟨S1x512x1408, .f32⟩
  | .local _ .vmem, ⟨12, _⟩ => ⟨S3x1408, .f32⟩
  | .local _ .vmem, ⟨13, _⟩ => ⟨S3x1408, .f32⟩
  | .local _ .vmem, ⟨14, _⟩ => ⟨S3x1408, .f32⟩
  | .local _ .vmem, ⟨15, _⟩ => ⟨S3x1408, .f32⟩
  | .local _ .vmem, ⟨16, _⟩ => ⟨S2x512x1408, .bf16⟩
  | .local _ .vmem, ⟨17, _⟩ => ⟨S2x512x1408, .bf16⟩
  | .local _ .vmem, ⟨18, _⟩ => ⟨S3x1408, .f32⟩
  | .local _ .vmem, ⟨19, _⟩ => ⟨S3x1408, .f32⟩
  | .local _ .vmem, ⟨20, _⟩ => ⟨S3x1408, .f32⟩
  | .local _ .vmem, ⟨21, _⟩ => ⟨S3x1408, .f32⟩
  | .local _ .vmem, ⟨22, _⟩ => ⟨S520x1408, .f32⟩
  | .local _ .vmem, ⟨23, _⟩ => ⟨S520x1408, .f32⟩
  | .local _ .vmem, ⟨24, _⟩ => ⟨S512x1408, .f32⟩
  | .local _ .vmem, ⟨25, _⟩ => ⟨S512x1024, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33_0 : Ref sig .tc := ⟨.hbm, 38, rfl⟩
abbrev main_v33_1 : Ref sig .tc := ⟨.hbm, 39, rfl⟩
abbrev main_v33_2 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c0_i32 : BitVec 32 := 0#32
  let v0 : BitVec 1 := Scalar.cmpi .eq arg1 c0_i32
  let v3496 : BitVec 32 := Scalar.extui v0
  let c0_i32_1629 : BitVec 32 := 0#32
  let v3497 : BitVec 1 := Scalar.cmpi .ne v3496 c0_i32_1629
  v3497

def k0_cond3 (i : grid0.Coords) : BitVec 1 :=
  let arg1 : BitVec 32 := BitVec.ofNat 32 (i 1).val
  let c0_i32 : BitVec 32 := 0#32
  let v0 : BitVec 1 := Scalar.cmpi .eq arg1 c0_i32
  let v_true : BitVec 1 := 1#1
  let v3498 : BitVec 1 := Scalar.xori v0 v_true
  let v3499 : BitVec 32 := Scalar.extui v3498
  let c0_i32_1630 : BitVec 32 := 0#32
  let v3500 : BitVec 1 := Scalar.cmpi .ne v3499 c0_i32_1630
  v3500

def k0_cond4 (i : grid0.Coords) : BitVec 1 :=
  let arg1 : BitVec 32 := BitVec.ofNat 32 (i 1).val
  let c0_i32 : BitVec 32 := 0#32
  let v0 : BitVec 1 := Scalar.cmpi .eq arg1 c0_i32
  let v3505 : BitVec 32 := Scalar.extui v0
  let c0_i32_1633 : BitVec 32 := 0#32
  let v3506 : BitVec 1 := Scalar.cmpi .ne v3505 c0_i32_1633
  v3506

def k0_cond5 (i : grid0.Coords) : BitVec 1 :=
  let arg1 : BitVec 32 := BitVec.ofNat 32 (i 1).val
  let c0_i32 : BitVec 32 := 0#32
  let v0 : BitVec 1 := Scalar.cmpi .eq arg1 c0_i32
  let true_1634 : BitVec 1 := 1#1
  let v3507 : BitVec 1 := Scalar.xori v0 true_1634
  let v3508 : BitVec 32 := Scalar.extui v3507
  let c0_i32_1635 : BitVec 32 := 0#32
  let v3509 : BitVec 1 := Scalar.cmpi .ne v3508 c0_i32_1635
  v3509

def k0_cond6 (i : grid0.Coords) : BitVec 1 :=
  let arg1 : BitVec 32 := BitVec.ofNat 32 (i 1).val
  let c0_i32 : BitVec 32 := 0#32
  let v0 : BitVec 1 := Scalar.cmpi .eq arg1 c0_i32
  let v3514 : BitVec 32 := Scalar.extui v0
  let c0_i32_1638 : BitVec 32 := 0#32
  let v3515 : BitVec 1 := Scalar.cmpi .ne v3514 c0_i32_1638
  v3515

def k0_cond7 (i : grid0.Coords) : BitVec 1 :=
  let arg1 : BitVec 32 := BitVec.ofNat 32 (i 1).val
  let c0_i32 : BitVec 32 := 0#32
  let v0 : BitVec 1 := Scalar.cmpi .eq arg1 c0_i32
  let true_1639 : BitVec 1 := 1#1
  let v3516 : BitVec 1 := Scalar.xori v0 true_1639
  let v3517 : BitVec 32 := Scalar.extui v3516
  let c0_i32_1640 : BitVec 32 := 0#32
  let v3518 : BitVec 1 := Scalar.cmpi .ne v3517 c0_i32_1640
  v3518

def k0_cond8 (i : grid0.Coords) : BitVec 1 :=
  let arg1 : BitVec 32 := BitVec.ofNat 32 (i 1).val
  let c0_i32 : BitVec 32 := 0#32
  let v0 : BitVec 1 := Scalar.cmpi .eq arg1 c0_i32
  let v7000 : BitVec 32 := Scalar.extui v0
  let c0_i32_3295 : BitVec 32 := 0#32
  let v7001 : BitVec 1 := Scalar.cmpi .ne v7000 c0_i32_3295
  v7001

def k0_cond9 (i : grid0.Coords) : BitVec 1 :=
  let arg1 : BitVec 32 := BitVec.ofNat 32 (i 1).val
  let c0_i32 : BitVec 32 := 0#32
  let v0 : BitVec 1 := Scalar.cmpi .eq arg1 c0_i32
  let true_3296 : BitVec 1 := 1#1
  let v7002 : BitVec 1 := Scalar.xori v0 true_3296
  let v7003 : BitVec 32 := Scalar.extui v7002
  let c0_i32_3297 : BitVec 32 := 0#32
  let v7004 : BitVec 1 := Scalar.cmpi .ne v7003 c0_i32_3297
  v7004

def k0_cond10 (i : grid0.Coords) : BitVec 1 :=
  let arg1 : BitVec 32 := BitVec.ofNat 32 (i 1).val
  let c0_i32 : BitVec 32 := 0#32
  let v0 : BitVec 1 := Scalar.cmpi .eq arg1 c0_i32
  let v7009 : BitVec 32 := Scalar.extui v0
  let c0_i32_3300 : BitVec 32 := 0#32
  let v7010 : BitVec 1 := Scalar.cmpi .ne v7009 c0_i32_3300
  v7010

def k0_cond11 (i : grid0.Coords) : BitVec 1 :=
  let arg1 : BitVec 32 := BitVec.ofNat 32 (i 1).val
  let c0_i32 : BitVec 32 := 0#32
  let v0 : BitVec 1 := Scalar.cmpi .eq arg1 c0_i32
  let true_3301 : BitVec 1 := 1#1
  let v7011 : BitVec 1 := Scalar.xori v0 true_3301
  let v7012 : BitVec 32 := Scalar.extui v7011
  let c0_i32_3302 : BitVec 32 := 0#32
  let v7013 : BitVec 1 := Scalar.cmpi .ne v7012 c0_i32_3302
  v7013

def k0_cond12 (i : grid0.Coords) : BitVec 1 :=
  let arg1 : BitVec 32 := BitVec.ofNat 32 (i 1).val
  let c0_i32 : BitVec 32 := 0#32
  let v0 : BitVec 1 := Scalar.cmpi .eq arg1 c0_i32
  let v7018 : BitVec 32 := Scalar.extui v0
  let c0_i32_3305 : BitVec 32 := 0#32
  let v7019 : BitVec 1 := Scalar.cmpi .ne v7018 c0_i32_3305
  v7019

def k0_cond13 (i : grid0.Coords) : BitVec 1 :=
  let arg1 : BitVec 32 := BitVec.ofNat 32 (i 1).val
  let c0_i32 : BitVec 32 := 0#32
  let v0 : BitVec 1 := Scalar.cmpi .eq arg1 c0_i32
  let true_3306 : BitVec 1 := 1#1
  let v7020 : BitVec 1 := Scalar.xori v0 true_3306
  let v7021 : BitVec 32 := Scalar.extui v7020
  let c0_i32_3307 : BitVec 32 := 0#32
  let v7022 : BitVec 1 := Scalar.cmpi .ne v7021 c0_i32_3307
  v7022

def k0_cond14 (i : grid0.Coords) : BitVec 1 :=
  let arg1 : BitVec 32 := BitVec.ofNat 32 (i 1).val
  let c0_i32 : BitVec 32 := 0#32
  let v0 : BitVec 1 := Scalar.cmpi .eq arg1 c0_i32
  let v10497 : BitVec 32 := Scalar.extui v0
  let c0_i32_4956 : BitVec 32 := 0#32
  let v10498 : BitVec 1 := Scalar.cmpi .ne v10497 c0_i32_4956
  v10498

def k0_cond15 (i : grid0.Coords) : BitVec 1 :=
  let arg1 : BitVec 32 := BitVec.ofNat 32 (i 1).val
  let c0_i32 : BitVec 32 := 0#32
  let v0 : BitVec 1 := Scalar.cmpi .eq arg1 c0_i32
  let true_4957 : BitVec 1 := 1#1
  let v10499 : BitVec 1 := Scalar.xori v0 true_4957
  let v10500 : BitVec 32 := Scalar.extui v10499
  let c0_i32_4958 : BitVec 32 := 0#32
  let v10501 : BitVec 1 := Scalar.cmpi .ne v10500 c0_i32_4958
  v10501

def k0_cond16 (i : grid0.Coords) : BitVec 1 :=
  let arg1 : BitVec 32 := BitVec.ofNat 32 (i 1).val
  let c0_i32 : BitVec 32 := 0#32
  let v0 : BitVec 1 := Scalar.cmpi .eq arg1 c0_i32
  let v10506 : BitVec 32 := Scalar.extui v0
  let c0_i32_4961 : BitVec 32 := 0#32
  let v10507 : BitVec 1 := Scalar.cmpi .ne v10506 c0_i32_4961
  v10507

def k0_cond17 (i : grid0.Coords) : BitVec 1 :=
  let arg1 : BitVec 32 := BitVec.ofNat 32 (i 1).val
  let c0_i32 : BitVec 32 := 0#32
  let v0 : BitVec 1 := Scalar.cmpi .eq arg1 c0_i32
  let true_4962 : BitVec 1 := 1#1
  let v10508 : BitVec 1 := Scalar.xori v0 true_4962
  let v10509 : BitVec 32 := Scalar.extui v10508
  let c0_i32_4963 : BitVec 32 := 0#32
  let v10510 : BitVec 1 := Scalar.cmpi .ne v10509 c0_i32_4963
  v10510

def k0_cond18 (i : grid0.Coords) : BitVec 1 :=
  let arg1 : BitVec 32 := BitVec.ofNat 32 (i 1).val
  let c0_i32 : BitVec 32 := 0#32
  let v0 : BitVec 1 := Scalar.cmpi .eq arg1 c0_i32
  let v10515 : BitVec 32 := Scalar.extui v0
  let c0_i32_4966 : BitVec 32 := 0#32
  let v10516 : BitVec 1 := Scalar.cmpi .ne v10515 c0_i32_4966
  v10516

def k0_cond19 (i : grid0.Coords) : BitVec 1 :=
  let arg1 : BitVec 32 := BitVec.ofNat 32 (i 1).val
  let c0_i32 : BitVec 32 := 0#32
  let v0 : BitVec 1 := Scalar.cmpi .eq arg1 c0_i32
  let true_4967 : BitVec 1 := 1#1
  let v10517 : BitVec 1 := Scalar.xori v0 true_4967
  let v10518 : BitVec 32 := Scalar.extui v10517
  let c0_i32_4968 : BitVec 32 := 0#32
  let v10519 : BitVec 1 := Scalar.cmpi .ne v10518 c0_i32_4968
  v10519

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![c0_i32.toNat, v0.toNat, arg0.toNat]

def cc0_transform_3 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c1_i32 : BitVec 32 := 1#32
  let c0_i32 : BitVec 32 := 0#32
  ![c1_i32.toNat, v0.toNat, arg0.toNat]

def cc0_transform_4 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![c0_i32.toNat, v0.toNat, arg0.toNat]

def cc0_transform_5 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c1_i32 : BitVec 32 := 1#32
  let c0_i32 : BitVec 32 := 0#32
  ![c1_i32.toNat, v0.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_8 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![c0_i32.toNat, v0.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S3x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2x512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S3x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S3x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== FfnRefIdeal.lean ====
abbrev S4096x5632 : Shape := ⟨2, ![4096, 5632]⟩
abbrev S3x5632 : Shape := ⟨2, ![3, 5632]⟩
abbrev S2816x1024 : Shape := ⟨2, ![2816, 1024]⟩
abbrev S4096x1024 : Shape := ⟨2, ![4096, 1024]⟩
abbrev S_ : Shape := ⟨0, ![]⟩
abbrev S2x5632 : Shape := ⟨2, ![2, 5632]⟩
abbrev S4098x5632 : Shape := ⟨2, ![4098, 5632]⟩
abbrev S1x5632 : Shape := ⟨2, ![1, 5632]⟩
abbrev S5632 : Shape := ⟨1, ![5632]⟩
abbrev S4096x2816 : Shape := ⟨2, ![4096, 2816]⟩
abbrev S4096x2x2816 : Shape := ⟨3, ![4096, 2, 2816]⟩
abbrev S2x4096x2816 : Shape := ⟨3, ![2, 4096, 2816]⟩
abbrev S3x2816 : Shape := ⟨2, ![3, 2816]⟩

abbrev nBuf : Space → Nat
  | .hbm => 108
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S3x5632, .f32⟩
  | .hbm, ⟨2, _⟩ => ⟨S2816x1024, .f32⟩
  | .hbm, ⟨3, _⟩ => ⟨S4096x1024, .f32⟩
  | .hbm, ⟨4, _⟩ => ⟨S_, .f32⟩
  | .hbm, ⟨5, _⟩ => ⟨S2x5632, .f32⟩
  | .hbm, ⟨6, _⟩ => ⟨S4098x5632, .f32⟩
  | .hbm, ⟨7, _⟩ => ⟨S_, .f32⟩
  | .hbm, ⟨8, _⟩ => ⟨S2x5632, .f32⟩
  | .hbm, ⟨9, _⟩ => ⟨S1x5632, .f32⟩
  | .hbm, ⟨10, _⟩ => ⟨S5632, .f32⟩
  | .hbm, ⟨11, _⟩ => ⟨S4096x5632, .f32⟩
  | .hbm, ⟨12, _⟩ => ⟨S1x5632, .f32⟩
  | .hbm, ⟨13, _⟩ => ⟨S4096x5632, .f32⟩
  | .hbm, ⟨14, _⟩ => ⟨S4096x5632, .f32⟩
  | .hbm, ⟨15, _⟩ => ⟨S1x5632, .f32⟩
  | .hbm, ⟨16, _⟩ => ⟨S5632, .f32⟩
  | .hbm, ⟨17, _⟩ => ⟨S4096x5632, .f32⟩
  | .hbm, ⟨18, _⟩ => ⟨S1x5632, .f32⟩
  | .hbm, ⟨19, _⟩ => ⟨S4096x5632, .f32⟩
  | .hbm, ⟨20, _⟩ => ⟨S4096x5632, .f32⟩
  | .hbm, ⟨21, _⟩ => ⟨S4096x5632, .f32⟩
  | .hbm, ⟨22, _⟩ => ⟨S1x5632, .f32⟩
  | .hbm, ⟨23, _⟩ => ⟨S5632, .f32⟩
  | .hbm, ⟨24, _⟩ => ⟨S4096x5632, .f32⟩
  | .hbm, ⟨25, _⟩ => ⟨S1x5632, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S4096x2816, .f32⟩
  | .hbm, ⟨35, _⟩ => ⟨S4096x2816, .f32⟩
  | .hbm, ⟨36, _⟩ => ⟨S_, .f32⟩
  | .hbm, ⟨37, _⟩ => ⟨S4096x2816, .f32⟩
  | .hbm, ⟨38, _⟩ => ⟨S4096x2816, .f32⟩
  | .hbm, ⟨39, _⟩ => ⟨S_, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x1024, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S4096x2816, .f32⟩
  | .hbm, ⟨53, _⟩ => ⟨S_, .f32⟩
  | .hbm, ⟨54, _⟩ => ⟨S4096x5632, .f32⟩
  | .hbm, ⟨55, _⟩ => ⟨S_, .f32⟩
  | .hbm, ⟨56, _⟩ => ⟨S4096x5632, .f32⟩
  | .hbm, ⟨57, _⟩ => ⟨S4096x5632, .f32⟩
  | .hbm, ⟨58, _⟩ => ⟨S4096x5632, .f32⟩
  | .hbm, ⟨59, _⟩ => ⟨S4096x5632, .f32⟩
  | .hbm, ⟨60, _⟩ => ⟨S4096x5632, .f32⟩
  | .hbm, ⟨61, _⟩ => ⟨S_, .f32⟩
  | .hbm, ⟨62, _⟩ => ⟨S5632, .f32⟩
  | .hbm, ⟨63, _⟩ => ⟨S1x5632, .f32⟩
  | .hbm, ⟨64, _⟩ => ⟨S_, .f32⟩
  | .hbm, ⟨65, _⟩ => ⟨S5632, .f32⟩
  | .hbm, ⟨66, _⟩ => ⟨S_, .f32⟩
  | .hbm, ⟨67, _⟩ => ⟨S4098x5632, .f32⟩
  | .hbm, ⟨68, _⟩ => ⟨S1x5632, .f32⟩
  | .hbm, ⟨69, _⟩ => ⟨S_, .f32⟩
  | .hbm, ⟨70, _⟩ => ⟨S3x5632, .f32⟩
  | .hbm, ⟨71, _⟩ => ⟨S4096x5632, .f32⟩
  | .hbm, ⟨72, _⟩ => ⟨S4096x5632, .f32⟩
  | .hbm, ⟨73, _⟩ => ⟨S4096x5632, .f32⟩
  | .hbm, ⟨74, _⟩ => ⟨S_, .f32⟩
  | .hbm, ⟨75, _⟩ => ⟨S5632, .f32⟩
  | .hbm, ⟨76, _⟩ => ⟨S1x5632, .f32⟩
  | .hbm, ⟨77, _⟩ => ⟨S_, .f32⟩
  | .hbm, ⟨78, _⟩ => ⟨S5632, .f32⟩
  | .hbm, ⟨79, _⟩ => ⟨S_, .f32⟩
  | .hbm, ⟨80, _⟩ => ⟨S4098x5632, .f32⟩
  | .hbm, ⟨81, _⟩ => ⟨S4098x5632, .f32⟩
  | .hbm, ⟨82, _⟩ => ⟨S1x5632, .f32⟩
  | .hbm, ⟨83, _⟩ => ⟨S_, .f32⟩
  | .hbm, ⟨84, _⟩ => ⟨S3x5632, .f32⟩
  | .hbm, ⟨85, _⟩ => ⟨S3x5632, .f32⟩
  | .hbm, ⟨86, _⟩ => ⟨S4096x5632, .f32⟩
  | .hbm, ⟨87, _⟩ => ⟨S4096x5632, .f32⟩
  | .hbm, ⟨88, _⟩ => ⟨S4096x5632, .f32⟩
  | .hbm, ⟨89, _⟩ => ⟨S_, .f32⟩
  | .hbm, ⟨90, _⟩ => ⟨S5632, .f32⟩
  | .hbm, ⟨91, _⟩ => ⟨S1x5632, .f32⟩
  | .hbm, ⟨92, _⟩ => ⟨S_, .f32⟩
  | .hbm, ⟨93, _⟩ => ⟨S5632, .f32⟩
  | .hbm, ⟨94, _⟩ => ⟨S_, .f32⟩
  | .hbm, ⟨95, _⟩ => ⟨S4098x5632, .f32⟩
  | .hbm, ⟨96, _⟩ => ⟨S4098x5632, .f32⟩
  | .hbm, ⟨97, _⟩ => ⟨S1x5632, .f32⟩
  | .hbm, ⟨98, _⟩ => ⟨S_, .f32⟩
  | .hbm, ⟨99, _⟩ => ⟨S3x5632, .f32⟩
  | .hbm, ⟨100, _⟩ => ⟨S3x5632, .f32⟩
  | .hbm, ⟨101, _⟩ => ⟨S2x5632, .f32⟩
  | .hbm, ⟨102, _⟩ => ⟨S4096x5632, .f32⟩
  | .hbm, ⟨103, _⟩ => ⟨S4096x2x2816, .f32⟩
  | .hbm, ⟨104, _⟩ => ⟨S2x4096x2816, .f32⟩
  | .hbm, ⟨105, _⟩ => ⟨S2x4096x2816, .bf16⟩
  | .hbm, ⟨106, _⟩ => ⟨S3x2816, .f32⟩
  | .hbm, ⟨107, _⟩ => ⟨S3x2816, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_v25_2 : Ref sig .tc := ⟨.hbm, 38, rfl⟩
abbrev main_call0_cst_1 : Ref sig .tc := ⟨.hbm, 39, rfl⟩
abbrev main_call0_v6 : Ref sig .tc := ⟨.hbm, 40, rfl⟩
abbrev main_call0_v7 : Ref sig .tc := ⟨.hbm, 41, rfl⟩
abbrev main_v25_1 : Ref sig .tc := ⟨.hbm, 42, rfl⟩
abbrev main_v25_0 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v31 : Ref sig .tc := ⟨.hbm, 52, rfl⟩
abbrev main_cst_1 : Ref sig .tc := ⟨.hbm, 53, rfl⟩
abbrev main_v32 : Ref sig .tc := ⟨.hbm, 54, rfl⟩
abbrev main_cst_2 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_3 : Ref sig .tc := ⟨.hbm, 61, rfl⟩
abbrev main_v38 : Ref sig .tc := ⟨.hbm, 62, rfl⟩
abbrev main_v39 : Ref sig .tc := ⟨.hbm, 63, rfl⟩
abbrev main_cst_4 : Ref sig .tc := ⟨.hbm, 64, rfl⟩
abbrev main_v40 : Ref sig .tc := ⟨.hbm, 65, rfl⟩
abbrev main_cst_5 : Ref sig .tc := ⟨.hbm, 66, rfl⟩
abbrev main_v41 : Ref sig .tc := ⟨.hbm, 67, rfl⟩
abbrev main_v42 : Ref sig .tc := ⟨.hbm, 68, rfl⟩
abbrev main_cst_6 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_7 : Ref sig .tc := ⟨.hbm, 74, rfl⟩
abbrev main_v47 : Ref sig .tc := ⟨.hbm, 75, rfl⟩
abbrev main_v48 : Ref sig .tc := ⟨.hbm, 76, rfl⟩
abbrev main_cst_8 : Ref sig .tc := ⟨.hbm, 77, rfl⟩
abbrev main_v49 : Ref sig .tc := ⟨.hbm, 78, rfl⟩
abbrev main_cst_9 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_10 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_11 : Ref sig .tc := ⟨.hbm, 89, rfl⟩
abbrev main_v58 : Ref sig .tc := ⟨.hbm, 90, rfl⟩
abbrev main_v59 : Ref sig .tc := ⟨.hbm, 91, rfl⟩
abbrev main_cst_12 : Ref sig .tc := ⟨.hbm, 92, rfl⟩
abbrev main_v60 : Ref sig .tc := ⟨.hbm, 93, rfl⟩
abbrev main_cst_13 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_14 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩

abbrev nD : Nat := 1
abbrev τ : Topo := Topo.v7x

variable {F : FTy → Type} [FloatOps F]
-- ==== Up.lean ====
abbrev S4096x1024 : Shape := ⟨2, ![4096, 1024]⟩
abbrev S1024x5632 : Shape := ⟨2, ![1024, 5632]⟩
abbrev S3x5632 : Shape := ⟨2, ![3, 5632]⟩
abbrev S5632x1024 : Shape := ⟨2, ![5632, 1024]⟩
abbrev S2x2816x1024 : Shape := ⟨3, ![2, 2816, 1024]⟩
abbrev S2x4096x2816 : Shape := ⟨3, ![2, 4096, 2816]⟩
abbrev S4096x2816 : Shape := ⟨2, ![4096, 2816]⟩
abbrev S512x1024 : Shape := ⟨2, ![512, 1024]⟩
abbrev S1x1408x1024 : Shape := ⟨3, ![1, 1408, 1024]⟩
abbrev S3x1408 : Shape := ⟨2, ![3, 1408]⟩
abbrev S2x512x1408 : Shape := ⟨3, ![2, 512, 1408]⟩
abbrev S512x1408 : Shape := ⟨2, ![512, 1408]⟩
abbrev S24x1408 : Shape := ⟨2, ![24, 1408]⟩
abbrev S8x1408 : Shape := ⟨2, ![8, 1408]⟩
abbrev S1x512x1024 : Shape := ⟨3, ![1, 512, 1024]⟩
abbrev S512x512 : Shape := ⟨2, ![512, 512]⟩
abbrev S1x512x512 : Shape := ⟨3, ![1, 512, 512]⟩
abbrev S1x512x1408 : Shape := ⟨3, ![1, 512, 1408]⟩
abbrev S16x512 : Shape := ⟨2, ![16, 512]⟩
abbrev S24x512 : Shape := ⟨2, ![24, 512]⟩
abbrev S1x512 : Shape := ⟨2, ![1, 512]⟩
abbrev S1x16x512 : Shape := ⟨3, ![1, 16, 512]⟩
abbrev S8x512 : Shape := ⟨2, ![8, 512]⟩
abbrev S1x384x1024 : Shape := ⟨3, ![1, 384, 1024]⟩
abbrev S384x1024 : Shape := ⟨2, ![384, 1024]⟩
abbrev S512x384 : Shape := ⟨2, ![512, 384]⟩
abbrev S1x512x384 : Shape := ⟨3, ![1, 512, 384]⟩
abbrev S16x384 : Shape := ⟨2, ![16, 384]⟩
abbrev S24x384 : Shape := ⟨2, ![24, 384]⟩
abbrev S1x384 : Shape := ⟨2, ![1, 384]⟩
abbrev S1x16x384 : Shape := ⟨3, ![1, 16, 384]⟩
abbrev S8x384 : Shape := ⟨2, ![8, 384]⟩

abbrev nBuf : Space → Nat
  | .hbm => 9
  | .vmem => 18
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .f32⟩
  | .hbm, ⟨2, _⟩ => ⟨S3x5632, .f32⟩
  | .hbm, ⟨3, _⟩ => ⟨S5632x1024, .f32⟩
  | .hbm, ⟨4, _⟩ => ⟨S2x2816x1024, .f32⟩
  | .hbm, ⟨5, _⟩ => ⟨S2x2816x1024, .bf16⟩
  | .hbm, ⟨6, _⟩ => ⟨S2x4096x2816, .f32⟩
  | .hbm, ⟨7, _⟩ => ⟨S2x4096x2816, .f32⟩
  | .hbm, ⟨8, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S3x1408, .f32⟩
  | .local _ .vmem, ⟨7, _⟩ => ⟨S3x1408, .f32⟩
  | .local _ .vmem, ⟨8, _⟩ => ⟨S3x1408, .f32⟩
  | .local _ .vmem, ⟨9, _⟩ => ⟨S3x1408, .f32⟩
  | .local _ .vmem, ⟨10, _⟩ => ⟨S2x512x1408, .f32⟩
  | .local _ .vmem, ⟨11, _⟩ => ⟨S2x512x1408, .f32⟩
  | .local _ .vmem, ⟨12, _⟩ => ⟨S2x512x1408, .f32⟩
  | .local _ .vmem, ⟨13, _⟩ => ⟨S2x512x1408, .f32⟩
  | .local _ .vmem, ⟨14, _⟩ => ⟨S512x1408, .bf16⟩
  | .local _ .vmem, ⟨15, _⟩ => ⟨S512x1408, .bf16⟩
  | .local _ .vmem, ⟨16, _⟩ => ⟨S24x1408, .f32⟩
  | .local _ .vmem, ⟨17, _⟩ => ⟨S24x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x512x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x512x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== UpRefIdeal.lean ====
abbrev S4096x1024 : Shape := ⟨2, ![4096, 1024]⟩
abbrev S1024x5632 : Shape := ⟨2, ![1024, 5632]⟩
abbrev S3x5632 : Shape := ⟨2, ![3, 5632]⟩
abbrev S4096x5632 : Shape := ⟨2, ![4096, 5632]⟩
abbrev S_ : Shape := ⟨0, ![]⟩
abbrev S2x5632 : Shape := ⟨2, ![2, 5632]⟩
abbrev S4098x5632 : Shape := ⟨2, ![4098, 5632]⟩
abbrev S1x5632 : Shape := ⟨2, ![1, 5632]⟩
abbrev S5632 : Shape := ⟨1, ![5632]⟩
abbrev S4096x2x2816 : Shape := ⟨3, ![4096, 2, 2816]⟩
abbrev S2x4096x2816 : Shape := ⟨3, ![2, 4096, 2816]⟩
abbrev S4096x2816 : Shape := ⟨2, ![4096, 2816]⟩

abbrev nBuf : Space → Nat
  | .hbm => 45
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .f32⟩
  | .hbm, ⟨2, _⟩ => ⟨S3x5632, .f32⟩
  | .hbm, ⟨3, _⟩ => ⟨S4096x1024, .f32⟩
  | .hbm, ⟨4, _⟩ => ⟨S4096x5632, .f32⟩
  | .hbm, ⟨5, _⟩ => ⟨S_, .f32⟩
  | .hbm, ⟨6, _⟩ => ⟨S2x5632, .f32⟩
  | .hbm, ⟨7, _⟩ => ⟨S4098x5632, .f32⟩
  | .hbm, ⟨8, _⟩ => ⟨S1x5632, .f32⟩
  | .hbm, ⟨9, _⟩ => ⟨S5632, .f32⟩
  | .hbm, ⟨10, _⟩ => ⟨S4096x5632, .f32⟩
  | .hbm, ⟨11, _⟩ => ⟨S1x5632, .f32⟩
  | .hbm, ⟨12, _⟩ => ⟨S4096x5632, .f32⟩
  | .hbm, ⟨13, _⟩ => ⟨S4096x5632, .f32⟩
  | .hbm, ⟨14, _⟩ => ⟨S1x5632, .f32⟩
  | .hbm, ⟨15, _⟩ => ⟨S5632, .f32⟩
  | .hbm, ⟨16, _⟩ => ⟨S4096x5632, .f32⟩
  | .hbm, ⟨17, _⟩ => ⟨S1x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S1x5632, .f32⟩
  | .hbm, ⟨22, _⟩ => ⟨S5632, .f32⟩
  | .hbm, ⟨23, _⟩ => ⟨S4096x5632, .f32⟩
  | .hbm, ⟨24, _⟩ => ⟨S1x5632, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S4096x2x2816, .f32⟩
  | .hbm, ⟨29, _⟩ => ⟨S2x4096x2816, .f32⟩
  | .hbm, ⟨30, _⟩ => ⟨S4096x2x2816, .f32⟩
  | .hbm, ⟨31, _⟩ => ⟨S2x4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S_, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Sum.lean ====
abbrev S8x64x128 : Shape := ⟨3, ![8, 64, 128]⟩
abbrev S64x128 : Shape := ⟨2, ![64, 128]⟩
abbrev S1x64x128 : Shape := ⟨3, ![1, 64, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x64x128, .f32⟩
  | .hbm, ⟨1, _⟩ => ⟨S64x128, .f32⟩
  | .local _ .vmem, ⟨0, _⟩ => ⟨S8x64x128, .f32⟩
  | .local _ .vmem, ⟨1, _⟩ => ⟨S64x128, .f32⟩
  | _, _ => ⟨S8x64x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumRefIdeal.lean ====
abbrev S8x64x128 : Shape := ⟨3, ![8, 64, 128]⟩
abbrev S_ : Shape := ⟨0, ![]⟩
abbrev S64x128 : Shape := ⟨2, ![64, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x64x128, .f32⟩
  | .hbm, ⟨1, _⟩ => ⟨S_, .f32⟩
  | .hbm, ⟨2, _⟩ => ⟨S64x128, .f32⟩
  | _, _ => ⟨S8x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Adam.lean ====
abbrev S64x128 : Shape := ⟨2, ![64, 128]⟩

abbrev nBuf : Space → Nat
  | .hbm => 7
  | .vmem => 7
  | .smem => 0
  | _ => 0

abbrev bufTy : (tb : Table) → Fin (tcTables nBuf tb) → BufTy
  | .hbm, ⟨0, _⟩ => ⟨S64x128, .f32⟩
  | .hbm, ⟨1, _⟩ => ⟨S64x128, .f32⟩
  | .hbm, ⟨2, _⟩ => ⟨S64x128, .f32⟩
  | .hbm, ⟨3, _⟩ => ⟨S64x128, .f32⟩
  | .hbm, ⟨4, _⟩ => ⟨S64x128, .f32⟩
  | .hbm, ⟨5, _⟩ => ⟨S64x128, .f32⟩
  | .hbm, ⟨6, _⟩ => ⟨S64x128, .f32⟩
  | .local _ .vmem, ⟨0, _⟩ => ⟨S64x128, .f32⟩
  | .local _ .vmem, ⟨1, _⟩ => ⟨S64x128, .f32⟩
  | .local _ .vmem, ⟨2, _⟩ => ⟨S64x128, .f32⟩
  | .local _ .vmem, ⟨3, _⟩ => ⟨S64x128, .f32⟩
  | .local _ .vmem, ⟨4, _⟩ => ⟨S64x128, .f32⟩
  | .local _ .vmem, ⟨5, _⟩ => ⟨S64x128, .f32⟩
  | .local _ .vmem, ⟨6, _⟩ => ⟨S64x128, .f32⟩
  | _, _ => ⟨S64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamIdeal.lean ====
variable {F : FTy → Type} [FloatOps F] [Named F]
def κ : String → Option EReal := fun
  | "bias1" => some (((5463681 / 8388608)⁻¹ : ℝ) : EReal)
  | "bias2" => some (((2672307 / 268435456)⁻¹ : ℝ) : EReal)
  | _ => none
-- ==== AdamRefIdeal.lean ====
abbrev S64x128 : Shape := ⟨2, ![64, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S64x128, .f32⟩
  | .hbm, ⟨1, _⟩ => ⟨S64x128, .f32⟩
  | .hbm, ⟨2, _⟩ => ⟨S64x128, .f32⟩
  | .hbm, ⟨3, _⟩ => ⟨S64x128, .f32⟩
  | .hbm, ⟨4, _⟩ => ⟨S_, .f32⟩
  | .hbm, ⟨5, _⟩ => ⟨S64x128, .f32⟩
  | .hbm, ⟨6, _⟩ => ⟨S64x128, .f32⟩
  | .hbm, ⟨7, _⟩ => ⟨S_, .f32⟩
  | .hbm, ⟨8, _⟩ => ⟨S64x128, .f32⟩
  | .hbm, ⟨9, _⟩ => ⟨S64x128, .f32⟩
  | .hbm, ⟨10, _⟩ => ⟨S64x128, .f32⟩
  | .hbm, ⟨11, _⟩ => ⟨S_, .f32⟩
  | .hbm, ⟨12, _⟩ => ⟨S64x128, .f32⟩
  | .hbm, ⟨13, _⟩ => ⟨S64x128, .f32⟩
  | .hbm, ⟨14, _⟩ => ⟨S64x128, .f32⟩
  | .hbm, ⟨15, _⟩ => ⟨S_, .f32⟩
  | .hbm, ⟨16, _⟩ => ⟨S64x128, .f32⟩
  | .hbm, ⟨17, _⟩ => ⟨S64x128, .f32⟩
  | .hbm, ⟨18, _⟩ => ⟨S64x128, .f32⟩
  | .hbm, ⟨19, _⟩ => ⟨S_, .f32⟩
  | .hbm, ⟨20, _⟩ => ⟨S64x128, .f32⟩
  | .hbm, ⟨21, _⟩ => ⟨S64x128, .f32⟩
  | .hbm, ⟨22, _⟩ => ⟨S_, .f32⟩
  | .hbm, ⟨23, _⟩ => ⟨S64x128, .f32⟩
  | .hbm, ⟨24, _⟩ => ⟨S64x128, .f32⟩
  | .hbm, ⟨25, _⟩ => ⟨S64x128, .f32⟩
  | .hbm, ⟨26, _⟩ => ⟨S_, .f32⟩
  | .hbm, ⟨27, _⟩ => ⟨S64x128, .f32⟩
  | .hbm, ⟨28, _⟩ => ⟨S64x128, .f32⟩
  | .hbm, ⟨29, _⟩ => ⟨S64x128, .f32⟩
  | .hbm, ⟨30, _⟩ => ⟨S_, .f32⟩
  | .hbm, ⟨31, _⟩ => ⟨S64x128, .f32⟩
  | .hbm, ⟨32, _⟩ => ⟨S64x128, .f32⟩
  | .hbm, ⟨33, _⟩ => ⟨S64x128, .f32⟩
  | .hbm, ⟨34, _⟩ => ⟨S_, .f32⟩
  | .hbm, ⟨35, _⟩ => ⟨S64x128, .f32⟩
  | .hbm, ⟨36, _⟩ => ⟨S64x128, .f32⟩
  | _, _ => ⟨S64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Mat.lean ====
abbrev S2x4096x2816 : Shape := ⟨3, ![2, 4096, 2816]⟩
abbrev S4096x1024 : Shape := ⟨2, ![4096, 1024]⟩
abbrev S2x2816x1024 : Shape := ⟨3, ![2, 2816, 1024]⟩
abbrev S1x1024x1408 : Shape := ⟨3, ![1, 1024, 1408]⟩
abbrev S1024x1024 : Shape := ⟨2, ![1024, 1024]⟩
abbrev S1x1408x1024 : Shape := ⟨3, ![1, 1408, 1024]⟩
abbrev S1408x1024 : Shape := ⟨2, ![1408, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2x4096x2816, .bf16⟩
  | .hbm, ⟨1, _⟩ => ⟨S4096x1024, .bf16⟩
  | .hbm, ⟨2, _⟩ => ⟨S2x2816x1024, .bf16⟩
  | .local _ .vmem, ⟨0, _⟩ => ⟨S1x1024x1408, .bf16⟩
  | .local _ .vmem, ⟨1, _⟩ => ⟨S1x1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 2, 1, 4], ![false, false, false, false]⟩

def k0_cond3 (i : grid0.Coords) : BitVec 1 :=
  let arg3 : BitVec 32 := BitVec.ofNat 32 (i 3).val
  let c3_i32 : BitVec 32 := 3#32
  let v10 : BitVec 1 := Scalar.cmpi .eq arg3 c3_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg3 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg0.toNat, v9.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg3 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![v9.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg3 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg0.toNat, arg1.toNat, arg2.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== MatRefIdeal.lean ====
abbrev S2x4096x2816 : Shape := ⟨3, ![2, 4096, 2816]⟩
abbrev S4096x1024 : Shape := ⟨2, ![4096, 1024]⟩
abbrev S2x2816x1024 : Shape := ⟨3, ![2, 2816, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S4096x1024, .bf16⟩
  | .hbm, ⟨2, _⟩ => ⟨S2x4096x2816, .f32⟩
  | .hbm, ⟨3, _⟩ => ⟨S4096x1024, .f32⟩
  | .hbm, ⟨4, _⟩ => ⟨S2x2816x1024, .f32⟩
  | .hbm, ⟨5, _⟩ => ⟨S2x2816x1024, .bf16⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Scalars.lean ====
module

public import Idealize.ShloMosaic.PureOps.Ideal
public import Idealize.ShloMosaic.PureOps.Ideal.Laws
public import Idealize.ShloMosaic.Lib.IdealHost

@[expose] public section

noncomputable section

/-! Facts about single extended reals that several calls use. -/

namespace Cert.Scalars

open Idealize.ShloMosaic

/-- The word of `0.5`. -/
theorem half : Ideal.ofBits .f32 0x3F000000#32 = ((1 / 2 : ℝ) : EReal) := by
  simp [Ideal.ofBits, Ideal.ieee]
  rw [← EReal.coe_mul]; norm_num

/-- `0.5 * tanh (0.5 * x) + 0.5` is the logistic function, at the infinities too. -/
theorem sigmoid (x : EReal) :
    ((1 / 2 : ℝ) : EReal) * Ideal.tanh (((1 / 2 : ℝ) : EReal) * x) + ((1 / 2 : ℝ) : EReal)
      = Ideal.div 1 (1 + Ideal.exp (-x)) := by
  induction x using EReal.rec with
  | bot =>
    rw [EReal.coe_mul_bot_of_pos (by norm_num), Ideal.tanh_bot, EReal.neg_bot, Ideal.exp_top]
    rw [show (1 : EReal) + ⊤ = ⊤ from rfl, Ideal.div, if_neg (by simp), EReal.inv_top, mul_zero]
    rw [show (-1 : EReal) = ((-1 : ℝ) : EReal) from rfl, ← EReal.coe_mul, ← EReal.coe_add]
    norm_num
  | top =>
    rw [EReal.coe_mul_top_of_pos (by norm_num), Ideal.tanh_top, EReal.neg_top, Ideal.exp_bot]
    rw [add_zero, Ideal.div, if_neg one_ne_zero, mul_one, ← EReal.coe_add,
      show (1 : EReal) = ((1 : ℝ) : EReal) from rfl, ← EReal.coe_inv, ← EReal.coe_mul]
    norm_num
  | coe r =>
    have he : 0 < Real.exp (-r) := Real.exp_pos _
    rw [← EReal.coe_mul, Ideal.tanh_coe, ← EReal.coe_neg, Ideal.exp_coe, ← EReal.coe_mul, ← EReal.coe_add,
      show (1 : EReal) = ((1 : ℝ) : EReal) from rfl, ← EReal.coe_add, Ideal.div,
      if_neg (by exact_mod_cast (by positivity : (1 + Real.exp (-r)) ≠ 0)), ← EReal.coe_inv, ← EReal.coe_mul]
    congr 1
    have h1 : Real.exp (-r) = Real.exp (-(1 / 2 * r)) * Real.exp (-(1 / 2 * r)) := by
      rw [← Real.exp_add]; ring_nf
    have h2 : Real.exp (1 / 2 * r) * Real.exp (-(1 / 2 * r)) = 1 := by rw [← Real.exp_add]; simp
    rw [Real.tanh_eq_sinh_div_cosh, Real.sinh_eq, Real.cosh_eq, h1]
    set a := Real.exp (1 / 2 * r)
    set b := Real.exp (-(1 / 2 * r))
    have ha : 0 < a := Real.exp_pos _
    have hb : 0 < b := Real.exp_pos _
    field_simp
    linear_combination 2 * b * h2

end Cert.Scalars

end
-- ==== Proof.Ple.lean ====
module

public import proofs.«01_k».proof.Defs
public import proofs.«01_k».proof.Proof.Gen.Ple.Frame
public import proofs.«01_k».proof.Proof.Gen.PleIdeal.Frame
public import proofs.«01_k».proof.Proof.Gen.PleIdeal.Value
public import proofs.«01_k».proof.Proof.Gen.PleRefIdeal.Run
public import proofs.«01_k».proof.Proof.Gen.PleRefIdeal.Read
public import Idealize.ShloMosaic.Lib.Pointwise
public import proofs.«01_k».proof.Proof.Scalars

@[expose] public section

set_option maxRecDepth 16384

noncomputable section

namespace Cert.Calls.Ple

open Idealize.ShloMosaic Idealize.SL.Sem

theorem frame_p : Cert.quiescent_Ple := fun m g _ => Cert.Ple.Gen.frame m g
theorem frame_pi : Cert.quiescent_PleIdeal := fun m g _ => Cert.PleIdeal.Gen.frame m g
theorem frame_ri : Cert.quiescent_PleRefIdeal := fun m g _ =>
  (θ_run Cert.PleRefIdeal.defs _ _).mono
    (fun r h => ⟨fun c => (h c).2.2, sem_eq_zero_of_no_sems (by decide) r.2⟩)
    (Cert.PleRefIdeal.Value.run (F := Ideal) m g)

/-- The gradient of the gate `h + sigmoid(zg) * pe`: the version's `0.5 * tanh (0.5 * zg) + 0.5` is the logistic
    function, and the two products associate the other way. -/
theorem algebraic : Cert.algebraic_PleIdeal_PleRefIdeal := by
  pair_intro
  · run_from Cert.PleIdeal.Value.run m g
  · run_from Cert.PleRefIdeal.Value.run m' g'
    · funext i
      pointwise
      simp only [Scalars.half, Scalars.sigmoid, mul_assoc]
    · funext i
      pointwise
      rw [Scalars.half, Scalars.sigmoid]
      exact mul_comm _ _

end Cert.Calls.Ple

end
-- ==== Proof.NormRow.lean ====
module

public import Idealize.ShloMosaic.Lib.Pointwise
public import Idealize.ShloMosaic.Lib.Pipeline.ValueKit

@[expose] public section

noncomputable section

/-! One row of the norm's gradient, as the kernels write it: `g` the gradient that reaches the normed row, `w` the norm's
    weight, `x` the row that was normed. -/

namespace Cert.NormRow

open Idealize.ShloMosaic

/-- The row's mean square with the small constant of the norm. -/
def ms (x : Fin 1024 → EReal) : EReal :=
  Ideal.div (∑ k, x k * x k) (Ideal.ofBits .f32 0x44800000#32) + Ideal.ofBits .f32 0x358637BD#32

/-- The reciprocal root of the row's mean square. -/
def rstd (x : Fin 1024 → EReal) : EReal := Ideal.rsqrt (ms x)

/-- The row's mean of gradient times normed row. -/
def dot (g w x : Fin 1024 → EReal) : EReal :=
  (∑ k, g k * w k * x k) * rstd x * Ideal.ofBits .f32 0x3A800000#32

/-- The gradient of the row at one column, with the skip's. -/
def dh (g w x : Fin 1024 → EReal) (s : EReal) (q : Fin 1024) : EReal :=
  rstd x * (g q * w q - x q * rstd x * dot g w x) + s

/-- The row's share of the weight's gradient at one column. -/
def dw (g x : Fin 1024 → EReal) (q : Fin 1024) : EReal := g q * (x q * rstd x)

/-- Half of what the derivative of the mean square adds to each column, as differentiation writes it. -/
def half (g w x : Fin 1024 → EReal) : EReal :=
  Ideal.div ((∑ k, x k * (g k * w k)) * (Ideal.ofBits .f32 0xBF000000#32 * Ideal.div (rstd x) (ms x)))
    (Ideal.ofBits .f32 0x44800000#32)

/-- The gradient of the row at one column, as differentiation writes it. -/
def refDh (g w x : Fin 1024 → EReal) (s : EReal) (q : Fin 1024) : EReal :=
  s + g q * w q * rstd x + x q * half g w x + half g w x * x q

/-- The gradient of all rows: `acc` is the gradient that reaches the normed rows. -/
def dhArr (acc : Fin 4096 → Fin 1024 → EReal) (w : Vec Ideal ⟨1, ![1024]⟩ .f32) (h skip : Vec Ideal ⟨2, ![4096, 1024]⟩ .f32) :
    Vec Ideal ⟨2, ![4096, 1024]⟩ .f32 :=
  fun i => dh (acc (i 0)) (fun k => w (ix1 k)) (fun k => h (ix2 (i 0) k)) (skip (ix2 (i 0) (i 1))) (i 1)

/-- The gradient of all rows, as differentiation writes it. -/
def refArr (acc : Fin 4096 → Fin 1024 → EReal) (w : Vec Ideal ⟨1, ![1024]⟩ .f32) (h skip : Vec Ideal ⟨2, ![4096, 1024]⟩ .f32) :
    Vec Ideal ⟨2, ![4096, 1024]⟩ .f32 :=
  fun i => refDh (acc (i 0)) (fun k => w (ix1 k)) (fun k => h (ix2 (i 0) k)) (skip (ix2 (i 0) (i 1))) (i 1)

/-- The gradient of the weight, as one row. -/
def dwArr (acc : Fin 4096 → Fin 1024 → EReal) (h : Vec Ideal ⟨2, ![4096, 1024]⟩ .f32) : Vec Ideal ⟨2, ![1, 1024]⟩ .f32 :=
  fun i => ∑ P, dw (acc P) (fun k => h (ix2 P k)) (i 1)

theorem word_n : Ideal.ofBits .f32 0x44800000#32 = ((1024 : ℝ) : EReal) := by
  simp [Ideal.ofBits, Ideal.ieee]; rw [← EReal.coe_mul]; norm_num

theorem word_inv_n : Ideal.ofBits .f32 0x3A800000#32 = ((1 / 1024 : ℝ) : EReal) := by
  simp [Ideal.ofBits, Ideal.ieee]; rw [← EReal.coe_mul]; norm_num

theorem word_neg_half : Ideal.ofBits .f32 0xBF000000#32 = ((-(1 / 2) : ℝ) : EReal) := by
  simp [Ideal.ofBits, Ideal.ieee]; rw [← EReal.coe_mul]; norm_num

/-- The norm's small constant. -/
theorem word_eps : ∃ e : ℝ, 0 < e ∧ Ideal.ofBits .f32 0x358637BD#32 = (e : EReal) := by
  refine ⟨8796093 / 2 ^ 43, by norm_num, ?_⟩
  simp [Ideal.ofBits, Ideal.ieee]; rw [← EReal.coe_mul]; norm_num

theorem coe_sum {ι : Type*} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

theorem div_coe (a b : ℝ) (h : b ≠ 0) : Ideal.div (a : EReal) (b : EReal) = ((a / b : ℝ) : EReal) := by
  rw [Ideal.div, if_neg (by exact_mod_cast h), ← EReal.coe_inv, ← EReal.coe_mul, div_eq_mul_inv]

/-- On a real row the mean square is a positive real. -/
theorem ms_coe (x : Fin 1024 → ℝ) : ∃ M : ℝ, 0 < M ∧ ms (fun k => (x k : EReal)) = (M : EReal) := by
  obtain ⟨e, he, hw⟩ := word_eps
  refine ⟨(∑ k, x k * x k) / 1024 + e, ?_, ?_⟩
  · have : 0 ≤ ∑ k, x k * x k := Finset.sum_nonneg fun k _ => mul_self_nonneg _
    positivity
  · simp only [ms, hw, word_n, ← EReal.coe_mul, ← coe_sum]
    rw [div_coe _ _ (by norm_num), ← EReal.coe_add]

/-- The kernels' gradient of a row is the derivative. -/
theorem dh_eq_refDh (g w x : Fin 1024 → ℝ) (s : EReal) (q : Fin 1024) :
    dh (fun k => (g k : EReal)) (fun k => (w k : EReal)) (fun k => (x k : EReal)) s q =
      refDh (fun k => (g k : EReal)) (fun k => (w k : EReal)) (fun k => (x k : EReal)) s q := by
  obtain ⟨M, hM, hms⟩ := ms_coe x
  have hr : rstd (fun k => (x k : EReal)) = (((√M)⁻¹ : ℝ) : EReal) := by
    rw [rstd, hms, Ideal.rsqrt_coe, if_neg (not_lt.2 hM.le), if_neg hM.ne']
  simp only [dh, refDh, dot, half, hr, hms, word_n, word_inv_n, word_neg_half, ← EReal.coe_mul, ← coe_sum]
  simp only [div_coe _ _ hM.ne', ← EReal.coe_mul, div_coe _ _ (show (1024 : ℝ) ≠ 0 by norm_num), ← EReal.coe_sub]
  rw [add_comm (_ : EReal) s, add_assoc, add_assoc, ← EReal.coe_add, ← EReal.coe_add]
  congr 2
  have hs : √M * √M = M := Real.mul_self_sqrt hM.le
  have h0 : √M ≠ 0 := (Real.sqrt_pos.2 hM).ne'
  have hsum : ∑ k, x k * (g k * w k) = ∑ k, g k * w k * x k := Finset.sum_congr rfl fun k _ => mul_comm _ _
  rw [hsum]
  generalize ∑ k, g k * w k * x k = D
  generalize √M = S at hs h0
  subst hs
  field_simp
  ring

/-- On real products, weights and rows the kernels' array is the derivative. -/
theorem dhArr_eq_refArr {acc : Fin 4096 → Fin 1024 → EReal} {w : Vec Ideal ⟨1, ![1024]⟩ .f32}
    {h : Vec Ideal ⟨2, ![4096, 1024]⟩ .f32} (skip : Vec Ideal ⟨2, ![4096, 1024]⟩ .f32)
    (ha : ∃ a : Fin 4096 → Fin 1024 → ℝ, acc = fun P k => ((a P k : ℝ) : EReal))
    (hh : ∃ x : (⟨2, ![4096, 1024]⟩ : Shape).Idx → ℝ, h = fun i => ((x i : ℝ) : EReal))
    (hw : ∃ v : (⟨1, ![1024]⟩ : Shape).Idx → ℝ, w = fun i => ((v i : ℝ) : EReal)) :
    dhArr acc w h skip = refArr acc w h skip := by
  obtain ⟨a, rfl⟩ := ha
  obtain ⟨x, rfl⟩ := hh
  obtain ⟨v, rfl⟩ := hw
  funext i
  exact dh_eq_refDh _ _ _ _ _

/-- A sum of sixteen terms, written out. -/
theorem sum_sixteen (G : Fin 16 → EReal) :
    ∑ s, G s = G 0 + G 1 + G 2 + G 3 + G 4 + G 5 + G 6 + G 7 + G 8 + G 9 + G 10 + G 11 + G 12 + G 13 + G 14 + G 15 := by
  iterate 8 rw [Fin.sum_univ_castSucc]
  rw [Fin.sum_univ_eight]
  rfl

/-- A sum over the 512 rows of a block, taken in sixteen chunks of 32 rows. -/
theorem sum_chunks (f : Fin 512 → EReal) :
    (∑ x : Fin 32, f ⟨x.val, by omega⟩) + (∑ x : Fin 32, f ⟨32 + x.val, by omega⟩) + (∑ x : Fin 32, f ⟨64 + x.val, by omega⟩) + (∑ x : Fin 32, f ⟨96 + x.val, by omega⟩) + (∑ x : Fin 32, f ⟨128 + x.val, by omega⟩) + (∑ x : Fin 32, f ⟨160 + x.val, by omega⟩) + (∑ x : Fin 32, f ⟨192 + x.val, by omega⟩) + (∑ x : Fin 32, f ⟨224 + x.val, by omega⟩) + (∑ x : Fin 32, f ⟨256 + x.val, by omega⟩) + (∑ x : Fin 32, f ⟨288 + x.val, by omega⟩) + (∑ x : Fin 32, f ⟨320 + x.val, by omega⟩) + (∑ x : Fin 32, f ⟨352 + x.val, by omega⟩) + (∑ x : Fin 32, f ⟨384 + x.val, by omega⟩) + (∑ x : Fin 32, f ⟨416 + x.val, by omega⟩) + (∑ x : Fin 32, f ⟨448 + x.val, by omega⟩) + (∑ x : Fin 32, f ⟨480 + x.val, by omega⟩) =
      ∑ p, f p := by
  rw [← Fin.sum_mul_add_fin (L := 512) 16 32 f, sum_sixteen]
  simp

end Cert.NormRow

end
-- ==== Proof.LossRow.lean ====
module

public import proofs.«01_k».proof.Proof.NormRow

@[expose] public section

noncomputable section

/-! One row of the loss and of its gradient through the last norm: `x` the row that was normed, `w` the norm's weight, `t`
    the row's target. -/

namespace Cert.LossRow

open Idealize.ShloMosaic Cert.NormRow

/-- The error of the normed row at a column. -/
def err (x w t : Fin 1024 → EReal) (q : Fin 1024) : EReal := x q * rstd x * w q - t q

/-- The gradient that reaches the normed row at a column. -/
def g (x w t : Fin 1024 → EReal) (q : Fin 1024) : EReal := err x w t q * Ideal.ofBits .f32 0x3A800000#32

/-- The row's sum of squared errors. -/
def sq (x w t : Fin 1024 → EReal) : EReal := ∑ q, err x w t q * err x w t q

/-- The gradient of the row at a column, as the kernel writes it. -/
def dh (x w t : Fin 1024 → EReal) (q : Fin 1024) : EReal :=
  rstd x * (g x w t q * w q - x q * rstd x *
    Ideal.div (∑ k, g x w t k * w k * (x k * rstd x)) (Ideal.ofBits .f32 0x44800000#32))

theorem word_half : Ideal.ofBits .f32 0x3F000000#32 = ((1 / 2 : ℝ) : EReal) := by
  simp [Ideal.ofBits, Ideal.ieee]; rw [← EReal.coe_mul]; norm_num

theorem word_two : Ideal.ofBits .f32 0x40000000#32 = ((2 : ℝ) : EReal) := by
  simp [Ideal.ofBits, Ideal.ieee]; rw [← EReal.coe_mul]; norm_num

theorem word_half_inv_n : Ideal.ofBits .f32 0x3A000000#32 = ((1 / 2048 : ℝ) : EReal) := by
  simp [Ideal.ofBits, Ideal.ieee]; rw [← EReal.coe_mul]; norm_num

/-- Differentiation's factor of the squared error is the kernel's. -/
theorem g_eq (e : EReal) :
    Ideal.div (Ideal.ofBits .f32 0x3F000000#32) (Ideal.ofBits .f32 0x44800000#32) * (Ideal.ofBits .f32 0x40000000#32 * e) =
      e * Ideal.ofBits .f32 0x3A800000#32 := by
  rw [word_half, word_n, word_two, word_inv_n, div_coe _ _ (by norm_num), ← mul_assoc, ← EReal.coe_mul, mul_comm]
  norm_num

theorem rstd_coe (x : Fin 1024 → ℝ) : ∃ r : ℝ, rstd (fun k => (x k : EReal)) = (r : EReal) := by
  obtain ⟨M, hM, hms⟩ := ms_coe x
  exact ⟨_, by rw [rstd, hms, Ideal.rsqrt_coe, if_neg (not_lt.2 hM.le), if_neg hM.ne']⟩

theorem err_coe (x w t : Fin 1024 → ℝ) :
    ∃ e : Fin 1024 → ℝ, err (fun k => (x k : EReal)) (fun k => (w k : EReal)) (fun k => (t k : EReal)) = fun q => (e q : EReal) := by
  obtain ⟨r, hr⟩ := rstd_coe x
  refine ⟨fun q => x q * r * w q - t q, ?_⟩
  funext q
  simp only [err, hr, EReal.coe_sub, EReal.coe_mul]

theorem sq_coe (x w t : Fin 1024 → ℝ) :
    ∃ s : ℝ, sq (fun k => (x k : EReal)) (fun k => (w k : EReal)) (fun k => (t k : EReal)) = (s : EReal) := by
  obtain ⟨e, he⟩ := err_coe x w t
  refine ⟨∑ q, e q * e q, ?_⟩
  simp only [sq, he, ← EReal.coe_mul, ← coe_sum]

/-- The kernel's gradient of a row is the derivative. -/
theorem dh_eq_refDh (x w t : Fin 1024 → ℝ) (q : Fin 1024) :
    dh (fun k => (x k : EReal)) (fun k => (w k : EReal)) (fun k => (t k : EReal)) q =
      refDh (g (fun k => (x k : EReal)) (fun k => (w k : EReal)) (fun k => (t k : EReal))) (fun k => (w k : EReal))
        (fun k => (x k : EReal)) 0 q := by
  obtain ⟨e, he⟩ := err_coe x w t
  obtain ⟨r, hr⟩ := rstd_coe x
  have hg : g (fun k => (x k : EReal)) (fun k => (w k : EReal)) (fun k => (t k : EReal)) =
      fun k => ((e k * (1 / 1024) : ℝ) : EReal) := by
    funext k
    simp only [g, he, word_inv_n, ← EReal.coe_mul]
  rw [hg, ← NormRow.dh_eq_refDh]
  simp only [dh, NormRow.dh, hg, dot, hr, word_n, word_inv_n, ← EReal.coe_mul, ← coe_sum, add_zero]
  rw [div_coe _ _ (by norm_num)]
  have hs : ∑ k, e k * (1 / 1024) * w k * (x k * r) = (∑ k, e k * (1 / 1024) * w k * x k) * r := by
    rw [Finset.sum_mul]
    exact Finset.sum_congr rfl fun k _ => by ring
  rw [hs]
  simp only [← EReal.coe_mul, ← EReal.coe_sub]
  congr 1
  ring

/-- The loss, in the kernel's order: eight blocks of 512 rows. -/
def loss (x t : Vec Ideal ⟨2, ![4096, 1024]⟩ .f32) (w : Vec Ideal ⟨1, ![1024]⟩ .f32) : EReal :=
  ∑ b : Fin 8, Ideal.ofBits .f32 0x3A000000#32 *
    ∑ p : Fin 512, sq (fun k => x (ix2 ⟨b.val * 512 + p.val, by omega⟩ k)) (fun k => w (ix1 k))
      (fun k => t (ix2 ⟨b.val * 512 + p.val, by omega⟩ k))

/-- The loss, as the reference writes it. -/
def refLoss (x t : Vec Ideal ⟨2, ![4096, 1024]⟩ .f32) (w : Vec Ideal ⟨1, ![1024]⟩ .f32) : EReal :=
  Ideal.ofBits .f32 0x3F000000#32 * ∑ P : Fin 4096,
    Ideal.div (sq (fun k => x (ix2 P k)) (fun k => w (ix1 k)) (fun k => t (ix2 P k))) (Ideal.ofBits .f32 0x44800000#32)

/-- The gradient of all rows, as the kernel writes it. -/
def dhArr (x t : Vec Ideal ⟨2, ![4096, 1024]⟩ .f32) (w : Vec Ideal ⟨1, ![1024]⟩ .f32) : Vec Ideal ⟨2, ![4096, 1024]⟩ .f32 :=
  fun i => dh (fun k => x (ix2 (i 0) k)) (fun k => w (ix1 k)) (fun k => t (ix2 (i 0) k)) (i 1)

/-- The gradient of all rows, as differentiation writes it. -/
def refArr (x t : Vec Ideal ⟨2, ![4096, 1024]⟩ .f32) (w : Vec Ideal ⟨1, ![1024]⟩ .f32) : Vec Ideal ⟨2, ![4096, 1024]⟩ .f32 :=
  fun i => refDh (g (fun k => x (ix2 (i 0) k)) (fun k => w (ix1 k)) (fun k => t (ix2 (i 0) k))) (fun k => w (ix1 k))
    (fun k => x (ix2 (i 0) k)) 0 (i 1)

/-- The gradient of the norm's weight, as one row. -/
def dwArr (x t : Vec Ideal ⟨2, ![4096, 1024]⟩ .f32) (w : Vec Ideal ⟨1, ![1024]⟩ .f32) : Vec Ideal ⟨2, ![1, 1024]⟩ .f32 :=
  NormRow.dwArr (fun P => g (fun k => x (ix2 P k)) (fun k => w (ix1 k)) (fun k => t (ix2 P k))) x

variable {x t : Vec Ideal ⟨2, ![4096, 1024]⟩ .f32} {w : Vec Ideal ⟨1, ![1024]⟩ .f32}

theorem dhArr_eq_refArr (hx : ∃ a : (⟨2, ![4096, 1024]⟩ : Shape).Idx → ℝ, x = fun i => ((a i : ℝ) : EReal))
    (ht : ∃ a : (⟨2, ![4096, 1024]⟩ : Shape).Idx → ℝ, t = fun i => ((a i : ℝ) : EReal))
    (hw : ∃ a : (⟨1, ![1024]⟩ : Shape).Idx → ℝ, w = fun i => ((a i : ℝ) : EReal)) : dhArr x t w = refArr x t w := by
  obtain ⟨a, rfl⟩ := hx
  obtain ⟨b, rfl⟩ := ht
  obtain ⟨v, rfl⟩ := hw
  funext i
  exact dh_eq_refDh _ _ _ _

theorem loss_eq_refLoss (hx : ∃ a : (⟨2, ![4096, 1024]⟩ : Shape).Idx → ℝ, x = fun i => ((a i : ℝ) : EReal))
    (ht : ∃ a : (⟨2, ![4096, 1024]⟩ : Shape).Idx → ℝ, t = fun i => ((a i : ℝ) : EReal))
    (hw : ∃ a : (⟨1, ![1024]⟩ : Shape).Idx → ℝ, w = fun i => ((a i : ℝ) : EReal)) : loss x t w = refLoss x t w := by
  obtain ⟨a, rfl⟩ := hx
  obtain ⟨b, rfl⟩ := ht
  obtain ⟨v, rfl⟩ := hw
  choose s hs using fun P : Fin 4096 => sq_coe (fun k => a (ix2 P k)) (fun k => v (ix1 k)) (fun k => b (ix2 P k))
  simp only [loss, refLoss, hs, word_half_inv_n, word_half, word_n, div_coe _ _ (show (1024 : ℝ) ≠ 0 by norm_num),
    ← EReal.coe_mul, ← coe_sum]
  rw [← Finset.mul_sum, Fin.sum_mul_add_fin (L := 4096) 8 512 s, ← Finset.sum_div]
  congr 1
  ring

end Cert.LossRow

end
-- ==== Proof.Finite.lean ====
module

public import Idealize.ShloMosaic.Lib.ReduceAll
public import Idealize.ShloMosaic.Lib.Pointwise

@[expose] public section

/-! What the preconditions say: a printed `jnp.all(jnp.abs(x) < jnp.inf)` that is true makes every element of `x` a real. -/

namespace Cert.Finite

open Idealize.ShloMosaic

abbrev S_ : Shape := ⟨0, ![]⟩

theorem inf : Ideal.ofBits .f32 0x7F800000#32 = ⊤ := by simp [Ideal.ofBits, Ideal.ieee]

/-- An extended real whose absolute value is below infinity is a real. -/
theorem exists_real {x : EReal} (h : max x (-x) < ⊤) : ∃ r : ℝ, x = r := by
  induction x with
  | bot => simp at h
  | top => simp at h
  | coe r => exact ⟨r, rfl⟩

/-- The printed test of one array. -/
noncomputable abbrev test {s : Shape} {axes : List (Fin s.rank)} (hb : S_.BroadcastsInDim s (![] : Fin 0 → Fin s.rank))
    (hr : s.ReducesTo axes S_) (hs : 0 < S_.numel) (x : FVec Ideal s .f32) : IVec S_ 1 :=
  Host.reduce IntOp.andi (cmpf .olt (Host.absf x) (broadcastInDim s ![] hb (constant S_ .f32 0x7F800000#32)))
    (constantI S_ 1 1#1) hr hs

theorem of_test {s : Shape} {axes : List (Fin s.rank)} {hb : S_.BroadcastsInDim s (![] : Fin 0 → Fin s.rank)}
    {hr : s.ReducesTo axes S_} {hs : 0 < S_.numel} {x : FVec Ideal s .f32} {j : S_.Idx}
    (h : test hb hr hs x j = 1#1) : ∃ r : s.Idx → ℝ, x = fun i => (r i : EReal) := by
  have hx : ∀ i, ∃ r : ℝ, x i = r := fun i => by
    have := Host.reduce_andi_all _ _ _ _ j h i
    apply exists_real
    revert this
    pointwise
    rw [inf]
    change BitVec.ofBool (decide (max (x i) (-(x i)) < ⊤)) = 1#1 → _
    by_cases hlt : max (x i) (-x i) < ⊤ <;> simp [hlt]
  choose r hr' using hx
  exact ⟨r, funext hr'⟩

theorem and_left {a b : BitVec 1} (h : IntOp.andi a b = 1#1) : a = 1#1 := by
  revert a b; decide

theorem and_right {a b : BitVec 1} (h : IntOp.andi a b = 1#1) : b = 1#1 := by
  revert a b; decide

end Cert.Finite
-- ==== Proof.Loss.lean ====
module

public import proofs.«01_k».proof.Defs
public import proofs.«01_k».proof.Proof.Gen.Loss.Frame
public import proofs.«01_k».proof.Proof.Gen.LossIdeal.Value
public import proofs.«01_k».proof.Proof.Gen.LossRefIdeal.Run
public import proofs.«01_k».proof.Proof.Gen.LossRefIdeal.Read
public import proofs.«01_k».proof.Proof.Gen.Pre_loss_finite
public import proofs.«01_k».proof.Proof.LossRow
public import proofs.«01_k».proof.Proof.Finite

@[expose] public section

set_option maxRecDepth 16384

noncomputable section

namespace Cert.Calls.Loss

open Idealize.ShloMosaic Idealize.ShloMosaic.TcCoe Idealize.SL.Sem
open Cert.LossIdeal Cert.LossIdeal.Gen

variable (m : (ℓ : Loc nD τ sig) → Buf (Elt Ideal) ℓ)

/-- The block's share of the loss. -/
def lossShare (c : Dev nD) (t : Fin cfg0.N) : EReal :=
  Ideal.ofBits .f32 0x3A000000#32 * ∑ p : Fin 512, LossRow.sq (fun k => iblk m c 0 t (ix2 p k)) (fun k => iblk m c 1 t (ix2 0 k))
    (fun k => iblk m c 2 t (ix2 p k))

/-- The block's share of the weight's gradient. -/
def share (c : Dev nD) (t : Fin cfg0.N) (q : Fin 1024) : EReal :=
  ∑ p : Fin 512, NormRow.dw (LossRow.g (fun k => iblk m c 0 t (ix2 p k)) (fun k => iblk m c 1 t (ix2 0 k))
    (fun k => iblk m c 2 t (ix2 p k))) (fun k => iblk m c 0 t (ix2 p k)) q

/-- The gradient of a row of the block. -/
theorem outs_dh (c : Dev nD) (t : Fin cfg0.N) (p : Fin 512) (q : Fin 1024) :
    (outsAt0 m c t.val t.isLt).2.1 (ix2 p q) =
      LossRow.dh (fun k => iblk m c 0 t (ix2 p k)) (fun k => iblk m c 1 t (ix2 0 k)) (fun k => iblk m c 2 t (ix2 p k)) q := by
  have ht : t.val < 8 := t.isLt
  by_cases h : t.val % 8 = 0
  on_goal 1 => rw [outsAt0_A m c t h (by omega)]
  on_goal 2 => rw [outsAt0_B m c t h (by omega)]
  all_goals
    generalize (iblk m c 0 t) = x0, (iblk m c 1 t) = x1, (iblk m c 2 t) = x2
    frame_open
    frame_out
    open_payloads
    pointwise
    rfl

theorem outs_loss_A (c : Dev nD) (t : Fin cfg0.N) (h : t.val % 8 = 0) (j : S1x128.Idx) :
    (outsAt0 m c t.val t.isLt).1 j = lossShare m c t := by
  have ht : t.val < 8 := t.isLt
  rw [outsAt0_A m c t h (by omega)]; unfold lossShare
  generalize (iblk m c 0 t) = x0, (iblk m c 1 t) = x1, (iblk m c 2 t) = x2
  frame_open
  frame_out
  open_payloads
  pointwise
  rfl

theorem outs_loss_B (c : Dev nD) (t : Fin cfg0.N) (h : ¬t.val % 8 = 0) (j : S1x128.Idx) :
    (outsAt0 m c t.val t.isLt).1 j =
      (outsAt0 m c (t.val - 1) (Nat.lt_of_le_of_lt (Nat.sub_le _ _) t.isLt)).1 j + lossShare m c t := by
  have ht : t.val < 8 := t.isLt
  rw [outsAt0_B m c t h (by omega)]; unfold lossShare
  generalize (outsAt0 m c (t.val - 1) (Nat.lt_of_le_of_lt (Nat.sub_le _ _) t.isLt)) = prev
  generalize (iblk m c 0 t) = x0, (iblk m c 1 t) = x1, (iblk m c 2 t) = x2
  frame_open
  frame_out
  open_payloads
  pointwise
  rfl

theorem outs_dw_A (c : Dev nD) (t : Fin cfg0.N) (h : t.val % 8 = 0) (j : S1x1024.Idx) :
    (outsAt0 m c t.val t.isLt).2.2 j = share m c t (j 1) := by
  have ht : t.val < 8 := t.isLt
  rw [outsAt0_A m c t h (by omega)]; unfold share
  generalize (iblk m c 0 t) = x0, (iblk m c 1 t) = x1, (iblk m c 2 t) = x2
  frame_open
  frame_out
  open_payloads
  pointwise
  rfl

theorem outs_dw_B (c : Dev nD) (t : Fin cfg0.N) (h : ¬t.val % 8 = 0) (j : S1x1024.Idx) :
    (outsAt0 m c t.val t.isLt).2.2 j =
      (outsAt0 m c (t.val - 1) (Nat.lt_of_le_of_lt (Nat.sub_le _ _) t.isLt)).2.2 j + share m c t (j 1) := by
  have ht : t.val < 8 := t.isLt
  rw [outsAt0_B m c t h (by omega)]; unfold share
  generalize (outsAt0 m c (t.val - 1) (Nat.lt_of_le_of_lt (Nat.sub_le _ _) t.isLt)) = prev
  generalize (iblk m c 0 t) = x0, (iblk m c 1 t) = x1, (iblk m c 2 t) = x2
  frame_open
  frame_out
  open_payloads
  pointwise
  rfl

theorem idx : ∀ t : Fin grid0.N, win0_0.index t = ![t.val, 0] ∧ win0_1.index t = ![0, 0] ∧ win0_2.index t = ![t.val, 0] ∧
    win0_4.index t = ![t.val, 0] := by decide +kernel

theorem row (c : Dev nD) (t : Fin cfg0.N) (p : Fin 512) (P : Fin 4096) (hP : P.val = t.val * 512 + p.val) :
    (fun k : Fin 1024 => (iblk m c 0 t (ix2 p k) : EReal)) =
      fun k => (m ((c : Thread nD τ).loc main_arg0) : Vec Ideal S4096x1024 .f32) (ix2 P k) := by
  funext k; blk_ext [iblk, V, idx t]

theorem target (c : Dev nD) (t : Fin cfg0.N) (p : Fin 512) (P : Fin 4096) (hP : P.val = t.val * 512 + p.val) :
    (fun k : Fin 1024 => (iblk m c 2 t (ix2 p k) : EReal)) =
      fun k => (m ((c : Thread nD τ).loc main_arg2) : Vec Ideal S4096x1024 .f32) (ix2 P k) := by
  funext k; blk_ext [iblk, V, idx t]

theorem weight (c : Dev nD) (t : Fin cfg0.N) :
    (fun k : Fin 1024 => (iblk m c 1 t (ix2 0 k) : EReal)) =
      fun k => (m ((c : Thread nD τ).loc main_arg1) : Vec Ideal S1024 .f32) (ix1 k) := by
  funext k
  blk_simp [iblk]
  entry_read
  pointwise
  blk_ext [idx t]

theorem dh_array (c : Dev nD) : (dats m 0 c).arrAt 4 cfg0.N =
    LossRow.dhArr (m ((c : Thread nD τ).loc main_arg0)) (m ((c : Thread nD τ).loc main_arg2))
      (m ((c : Thread nD τ).loc main_arg1)) := by
  refine (dats m 0 c).arrAt_eq_of_covers 4 _ (by decide +kernel) fun t hf y => ?_
  blk_simp
  rw [after0_4]
  have h0 : ((win0_4.blk t).view.emb y 0).val = t.val * 512 + (y 0).val := by blk_simp [idx t]
  have h1 : ((win0_4.blk t).view.emb y 1).val = (y 1).val := by blk_simp [idx t]
  have hq : (win0_4.blk t).view.emb y 1 = y 1 := Fin.ext h1
  refine (congrArg _ (ix2_eta y).symm).trans ((outs_dh m c t (y 0) (y 1)).trans ?_)
  unfold LossRow.dhArr
  rw [hq]
  generalize hP : (win0_4.blk t).view.emb y 0 = P at h0
  rw [row m c t _ P h0, target m c t _ P h0, weight m c t]

theorem dw_array (c : Dev nD) : (dats m 0 c).arrAt 5 cfg0.N =
    LossRow.dwArr (m ((c : Thread nD τ).loc main_arg0)) (m ((c : Thread nD τ).loc main_arg2))
      (m ((c : Thread nD τ).loc main_arg1)) := by
  refine (dats m 0 c).arrAt_eq_of_after_last 5 t0_7 (by decide +kernel) _ fun j => ?_
  blk_simp
  rw [after0_5]
  refine (Pipeline.eq_sum_fin_of_reset_step_apply_last (fun n h => (outsAt0 m c n h).2.2) 8 (fun _ => 0)
    (fun t j => share m c t (j 1)) (fun t h j => ?_) (fun t h j => outs_dw_B m c t h j) (by decide) t0_7 rfl j).trans ?_
  · exact (outs_dw_A m c t h j).trans (zero_add _).symm
  · rw [zero_add]
    unfold LossRow.dwArr NormRow.dwArr
    rw [← Fin.sum_mul_add_fin (L := 4096) 8 512]
    refine Finset.sum_congr rfl fun t _ => ?_
    unfold share
    refine Finset.sum_congr rfl fun p _ => ?_
    have ht : t.val < 8 := t.isLt
    rw [row m c t p ⟨t.val * 512 + p.val, by omega⟩ rfl, target m c t p ⟨t.val * 512 + p.val, by omega⟩ rfl, weight m c t]

theorem lossShare_eq (c : Dev nD) (t : Fin cfg0.N) : lossShare m c t = Ideal.ofBits .f32 0x3A000000#32 *
    ∑ p : Fin 512, LossRow.sq
      (fun k => (m ((c : Thread nD τ).loc main_arg0) : Vec Ideal S4096x1024 .f32)
        (ix2 ⟨t.val * 512 + p.val, by have : t.val < 8 := t.isLt; omega⟩ k))
      (fun k => (m ((c : Thread nD τ).loc main_arg1) : Vec Ideal S1024 .f32) (ix1 k))
      (fun k => (m ((c : Thread nD τ).loc main_arg2) : Vec Ideal S4096x1024 .f32)
        (ix2 ⟨t.val * 512 + p.val, by have : t.val < 8 := t.isLt; omega⟩ k)) := by
  have ht : t.val < 8 := t.isLt
  unfold lossShare
  refine congrArg _ (Finset.sum_congr rfl fun p _ => ?_)
  rw [row m c t p ⟨t.val * 512 + p.val, by omega⟩ rfl, target m c t p ⟨t.val * 512 + p.val, by omega⟩ rfl, weight m c t]

theorem loss_array (c : Dev nD) : (dats m 0 c).arrAt 3 cfg0.N =
    fun _ => LossRow.loss (m ((c : Thread nD τ).loc main_arg0)) (m ((c : Thread nD τ).loc main_arg2))
      (m ((c : Thread nD τ).loc main_arg1)) := by
  refine (dats m 0 c).arrAt_eq_of_after_last 3 t0_7 (by decide +kernel) _ fun j => ?_
  blk_simp
  rw [after0_3]
  refine (Pipeline.eq_sum_fin_of_reset_step_apply_last (fun n h => (outsAt0 m c n h).1) 8 (fun _ => 0)
    (fun t _ => lossShare m c t) (fun t h j => ?_) (fun t h j => outs_loss_B m c t h j) (by decide) t0_7 rfl j).trans ?_
  · exact (outs_loss_A m c t h j).trans (zero_add _).symm
  · rw [zero_add]
    exact Finset.sum_congr rfl fun t _ => lossShare_eq m c t

theorem frame_p : Cert.quiescent_Loss := fun m g _ => Cert.Loss.Gen.frame m g
theorem frame_pi : Cert.quiescent_LossIdeal := fun m g _ => Cert.LossIdeal.Gen.frame m g
theorem frame_ri : Cert.quiescent_LossRefIdeal := fun m g _ =>
  (θ_run Cert.LossRefIdeal.defs _ _).mono
    (fun r h => ⟨fun c => (h c).2.2.2, sem_eq_zero_of_no_sems (by decide) r.2⟩)
    (Cert.LossRefIdeal.Value.run (F := Ideal) m g)

/-- Under the precondition the rows, the targets and the weight are reals. -/
theorem reals (m : (ℓ : Loc nD τ sig) → Buf (Elt Ideal) ℓ) (h : Cert.Pre_LossIdeal_loss_finite m) (c : Dev nD) :
    (∃ x : S4096x1024.Idx → ℝ, m ((c : Thread nD τ).loc main_arg0) = fun i => ((x i : ℝ) : EReal)) ∧
    (∃ x : S4096x1024.Idx → ℝ, m ((c : Thread nD τ).loc main_arg2) = fun i => ((x i : ℝ) : EReal)) ∧
    (∃ w : S1024.Idx → ℝ, m ((c : Thread nD τ).loc main_arg1) = fun i => ((w i : ℝ) : EReal)) := by
  have e := congrFun (h c) ix0
  unfold Cert.Pre_loss_finite.fn at e
  dsimp only at e
  have e1 := Finite.and_left e
  exact ⟨Finite.of_test (Finite.and_left e1), Finite.of_test (Finite.and_right e), Finite.of_test (Finite.and_right e1)⟩

/-- The reference's gradient of all rows. -/
theorem ref_dh (m : (ℓ : Loc Cert.LossRefIdeal.nD Cert.LossRefIdeal.τ Cert.LossRefIdeal.sig) → Buf (Elt Ideal) ℓ)
    (c : Dev Cert.LossRefIdeal.nD) (x0 : Vec Ideal S4096x1024 .f32) (x1 : Vec Ideal S1024 .f32) (x2 : Vec Ideal S4096x1024 .f32)
    (h0 : m ((c : Thread Cert.LossRefIdeal.nD Cert.LossRefIdeal.τ).loc Cert.LossRefIdeal.main_arg0) = x0)
    (h1 : m ((c : Thread Cert.LossRefIdeal.nD Cert.LossRefIdeal.τ).loc Cert.LossRefIdeal.main_arg1) = x1)
    (h2 : m ((c : Thread Cert.LossRefIdeal.nD Cert.LossRefIdeal.τ).loc Cert.LossRefIdeal.main_arg2) = x2) :
    Cert.LossRefIdeal.Value.res_main_v50 m c = LossRow.refArr x0 x2 x1 := by
  funext i
  obtain ⟨p, q, rfl⟩ : ∃ p q, i = ix2 (n0 := 4096) (n1 := 1024) p q := ⟨_, _, eq_ix2 i⟩
  unfold Cert.LossRefIdeal.Value.res_main_v50
  pointwise
  simp only [h0, h1, h2, Fin.sum_univ_one, Finset.univ_unique, Finset.sum_singleton, LossRow.g_eq]
  refine (congrArg (· + _) (congrArg (· + _) (zero_add _).symm)).trans ?_
  rfl

theorem ref_dw (x0 : Vec Ideal S4096x1024 .f32) (x1 : Vec Ideal S1024 .f32) (x2 : Vec Ideal S4096x1024 .f32) (i : S1x1024.Idx) :
    (∑ _ : Fin 1, ∑ P : Fin 4096, x0 (ix2 P (i 1)) * NormRow.rstd (fun k => x0 (ix2 P k)) *
      (Ideal.div (Ideal.ofBits .f32 0x3F000000#32) (Ideal.ofBits .f32 0x44800000#32) * (Ideal.ofBits .f32 0x40000000#32 *
        (LossRow.err (fun k => x0 (ix2 P k)) (fun k => x1 (ix1 k)) (fun k => x2 (ix2 P k)) (i 1))))) =
      LossRow.dwArr x0 x2 x1 i := by
  rw [Fin.sum_univ_one]
  unfold LossRow.dwArr NormRow.dwArr
  refine Finset.sum_congr rfl fun P _ => ?_
  rw [LossRow.g_eq]
  exact mul_comm _ _

/-- The kernel's loss, gradient of the rows and gradient of the weight are the reference's. -/
theorem algebraic : Cert.algebraic_LossIdeal_LossRefIdeal_pre_loss_finite := by
  pair_intro
  · run_from Cert.LossIdeal.Value.run_blocks m g
  · run_from Cert.LossRefIdeal.Value.run m' g'
    · obtain ⟨hx, ht, hw⟩ := reals m hpre c
      rw [loss_array, LossRow.loss_eq_refLoss hx ht hw]
      funext i
      pointwise
      rfl
    · obtain ⟨hx, ht, hw⟩ := reals m hpre c
      rw [dh_array, LossRow.dhArr_eq_refArr hx ht hw]
      exact ref_dh m' c _ _ _ (hagree c).1 (hagree c).2.1 (hagree c).2.2
    · rw [dw_array]
      funext i
      pointwise
      exact ref_dw _ _ _ i

end Cert.Calls.Loss

end
-- ==== Proof.NormGate.lean ====
module

public import proofs.«01_k».proof.Defs
public import proofs.«01_k».proof.Proof.Gen.NormGate.Frame
public import proofs.«01_k».proof.Proof.Gen.NormGateIdeal.Value
public import proofs.«01_k».proof.Proof.Gen.NormGateRefIdeal.Run
public import proofs.«01_k».proof.Proof.Gen.NormGateRefIdeal.Read
public import proofs.«01_k».proof.Proof.Gen.Pre_normgate_finite
public import proofs.«01_k».proof.Proof.NormRow
public import proofs.«01_k».proof.Proof.Finite
public import Idealize.ShloMosaic.Lib.Pipeline.ReadBack

@[expose] public section

set_option maxRecDepth 16384

noncomputable section

namespace Cert.Calls.NormGate

open Idealize.ShloMosaic Idealize.ShloMosaic.TcCoe Idealize.SL.Sem
open Cert.NormGateIdeal Cert.NormGateIdeal.Gen

variable (m : (ℓ : Loc nD τ sig) → Buf (Elt Ideal) ℓ)

/-- The gradient of the row that the point at `t` reaches, from the blocks of the point. -/
theorem outs_dh (c : Dev nD) (t : Fin cfg0.N) (p : Fin 512) (q : Fin 1024) :
    (outsAt0 m c t.val t.isLt).1 (ix2 p q) =
      NormRow.dh (fun k => k0_pay1 (iblk m c 0 t) (iblk m c 1 t) (ix2 p k)) (fun k => iblk m c 4 t (ix2 0 k))
        (fun k => iblk m c 2 t (ix2 p k)) (iblk m c 3 t (ix2 p q)) q := by
  have ht : t.val < 8 := t.isLt
  by_cases h : t.val % 8 = 0
  on_goal 1 => rw [outsAt0_A m c t h (by omega)]
  on_goal 2 => rw [outsAt0_B m c t h (by omega)]
  all_goals
    generalize (iblk m c 0 t) = x0, (iblk m c 1 t) = x1, (iblk m c 2 t) = x2, (iblk m c 3 t) = x3, (iblk m c 4 t) = x4
    frame_open
    simp (disch := decide) only [↓ View.readCov_skip, ↓ View.readCov_cons_toLoadRect, ↓ View.readCov_fill]
    frame_out
    generalize k0_pay1 x0 x1 = acc
    canon_tiles y hh
    all_goals
      open_payloads
      pointwise
      obtain rfl : q = y 1 := Fin.ext hh1
      first
        | rw [show p = ⟨(y 0).val, by omega⟩ from Fin.ext hh0]; rfl
        | rw [show p = ⟨_ + (y 0).val, by omega⟩ from Fin.ext hh0]; rfl

/-- What the rows of the block at `t` add to the weight's gradient. -/
def share (c : Dev nD) (t : Fin cfg0.N) (q : Fin 1024) : EReal :=
  ∑ p : Fin 512, NormRow.dw (fun k => k0_pay1 (iblk m c 0 t) (iblk m c 1 t) (ix2 p k))
    (fun k => iblk m c 2 t (ix2 p k)) q

theorem outs_dw_A (c : Dev nD) (t : Fin cfg0.N) (h : t.val % 8 = 0) (j : S1x1024.Idx) :
    (outsAt0 m c t.val t.isLt).2 j = share m c t (j 1) := by
  have ht : t.val < 8 := t.isLt
  rw [outsAt0_A m c t h (by omega)]; unfold share
  generalize (iblk m c 0 t) = x0, (iblk m c 1 t) = x1, (iblk m c 2 t) = x2, (iblk m c 3 t) = x3, (iblk m c 4 t) = x4
  frame_open
  simp (disch := decide) only [↓ View.readCov_skip, ↓ View.readCov_cons_toLoadRect, ↓ View.readCov_fill]
  frame_out
  generalize k0_pay1 x0 x1 = acc
  open_payloads
  pointwise
  rw [← NormRow.sum_chunks]
  try rw [zero_add]
  rfl

theorem outs_dw_B (c : Dev nD) (t : Fin cfg0.N) (h : ¬t.val % 8 = 0) (j : S1x1024.Idx) :
    (outsAt0 m c t.val t.isLt).2 j =
      (outsAt0 m c (t.val - 1) (Nat.lt_of_le_of_lt (Nat.sub_le _ _) t.isLt)).2 j + share m c t (j 1) := by
  have ht : t.val < 8 := t.isLt
  rw [outsAt0_B m c t h (by omega)]; unfold share
  generalize (outsAt0 m c (t.val - 1) (Nat.lt_of_le_of_lt (Nat.sub_le _ _) t.isLt)).2 = prev
  generalize (iblk m c 0 t) = x0, (iblk m c 1 t) = x1, (iblk m c 2 t) = x2, (iblk m c 3 t) = x3, (iblk m c 4 t) = x4
  frame_open
  simp (disch := decide) only [↓ View.readCov_skip, ↓ View.readCov_cons_toLoadRect, ↓ View.readCov_fill]
  frame_out
  generalize k0_pay1 x0 x1 = acc
  open_payloads
  pointwise
  rw [← NormRow.sum_chunks]
  try rw [zero_add]
  rfl

/-- The gradient that the product hands back at a row and a column. -/
def acc (g : Vec Ideal S4096x1024 .bf16) (w : Vec Ideal S1024x1024 .f32) (P : Fin 4096) (k : Fin 1024) : EReal :=
  ∑ j : Fin 1024, g (ix2 P j) * w (ix2 k j)

theorem idx : ∀ t : Fin grid0.N, win0_0.index t = ![t.val, 0] ∧ win0_1.index t = ![0, 0] ∧ win0_2.index t = ![t.val, 0] ∧
    win0_3.index t = ![t.val, 0] ∧ win0_4.index t = ![0, 0] ∧ win0_5.index t = ![t.val, 0] := by decide +kernel

/-- The product at a row of the block is the product at the row of the array. -/
theorem acc_block (c : Dev nD) (t : Fin cfg0.N) (p : Fin 512) (k : Fin 1024) (P : Fin 4096) (hP : P.val = t.val * 512 + p.val) :
    k0_pay1 (iblk m c 0 t) (iblk m c 1 t) (ix2 p k) =
      acc (m ((c : Thread nD τ).loc main_arg0)) (m ((c : Thread nD τ).loc main_arg1)) P k := by
  unfold k0_pay1 acc
  pointwise
  refine Finset.sum_congr rfl fun j _ => ?_
  congr 1
  · blk_ext [iblk, V, idx t]
  · blk_ext [iblk, V, idx t]

theorem dh_array (c : Dev nD) : (dats m 0 c).arrAt 5 cfg0.N =
    NormRow.dhArr (acc (m ((c : Thread nD τ).loc main_arg0)) (m ((c : Thread nD τ).loc main_arg1)))
      (m ((c : Thread nD τ).loc main_arg4)) (m ((c : Thread nD τ).loc main_arg2)) (m ((c : Thread nD τ).loc main_arg3)) := by
  refine (dats m 0 c).arrAt_eq_of_covers 5 _ (by decide +kernel) fun t hf y => ?_
  blk_simp
  rw [after0_5]
  have h0 : ((win0_5.blk t).view.emb y 0).val = t.val * 512 + (y 0).val := by blk_simp [idx t]
  have h1 : ((win0_5.blk t).view.emb y 1).val = (y 1).val := by blk_simp [idx t]
  have hq : (win0_5.blk t).view.emb y 1 = y 1 := Fin.ext h1
  refine (congrArg _ (ix2_eta y).symm).trans ((outs_dh m c t (y 0) (y 1)).trans ?_)
  unfold NormRow.dhArr
  rw [hq]
  generalize hP : (win0_5.blk t).view.emb y 0 = P at h0
  congr 1
  · funext k; exact acc_block m c t _ k P h0
  · funext k
    blk_simp [iblk]
    entry_read
    pointwise
    blk_ext [idx t]
  · funext k; blk_ext [iblk, V, idx t]
  · blk_ext [iblk, V, idx t]

theorem share_eq (c : Dev nD) (t : Fin cfg0.N) (q : Fin 1024) (f : Fin 4096 → EReal)
    (hf : f = fun P => NormRow.dw (acc (m ((c : Thread nD τ).loc main_arg0)) (m ((c : Thread nD τ).loc main_arg1)) P)
      (fun k => (m ((c : Thread nD τ).loc main_arg2) : Vec Ideal S4096x1024 .f32) (ix2 P k)) q) :
    share m c t q = ∑ p : Fin 512, f ⟨t.val * 512 + p.val, by have : t.val < 8 := t.isLt; omega⟩ := by
  subst hf
  refine Finset.sum_congr rfl fun p _ => ?_
  dsimp only
  congr 1
  · funext k; exact acc_block m c t p k _ rfl
  · funext k; blk_ext [iblk, V, idx t]

theorem dw_array (c : Dev nD) : (dats m 0 c).arrAt 6 cfg0.N =
    NormRow.dwArr (acc (m ((c : Thread nD τ).loc main_arg0)) (m ((c : Thread nD τ).loc main_arg1)))
      (m ((c : Thread nD τ).loc main_arg2)) := by
  refine (dats m 0 c).arrAt_eq_of_after_last 6 t0_7 (by decide +kernel) _ fun j => ?_
  blk_simp
  rw [after0_6]
  refine (Pipeline.eq_sum_fin_of_reset_step_apply_last (fun n h => (outsAt0 m c n h).2) 8 (fun _ => 0)
    (fun t j => share m c t (j 1)) (fun t h j => ?_) (fun t h j => outs_dw_B m c t h j) (by decide) t0_7 rfl j).trans ?_
  · exact (outs_dw_A m c t h j).trans (zero_add _).symm
  · rw [zero_add]
    unfold NormRow.dwArr
    rw [← Fin.sum_mul_add_fin (L := 4096) 8 512]
    exact Finset.sum_congr rfl fun t _ => share_eq m c t _ _ rfl

theorem frame_p : Cert.quiescent_NormGate := fun m g _ => Cert.NormGate.Gen.frame m g
theorem frame_pi : Cert.quiescent_NormGateIdeal := fun m g _ => Cert.NormGateIdeal.Gen.frame m g
theorem frame_ri : Cert.quiescent_NormGateRefIdeal := fun m g _ =>
  (θ_run Cert.NormGateRefIdeal.defs _ _).mono
    (fun r h => ⟨fun c => (h c).2.2, sem_eq_zero_of_no_sems (by decide) r.2⟩)
    (Cert.NormGateRefIdeal.Value.run (F := Ideal) m g)

/-- Under the precondition the product, the weight and the normed rows are reals. -/
theorem reals (m : (ℓ : Loc nD τ sig) → Buf (Elt Ideal) ℓ) (h : Cert.Pre_NormGateIdeal_normgate_finite m) (c : Dev nD) :
    (∃ a : Fin 4096 → Fin 1024 → ℝ, acc (m ((c : Thread nD τ).loc main_arg0)) (m ((c : Thread nD τ).loc main_arg1)) = fun P k => ((a P k : ℝ) : EReal)) ∧
    (∃ x : S4096x1024.Idx → ℝ, m ((c : Thread nD τ).loc main_arg2) = fun i => ((x i : ℝ) : EReal)) ∧
    (∃ w : S1024.Idx → ℝ, m ((c : Thread nD τ).loc main_arg4) = fun i => ((w i : ℝ) : EReal)) := by
  have e := congrFun (h c) ix0
  unfold Cert.Pre_normgate_finite.fn Cert.Pre_normgate_finite.fn_part1 at e
  dsimp only at e
  have e1 := Finite.and_left e
  have e2 := Finite.and_left e1
  obtain ⟨g0, h0⟩ := Finite.of_test (Finite.and_left e2)
  obtain ⟨g1, h1⟩ := Finite.of_test (Finite.and_right e2)
  obtain ⟨g2, h2⟩ := Finite.of_test (Finite.and_right e1)
  obtain ⟨g4, h4⟩ := Finite.of_test (Finite.and_right e)
  refine ⟨⟨fun P k => ∑ j, g0 (ix2 P j) * g1 (ix2 k j), ?_⟩, ⟨g2, h2⟩, ⟨g4, h4⟩⟩
  funext P k
  unfold acc
  rw [NormRow.coe_sum]
  refine Finset.sum_congr rfl fun j _ => ?_
  rw [EReal.coe_mul, ← congrFun h0, ← congrFun h1]
  rfl

theorem ref_dh (m : (ℓ : Loc Cert.NormGateRefIdeal.nD Cert.NormGateRefIdeal.τ Cert.NormGateRefIdeal.sig) → Buf (Elt Ideal) ℓ)
    (c : Dev Cert.NormGateRefIdeal.nD) (x0 : Vec Ideal S4096x1024 .bf16) (x1 : Vec Ideal S1024x1024 .f32)
    (x2 x3 : Vec Ideal S4096x1024 .f32) (x4 : Vec Ideal S1024 .f32)
    (h0 : m ((c : Thread Cert.NormGateRefIdeal.nD Cert.NormGateRefIdeal.τ).loc Cert.NormGateRefIdeal.main_arg0) = x0)
    (h1 : m ((c : Thread Cert.NormGateRefIdeal.nD Cert.NormGateRefIdeal.τ).loc Cert.NormGateRefIdeal.main_arg1) = x1)
    (h2 : m ((c : Thread Cert.NormGateRefIdeal.nD Cert.NormGateRefIdeal.τ).loc Cert.NormGateRefIdeal.main_arg2) = x2)
    (h3 : m ((c : Thread Cert.NormGateRefIdeal.nD Cert.NormGateRefIdeal.τ).loc Cert.NormGateRefIdeal.main_arg3) = x3)
    (h4 : m ((c : Thread Cert.NormGateRefIdeal.nD Cert.NormGateRefIdeal.τ).loc Cert.NormGateRefIdeal.main_arg4) = x4) :
    Cert.NormGateRefIdeal.Value.res_main_v39 m c = NormRow.refArr (acc x0 x1) x4 x2 x3 := by
  funext i
  obtain ⟨p, q, rfl⟩ : ∃ p q, i = ix2 (n0 := 4096) (n1 := 1024) p q := ⟨_, _, eq_ix2 i⟩
  unfold Cert.NormGateRefIdeal.Value.res_main_v39
  pointwise
  simp only [h0, h1, h2, h3, h4, Fin.sum_univ_one, Finset.univ_unique, Finset.sum_singleton]
  rfl

theorem ref_dw (x0 : Vec Ideal S4096x1024 .bf16) (x1 : Vec Ideal S1024x1024 .f32)
    (x2 : Vec Ideal S4096x1024 .f32) (i : S1x1024.Idx) :
    (∑ _ : Fin 1, ∑ P : Fin 4096, x2 (ix2 P (i 1)) * NormRow.rstd (fun k => x2 (ix2 P k)) * acc x0 x1 P (i 1)) =
      NormRow.dwArr (acc x0 x1) x2 i := by
  rw [Fin.sum_univ_one]
  exact Finset.sum_congr rfl fun P _ => mul_comm _ _

theorem algebraic : Cert.algebraic_NormGateIdeal_NormGateRefIdeal_pre_normgate_finite := by
  pair_intro
  · run_from Cert.NormGateIdeal.Value.run_blocks m g
  · run_from Cert.NormGateRefIdeal.Value.run m' g'
    · obtain ⟨ha, hx, hw⟩ := reals m hpre c
      rw [dh_array, NormRow.dhArr_eq_refArr _ ha hx hw]
      exact ref_dh m' c _ _ _ _ _ (hagree c).1 (hagree c).2.1 (hagree c).2.2.1 (hagree c).2.2.2.1 (hagree c).2.2.2.2
    · rw [dw_array]
      funext i
      pointwise
      exact ref_dw _ _ _ i

end Cert.Calls.NormGate

end
-- ==== Proof.NormQkv.lean ====
module

public import proofs.«01_k».proof.Defs
public import proofs.«01_k».proof.Proof.Gen.NormQkv.Frame
public import proofs.«01_k».proof.Proof.Gen.NormQkvIdeal.Value
public import proofs.«01_k».proof.Proof.Gen.NormQkvRefIdeal.Run
public import proofs.«01_k».proof.Proof.Gen.NormQkvRefIdeal.Read
public import proofs.«01_k».proof.Proof.Gen.Pre_normqkv_finite
public import proofs.«01_k».proof.Proof.NormRow
public import proofs.«01_k».proof.Proof.Finite
public import Idealize.ShloMosaic.Lib.Pipeline.ReadBack

@[expose] public section

set_option maxRecDepth 16384

noncomputable section

namespace Cert.Calls.NormQkv

open Idealize.ShloMosaic Idealize.ShloMosaic.TcCoe Idealize.SL.Sem
open Cert.NormQkvIdeal Cert.NormQkvIdeal.Gen

variable (m : (ℓ : Loc nD τ sig) → Buf (Elt Ideal) ℓ)

/-- The gradient of the row that the point at `t` reaches, from the blocks of the point. -/
theorem outs_dh (c : Dev nD) (t : Fin cfg0.N) (p : Fin 512) (q : Fin 1024) :
    (outsAt0 m c t.val t.isLt).1 (ix2 p q) =
      NormRow.dh (fun k => k0_pay1 (iblk m c 0 t) (iblk m c 1 t) (ix2 p k)) (fun k => iblk m c 4 t (ix2 0 k))
        (fun k => iblk m c 2 t (ix2 p k)) (iblk m c 3 t (ix2 p q)) q := by
  have ht : t.val < 8 := t.isLt
  by_cases h : t.val % 8 = 0
  on_goal 1 => rw [outsAt0_A m c t h (by omega)]
  on_goal 2 => rw [outsAt0_B m c t h (by omega)]
  all_goals
    generalize (iblk m c 0 t) = x0, (iblk m c 1 t) = x1, (iblk m c 2 t) = x2, (iblk m c 3 t) = x3, (iblk m c 4 t) = x4
    frame_open
    simp (disch := decide) only [↓ View.readCov_skip, ↓ View.readCov_cons_toLoadRect, ↓ View.readCov_fill]
    frame_out
    generalize k0_pay1 x0 x1 = acc
    canon_tiles y hh
    all_goals
      open_payloads
      pointwise
      obtain rfl : q = y 1 := Fin.ext hh1
      first
        | rw [show p = ⟨(y 0).val, by omega⟩ from Fin.ext hh0]; rfl
        | rw [show p = ⟨_ + (y 0).val, by omega⟩ from Fin.ext hh0]; rfl

/-- What the rows of the block at `t` add to the weight's gradient. -/
def share (c : Dev nD) (t : Fin cfg0.N) (q : Fin 1024) : EReal :=
  ∑ p : Fin 512, NormRow.dw (fun k => k0_pay1 (iblk m c 0 t) (iblk m c 1 t) (ix2 p k))
    (fun k => iblk m c 2 t (ix2 p k)) q

theorem outs_dw_A (c : Dev nD) (t : Fin cfg0.N) (h : t.val % 8 = 0) (j : S1x1024.Idx) :
    (outsAt0 m c t.val t.isLt).2 j = share m c t (j 1) := by
  have ht : t.val < 8 := t.isLt
  rw [outsAt0_A m c t h (by omega)]; unfold share
  generalize (iblk m c 0 t) = x0, (iblk m c 1 t) = x1, (iblk m c 2 t) = x2, (iblk m c 3 t) = x3, (iblk m c 4 t) = x4
  frame_open
  simp (disch := decide) only [↓ View.readCov_skip, ↓ View.readCov_cons_toLoadRect, ↓ View.readCov_fill]
  frame_out
  generalize k0_pay1 x0 x1 = acc
  open_payloads
  pointwise
  rw [← NormRow.sum_chunks]
  try rw [zero_add]
  rfl

theorem outs_dw_B (c : Dev nD) (t : Fin cfg0.N) (h : ¬t.val % 8 = 0) (j : S1x1024.Idx) :
    (outsAt0 m c t.val t.isLt).2 j =
      (outsAt0 m c (t.val - 1) (Nat.lt_of_le_of_lt (Nat.sub_le _ _) t.isLt)).2 j + share m c t (j 1) := by
  have ht : t.val < 8 := t.isLt
  rw [outsAt0_B m c t h (by omega)]; unfold share
  generalize (outsAt0 m c (t.val - 1) (Nat.lt_of_le_of_lt (Nat.sub_le _ _) t.isLt)).2 = prev
  generalize (iblk m c 0 t) = x0, (iblk m c 1 t) = x1, (iblk m c 2 t) = x2, (iblk m c 3 t) = x3, (iblk m c 4 t) = x4
  frame_open
  simp (disch := decide) only [↓ View.readCov_skip, ↓ View.readCov_cons_toLoadRect, ↓ View.readCov_fill]
  frame_out
  generalize k0_pay1 x0 x1 = acc
  open_payloads
  pointwise
  rw [← NormRow.sum_chunks]
  try rw [zero_add]
  rfl

/-- The gradient that the product hands back at a row and a column. -/
def acc (g : Vec Ideal S4096x1536 .bf16) (w : Vec Ideal S1024x1536 .f32) (P : Fin 4096) (k : Fin 1024) : EReal :=
  ∑ j : Fin 1536, g (ix2 P j) * w (ix2 k j)

theorem idx : ∀ t : Fin grid0.N, win0_0.index t = ![t.val, 0] ∧ win0_1.index t = ![0, 0] ∧ win0_2.index t = ![t.val, 0] ∧
    win0_3.index t = ![t.val, 0] ∧ win0_4.index t = ![0, 0] ∧ win0_5.index t = ![t.val, 0] := by decide +kernel

/-- The product at a row of the block is the product at the row of the array. -/
theorem acc_block (c : Dev nD) (t : Fin cfg0.N) (p : Fin 512) (k : Fin 1024) (P : Fin 4096) (hP : P.val = t.val * 512 + p.val) :
    k0_pay1 (iblk m c 0 t) (iblk m c 1 t) (ix2 p k) =
      acc (m ((c : Thread nD τ).loc main_arg0)) (m ((c : Thread nD τ).loc main_arg1)) P k := by
  unfold k0_pay1 acc
  pointwise
  refine Finset.sum_congr rfl fun j _ => ?_
  congr 1
  · blk_ext [iblk, V, idx t]
  · blk_simp [iblk]
    entry_read
    pointwise
    blk_ext [idx t]

theorem dh_array (c : Dev nD) : (dats m 0 c).arrAt 5 cfg0.N =
    NormRow.dhArr (acc (m ((c : Thread nD τ).loc main_arg0)) (m ((c : Thread nD τ).loc main_arg1)))
      (m ((c : Thread nD τ).loc main_arg4)) (m ((c : Thread nD τ).loc main_arg2)) (m ((c : Thread nD τ).loc main_arg3)) := by
  refine (dats m 0 c).arrAt_eq_of_covers 5 _ (by decide +kernel) fun t hf y => ?_
  blk_simp
  rw [after0_5]
  have h0 : ((win0_5.blk t).view.emb y 0).val = t.val * 512 + (y 0).val := by blk_simp [idx t]
  have h1 : ((win0_5.blk t).view.emb y 1).val = (y 1).val := by blk_simp [idx t]
  have hq : (win0_5.blk t).view.emb y 1 = y 1 := Fin.ext h1
  refine (congrArg _ (ix2_eta y).symm).trans ((outs_dh m c t (y 0) (y 1)).trans ?_)
  unfold NormRow.dhArr
  rw [hq]
  generalize hP : (win0_5.blk t).view.emb y 0 = P at h0
  congr 1
  · funext k; exact acc_block m c t _ k P h0
  · funext k
    blk_simp [iblk]
    entry_read
    pointwise
    blk_ext [idx t]
  · funext k; blk_ext [iblk, V, idx t]
  · blk_ext [iblk, V, idx t]

theorem share_eq (c : Dev nD) (t : Fin cfg0.N) (q : Fin 1024) (f : Fin 4096 → EReal)
    (hf : f = fun P => NormRow.dw (acc (m ((c : Thread nD τ).loc main_arg0)) (m ((c : Thread nD τ).loc main_arg1)) P)
      (fun k => (m ((c : Thread nD τ).loc main_arg2) : Vec Ideal S4096x1024 .f32) (ix2 P k)) q) :
    share m c t q = ∑ p : Fin 512, f ⟨t.val * 512 + p.val, by have : t.val < 8 := t.isLt; omega⟩ := by
  subst hf
  refine Finset.sum_congr rfl fun p _ => ?_
  dsimp only
  congr 1
  · funext k; exact acc_block m c t p k _ rfl
  · funext k; blk_ext [iblk, V, idx t]

theorem dw_array (c : Dev nD) : (dats m 0 c).arrAt 6 cfg0.N =
    NormRow.dwArr (acc (m ((c : Thread nD τ).loc main_arg0)) (m ((c : Thread nD τ).loc main_arg1)))
      (m ((c : Thread nD τ).loc main_arg2)) := by
  refine (dats m 0 c).arrAt_eq_of_after_last 6 t0_7 (by decide +kernel) _ fun j => ?_
  blk_simp
  rw [after0_6]
  refine (Pipeline.eq_sum_fin_of_reset_step_apply_last (fun n h => (outsAt0 m c n h).2) 8 (fun _ => 0)
    (fun t j => share m c t (j 1)) (fun t h j => ?_) (fun t h j => outs_dw_B m c t h j) (by decide) t0_7 rfl j).trans ?_
  · exact (outs_dw_A m c t h j).trans (zero_add _).symm
  · rw [zero_add]
    unfold NormRow.dwArr
    rw [← Fin.sum_mul_add_fin (L := 4096) 8 512]
    exact Finset.sum_congr rfl fun t _ => share_eq m c t _ _ rfl

theorem frame_p : Cert.quiescent_NormQkv := fun m g _ => Cert.NormQkv.Gen.frame m g
theorem frame_pi : Cert.quiescent_NormQkvIdeal := fun m g _ => Cert.NormQkvIdeal.Gen.frame m g
theorem frame_ri : Cert.quiescent_NormQkvRefIdeal := fun m g _ =>
  (θ_run Cert.NormQkvRefIdeal.defs _ _).mono
    (fun r h => ⟨fun c => (h c).2.2, sem_eq_zero_of_no_sems (by decide) r.2⟩)
    (Cert.NormQkvRefIdeal.Value.run (F := Ideal) m g)

/-- Under the precondition the product, the weight and the normed rows are reals. -/
theorem reals (m : (ℓ : Loc nD τ sig) → Buf (Elt Ideal) ℓ) (h : Cert.Pre_NormQkvIdeal_normqkv_finite m) (c : Dev nD) :
    (∃ a : Fin 4096 → Fin 1024 → ℝ, acc (m ((c : Thread nD τ).loc main_arg0)) (m ((c : Thread nD τ).loc main_arg1)) = fun P k => ((a P k : ℝ) : EReal)) ∧
    (∃ x : S4096x1024.Idx → ℝ, m ((c : Thread nD τ).loc main_arg2) = fun i => ((x i : ℝ) : EReal)) ∧
    (∃ w : S1024.Idx → ℝ, m ((c : Thread nD τ).loc main_arg4) = fun i => ((w i : ℝ) : EReal)) := by
  have e := congrFun (h c) ix0
  unfold Cert.Pre_normqkv_finite.fn Cert.Pre_normqkv_finite.fn_part1 at e
  dsimp only at e
  have e1 := Finite.and_left e
  have e2 := Finite.and_left e1
  obtain ⟨g0, h0⟩ := Finite.of_test (Finite.and_left e2)
  obtain ⟨g1, h1⟩ := Finite.of_test (Finite.and_right e2)
  obtain ⟨g2, h2⟩ := Finite.of_test (Finite.and_right e1)
  obtain ⟨g4, h4⟩ := Finite.of_test (Finite.and_right e)
  refine ⟨⟨fun P k => ∑ j, g0 (ix2 P j) * g1 (ix2 k j), ?_⟩, ⟨g2, h2⟩, ⟨g4, h4⟩⟩
  funext P k
  unfold acc
  rw [NormRow.coe_sum]
  refine Finset.sum_congr rfl fun j _ => ?_
  rw [EReal.coe_mul, ← congrFun h0, ← congrFun h1]
  rfl

theorem ref_dh (m : (ℓ : Loc Cert.NormQkvRefIdeal.nD Cert.NormQkvRefIdeal.τ Cert.NormQkvRefIdeal.sig) → Buf (Elt Ideal) ℓ)
    (c : Dev Cert.NormQkvRefIdeal.nD) (x0 : Vec Ideal S4096x1536 .bf16) (x1 : Vec Ideal S1024x1536 .f32)
    (x2 x3 : Vec Ideal S4096x1024 .f32) (x4 : Vec Ideal S1024 .f32)
    (h0 : m ((c : Thread Cert.NormQkvRefIdeal.nD Cert.NormQkvRefIdeal.τ).loc Cert.NormQkvRefIdeal.main_arg0) = x0)
    (h1 : m ((c : Thread Cert.NormQkvRefIdeal.nD Cert.NormQkvRefIdeal.τ).loc Cert.NormQkvRefIdeal.main_arg1) = x1)
    (h2 : m ((c : Thread Cert.NormQkvRefIdeal.nD Cert.NormQkvRefIdeal.τ).loc Cert.NormQkvRefIdeal.main_arg2) = x2)
    (h3 : m ((c : Thread Cert.NormQkvRefIdeal.nD Cert.NormQkvRefIdeal.τ).loc Cert.NormQkvRefIdeal.main_arg3) = x3)
    (h4 : m ((c : Thread Cert.NormQkvRefIdeal.nD Cert.NormQkvRefIdeal.τ).loc Cert.NormQkvRefIdeal.main_arg4) = x4) :
    Cert.NormQkvRefIdeal.Value.res_main_v39 m c = NormRow.refArr (acc x0 x1) x4 x2 x3 := by
  funext i
  obtain ⟨p, q, rfl⟩ : ∃ p q, i = ix2 (n0 := 4096) (n1 := 1024) p q := ⟨_, _, eq_ix2 i⟩
  unfold Cert.NormQkvRefIdeal.Value.res_main_v39
  pointwise
  simp only [h0, h1, h2, h3, h4, Fin.sum_univ_one, Finset.univ_unique, Finset.sum_singleton]
  rfl

theorem ref_dw (x0 : Vec Ideal S4096x1536 .bf16) (x1 : Vec Ideal S1024x1536 .f32)
    (x2 : Vec Ideal S4096x1024 .f32) (i : S1x1024.Idx) :
    (∑ _ : Fin 1, ∑ P : Fin 4096, x2 (ix2 P (i 1)) * NormRow.rstd (fun k => x2 (ix2 P k)) * acc x0 x1 P (i 1)) =
      NormRow.dwArr (acc x0 x1) x2 i := by
  rw [Fin.sum_univ_one]
  exact Finset.sum_congr rfl fun P _ => mul_comm _ _

theorem algebraic : Cert.algebraic_NormQkvIdeal_NormQkvRefIdeal_pre_normqkv_finite := by
  pair_intro
  · run_from Cert.NormQkvIdeal.Value.run_blocks m g
  · run_from Cert.NormQkvRefIdeal.Value.run m' g'
    · obtain ⟨ha, hx, hw⟩ := reals m hpre c
      rw [dh_array, NormRow.dhArr_eq_refArr _ ha hx hw]
      exact ref_dh m' c _ _ _ _ _ (hagree c).1 (hagree c).2.1 (hagree c).2.2.1 (hagree c).2.2.2.1 (hagree c).2.2.2.2
    · rw [dw_array]
      funext i
      pointwise
      exact ref_dw _ _ _ i

end Cert.Calls.NormQkv

end
-- ==== Proof.NormProj.lean ====
module

public import proofs.«01_k».proof.Defs
public import proofs.«01_k».proof.Proof.Gen.NormProj.Frame
public import proofs.«01_k».proof.Proof.Gen.NormProjIdeal.Value
public import proofs.«01_k».proof.Proof.Gen.NormProjRefIdeal.Run
public import proofs.«01_k».proof.Proof.Gen.NormProjRefIdeal.Read
public import proofs.«01_k».proof.Proof.Gen.Pre_normproj_finite
public import proofs.«01_k».proof.Proof.NormRow
public import proofs.«01_k».proof.Proof.Finite
public import Idealize.ShloMosaic.Lib.Pipeline.ReadBack

@[expose] public section

set_option maxRecDepth 32768

noncomputable section

namespace Cert.Calls.NormProj

open Idealize.ShloMosaic Idealize.ShloMosaic.TcCoe Idealize.SL.Sem
open Cert.NormProjIdeal Cert.NormProjIdeal.Gen

variable (m : (ℓ : Loc nD τ sig) → Buf (Elt Ideal) ℓ)

theorem outs_acc_A (c : Dev nD) (t : Fin cfg0.N) (h : t.val % 3 = 0) :
    (outsAt0 m c t.val t.isLt).2.2 = k0_pay1 (iblk m c 0 t) (iblk m c 1 t) := by
  have ht : t.val < 24 := t.isLt
  rw [outsAt0_A m c t h (by omega) (by omega)]
  generalize (iblk m c 0 t) = x0, (iblk m c 1 t) = x1, (iblk m c 2 t) = x2, (iblk m c 3 t) = x3, (iblk m c 4 t) = x4
  frame_open
  simp (disch := decide) only [↓ View.readCov_skip, ↓ View.readCov_cons_toLoadRect, ↓ View.readCov_fill]
  frame_out
  funext i
  unfold k0_pay2
  pointwise

/-- The points that only add to the product keep the weight's gradient. -/
theorem outs_keep (c : Dev nD) (t : Fin cfg0.N) (h : ¬t.val % 3 = 2) :
    (outsAt0 m c t.val t.isLt).2.1 = (outsAt0 m c (t.val - 1) (Nat.lt_of_le_of_lt (Nat.sub_le _ _) t.isLt)).2.1 := by
  have ht : t.val < 24 := t.isLt
  by_cases h0 : t.val % 3 = 0
  · rw [outsAt0_A m c t h0 (by omega) h]
    rfl
  · rw [outsAt0_B m c t h0 (by omega) h]
    rfl

theorem acc_step (x0 : Vec Ideal S512x1408 .bf16) (x1 : Vec Ideal S1408x1024 .bf16) (a : Vec Ideal S512x1024 .f32) :
    k0_pay3 x0 x1 a = addf a (k0_pay1 x0 x1) := by
  funext i
  unfold k0_pay3
  pointwise

/-- The gradient that reaches the normed rows of the block: the three pieces' products. -/
def accBlk (c : Dev nD) (t : Fin cfg0.N) : Vec Ideal S512x1024 .f32 :=
  addf (outsAt0 m c (t.val - 1) (Nat.lt_of_le_of_lt (Nat.sub_le _ _) t.isLt)).2.2 (k0_pay1 (iblk m c 0 t) (iblk m c 1 t))

theorem outs_acc_B (c : Dev nD) (t : Fin cfg0.N) (h : t.val % 3 = 1) :
    (outsAt0 m c t.val t.isLt).2.2 = accBlk m c t := by
  have ht : t.val < 24 := t.isLt
  unfold accBlk
  rw [outsAt0_B m c t (by omega) (by omega) (by omega)]
  generalize (outsAt0 m c (t.val - 1) (Nat.lt_of_le_of_lt (Nat.sub_le _ _) t.isLt)) = prev
  generalize (iblk m c 0 t) = x0, (iblk m c 1 t) = x1, (iblk m c 2 t) = x2, (iblk m c 3 t) = x3, (iblk m c 4 t) = x4
  frame_open
  simp (disch := decide) only [↓ View.readCov_skip, ↓ View.readCov_cons_toLoadRect, ↓ View.readCov_fill]
  frame_out
  simp only [read_unread_whole]
  rw [acc_step]

/-- The gradient of the row that the point at `t` reaches, from the blocks of the point. -/
theorem outs_dh (c : Dev nD) (t : Fin cfg0.N) (h : t.val % 3 = 2) (p : Fin 512) (q : Fin 1024) :
    (outsAt0 m c t.val t.isLt).1 (ix2 p q) =
      NormRow.dh (fun k => accBlk m c t (ix2 p k)) (fun k => iblk m c 4 t (ix2 0 k))
        (fun k => iblk m c 2 t (ix2 p k)) (iblk m c 3 t (ix2 p q)) q := by
  have ht : t.val < 24 := t.isLt
  unfold accBlk
  by_cases h2 : t.val < 3
  on_goal 1 => rw [outsAt0_C m c t (by omega) (by omega) h h2 (by omega)]
  on_goal 2 => rw [outsAt0_D m c t (by omega) (by omega) h h2 (by omega)]
  all_goals
    generalize (outsAt0 m c (t.val - 1) (Nat.lt_of_le_of_lt (Nat.sub_le _ _) t.isLt)) = prev
    generalize (iblk m c 0 t) = x0, (iblk m c 1 t) = x1, (iblk m c 2 t) = x2, (iblk m c 3 t) = x3, (iblk m c 4 t) = x4
    frame_open
    simp (disch := decide) only [↓ View.readCov_skip, ↓ View.readCov_cons_toLoadRect, ↓ View.readCov_fill]
    frame_out
    simp only [read_unread_whole]
    rw [acc_step]
    generalize addf prev.2.2 (k0_pay1 x0 x1) = acc
    canon_tiles y hh
    all_goals
      open_payloads
      pointwise
      obtain rfl : q = y 1 := Fin.ext hh1
      first
        | rw [show p = ⟨(y 0).val, by omega⟩ from Fin.ext hh0]; rfl
        | rw [show p = ⟨_ + (y 0).val, by omega⟩ from Fin.ext hh0]; rfl

/-- What the rows of the block at `t` add to the weight's gradient. -/
def share (c : Dev nD) (t : Fin cfg0.N) (q : Fin 1024) : EReal :=
  ∑ p : Fin 512, NormRow.dw (fun k => accBlk m c t (ix2 p k)) (fun k => iblk m c 2 t (ix2 p k)) q

theorem outs_dw_B (c : Dev nD) (t : Fin cfg0.N) (h : t.val % 3 = 2) (h2 : t.val < 3) (j : S1x1024.Idx) :
    (outsAt0 m c t.val t.isLt).2.1 j = share m c t (j 1) := by
  have ht : t.val < 24 := t.isLt
  rw [outsAt0_C m c t (by omega) (by omega) h h2 (by omega)]; unfold share accBlk
  generalize (outsAt0 m c (t.val - 1) (Nat.lt_of_le_of_lt (Nat.sub_le _ _) t.isLt)) = prev
  generalize (iblk m c 0 t) = x0, (iblk m c 1 t) = x1, (iblk m c 2 t) = x2, (iblk m c 3 t) = x3, (iblk m c 4 t) = x4
  frame_open
  simp (disch := decide) only [↓ View.readCov_skip, ↓ View.readCov_cons_toLoadRect, ↓ View.readCov_fill]
  frame_out
  simp only [read_unread_whole]
  rw [acc_step]
  generalize addf prev.2.2 (k0_pay1 x0 x1) = acc
  open_payloads
  pointwise
  rw [← NormRow.sum_chunks]
  try rw [zero_add]
  rfl

theorem outs_dw_C (c : Dev nD) (t : Fin cfg0.N) (h : t.val % 3 = 2) (h2 : ¬t.val < 3) (j : S1x1024.Idx) :
    (outsAt0 m c t.val t.isLt).2.1 j =
      (outsAt0 m c (t.val - 1) (Nat.lt_of_le_of_lt (Nat.sub_le _ _) t.isLt)).2.1 j + share m c t (j 1) := by
  have ht : t.val < 24 := t.isLt
  rw [outsAt0_D m c t (by omega) (by omega) h h2 (by omega)]; unfold share accBlk
  generalize (outsAt0 m c (t.val - 1) (Nat.lt_of_le_of_lt (Nat.sub_le _ _) t.isLt)) = prev
  generalize (iblk m c 0 t) = x0, (iblk m c 1 t) = x1, (iblk m c 2 t) = x2, (iblk m c 3 t) = x3, (iblk m c 4 t) = x4
  frame_open
  simp (disch := decide) only [↓ View.readCov_skip, ↓ View.readCov_cons_toLoadRect, ↓ View.readCov_fill]
  frame_out
  simp only [read_unread_whole]
  rw [acc_step]
  generalize addf prev.2.2 (k0_pay1 x0 x1) = acc
  open_payloads
  pointwise
  rw [← NormRow.sum_chunks]
  try rw [zero_add]
  rfl

/-- What one third of the padded columns hands back at a row and a column. -/
def third (g : Vec Ideal S4096x4224 .bf16) (w : Vec Ideal S1024x4112 .f32) (s : Fin 3) (P : Fin 4096) (k : Fin 1024) : EReal :=
  ∑ j : Fin 1408, g (ix2 P ⟨s.val * 1408 + j.val, by omega⟩) *
    (if h : s.val * 1408 + j.val < 4112 then w (ix2 k ⟨s.val * 1408 + j.val, h⟩) else 0)

/-- The gradient that the product hands back at a row and a column. -/
def acc (g : Vec Ideal S4096x4224 .bf16) (w : Vec Ideal S1024x4112 .f32) (P : Fin 4096) (k : Fin 1024) : EReal :=
  ∑ x : Fin 4112, g (ix2 P ⟨x.val, by omega⟩) * w (ix2 k x)

theorem acc_eq_thirds (g : Vec Ideal S4096x4224 .bf16) (w : Vec Ideal S1024x4112 .f32) (P : Fin 4096) (k : Fin 1024) :
    acc g w P k = third g w 0 P k + third g w 1 P k + third g w 2 P k := by
  have e : acc g w P k = ∑ x : Fin 4224, g (ix2 P x) * (if h : x.val < 4112 then w (ix2 k ⟨x.val, h⟩) else 0) := by
    unfold acc
    rw [show (∑ x : Fin 4224, g (ix2 P x) * (if h : x.val < 4112 then w (ix2 k ⟨x.val, h⟩) else 0)) = _ from
      Fin.sum_univ_add (a := 4112) (b := 112) (fun x : Fin (4112 + 112) => g (ix2 P x) * (if h : x.val < 4112 then w (ix2 k ⟨x.val, h⟩) else 0))]
    have z : (∑ i : Fin 112, g (ix2 P (Fin.natAdd 4112 i)) * (if h : (Fin.natAdd 4112 i).val < 4112 then w (ix2 k ⟨(Fin.natAdd 4112 i).val, h⟩) else 0)) = 0 := by
      refine Finset.sum_eq_zero fun i _ => ?_
      rw [dif_neg (by simp [Fin.natAdd]), mul_zero]
    rw [z, add_zero]
    refine Finset.sum_congr rfl fun x _ => ?_
    rw [dif_pos (show (Fin.castAdd 112 x).val < 4112 from x.isLt)]
    rfl
  rw [e, ← Fin.sum_mul_add_fin (L := 4224) 3 1408, Fin.sum_univ_three]
  rfl

theorem idx : ∀ t : Fin grid0.N, win0_0.index t = ![t.val / 3, t.val % 3] ∧ win0_1.index t = ![t.val % 3, 0] ∧
    win0_2.index t = ![t.val / 3, 0] ∧ win0_3.index t = ![t.val / 3, 0] ∧ win0_4.index t = ![0, 0] ∧
    win0_5.index t = ![t.val / 3, 0] := by decide +kernel

theorem entry_w (c : Dev nD) (i : S4224x1024.Idx) : (V m c main_v2 : Vec Ideal S4224x1024 .bf16) i =
    if h : (i 0).val < 4112 then ((m ((c : Thread nD τ).loc main_arg1) : Vec Ideal S1024x4112 .f32) (ix2 (i 1) ⟨(i 0).val, h⟩) : EReal) else (0 : EReal) := by
  change StableHlo.after (hostOps0 ++ (hostOps0_1 ++ (hostOps0_2 ++ []))) _ _ _ = _
  simp only [hostOps0, hostOps0_1, hostOps0_2, List.cons_append, List.nil_append]
  entry_read
  change pad S4224x1024 ![0, 0] ![112, 0] ![0, 0] (transpose S4112x1024 [1, 0] (m ((c : Thread nD τ).loc main_arg1)) transposes_S1024x4112_S4112x1024_1_0)
    (sitofp (F := Ideal) .f32 (constantI S_ 32 0#32)) pads_S4112x1024_S4224x1024_01120_000 h_S_ i = _
  pointwise
  have z : (FloatOps.sitofp .f32 (0#32 : BitVec 32) : Ideal .f32) = (0 : EReal) := by
    change (((0#32 : BitVec 32).toInt : ℝ) : EReal) = 0
    simp
  rw [z]

theorem entry_norm (c : Dev nD) (i : S1x1024.Idx) : (V m c main_v3 : Vec Ideal S1x1024 .f32) i =
    (m ((c : Thread nD τ).loc main_arg4) : Vec Ideal S1024 .f32) (ix1 (i 1)) := by
  change StableHlo.after (hostOps0 ++ (hostOps0_1 ++ (hostOps0_2 ++ []))) _ _ _ = _
  simp only [hostOps0, hostOps0_1, hostOps0_2, List.cons_append, List.nil_append]
  entry_read
  pointwise

/-- One third's product at a row of the block. -/
theorem part_block (c : Dev nD) (t : Fin cfg0.N) (p : Fin 512) (k : Fin 1024) (P : Fin 4096) (s : Fin 3)
    (hP : P.val = t.val / 3 * 512 + p.val) (hs : s.val = t.val % 3) :
    k0_pay1 (iblk m c 0 t) (iblk m c 1 t) (ix2 p k) =
      third (m ((c : Thread nD τ).loc main_arg0)) (m ((c : Thread nD τ).loc main_arg1)) s P k := by
  unfold k0_pay1 third
  pointwise
  refine Finset.sum_congr rfl fun j _ => ?_
  congr 1
  · blk_ext [iblk, V, idx t]
  · blk_simp [iblk]
    rw [entry_w]
    have h0 : ((win0_1.blk t).view.emb (ix2 (n0 := 1408) (n1 := 1024) j k) 0).val = s.val * 1408 + j.val := by
      rw [hs]; blk_simp [idx t]
    have h1 : (win0_1.blk t).view.emb (ix2 (n0 := 1408) (n1 := 1024) j k) 1 = k := Fin.ext (by blk_simp [idx t])
    rw [h1]
    simp only [h0]

/-- The product at a row of the block is the product at the row of the array. -/
theorem acc_block (c : Dev nD) (t : Fin cfg0.N) (h : t.val % 3 = 2) (p : Fin 512) (k : Fin 1024) (P : Fin 4096)
    (hP : P.val = t.val / 3 * 512 + p.val) :
    accBlk m c t (ix2 p k) =
      acc (m ((c : Thread nD τ).loc main_arg0)) (m ((c : Thread nD τ).loc main_arg1)) P k := by
  have ht : t.val < 24 := t.isLt
  unfold accBlk
  rw [acc_eq_thirds, ← part_block m c t p k P 2 hP h.symm,
    ← part_block m c ⟨t.val - 1, by omega⟩ p k P 1 (by simp only; omega) (by simp only [Fin.val_one]; omega),
    ← part_block m c ⟨t.val - 2, by omega⟩ p k P 0 (by simp only; omega) (by simp only [Fin.val_zero]; omega),
    ← outs_acc_A m c ⟨t.val - 2, by omega⟩ (by simp only; omega)]
  have e := outs_acc_B m c ⟨t.val - 1, by omega⟩ (by simp only; omega)
  rw [show (outsAt0 m c (t.val - 1) (Nat.lt_of_le_of_lt (Nat.sub_le _ _) t.isLt)).2.2 = _ from e]
  rfl

theorem last_of_flush : ∀ t : Fin cfg0.N, (cfg0.win 5).flush t = true → t.val % 3 = 2 := by decide +kernel

theorem dh_array (c : Dev nD) : (dats m 0 c).arrAt 5 cfg0.N =
    NormRow.dhArr (acc (m ((c : Thread nD τ).loc main_arg0)) (m ((c : Thread nD τ).loc main_arg1)))
      (m ((c : Thread nD τ).loc main_arg4)) (m ((c : Thread nD τ).loc main_arg2)) (m ((c : Thread nD τ).loc main_arg3)) := by
  refine (dats m 0 c).arrAt_eq_of_covers 5 _ (by decide +kernel) fun t hf y => ?_
  blk_simp
  rw [after0_5]
  have hodd := last_of_flush t hf
  have h0 : ((win0_5.blk t).view.emb y 0).val = t.val / 3 * 512 + (y 0).val := by blk_simp [idx t]
  have h1 : ((win0_5.blk t).view.emb y 1).val = (y 1).val := by blk_simp [idx t]
  have hq : (win0_5.blk t).view.emb y 1 = y 1 := Fin.ext h1
  refine (congrArg _ (ix2_eta y).symm).trans ((outs_dh m c t hodd (y 0) (y 1)).trans ?_)
  unfold NormRow.dhArr
  rw [hq]
  generalize hP : (win0_5.blk t).view.emb y 0 = P at h0
  congr 1
  · funext k; exact acc_block m c t hodd _ k P h0
  · funext k
    blk_simp [iblk]
    rw [entry_norm]
    blk_ext [idx t]
  · funext k; blk_ext [iblk, V, idx t]
  · blk_ext [iblk, V, idx t]

theorem share_eq (c : Dev nD) (n : Fin 8) (q : Fin 1024) (f : Fin 4096 → EReal)
    (hf : f = fun P => NormRow.dw (acc (m ((c : Thread nD τ).loc main_arg0)) (m ((c : Thread nD τ).loc main_arg1)) P)
      (fun k => (m ((c : Thread nD τ).loc main_arg2) : Vec Ideal S4096x1024 .f32) (ix2 P k)) q) :
    share m c ⟨3 * n.val + 2, by change _ < 24; omega⟩ q = ∑ p : Fin 512, f ⟨n.val * 512 + p.val, by omega⟩ := by
  subst hf
  refine Finset.sum_congr rfl fun p _ => ?_
  dsimp only
  congr 1
  · funext k
    exact acc_block m c _ (by simp only; omega) p k _ (by simp only; omega)
  · funext k
    have hn : (3 * n.val + 2) / 3 = n.val := by omega
    blk_ext [iblk, V, idx ⟨3 * n.val + 2, by change _ < 24; omega⟩, hn]

/-- The weight's gradient after the first `n + 1` row blocks. -/
def part (c : Dev nD) (n : Nat) (h : n < 8) : Vec Ideal S1x1024 .f32 := (outsAt0 m c (3 * n + 2) (by change _ < 24; omega)).2.1

theorem part_step (c : Dev nD) (n : Fin 8) (h : ¬n.val % 8 = 0) (j : S1x1024.Idx) :
    part m c n.val n.isLt j = part m c (n.val - 1) (by omega) j + share m c ⟨3 * n.val + 2, by change _ < 24; omega⟩ (j 1) := by
  refine (outs_dw_C m c ⟨3 * n.val + 2, by change _ < 24; omega⟩ (by simp only; omega) (by simp only; omega) j).trans ?_
  congr 1
  refine (congrFun (outs_keep m c ⟨3 * n.val + 1, by change _ < 24; omega⟩ (by simp only; omega)) j).trans ?_
  refine (congrFun (outs_keep m c ⟨3 * n.val, by change _ < 24; omega⟩ (by simp only; omega)) j).trans ?_
  unfold part
  have e : 3 * n.val - 1 = 3 * (n.val - 1) + 2 := by omega
  simp only [e]

def tlast : Fin cfg0.N := ⟨23, by decide⟩

theorem dw_array (c : Dev nD) : (dats m 0 c).arrAt 6 cfg0.N =
    NormRow.dwArr (acc (m ((c : Thread nD τ).loc main_arg0)) (m ((c : Thread nD τ).loc main_arg1)))
      (m ((c : Thread nD τ).loc main_arg2)) := by
  refine (dats m 0 c).arrAt_eq_of_after_last 6 tlast (by decide +kernel) _ fun j => ?_
  blk_simp
  rw [after0_6]
  refine (Pipeline.eq_sum_fin_of_reset_step_apply_last (part m c) 8 (fun _ => 0)
    (fun n j => share m c ⟨3 * n.val + 2, by change _ < 24; omega⟩ (j 1)) (fun n h j => ?_)
    (fun n h j => part_step m c n h j) le_rfl (7 : Fin 8) rfl j).trans ?_
  · have hn : n.val = 0 := by omega
    refine (outs_dw_B m c ⟨3 * n.val + 2, by change _ < 24; omega⟩ (by simp only; omega) (by simp only; omega) j).trans ?_
    exact (zero_add _).symm
  · rw [zero_add]
    unfold NormRow.dwArr
    rw [← Fin.sum_mul_add_fin (L := 4096) 8 512]
    exact Finset.sum_congr rfl fun n _ => share_eq m c n _ _ rfl

theorem frame_p : Cert.quiescent_NormProj := fun m g _ => Cert.NormProj.Gen.frame m g
theorem frame_pi : Cert.quiescent_NormProjIdeal := fun m g _ => Cert.NormProjIdeal.Gen.frame m g
theorem frame_ri : Cert.quiescent_NormProjRefIdeal := fun m g _ =>
  (θ_run Cert.NormProjRefIdeal.defs _ _).mono
    (fun r h => ⟨fun c => (h c).2.2, sem_eq_zero_of_no_sems (by decide) r.2⟩)
    (Cert.NormProjRefIdeal.Value.run (F := Ideal) m g)

/-- Under the precondition the product, the weight and the normed rows are reals. -/
theorem reals (m : (ℓ : Loc nD τ sig) → Buf (Elt Ideal) ℓ) (h : Cert.Pre_NormProjIdeal_normproj_finite m) (c : Dev nD) :
    (∃ a : Fin 4096 → Fin 1024 → ℝ, acc (m ((c : Thread nD τ).loc main_arg0)) (m ((c : Thread nD τ).loc main_arg1)) = fun P k => ((a P k : ℝ) : EReal)) ∧
    (∃ x : S4096x1024.Idx → ℝ, m ((c : Thread nD τ).loc main_arg2) = fun i => ((x i : ℝ) : EReal)) ∧
    (∃ w : S1024.Idx → ℝ, m ((c : Thread nD τ).loc main_arg4) = fun i => ((w i : ℝ) : EReal)) := by
  have e := congrFun (h c) ix0
  unfold Cert.Pre_normproj_finite.fn Cert.Pre_normproj_finite.fn_part1 at e
  dsimp only at e
  have e1 := Finite.and_left e
  have e2 := Finite.and_left e1
  obtain ⟨g0, h0⟩ := Finite.of_test (Finite.and_left e2)
  obtain ⟨g1, h1⟩ := Finite.of_test (Finite.and_right e2)
  obtain ⟨g2, h2⟩ := Finite.of_test (Finite.and_right e1)
  obtain ⟨g4, h4⟩ := Finite.of_test (Finite.and_right e)
  refine ⟨⟨fun P k => ∑ x : Fin 4112, g0 (ix2 P ⟨x.val, by omega⟩) * g1 (ix2 k x), ?_⟩, ⟨g2, h2⟩, ⟨g4, h4⟩⟩
  funext P k
  unfold acc
  rw [NormRow.coe_sum]
  refine Finset.sum_congr rfl fun j _ => ?_
  rw [EReal.coe_mul, ← congrFun h0, ← congrFun h1]
  rfl

theorem ref_dh (m : (ℓ : Loc Cert.NormProjRefIdeal.nD Cert.NormProjRefIdeal.τ Cert.NormProjRefIdeal.sig) → Buf (Elt Ideal) ℓ)
    (c : Dev Cert.NormProjRefIdeal.nD) (x0 : Vec Ideal S4096x4224 .bf16) (x1 : Vec Ideal S1024x4112 .f32)
    (x2 x3 : Vec Ideal S4096x1024 .f32) (x4 : Vec Ideal S1024 .f32)
    (h0 : m ((c : Thread Cert.NormProjRefIdeal.nD Cert.NormProjRefIdeal.τ).loc Cert.NormProjRefIdeal.main_arg0) = x0)
    (h1 : m ((c : Thread Cert.NormProjRefIdeal.nD Cert.NormProjRefIdeal.τ).loc Cert.NormProjRefIdeal.main_arg1) = x1)
    (h2 : m ((c : Thread Cert.NormProjRefIdeal.nD Cert.NormProjRefIdeal.τ).loc Cert.NormProjRefIdeal.main_arg2) = x2)
    (h3 : m ((c : Thread Cert.NormProjRefIdeal.nD Cert.NormProjRefIdeal.τ).loc Cert.NormProjRefIdeal.main_arg3) = x3)
    (h4 : m ((c : Thread Cert.NormProjRefIdeal.nD Cert.NormProjRefIdeal.τ).loc Cert.NormProjRefIdeal.main_arg4) = x4) :
    Cert.NormProjRefIdeal.Value.res_main_v44 m c = NormRow.refArr (acc x0 x1) x4 x2 x3 := by
  funext i
  obtain ⟨p, q, rfl⟩ : ∃ p q, i = ix2 (n0 := 4096) (n1 := 1024) p q := ⟨_, _, eq_ix2 i⟩
  unfold Cert.NormProjRefIdeal.Value.res_main_v44
  pointwise
  simp only [h0, h1, h2, h3, h4, Fin.sum_univ_one, Finset.univ_unique, Finset.sum_singleton]
  rfl

theorem ref_dw (x0 : Vec Ideal S4096x4224 .bf16) (x1 : Vec Ideal S1024x4112 .f32)
    (x2 : Vec Ideal S4096x1024 .f32) (i : S1x1024.Idx) :
    (∑ _ : Fin 1, ∑ P : Fin 4096, x2 (ix2 P (i 1)) * NormRow.rstd (fun k => x2 (ix2 P k)) * acc x0 x1 P (i 1)) =
      NormRow.dwArr (acc x0 x1) x2 i := by
  rw [Fin.sum_univ_one]
  exact Finset.sum_congr rfl fun P _ => mul_comm _ _

theorem algebraic : Cert.algebraic_NormProjIdeal_NormProjRefIdeal_pre_normproj_finite := by
  pair_intro
  · run_from Cert.NormProjIdeal.Value.run_blocks m g
  · run_from Cert.NormProjRefIdeal.Value.run m' g'
    · obtain ⟨ha, hx, hw⟩ := reals m hpre c
      rw [dh_array, NormRow.dhArr_eq_refArr _ ha hx hw]
      exact ref_dh m' c _ _ _ _ _ (hagree c).1 (hagree c).2.1 (hagree c).2.2.1 (hagree c).2.2.2.1 (hagree c).2.2.2.2
    · rw [dw_array]
      funext i
      pointwise
      exact ref_dw _ _ _ i

end Cert.Calls.NormProj

end
-- ==== Proof.NormUp.lean ====
module

public import proofs.«01_k».proof.Defs
public import proofs.«01_k».proof.Proof.Gen.NormUp.Frame
public import proofs.«01_k».proof.Proof.Gen.NormUpIdeal.Value
public import proofs.«01_k».proof.Proof.Gen.NormUpRefIdeal.Run
public import proofs.«01_k».proof.Proof.Gen.NormUpRefIdeal.Read
public import proofs.«01_k».proof.Proof.Gen.Pre_normup_finite
public import proofs.«01_k».proof.Proof.NormRow
public import proofs.«01_k».proof.Proof.Finite
public import Idealize.ShloMosaic.Lib.Pipeline.ReadBack

@[expose] public section

set_option maxRecDepth 32768

noncomputable section

namespace Cert.Calls.NormUp

open Idealize.ShloMosaic Idealize.ShloMosaic.TcCoe Idealize.SL.Sem
open Cert.NormUpIdeal Cert.NormUpIdeal.Gen

variable (m : (ℓ : Loc nD τ sig) → Buf (Elt Ideal) ℓ)

theorem outs_acc_A (c : Dev nD) (t : Fin cfg0.N) (h : t.val % 2 = 0) :
    (outsAt0 m c t.val t.isLt).2.2 = k0_pay1 (iblk m c 0 t) (iblk m c 1 t) := by
  have ht : t.val < 16 := t.isLt
  rw [outsAt0_A m c t h (by omega) (by omega)]
  generalize (iblk m c 0 t) = x0, (iblk m c 1 t) = x1, (iblk m c 2 t) = x2, (iblk m c 3 t) = x3, (iblk m c 4 t) = x4
  frame_open
  simp (disch := decide) only [↓ View.readCov_skip, ↓ View.readCov_cons_toLoadRect, ↓ View.readCov_fill]
  frame_out
  funext i
  unfold k0_pay2
  pointwise

theorem outs_keep_A (c : Dev nD) (t : Fin cfg0.N) (h : t.val % 2 = 0) :
    (outsAt0 m c t.val t.isLt).2.1 = (outsAt0 m c (t.val - 1) (Nat.lt_of_le_of_lt (Nat.sub_le _ _) t.isLt)).2.1 := by
  have ht : t.val < 16 := t.isLt
  rw [outsAt0_A m c t h (by omega) (by omega)]
  rfl

theorem acc_step (x0 : Vec Ideal S1x512x2816 .bf16) (x1 : Vec Ideal S1x2816x1024 .bf16) (a : Vec Ideal S512x1024 .f32) :
    k0_pay3 x0 x1 a = addf a (k0_pay1 x0 x1) := by
  funext i
  unfold k0_pay3
  pointwise

/-- The gradient that reaches the normed rows of the block: both halves' products. -/
def accBlk (c : Dev nD) (t : Fin cfg0.N) : Vec Ideal S512x1024 .f32 :=
  addf (outsAt0 m c (t.val - 1) (Nat.lt_of_le_of_lt (Nat.sub_le _ _) t.isLt)).2.2 (k0_pay1 (iblk m c 0 t) (iblk m c 1 t))

/-- The gradient of the row that the point at `t` reaches, from the blocks of the point. -/
theorem outs_dh (c : Dev nD) (t : Fin cfg0.N) (h : t.val % 2 = 1) (p : Fin 512) (q : Fin 1024) :
    (outsAt0 m c t.val t.isLt).1 (ix2 p q) =
      NormRow.dh (fun k => accBlk m c t (ix2 p k)) (fun k => iblk m c 4 t (ix2 0 k))
        (fun k => iblk m c 2 t (ix2 p k)) (iblk m c 3 t (ix2 p q)) q := by
  have ht : t.val < 16 := t.isLt
  unfold accBlk
  by_cases h2 : t.val < 2
  on_goal 1 => rw [outsAt0_B m c t (by omega) h h h2 (by omega)]
  on_goal 2 => rw [outsAt0_C m c t (by omega) h h h2 (by omega)]
  all_goals
    generalize (outsAt0 m c (t.val - 1) (Nat.lt_of_le_of_lt (Nat.sub_le _ _) t.isLt)) = prev
    generalize (iblk m c 0 t) = x0, (iblk m c 1 t) = x1, (iblk m c 2 t) = x2, (iblk m c 3 t) = x3, (iblk m c 4 t) = x4
    frame_open
    simp (disch := decide) only [↓ View.readCov_skip, ↓ View.readCov_cons_toLoadRect, ↓ View.readCov_fill]
    frame_out
    simp only [read_unread_whole]
    rw [acc_step]
    generalize addf prev.2.2 (k0_pay1 x0 x1) = acc
    canon_tiles y hh
    all_goals
      open_payloads
      pointwise
      obtain rfl : q = y 1 := Fin.ext hh1
      first
        | rw [show p = ⟨(y 0).val, by omega⟩ from Fin.ext hh0]; rfl
        | rw [show p = ⟨_ + (y 0).val, by omega⟩ from Fin.ext hh0]; rfl

/-- What the rows of the block at `t` add to the weight's gradient. -/
def share (c : Dev nD) (t : Fin cfg0.N) (q : Fin 1024) : EReal :=
  ∑ p : Fin 512, NormRow.dw (fun k => accBlk m c t (ix2 p k)) (fun k => iblk m c 2 t (ix2 p k)) q

theorem outs_dw_B (c : Dev nD) (t : Fin cfg0.N) (h : t.val % 2 = 1) (h2 : t.val < 2) (j : S1x1024.Idx) :
    (outsAt0 m c t.val t.isLt).2.1 j = share m c t (j 1) := by
  have ht : t.val < 16 := t.isLt
  rw [outsAt0_B m c t (by omega) h h h2 (by omega)]; unfold share accBlk
  generalize (outsAt0 m c (t.val - 1) (Nat.lt_of_le_of_lt (Nat.sub_le _ _) t.isLt)) = prev
  generalize (iblk m c 0 t) = x0, (iblk m c 1 t) = x1, (iblk m c 2 t) = x2, (iblk m c 3 t) = x3, (iblk m c 4 t) = x4
  frame_open
  simp (disch := decide) only [↓ View.readCov_skip, ↓ View.readCov_cons_toLoadRect, ↓ View.readCov_fill]
  frame_out
  simp only [read_unread_whole]
  rw [acc_step]
  generalize addf prev.2.2 (k0_pay1 x0 x1) = acc
  open_payloads
  pointwise
  rw [← NormRow.sum_chunks]
  try rw [zero_add]
  rfl

theorem outs_dw_C (c : Dev nD) (t : Fin cfg0.N) (h : t.val % 2 = 1) (h2 : ¬t.val < 2) (j : S1x1024.Idx) :
    (outsAt0 m c t.val t.isLt).2.1 j =
      (outsAt0 m c (t.val - 1) (Nat.lt_of_le_of_lt (Nat.sub_le _ _) t.isLt)).2.1 j + share m c t (j 1) := by
  have ht : t.val < 16 := t.isLt
  rw [outsAt0_C m c t (by omega) h h h2 (by omega)]; unfold share accBlk
  generalize (outsAt0 m c (t.val - 1) (Nat.lt_of_le_of_lt (Nat.sub_le _ _) t.isLt)) = prev
  generalize (iblk m c 0 t) = x0, (iblk m c 1 t) = x1, (iblk m c 2 t) = x2, (iblk m c 3 t) = x3, (iblk m c 4 t) = x4
  frame_open
  simp (disch := decide) only [↓ View.readCov_skip, ↓ View.readCov_cons_toLoadRect, ↓ View.readCov_fill]
  frame_out
  simp only [read_unread_whole]
  rw [acc_step]
  generalize addf prev.2.2 (k0_pay1 x0 x1) = acc
  open_payloads
  pointwise
  rw [← NormRow.sum_chunks]
  try rw [zero_add]
  rfl

/-- What one half of the weight's columns hands back at a row and a column. -/
def half (g : Vec Ideal S2x4096x2816 .bf16) (w : Vec Ideal S1024x5632 .f32) (s : Fin 2) (P : Fin 4096) (k : Fin 1024) : EReal :=
  ∑ j : Fin 2816, g (ix3 s P j) * w (ix2 k ⟨s.val * 2816 + j.val, by omega⟩)

/-- The gradient that the product hands back at a row and a column. -/
def acc (g : Vec Ideal S2x4096x2816 .bf16) (w : Vec Ideal S1024x5632 .f32) (P : Fin 4096) (k : Fin 1024) : EReal :=
  ∑ x : Fin 5632, g (ix3 ⟨x.val / 2816, by omega⟩ P ⟨x.val % 2816, by omega⟩) * w (ix2 k x)

theorem acc_eq_halves (g : Vec Ideal S2x4096x2816 .bf16) (w : Vec Ideal S1024x5632 .f32) (P : Fin 4096) (k : Fin 1024) :
    acc g w P k = half g w 0 P k + half g w 1 P k := by
  unfold acc
  rw [← Fin.sum_mul_add_fin (L := 5632) 2 2816, Fin.sum_univ_two]
  unfold half
  congr 1 <;>
  · refine Finset.sum_congr rfl fun j _ => ?_
    congr 2
    refine congrArg₂ (fun a b => ix3 a P b) (Fin.ext ?_) (Fin.ext ?_) <;> simp <;> omega

theorem idx : ∀ t : Fin grid0.N, win0_0.index t = ![t.val % 2, t.val / 2, 0] ∧ win0_1.index t = ![t.val % 2, 0, 0] ∧
    win0_2.index t = ![t.val / 2, 0] ∧ win0_3.index t = ![t.val / 2, 0] ∧ win0_4.index t = ![0, 0] ∧
    win0_5.index t = ![t.val / 2, 0] := by decide +kernel

/-- One half's product at a row of the block. -/
theorem part_block (c : Dev nD) (t : Fin cfg0.N) (p : Fin 512) (k : Fin 1024) (P : Fin 4096) (s : Fin 2)
    (hP : P.val = t.val / 2 * 512 + p.val) (hs : s.val = t.val % 2) :
    k0_pay1 (iblk m c 0 t) (iblk m c 1 t) (ix2 p k) =
      half (m ((c : Thread nD τ).loc main_arg0)) (m ((c : Thread nD τ).loc main_arg1)) s P k := by
  unfold k0_pay1 half
  pointwise
  refine Finset.sum_congr rfl fun j _ => ?_
  congr 1
  · blk_ext [iblk, V, idx t]
  · blk_simp [iblk]
    entry_read
    pointwise
    blk_ext [idx t]

/-- The product at a row of the block is the product at the row of the array. -/
theorem acc_block (c : Dev nD) (t : Fin cfg0.N) (h : t.val % 2 = 1) (p : Fin 512) (k : Fin 1024) (P : Fin 4096)
    (hP : P.val = t.val / 2 * 512 + p.val) :
    accBlk m c t (ix2 p k) =
      acc (m ((c : Thread nD τ).loc main_arg0)) (m ((c : Thread nD τ).loc main_arg1)) P k := by
  have ht : t.val < 16 := t.isLt
  unfold accBlk
  rw [acc_eq_halves, ← part_block m c t p k P 1 hP h.symm,
    ← part_block m c ⟨t.val - 1, by omega⟩ p k P 0 (by simp only; omega) (by simp only [Fin.val_zero]; omega),
    ← outs_acc_A m c ⟨t.val - 1, by omega⟩ (by simp only; omega)]
  rfl

theorem odd_of_flush : ∀ t : Fin cfg0.N, (cfg0.win 5).flush t = true → t.val % 2 = 1 := by decide +kernel

theorem dh_array (c : Dev nD) : (dats m 0 c).arrAt 5 cfg0.N =
    NormRow.dhArr (acc (m ((c : Thread nD τ).loc main_arg0)) (m ((c : Thread nD τ).loc main_arg1)))
      (m ((c : Thread nD τ).loc main_arg4)) (m ((c : Thread nD τ).loc main_arg2)) (m ((c : Thread nD τ).loc main_arg3)) := by
  refine (dats m 0 c).arrAt_eq_of_covers 5 _ (by decide +kernel) fun t hf y => ?_
  blk_simp
  rw [after0_5]
  have hodd := odd_of_flush t hf
  have h0 : ((win0_5.blk t).view.emb y 0).val = t.val / 2 * 512 + (y 0).val := by blk_simp [idx t]
  have h1 : ((win0_5.blk t).view.emb y 1).val = (y 1).val := by blk_simp [idx t]
  have hq : (win0_5.blk t).view.emb y 1 = y 1 := Fin.ext h1
  refine (congrArg _ (ix2_eta y).symm).trans ((outs_dh m c t hodd (y 0) (y 1)).trans ?_)
  unfold NormRow.dhArr
  rw [hq]
  generalize hP : (win0_5.blk t).view.emb y 0 = P at h0
  congr 1
  · funext k; exact acc_block m c t hodd _ k P h0
  · funext k
    blk_simp [iblk]
    entry_read
    pointwise
    blk_ext [idx t]
  · funext k; blk_ext [iblk, V, idx t]
  · blk_ext [iblk, V, idx t]

theorem share_eq (c : Dev nD) (n : Fin 8) (q : Fin 1024) (f : Fin 4096 → EReal)
    (hf : f = fun P => NormRow.dw (acc (m ((c : Thread nD τ).loc main_arg0)) (m ((c : Thread nD τ).loc main_arg1)) P)
      (fun k => (m ((c : Thread nD τ).loc main_arg2) : Vec Ideal S4096x1024 .f32) (ix2 P k)) q) :
    share m c ⟨2 * n.val + 1, by change _ < 16; omega⟩ q = ∑ p : Fin 512, f ⟨n.val * 512 + p.val, by omega⟩ := by
  subst hf
  refine Finset.sum_congr rfl fun p _ => ?_
  dsimp only
  congr 1
  · funext k
    exact acc_block m c _ (by simp only; omega) p k _ (by simp only; omega)
  · funext k
    have hn : (2 * n.val + 1) / 2 = n.val := by omega
    blk_ext [iblk, V, idx ⟨2 * n.val + 1, by change _ < 16; omega⟩, hn]

/-- The weight's gradient after the first `n + 1` row blocks. -/
def part (c : Dev nD) (n : Nat) (h : n < 8) : Vec Ideal S1x1024 .f32 := (outsAt0 m c (2 * n + 1) (by change _ < 16; omega)).2.1

theorem part_step (c : Dev nD) (n : Fin 8) (h : ¬n.val % 8 = 0) (j : S1x1024.Idx) :
    part m c n.val n.isLt j = part m c (n.val - 1) (by omega) j + share m c ⟨2 * n.val + 1, by change _ < 16; omega⟩ (j 1) := by
  refine (outs_dw_C m c ⟨2 * n.val + 1, by change _ < 16; omega⟩ (by simp only; omega) (by simp only; omega) j).trans ?_
  congr 1
  refine (congrFun (outs_keep_A m c ⟨2 * n.val, by change _ < 16; omega⟩ (by simp only; omega)) j).trans ?_
  unfold part
  have e : 2 * n.val - 1 = 2 * (n.val - 1) + 1 := by omega
  simp only [e]

theorem dw_array (c : Dev nD) : (dats m 0 c).arrAt 6 cfg0.N =
    NormRow.dwArr (acc (m ((c : Thread nD τ).loc main_arg0)) (m ((c : Thread nD τ).loc main_arg1)))
      (m ((c : Thread nD τ).loc main_arg2)) := by
  refine (dats m 0 c).arrAt_eq_of_after_last 6 t0_15 (by decide +kernel) _ fun j => ?_
  blk_simp
  rw [after0_6]
  refine (Pipeline.eq_sum_fin_of_reset_step_apply_last (part m c) 8 (fun _ => 0)
    (fun n j => share m c ⟨2 * n.val + 1, by change _ < 16; omega⟩ (j 1)) (fun n h j => ?_)
    (fun n h j => part_step m c n h j) le_rfl 7 rfl j).trans ?_
  · have hn : n.val = 0 := by omega
    refine (outs_dw_B m c ⟨2 * n.val + 1, by change _ < 16; omega⟩ (by simp only; omega) (by simp only; omega) j).trans ?_
    exact (zero_add _).symm
  · rw [zero_add]
    unfold NormRow.dwArr
    rw [← Fin.sum_mul_add_fin (L := 4096) 8 512]
    exact Finset.sum_congr rfl fun n _ => share_eq m c n _ _ rfl

theorem frame_p : Cert.quiescent_NormUp := fun m g _ => Cert.NormUp.Gen.frame m g
theorem frame_pi : Cert.quiescent_NormUpIdeal := fun m g _ => Cert.NormUpIdeal.Gen.frame m g
theorem frame_ri : Cert.quiescent_NormUpRefIdeal := fun m g _ =>
  (θ_run Cert.NormUpRefIdeal.defs _ _).mono
    (fun r h => ⟨fun c => (h c).2.2, sem_eq_zero_of_no_sems (by decide) r.2⟩)
    (Cert.NormUpRefIdeal.Value.run (F := Ideal) m g)

/-- Under the precondition the product, the weight and the normed rows are reals. -/
theorem reals (m : (ℓ : Loc nD τ sig) → Buf (Elt Ideal) ℓ) (h : Cert.Pre_NormUpIdeal_normup_finite m) (c : Dev nD) :
    (∃ a : Fin 4096 → Fin 1024 → ℝ, acc (m ((c : Thread nD τ).loc main_arg0)) (m ((c : Thread nD τ).loc main_arg1)) = fun P k => ((a P k : ℝ) : EReal)) ∧
    (∃ x : S4096x1024.Idx → ℝ, m ((c : Thread nD τ).loc main_arg2) = fun i => ((x i : ℝ) : EReal)) ∧
    (∃ w : S1024.Idx → ℝ, m ((c : Thread nD τ).loc main_arg4) = fun i => ((w i : ℝ) : EReal)) := by
  have e := congrFun (h c) ix0
  unfold Cert.Pre_normup_finite.fn Cert.Pre_normup_finite.fn_part1 at e
  dsimp only at e
  have e1 := Finite.and_left e
  have e2 := Finite.and_left e1
  obtain ⟨g0, h0⟩ := Finite.of_test (Finite.and_left e2)
  obtain ⟨g1, h1⟩ := Finite.of_test (Finite.and_right e2)
  obtain ⟨g2, h2⟩ := Finite.of_test (Finite.and_right e1)
  obtain ⟨g4, h4⟩ := Finite.of_test (Finite.and_right e)
  refine ⟨⟨fun P k => ∑ x : Fin 5632, g0 (ix3 ⟨x.val / 2816, by omega⟩ P ⟨x.val % 2816, by omega⟩) * g1 (ix2 k x), ?_⟩, ⟨g2, h2⟩, ⟨g4, h4⟩⟩
  funext P k
  unfold acc
  rw [NormRow.coe_sum]
  refine Finset.sum_congr rfl fun j _ => ?_
  rw [EReal.coe_mul, ← congrFun h0, ← congrFun h1]
  rfl

theorem ref_dh (m : (ℓ : Loc Cert.NormUpRefIdeal.nD Cert.NormUpRefIdeal.τ Cert.NormUpRefIdeal.sig) → Buf (Elt Ideal) ℓ)
    (c : Dev Cert.NormUpRefIdeal.nD) (x0 : Vec Ideal S2x4096x2816 .bf16) (x1 : Vec Ideal S1024x5632 .f32)
    (x2 x3 : Vec Ideal S4096x1024 .f32) (x4 : Vec Ideal S1024 .f32)
    (h0 : m ((c : Thread Cert.NormUpRefIdeal.nD Cert.NormUpRefIdeal.τ).loc Cert.NormUpRefIdeal.main_arg0) = x0)
    (h1 : m ((c : Thread Cert.NormUpRefIdeal.nD Cert.NormUpRefIdeal.τ).loc Cert.NormUpRefIdeal.main_arg1) = x1)
    (h2 : m ((c : Thread Cert.NormUpRefIdeal.nD Cert.NormUpRefIdeal.τ).loc Cert.NormUpRefIdeal.main_arg2) = x2)
    (h3 : m ((c : Thread Cert.NormUpRefIdeal.nD Cert.NormUpRefIdeal.τ).loc Cert.NormUpRefIdeal.main_arg3) = x3)
    (h4 : m ((c : Thread Cert.NormUpRefIdeal.nD Cert.NormUpRefIdeal.τ).loc Cert.NormUpRefIdeal.main_arg4) = x4) :
    Cert.NormUpRefIdeal.Value.res_main_v43 m c = NormRow.refArr (acc x0 x1) x4 x2 x3 := by
  funext i
  obtain ⟨p, q, rfl⟩ : ∃ p q, i = ix2 (n0 := 4096) (n1 := 1024) p q := ⟨_, _, eq_ix2 i⟩
  unfold Cert.NormUpRefIdeal.Value.res_main_v43
  pointwise
  simp only [h0, h1, h2, h3, h4, Fin.sum_univ_one, Finset.univ_unique, Finset.sum_singleton]
  rfl

theorem ref_dw (x0 : Vec Ideal S2x4096x2816 .bf16) (x1 : Vec Ideal S1024x5632 .f32)
    (x2 : Vec Ideal S4096x1024 .f32) (i : S1x1024.Idx) :
    (∑ _ : Fin 1, ∑ P : Fin 4096, x2 (ix2 P (i 1)) * NormRow.rstd (fun k => x2 (ix2 P k)) * acc x0 x1 P (i 1)) =
      NormRow.dwArr (acc x0 x1) x2 i := by
  rw [Fin.sum_univ_one]
  exact Finset.sum_congr rfl fun P _ => mul_comm _ _

theorem algebraic : Cert.algebraic_NormUpIdeal_NormUpRefIdeal_pre_normup_finite := by
  pair_intro
  · run_from Cert.NormUpIdeal.Value.run_blocks m g
  · run_from Cert.NormUpRefIdeal.Value.run m' g'
    · obtain ⟨ha, hx, hw⟩ := reals m hpre c
      rw [dh_array, NormRow.dhArr_eq_refArr _ ha hx hw]
      exact ref_dh m' c _ _ _ _ _ (hagree c).1 (hagree c).2.1 (hagree c).2.2.1 (hagree c).2.2.2.1 (hagree c).2.2.2.2
    · rw [dw_array]
      funext i
      pointwise
      exact ref_dw _ _ _ i

end Cert.Calls.NormUp

end
-- ==== Proof.SwaPoints.lean ====
module

public import proofs.«01_k».proof.Proof.Gen.SwaIdeal.Frame
public import proofs.«01_k».proof.Proof.Gen.SwaIdeal.Skeleton

@[expose] public section

set_option maxRecDepth 16384

noncomputable section

namespace Cert.Calls.Swa

open Cert.SwaIdeal Cert.SwaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The body's first branch is taken at this point. -/
abbrev first (i : grid0.Coords) : Prop := (Scalar.cmpi .ne (Scalar.extui (Scalar.cmpi .eq (BitVec.ofNat 32 (i 0).val) 0#32)) 0#32) = 1#1

theorem branchesFirst : ∀ t : Fin cfg0.N, t.val = 0 → first (grid0.coords t) ∧ ¬ k0_cond2 (grid0.coords t) = 1#1
    ∧ ¬ k0_cond3 (grid0.coords t) = 1#1 ∧ ¬ k0_cond4 (grid0.coords t) = 1#1 ∧ ¬ k0_cond5 (grid0.coords t) = 1#1 :=
  (by decide +kernel : ∀ t : Fin grid0.N, t.val = 0 → first (grid0.coords t) ∧ ¬ k0_cond2 (grid0.coords t) = 1#1
    ∧ ¬ k0_cond3 (grid0.coords t) = 1#1 ∧ ¬ k0_cond4 (grid0.coords t) = 1#1 ∧ ¬ k0_cond5 (grid0.coords t) = 1#1)

theorem branchesLater : ∀ t : Fin cfg0.N, 1 ≤ t.val → ¬ first (grid0.coords t) ∧ k0_cond2 (grid0.coords t) = 1#1
    ∧ k0_cond3 (grid0.coords t) = 1#1 ∧ k0_cond4 (grid0.coords t) = 1#1 ∧ k0_cond5 (grid0.coords t) = 1#1 :=
  (by decide +kernel : ∀ t : Fin grid0.N, 1 ≤ t.val → ¬ first (grid0.coords t) ∧ k0_cond2 (grid0.coords t) = 1#1
    ∧ k0_cond3 (grid0.coords t) = 1#1 ∧ k0_cond4 (grid0.coords t) = 1#1 ∧ k0_cond5 (grid0.coords t) = 1#1)

theorem off1_eq : ∀ t : Fin grid0.N, k0_off1 (grid0.coords t) = ![128 * t.val, 0] := by decide +kernel
instance (t : Fin cfg0.N) : ClosedOff (k0_off1 (grid0.coords t)) := ⟨_, off1_eq t⟩
theorem off2_eq : ∀ t : Fin grid0.N, k0_off2 (grid0.coords t) = ![128 * t.val - 128, 0] := by decide +kernel
instance (t : Fin cfg0.N) : ClosedOff (k0_off2 (grid0.coords t)) := ⟨_, off2_eq t⟩
theorem off3_eq : ∀ t : Fin grid0.N, k0_off3 (grid0.coords t) = ![128 * t.val, 64] := by decide +kernel
instance (t : Fin cfg0.N) : ClosedOff (k0_off3 (grid0.coords t)) := ⟨_, off3_eq t⟩
theorem off4_eq : ∀ t : Fin grid0.N, k0_off4 (grid0.coords t) = ![128 * t.val - 128, 64] := by decide +kernel
instance (t : Fin cfg0.N) : ClosedOff (k0_off4 (grid0.coords t)) := ⟨_, off4_eq t⟩
theorem off5_eq : ∀ t : Fin grid0.N, k0_off5 (grid0.coords t) = ![128 * t.val, 128] := by decide +kernel
instance (t : Fin cfg0.N) : ClosedOff (k0_off5 (grid0.coords t)) := ⟨_, off5_eq t⟩
theorem off6_eq : ∀ t : Fin grid0.N, k0_off6 (grid0.coords t) = ![128 * t.val - 128, 128] := by decide +kernel
instance (t : Fin cfg0.N) : ClosedOff (k0_off6 (grid0.coords t)) := ⟨_, off6_eq t⟩
theorem off7_eq : ∀ t : Fin grid0.N, k0_off7 (grid0.coords t) = ![128 * t.val, 192] := by decide +kernel
instance (t : Fin cfg0.N) : ClosedOff (k0_off7 (grid0.coords t)) := ⟨_, off7_eq t⟩
theorem off8_eq : ∀ t : Fin grid0.N, k0_off8 (grid0.coords t) = ![128 * t.val - 128, 192] := by decide +kernel
instance (t : Fin cfg0.N) : ClosedOff (k0_off8 (grid0.coords t)) := ⟨_, off8_eq t⟩

end Cert.Calls.Swa

end
-- ==== Proof.SwaRunA.lean ====
module

public import proofs.«01_k».proof.Proof.SwaPoints

@[expose] public section

set_option maxRecDepth 16384

noncomputable section

namespace Cert.Calls.Swa

open Cert.SwaIdeal Cert.SwaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def runFirst (c : Dev nD) (t : Fin cfg0.N) (arg1 : Memref sig .tc .smem S1x16 .f32) (harg1 : arg1.IsWhole) (arg2 : Memref sig .tc .vmem S128x1024 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S4096x256 .f32) (harg9 : arg9.IsWhole) (arg10 : Memref sig .tc .vmem S4096x256 .f32) (harg10 : arg10.IsWhole) (arg11 : Memref sig .tc .vmem S1x128 .f32) (harg11 : arg11.IsWhole) (ht : t.val = 0) (h1 : first (grid0.coords t)) (h2 : ¬ k0_cond2 (grid0.coords t) = 1#1) (h3 : ¬ k0_cond3 (grid0.coords t) = 1#1) (h4 : ¬ k0_cond4 (grid0.coords t) = 1#1) (h5 : ¬ k0_cond5 (grid0.coords t) = 1#1)
    (x0 : Vec F S1x16 .f32) (x1 : Vec F S128x1024 .f32) (x2 : Vec F S128x256 .f32) (x3 : Vec F S128x256 .f32) (x4 : Vec F S128x256 .f32) (x5 : Vec F S128x256 .f32) (x6 : Vec F S128x1024 .bf16) :
    Σ' (L8 : List (View.Piece (Elt F) S128x1024 .bf16)), Σ' (L9 : List (View.Piece (Elt F) S4096x256 .f32)), Σ' (L10 : List (View.Piece (Elt F) S4096x256 .f32)), { L11 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11)) -∗ K ⟨⟩))
          ⊢ wp frame (wpE (defs₀ (F := F)) Variants.none c none) E (cc0_swa_bwd (grid0.coords t) arg1 harg1 arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0_swa_bwd_eq_skeleton]; unfold cc0_swa_bwd_skel
    simp only [k0_part19_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d8, %f8, -, H8⟩, ⟨%d9, %f9, -, H9⟩, ⟨%d10, %f10, -, H10⟩, ⟨%d11, %f11, -, H11⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact h1 | sl_exact h2 | sl_exact h3 | sl_exact h4 | sl_exact h5)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H8]; · iexists _; iexact H8
    isplitl [H9]; · iexists _; iexact H9
    isplitl [H10]; · iexists _; iexact H10
    iexists _; iexact H11

end Cert.Calls.Swa

end
-- ==== Proof.SwaRunB.lean ====
module

public import proofs.«01_k».proof.Proof.SwaPoints

@[expose] public section

set_option maxRecDepth 16384

noncomputable section

namespace Cert.Calls.Swa

open Cert.SwaIdeal Cert.SwaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def runLater (c : Dev nD) (t : Fin cfg0.N) (arg1 : Memref sig .tc .smem S1x16 .f32) (harg1 : arg1.IsWhole) (arg2 : Memref sig .tc .vmem S128x1024 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S4096x256 .f32) (harg9 : arg9.IsWhole) (arg10 : Memref sig .tc .vmem S4096x256 .f32) (harg10 : arg10.IsWhole) (arg11 : Memref sig .tc .vmem S1x128 .f32) (harg11 : arg11.IsWhole) (ht : 1 ≤ t.val) (h1 : ¬ first (grid0.coords t)) (h2 : k0_cond2 (grid0.coords t) = 1#1) (h3 : k0_cond3 (grid0.coords t) = 1#1) (h4 : k0_cond4 (grid0.coords t) = 1#1) (h5 : k0_cond5 (grid0.coords t) = 1#1)
    (x0 : Vec F S1x16 .f32) (x1 : Vec F S128x1024 .f32) (x2 : Vec F S128x256 .f32) (x3 : Vec F S128x256 .f32) (x4 : Vec F S128x256 .f32) (x5 : Vec F S128x256 .f32) (x6 : Vec F S128x1024 .bf16) (y9 : Vec F S4096x256 .f32) (y10 : Vec F S4096x256 .f32) (y11 : Vec F S1x128 .f32) :
    Σ' (L8 : List (View.Piece (Elt F) S128x1024 .bf16)), Σ' (L9 : List (View.Piece (Elt F) S4096x256 .f32)), Σ' (L10 : List (View.Piece (Elt F) S4096x256 .f32)), { L11 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare y9 ∗ owns (c : Thread nD τ) arg10 fullShare y10 ∗ owns (c : Thread nD τ) arg11 fullShare y11
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L8) ∗ (∃ f, ⌜f = harg9.unread y9⌝ ∗ arg9.view.loc (c : Thread nD τ) ↦[arg9.view.set]{fullShare} arg9.view.writes (Elt F) f L9) ∗ (∃ f, ⌜f = harg10.unread y10⌝ ∗ arg10.view.loc (c : Thread nD τ) ↦[arg10.view.set]{fullShare} arg10.view.writes (Elt F) f L10) ∗ (∃ f, ⌜f = harg11.unread y11⌝ ∗ arg11.view.loc (c : Thread nD τ) ↦[arg11.view.set]{fullShare} arg11.view.writes (Elt F) f L11)) -∗ K ⟨⟩))
          ⊢ wp frame (wpE (defs₀ (F := F)) Variants.none c none) E (cc0_swa_bwd (grid0.coords t) arg1 harg1 arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0_swa_bwd_eq_skeleton]; unfold cc0_swa_bwd_skel
    simp only [k0_part19_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d8, %f8, -, H8⟩, ⟨%f9, %hf9, H9⟩, ⟨%f10, %hf10, H10⟩, ⟨%f11, %hf11, H11⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf9; obtain rfl := harg10.eq_unread hf10; obtain rfl := harg11.eq_unread hf11
    sl_exec (disch := first | sl_exact h1 | sl_exact h2 | sl_exact h3 | sl_exact h4 | sl_exact h5)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H8]; · iexists _; iexact H8
    isplitl [H9]
    · iexists _; isplitr; · ipureintro; rfl
      iexact H9
    isplitl [H10]
    · iexists _; isplitr; · ipureintro; rfl
      iexact H10
    iexists _; isplitr; · ipureintro; rfl
    iexact H11

end Cert.Calls.Swa

end
-- ==== Proof.SwaFrame.lean ====
module

public import proofs.«01_k».proof.Proof.SwaRunA
public import proofs.«01_k».proof.Proof.SwaRunB
public import Idealize.ShloMosaic.Lib.Claim

/-!
The run of the window-attention backward kernel over its whole grid: what each of its four results' buffers holds
after every grid point, the body's triple at a generic point, the run of the launch, and the frame.
-/

@[expose] public section

set_option maxRecDepth 16384

noncomputable section

namespace Cert.Calls.Swa

open Cert.SwaIdeal Cert.SwaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! The staging buffers of the windows at a point. -/

abbrev ms0_0 (t : Fin cfg0.N) : Memref sig .tc .smem S1x16 .f32 := win0_0.stage (cfg0.slots t 0)
theorem hs0_0 (t : Fin cfg0.N) : (ms0_0 t).IsWhole := hstage0_0 ((cfg0.slots t 0).cast nbuf0_0)
abbrev ms0_1 (t : Fin cfg0.N) : Memref sig .tc .vmem S128x1024 .f32 := win0_1.stage (cfg0.slots t 1)
theorem hs0_1 (t : Fin cfg0.N) : (ms0_1 t).IsWhole := hstage0_1 ((cfg0.slots t 1).cast nbuf0_1)
abbrev ms0_2 (t : Fin cfg0.N) : Memref sig .tc .vmem S128x256 .f32 := win0_2.stage (cfg0.slots t 2)
theorem hs0_2 (t : Fin cfg0.N) : (ms0_2 t).IsWhole := hstage0_2 ((cfg0.slots t 2).cast nbuf0_2)
abbrev ms0_3 (t : Fin cfg0.N) : Memref sig .tc .vmem S128x256 .f32 := win0_3.stage (cfg0.slots t 3)
theorem hs0_3 (t : Fin cfg0.N) : (ms0_3 t).IsWhole := hstage0_3 ((cfg0.slots t 3).cast nbuf0_3)
abbrev ms0_4 (t : Fin cfg0.N) : Memref sig .tc .vmem S128x256 .f32 := win0_4.stage (cfg0.slots t 4)
theorem hs0_4 (t : Fin cfg0.N) : (ms0_4 t).IsWhole := hstage0_4 ((cfg0.slots t 4).cast nbuf0_4)
abbrev ms0_5 (t : Fin cfg0.N) : Memref sig .tc .vmem S128x256 .f32 := win0_5.stage (cfg0.slots t 5)
theorem hs0_5 (t : Fin cfg0.N) : (ms0_5 t).IsWhole := hstage0_5 ((cfg0.slots t 5).cast nbuf0_5)
abbrev ms0_6 (t : Fin cfg0.N) : Memref sig .tc .vmem S128x1024 .bf16 := win0_6.stage (cfg0.slots t 6)
theorem hs0_6 (t : Fin cfg0.N) : (ms0_6 t).IsWhole := hstage0_6 ((cfg0.slots t 6).cast nbuf0_6)
abbrev ms0_7 (t : Fin cfg0.N) : Memref sig .tc .vmem S128x1024 .bf16 := win0_7.stage (cfg0.slots t 7)
theorem hs0_7 (t : Fin cfg0.N) : (ms0_7 t).IsWhole := hstage0_7 ((cfg0.slots t 7).cast nbuf0_7)
abbrev ms0_8 (t : Fin cfg0.N) : Memref sig .tc .vmem S4096x256 .f32 := win0_8.stage (cfg0.slots t 8)
theorem hs0_8 (t : Fin cfg0.N) : (ms0_8 t).IsWhole := hstage0_8 ((cfg0.slots t 8).cast nbuf0_8)
abbrev ms0_9 (t : Fin cfg0.N) : Memref sig .tc .vmem S4096x256 .f32 := win0_9.stage (cfg0.slots t 9)
theorem hs0_9 (t : Fin cfg0.N) : (ms0_9 t).IsWhole := hstage0_9 ((cfg0.slots t 9).cast nbuf0_9)
abbrev ms0_10 (t : Fin cfg0.N) : Memref sig .tc .vmem S1x128 .f32 := win0_10.stage (cfg0.slots t 10)
theorem hs0_10 (t : Fin cfg0.N) : (ms0_10 t).IsWhole := hstage0_10 ((cfg0.slots t 10).cast nbuf0_10)

/-- The body's run at the first point. -/
abbrev runAtFirst (c : Dev nD) (t : Fin cfg0.N) (ht : t.val = 0) :=
  runFirst (F := F) c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ht (branchesFirst t ht).1 (branchesFirst t ht).2.1 (branchesFirst t ht).2.2.1 (branchesFirst t ht).2.2.2.1 (branchesFirst t ht).2.2.2.2
    (iblk m c 0 t) (X0_1 m c t) (iblk m c 2 t) (iblk m c 3 t) (iblk m c 4 t) (iblk m c 5 t) (iblk m c 6 t)

/-- The body's run at a later point, over what the point before left in the three accumulators. -/
abbrev runAtLater (c : Dev nD) (t : Fin cfg0.N) (ht : 1 ≤ t.val) (y : Vec F S4096x256 .f32 × Vec F S4096x256 .f32 × Vec F S1x128 .f32) :=
  runLater (F := F) c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ht (branchesLater t ht).1 (branchesLater t ht).2.1 (branchesLater t ht).2.2.1 (branchesLater t ht).2.2.2.1 (branchesLater t ht).2.2.2.2
    (iblk m c 0 t) (X0_1 m c t) (iblk m c 2 t) (iblk m c 3 t) (iblk m c 4 t) (iblk m c 5 t) (iblk m c 6 t) y.1 y.2.1 y.2.2

/-- What the three accumulators hold after the first point. -/
def accFirst (c : Dev nD) (t : Fin cfg0.N) (ht : t.val = 0) : Vec F S4096x256 .f32 × Vec F S4096x256 .f32 × Vec F S1x128 .f32 :=
  ((ms0_8 t).view.read (Elt F) ((ms0_8 t).view.writes (Elt F) (ms0_8 t).view.junk (runAtFirst m c t ht).2.1),
   (ms0_9 t).view.read (Elt F) ((ms0_9 t).view.writes (Elt F) (ms0_9 t).view.junk (runAtFirst m c t ht).2.2.1),
   (ms0_10 t).view.read (Elt F) ((ms0_10 t).view.writes (Elt F) (ms0_10 t).view.junk (runAtFirst m c t ht).2.2.2.1))

/-- What the three accumulators hold after a later point, over what they held before it. -/
def accLater (c : Dev nD) (t : Fin cfg0.N) (ht : 1 ≤ t.val) (y : Vec F S4096x256 .f32 × Vec F S4096x256 .f32 × Vec F S1x128 .f32) :
    Vec F S4096x256 .f32 × Vec F S4096x256 .f32 × Vec F S1x128 .f32 :=
  ((ms0_8 t).view.read (Elt F) ((ms0_8 t).view.writes (Elt F) ((hs0_8 t).unread y.1) (runAtLater m c t ht y).2.1),
   (ms0_9 t).view.read (Elt F) ((ms0_9 t).view.writes (Elt F) ((hs0_9 t).unread y.2.1) (runAtLater m c t ht y).2.2.1),
   (ms0_10 t).view.read (Elt F) ((ms0_10 t).view.writes (Elt F) ((hs0_10 t).unread y.2.2) (runAtLater m c t ht y).2.2.2.1))

/-- The accumulators' contents after the `n`-th point. -/
def accAt (c : Dev nD) : (n : ℕ) → n < cfg0.N → Vec F S4096x256 .f32 × Vec F S4096x256 .f32 × Vec F S1x128 .f32
  | 0, h => accFirst m c ⟨0, h⟩ rfl
  | n + 1, h => accLater m c ⟨n + 1, h⟩ (Nat.succ_le_succ (Nat.zero_le n)) (accAt c n (Nat.lt_of_succ_lt h))

/-- The accumulators' contents before a later point. -/
abbrev accBefore (c : Dev nD) (t : Fin cfg0.N) := accAt m c (t.val - 1) (Nat.lt_of_le_of_lt (Nat.sub_le _ _) t.isLt)

theorem accAt_first (c : Dev nD) (t : Fin cfg0.N) (ht : t.val = 0) : accAt m c t.val t.isLt = accFirst m c t ht := by
  obtain ⟨n, hn⟩ := t
  cases n with
  | zero => rfl
  | succ n => exact absurd ht (Nat.succ_ne_zero n)

theorem accAt_later (c : Dev nD) (t : Fin cfg0.N) (ht : 1 ≤ t.val) :
    accAt m c t.val t.isLt = accLater m c t ht (accBefore m c t) := by
  obtain ⟨n, hn⟩ := t
  cases n with
  | zero => exact absurd ht (Nat.not_succ_le_zero 0)
  | succ n => rfl

/-- The block of the queries' gradient the body leaves at a point. -/
def dqAt (c : Dev nD) (t : Fin cfg0.N) : Vec F S128x1024 .bf16 :=
  if ht : t.val = 0 then (ms0_7 t).view.read (Elt F) ((ms0_7 t).view.writes (Elt F) (ms0_7 t).view.junk (runAtFirst m c t ht).1)
  else (ms0_7 t).view.read (Elt F) ((ms0_7 t).view.writes (Elt F) (ms0_7 t).view.junk (runAtLater m c t (Nat.one_le_iff_ne_zero.mpr ht) (accBefore m c t)).1)

theorem dqAt_first (c : Dev nD) (t : Fin cfg0.N) (ht : t.val = 0) : dqAt m c t =
    (ms0_7 t).view.read (Elt F) ((ms0_7 t).view.writes (Elt F) (ms0_7 t).view.junk (runAtFirst m c t ht).1) := by
  unfold dqAt; rw [dif_pos ht]

theorem dqAt_later (c : Dev nD) (t : Fin cfg0.N) (ht : 1 ≤ t.val) : dqAt m c t =
    (ms0_7 t).view.read (Elt F) ((ms0_7 t).view.writes (Elt F) (ms0_7 t).view.junk (runAtLater m c t ht (accBefore m c t)).1) := by
  unfold dqAt; rw [dif_neg (Nat.one_le_iff_ne_zero.mp ht)]

/-! The stores cover the buffers they must cover: the queries' gradient by its sixteen heads, the accumulators by the
first point's zeros. -/

theorem cover7_first (c : Dev nD) (t : Fin cfg0.N) (ht : t.val = 0) (y : S128x1024.Idx) : ∃ pc ∈ (runAtFirst m c t ht).1, y ∈ pc.1.set :=
  View.cover_of_tiledL (runAtFirst m c t ht).1 S128x64.size (by sl_kernel_rfl) y

theorem cover7_later (c : Dev nD) (t : Fin cfg0.N) (ht : 1 ≤ t.val) (y) (j : S128x1024.Idx) : ∃ pc ∈ (runAtLater m c t ht y).1, j ∈ pc.1.set :=
  View.cover_of_tiledL (runAtLater m c t ht y).1 S128x64.size (by sl_kernel_rfl) j

/-- A list whose first store is of the whole buffer covers it. -/
theorem cover_of_bottom {S : Shape} {e : EltTy} (L : List (View.Piece (Elt F) S e)) (b : Rect S)
    (hb : (L.getLast?).map (fun pc => pc.1) = some b) (hall : ∀ y : S.Idx, y ∈ b.set) (y : S.Idx) : ∃ pc ∈ L, y ∈ pc.1.set := by
  obtain ⟨pc, hpc, rfl⟩ := Option.map_eq_some_iff.mp hb
  exact ⟨pc, List.mem_of_getLast? hpc, hall y⟩

theorem whole_rect {S : Shape} (off : Fin S.rank → Nat) (h0 : ∀ a, off a = 0) (inb : ∀ a, off a + S.size a ≤ S.size a) (y : S.Idx) :
    y ∈ (Rect.unit (s := S) off S.size inb).set := by
  rw [Rect.mem_set_unit]
  exact fun a => ⟨(h0 a).symm ▸ Nat.zero_le _, by rw [h0 a, Nat.zero_add]; exact (y a).isLt⟩

theorem cover8_first (c : Dev nD) (t : Fin cfg0.N) (ht : t.val = 0) (y : S4096x256.Idx) : ∃ pc ∈ (runAtFirst m c t ht).2.1, y ∈ pc.1.set :=
  cover_of_bottom _ (Rect.unit (s := S4096x256) ![0, 0] S4096x256.size (by decide)) (by sl_kernel_rfl) (whole_rect _ (by decide) _) y

theorem cover9_first (c : Dev nD) (t : Fin cfg0.N) (ht : t.val = 0) (y : S4096x256.Idx) : ∃ pc ∈ (runAtFirst m c t ht).2.2.1, y ∈ pc.1.set :=
  cover_of_bottom _ (Rect.unit (s := S4096x256) ![0, 0] S4096x256.size (by decide)) (by sl_kernel_rfl) (whole_rect _ (by decide) _) y

theorem cover10_first (c : Dev nD) (t : Fin cfg0.N) (ht : t.val = 0) (y : S1x128.Idx) : ∃ pc ∈ (runAtFirst m c t ht).2.2.2.1, y ∈ pc.1.set :=
  cover_of_bottom _ (Rect.unit (s := S1x128) ![0, 0] S1x128.size (by decide)) (by sl_kernel_rfl) (whole_rect _ (by decide) _) y

/-! ## The pipeline's proof data -/

/-- The arrays as the region finds them; after a point the inputs' buffers at their blocks, the results' as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => dqAt m c t
    | ⟨8, _⟩ => (accAt m c t.val t.isLt).1
    | ⟨9, _⟩ => (accAt m c t.val t.isLt).2.1
    | ⟨10, _⟩ => (accAt m c t.val t.isLt).2.2
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = dqAt m c t := by dsimp only [dats]
theorem after0_8 (c : Dev nD) (t : Fin cfg0.N) : (dats m 0 c).after 8 t = (accAt m c t.val t.isLt).1 := by dsimp only [dats]
theorem after0_9 (c : Dev nD) (t : Fin cfg0.N) : (dats m 0 c).after 9 t = (accAt m c t.val t.isLt).2.1 := by dsimp only [dats]
theorem after0_10 (c : Dev nD) (t : Fin cfg0.N) : (dats m 0 c).after 10 t = (accAt m c t.val t.isLt).2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- No accumulator is written back before the last point. -/
theorem noFlush : ∀ t : Fin cfg0.N, 1 ≤ t.val → ¬ (t.val - 1) % 32 = 31 := by
  intro t ht
  have hN : t.val < 32 := lt_of_lt_of_eq t.isLt (show cfg0.N = 32 from N_0)
  omega

theorem before0_8 (c : Dev nD) (t : Fin cfg0.N) (ht : 1 ≤ t.val) (d) : (dats m 0 c).before 8 t d = (accBefore m c t).1 := by
  rw [Dat.before_out_kept _ 8 rfl t (Nat.one_le_iff_ne_zero.mp ht) (Bool.eq_false_iff.mpr fun h => noFlush t ht ((flush0_8 ⟨t.val - 1, Nat.lt_of_le_of_lt (Nat.sub_le _ _) t.isLt⟩).mp h)) (fun _ => rfl) (fun _ _ => rfl) d, after0_8]

theorem before0_9 (c : Dev nD) (t : Fin cfg0.N) (ht : 1 ≤ t.val) (d) : (dats m 0 c).before 9 t d = (accBefore m c t).2.1 := by
  rw [Dat.before_out_kept _ 9 rfl t (Nat.one_le_iff_ne_zero.mp ht) (Bool.eq_false_iff.mpr fun h => noFlush t ht ((flush0_9 ⟨t.val - 1, Nat.lt_of_le_of_lt (Nat.sub_le _ _) t.isLt⟩).mp h)) (fun _ => rfl) (fun _ _ => rfl) d, after0_9]

theorem before0_10 (c : Dev nD) (t : Fin cfg0.N) (ht : 1 ≤ t.val) (d) : (dats m 0 c).before 10 t d = (accBefore m c t).2.2 := by
  rw [Dat.before_out_kept _ 10 rfl t (Nat.one_le_iff_ne_zero.mp ht) (Bool.eq_false_iff.mpr fun h => noFlush t ht ((flush0_10 ⟨t.val - 1, Nat.lt_of_le_of_lt (Nat.sub_le _ _) t.isLt⟩).mp h)) (fun _ => rfl) (fun _ _ => rfl) d, after0_10]

/-! ## The body obligation, at a generic point -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 1600000 in
/-- The body at any point: the inputs' buffers hold their blocks; the first point starts the accumulators, a later one
adds to what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, after0_0, after0_1, after0_2, after0_3, after0_4, after0_5, after0_6, after0_7, after0_8, after0_9, after0_10]
  rw [show (dats m 0 c).Φ t.succ = (dats m 0 c).Φ t.castSucc from rfl,
    show (dats m 0 c).owesAt () t.succ = (dats m 0 c).owesAt () t.castSucc from rfl]
  by_cases ht : t.val = 0
  · skip
    rw [accAt_first m c t ht, dqAt_first m c t ht]; unfold accFirst; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((runAtFirst m c t ht).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    iintro ⟨H0, H1, H2, H3, H4, H5, H6, ⟨%e7, H7⟩, ⟨%e8, H8⟩, ⟨%e9, H9⟩, ⟨%e10, H10⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover7_first m c t ht)
    isplitl [H8]
    · unfold owns; iexists _; isplitr
      swap; · iexact H8
      ipureintro; exact View.read_writes_of_cover _ _ _ _ _ (cover8_first m c t ht)
    isplitl [H9]
    · unfold owns; iexists _; isplitr
      swap; · iexact H9
      ipureintro; exact View.read_writes_of_cover _ _ _ _ _ (cover9_first m c t ht)
    unfold owns; iexists _; isplitr
    swap; · iexact H10
    ipureintro; exact View.read_writes_of_cover _ _ _ _ _ (cover10_first m c t ht)
  · have h1 : 1 ≤ t.val := Nat.one_le_iff_ne_zero.mpr ht
    rw [accAt_later m c t h1, dqAt_later m c t h1]; unfold accLater; dsimp only
    simp only [before0_8 m c t h1, before0_9 m c t h1, before0_10 m c t h1]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((runAtLater m c t h1 (accBefore m c t)).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [H10]; · iexact H10
    iintro ⟨H0, H1, H2, H3, H4, H5, H6, ⟨%e7, H7⟩, ⟨%e8, %he8, H8⟩, ⟨%e9, %he9, H9⟩, ⟨%e10, %he10, H10⟩⟩
    subst he8 he9 he10
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover7_later m c t h1 _)
    isplitl [H8]
    · unfold owns; iexists _; isplitr
      swap; · iexact H8
      ipureintro; rfl
    isplitl [H9]
    · unfold owns; iexists _; isplitr
      swap; · iexact H9
      ipureintro; rfl
    unfold owns; iexists _; isplitr
    swap; · iexact H10
    ipureintro; rfl

/-- The body table's row at a point is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: every array of the pipeline ends as the proof data say, and every counter is zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Calls.Swa

end
-- ==== Proof.SwaBits.lean ====
module

public import proofs.«01_k».proof.Proof.SwaFrame
public import proofs.«01_k».proof.Defs
public import proofs.«01_k».proof.Proof.Gen.Swa.Launch

@[expose] public section

set_option maxRecDepth 16384

noncomputable section

namespace Cert.Calls.Swa

open Idealize.ShloMosaic Idealize.ShloMosaic.TcCoe Idealize.ShloMosaic.Tactic

/-- Over words a named constant is its word. -/
local instance : Named Bits := ⟨fun _ _ _ bits => FloatOps.ofBits _ bits⟩

theorem frame_p (m : (ℓ : Loc Cert.Swa.nD Cert.Swa.τ Cert.Swa.sig) → Buf (Elt Bits) ℓ) (g : Dev Cert.Swa.nD → PrngReg) (_ : Pre_Swa m) :
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1)
      ∧ r.2.mem ((c.tc : Thread Cert.Swa.nD Cert.Swa.τ).loc Cert.Swa.main_arg2) = m ((c.tc : Thread Cert.Swa.nD Cert.Swa.τ).loc Cert.Swa.main_arg2))
      ∧ r.2.sem = fun _ => 0) := by
  refine cast ?_ (Cert.Calls.Swa.frame (F := Bits) m g)
  sl_kernel_rfl

end Cert.Calls.Swa

end
-- ==== Proof.SwaHead.lean ====
module

public import proofs.«01_k».proof.Proof.SwaFrame

@[expose] public section

set_option maxRecDepth 16384

noncomputable section

/-! What the body computes at one grid point for one group of four heads, as functions of the blocks it loads, and the
lists of its stores in these terms. -/

namespace Cert.Calls.Swa

open Cert.SwaIdeal Cert.SwaIdeal.Gen
open Idealize.ShloMosaic Idealize.ShloMosaic.TcCoe Idealize.ShloMosaic.Tactic

variable {F : FTy → Type} [FloatOps F] [Named F]

/-- What one group of four heads loads: the queries and the incoming gradients of its heads, its keys and values of the
    block before and of this block, and the sinks of its heads; the slopes come with it. -/
structure Group (F : FTy → Type) where
  q : Fin 4 → Vec F S128x64 .f32
  kp : Vec F S128x64 .f32
  kc : Vec F S128x64 .f32
  vp : Vec F S128x64 .f32
  vc : Vec F S128x64 .f32
  d : Fin 4 → Vec F S128x64 .bf16
  sink : Fin 4 → F .f32
  slope : Fin 4 → F .f32

/-- The number of each of the 512 rows' head in its group. -/
abbrev rowHead : IVec S512x1 32 := k0_pay4

/-- One value per head, spread over the head's rows. -/
def perHead (v : Fin 4 → F .f32) : FVec F S512x1 .f32 :=
  select (cmpi .eq rowHead (broadcast S512x1 3#32)) (broadcast S512x1 (v 3))
    (select (cmpi .eq rowHead (broadcast S512x1 2#32)) (broadcast S512x1 (v 2))
      (select (cmpi .eq rowHead (broadcast S512x1 1#32)) (broadcast S512x1 (v 1))
        (select (cmpi .eq rowHead (broadcast S512x1 0#32)) (broadcast S512x1 (v 0))
          (broadcast S512x1 (Scalar.ofBits .f32 0x00000000#32)))))

/-- How far a row's query lies behind each of the 256 keys. -/
abbrev dist : IVec S512x256 32 := k0_pay37 (Scalar.select (Scalar.cmpi .eq 128#32 0#32) 1#32 128#32) k0_pay35 k0_pay36

/-- Whether a row's query sees a key, at the grid point. -/
abbrev seen (i : grid0.Coords) : IVec S512x256 1 :=
  k0_pay38 (BitVec.ofNat 32 (i 0).val) (Scalar.select (Scalar.cmpi .eq 128#32 0#32) 1#32 128#32) k0_pay35 k0_pay36

namespace Group

variable (g : Group F) (i : grid0.Coords)

def qs : FVec F S512x64 .bf16 :=
  truncf .bf16 (concatenate S512x64 0 [⟨S128x64, g.q 0⟩, ⟨S128x64, g.q 1⟩, ⟨S128x64, g.q 2⟩, ⟨S128x64, g.q 3⟩]
    concatenates_S128x64_S128x64_S128x64_S128x64_S512x64_d0) bitsLt_bf16_f32

def ks : FVec F S256x64 .bf16 :=
  truncf .bf16 (concatenate S256x64 0 [⟨S128x64, g.kp⟩, ⟨S128x64, g.kc⟩] concatenates_S128x64_S128x64_S256x64_d0) bitsLt_bf16_f32

def vs : FVec F S256x64 .bf16 :=
  truncf .bf16 (concatenate S256x64 0 [⟨S128x64, g.vp⟩, ⟨S128x64, g.vc⟩] concatenates_S128x64_S128x64_S256x64_d0) bitsLt_bf16_f32

def ds' : FVec F S512x64 .bf16 :=
  concatenate S512x64 0 [⟨S128x64, g.d 0⟩, ⟨S128x64, g.d 1⟩, ⟨S128x64, g.d 2⟩, ⟨S128x64, g.d 3⟩]
    concatenates_S128x64_S128x64_S128x64_S128x64_S512x64_d0

/-- The scores, with the distance's penalty and the mask. -/
def logits : FVec F S512x256 .f32 :=
  select (seen i)
    (subf (mulf (matmul dot_S512x64_S256x64_S512x256_1_1_0_0_n_n none g.qs g.ks (constant S512x256 .f32 0x00000000#32))
        (broadcast S512x256 (Scalar.ofBits .f32 0x3E000000#32)))
      (mulf (broadcastTo S512x256 (perHead g.slope) broadcasts_S512x1_S512x256) (sitofp .f32 dist)))
    (broadcast S512x256 (Named.named κ "mask" 0xF149F2CA#32))

def top : FVec F S512x1 .f32 :=
  maximumf (shapeCast S512x1 (multiReduction .maximumf [1] S512 (g.logits i) 0xFF800000#32 reduces_S512x256_S512 (.inl rfl) rfl)
    shapeCasts_S512_S512x1) (perHead g.sink)

def e : FVec F S512x256 .f32 := exp (subf (g.logits i) (broadcastTo S512x256 (g.top i) broadcasts_S512x1_S512x256))

def esink : FVec F S512x1 .f32 := exp (subf (perHead g.sink) (g.top i))

def inv : FVec F S512x1 .f32 :=
  divf (broadcast S512x1 (Scalar.ofBits .f32 0x3F800000#32))
    (addf (shapeCast S512x1 (multiReduction .add [1] S512 (g.e i) 0x00000000#32 reduces_S512x256_S512 (.inl rfl) rfl)
      shapeCasts_S512_S512x1) (g.esink i))

/-- The probabilities of the keys, and of the sink. -/
def p : FVec F S512x256 .f32 := mulf (g.e i) (broadcastTo S512x256 (g.inv i) broadcasts_S512x1_S512x256)
def psink : FVec F S512x1 .f32 := mulf (g.esink i) (g.inv i)

/-- The gradient of the probabilities. -/
def dp : FVec F S512x256 .f32 :=
  matmul dot_S512x64_S256x64_S512x256_1_1_0_0_n_n none g.ds' g.vs (constant S512x256 .f32 0x00000000#32)

def delta : FVec F S512x1 .f32 :=
  shapeCast S512x1 (multiReduction .add [1] S512 (mulf (g.p i) g.dp) 0x00000000#32 reduces_S512x256_S512 (.inl rfl) rfl)
    shapeCasts_S512_S512x1

/-- The gradient of the scores. -/
def ds : FVec F S512x256 .bf16 :=
  truncf .bf16 (mulf (mulf (g.p i) (subf g.dp (broadcastTo S512x256 (g.delta i) broadcasts_S512x1_S512x256)))
    (broadcast S512x256 (Scalar.ofBits .f32 0x3E000000#32))) bitsLt_bf16_f32

def dq : FVec F S512x64 .f32 :=
  matmul dot_S512x256_S256x64_S512x64_1_0_0_1_n_n none (g.ds i) g.ks (constant S512x64 .f32 0x00000000#32)

def dk : FVec F S256x64 .f32 :=
  matmul dot_S512x256_S512x64_S256x64_0_0_1_1_n_n none (g.ds i) g.qs (constant S256x64 .f32 0x00000000#32)

def dv : FVec F S256x64 .f32 :=
  matmul dot_S512x256_S512x64_S256x64_0_0_1_1_n_n none (truncf .bf16 (g.p i) bitsLt_bf16_f32) g.ds' (constant S256x64 .f32 0x00000000#32)

def dsink : FVec F S512x1 .f32 :=
  mulf (subf (broadcast S512x1 (Scalar.ofBits .f32 0x00000000#32)) (g.psink i)) (g.delta i)

/-- The rows of one head of the queries' gradient. -/
def dqHead (a : Fin 4) : FVec F S128x64 .bf16 :=
  truncf .bf16 (extractStridedSlice S128x64 ![128 * a.val, 0] (g.dq i) (by revert a; decide)) bitsLt_bf16_f32

/-- The sum of the sink's gradient over the rows of one head. -/
def dsinkHead (a : Fin 4) : FVec F S1x1 .f32 :=
  shapeCast S1x1 (shapeCast S1x1 (multiReduction .add [0] S1
    (extractStridedSlice S128x1 ![128 * a.val, 0] (g.dsink i) (by revert a; decide)) 0x00000000#32 reduces_S128x1_S1 (.inl rfl) rfl)
    shapeCasts_S1_S1x1) shapeCasts_S1x1_S1x1

end Group

/-- The slope of each head. -/
def slopes : Fin 16 → F .f32 := ![
  Named.named κ "slope1" 0x3F3504F3#32, Scalar.ofBits .f32 0x3F000000#32, Named.named κ "slope3" 0x3EB504F3#32, Scalar.ofBits .f32 0x3E800000#32,
  Named.named κ "slope5" 0x3E3504F3#32, Scalar.ofBits .f32 0x3E000000#32, Named.named κ "slope7" 0x3DB504F3#32, Scalar.ofBits .f32 0x3D800000#32,
  Named.named κ "slope9" 0x3D3504F3#32, Scalar.ofBits .f32 0x3D000000#32, Named.named κ "slope11" 0x3CB504F3#32, Scalar.ofBits .f32 0x3C800000#32,
  Named.named κ "slope13" 0x3C3504F3#32, Scalar.ofBits .f32 0x3C000000#32, Named.named κ "slope15" 0x3BB504F3#32, Scalar.ofBits .f32 0x3B800000#32]

/-- The number of a head. -/
abbrev head (hk a : Fin 4) : Fin 16 := ⟨4 * hk.val + a.val, by omega⟩

variable (m : (ℓ : Loc nD τ sig) → Buf (Elt F) ℓ)

theorem inbHead (n : ℕ) (h : n < 16) : ∀ a, (![0, 64 * n] : Fin 2 → ℕ) a + S128x64.size a ≤ S128x1024.size a := by
  intro a; fin_cases a
  · exact Nat.le_refl 128
  · show 64 * n + 64 ≤ 1024; omega

theorem inbGroup (n : ℕ) (h : n < 4) : ∀ a, (![0, 64 * n] : Fin 2 → ℕ) a + S128x64.size a ≤ S128x256.size a := by
  intro a; fin_cases a
  · exact Nat.le_refl 128
  · show 64 * n + 64 ≤ 256; omega

theorem inbSink (n : ℕ) (h : n < 16) : ∀ a, (![0, n] : Fin 2 → ℕ) a + S1x1.size a ≤ S1x16.size a := by
  intro a; fin_cases a
  · exact Nat.le_refl 1
  · show n + 1 ≤ 16; omega

/-- What a group of heads loads at a grid point. -/
def group (c : Dev nD) (t : Fin cfg0.N) (hk : Fin 4) : Group F where
  q a := View.readAt (Elt F) (ms0_1 t).view (Rect.unit (s := S128x1024) ![0, 64 * (head hk a).val] S128x64.size (inbHead _ (head hk a).isLt)).toLoadRect
    ((hs0_1 t).unread (X0_1 m c t))
  kp := View.readAt (Elt F) (ms0_2 t).view (Rect.unit (s := S128x256) ![0, 64 * hk.val] S128x64.size (inbGroup _ hk.isLt)).toLoadRect
    ((hs0_2 t).unread (iblk m c 2 t))
  kc := View.readAt (Elt F) (ms0_3 t).view (Rect.unit (s := S128x256) ![0, 64 * hk.val] S128x64.size (inbGroup _ hk.isLt)).toLoadRect
    ((hs0_3 t).unread (iblk m c 3 t))
  vp := View.readAt (Elt F) (ms0_4 t).view (Rect.unit (s := S128x256) ![0, 64 * hk.val] S128x64.size (inbGroup _ hk.isLt)).toLoadRect
    ((hs0_4 t).unread (iblk m c 4 t))
  vc := View.readAt (Elt F) (ms0_5 t).view (Rect.unit (s := S128x256) ![0, 64 * hk.val] S128x64.size (inbGroup _ hk.isLt)).toLoadRect
    ((hs0_5 t).unread (iblk m c 5 t))
  d a := View.readAt (Elt F) (ms0_6 t).view (Rect.unit (s := S128x1024) ![0, 64 * (head hk a).val] S128x64.size (inbHead _ (head hk a).isLt)).toLoadRect
    ((hs0_6 t).unread (iblk m c 6 t))
  sink a := View.readAt (Elt F) (ms0_0 t).view (Rect.unit (s := S1x16) ![0, (head hk a).val] S1x1.size (inbSink _ (head hk a).isLt)).toLoadRect
    ((hs0_0 t).unread (iblk m c 0 t)) (Shape.Idx.first (show 0 < S1x1.numel by decide))
  slope a := slopes (head hk a)

end Cert.Calls.Swa

end
-- ==== Proof.SwaDq.lean ====
module

public import proofs.«01_k».proof.Proof.SwaHead

@[expose] public section

set_option maxRecDepth 16384

noncomputable section

/-! The body's stores of the queries' gradient, head by head. -/

namespace Cert.Calls.Swa

open Cert.SwaIdeal Cert.SwaIdeal.Gen
open Idealize.ShloMosaic Idealize.ShloMosaic.TcCoe Idealize.ShloMosaic.Tactic

variable {F : FTy → Type} [FloatOps F] [Named F]
variable (m : (ℓ : Loc nD τ sig) → Buf (Elt F) ℓ)

/-- The stores of the first `n` heads of the queries' gradient. -/
def stripes (pay : Fin 16 → FVec F S128x64 .bf16) : (n : ℕ) → n ≤ 16 → List (View.Piece (Elt F) S128x1024 .bf16)
  | 0, _ => []
  | n + 1, h => ⟨Rect.unit (s := S128x1024) ![0, 64 * n] S128x64.size (inbHead n h), pay ⟨n, h⟩⟩ :: stripes pay n (Nat.le_of_succ_le h)

/-- The gradient of one head's queries. -/
def dqPay (c : Dev nD) (t : Fin cfg0.N) (h : Fin 16) : FVec F S128x64 .bf16 :=
  (group m c t ⟨h.val / 4, by omega⟩).dqHead (grid0.coords t) ⟨h.val % 4, by omega⟩

theorem dq_first (c : Dev nD) (t : Fin cfg0.N) (ht : t.val = 0) :
    (runAtFirst m c t ht).1 = stripes (dqPay m c t) 16 (Nat.le_refl _) := by sl_kernel_rfl

theorem dq_later (c : Dev nD) (t : Fin cfg0.N) (ht : 1 ≤ t.val) (y) :
    (runAtLater m c t ht y).1 = stripes (dqPay m c t) 16 (Nat.le_refl _) := by sl_kernel_rfl

end Cert.Calls.Swa

end
-- ==== Proof.SwaKv.lean ====
module

public import proofs.«01_k».proof.Proof.SwaHead

@[expose] public section

set_option maxRecDepth 16384

noncomputable section

/-! The body's stores of the keys', the values' and the sinks' gradients. -/

namespace Cert.Calls.Swa

open Cert.SwaIdeal Cert.SwaIdeal.Gen
open Idealize.ShloMosaic Idealize.ShloMosaic.TcCoe Idealize.ShloMosaic.Tactic

variable {F : FTy → Type} [FloatOps F] [Named F]
variable (m : (ℓ : Loc nD τ sig) → Buf (Elt F) ℓ)

/-- Where a group's window of this block's rows, and of the rows of the block before, begins. -/
def offCur (i : grid0.Coords) (n : ℕ) : Fin 2 → ℕ := ![k0_off1 i 0, 64 * n]
def offPrev (i : grid0.Coords) (n : ℕ) : Fin 2 → ℕ := ![k0_off2 i 0, 64 * n]

theorem offCur_eq (t : Fin cfg0.N) (n : ℕ) : offCur (grid0.coords t) n = ![128 * t.val, 64 * n] := by
  unfold offCur; rw [off1_eq t]; rfl
theorem offPrev_eq (t : Fin cfg0.N) (n : ℕ) : offPrev (grid0.coords t) n = ![128 * t.val - 128, 64 * n] := by
  unfold offPrev; rw [off2_eq t]; rfl

theorem inbCur (t : Fin cfg0.N) (n : ℕ) (h : n < 4) : ∀ a, offCur (grid0.coords t) n a + S128x64.size a ≤ S4096x256.size a := by
  have ht : t.val < 32 := t.isLt
  rw [offCur_eq]
  intro a; fin_cases a
  · show 128 * t.val + 128 ≤ 4096; omega
  · show 64 * n + 64 ≤ 256; omega

theorem inbPrev (t : Fin cfg0.N) (n : ℕ) (h : n < 4) : ∀ a, offPrev (grid0.coords t) n a + S128x64.size a ≤ S4096x256.size a := by
  have ht : t.val < 32 := t.isLt
  rw [offPrev_eq]
  intro a; fin_cases a
  · show 128 * t.val - 128 + 128 ≤ 4096; omega
  · show 64 * n + 64 ≤ 256; omega

/-- The rows of this block, and of the block before, of a group's gradient, added to what was loaded. -/
def addCur (D : FVec F S256x64 .f32) (x : Vec F S128x64 .f32) : FVec F S128x64 .f32 :=
  addf (shapeCast S128x64 x shapeCasts_S128x64_S128x64) (extractStridedSlice S128x64 ![128, 0] D slices_S256x64_o128_0_S128x64)
def addPrev (D : FVec F S256x64 .f32) (x : Vec F S128x64 .f32) : FVec F S128x64 .f32 :=
  addf (shapeCast S128x64 x shapeCasts_S128x64_S128x64) (extractStridedSlice S128x64 ![0, 0] D slices_S256x64_o0_0_S128x64)

/-- The stores of the first `n` groups at a later point, over contents `y`. -/
def laterStores (arg : Memref sig .tc .vmem S4096x256 .f32) (harg : arg.IsWhole) (t : Fin cfg0.N) (y : Vec F S4096x256 .f32)
    (D : Fin 4 → FVec F S256x64 .f32) : (n : ℕ) → n ≤ 4 → List (View.Piece (Elt F) S4096x256 .f32)
  | 0, _ => []
  | n + 1, h =>
    let cur : List (View.Piece (Elt F) S4096x256 .f32) :=
      ⟨Rect.unit (s := S4096x256) (offCur (grid0.coords t) n) S128x64.size (inbCur t n h), addCur (D ⟨n, h⟩)
        (View.readAt (Elt F) arg.view (Rect.unit (s := S4096x256) (offCur (grid0.coords t) n) S128x64.size (inbCur t n h)).toLoadRect
          (harg.unread y))⟩ :: laterStores arg harg t y D n (Nat.le_of_succ_le h)
    ⟨Rect.unit (s := S4096x256) (offPrev (grid0.coords t) n) S128x64.size (inbPrev t n h), addPrev (D ⟨n, h⟩)
      (View.readAt (Elt F) arg.view (Rect.unit (s := S4096x256) (offPrev (grid0.coords t) n) S128x64.size (inbPrev t n h)).toLoadRect
        (arg.view.writes (Elt F) (harg.unread y) cur))⟩ :: cur

/-- The stores of the first `n` groups at the first point, behind the zeros. -/
def firstStores (arg : Memref sig .tc .vmem S4096x256 .f32) (t : Fin cfg0.N) (fill : View.Piece (Elt F) S4096x256 .f32)
    (D : Fin 4 → FVec F S256x64 .f32) : (n : ℕ) → n ≤ 4 → List (View.Piece (Elt F) S4096x256 .f32)
  | 0, _ => [fill]
  | n + 1, h =>
    ⟨Rect.unit (s := S4096x256) (offCur (grid0.coords t) n) S128x64.size (inbCur t n h), addCur (D ⟨n, h⟩)
      (View.readAt (Elt F) arg.view (Rect.unit (s := S4096x256) (offCur (grid0.coords t) n) S128x64.size (inbCur t n h)).toLoadRect
        (arg.view.writes (Elt F) arg.view.junk (firstStores arg t fill D n (Nat.le_of_succ_le h))))⟩ ::
      firstStores arg t fill D n (Nat.le_of_succ_le h)

def dkPay (c : Dev nD) (t : Fin cfg0.N) (hk : Fin 4) : FVec F S256x64 .f32 := (group m c t hk).dk (grid0.coords t)
def dvPay (c : Dev nD) (t : Fin cfg0.N) (hk : Fin 4) : FVec F S256x64 .f32 := (group m c t hk).dv (grid0.coords t)

/-- The zeros the first point begins with. -/
def zeros : View.Piece (Elt F) S4096x256 .f32 := ⟨Rect.unit ![0, 0] S4096x256.size inb_S4096x256_S4096x256_0_0, k0_pay1⟩

theorem dk_first (c : Dev nD) (t : Fin cfg0.N) (ht : t.val = 0) :
    (runAtFirst m c t ht).2.1 = firstStores (ms0_8 t) t zeros (dkPay m c t) 4 (Nat.le_refl _) := by sl_kernel_rfl
theorem dv_first (c : Dev nD) (t : Fin cfg0.N) (ht : t.val = 0) :
    (runAtFirst m c t ht).2.2.1 = firstStores (ms0_9 t) t zeros (dvPay m c t) 4 (Nat.le_refl _) := by sl_kernel_rfl
theorem dk_later (c : Dev nD) (t : Fin cfg0.N) (ht : 1 ≤ t.val) (y) :
    (runAtLater m c t ht y).2.1 = laterStores (ms0_8 t) (hs0_8 t) t y.1 (dkPay m c t) 4 (Nat.le_refl _) := by sl_kernel_rfl
theorem dv_later (c : Dev nD) (t : Fin cfg0.N) (ht : 1 ≤ t.val) (y) :
    (runAtLater m c t ht y).2.2.1 = laterStores (ms0_9 t) (hs0_9 t) t y.2.1 (dvPay m c t) 4 (Nat.le_refl _) := by sl_kernel_rfl

/-- The sum over the first `n` heads of the sinks' gradient, each at its lane. -/
def lanes (c : Dev nD) (t : Fin cfg0.N) : (n : ℕ) → n ≤ 16 → FVec F S1x128 .f32
  | 0, _ => broadcast S1x128 (Scalar.ofBits .f32 0x00000000#32)
  | n + 1, h => addf (lanes c t n (Nat.le_of_succ_le h))
      (select (cmpi .eq (iota .tc S1x128 32 [1] iota_S1x128_d1_w32) (broadcast S1x128 (BitVec.ofNat 32 n)))
        (broadcastTo S1x128 ((group m c t ⟨n / 4, by omega⟩).dsinkHead (grid0.coords t) ⟨n % 4, by omega⟩) broadcasts_S1x1_S1x128)
        (broadcast S1x128 (Scalar.ofBits .f32 0x00000000#32)))

def zeroRow : View.Piece (Elt F) S1x128 .f32 := ⟨Rect.unit ![0, 0] S1x128.size inb_S1x128_S1x128_0_0, k0_pay3⟩

theorem dsink_first (c : Dev nD) (t : Fin cfg0.N) (ht : t.val = 0) :
    (runAtFirst m c t ht).2.2.2.1 = [⟨Rect.unit ![0, 0] S1x128.size inb_S1x128_S1x128_0_0,
      addf (shapeCast S1x128 (View.readAt (Elt F) (ms0_10 t).view (Rect.unit ![0, 0] S1x128.size inb_S1x128_S1x128_0_0).toLoadRect
        ((ms0_10 t).view.writes (Elt F) (ms0_10 t).view.junk [zeroRow])) shapeCasts_S1x128_S1x128) (lanes m c t 16 (Nat.le_refl _))⟩,
      zeroRow] := by sl_kernel_rfl
theorem dsink_later (c : Dev nD) (t : Fin cfg0.N) (ht : 1 ≤ t.val) (y) :
    (runAtLater m c t ht y).2.2.2.1 = [⟨Rect.unit ![0, 0] S1x128.size inb_S1x128_S1x128_0_0,
      addf (shapeCast S1x128 (View.readAt (Elt F) (ms0_10 t).view (Rect.unit ![0, 0] S1x128.size inb_S1x128_S1x128_0_0).toLoadRect
        ((hs0_10 t).unread y.2.2)) shapeCasts_S1x128_S1x128) (lanes m c t 16 (Nat.le_refl _))⟩] := by sl_kernel_rfl

end Cert.Calls.Swa

end
-- ==== Proof.SwaAcc.lean ====
module

public import proofs.«01_k».proof.Proof.SwaDq
public import proofs.«01_k».proof.Proof.SwaKv
public import Idealize.ShloMosaic.Lib.Pointwise
public import Idealize.ShloMosaic.Lib.Pipeline.Value
public import Idealize.ShloMosaic.Lib.WritesUnit
public import Idealize.ShloMosaic.Lib.VecWindow
public import Idealize.ShloMosaic.Lib.WholeRead

@[expose] public section

set_option maxRecDepth 16384

noncomputable section

/-! What the body's stores leave at an index of each output, over the reals. -/

namespace Cert.Calls.Swa

open Cert.SwaIdeal Cert.SwaIdeal.Gen
open Idealize.ShloMosaic Idealize.ShloMosaic.TcCoe Idealize.ShloMosaic.Tactic

variable (m : (ℓ : Loc nD τ sig) → Buf (Elt Ideal) ℓ)

/-- A window of rows `o …` and of group `n`'s columns into which what is read from `f'` plus `E` is stored. -/
theorem read_add (v : View sig .tc .vmem S4096x256 .f32) (f f' : v.ty.Contents (Elt Ideal)) {off : Fin 2 → ℕ} (o n : ℕ)
    (h : off = ![o, 64 * n]) (inb : ∀ a, off a + S128x64.size a ≤ S4096x256.size a)
    (L : List (View.Piece (Elt Ideal) S4096x256 .f32)) (w : Vec Ideal S128x64 .f32 → FVec Ideal S128x64 .f32)
    (E : Fin 128 → Fin 64 → EReal) (hw : ∀ x i d, w x (ix2 i d) = (x (ix2 i d) : EReal) + E i d) (r : Fin 4096) (q : Fin 256) :
    v.read (Elt Ideal) (v.writes (Elt Ideal) f (⟨Rect.unit (s := S4096x256) off S128x64.size inb,
      w (View.readAt (Elt Ideal) v (Rect.unit (s := S4096x256) off S128x64.size inb).toLoadRect f')⟩ :: L)) (ix2 r q) =
      if h : (o ≤ r.val ∧ r.val < o + 128) ∧ (64 * n ≤ q.val ∧ q.val < 64 * n + 64) then
        (v.read (Elt Ideal) f' (ix2 r q) : EReal) + E ⟨r.val - o, by omega⟩ ⟨q.val - 64 * n, by omega⟩
      else v.read (Elt Ideal) (v.writes (Elt Ideal) f L) (ix2 r q) := by
  subst h
  rw [View.read_writes_cons_unit v f inb _ L (ix2 r q) rfl]
  by_cases hin : (o ≤ r.val ∧ r.val < o + 128) ∧ (64 * n ≤ q.val ∧ q.val < 64 * n + 64)
  · rw [dif_pos hin, dif_pos (by intro a; fin_cases a; exacts [hin.1, hin.2])]
    have e : (Rect.unitLocal (s := S4096x256) (off := ![o, 64 * n]) (size := S128x64.size) (ix2 r q)
        (by intro a; fin_cases a; exacts [hin.1, hin.2])) =
        (ix2 (n0 := 128) (n1 := 64) ⟨r.val - o, by omega⟩ ⟨q.val - 64 * n, by omega⟩ : S128x64.Idx) := by
      funext a; fin_cases a <;> rfl
    rw [e]
    refine (hw _ _ _).trans (congrArg (· + _) ?_)
    rw [View.readAt_unit v f' inb rfl inb]
    unfold VecWindow.window
    congr 1
    funext a; fin_cases a
    · exact Fin.ext (by show o + 1 * (r.val - o) = r.val; omega)
    · exact Fin.ext (by show 64 * n + 1 * (q.val - 64 * n) = q.val; omega)
  · rw [dif_neg hin, dif_neg (fun hh => hin ⟨hh 0, hh 1⟩)]

theorem addCur_apply (D : FVec Ideal S256x64 .f32) (x : Vec Ideal S128x64 .f32) (i : Fin 128) (d : Fin 64) :
    addCur D x (ix2 i d) = (x (ix2 i d) : EReal) + D (ix2 ⟨128 + i.val, by omega⟩ d) := by
  unfold addCur; pointwise

theorem addPrev_apply (D : FVec Ideal S256x64 .f32) (x : Vec Ideal S128x64 .f32) (i : Fin 128) (d : Fin 64) :
    addPrev D x (ix2 i d) = (x (ix2 i d) : EReal) + D (ix2 ⟨i.val, by omega⟩ d) := by
  unfold addPrev; pointwise

/-- A later point's addition at an index: the rows of this block and of the block before. -/
def laterAt (t : ℕ) (D : Fin 4 → FVec Ideal S256x64 .f32) (y : EReal) (r : Fin 4096) (q : Fin 256) : EReal :=
  if r.val / 128 = t then y + D ⟨q.val / 64, by omega⟩ (ix2 ⟨128 + r.val % 128, by omega⟩ ⟨q.val % 64, by omega⟩)
  else if r.val / 128 + 1 = t then y + D ⟨q.val / 64, by omega⟩ (ix2 ⟨r.val % 128, by omega⟩ ⟨q.val % 64, by omega⟩)
  else y

theorem later_read (arg : Memref sig .tc .vmem S4096x256 .f32) (harg : arg.IsWhole) (t : Fin cfg0.N) (ht : 1 ≤ t.val)
    (y : Vec Ideal S4096x256 .f32) (D : Fin 4 → FVec Ideal S256x64 .f32) (r : Fin 4096) (q : Fin 256) : ∀ (n : ℕ) (hn : n ≤ 4),
    arg.view.read (Elt Ideal) (arg.view.writes (Elt Ideal) (harg.unread y) (laterStores arg harg t y D n hn)) (ix2 r q) =
      if q.val / 64 < n then laterAt t.val D (y (ix2 r q)) r q else y (ix2 r q) := by
  intro n
  induction n with
  | zero => intro hn; rw [if_neg (Nat.not_lt_zero _)]; exact congrFun (harg.read_unread y) _
  | succ n ih =>
    intro hn
    have ih := ih (Nat.le_of_succ_le hn)
    have hu : arg.view.read (Elt Ideal) (harg.unread y) (ix2 r q) = y (ix2 r q) := congrFun (harg.read_unread y) _
    unfold laterStores
    rw [read_add arg.view _ _ (128 * t.val - 128) n (offPrev_eq t n) _ _ (addPrev (D ⟨n, hn⟩)) _ (addPrev_apply (D ⟨n, hn⟩)),
      read_add arg.view _ _ (128 * t.val) n (offCur_eq t n) _ _ (addCur (D ⟨n, hn⟩)) _ (addCur_apply (D ⟨n, hn⟩)), ih, hu]
    have ht32 : t.val < 32 := t.isLt
    by_cases hq : q.val / 64 = n
    · subst hq
      have h1 : q.val - 64 * (q.val / 64) = q.val % 64 := by omega
      rw [if_pos (Nat.lt_succ_self _), if_neg (Nat.lt_irrefl _)]
      unfold laterAt
      by_cases ha : r.val / 128 = t.val
      · rw [dif_neg (by omega), dif_pos (by omega), if_pos ha]
        congr 3 <;> exact Fin.ext (by dsimp only; omega)
      · by_cases hb : r.val / 128 + 1 = t.val
        · rw [dif_pos (by omega), dif_neg (by omega), if_neg ha, if_pos hb]
          congr 3 <;> exact Fin.ext (by dsimp only; omega)
        · rw [dif_neg (by omega), dif_neg (by omega), if_neg ha, if_neg hb]
    · rw [dif_neg (by omega), dif_neg (by omega)]
      by_cases hlt : q.val / 64 < n
      · rw [if_pos hlt, if_pos (by omega)]
      · rw [if_neg hlt, if_neg (by omega)]

/-- The first point's contents at an index. -/
def firstAt (D : Fin 4 → FVec Ideal S256x64 .f32) (r : Fin 4096) (q : Fin 256) : EReal :=
  if r.val / 128 = 0 then 0 + D ⟨q.val / 64, by omega⟩ (ix2 ⟨128 + r.val % 128, by omega⟩ ⟨q.val % 64, by omega⟩) else 0

theorem first_read (arg : Memref sig .tc .vmem S4096x256 .f32) (t : Fin cfg0.N) (ht : t.val = 0)
    (D : Fin 4 → FVec Ideal S256x64 .f32) (r : Fin 4096) (q : Fin 256) : ∀ (n : ℕ) (hn : n ≤ 4),
    arg.view.read (Elt Ideal) (arg.view.writes (Elt Ideal) arg.view.junk (firstStores arg t zeros D n hn)) (ix2 r q) =
      if q.val / 64 < n then firstAt D r q else (0 : EReal) := by
  intro n
  induction n with
  | zero =>
    intro hn
    rw [if_neg (Nat.not_lt_zero _)]
    unfold firstStores zeros
    rw [View.read_writes_full]
    unfold k0_pay1
    pointwise
  | succ n ih =>
    intro hn
    have ih := ih (Nat.le_of_succ_le hn)
    unfold firstStores
    rw [read_add arg.view _ _ (128 * t.val) n (offCur_eq t n) _ _ (addCur (D ⟨n, hn⟩)) _ (addCur_apply (D ⟨n, hn⟩)), ih]
    by_cases hq : q.val / 64 = n
    · subst hq
      rw [if_pos (Nat.lt_succ_self _), if_neg (Nat.lt_irrefl _)]
      unfold firstAt
      by_cases ha : r.val / 128 = 0
      · rw [dif_pos (by omega), if_pos ha]
        congr 3 <;> exact Fin.ext (by dsimp only; omega)
      · rw [dif_neg (by omega), if_neg ha]
    · rw [dif_neg (by omega)]
      by_cases hlt : q.val / 64 < n
      · rw [if_pos hlt, if_pos (by omega)]
      · rw [if_neg hlt, if_neg (by omega)]

theorem dk_accFirst (c : Dev nD) (t : Fin cfg0.N) (ht : t.val = 0) (r : Fin 4096) (q : Fin 256) :
    (accFirst m c t ht).1 (ix2 r q) = firstAt (dkPay m c t) r q := by
  unfold accFirst
  dsimp only
  rw [dk_first m c t ht]
  exact (first_read _ t ht _ r q 4 (Nat.le_refl _)).trans (if_pos (by omega))

theorem dv_accFirst (c : Dev nD) (t : Fin cfg0.N) (ht : t.val = 0) (r : Fin 4096) (q : Fin 256) :
    (accFirst m c t ht).2.1 (ix2 r q) = firstAt (dvPay m c t) r q := by
  unfold accFirst
  dsimp only
  rw [dv_first m c t ht]
  exact (first_read _ t ht _ r q 4 (Nat.le_refl _)).trans (if_pos (by omega))

theorem dk_accLater (c : Dev nD) (t : Fin cfg0.N) (ht : 1 ≤ t.val) (y) (r : Fin 4096) (q : Fin 256) :
    (accLater m c t ht y).1 (ix2 r q) = laterAt t.val (dkPay m c t) (y.1 (ix2 r q)) r q := by
  unfold accLater
  dsimp only
  rw [dk_later m c t ht y]
  exact (later_read _ _ t ht _ _ r q 4 (Nat.le_refl _)).trans (if_pos (by omega))

theorem dv_accLater (c : Dev nD) (t : Fin cfg0.N) (ht : 1 ≤ t.val) (y) (r : Fin 4096) (q : Fin 256) :
    (accLater m c t ht y).2.1 (ix2 r q) = laterAt t.val (dvPay m c t) (y.2.1 (ix2 r q)) r q := by
  unfold accLater
  dsimp only
  rw [dv_later m c t ht y]
  exact (later_read _ _ t ht _ _ r q 4 (Nat.le_refl _)).trans (if_pos (by omega))

theorem stripes_read {sig : RefSig} (v : View sig .tc .vmem S128x1024 .bf16) (f : v.ty.Contents (Elt Ideal)) (pay : Fin 16 → FVec Ideal S128x64 .bf16)
    (i : Fin 128) (q : Fin 1024) : ∀ (n : ℕ) (hn : n ≤ 16), q.val / 64 < n →
    v.read (Elt Ideal) (v.writes (Elt Ideal) f (stripes pay n hn)) (ix2 i q) =
      pay ⟨q.val / 64, by omega⟩ (ix2 i ⟨q.val % 64, by omega⟩) := by
  intro n
  induction n with
  | zero => intro _ h; exact absurd h (Nat.not_lt_zero _)
  | succ n ih =>
    intro hn hlt
    unfold stripes
    rw [View.read_writes_cons_unit v f _ _ _ (ix2 i q) rfl]
    by_cases hq : q.val / 64 = n
    · subst hq
      rw [dif_pos (by
        intro a; fin_cases a
        · exact ⟨Nat.zero_le _, by show i.val < 0 + 128; omega⟩
        · exact ⟨by show 64 * (q.val / 64) ≤ q.val; omega, by show q.val < 64 * (q.val / 64) + 64; omega⟩)]
      congr 1
      funext a; fin_cases a
      · exact Fin.ext (by show i.val - 0 = i.val; omega)
      · exact Fin.ext (by show q.val - 64 * (q.val / 64) = q.val % 64; omega)
    · rw [dif_neg (fun hh => hq (by
        have h2 := hh 1
        have h3 : 64 * n ≤ q.val ∧ q.val < 64 * n + 64 := h2
        omega))]
      exact ih (Nat.le_of_succ_le hn) (by omega)

theorem dqAt_apply (c : Dev nD) (t : Fin cfg0.N) (i : Fin 128) (q : Fin 1024) :
    dqAt m c t (ix2 i q) = dqPay m c t ⟨q.val / 64, by omega⟩ (ix2 i ⟨q.val % 64, by omega⟩) := by
  by_cases ht : t.val = 0
  · rw [dqAt_first m c t ht, dq_first m c t ht]
    exact stripes_read _ _ _ i q 16 (Nat.le_refl _) (by omega)
  · rw [dqAt_later m c t (by omega), dq_later m c t (by omega)]
    exact stripes_read _ _ _ i q 16 (Nat.le_refl _) (by omega)

theorem dsink_accFirst (c : Dev nD) (t : Fin cfg0.N) (ht : t.val = 0) (j : S1x128.Idx) :
    (accFirst m c t ht).2.2 j = (0 : EReal) + lanes m c t 16 (Nat.le_refl _) j := by
  unfold accFirst
  rw [dsink_first m c t ht]
  dsimp only
  rw [View.read_writes_full]
  have e : View.readAt (Elt Ideal) (ms0_10 t).view (Rect.unit ![0, 0] S1x128.size inb_S1x128_S1x128_0_0).toLoadRect
      ((ms0_10 t).view.writes (Elt Ideal) (ms0_10 t).view.junk [zeroRow]) = (k0_pay3 : FVec Ideal S1x128 .f32) := by
    rw [View.readAt_full]; unfold zeroRow; rw [View.read_writes_full]
  rw [e]
  generalize lanes m c t 16 (Nat.le_refl _) = x
  unfold k0_pay3
  pointwise

theorem dsink_accLater (c : Dev nD) (t : Fin cfg0.N) (ht : 1 ≤ t.val) (y) (j : S1x128.Idx) :
    (accLater m c t ht y).2.2 j = (y.2.2 j : EReal) + lanes m c t 16 (Nat.le_refl _) j := by
  unfold accLater
  rw [dsink_later m c t ht y]
  dsimp only
  rw [View.read_writes_full, View.readAt_full]
  rw [(hs0_10 t).read_unread]
  generalize lanes m c t 16 (Nat.le_refl _) = x
  generalize y.2.2 = z
  pointwise

end Cert.Calls.Swa

end
-- ==== Proof.SwaRow.lean ====
module

public import proofs.«01_k».proof.Proof.NormRow
public import Idealize.ShloMosaic.Lib.IdealHost

@[expose] public section

noncomputable section

/-! One query's row of the attention with a sink: the scores of the keys it sees, the sink's score, and the gradient of the
probabilities.  The kernel's and the reference's expressions for the row's results are the same real numbers. -/

namespace Cert.Calls.Swa.Row

open Idealize.ShloMosaic Cert.NormRow

variable (v : Fin 256 → Bool) (l : Fin 256 → ℝ) (s : ℝ) (dp : Fin 256 → ℝ)

/-- The weight of a key before the division, and the sum of all weights with the sink's. -/
def w (j : Fin 256) : ℝ := if v j then Real.exp (l j) else 0
def W : ℝ := (∑ j, w v l j) + Real.exp s

/-- The probabilities of the keys and of the sink. -/
def p (j : Fin 256) : ℝ := w v l j / W v l s
def psink : ℝ := Real.exp s / W v l s

/-- The mean of the incoming gradient, the gradient of the scores, and the sink's. -/
def δ : ℝ := ∑ j, p v l s j * dp j
def ds (j : Fin 256) : ℝ := p v l s j * (dp j - δ v l s dp)
def dsink : ℝ := -(psink v l s * δ v l s dp)

/-- The scores: a key that is not seen has none. -/
def L (j : Fin 256) : EReal := if v j then (l j : EReal) else ⊥

theorem w_nonneg (j : Fin 256) : 0 ≤ w v l j := by
  unfold w; split
  · exact (Real.exp_pos _).le
  · exact le_rfl

theorem W_pos : 0 < W v l s :=
  add_pos_of_nonneg_of_pos (Finset.sum_nonneg fun j _ => w_nonneg v l j) (Real.exp_pos s)

theorem w_eq_zero (j : Fin 256) (h : v j = false) : w v l j = 0 := by unfold w; rw [h]; exact if_neg (by decide)

theorem ds_eq_zero (j : Fin 256) (h : v j = false) : ds v l s dp j = 0 := by
  unfold ds p; rw [w_eq_zero v l j h]; simp

/-- The largest of a row's scores and the sink's is a real number. -/
theorem top_real : ∃ M : ℝ, max (Finset.fold max ⊥ (fun j => L v l j) Finset.univ) (s : EReal) = (M : EReal) := by
  have hlt : Finset.fold max ⊥ (fun j => L v l j) Finset.univ < ⊤ := by
    show Finset.univ.sup (fun j => L v l j) < ⊤
    rw [Finset.sup_lt_iff (by exact bot_lt_top)]
    intro j _; unfold L; split
    · exact EReal.coe_lt_top _
    · exact bot_lt_top
  have h1 : max (Finset.fold max ⊥ (fun j => L v l j) Finset.univ) (s : EReal) ≠ ⊤ :=
    ne_of_lt (max_lt hlt (EReal.coe_lt_top s))
  have h2 : max (Finset.fold max ⊥ (fun j => L v l j) Finset.univ) (s : EReal) ≠ ⊥ :=
    ne_of_gt (lt_of_lt_of_le (EReal.bot_lt_coe s) (le_max_right _ _))
  exact ⟨_, (EReal.coe_toReal h1 h2).symm⟩

/-- One of the row's scores is the largest. -/
theorem top_mem : ∃ j, L v l j = Finset.fold max ⊥ (fun j => L v l j) Finset.univ := by
  obtain ⟨j, _, h⟩ := Finset.exists_mem_eq_sup Finset.univ ⟨0, Finset.mem_univ _⟩ (fun j => L v l j)
  exact ⟨j, h.symm⟩

variable (M : ℝ)

theorem e_coe (j : Fin 256) : Ideal.exp (L v l j - (M : EReal)) = ((w v l j * Real.exp (-M) : ℝ) : EReal) := by
  unfold L w
  split
  · rw [← EReal.coe_sub, Ideal.exp_coe, ← Real.exp_add, sub_eq_add_neg]
  · rw [EReal.bot_sub, Ideal.exp_bot, zero_mul]; rfl

theorem esink_coe : Ideal.exp ((s : EReal) - (M : EReal)) = ((Real.exp s * Real.exp (-M) : ℝ) : EReal) := by
  rw [← EReal.coe_sub, Ideal.exp_coe, ← Real.exp_add, sub_eq_add_neg]

theorem sum_coe : (∑ j, Ideal.exp (L v l j - (M : EReal))) + Ideal.exp ((s : EReal) - (M : EReal)) =
    ((W v l s * Real.exp (-M) : ℝ) : EReal) := by
  rw [esink_coe, Finset.sum_congr rfl fun j _ => e_coe v l M j, ← coe_sum, ← EReal.coe_add, ← Finset.sum_mul, ← add_mul]; rfl

theorem Z_ne : W v l s * Real.exp (-M) ≠ 0 := (mul_pos (W_pos v l s) (Real.exp_pos _)).ne'

/-- The kernel's inverse of the sum. -/
theorem inv_coe : Ideal.div 1 ((W v l s * Real.exp (-M) : ℝ) : EReal) = ((1 / (W v l s * Real.exp (-M)) : ℝ) : EReal) := by
  rw [← EReal.coe_one, div_coe _ _ (Z_ne v l s M)]

theorem p_eq (j : Fin 256) : w v l j * Real.exp (-M) * (1 / (W v l s * Real.exp (-M))) = p v l s j := by
  unfold p
  have h1 := (W_pos v l s).ne'
  have h2 := (Real.exp_pos (-M)).ne'
  field_simp

theorem psink_eq : Real.exp s * Real.exp (-M) * (1 / (W v l s * Real.exp (-M))) = psink v l s := by
  unfold psink
  have h1 := (W_pos v l s).ne'
  have h2 := (Real.exp_pos (-M)).ne'
  field_simp

/-- The reference's quotient. -/
theorem p_div (j : Fin 256) : Ideal.div ((w v l j * Real.exp (-M) : ℝ) : EReal) ((W v l s * Real.exp (-M) : ℝ) : EReal) =
    ((p v l s j : ℝ) : EReal) := by
  rw [div_coe _ _ (Z_ne v l s M)]
  congr 1
  unfold p
  exact mul_div_mul_right _ _ (Real.exp_pos _).ne'

/-- The sum the reference subtracts, over the square of the sum of weights. -/
def ref128 : ℝ := -∑ j, dp j * (1 / ((W v l s * Real.exp (-M)) * (W v l s * Real.exp (-M)))) * (w v l j * Real.exp (-M))

theorem ref128_eq : ref128 v l s dp M = -(δ v l s dp) / (W v l s * Real.exp (-M)) := by
  unfold ref128 δ p
  have h1 := (W_pos v l s).ne'
  have h2 := (Real.exp_pos (-M)).ne'
  rw [neg_div, Finset.sum_div]
  congr 1
  refine Finset.sum_congr rfl fun j _ => ?_
  field_simp

theorem ref131_eq : ref128 v l s dp M * (Real.exp s * Real.exp (-M)) = dsink v l s dp := by
  rw [ref128_eq]; unfold dsink psink
  have h1 := (W_pos v l s).ne'
  have h2 := (Real.exp_pos (-M)).ne'
  field_simp

theorem ref138_eq (j : Fin 256) : (dp j / (W v l s * Real.exp (-M)) + ref128 v l s dp M) * (w v l j * Real.exp (-M)) = ds v l s dp j := by
  rw [ref128_eq]; unfold ds p
  have h1 := (W_pos v l s).ne'
  have h2 := (Real.exp_pos (-M)).ne'
  field_simp
  ring

theorem sum_p : (∑ j, p v l s j) = 1 - psink v l s := by
  unfold p psink
  rw [← Finset.sum_div, eq_sub_iff_add_eq, ← add_div]
  exact div_self (W_pos v l s).ne'

/-- What flows back to the largest score is nothing. -/
theorem ref142_eq : -(dsink v l s dp) + ∑ j, -(ds v l s dp j) = 0 := by
  unfold ds dsink
  have h : ∑ j, p v l s j * (dp j - δ v l s dp) = δ v l s dp - (1 - psink v l s) * δ v l s dp := by
    simp only [mul_sub]
    rw [Finset.sum_sub_distrib, ← Finset.sum_mul, sum_p]; rfl
  rw [Finset.sum_neg_distrib, h]; ring

end Cert.Calls.Swa.Row

end
-- ==== Proof.SwaSpec.lean ====
module

public import proofs.«01_k».proof.Proof.SwaRow
public import Idealize.ShloMosaic.Lib.WordArith
public import Idealize.ShloMosaic.Lib.WordCmp

@[expose] public section

noncomputable section

/-! The gradients of one group of four heads over one block of 128 queries, as real numbers. -/

namespace Cert.Calls.Swa

open Idealize.ShloMosaic Cert.NormRow

/-- Whether query `i` of block `n` sees key `j` of the 256 keys of the block before and of its own. -/
def sees (n : ℕ) (i : Fin 128) (j : Fin 256) : Bool := decide (j.val ≤ i.val + 128 ∧ i.val < j.val ∧ 128 ≤ 128 * n + j.val)

/-- The distance word of query `i` and key `j`. -/
def distWord (i : Fin 128) (j : Fin 256) : BitVec 32 := IntOp.subi (BitVec.ofNat 32 (i.val + 128)) (BitVec.ofNat 32 j.val)

theorem distWord_toInt (i : Fin 128) (j : Fin 256) : (distWord i j).toInt = (i.val : ℤ) + 128 - j.val := by
  have h1 : (BitVec.ofNat 32 (i.val + 128)).toInt = ((i.val + 128 : ℕ) : ℤ) := WordArith.toInt_ofNat_small _ (by omega)
  have h2 : (BitVec.ofNat 32 j.val).toInt = (j.val : ℤ) := WordArith.toInt_ofNat_small _ (by omega)
  unfold distWord
  rw [WordArith.toInt_subi_of_nonneg _ _ (by rw [h1]; omega) (by rw [h2]; omega), h1, h2]
  push_cast; ring

/-- The position word of key `j` at block `n`. -/
theorem keyWord_toInt (n : ℕ) (hn : n < 32) (j : Fin 256) :
    (IntOp.addi (IntOp.subi (IntOp.muli (BitVec.ofNat 32 n) 128#32) 128#32) (BitVec.ofNat 32 j.val)).toInt = 128 * (n : ℤ) - 128 + j.val := by
  have h1 : (BitVec.ofNat 32 n).toInt = (n : ℤ) := WordArith.toInt_ofNat_small _ (by omega)
  have h2 : (BitVec.ofNat 32 j.val).toInt = (j.val : ℤ) := WordArith.toInt_ofNat_small _ (by omega)
  have h3 : (128#32).toInt = 128 := by decide
  have h4 : (IntOp.muli (BitVec.ofNat 32 n) 128#32).toInt = (n : ℤ) * 128 := by
    show (BitVec.ofNat 32 n * 128#32).toInt = _
    rw [WordArith.toInt_mul_of_bounds _ _ (by rw [h1, h3]; omega) (by rw [h1, h3]; omega), h1, h3]
  have h5 : (IntOp.subi (IntOp.muli (BitVec.ofNat 32 n) 128#32) 128#32).toInt = (n : ℤ) * 128 - 128 := by
    rw [WordArith.toInt_subi_of_nonneg _ _ (by rw [h4]; omega) (by rw [h3]; omega), h4, h3]
  show (IntOp.subi (IntOp.muli (BitVec.ofNat 32 n) 128#32) 128#32 + BitVec.ofNat 32 j.val).toInt = _
  rw [WordArith.toInt_add_of_bounds _ _ (by rw [h5, h2]; omega) (by rw [h5, h2]; omega), h5, h2]
  ring

theorem sees_word (n : ℕ) (hn : n < 32) (i : Fin 128) (j : Fin 256) :
    IntOp.andi (IntOp.andi (IntOp.cmpi .sge (distWord i j) 0#32) (IntOp.cmpi .slt (distWord i j) 128#32))
      (IntOp.cmpi .sge (IntOp.addi (IntOp.subi (IntOp.muli (BitVec.ofNat 32 n) 128#32) 128#32) (BitVec.ofNat 32 j.val)) 0#32) =
      BitVec.ofBool (sees n i j) := by
  rw [WordCmp.cmpi_sge_eq, WordCmp.cmpi_slt_eq, WordCmp.cmpi_sge_eq, WordCmp.andi_ofBool, WordCmp.andi_ofBool, distWord_toInt, keyWord_toInt n hn]
  congr 1
  have h0 : (0#32).toInt = 0 := by decide
  have h1 : (128#32).toInt = 128 := by decide
  unfold sees
  rw [h0, h1, ← Bool.decide_and, ← Bool.decide_and]
  exact decide_eq_decide.mpr (by omega)

/-- A group's queries, keys, values and incoming gradients, its sinks and slopes, and the number of its block. -/
structure RG where
  q : Fin 4 → Fin 128 → Fin 64 → ℝ
  k : Fin 256 → Fin 64 → ℝ
  v : Fin 256 → Fin 64 → ℝ
  d : Fin 4 → Fin 128 → Fin 64 → ℝ
  s : Fin 4 → ℝ
  sl : Fin 4 → ℝ
  n : ℕ

namespace RG

variable (g : RG)

/-- The score of query `i` and key `j` in head `a`. -/
def lg (a : Fin 4) (i : Fin 128) (j : Fin 256) : ℝ :=
  (∑ d, g.q a i d * g.k j d) * (1 / 8) - g.sl a * ((i.val : ℝ) + 128 - j.val)

/-- The gradient of the probability of key `j`. -/
def dp (a : Fin 4) (i : Fin 128) (j : Fin 256) : ℝ := ∑ d, g.d a i d * g.v j d

/-- The probability of key `j`. -/
def p (a : Fin 4) (i : Fin 128) (j : Fin 256) : ℝ := Row.p (sees g.n i) (g.lg a i) (g.s a) j

/-- The gradient of the product of query and key. -/
def ds (a : Fin 4) (i : Fin 128) (j : Fin 256) : ℝ := Row.ds (sees g.n i) (g.lg a i) (g.s a) (g.dp a i) j * (1 / 8)

def dq (a : Fin 4) (i : Fin 128) (d : Fin 64) : ℝ := ∑ j, g.ds a i j * g.k j d
def dk (j : Fin 256) (d : Fin 64) : ℝ := ∑ a, ∑ i, g.ds a i j * g.q a i d
def dv (j : Fin 256) (d : Fin 64) : ℝ := ∑ a, ∑ i, g.p a i j * g.d a i d
def dsink (a : Fin 4) (i : Fin 128) : ℝ := Row.dsink (sees g.n i) (g.lg a i) (g.s a) (g.dp a i)

theorem ds_unseen (a : Fin 4) (i : Fin 128) (j : Fin 256) (h : sees g.n i j = false) : g.ds a i j = 0 := by
  unfold ds; rw [Row.ds_eq_zero _ _ _ _ _ h, zero_mul]

/-- Two groups that differ only in keys and values no query sees have the same gradients. -/
structure Agree (g g' : RG) : Prop where
  q : g.q = g'.q
  d : g.d = g'.d
  s : g.s = g'.s
  sl : g.sl = g'.sl
  n : g.n = g'.n
  k : ∀ i j, sees g.n i j = true → g.k j = g'.k j
  v : ∀ i j, sees g.n i j = true → g.v j = g'.v j

variable {g} {g' : RG} (h : Agree g g')
include h

theorem Agree.w (a : Fin 4) (i : Fin 128) (j : Fin 256) : Row.w (sees g.n i) (g.lg a i) j = Row.w (sees g'.n i) (g'.lg a i) j := by
  unfold Row.w
  rw [← h.n]
  split
  · rename_i hs
    unfold lg; rw [h.q, h.sl, h.k i j hs]
  · rfl

theorem Agree.W (a : Fin 4) (i : Fin 128) : Row.W (sees g.n i) (g.lg a i) (g.s a) = Row.W (sees g'.n i) (g'.lg a i) (g'.s a) := by
  unfold Row.W; rw [h.s, Finset.sum_congr rfl fun j _ => h.w a i j]

theorem Agree.p : g.p = g'.p := by
  funext a i j
  unfold RG.p Row.p; rw [h.w, h.W]

theorem Agree.δ (a : Fin 4) (i : Fin 128) :
    Row.δ (sees g.n i) (g.lg a i) (g.s a) (g.dp a i) = Row.δ (sees g'.n i) (g'.lg a i) (g'.s a) (g'.dp a i) := by
  unfold Row.δ
  refine Finset.sum_congr rfl fun j _ => ?_
  have hp : Row.p (sees g.n i) (g.lg a i) (g.s a) j = Row.p (sees g'.n i) (g'.lg a i) (g'.s a) j := congrFun (congrFun (congrFun h.p a) i) j
  by_cases hs : sees g.n i j = true
  · rw [hp]; unfold RG.dp; rw [h.d, h.v i j hs]
  · have h0 : Row.p (sees g.n i) (g.lg a i) (g.s a) j = 0 := by
      unfold Row.p; rw [Row.w_eq_zero _ _ _ (by simpa using hs), zero_div]
    rw [← hp, h0, zero_mul, zero_mul]

theorem Agree.ds : g.ds = g'.ds := by
  funext a i j
  by_cases hs : sees g.n i j = true
  · unfold RG.ds Row.ds
    have hp : Row.p (sees g.n i) (g.lg a i) (g.s a) j = Row.p (sees g'.n i) (g'.lg a i) (g'.s a) j := congrFun (congrFun (congrFun h.p a) i) j
    rw [h.δ, hp]; unfold RG.dp; rw [h.d, h.v i j hs]
  · rw [g.ds_unseen a i j (by simpa using hs), g'.ds_unseen a i j (by rw [← h.n]; simpa using hs)]

theorem Agree.dq : g.dq = g'.dq := by
  funext a i d
  unfold RG.dq
  refine Finset.sum_congr rfl fun j _ => ?_
  by_cases hs : sees g.n i j = true
  · rw [h.ds, h.k i j hs]
  · rw [← h.ds, g.ds_unseen a i j (by simpa using hs), zero_mul, zero_mul]

theorem Agree.dk : g.dk = g'.dk := by unfold RG.dk; rw [h.ds, h.q]
theorem Agree.dv : g.dv = g'.dv := by unfold RG.dv; rw [h.p, h.d]
theorem Agree.dsink : g.dsink = g'.dsink := by
  funext a i
  unfold RG.dsink Row.dsink Row.psink; rw [h.δ, h.W, h.s]

end RG

end Cert.Calls.Swa

end
-- ==== Proof.SwaVal.lean ====
module

public import proofs.«01_k».proof.Proof.SwaHead
public import proofs.«01_k».proof.Proof.SwaSpec
public import Idealize.ShloMosaic.Lib.Pointwise
public import Idealize.ShloMosaic.Lib.Layout

@[expose] public section

set_option maxRecDepth 16384

noncomputable section

/-! What the body computes for a group of heads whose blocks hold real numbers. -/

namespace Cert.Calls.Swa

open Cert.SwaIdeal Cert.SwaIdeal.Gen Cert.NormRow
open Idealize.ShloMosaic Idealize.ShloMosaic.TcCoe Idealize.ShloMosaic.Tactic

/-- Row `i` of head `a` in a group's 512 rows. -/
abbrev hrow (a : Fin 4) (i : Fin 128) : Fin 512 := ⟨128 * a.val + i.val, by omega⟩

theorem word_eighth : Ideal.ofBits .f32 0x3E000000#32 = ((1 / 8 : ℝ) : EReal) := by
  simp [Ideal.ofBits, Ideal.ieee]; rw [← EReal.coe_mul]; norm_num

theorem word_bot : Ideal.ofBits .f32 0xFF800000#32 = ⊥ := by simp [Ideal.ofBits, Ideal.ieee]

theorem mask_bot : (Named.named (F := Ideal) κ "mask" (φ := .f32) 0xF149F2CA#32 : Ideal .f32) = (⊥ : EReal) := rfl

theorem rowHead_apply : ∀ r : Fin 512, rowHead (ix2 r 0) = BitVec.ofNat 32 (r.val / 128) := by decide +kernel

theorem rowHead_hrow (a : Fin 4) (i : Fin 128) : rowHead (ix2 (hrow a i) 0) = BitVec.ofNat 32 a.val := by
  rw [rowHead_apply]; congr 1; show (128 * a.val + i.val) / 128 = a.val; omega

theorem perHead_apply (v : Fin 4 → EReal) (a : Fin 4) (i : Fin 128) : perHead (F := Ideal) v (ix2 (hrow a i) 0) = v a := by
  unfold perHead
  pointwise
  rw [rowHead_hrow]
  fin_cases a <;> rfl

/-- The row's part of the distance. -/
theorem rowPart : ∀ r : Fin 512, IntOp.addi
    (Scalar.select
      (IntOp.andi
        (IntOp.xori
          (IntOp.cmpi .slt (IntOp.remsi .vector (BitVec.ofNat 32 r.val) (Scalar.select (Scalar.cmpi .eq 128#32 0#32) 1#32 128#32)) 0#32)
          (Scalar.cmpi .slt (Scalar.select (Scalar.cmpi .eq 128#32 0#32) 1#32 128#32) 0#32))
        (IntOp.cmpi .ne (IntOp.remsi .vector (BitVec.ofNat 32 r.val) (Scalar.select (Scalar.cmpi .eq 128#32 0#32) 1#32 128#32)) 0#32))
      (IntOp.addi (IntOp.remsi .vector (BitVec.ofNat 32 r.val) (Scalar.select (Scalar.cmpi .eq 128#32 0#32) 1#32 128#32))
        (Scalar.select (Scalar.cmpi .eq 128#32 0#32) 1#32 128#32))
      (IntOp.remsi .vector (BitVec.ofNat 32 r.val) (Scalar.select (Scalar.cmpi .eq 128#32 0#32) 1#32 128#32)))
    128#32 = BitVec.ofNat 32 (r.val % 128 + 128) := by decide +kernel

theorem dist_apply (a : Fin 4) (i : Fin 128) (j : Fin 256) : dist (ix2 (hrow a i) j) = distWord i j := by
  unfold dist k0_pay37 k0_pay35 k0_pay36
  pointwise
  rw [rowPart (hrow a i)]
  unfold distWord
  congr 3
  show (128 * a.val + i.val) % 128 = i.val
  omega

/-- A sum over the group's rows is a sum over its heads and their rows. -/
theorem sum_rows (f : Fin 512 → EReal) (f' : Fin 4 → Fin 128 → ℝ) (hf : ∀ a r, f (hrow a r) = ((f' a r : ℝ) : EReal)) :
    ∑ x, f x = ((∑ a, ∑ r, f' a r : ℝ) : EReal) := by
  rw [← Fin.sum_mul_add_fin (L := 512) 4 128, coe_sum]
  refine Finset.sum_congr rfl fun a _ => ?_
  rw [coe_sum]
  refine Finset.sum_congr rfl fun r _ => Eq.trans (congrArg f ?_) (hf a r)
  exact Fin.ext (by simp [hrow]; try omega)

variable (g : Group Ideal) (i : grid0.Coords)

theorem seen_apply (a : Fin 4) (r : Fin 128) (j : Fin 256) (hn : (i 0).val < 32) :
    seen i (ix2 (hrow a r) j) = BitVec.ofBool (sees (i 0).val r j) := by
  have h := dist_apply a r j
  unfold seen k0_pay38
  unfold dist at h
  generalize k0_pay37 (Scalar.select (Scalar.cmpi .eq 128#32 0#32) 1#32 128#32) k0_pay35 k0_pay36 = x at h ⊢
  pointwise
  rw [h]
  exact sees_word _ hn r j

/-- The group's blocks hold the real numbers of `R`. -/
structure Holds (R : RG) : Prop where
  q : ∀ a r d, g.q a (ix2 r d) = ((R.q a r d : ℝ) : EReal)
  kp : ∀ (j : Fin 128) d, g.kp (ix2 j d) = ((R.k ⟨j.val, by omega⟩ d : ℝ) : EReal)
  kc : ∀ (j : Fin 128) d, g.kc (ix2 j d) = ((R.k ⟨128 + j.val, by omega⟩ d : ℝ) : EReal)
  vp : ∀ (j : Fin 128) d, g.vp (ix2 j d) = ((R.v ⟨j.val, by omega⟩ d : ℝ) : EReal)
  vc : ∀ (j : Fin 128) d, g.vc (ix2 j d) = ((R.v ⟨128 + j.val, by omega⟩ d : ℝ) : EReal)
  d : ∀ a r d, g.d a (ix2 r d) = ((R.d a r d : ℝ) : EReal)
  s : ∀ a, g.sink a = ((R.s a : ℝ) : EReal)
  sl : ∀ a, g.slope a = ((R.sl a : ℝ) : EReal)
  n : (i 0).val = R.n
  lt : R.n < 32

variable {g i} {R : RG} (h : Holds g i R)
include h

theorem Holds.qs (a : Fin 4) (r : Fin 128) (d : Fin 64) : g.qs (ix2 (hrow a r) d) = ((R.q a r d : ℝ) : EReal) := by
  rw [← h.q]; unfold Group.qs; pointwise
  fin_cases a
  · rw [dif_pos (show 128 * 0 + r.val < 128 by omega)]; congr 2; exact Fin.ext (by dsimp only; omega)
  · rw [dif_neg (show ¬ 128 * 1 + r.val < 128 by omega), dif_pos (show 128 * 1 + r.val - 128 < 128 by omega)]; congr 2; exact Fin.ext (by dsimp only; omega)
  · rw [dif_neg (show ¬ 128 * 2 + r.val < 128 by omega), dif_neg (show ¬ 128 * 2 + r.val - 128 < 128 by omega),
      dif_pos (show 128 * 2 + r.val - 128 - 128 < 128 by omega)]; congr 2; exact Fin.ext (by dsimp only; omega)
  · rw [dif_neg (show ¬ 128 * 3 + r.val < 128 by omega), dif_neg (show ¬ 128 * 3 + r.val - 128 < 128 by omega),
      dif_neg (show ¬ 128 * 3 + r.val - 128 - 128 < 128 by omega)]; congr 2; exact Fin.ext (by dsimp only; omega)

theorem Holds.ds' (a : Fin 4) (r : Fin 128) (d : Fin 64) : g.ds' (ix2 (hrow a r) d) = ((R.d a r d : ℝ) : EReal) := by
  rw [← h.d]; unfold Group.ds'; pointwise
  fin_cases a
  · rw [dif_pos (show 128 * 0 + r.val < 128 by omega)]; congr 2; exact Fin.ext (by dsimp only; omega)
  · rw [dif_neg (show ¬ 128 * 1 + r.val < 128 by omega), dif_pos (show 128 * 1 + r.val - 128 < 128 by omega)]; congr 2; exact Fin.ext (by dsimp only; omega)
  · rw [dif_neg (show ¬ 128 * 2 + r.val < 128 by omega), dif_neg (show ¬ 128 * 2 + r.val - 128 < 128 by omega),
      dif_pos (show 128 * 2 + r.val - 128 - 128 < 128 by omega)]; congr 2; exact Fin.ext (by dsimp only; omega)
  · rw [dif_neg (show ¬ 128 * 3 + r.val < 128 by omega), dif_neg (show ¬ 128 * 3 + r.val - 128 < 128 by omega),
      dif_neg (show ¬ 128 * 3 + r.val - 128 - 128 < 128 by omega)]; congr 2; exact Fin.ext (by dsimp only; omega)

theorem Holds.ks (j : Fin 256) (d : Fin 64) : g.ks (ix2 j d) = ((R.k j d : ℝ) : EReal) := by
  unfold Group.ks; pointwise
  split
  · rw [h.kp]
  · rename_i hj
    rw [h.kc]
    have e : (⟨128 + (j.val - 128), by omega⟩ : Fin 256) = j := Fin.ext (by show 128 + (j.val - 128) = j.val; omega)
    exact congrArg (fun x => ((R.k x d : ℝ) : EReal)) e

theorem Holds.vs (j : Fin 256) (d : Fin 64) : g.vs (ix2 j d) = ((R.v j d : ℝ) : EReal) := by
  unfold Group.vs; pointwise
  split
  · rw [h.vp]
  · rename_i hj
    rw [h.vc]
    have e : (⟨128 + (j.val - 128), by omega⟩ : Fin 256) = j := Fin.ext (by show 128 + (j.val - 128) = j.val; omega)
    exact congrArg (fun x => ((R.v x d : ℝ) : EReal)) e

theorem Holds.slope (a : Fin 4) (r : Fin 128) : perHead (F := Ideal) g.slope (ix2 (hrow a r) 0) = ((R.sl a : ℝ) : EReal) :=
  (perHead_apply g.slope a r).trans (h.sl a)

theorem Holds.sinks (a : Fin 4) (r : Fin 128) : perHead (F := Ideal) g.sink (ix2 (hrow a r) 0) = ((R.s a : ℝ) : EReal) :=
  (perHead_apply g.sink a r).trans (h.s a)

theorem Holds.logits (a : Fin 4) (r : Fin 128) (j : Fin 256) :
    g.logits i (ix2 (hrow a r) j) = Row.L (sees R.n r) (R.lg a r) j := by
  have h1 := fun d => h.qs a r d
  have h2 := fun d => h.ks j d
  have h3 := seen_apply i a r j (by rw [h.n]; exact h.lt)
  have h4 := dist_apply a r j
  have h5 := h.slope a r
  rw [h.n] at h3
  unfold Group.logits
  generalize g.qs = x1 at *
  generalize g.ks = x2 at *
  generalize seen i = x3 at *
  generalize dist = x4 at *
  generalize perHead g.slope = x5 at *
  pointwise
  rw [h3, h4, h5, mask_bot, word_eighth, Finset.sum_congr rfl fun d _ => by rw [h1, h2, ← EReal.coe_mul], ← coe_sum, ← EReal.coe_mul]
  have h6 : (FloatOps.sitofp (F := Ideal) FTy.f32 (distWord r j) : Ideal .f32) = (((r.val : ℝ) + 128 - j.val : ℝ) : EReal) := by
    show (((distWord r j).toInt : ℝ) : EReal) = _
    rw [distWord_toInt]; push_cast; rfl
  rw [h6, ← EReal.coe_mul, ← EReal.coe_sub]
  unfold Row.L RG.lg
  cases hs : sees R.n r j <;> rfl

theorem Holds.top (a : Fin 4) (r : Fin 128) : ∃ M : ℝ, g.top i (ix2 (hrow a r) 0) = (M : EReal) := by
  obtain ⟨M, hM⟩ := Row.top_real (sees R.n r) (R.lg a r) (R.s a)
  refine ⟨M, Eq.trans ?_ hM⟩
  have h1 := fun j => h.logits a r j
  have h2 := h.sinks a r
  unfold Group.top
  generalize g.logits i = x1 at *
  generalize perHead g.sink = x2 at *
  pointwise
  rw [h2, word_bot]
  congr 2
  funext j; exact h1 j

/-- A row's exponentials over one real shift. -/
theorem Holds.exps (a : Fin 4) (r : Fin 128) : ∃ M : ℝ,
    (∀ j, g.e i (ix2 (hrow a r) j) = ((Row.w (sees R.n r) (R.lg a r) j * Real.exp (-M) : ℝ) : EReal)) ∧
    g.esink i (ix2 (hrow a r) 0) = ((Real.exp (R.s a) * Real.exp (-M) : ℝ) : EReal) ∧
    g.inv i (ix2 (hrow a r) 0) = ((1 / (Row.W (sees R.n r) (R.lg a r) (R.s a) * Real.exp (-M)) : ℝ) : EReal) := by
  obtain ⟨M, hM⟩ := h.top a r
  have h1 := fun j => h.logits a r j
  have h2 := h.sinks a r
  have he : ∀ j, g.e i (ix2 (hrow a r) j) = Ideal.exp (Row.L (sees R.n r) (R.lg a r) j - (M : EReal)) := by
    intro j
    rw [← h1, ← hM]
    unfold Group.e
    generalize g.logits i = x1
    generalize g.top i = x2
    pointwise
  have hs : g.esink i (ix2 (hrow a r) 0) = Ideal.exp ((R.s a : EReal) - (M : EReal)) := by
    rw [← h2, ← hM]
    unfold Group.esink
    generalize perHead g.sink = x1
    generalize g.top i = x2
    pointwise
  refine ⟨M, fun j => (he j).trans (Row.e_coe _ _ M j), hs.trans (Row.esink_coe _ M), ?_⟩
  rw [← Row.inv_coe, ← Row.sum_coe, ← hs]
  simp only [← he]
  unfold Group.inv
  generalize g.e i = x1
  generalize g.esink i = x2
  pointwise

theorem Holds.p (a : Fin 4) (r : Fin 128) (j : Fin 256) : g.p i (ix2 (hrow a r) j) = ((R.p a r j : ℝ) : EReal) := by
  obtain ⟨M, h1, _, h3⟩ := h.exps a r
  have h1 := h1 j
  unfold Group.p
  generalize g.e i = x1 at *
  generalize g.inv i = x2 at *
  pointwise
  rw [h1, h3, ← EReal.coe_mul, Row.p_eq]; rfl

theorem Holds.psink (a : Fin 4) (r : Fin 128) :
    g.psink i (ix2 (hrow a r) 0) = ((Row.psink (sees R.n r) (R.lg a r) (R.s a) : ℝ) : EReal) := by
  obtain ⟨M, _, h2, h3⟩ := h.exps a r
  unfold Group.psink
  generalize g.esink i = x1 at *
  generalize g.inv i = x2 at *
  pointwise
  rw [h2, h3, ← EReal.coe_mul, Row.psink_eq]

theorem Holds.dp (a : Fin 4) (r : Fin 128) (j : Fin 256) : g.dp (ix2 (hrow a r) j) = ((R.dp a r j : ℝ) : EReal) := by
  have h1 := fun d => h.ds' a r d
  have h2 := fun d => h.vs j d
  unfold Group.dp
  generalize g.ds' = x1 at *
  generalize g.vs = x2 at *
  pointwise
  rw [Finset.sum_congr rfl fun d _ => by rw [h1, h2, ← EReal.coe_mul], ← coe_sum]; rfl

theorem Holds.delta (a : Fin 4) (r : Fin 128) :
    g.delta i (ix2 (hrow a r) 0) = ((Row.δ (sees R.n r) (R.lg a r) (R.s a) (R.dp a r) : ℝ) : EReal) := by
  have h1 := fun j => h.p a r j
  have h2 := fun j => h.dp a r j
  unfold Group.delta
  generalize g.p i = x1 at *
  generalize g.dp = x2 at *
  pointwise
  rw [Finset.sum_congr rfl fun d _ => by rw [h1, h2, ← EReal.coe_mul], ← coe_sum]; rfl

theorem Holds.ds (a : Fin 4) (r : Fin 128) (j : Fin 256) : g.ds i (ix2 (hrow a r) j) = ((R.ds a r j : ℝ) : EReal) := by
  have h1 := h.p a r j
  have h2 := h.dp a r j
  have h3 := h.delta a r
  unfold Group.ds
  generalize g.p i = x1 at *
  generalize g.dp = x2 at *
  generalize g.delta i = x3 at *
  pointwise
  rw [h1, h2, h3, word_eighth, ← EReal.coe_sub, ← EReal.coe_mul, ← EReal.coe_mul]; rfl

theorem Holds.dq (a : Fin 4) (r : Fin 128) (d : Fin 64) : g.dqHead i a (ix2 r d) = ((R.dq a r d : ℝ) : EReal) := by
  have h1 := fun j => h.ds a r j
  have h2 := fun j => h.ks j d
  unfold Group.dqHead Group.dq
  generalize g.ds i = x1 at *
  generalize g.ks = x2 at *
  pointwise
  rw [Finset.sum_congr rfl fun d _ => by rw [h1, h2, ← EReal.coe_mul], ← coe_sum]; rfl

theorem Holds.dk (j : Fin 256) (d : Fin 64) : g.dk i (ix2 j d) = ((R.dk j d : ℝ) : EReal) := by
  have h1 := fun a r => h.ds a r j
  have h2 := fun a r => h.qs a r d
  unfold Group.dk
  generalize g.ds i = x1 at *
  generalize g.qs = x2 at *
  pointwise
  exact sum_rows _ (fun a r => R.ds a r j * R.q a r d) fun a r => by rw [h1, h2, ← EReal.coe_mul]

theorem Holds.dv (j : Fin 256) (d : Fin 64) : g.dv i (ix2 j d) = ((R.dv j d : ℝ) : EReal) := by
  have h1 := fun a r => h.p a r j
  have h2 := fun a r => h.ds' a r d
  unfold Group.dv
  generalize g.p i = x1 at *
  generalize g.ds' = x2 at *
  pointwise
  exact sum_rows _ (fun a r => R.p a r j * R.d a r d) fun a r => by rw [h1, h2, ← EReal.coe_mul]

theorem Holds.dsink (a : Fin 4) (j : S1x1.Idx) : g.dsinkHead i a j = ((∑ r, R.dsink a r : ℝ) : EReal) := by
  have h1 := fun r => h.psink a r
  have h2 := fun r => h.delta a r
  unfold Group.dsinkHead Group.dsink
  generalize g.psink i = x1 at *
  generalize g.delta i = x2 at *
  pointwise
  rw [coe_sum]
  refine Finset.sum_congr rfl fun r _ => ?_
  rw [h1, h2]
  unfold RG.dsink Row.dsink
  rw [zero_sub, ← EReal.coe_neg, ← EReal.coe_mul, neg_mul]

end Cert.Calls.Swa

end
-- ==== Proof.SwaArgs.lean ====
module

public import proofs.«01_k».proof.Proof.SwaVal

@[expose] public section

set_option maxRecDepth 16384

noncomputable section

/-! The groups of heads as parts of the argument arrays. -/

namespace Cert.Calls.Swa

open Cert.SwaIdeal Cert.SwaIdeal.Gen Cert.NormRow
open Idealize.ShloMosaic Idealize.ShloMosaic.TcCoe Idealize.ShloMosaic.Tactic

/-- The row of query `i` of block `n`. -/
abbrev blockRow (n : Fin 32) (i : Fin 128) : Fin 4096 := ⟨128 * n.val + i.val, by omega⟩

/-- The row of key `j` of block `n`: of the block before, then of the block itself. -/
def keyRow (n : Fin 32) (j : Fin 256) : Fin 4096 := if j.val < 128 then ⟨(n.val - 1) * 128 + j.val, by omega⟩ else ⟨128 * n.val + j.val - 128, by omega⟩

/-- The penalty of a key's distance in head `h`. -/
def slope (h : Fin 16) : ℝ := (Real.sqrt (2 ^ (h.val + 1)))⁻¹

theorem sqrt_even (k : ℕ) : Real.sqrt (2 ^ (2 * k)) = 2 ^ k := by
  rw [mul_comm, pow_mul]; exact Real.sqrt_sq (by positivity)

theorem slopes_eq (h : Fin 16) : (slopes (F := Ideal) h : EReal) = ((slope h : ℝ) : EReal) := by
  have e : ∀ k : ℕ, (Real.sqrt (2 ^ (2 * k)))⁻¹ = ((2 : ℝ) ^ k)⁻¹ := fun k => by rw [sqrt_even]
  have o : ∀ (k : ℕ) (x : ℝ), x = 2 ^ (k + 1) → (((Real.sqrt x)⁻¹ : ℝ) : EReal) = (((Real.sqrt (2 ^ (k + 1)))⁻¹ : ℝ) : EReal) := fun k x hx => by rw [hx]
  unfold slope
  fin_cases h
  · exact o 0 2 (by norm_num)
  · refine Eq.trans ?_ (congrArg Real.toEReal (e 1).symm); show Ideal.ofBits .f32 0x3F000000#32 = _
    simp [Ideal.ofBits, Ideal.ieee]; rw [← EReal.coe_mul]; norm_num
  · exact o 2 8 (by norm_num)
  · refine Eq.trans ?_ (congrArg Real.toEReal (e 2).symm); show Ideal.ofBits .f32 0x3E800000#32 = _
    simp [Ideal.ofBits, Ideal.ieee]; rw [← EReal.coe_mul]; norm_num
  · exact o 4 32 (by norm_num)
  · refine Eq.trans ?_ (congrArg Real.toEReal (e 3).symm); show Ideal.ofBits .f32 0x3E000000#32 = _
    simp [Ideal.ofBits, Ideal.ieee]; rw [← EReal.coe_mul]; norm_num
  · exact o 6 128 (by norm_num)
  · refine Eq.trans ?_ (congrArg Real.toEReal (e 4).symm); show Ideal.ofBits .f32 0x3D800000#32 = _
    simp [Ideal.ofBits, Ideal.ieee]; rw [← EReal.coe_mul]; norm_num
  · exact o 8 512 (by norm_num)
  · refine Eq.trans ?_ (congrArg Real.toEReal (e 5).symm); show Ideal.ofBits .f32 0x3D000000#32 = _
    simp [Ideal.ofBits, Ideal.ieee]; rw [← EReal.coe_mul]; norm_num
  · exact o 10 2048 (by norm_num)
  · refine Eq.trans ?_ (congrArg Real.toEReal (e 6).symm); show Ideal.ofBits .f32 0x3C800000#32 = _
    simp [Ideal.ofBits, Ideal.ieee]; rw [← EReal.coe_mul]; norm_num
  · exact o 12 8192 (by norm_num)
  · refine Eq.trans ?_ (congrArg Real.toEReal (e 7).symm); show Ideal.ofBits .f32 0x3C000000#32 = _
    simp [Ideal.ofBits, Ideal.ieee]; rw [← EReal.coe_mul]; norm_num
  · exact o 14 32768 (by norm_num)
  · refine Eq.trans ?_ (congrArg Real.toEReal (e 8).symm); show Ideal.ofBits .f32 0x3B800000#32 = _
    simp [Ideal.ofBits, Ideal.ieee]; rw [← EReal.coe_mul]; norm_num

/-- The three argument arrays as real numbers: the rows of queries, keys and values, the sinks, the incoming gradient. -/
structure Args where
  P : Fin 4096 → Fin 1536 → ℝ
  S : Fin 16 → ℝ
  G : Fin 4096 → Fin 1024 → ℝ

/-- Group `hk` of four heads over block `n`. -/
def Args.grp (x : Args) (n : Fin 32) (hk : Fin 4) : RG where
  q a i d := x.P (blockRow n i) ⟨64 * (head hk a).val + d.val, by omega⟩
  k j d := x.P (keyRow n j) ⟨1024 + (64 * hk.val + d.val), by omega⟩
  v j d := x.P (keyRow n j) ⟨1280 + (64 * hk.val + d.val), by omega⟩
  d a i d := x.G (blockRow n i) ⟨64 * (head hk a).val + d.val, by omega⟩
  s a := x.S (head hk a)
  sl a := slope (head hk a)
  n := n.val

/-- The arrays hold the real numbers of `x`. -/
structure Args.Are (x : Args) (a0 : Vec Ideal S4096x1536 .f32) (a1 : Vec Ideal S1x16 .f32) (a2 : Vec Ideal S4096x1024 .bf16) : Prop where
  P : ∀ i j, a0 (ix2 i j) = ((x.P i j : ℝ) : EReal)
  S : ∀ h, a1 (ix2 0 h) = ((x.S h : ℝ) : EReal)
  G : ∀ i j, a2 (ix2 i j) = ((x.G i j : ℝ) : EReal)

/-- The four gradients. -/
def Args.dq (x : Args) (r : Fin 4096) (q : Fin 1024) : ℝ :=
  (x.grp ⟨r.val / 128, by omega⟩ ⟨q.val / 64 / 4, by omega⟩).dq ⟨q.val / 64 % 4, by omega⟩ ⟨r.val % 128, by omega⟩ ⟨q.val % 64, by omega⟩
def Args.dk (x : Args) (r : Fin 4096) (q : Fin 256) : ℝ :=
  (x.grp ⟨r.val / 128, by omega⟩ ⟨q.val / 64, by omega⟩).dk ⟨128 + r.val % 128, by omega⟩ ⟨q.val % 64, by omega⟩ +
    if h : r.val / 128 + 1 < 32 then (x.grp ⟨r.val / 128 + 1, h⟩ ⟨q.val / 64, by omega⟩).dk ⟨r.val % 128, by omega⟩ ⟨q.val % 64, by omega⟩ else 0
def Args.dv (x : Args) (r : Fin 4096) (q : Fin 256) : ℝ :=
  (x.grp ⟨r.val / 128, by omega⟩ ⟨q.val / 64, by omega⟩).dv ⟨128 + r.val % 128, by omega⟩ ⟨q.val % 64, by omega⟩ +
    if h : r.val / 128 + 1 < 32 then (x.grp ⟨r.val / 128 + 1, h⟩ ⟨q.val / 64, by omega⟩).dv ⟨r.val % 128, by omega⟩ ⟨q.val % 64, by omega⟩ else 0
def Args.dsink (x : Args) (h : Fin 128) : ℝ :=
  if h' : h.val < 16 then ∑ n : Fin 32, ∑ i, (x.grp n ⟨h.val / 4, by omega⟩).dsink ⟨h.val % 4, by omega⟩ i else 0

end Cert.Calls.Swa

end
-- ==== Proof.SwaLoad.lean ====
module

public import proofs.«01_k».proof.Proof.SwaArgs
public import Idealize.ShloMosaic.Lib.WholeRead
public import Idealize.ShloMosaic.Lib.Pipeline.ReadBack

@[expose] public section

set_option maxRecDepth 16384

noncomputable section

/-! What a group of heads loads, as parts of the argument arrays. -/

namespace Cert.Calls.Swa

open Cert.SwaIdeal Cert.SwaIdeal.Gen
open Idealize.ShloMosaic Idealize.ShloMosaic.TcCoe Idealize.ShloMosaic.Tactic

theorem idx : ∀ t : Fin grid0.N, win0_0.index t = ![0, 0] ∧ win0_1.index t = ![t.val, 0] ∧ win0_2.index t = ![t.val - 1, 4] ∧
    win0_3.index t = ![t.val, 4] ∧ win0_4.index t = ![t.val - 1, 5] ∧ win0_5.index t = ![t.val, 5] ∧ win0_6.index t = ![t.val, 0] ∧
    win0_7.index t = ![t.val, 0] ∧ win0_8.index t = ![0, 0] ∧ win0_9.index t = ![0, 0] ∧ win0_10.index t = ![0, 0] := by decide +kernel

theorem coords_val : ∀ t : Fin grid0.N, (grid0.coords t 0).val = t.val := by decide +kernel

variable (m : (ℓ : Loc nD τ sig) → Buf (Elt Ideal) ℓ) (c : Dev nD) (t : Fin cfg0.N)

theorem blk0 (h : Fin 16) : iblk m c 0 t (ix2 0 h) = m ((c : Thread nD τ).loc main_arg1) (ix2 0 h) := by
  blk_ext [iblk, V, idx t]

theorem blk2 (r : Fin 128) (d : Fin 256) : iblk m c 2 t (ix2 r d) =
    m ((c : Thread nD τ).loc main_arg0) (ix2 ⟨(t.val - 1) * 128 + r.val, by have : t.val < 32 := t.isLt; omega⟩ ⟨1024 + d.val, by omega⟩) := by
  blk_ext [iblk, V, idx t]

theorem blk3 (r : Fin 128) (d : Fin 256) : iblk m c 3 t (ix2 r d) =
    m ((c : Thread nD τ).loc main_arg0) (ix2 ⟨t.val * 128 + r.val, by have : t.val < 32 := t.isLt; omega⟩ ⟨1024 + d.val, by omega⟩) := by
  blk_ext [iblk, V, idx t]

theorem blk4 (r : Fin 128) (d : Fin 256) : iblk m c 4 t (ix2 r d) =
    m ((c : Thread nD τ).loc main_arg0) (ix2 ⟨(t.val - 1) * 128 + r.val, by have : t.val < 32 := t.isLt; omega⟩ ⟨1280 + d.val, by omega⟩) := by
  blk_ext [iblk, V, idx t]

theorem blk5 (r : Fin 128) (d : Fin 256) : iblk m c 5 t (ix2 r d) =
    m ((c : Thread nD τ).loc main_arg0) (ix2 ⟨t.val * 128 + r.val, by have : t.val < 32 := t.isLt; omega⟩ ⟨1280 + d.val, by omega⟩) := by
  blk_ext [iblk, V, idx t]

theorem blk6 (r : Fin 128) (d : Fin 1024) : iblk m c 6 t (ix2 r d) =
    m ((c : Thread nD τ).loc main_arg2) (ix2 ⟨t.val * 128 + r.val, by have : t.val < 32 := t.isLt; omega⟩ d) := by
  blk_ext [iblk, V, idx t]

theorem blk1 (r : Fin 128) (d : Fin 1024) : X0_1 m c t (ix2 r d) =
    m ((c : Thread nD τ).loc main_arg0) (ix2 ⟨t.val * 128 + r.val, by have : t.val < 32 := t.isLt; omega⟩ ⟨d.val, by omega⟩) := by
  unfold X0_1 Pipeline.Window.fill
  rw [dif_pos (moved0_1 t _)]
  blk_ext [iblk, V, idx t]

/-- A load of the columns from `o` on. -/
theorem load_cols {sig : RefSig} {n : ℕ} {e : EltTy} {arg : Memref sig .tc .vmem ⟨2, ![128, n]⟩ e} (hs : arg.IsWhole) (X : Vec Ideal ⟨2, ![128, n]⟩ e) (o : ℕ)
    (inb : ∀ a, (![0, o] : Fin 2 → ℕ) a + S128x64.size a ≤ (⟨2, ![128, n]⟩ : Shape).size a) (r : Fin 128) (d : Fin 64) (b : Fin n) (hb : b.val = o + d.val) :
    View.readAt (Elt Ideal) arg.view (Rect.unit (s := ⟨2, ![128, n]⟩) ![0, o] S128x64.size inb).toLoadRect (hs.unread X) (ix2 r d) = X (ix2 r b) := by
  refine (hs.readAt_unread X _ _).trans (congrArg X ?_)
  funext a; fin_cases a
  · exact Fin.ext (by show 0 + 1 * r.val = r.val; omega)
  · exact Fin.ext (by show o + 1 * d.val = b.val; omega)

variable {m c} {x : Args}
variable (hx : x.Are (m ((c : Thread nD τ).loc main_arg0)) (m ((c : Thread nD τ).loc main_arg1)) (m ((c : Thread nD τ).loc main_arg2)))

theorem keyRow_prev (n : Fin 32) (j : Fin 128) : keyRow n ⟨j.val, by omega⟩ = ⟨(n.val - 1) * 128 + j.val, by omega⟩ := by
  unfold keyRow; exact if_pos j.isLt

theorem keyRow_own (n : Fin 32) (j : Fin 128) : keyRow n ⟨128 + j.val, by omega⟩ = ⟨n.val * 128 + j.val, by omega⟩ := by
  unfold keyRow; rw [if_neg (show ¬ 128 + j.val < 128 by omega)]; exact Fin.ext (by dsimp only; omega)

include hx
/-- At a grid point the group holds the block's part of the arrays. -/
theorem holds (hk : Fin 4) : Holds (group m c t hk) (grid0.coords t) (x.grp t hk) where
  q a r d := by
    refine (load_cols (hs0_1 t) (X0_1 m c t) _ _ r d ⟨64 * (head hk a).val + d.val, by omega⟩ rfl).trans ((blk1 m c t r _).trans ((hx.P _ _).trans ?_))
    show ((x.P _ _ : ℝ) : EReal) = ((x.P _ _ : ℝ) : EReal)
    congr 2
    exact Fin.ext (by dsimp only; omega)
  kp j d := by
    refine (load_cols (hs0_2 t) (iblk m c 2 t) _ _ j d ⟨64 * hk.val + d.val, by omega⟩ rfl).trans ((blk2 m c t j _).trans ((hx.P _ _).trans ?_))
    show ((x.P _ _ : ℝ) : EReal) = ((x.P _ _ : ℝ) : EReal)
    rw [keyRow_prev t j]
  kc j d := by
    refine (load_cols (hs0_3 t) (iblk m c 3 t) _ _ j d ⟨64 * hk.val + d.val, by omega⟩ rfl).trans ((blk3 m c t j _).trans ((hx.P _ _).trans ?_))
    show ((x.P _ _ : ℝ) : EReal) = ((x.P _ _ : ℝ) : EReal)
    rw [keyRow_own t j]
  vp j d := by
    refine (load_cols (hs0_4 t) (iblk m c 4 t) _ _ j d ⟨64 * hk.val + d.val, by omega⟩ rfl).trans ((blk4 m c t j _).trans ((hx.P _ _).trans ?_))
    show ((x.P _ _ : ℝ) : EReal) = ((x.P _ _ : ℝ) : EReal)
    rw [keyRow_prev t j]
  vc j d := by
    refine (load_cols (hs0_5 t) (iblk m c 5 t) _ _ j d ⟨64 * hk.val + d.val, by omega⟩ rfl).trans ((blk5 m c t j _).trans ((hx.P _ _).trans ?_))
    show ((x.P _ _ : ℝ) : EReal) = ((x.P _ _ : ℝ) : EReal)
    rw [keyRow_own t j]
  d a r d := by
    refine (load_cols (hs0_6 t) (iblk m c 6 t) _ _ r d ⟨64 * (head hk a).val + d.val, by omega⟩ rfl).trans ((blk6 m c t r _).trans ((hx.G _ _).trans ?_))
    show ((x.G _ _ : ℝ) : EReal) = ((x.G _ _ : ℝ) : EReal)
    congr 2
    exact Fin.ext (by dsimp only; omega)
  s a := by
    refine ((hs0_0 t).readAt_unread (iblk m c 0 t) _ _).trans (Eq.trans (congrArg (iblk m c 0 t) ?_) ((blk0 m c t (head hk a)).trans (hx.S _)))
    funext b; fin_cases b <;> rfl
  sl a := slopes_eq (head hk a)
  n := coords_val t
  lt := t.isLt

end Cert.Calls.Swa

end
-- ==== Proof.SwaArr.lean ====
module

public import proofs.«01_k».proof.Proof.SwaAcc
public import proofs.«01_k».proof.Proof.SwaLoad

@[expose] public section

set_option maxRecDepth 16384

noncomputable section

/-! The four result arrays of the window-attention backward kernel. -/

namespace Cert.Calls.Swa

open Cert.SwaIdeal Cert.SwaIdeal.Gen Cert.NormRow
open Idealize.ShloMosaic Idealize.ShloMosaic.TcCoe Idealize.ShloMosaic.Tactic

variable (m : (ℓ : Loc nD τ sig) → Buf (Elt Ideal) ℓ) (c : Dev nD) {x : Args}
variable (hx : x.Are (m ((c : Thread nD τ).loc main_arg0)) (m ((c : Thread nD τ).loc main_arg1)) (m ((c : Thread nD τ).loc main_arg2)))

/-- An accumulator that begins at zero, takes `cur` at point `b` and `next` at the point after. -/
theorem acc_closed (A : (n : ℕ) → n < cfg0.N → EReal) (cur next : ℝ) (b : ℕ)
    (h0 : ∀ h, A 0 h = if b = 0 then 0 + (cur : EReal) else 0)
    (hs : ∀ n (h : n + 1 < cfg0.N), A (n + 1) h = if b = n + 1 then A n (Nat.lt_of_succ_lt h) + (cur : EReal)
      else if b + 1 = n + 1 then A n (Nat.lt_of_succ_lt h) + (next : EReal) else A n (Nat.lt_of_succ_lt h)) :
    ∀ n h, A n h = (((if b ≤ n then cur else 0) + (if b + 1 ≤ n then next else 0) : ℝ) : EReal) := by
  intro n
  induction n with
  | zero =>
    intro h
    rw [h0]
    by_cases hb : b = 0
    · subst hb; simp
    · rw [if_neg hb, if_neg (by omega), if_neg (by omega)]; simp
  | succ n ih =>
    intro h
    rw [hs, ih]
    by_cases h1 : b = n + 1
    · rw [if_pos h1, if_neg (by omega), if_neg (by omega), if_pos (by omega), if_neg (by omega), ← EReal.coe_add]
      congr 1; ring
    · rw [if_neg h1]
      by_cases h2 : b + 1 = n + 1
      · rw [if_pos h2, if_pos (by omega), if_neg (by omega), if_pos (by omega), if_pos (by omega), ← EReal.coe_add]
        congr 1; ring
      · rw [if_neg h2]
        by_cases h3 : b ≤ n
        · rw [if_pos h3, if_pos (by omega), if_pos (by omega), if_pos (by omega)]
        · rw [if_neg h3, if_neg (by omega), if_neg (by omega), if_neg (by omega)]

include hx

theorem dkPay_eq (t : Fin 32) (hk : Fin 4) (j : Fin 256) (d : Fin 64) : dkPay m c t hk (ix2 j d) = (((x.grp t hk).dk j d : ℝ) : EReal) :=
  (holds t hx hk).dk j d

theorem dvPay_eq (t : Fin 32) (hk : Fin 4) (j : Fin 256) (d : Fin 64) : dvPay m c t hk (ix2 j d) = (((x.grp t hk).dv j d : ℝ) : EReal) :=
  (holds t hx hk).dv j d

theorem dk_acc (r : Fin 4096) (q : Fin 256) (n : ℕ) (hn : n < cfg0.N) : (accAt m c n hn).1 (ix2 r q) =
    (((if r.val / 128 ≤ n then (x.grp ⟨r.val / 128, by omega⟩ ⟨q.val / 64, by omega⟩).dk ⟨128 + r.val % 128, by omega⟩ ⟨q.val % 64, by omega⟩ else 0) +
      (if r.val / 128 + 1 ≤ n then (if h : r.val / 128 + 1 < 32 then (x.grp ⟨r.val / 128 + 1, h⟩ ⟨q.val / 64, by omega⟩).dk ⟨r.val % 128, by omega⟩ ⟨q.val % 64, by omega⟩ else 0) else 0) : ℝ) : EReal) := by
  refine acc_closed (fun n hn => (accAt m c n hn).1 (ix2 r q)) _ _ (r.val / 128) (fun h => ?_) (fun n h => ?_) n hn
  · refine (dk_accFirst m c ⟨0, h⟩ rfl r q).trans ?_
    unfold firstAt
    by_cases hb : r.val / 128 = 0
    · rw [if_pos hb, if_pos hb]
      refine congrArg ((0 : EReal) + ·) ((dkPay_eq m c hx ⟨0, h⟩ _ _ _).trans ?_)
      congr 3; exact Fin.ext hb.symm
    · rw [if_neg hb, if_neg hb]
  · refine (dk_accLater m c ⟨n + 1, h⟩ _ _ r q).trans ?_
    unfold laterAt
    dsimp only
    by_cases hb : r.val / 128 = n + 1
    · rw [if_pos hb, if_pos hb]
      refine congrArg (((accAt m c n (Nat.lt_of_succ_lt h)).1 (ix2 r q) : EReal) + ·) ((dkPay_eq m c hx ⟨n + 1, h⟩ _ _ _).trans ?_)
      congr 3; exact Fin.ext hb.symm
    · rw [if_neg hb, if_neg hb]
      by_cases hb1 : r.val / 128 + 1 = n + 1
      · rw [if_pos hb1, if_pos hb1]
        have hlt : r.val / 128 + 1 < 32 := by have : n + 1 < 32 := h; omega
        rw [dif_pos hlt]
        refine congrArg (((accAt m c n (Nat.lt_of_succ_lt h)).1 (ix2 r q) : EReal) + ·) ((dkPay_eq m c hx ⟨n + 1, h⟩ _ _ _).trans ?_)
        congr 3; exact Fin.ext hb1.symm
      · rw [if_neg hb1, if_neg hb1]

theorem dv_acc (r : Fin 4096) (q : Fin 256) (n : ℕ) (hn : n < cfg0.N) : (accAt m c n hn).2.1 (ix2 r q) =
    (((if r.val / 128 ≤ n then (x.grp ⟨r.val / 128, by omega⟩ ⟨q.val / 64, by omega⟩).dv ⟨128 + r.val % 128, by omega⟩ ⟨q.val % 64, by omega⟩ else 0) +
      (if r.val / 128 + 1 ≤ n then (if h : r.val / 128 + 1 < 32 then (x.grp ⟨r.val / 128 + 1, h⟩ ⟨q.val / 64, by omega⟩).dv ⟨r.val % 128, by omega⟩ ⟨q.val % 64, by omega⟩ else 0) else 0) : ℝ) : EReal) := by
  refine acc_closed (fun n hn => (accAt m c n hn).2.1 (ix2 r q)) _ _ (r.val / 128) (fun h => ?_) (fun n h => ?_) n hn
  · refine (dv_accFirst m c ⟨0, h⟩ rfl r q).trans ?_
    unfold firstAt
    by_cases hb : r.val / 128 = 0
    · rw [if_pos hb, if_pos hb]
      refine congrArg ((0 : EReal) + ·) ((dvPay_eq m c hx ⟨0, h⟩ _ _ _).trans ?_)
      congr 3; exact Fin.ext hb.symm
    · rw [if_neg hb, if_neg hb]
  · refine (dv_accLater m c ⟨n + 1, h⟩ _ _ r q).trans ?_
    unfold laterAt
    dsimp only
    by_cases hb : r.val / 128 = n + 1
    · rw [if_pos hb, if_pos hb]
      refine congrArg (((accAt m c n (Nat.lt_of_succ_lt h)).2.1 (ix2 r q) : EReal) + ·) ((dvPay_eq m c hx ⟨n + 1, h⟩ _ _ _).trans ?_)
      congr 3; exact Fin.ext hb.symm
    · rw [if_neg hb, if_neg hb]
      by_cases hb1 : r.val / 128 + 1 = n + 1
      · rw [if_pos hb1, if_pos hb1]
        have hlt : r.val / 128 + 1 < 32 := by have : n + 1 < 32 := h; omega
        rw [dif_pos hlt]
        refine congrArg (((accAt m c n (Nat.lt_of_succ_lt h)).2.1 (ix2 r q) : EReal) + ·) ((dvPay_eq m c hx ⟨n + 1, h⟩ _ _ _).trans ?_)
        congr 3; exact Fin.ext hb1.symm
      · rw [if_neg hb1, if_neg hb1]

/-- The heads' sums, each in its lane. -/
theorem lanes_eq (t : Fin 32) (h : Fin 128) : ∀ (n : ℕ) (hn : n ≤ 16), lanes m c t n hn (ix2 0 h) =
    (((if hh : h.val < n then ∑ i, (x.grp t ⟨h.val / 4, by omega⟩).dsink ⟨h.val % 4, by omega⟩ i else 0) : ℝ) : EReal) := by
  intro n
  induction n with
  | zero =>
    intro hn; rw [dif_neg (Nat.not_lt_zero _)]
    refine (show lanes m c t 0 hn (ix2 0 h) = (broadcast S1x128 (Scalar.ofBits .f32 0x00000000#32) : FVec Ideal S1x128 .f32) (ix2 0 h) from rfl).trans ?_
    pointwise; simp
  | succ n ih =>
    intro hn
    have ih := ih (Nat.le_of_succ_le hn)
    have hd := (holds t hx ⟨n / 4, by omega⟩).dsink ⟨n % 4, by omega⟩
    refine (show lanes m c t (n + 1) hn (ix2 0 h) = addf (lanes m c t n (Nat.le_of_succ_le hn))
      (select (cmpi .eq (iota .tc S1x128 32 [1] iota_S1x128_d1_w32) (broadcast S1x128 (BitVec.ofNat 32 n)))
        (broadcastTo S1x128 ((group m c t ⟨n / 4, by omega⟩).dsinkHead (grid0.coords t) ⟨n % 4, by omega⟩) broadcasts_S1x1_S1x128)
        (broadcast S1x128 (Scalar.ofBits .f32 0x00000000#32))) (ix2 0 h) from rfl).trans ?_
    generalize lanes m c t n (Nat.le_of_succ_le hn) = y at *
    generalize (group m c t ⟨n / 4, _⟩).dsinkHead (grid0.coords t) ⟨n % 4, _⟩ = z at *
    pointwise
    rw [ih]
    by_cases hb : h.val = n
    · have e : IntOp.cmpi CmpIPredicate.eq (BitVec.ofNat 32 h.val) (BitVec.ofNat 32 n) = 1#1 := by
        rw [hb]; simp [IntOp.cmpi]
      rw [dif_neg (by omega), dif_pos (by omega), e]
      refine (congrArg (fun y => ((0 : ℝ) : EReal) + y) (hd (ix2 0 0))).trans ?_
      rw [← EReal.coe_add, zero_add]
      simp only [hb]
    · have e : IntOp.cmpi CmpIPredicate.eq (BitVec.ofNat 32 h.val) (BitVec.ofNat 32 n) = 0#1 := by
        have hne : BitVec.ofNat 32 h.val ≠ BitVec.ofNat 32 n := fun hh => hb (by
          have h2 := congrArg BitVec.toNat hh
          rw [BitVec.toNat_ofNat, BitVec.toNat_ofNat, Nat.mod_eq_of_lt (by omega), Nat.mod_eq_of_lt (by omega)] at h2
          exact h2)
        simp only [IntOp.cmpi, beq_eq_false_iff_ne.mpr hne]; rfl
      rw [e]
      by_cases hlt : h.val < n
      · rw [dif_pos hlt, dif_pos (by omega)]; exact add_zero _
      · rw [dif_neg hlt, dif_neg (by omega)]; exact add_zero _

theorem dsink_acc (h : Fin 128) (n : ℕ) (hn : n < cfg0.N) : (accAt m c n hn).2.2 (ix2 0 h) =
    ((∑ k ∈ Finset.range (n + 1), (if hk : k < 32 then (if hh : h.val < 16 then ∑ i, (x.grp ⟨k, hk⟩ ⟨h.val / 4, by omega⟩).dsink ⟨h.val % 4, by omega⟩ i else 0) else 0) : ℝ) : EReal) := by
  induction n with
  | zero =>
    refine (dsink_accFirst m c ⟨0, hn⟩ rfl _).trans ?_
    rw [zero_add]
    refine (lanes_eq m c hx ⟨0, hn⟩ h 16 _).trans ?_
    rw [Finset.sum_range_one, dif_pos (show 0 < 32 by decide)]
  | succ n ih =>
    refine (dsink_accLater m c ⟨n + 1, hn⟩ (Nat.succ_le_succ (Nat.zero_le n)) (accAt m c n (Nat.lt_of_succ_lt hn)) _).trans ?_
    rw [ih (Nat.lt_of_succ_lt hn)]
    refine (congrArg (fun y => _ + y) (lanes_eq m c hx ⟨n + 1, hn⟩ h 16 _)).trans ?_
    rw [← EReal.coe_add, Finset.sum_range_succ _ (n + 1), dif_pos (show n + 1 < 32 from hn)]

/-- The queries' gradient. -/
theorem dq_array (r : Fin 4096) (q : Fin 1024) : (dats m 0 c).arrAt 7 cfg0.N (ix2 r q) = ((x.dq r q : ℝ) : EReal) := by
  have e : (dats m 0 c).arrAt 7 cfg0.N = fun i : S4096x1024.Idx => (((x.dq (i 0) (i 1) : ℝ) : EReal) : Ideal .bf16) := by
    refine (dats m 0 c).arrAt_eq_of_covers 7 _ (by decide +kernel) fun t hf y => ?_
    blk_simp
    rw [after0_7]
    have h0 : ((win0_7.blk t).view.emb y 0).val = t.val * 128 + (y 0).val := by blk_simp [idx t]
    have h1 : ((win0_7.blk t).view.emb y 1).val = (y 1).val := by blk_simp [idx t]
    have hq : (win0_7.blk t).view.emb y 1 = y 1 := Fin.ext h1
    rw [hq]
    generalize hP : (win0_7.blk t).view.emb y 0 = P at h0
    have ht : t.val < 32 := t.isLt
    have hy0 : (y 0).val < 128 := (y 0).isLt
    refine (congrArg _ (ix2_eta y).symm).trans ((dqAt_apply m c t (y 0) (y 1)).trans ?_)
    refine ((holds t hx _).dq _ _ _).trans ?_
    unfold Args.dq
    congr 2
    · congr 1
      · exact Fin.ext (by change t.val = P.val / 128; omega)
    · exact Fin.ext (by change (y 0).val = P.val % 128; omega)
  exact congrFun e _

def tlast : Fin cfg0.N := ⟨31, by decide⟩

theorem dk_array (r : Fin 4096) (q : Fin 256) : (dats m 0 c).arrAt 8 cfg0.N (ix2 r q) = ((x.dk r q : ℝ) : EReal) := by
  have e : (dats m 0 c).arrAt 8 cfg0.N = fun i : S4096x256.Idx => (((x.dk (i 0) (i 1) : ℝ) : EReal) : Ideal .f32) := by
    refine (dats m 0 c).arrAt_eq_of_after_last 8 tlast (by decide +kernel) _ fun j => ?_
    blk_simp
    rw [after0_8]
    refine (congrArg _ (ix2_eta j).symm).trans ((dk_acc m c hx (j 0) (j 1) 31 tlast.isLt).trans ?_)
    have hj : (j 0).val < 4096 := (j 0).isLt
    unfold Args.dk
    rw [if_pos (by omega)]
    by_cases hlt : (j 0).val / 128 + 1 < 32
    · rw [if_pos (by omega)]
    · rw [if_neg (by omega), dif_neg hlt]
  exact congrFun e _

theorem dv_array (r : Fin 4096) (q : Fin 256) : (dats m 0 c).arrAt 9 cfg0.N (ix2 r q) = ((x.dv r q : ℝ) : EReal) := by
  have e : (dats m 0 c).arrAt 9 cfg0.N = fun i : S4096x256.Idx => (((x.dv (i 0) (i 1) : ℝ) : EReal) : Ideal .f32) := by
    refine (dats m 0 c).arrAt_eq_of_after_last 9 tlast (by decide +kernel) _ fun j => ?_
    blk_simp
    rw [after0_9]
    refine (congrArg _ (ix2_eta j).symm).trans ((dv_acc m c hx (j 0) (j 1) 31 tlast.isLt).trans ?_)
    have hj : (j 0).val < 4096 := (j 0).isLt
    unfold Args.dv
    rw [if_pos (by omega)]
    by_cases hlt : (j 0).val / 128 + 1 < 32
    · rw [if_pos (by omega)]
    · rw [if_neg (by omega), dif_neg hlt]
  exact congrFun e _

theorem dsink_array (h : Fin 128) : (dats m 0 c).arrAt 10 cfg0.N (ix2 0 h) = ((x.dsink h : ℝ) : EReal) := by
  have e : (dats m 0 c).arrAt 10 cfg0.N = fun i : S1x128.Idx => (((x.dsink (i 1) : ℝ) : EReal) : Ideal .f32) := by
    refine (dats m 0 c).arrAt_eq_of_after_last 10 tlast (by decide +kernel) _ fun j => ?_
    blk_simp
    rw [after0_10]
    have hj : j = ix2 0 (j 1) := (ix2_eta j).symm.trans (congrArg (fun z => ix2 z (j 1)) (Subsingleton.elim (α := Fin 1) _ _))
    refine (congrArg _ hj).trans ((dsink_acc m c hx (j 1) 31 tlast.isLt).trans ?_)
    unfold Args.dsink
    congr 1
    rw [Finset.sum_range]
    by_cases hh : (j 1).val < 16
    · rw [dif_pos hh]
      refine Finset.sum_congr rfl fun k _ => ?_
      rw [dif_pos k.isLt, dif_pos hh]
    · rw [dif_neg hh]
      refine Finset.sum_eq_zero fun k _ => ?_
      rw [dif_pos k.isLt, dif_neg hh]
  exact congrFun e _

end Cert.Calls.Swa

end
-- ==== Proof.SwaRef.lean ====
module

public import proofs.«01_k».proof.Proof.SwaArgs
public import proofs.«01_k».proof.Proof.Gen.SwaRefIdeal.Run
public import Idealize.ShloMosaic.Lib.Pointwise

@[expose] public section

set_option maxRecDepth 16384

noncomputable section

/-! What the reference's forward lines hold: scores, probabilities, and the gradient of a row of scores. -/

namespace Cert.Calls.Swa.Ref

open Cert.SwaRefIdeal Cert.SwaRefIdeal.Value Cert.NormRow
open Idealize.ShloMosaic Idealize.ShloMosaic.TcCoe Idealize.ShloMosaic.Tactic

/-- The reference's group: the first block has no keys before it, so zeros stand in their place. -/
def grp (x : Args) (n : Fin 32) (hk : Fin 4) : RG :=
  { x.grp n hk with
    k := fun j d => if n.val = 0 ∧ j.val < 128 then 0 else (x.grp n hk).k j d
    v := fun j d => if n.val = 0 ∧ j.val < 128 then 0 else (x.grp n hk).v j d }

theorem not_pad (n : Fin 32) (i : Fin 128) (j : Fin 256) (h : sees n.val i j = true) : ¬ (n.val = 0 ∧ j.val < 128) := by
  unfold sees at h
  have := of_decide_eq_true h
  omega

theorem agree (x : Args) (n : Fin 32) (hk : Fin 4) : (grp x n hk).Agree (x.grp n hk) where
  q := rfl
  d := rfl
  s := rfl
  sl := rfl
  n := rfl
  k i j h := by funext d; exact if_neg (not_pad n i j h)
  v i j h := by funext d; exact if_neg (not_pad n i j h)

variable (V0 : Valuation τ sig (Elt Ideal)) {x : Args}
variable (hx : x.Are (V0 (Proc.devRef .tc main_arg0)) (V0 (Proc.devRef .tc main_arg1)) (V0 (Proc.devRef .tc main_arg2)))
variable (n : Fin 32) (i : Fin 128) (j : Fin 256) (hk a : Fin 4) (d : Fin 64)

theorem seen_eq : res_main_v70_1 V0 (ix5 hk a n i j) = BitVec.ofBool (sees n.val i j) := by
  refine Eq.trans ?_ (sees_word n.val n.isLt i j)
  unfold res_main_v70_1 res_main_v30 res_main_v25 distWord
  pointwise
  have e : IntOp.addi (BitVec.ofNat 32 i.val) 128#32 = BitVec.ofNat 32 (i.val + 128) := by
    show BitVec.ofNat 32 i.val + BitVec.ofNat 32 128 = _
    rw [← BitVec.ofNat_add]
  rw [e]

theorem dist_eq : res_main_v30 V0 (ix2 i j) = distWord i j := by
  unfold res_main_v30 res_main_v25 distWord
  pointwise
  have e : IntOp.addi (BitVec.ofNat 32 i.val) 128#32 = BitVec.ofNat 32 (i.val + 128) := by
    show BitVec.ofNat 32 i.val + BitVec.ofNat 32 128 = _
    rw [← BitVec.ofNat_add]
  rw [e]

/-- The slope written as a power. -/
theorem slope_pow : Ideal.pow (Ideal.ofBits .f32 0x40000000#32)
    (Ideal.div (Ideal.ofBits .f32 0xC1000000#32 * (1 + (FloatOps.sitofp (F := Ideal) FTy.f32 (BitVec.ofNat 32 (hk.val * 4 + a.val)) : Ideal .f32))) (Ideal.ofBits .f32 0x41800000#32)) =
    ((slope (head hk a) : ℝ) : EReal) := by
  have w2 : Ideal.ofBits .f32 0x40000000#32 = ((2 : ℝ) : EReal) := by
    simp [Ideal.ofBits, Ideal.ieee]; rw [← EReal.coe_mul]; norm_num
  have w8 : Ideal.ofBits .f32 0xC1000000#32 = ((-8 : ℝ) : EReal) := by
    simp [Ideal.ofBits, Ideal.ieee]; rw [← EReal.coe_mul]; norm_num
  have w16 : Ideal.ofBits .f32 0x41800000#32 = ((16 : ℝ) : EReal) := by
    simp [Ideal.ofBits, Ideal.ieee]; rw [← EReal.coe_mul]; norm_num
  have hw : (FloatOps.sitofp (F := Ideal) FTy.f32 (BitVec.ofNat 32 (hk.val * 4 + a.val)) : Ideal .f32) = (((hk.val * 4 + a.val : ℕ) : ℝ) : EReal) := by
    show (((BitVec.ofNat 32 (hk.val * 4 + a.val)).toInt : ℝ) : EReal) = _
    rw [WordArith.toInt_ofNat_small _ (by omega)]; push_cast; rfl
  rw [w2, w8, w16, hw, ← EReal.coe_one, ← EReal.coe_add, ← EReal.coe_mul, div_coe _ _ (by norm_num)]
  show ((Real.rpow 2 (-8 * (1 + ((hk.val * 4 + a.val : ℕ) : ℝ)) / 16) : ℝ) : EReal) = _
  congr 1
  unfold slope
  rw [Real.sqrt_eq_rpow, ← Real.rpow_natCast, ← Real.rpow_mul (by norm_num), ← Real.rpow_neg (by norm_num)]
  refine congrArg (Real.rpow 2) ?_
  push_cast
  ring

/-- The largest score of a row. -/
abbrev top (R : RG) (a : Fin 4) (i : Fin 128) : EReal := Finset.fold max ⊥ (fun j => Row.L (sees R.n i) (R.lg a i) j) Finset.univ

/-- The shift of a row: the larger of the largest score and the sink's. -/
def shift (R : RG) (a : Fin 4) (i : Fin 128) : ℝ := (Row.top_real (sees R.n i) (R.lg a i) (R.s a)).choose

theorem shift_spec (R : RG) (a : Fin 4) (i : Fin 128) : max (top R a i) (R.s a : EReal) = ((shift R a i : ℝ) : EReal) :=
  (Row.top_real (sees R.n i) (R.lg a i) (R.s a)).choose_spec

include hx

theorem q_eq : res_main_v1 V0 (ix5 n i hk a d) = (((grp x n hk).q a i d : ℝ) : EReal) := by
  refine Eq.trans ?_ (hx.P (blockRow n i) ⟨64 * (head hk a).val + d.val, by omega⟩)
  unfold res_main_v1
  generalize V0 (Proc.devRef .tc main_arg0) = y
  pointwise
  congr 2 <;> exact Fin.ext (by dsimp only; omega)

theorem krow_eq : res_main_v3 V0 (ix4 n i hk d) = ((x.P (blockRow n i) ⟨1024 + (64 * hk.val + d.val), by omega⟩ : ℝ) : EReal) := by
  refine Eq.trans ?_ (hx.P _ _)
  unfold res_main_v3
  generalize V0 (Proc.devRef .tc main_arg0) = y
  pointwise
  congr 2 <;> exact Fin.ext (by dsimp only; omega)

theorem vrow_eq : res_main_v5 V0 (ix4 n i hk d) = ((x.P (blockRow n i) ⟨1280 + (64 * hk.val + d.val), by omega⟩ : ℝ) : EReal) := by
  refine Eq.trans ?_ (hx.P _ _)
  unfold res_main_v5
  generalize V0 (Proc.devRef .tc main_arg0) = y
  pointwise
  congr 2 <;> exact Fin.ext (by dsimp only; omega)

theorem k_eq : res_main_v11 V0 (ix4 n j hk d) = (((grp x n hk).k j d : ℝ) : EReal) := by
  have h := fun n i => krow_eq V0 hx n i hk d
  unfold res_main_v11
  generalize res_main_v3 V0 = y at *
  pointwise
  have e : (grp x n hk).k j d = if n.val = 0 ∧ j.val < 128 then 0 else x.P (keyRow n j) ⟨1024 + (64 * hk.val + d.val), by omega⟩ := rfl
  rw [e]
  unfold keyRow
  by_cases hj : j.val < 128
  · refine (dif_pos hj).trans ?_
    by_cases hn : n.val < 1
    · refine (dif_pos hn).trans ?_
      rw [if_pos (show n.val = 0 ∧ j.val < 128 by omega)]; rfl
    · refine (dif_neg hn).trans ((h ⟨n.val - 1, by omega⟩ ⟨j.val, hj⟩).trans ?_)
      rw [if_neg (show ¬ (n.val = 0 ∧ j.val < 128) by omega), if_pos hj]
      congr 2; exact Fin.ext (by dsimp only; omega)
  · refine (dif_neg hj).trans ((h n ⟨j.val - 128, by omega⟩).trans ?_)
    rw [if_neg (show ¬ (n.val = 0 ∧ j.val < 128) by omega), if_neg hj]
    congr 2; exact Fin.ext (by dsimp only; omega)

theorem v_eq : res_main_v17 V0 (ix4 n j hk d) = (((grp x n hk).v j d : ℝ) : EReal) := by
  have h := fun n i => vrow_eq V0 hx n i hk d
  unfold res_main_v17
  generalize res_main_v5 V0 = y at *
  pointwise
  have e : (grp x n hk).v j d = if n.val = 0 ∧ j.val < 128 then 0 else x.P (keyRow n j) ⟨1280 + (64 * hk.val + d.val), by omega⟩ := rfl
  rw [e]
  unfold keyRow
  by_cases hj : j.val < 128
  · refine (dif_pos hj).trans ?_
    by_cases hn : n.val < 1
    · refine (dif_pos hn).trans ?_
      rw [if_pos (show n.val = 0 ∧ j.val < 128 by omega)]; rfl
    · refine (dif_neg hn).trans ((h ⟨n.val - 1, by omega⟩ ⟨j.val, hj⟩).trans ?_)
      rw [if_neg (show ¬ (n.val = 0 ∧ j.val < 128) by omega), if_pos hj]
      congr 2; exact Fin.ext (by dsimp only; omega)
  · refine (dif_neg hj).trans ((h n ⟨j.val - 128, by omega⟩).trans ?_)
    rw [if_neg (show ¬ (n.val = 0 ∧ j.val < 128) by omega), if_neg hj]
    congr 2; exact Fin.ext (by dsimp only; omega)

theorem score_eq : res_main_v70_0 V0 (ix5 hk a n i j) = Row.L (sees n.val i) ((grp x n hk).lg a i) j := by
  have h1 := fun d => k_eq V0 hx n j hk d
  have h2 := fun d => q_eq V0 hx n i hk a d
  have h3 := seen_eq V0 n i j hk a
  have h4 := dist_eq V0 i j
  unfold res_main_v70_0
  generalize res_main_v11 V0 = y1 at *
  generalize res_main_v1 V0 = y2 at *
  generalize res_main_v70_1 V0 = y3 at *
  generalize res_main_v30 V0 = y4 at *
  pointwise
  have h6 : (FloatOps.sitofp (F := Ideal) FTy.f32 (distWord i j) : Ideal .f32) = (((i.val : ℝ) + 128 - j.val : ℝ) : EReal) := by
    show (((distWord i j).toInt : ℝ) : EReal) = _
    rw [distWord_toInt]; push_cast; rfl
  rw [h3, h4, slope_pow, h6, word_eighth, Finset.sum_congr rfl fun d _ => by rw [h1, h2, ← EReal.coe_mul], ← coe_sum, ← EReal.coe_mul, ← EReal.coe_mul, ← EReal.coe_sub]
  unfold Row.L RG.lg
  cases hs : sees n.val i j
  · exact word_bot
  · show ((_ : ℝ) : EReal) = ((_ : ℝ) : EReal)
    refine congrArg _ (congrArg₂ _ (congrArg₂ _ (Finset.sum_congr rfl fun d _ => mul_comm _ _) rfl) rfl)

theorem sink_eq (u v w : Fin 1) : res_main_v71 V0 (ix5 hk a u v w) = (((grp x n hk).s a : ℝ) : EReal) := by
  refine Eq.trans ?_ (hx.S (head hk a))
  unfold res_main_v71
  generalize V0 (Proc.devRef .tc main_arg1) = y
  pointwise
  congr 2; exact Fin.ext (by dsimp only; omega)

theorem top_eq : res_main_v72 V0 (ix4 hk a n i) = top (grp x n hk) a i := by
  have h := fun j => score_eq V0 hx n i j hk a
  unfold res_main_v72
  generalize res_main_v70_0 V0 = y at *
  pointwise
  refine (Shape.ReducesTo.fold_fiber_r5_a4 _ (ix4 hk a n i) (max : EReal → EReal → EReal) _ _).trans ?_
  rw [word_bot]
  exact Finset.fold_congr fun j _ => h j

theorem top_eq' (u : Fin 1) : res_main_v78 V0 (ix5 hk a n i u) = top (grp x n hk) a i := by
  have h := top_eq V0 hx n i hk a
  unfold res_main_v78
  generalize res_main_v72 V0 = y at *
  pointwise
  exact h

omit hx in
theorem bc_eq (z : FVec Ideal S4x4x1x1x1 .f32) (u : Fin 1) : broadcastInDim S4x4x32x128x1 ![0, 1, 2, 3, 4] Gen.bcast_S4x4x1x1x1_S4x4x32x128x1_0_1_2_3_4 z (ix5 hk a n i u) = z (ix5 hk a 0 0 0) := by
  pointwise
omit hx in
theorem mx_eq (y z : FVec Ideal S4x4x32x128x1 .f32) (u : Fin 1) : maximumf y z (ix5 hk a n i u) = (max (y (ix5 hk a n i u)) (z (ix5 hk a n i u)) : EReal) := rfl

theorem shift_eq (u : Fin 1) : res_main_v80 V0 (ix5 hk a n i u) = ((shift (grp x n hk) a i : ℝ) : EReal) := by
  have h1 := top_eq' V0 hx n i hk a u
  have h2 := sink_eq V0 hx n hk a 0 0 0
  have h3 := shift_spec (grp x n hk) a i
  unfold res_main_v80
  generalize res_main_v78 V0 = y at *
  generalize res_main_v71 V0 = z at *
  refine (mx_eq n i hk a _ _ u).trans ?_
  rw [bc_eq]
  refine Eq.trans ?_ h3
  exact congrArg₂ (max : EReal → EReal → EReal) h1 h2

end Cert.Calls.Swa.Ref

end
-- ==== Proof.SwaRefB.lean ====
module

public import proofs.«01_k».proof.Proof.SwaRef
public import proofs.«01_k».proof.Proof.Gen.SwaRefIdeal.Run
public import Idealize.ShloMosaic.Lib.Pointwise

@[expose] public section

set_option maxRecDepth 16384

noncomputable section

/-! The reference's probabilities and the gradients of a row of scores. -/

namespace Cert.Calls.Swa.Ref

open Cert.SwaRefIdeal Cert.SwaRefIdeal.Value Cert.NormRow
open Idealize.ShloMosaic Idealize.ShloMosaic.TcCoe Idealize.ShloMosaic.Tactic

variable (V0 : Valuation τ sig (Elt Ideal)) {x : Args}
variable (hx : x.Are (V0 (Proc.devRef .tc main_arg0)) (V0 (Proc.devRef .tc main_arg1)) (V0 (Proc.devRef .tc main_arg2)))
variable (n : Fin 32) (i : Fin 128) (j : Fin 256) (hk a : Fin 4) (d : Fin 64)

theorem sum_of {N : ℕ} (f : Fin N → EReal) (r : Fin N → ℝ) (h : ∀ j, f j = ((r j : ℝ) : EReal)) : ∑ j, f j = ((∑ j, r j : ℝ) : EReal) := by
  rw [coe_sum]; exact Finset.sum_congr rfl fun j _ => h j

include hx

theorem e_eq : res_main_v101 V0 (ix5 hk a n i j) =
    ((Row.w (sees n.val i) ((grp x n hk).lg a i) j * Real.exp (-shift (grp x n hk) a i) : ℝ) : EReal) := by
  have h1 := score_eq V0 hx n i j hk a
  have h2 := shift_eq V0 hx n i hk a 0
  have h3 := Row.e_coe (sees n.val i) ((grp x n hk).lg a i) (shift (grp x n hk) a i) j
  unfold res_main_v101
  generalize res_main_v70_0 V0 = y at *
  generalize res_main_v80 V0 = z at *
  pointwise
  rw [h1, h2]
  exact h3

theorem esink_eq (u : Fin 1) : res_main_v106 V0 (ix5 hk a n i u) =
    ((Real.exp ((grp x n hk).s a) * Real.exp (-shift (grp x n hk) a i) : ℝ) : EReal) := by
  have h1 := sink_eq V0 hx n hk a 0 0 0
  have h2 := shift_eq V0 hx n i hk a u
  have h3 := Row.esink_coe ((grp x n hk).s a) (shift (grp x n hk) a i)
  unfold res_main_v106
  generalize res_main_v71 V0 = y at *
  generalize res_main_v80 V0 = z at *
  refine (show _ = Ideal.exp ((broadcastInDim S4x4x32x128x1 ![0, 1, 2, 3, 4] Gen.bcast_S4x4x1x1x1_S4x4x32x128x1_0_1_2_3_4 y (ix5 hk a n i u) : EReal) - z (ix5 hk a n i u)) from rfl).trans ?_
  rw [bc_eq, h2]
  exact (congrArg (fun t : EReal => Ideal.exp (t - _)) h1).trans h3

/-- The sum of a row's exponentials and the sink's. -/
abbrev Z (R : RG) (a : Fin 4) (i : Fin 128) : ℝ := Row.W (sees R.n i) (R.lg a i) (R.s a) * Real.exp (-shift R a i)

theorem Z_eq (u : Fin 1) : res_main_v107 V0 (ix5 hk a n i u) = ((Z (grp x n hk) a i : ℝ) : EReal) := by
  have h1 := fun j => e_eq V0 hx n i j hk a
  have h2 := esink_eq V0 hx n i hk a u
  have h3 := Row.sum_coe (sees n.val i) ((grp x n hk).lg a i) ((grp x n hk).s a) (shift (grp x n hk) a i)
  rw [Row.esink_coe, Finset.sum_congr rfl fun j _ => Row.e_coe _ _ _ j] at h3
  unfold res_main_v107
  generalize res_main_v101 V0 = y at *
  generalize res_main_v106 V0 = z at *
  pointwise
  rw [h2]
  exact (congrArg (fun t : EReal => t + _) (Finset.sum_congr rfl fun j _ => h1 j)).trans h3

theorem p_eq : res_main_v109 V0 (ix5 hk a n i j) = (((grp x n hk).p a i j : ℝ) : EReal) := by
  have h1 := e_eq V0 hx n i j hk a
  have h2 := Z_eq V0 hx n i hk a 0
  have h3 := Row.p_div (sees n.val i) ((grp x n hk).lg a i) ((grp x n hk).s a) (shift (grp x n hk) a i) j
  unfold res_main_v109
  generalize res_main_v101 V0 = y at *
  generalize res_main_v107 V0 = z at *
  pointwise
  rw [h1, h2]
  exact h3

theorem d_eq : res_main_v118 V0 (ix5 n hk d a i) = (((grp x n hk).d a i d : ℝ) : EReal) := by
  refine Eq.trans ?_ (hx.G (blockRow n i) ⟨64 * (head hk a).val + d.val, by omega⟩)
  unfold res_main_v118
  generalize V0 (Proc.devRef .tc main_arg2) = y
  pointwise
  congr 2 <;> exact Fin.ext (by dsimp only; omega)

theorem dp_eq : res_main_v120 V0 (ix5 hk a n i j) = (((grp x n hk).dp a i j : ℝ) : EReal) := by
  have h1 := fun d => d_eq V0 hx n i hk a d
  have h2 := fun d => v_eq V0 hx n j hk d
  unfold res_main_v120
  generalize res_main_v118 V0 = y at *
  generalize res_main_v17 V0 = z at *
  pointwise
  rw [Finset.sum_congr rfl fun d _ => by rw [h1, h2, ← EReal.coe_mul], ← coe_sum]
  rfl

theorem dv_eq : res_main_v122 V0 (ix4 n j hk d) = (((grp x n hk).dv j d : ℝ) : EReal) := by
  have h1 := fun a i => d_eq V0 hx n i hk a d
  have h2 := fun a i => p_eq V0 hx n i j hk a
  unfold res_main_v122
  generalize res_main_v118 V0 = y at *
  generalize res_main_v109 V0 = z at *
  pointwise
  unfold RG.dv
  refine sum_of _ _ fun a => sum_of _ _ fun i => ?_
  rw [h1, h2, ← EReal.coe_mul, mul_comm]

/-- The reference's mean of the incoming gradient over the sum. -/
abbrev mean (R : RG) (a : Fin 4) (i : Fin 128) : ℝ := Row.ref128 (sees R.n i) (R.lg a i) (R.s a) (R.dp a i) (shift R a i)

theorem mean_eq (u : Fin 1) : res_main_v128 V0 (ix5 hk a n i u) = ((mean (grp x n hk) a i : ℝ) : EReal) := by
  have h1 := fun j => dp_eq V0 hx n i j hk a
  have h2 := Z_eq V0 hx n i hk a 0
  have h3 := fun j => e_eq V0 hx n i j hk a
  have hZ : Z (grp x n hk) a i * Z (grp x n hk) a i ≠ 0 := mul_ne_zero (Row.Z_ne _ _ _ _) (Row.Z_ne _ _ _ _)
  unfold res_main_v128
  generalize res_main_v120 V0 = y at *
  generalize res_main_v107 V0 = z at *
  generalize res_main_v101 V0 = w at *
  pointwise
  rw [h2, Finset.sum_congr rfl fun j _ => by rw [h1, h3, ← EReal.coe_mul, ← EReal.coe_one, div_coe _ _ hZ, ← EReal.coe_mul, ← EReal.coe_mul], ← coe_sum, ← EReal.coe_neg]
  rfl

theorem dsink_eq (u : Fin 1) : res_main_v131 V0 (ix5 hk a n i u) = (((grp x n hk).dsink a i : ℝ) : EReal) := by
  have h1 := mean_eq V0 hx n i hk a u
  have h2 := esink_eq V0 hx n i hk a u
  have h3 := Row.ref131_eq (sees n.val i) ((grp x n hk).lg a i) ((grp x n hk).s a) ((grp x n hk).dp a i) (shift (grp x n hk) a i)
  unfold res_main_v131
  generalize res_main_v128 V0 = y at *
  generalize res_main_v106 V0 = z at *
  pointwise
  rw [h1, h2, ← EReal.coe_mul]
  exact congrArg _ h3

/-- The gradient of a row's scores. -/
abbrev dl (R : RG) (a : Fin 4) (i : Fin 128) (j : Fin 256) : ℝ := Row.ds (sees R.n i) (R.lg a i) (R.s a) (R.dp a i) j

theorem dl_eq : res_main_v138 V0 (ix5 hk a n i j) = ((dl (grp x n hk) a i j : ℝ) : EReal) := by
  have h1 := dp_eq V0 hx n i j hk a
  have h2 := Z_eq V0 hx n i hk a 0
  have h3 := e_eq V0 hx n i j hk a
  have h4 := fun u => mean_eq V0 hx n i hk a u
  have h5 := Row.ref138_eq (sees n.val i) ((grp x n hk).lg a i) ((grp x n hk).s a) ((grp x n hk).dp a i) (shift (grp x n hk) a i) j
  have hZ : Z (grp x n hk) a i ≠ 0 := Row.Z_ne _ _ _ _
  unfold res_main_v138
  generalize res_main_v120 V0 = y at *
  generalize res_main_v107 V0 = z at *
  generalize res_main_v101 V0 = w at *
  generalize res_main_v128 V0 = v at *
  pointwise
  rw [h1, h2, h3, div_coe _ _ hZ]
  have s1 : (Finset.sum (M := EReal) Finset.univ fun u : Fin 1 => v (ix5 hk a n i u)) = ((mean (grp x n hk) a i : ℝ) : EReal) := (Fin.sum_univ_one (M := EReal) fun u => v (ix5 hk a n i u)).trans (h4 0)
  rw [s1, ← EReal.coe_add, ← EReal.coe_mul]
  exact congrArg _ h5

theorem none_eq (u : Fin 1) : res_main_v142 V0 (ix5 hk a n i u) = (0 : EReal) := by
  have h1 := fun j => dl_eq V0 hx n i j hk a
  have h2 := dsink_eq V0 hx n i hk a u
  have h3 := Row.ref142_eq (sees n.val i) ((grp x n hk).lg a i) ((grp x n hk).s a) ((grp x n hk).dp a i)
  unfold res_main_v142
  generalize res_main_v138 V0 = y at *
  generalize res_main_v131 V0 = z at *
  pointwise
  rw [h2, Finset.sum_congr rfl fun j _ => by rw [h1 j, ← EReal.coe_neg], ← coe_sum, ← EReal.coe_neg, ← EReal.coe_add]
  exact congrArg Real.toEReal h3

end Cert.Calls.Swa.Ref

end
-- ==== Proof.SwaRefC.lean ====
module

public import proofs.«01_k».proof.Proof.SwaRefB
public import proofs.«01_k».proof.Proof.Gen.SwaRefIdeal.Run
public import Idealize.ShloMosaic.Lib.Pointwise

@[expose] public section

set_option maxRecDepth 16384

noncomputable section

/-! The reference's gradients of one group over one block. -/

namespace Cert.Calls.Swa.Ref

open Cert.SwaRefIdeal Cert.SwaRefIdeal.Value Cert.NormRow
open Idealize.ShloMosaic Idealize.ShloMosaic.TcCoe Idealize.ShloMosaic.Tactic

variable (V0 : Valuation τ sig (Elt Ideal)) {x : Args}
variable (hx : x.Are (V0 (Proc.devRef .tc main_arg0)) (V0 (Proc.devRef .tc main_arg1)) (V0 (Proc.devRef .tc main_arg2)))
variable (n : Fin 32) (i : Fin 128) (j : Fin 256) (hk a : Fin 4) (d : Fin 64)

theorem slice_dk (r : Fin 4096) (q : Fin 256) (f : FVec Ideal S4096x1536 .f32) : extractStridedSlice S4096x256 ![0, 1024] f Gen.slices_S4096x1536_S4096x256_0_1024 (ix2 r q) = f (ix2 r ⟨1024 + q.val, by omega⟩) := by
  pointwise

/-- What flows back to the row's largest score adds nothing to a product's gradient. -/
theorem ds_point (y1 : IVec S4x4x32x128x256 1) (y2 : FVec Ideal S4x4x32x128x256 .f32) (y3 w : FVec Ideal S4x4x32x128x1 .f32)
    (y4 : FVec Ideal S4x4x32x128x256 .f32) (h3 : ∀ u : Fin 1, y3 (ix5 hk a n i u) = (0 : EReal)) {c : ℝ} (hc : c ≠ 0)
    (h5 : (Finset.sum (M := EReal) Finset.univ fun j => y4 (ix5 hk a n i j)) = (c : EReal)) (r : ℝ) (h4 : y4 (ix5 hk a n i j) = (r : EReal)) :
    transpose S4x32x256x128x4 [0, 2, 4, 3, 1] (mulf (select y1 (addf y2 (mulf (broadcastInDim S4x4x32x128x256 ![0, 1, 2, 3] Gen.bcast_S4x4x32x128_S4x4x32x128x256_0_1_2_3
      (Host.divf (Host.reduceAdd (mulf y3 w) (constant S_ .f32 0x00000000#32) Gen.reducesTo_S4x4x32x128x1_S4x4x32x128_d4 Gen.h_S_)
        (Host.reduceAdd y4 (constant S_ .f32 0x00000000#32) Gen.reducesTo_S4x4x32x128x256_S4x4x32x128_d4 Gen.h_S_))) y4))
      (broadcastInDim S4x4x32x128x256 ![] Gen.bcast_S_S4x4x32x128x256 (constant S_ .f32 0x00000000#32)))
      (broadcastInDim S4x4x32x128x256 ![] Gen.bcast_S_S4x4x32x128x256 (constant S_ .f32 0x3E000000#32))) Gen.transposes_S4x4x32x128x256_S4x32x256x128x4_0_2_4_3_1 (ix5 hk n j i a) =
    Scalar.select (y1 (ix5 hk a n i j)) ((y2 (ix5 hk a n i j) : EReal) * Ideal.ofBits .f32 0x3E000000#32) 0 := by
  pointwise
  simp only [h3, zero_mul, Finset.sum_const_zero]
  rw [h5, ← EReal.coe_zero, div_coe _ _ hc, zero_div, h4, ← EReal.coe_mul, zero_mul, EReal.coe_zero, add_zero]

include hx

theorem tie_eq : res_main_v76 V0 (ix5 hk a n i j) = (((if Row.L (sees n.val i) ((grp x n hk).lg a i) j = top (grp x n hk) a i then 1 else 0 : ℝ)) : EReal) := by
  have h1 := score_eq V0 hx n i j hk a
  have h2 := top_eq V0 hx n i hk a
  unfold res_main_v76
  generalize res_main_v70_0 V0 = y at *
  generalize res_main_v72 V0 = z at *
  pointwise
  rw [h1, h2]
  have hb : ∀ b : Bool, (FloatOps.uitofp (F := Ideal) FTy.f32 (BitVec.ofBool b) : Ideal .f32) = (((if b = true then 1 else 0 : ℝ)) : EReal) := fun b => by
    show (((BitVec.ofBool b).toNat : ℝ) : EReal) = _
    cases b <;> simp
  rw [hb]
  simp only [decide_eq_true_eq]

theorem ties_eq : ∃ c : ℝ, c ≠ 0 ∧ (Finset.sum (M := EReal) Finset.univ fun j => res_main_v76 V0 (ix5 hk a n i j)) = (c : EReal) := by
  have h1 := fun j => tie_eq V0 hx n i j hk a
  refine ⟨_, ?_, sum_of _ _ h1⟩
  obtain ⟨j, hj⟩ := Row.top_mem (sees n.val i) ((grp x n hk).lg a i)
  refine ne_of_gt (Finset.sum_pos' (fun j _ => ?_) ⟨j, Finset.mem_univ _, ?_⟩)
  · split <;> norm_num
  · rw [if_pos (show _ = top (grp x n hk) a i from hj)]; norm_num

theorem ds_eq : res_main_v157 V0 (ix5 hk n j i a) = (((grp x n hk).ds a i j : ℝ) : EReal) := by
  have h1 := seen_eq V0 n i j hk a
  have h2 := dl_eq V0 hx n i j hk a
  have h3 := fun u => none_eq V0 hx n i hk a u
  have h4 := tie_eq V0 hx n i j hk a
  obtain ⟨c, hc, h5⟩ := ties_eq V0 hx n i hk a
  unfold res_main_v157
  refine (ds_point n i j hk a _ _ _ _ _ h3 hc h5 _ h4).trans ?_
  rw [h1, h2, word_eighth, ← EReal.coe_mul]
  cases hs : sees n.val i j
  · exact (congrArg Real.toEReal ((grp x n hk).ds_unseen a i j hs)).symm
  · rfl

theorem dk_eq : res_main_v161 V0 (ix4 n j hk d) = (((grp x n hk).dk j d : ℝ) : EReal) := by
  have h1 := fun a i => ds_eq V0 hx n i j hk a
  have h2 := fun a i => q_eq V0 hx n i hk a d
  unfold res_main_v161
  generalize res_main_v157 V0 = y at *
  generalize res_main_v1 V0 = z at *
  pointwise
  unfold RG.dk
  rw [Finset.sum_comm]
  refine sum_of _ _ fun i => sum_of _ _ fun a => ?_
  rw [h1, h2, ← EReal.coe_mul]

end Cert.Calls.Swa.Ref

end
-- ==== Proof.SwaRefD.lean ====
module

public import proofs.«01_k».proof.Proof.SwaRefC
public import proofs.«01_k».proof.Proof.Gen.SwaRefIdeal.Run
public import Idealize.ShloMosaic.Lib.Pointwise

@[expose] public section

set_option maxRecDepth 16384

noncomputable section

/-! The reference's four results are the gradients of the argument arrays. -/

namespace Cert.Calls.Swa.Ref

open Cert.SwaRefIdeal Cert.SwaRefIdeal.Value Cert.NormRow
open Idealize.ShloMosaic Idealize.ShloMosaic.TcCoe Idealize.ShloMosaic.Tactic

/-- A key's row gets its gradient from its own block and from the next one. -/
theorem rows_back (F : FVec Ideal S32x256x4x64 .f32) (f : Fin 32 → Fin 256 → Fin 4 → Fin 64 → ℝ)
    (h : ∀ n j hk d, F (ix4 n j hk d) = ((f n j hk d : ℝ) : EReal)) (r : Fin 4096) (q : Fin 256) :
    (F (ix4 ⟨r.val / 128, by omega⟩ ⟨128 + r.val % 128, by omega⟩ ⟨q.val / 64, by omega⟩ ⟨q.val % 64, by omega⟩) : EReal) +
      (if h : r.val / 128 < 31 ∧ r.val % 128 < 128 ∧ q.val / 64 < 4 ∧ q.val % 64 < 64 then
        (F (ix4 ⟨1 + r.val / 128, by omega⟩ ⟨r.val % 128, by omega⟩ ⟨q.val / 64, by omega⟩ ⟨q.val % 64, by omega⟩) : EReal) else 0) =
    ((f ⟨r.val / 128, by omega⟩ ⟨128 + r.val % 128, by omega⟩ ⟨q.val / 64, by omega⟩ ⟨q.val % 64, by omega⟩ +
      (if h : r.val / 128 + 1 < 32 then f ⟨r.val / 128 + 1, h⟩ ⟨r.val % 128, by omega⟩ ⟨q.val / 64, by omega⟩ ⟨q.val % 64, by omega⟩ else 0) : ℝ) : EReal) := by
  rw [EReal.coe_add, h]
  refine congrArg _ ?_
  by_cases hr : r.val / 128 + 1 < 32
  · rw [dif_pos ⟨by omega, by omega, by omega, by omega⟩, dif_pos hr, h]
    congr 3
    omega
  · rw [dif_neg (by omega), dif_neg hr]
    rfl

variable (V0 : Valuation τ sig (Elt Ideal)) {x : Args}
variable (hx : x.Are (V0 (Proc.devRef .tc main_arg0)) (V0 (Proc.devRef .tc main_arg1)) (V0 (Proc.devRef .tc main_arg2)))

include hx in
/-- The last columns hold the gradient of the values. -/
theorem dv_col (r : Fin 4096) (q : Fin 256) : res_main_v181 V0 (ix2 r ⟨1280 + q.val, by omega⟩) = ((x.dv r q : ℝ) : EReal) := by
  have h1 : ∀ n j hk d, res_main_v122 V0 (ix4 n j hk d) = (((x.grp n hk).dv j d : ℝ) : EReal) := fun n j hk d => by
    rw [dv_eq V0 hx n j hk d, (agree x n hk).dv]
  unfold res_main_v181 res_main_v162 res_main_v168
  generalize res_main_v122 V0 = y1 at *
  generalize res_main_v161 V0 = y2 at *
  generalize res_main_v157 V0 = y3 at *
  generalize res_main_v11 V0 = y4 at *
  pointwise
  refine (congrArg₂ (fun a b : EReal => a + b) (congrArg₂ (fun a b : EReal => a + b)
    (rows_back y1 (fun n j hk d => (x.grp n hk).dv j d) h1 r q) (dif_neg (by omega))) (dif_neg (by omega))).trans ?_
  rw [add_zero, add_zero]
  rfl

include hx in
/-- The middle columns hold the gradient of the keys. -/
theorem dk_col (r : Fin 4096) (q : Fin 256) : res_main_v181 V0 (ix2 r ⟨1024 + q.val, by omega⟩) = ((x.dk r q : ℝ) : EReal) := by
  have h1 : ∀ n j hk d, res_main_v161 V0 (ix4 n j hk d) = (((x.grp n hk).dk j d : ℝ) : EReal) := fun n j hk d => by
    rw [dk_eq V0 hx n j hk d, (agree x n hk).dk]
  unfold res_main_v181 res_main_v162 res_main_v168
  generalize res_main_v122 V0 = y1 at *
  generalize res_main_v161 V0 = y2 at *
  generalize res_main_v157 V0 = y3 at *
  generalize res_main_v11 V0 = y4 at *
  pointwise
  refine (congrArg₂ (fun a b : EReal => a + b) (dif_neg (by omega))
    (rows_back y2 (fun n j hk d => (x.grp n hk).dk j d) h1 r q)).trans ?_
  rw [zero_add]
  rfl

include hx in
/-- The first columns hold the gradient of the queries. -/
theorem dq_col (r : Fin 4096) (q : Fin 1024) : res_main_v181 V0 (ix2 r ⟨q.val, by omega⟩) = ((x.dq r q : ℝ) : EReal) := by
  have h1 := fun n i j hk a => ds_eq V0 hx n i j hk a
  have h2 := fun n j hk d => k_eq V0 hx n j hk d
  unfold res_main_v181 res_main_v162 res_main_v168
  generalize res_main_v122 V0 = y1 at *
  generalize res_main_v161 V0 = y2 at *
  generalize res_main_v157 V0 = y3 at *
  generalize res_main_v11 V0 = y4 at *
  pointwise
  refine (congrArg₂ (fun a b : EReal => a + b) (congrArg₂ (fun a b : EReal => a + b)
    (dif_neg (by omega)) (dif_neg (by simp))) (sum_of _ _ fun j =>
      (congrArg₂ (fun a b : EReal => a * b) (h1 ⟨r.val / 128, by omega⟩ ⟨r.val % 128, by omega⟩ j ⟨q.val / 256, by omega⟩ ⟨q.val / 64 % 4, by omega⟩)
        (h2 ⟨r.val / 128, by omega⟩ j ⟨q.val / 256, by omega⟩ ⟨q.val % 64, by omega⟩)).trans (EReal.coe_mul _ _).symm)).trans ?_
  rw [zero_add, zero_add]
  have e : (⟨q.val / 256, by omega⟩ : Fin 4) = ⟨q.val / 64 / 4, by omega⟩ := Fin.ext (by dsimp only; omega)
  rw [e]
  exact congrArg Real.toEReal (congrFun (congrFun (congrFun (agree x ⟨r.val / 128, by omega⟩ ⟨q.val / 64 / 4, by omega⟩).dq ⟨q.val / 64 % 4, by omega⟩) ⟨r.val % 128, by omega⟩) ⟨q.val % 64, by omega⟩)

/-- The sinks' gradients of all heads, padded to a row of lanes. -/
theorem sink_point (y1 z1 : FVec Ideal S4x4x32x128x1 .f32) (h : Fin 128) :
    concatenate S1x128 1 [⟨S1x16, (shapeCast _ (addf (shapeCast _ (Host.reduceAdd y1 (constant S_ .f32 0x00000000#32) Gen.reducesTo_S4x4x32x128x1_S4x4x1_d2_3 Gen.h_S_) Gen.shapeCasts_S4x4x1_S4x4x1x1x1) (shapeCast _ (Host.reduceAdd z1 (constant S_ .f32 0x00000000#32) Gen.reducesTo_S4x4x32x128x1_S4x4x1_d2_3 Gen.h_S_) Gen.shapeCasts_S4x4x1_S4x4x1x1x1)) Gen.shapeCasts_S4x4x1x1x1_S1x16)⟩, ⟨S1x112, (broadcastInDim S1x112 ![] Gen.bcast_S_S1x112 (constant S_ .f32 0x00000000#32))⟩] Gen.concatenates_S1x16_S1x112_S1x128_d1 (ix2 0 h) =
    if h' : h.val < 16 then (∑ n : Fin 32, ∑ i : Fin 128, y1 (ix5 ⟨h.val / 4, by omega⟩ ⟨h.val % 4, by omega⟩ n i 0) : EReal) +
      ∑ n : Fin 32, ∑ i : Fin 128, z1 (ix5 ⟨h.val / 4, by omega⟩ ⟨h.val % 4, by omega⟩ n i 0) else 0 := by
  pointwise

include hx in
theorem sink_row (z1 : FVec Ideal S4x4x32x128x1 .f32) (hz : ∀ hk a n i, z1 (ix5 hk a n i 0) = (0 : EReal)) (h : Fin 128) :
    (if h' : h.val < 16 then (∑ n : Fin 32, ∑ i : Fin 128, (show FVec Ideal S4x4x32x128x1 .f32 from res_main_v131 V0) (ix5 ⟨h.val / 4, by omega⟩ ⟨h.val % 4, by omega⟩ n i 0) : EReal) +
      ∑ n : Fin 32, ∑ i : Fin 128, z1 (ix5 ⟨h.val / 4, by omega⟩ ⟨h.val % 4, by omega⟩ n i 0) else 0) = ((x.dsink h : ℝ) : EReal) := by
  unfold Args.dsink
  split
  · rename_i h'
    refine (congrArg₂ (fun a b : EReal => a + b)
      (sum_of _ (fun n : Fin 32 => ∑ i, (x.grp n ⟨h.val / 4, by omega⟩).dsink ⟨h.val % 4, by omega⟩ i) fun n =>
        sum_of _ (fun i => (x.grp n ⟨h.val / 4, by omega⟩).dsink ⟨h.val % 4, by omega⟩ i) fun i => ?_)
      (Finset.sum_eq_zero fun n _ => Finset.sum_eq_zero fun i _ => hz _ _ _ _)).trans (add_zero _)
    refine (dsink_eq V0 hx n i ⟨h.val / 4, by omega⟩ ⟨h.val % 4, by omega⟩ 0).trans ?_
    rw [(agree x n ⟨h.val / 4, by omega⟩).dsink]
  · rfl

end Cert.Calls.Swa.Ref

end
-- ==== Proof.Swa.lean ====
module

public import proofs.«01_k».proof.Defs
public import proofs.«01_k».proof.Proof.Gen.Pre_swa_finite
public import proofs.«01_k».proof.Proof.Finite
public import proofs.«01_k».proof.Proof.SwaBits
public import proofs.«01_k».proof.Proof.SwaArr
public import proofs.«01_k».proof.Proof.SwaRefD

@[expose] public section

set_option maxRecDepth 16384

noncomputable section

/-! The attention with sinks: its frames, and the four gradients of the kernel against the reference's. -/

namespace Cert.Calls.Swa

open Idealize.ShloMosaic Idealize.ShloMosaic.TcCoe Idealize.SL.Sem

theorem frame_pi : Cert.quiescent_SwaIdeal := fun m g _ => frame m g

theorem frame_ri : Cert.quiescent_SwaRefIdeal := fun m g _ =>
  (θ_run Cert.SwaRefIdeal.defs _ _).mono
    (fun r h => ⟨fun c => (h c).2.2.2.2, sem_eq_zero_of_no_sems (by decide) r.2⟩)
    (Cert.SwaRefIdeal.Value.run (F := Ideal) m g)

/-- The eight slopes' words are named by the roots they round, the mask's by −∞. -/
theorem preserves : Cert.preserves_Swa_SwaIdeal := by
  refine ⟨?_, ?_, ?_, ?_, ?_, ?_, ?_, ?_, ?_⟩
  all_goals exact IdealRules.named_const.statement Cert.SwaIdeal.κ _ _ _ _ rfl

/-- Under the precondition the three arguments are reals. -/
theorem reals (m : (ℓ : Loc Cert.SwaIdeal.nD Cert.SwaIdeal.τ Cert.SwaIdeal.sig) → Buf (Elt Ideal) ℓ) (h : Cert.Pre_SwaIdeal_swa_finite m) (c : Dev Cert.SwaIdeal.nD) :
    ∃ x : Args, x.Are (m ((c : Thread Cert.SwaIdeal.nD Cert.SwaIdeal.τ).loc Cert.SwaIdeal.main_arg0))
      (m ((c : Thread Cert.SwaIdeal.nD Cert.SwaIdeal.τ).loc Cert.SwaIdeal.main_arg1))
      (m ((c : Thread Cert.SwaIdeal.nD Cert.SwaIdeal.τ).loc Cert.SwaIdeal.main_arg2)) := by
  have e := congrFun (h c) ix0
  unfold Cert.Pre_swa_finite.fn at e
  dsimp only at e
  obtain ⟨g0, h0⟩ := Finite.of_test (Finite.and_left (Finite.and_left e))
  obtain ⟨g1, h1⟩ := Finite.of_test (Finite.and_right (Finite.and_left e))
  obtain ⟨g2, h2⟩ := Finite.of_test (Finite.and_right e)
  exact ⟨⟨fun i j => g0 (ix2 i j), fun j => g1 (ix2 0 j), fun i j => g2 (ix2 i j)⟩,
    fun i j => congrFun h0 _, fun j => congrFun h1 _, fun i j => congrFun h2 _⟩

theorem algebraic : Cert.algebraic_SwaIdeal_SwaRefIdeal_pre_swa_finite := by
  pair_intro
  · run_from run_main m g
  · run_from Cert.SwaRefIdeal.Value.run m' g'
    all_goals
      obtain ⟨x, hx⟩ := reals m hpre c
      have hx' := hx
      rw [← (hagree c).1, ← (hagree c).2.1, ← (hagree c).2.2] at hx'
      funext i
    · obtain ⟨r, q, rfl⟩ : ∃ r q, i = ix2 (n0 := 4096) (n1 := 1024) r q := ⟨_, _, eq_ix2 i⟩
      refine Eq.trans ?_ (dq_array m c hx r q).symm
      refine Eq.trans ?_ (Ref.dq_col (StableHlo.launchContents m' c) hx' r q)
      pointwise
    · obtain ⟨r, q, rfl⟩ : ∃ r q, i = ix2 (n0 := 4096) (n1 := 256) r q := ⟨_, _, eq_ix2 i⟩
      refine Eq.trans ?_ (dk_array m c hx r q).symm
      refine Eq.trans ?_ (Ref.dk_col (StableHlo.launchContents m' c) hx' r q)
      pointwise
    · obtain ⟨r, q, rfl⟩ : ∃ r q, i = ix2 (n0 := 4096) (n1 := 256) r q := ⟨_, _, eq_ix2 i⟩
      refine Eq.trans ?_ (dv_array m c hx r q).symm
      refine Eq.trans ?_ (Ref.dv_col (StableHlo.launchContents m' c) hx' r q)
      pointwise
    · obtain ⟨u, h, rfl⟩ : ∃ u h, i = ix2 (n0 := 1) (n1 := 128) u h := ⟨_, _, eq_ix2 i⟩
      obtain rfl : u = 0 := Fin.eq_zero u
      refine Eq.trans ?_ (dsink_array m c hx h).symm
      refine (Ref.sink_point _ _ h).trans (Ref.sink_row (StableHlo.launchContents m' c) hx' _ (fun hk a n i => ?_) h)
      exact (congrArg (fun t : EReal => t * _) (Ref.none_eq (StableHlo.launchContents m' c) hx' n i hk a 0)).trans (zero_mul _)

end Cert.Calls.Swa

end
-- ==== Proof.SwaFwdHead.lean ====
module

public import proofs.«01_k».proof.Proof.SwaArr
public import proofs.«01_k».proof.Proof.Gen.SwaFwdIdeal.Value

@[expose] public section

set_option maxRecDepth 16384

noncomputable section

/-! The forward kernel's heads: a group of four heads computes its probabilities as the backward kernel's group does, and
sums its values by them. -/

namespace Cert.Calls.SwaFwd

open Cert.SwaFwdIdeal Cert.SwaFwdIdeal.Gen Cert.NormRow
open Cert.Calls.Swa (Group Holds RG hrow stripes head slopes inbHead inbGroup inbSink)
open Idealize.ShloMosaic Idealize.ShloMosaic.TcCoe Idealize.ShloMosaic.Tactic

variable {F : FTy → Type} [FloatOps F] [Named F]

/-- The rows of one head of the sums of the values. -/
def outHead (g : Group F) (i : grid0.Coords) (a : Fin 4) : FVec F S128x64 .bf16 :=
  truncf .bf16 (extractStridedSlice S128x64 ![128 * a.val, 0]
    (matmul dot_S512x256_S256x64_S512x64_1_0_0_1_n_n none (truncf .bf16 (g.p i) bitsLt_bf16_f32) g.vs (constant S512x64 .f32 0x00000000#32))
    (by revert a; decide)) bitsLt_bf16_f32

variable (m : (ℓ : Loc nD τ sig) → Buf (Elt F) ℓ)

/-- What a group of heads loads at a grid point; it has no incoming gradient. -/
def group (c : Dev nD) (t : Fin cfg0.N) (hk : Fin 4) : Group F where
  q a := View.readAt (Elt F) (ms0_1 t).view (Rect.unit (s := S128x1024) ![0, 64 * (head hk a).val] S128x64.size (inbHead _ (head hk a).isLt)).toLoadRect
    ((hs0_1 t).unread (X0_1 m c t))
  kp := View.readAt (Elt F) (ms0_2 t).view (Rect.unit (s := S128x256) ![0, 64 * hk.val] S128x64.size (inbGroup _ hk.isLt)).toLoadRect
    ((hs0_2 t).unread (iblk m c 2 t))
  kc := View.readAt (Elt F) (ms0_3 t).view (Rect.unit (s := S128x256) ![0, 64 * hk.val] S128x64.size (inbGroup _ hk.isLt)).toLoadRect
    ((hs0_3 t).unread (iblk m c 3 t))
  vp := View.readAt (Elt F) (ms0_4 t).view (Rect.unit (s := S128x256) ![0, 64 * hk.val] S128x64.size (inbGroup _ hk.isLt)).toLoadRect
    ((hs0_4 t).unread (iblk m c 4 t))
  vc := View.readAt (Elt F) (ms0_5 t).view (Rect.unit (s := S128x256) ![0, 64 * hk.val] S128x64.size (inbGroup _ hk.isLt)).toLoadRect
    ((hs0_5 t).unread (iblk m c 5 t))
  d _ := broadcast S128x64 (Scalar.ofBits .bf16 0x0000#16)
  sink a := View.readAt (Elt F) (ms0_0 t).view (Rect.unit (s := S1x16) ![0, (head hk a).val] S1x1.size (inbSink _ (head hk a).isLt)).toLoadRect
    ((hs0_0 t).unread (iblk m c 0 t)) (Shape.Idx.first (show 0 < S1x1.numel by decide))
  slope a := slopes (head hk a)

/-- One head's sums of its values. -/
def pay (c : Dev nD) (t : Fin cfg0.N) (h : Fin 16) : FVec F S128x64 .bf16 :=
  outHead (group m c t ⟨h.val / 4, by omega⟩) (grid0.coords t) ⟨h.val % 4, by omega⟩

/-- The body's stores, head by head. -/
theorem stores (c : Dev nD) (t : Fin cfg0.N) :
    (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t)
      (ms0_6 t) (hs0_6 t) (iblk m c 0 t) (X0_1 m c t) (iblk m c 2 t) (iblk m c 3 t) (iblk m c 4 t) (iblk m c 5 t)).1 =
      stripes (pay m c t) 16 (Nat.le_refl _) := by sl_kernel_rfl

end Cert.Calls.SwaFwd

end
-- ==== Proof.SwaFwdArr.lean ====
module

public import proofs.«01_k».proof.Proof.SwaFwdHead

@[expose] public section

set_option maxRecDepth 16384

noncomputable section

/-! The result array of the window-attention forward kernel. -/

namespace Cert.Calls.SwaFwd

open Cert.SwaFwdIdeal Cert.SwaFwdIdeal.Gen Cert.NormRow
open Cert.Calls.Swa (Group Holds RG Args hrow head slopes_eq load_cols keyRow_prev keyRow_own blockRow)
open Idealize.ShloMosaic Idealize.ShloMosaic.TcCoe Idealize.ShloMosaic.Tactic

/-- The sums of a group's values, by head, query and column. -/
def out (R : RG) (a : Fin 4) (i : Fin 128) (d : Fin 64) : ℝ := ∑ j, R.p a i j * R.v j d

/-- Keys and values no query sees do not matter. -/
theorem out_agree {R R' : RG} (h : RG.Agree R R') : out R = out R' := by
  funext a i d
  unfold out
  refine Finset.sum_congr rfl fun j _ => ?_
  by_cases hs : Swa.sees R.n i j = true
  · rw [h.p, h.v i j hs]
  · have h0 : R.p a i j = 0 := by unfold RG.p Swa.Row.p; rw [Swa.Row.w_eq_zero _ _ _ (by simpa using hs), zero_div]
    rw [← h.p, h0, zero_mul, zero_mul]

/-- The forward result. -/
def result (x : Args) (r : Fin 4096) (q : Fin 1024) : ℝ :=
  out (x.grp ⟨r.val / 128, by omega⟩ ⟨q.val / 64 / 4, by omega⟩) ⟨q.val / 64 % 4, by omega⟩ ⟨r.val % 128, by omega⟩ ⟨q.val % 64, by omega⟩

theorem outHead_eq {g : Group Ideal} {i : grid0.Coords} {R : RG} (h : Holds g i R) (a : Fin 4) (r : Fin 128) (d : Fin 64) :
    outHead g i a (ix2 r d) = ((out R a r d : ℝ) : EReal) := by
  have h1 := fun j => h.p a r j
  have h2 := fun j => h.vs j d
  unfold outHead
  generalize g.p i = x1 at *
  generalize g.vs = x2 at *
  pointwise
  rw [Finset.sum_congr rfl fun j _ => by rw [h1, h2, ← EReal.coe_mul], ← coe_sum]; rfl

theorem idx : ∀ t : Fin grid0.N, win0_0.index t = ![0, 0] ∧ win0_1.index t = ![t.val, 0] ∧ win0_2.index t = ![t.val - 1, 4] ∧
    win0_3.index t = ![t.val, 4] ∧ win0_4.index t = ![t.val - 1, 5] ∧ win0_5.index t = ![t.val, 5] ∧ win0_6.index t = ![t.val, 0] := by decide +kernel

theorem coords_val : ∀ t : Fin grid0.N, (grid0.coords t 0).val = t.val := by decide +kernel

variable (m : (ℓ : Loc nD τ sig) → Buf (Elt Ideal) ℓ) (c : Dev nD) (t : Fin cfg0.N)

theorem blk0 (h : Fin 16) : iblk m c 0 t (ix2 0 h) = m ((c : Thread nD τ).loc main_arg1) (ix2 0 h) := by
  blk_ext [iblk, V, idx t]

/-- The part of the argument array that a window of keys or values stages. -/
theorem blk2 (r : Fin 128) (d : Fin 256) : iblk m c 2 t (ix2 r d) =
    m ((c : Thread nD τ).loc main_arg0) (ix2 ⟨(t.val - 1) * 128 + r.val, by have : t.val < 32 := t.isLt; omega⟩ ⟨1024 + d.val, by omega⟩) := by
  blk_ext [iblk, V, idx t]

theorem blk3 (r : Fin 128) (d : Fin 256) : iblk m c 3 t (ix2 r d) =
    m ((c : Thread nD τ).loc main_arg0) (ix2 ⟨t.val * 128 + r.val, by have : t.val < 32 := t.isLt; omega⟩ ⟨1024 + d.val, by omega⟩) := by
  blk_ext [iblk, V, idx t]

theorem blk4 (r : Fin 128) (d : Fin 256) : iblk m c 4 t (ix2 r d) =
    m ((c : Thread nD τ).loc main_arg0) (ix2 ⟨(t.val - 1) * 128 + r.val, by have : t.val < 32 := t.isLt; omega⟩ ⟨1280 + d.val, by omega⟩) := by
  blk_ext [iblk, V, idx t]

theorem blk5 (r : Fin 128) (d : Fin 256) : iblk m c 5 t (ix2 r d) =
    m ((c : Thread nD τ).loc main_arg0) (ix2 ⟨t.val * 128 + r.val, by have : t.val < 32 := t.isLt; omega⟩ ⟨1280 + d.val, by omega⟩) := by
  blk_ext [iblk, V, idx t]

theorem blk1 (r : Fin 128) (d : Fin 1024) : X0_1 m c t (ix2 r d) =
    m ((c : Thread nD τ).loc main_arg0) (ix2 ⟨t.val * 128 + r.val, by have : t.val < 32 := t.isLt; omega⟩ ⟨d.val, by omega⟩) := by
  unfold X0_1 Pipeline.Window.fill
  rw [dif_pos (moved0_1 t _)]
  blk_ext [iblk, V, idx t]

/-- Arguments as a group sees them when no gradient comes in. -/
structure Are (x : Args) (a0 : Vec Ideal S4096x1536 .f32) (a1 : Vec Ideal S1x16 .f32) : Prop where
  P : ∀ i j, a0 (ix2 i j) = ((x.P i j : ℝ) : EReal)
  S : ∀ h, a1 (ix2 0 h) = ((x.S h : ℝ) : EReal)
  G : ∀ i j, x.G i j = 0

variable {m c} {x : Args} (hx : Are x (m ((c : Thread nD τ).loc main_arg0)) (m ((c : Thread nD τ).loc main_arg1)))

include hx
/-- At a grid point the group holds the block's part of the arrays. -/
theorem holds (hk : Fin 4) : Holds (group m c t hk) (grid0.coords t) (x.grp t hk) where
  q a r d := by
    refine (load_cols (hs0_1 t) (X0_1 m c t) _ _ r d ⟨64 * (head hk a).val + d.val, by omega⟩ rfl).trans ((blk1 m c t r _).trans ((hx.P _ _).trans ?_))
    show ((x.P _ _ : ℝ) : EReal) = ((x.P _ _ : ℝ) : EReal)
    congr 2
    exact Fin.ext (by dsimp only; omega)
  kp j d := by
    refine (load_cols (hs0_2 t) (iblk m c 2 t) _ _ j d ⟨64 * hk.val + d.val, by omega⟩ rfl).trans ((blk2 m c t j _).trans ((hx.P _ _).trans ?_))
    show ((x.P _ _ : ℝ) : EReal) = ((x.P _ _ : ℝ) : EReal)
    rw [keyRow_prev t j]
  kc j d := by
    refine (load_cols (hs0_3 t) (iblk m c 3 t) _ _ j d ⟨64 * hk.val + d.val, by omega⟩ rfl).trans ((blk3 m c t j _).trans ((hx.P _ _).trans ?_))
    show ((x.P _ _ : ℝ) : EReal) = ((x.P _ _ : ℝ) : EReal)
    rw [keyRow_own t j]
  vp j d := by
    refine (load_cols (hs0_4 t) (iblk m c 4 t) _ _ j d ⟨64 * hk.val + d.val, by omega⟩ rfl).trans ((blk4 m c t j _).trans ((hx.P _ _).trans ?_))
    show ((x.P _ _ : ℝ) : EReal) = ((x.P _ _ : ℝ) : EReal)
    rw [keyRow_prev t j]
  vc j d := by
    refine (load_cols (hs0_5 t) (iblk m c 5 t) _ _ j d ⟨64 * hk.val + d.val, by omega⟩ rfl).trans ((blk5 m c t j _).trans ((hx.P _ _).trans ?_))
    show ((x.P _ _ : ℝ) : EReal) = ((x.P _ _ : ℝ) : EReal)
    rw [keyRow_own t j]
  d a r d := by
    show Ideal.ofBits .bf16 0x0000#16 = ((x.G _ _ : ℝ) : EReal)
    rw [hx.G]; simp [Ideal.ofBits, Ideal.ieee]
  s a := by
    refine ((hs0_0 t).readAt_unread (iblk m c 0 t) _ _).trans (Eq.trans (congrArg (iblk m c 0 t) ?_) ((blk0 m c t (head hk a)).trans (hx.S _)))
    funext b; fin_cases b <;> rfl
  sl a := slopes_eq (head hk a)
  n := coords_val t
  lt := t.isLt

omit hx in
/-- What a point leaves in its block, from its stores. -/
theorem outs_apply (r : Fin 128) (q : Fin 1024) :
    outsAt0 m c t (ix2 r q) = pay m c t ⟨q.val / 64, by omega⟩ (ix2 r ⟨q.val % 64, by omega⟩) := by
  unfold outsAt0 out0_A_6
  rw [stores m c t]
  exact Swa.stripes_read VO0_6 VO0_6.junk (pay m c t) r q 16 (Nat.le_refl _) (by omega)

/-- The result array. -/
theorem array (r : Fin 4096) (q : Fin 1024) : (dats m 0 c).arrAt 6 cfg0.N (ix2 r q) = ((result x r q : ℝ) : EReal) := by
  have e : (dats m 0 c).arrAt 6 cfg0.N = fun i : S4096x1024.Idx => (((result x (i 0) (i 1) : ℝ) : EReal) : Ideal .bf16) := by
    refine (dats m 0 c).arrAt_eq_of_covers 6 _ (by decide +kernel) fun t hf y => ?_
    blk_simp
    rw [after0_6]
    have h0 : ((win0_6.blk t).view.emb y 0).val = t.val * 128 + (y 0).val := by blk_simp [idx t]
    have h1 : ((win0_6.blk t).view.emb y 1).val = (y 1).val := by blk_simp [idx t]
    have hq : (win0_6.blk t).view.emb y 1 = y 1 := Fin.ext h1
    rw [hq]
    generalize hP : (win0_6.blk t).view.emb y 0 = P at h0
    have ht : t.val < 32 := t.isLt
    have hy0 : (y 0).val < 128 := (y 0).isLt
    refine (congrArg _ (ix2_eta y).symm).trans ((outs_apply t (y 0) (y 1)).trans ?_)
    refine (outHead_eq (holds t hx _) _ _ _).trans ?_
    unfold result
    congr 2
    · congr 1
      · exact Fin.ext (by change t.val = P.val / 128; omega)
    · exact Fin.ext (by change (y 0).val = P.val % 128; omega)
  exact congrFun e _

end Cert.Calls.SwaFwd

end
-- ==== Proof.SwaFwdRef.lean ====
module

public import proofs.«01_k».proof.Proof.SwaFwdArr
public import proofs.«01_k».proof.Proof.SwaRefB
public import proofs.«01_k».proof.Proof.Gen.SwaFwdRefIdeal.Read

@[expose] public section

set_option maxRecDepth 16384

noncomputable section

/-! The forward reference: its probabilities and values are the ones the backward reference differentiates. -/

namespace Cert.Calls.SwaFwd.Ref

open Cert.SwaFwdRefIdeal Cert.SwaFwdRefIdeal.Read Cert.NormRow
open Cert.Calls.Swa (Args RG head blockRow)
open Cert.Calls.Swa.Ref (grp agree)
open Idealize.ShloMosaic Idealize.ShloMosaic.TcCoe Idealize.ShloMosaic.Tactic

abbrev bwd0 : DevRef Cert.SwaRefIdeal.τ Cert.SwaRefIdeal.sig := Proc.devRef .tc Cert.SwaRefIdeal.main_arg0
abbrev bwd1 : DevRef Cert.SwaRefIdeal.τ Cert.SwaRefIdeal.sig := Proc.devRef .tc Cert.SwaRefIdeal.main_arg1
abbrev bwd2 : DevRef Cert.SwaRefIdeal.τ Cert.SwaRefIdeal.sig := Proc.devRef .tc Cert.SwaRefIdeal.main_arg2

variable (V0 : Valuation Cert.SwaRefIdeal.τ Cert.SwaRefIdeal.sig (Elt Ideal))

theorem probs_stage : val_main_v84 (F := Ideal) (V0 bwd0) (V0 bwd1) = Cert.SwaRefIdeal.Value.res_main_v109 V0 := rfl
theorem values_stage : val_main_v15 (F := Ideal) (V0 bwd0) = Cert.SwaRefIdeal.Value.res_main_v17 V0 := rfl

variable {x : Args} (a0 : Vec Ideal S4096x1536 .f32) (a1 : Vec Ideal S1x16 .f32)

/-- The backward reference's arguments with these two arrays and no incoming gradient. -/
theorem args (hx : Are x a0 a1) : ∃ V0 : Valuation Cert.SwaRefIdeal.τ Cert.SwaRefIdeal.sig (Elt Ideal),
    V0 bwd0 = a0 ∧ V0 bwd1 = a1 ∧ x.Are (V0 bwd0) (V0 bwd1) (V0 bwd2) := by
  classical
  let z : FVec Ideal S4096x1024 .bf16 := broadcast S4096x1024 (Scalar.ofBits .bf16 0x0000#16)
  let V0 : Valuation Cert.SwaRefIdeal.τ Cert.SwaRefIdeal.sig (Elt Ideal) :=
    Function.update (Function.update (Function.update (fun _ => Classical.choice inferInstance) bwd2 z) bwd1 a1) bwd0 a0
  have h0 : V0 bwd0 = a0 := Function.update_self ..
  have h1 : V0 bwd1 = a1 := (Function.update_of_ne (by decide) ..).trans (Function.update_self ..)
  have h2 : V0 bwd2 = z := (Function.update_of_ne (by decide) ..).trans ((Function.update_of_ne (by decide) ..).trans (Function.update_self ..))
  refine ⟨V0, h0, h1, ?_, ?_, ?_⟩
  · rw [h0]; exact hx.P
  · rw [h1]; exact hx.S
  · intro i j
    rw [h2, hx.G]
    show Ideal.ofBits .bf16 0x0000#16 = _
    simp [Ideal.ofBits, Ideal.ieee]

variable (hx : Are x a0 a1)
include hx

theorem p_eq (n : Fin 32) (i : Fin 128) (j : Fin 256) (hk a : Fin 4) : val_main_v84 (F := Ideal) a0 a1 (ix5 hk a n i j) = (((grp x n hk).p a i j : ℝ) : EReal) := by
  obtain ⟨V0, h0, h1, hV⟩ := args a0 a1 hx
  rw [← h0, ← h1, probs_stage V0]
  exact Cert.Calls.Swa.Ref.p_eq V0 hV n i j hk a

theorem v_eq (n : Fin 32) (j : Fin 256) (hk : Fin 4) (d : Fin 64) : val_main_v15 (F := Ideal) a0 (ix4 n j hk d) = (((grp x n hk).v j d : ℝ) : EReal) := by
  obtain ⟨V0, h0, h1, hV⟩ := args a0 a1 hx
  rw [← h0, values_stage V0]
  exact Cert.Calls.Swa.Ref.v_eq V0 hV n j hk d

theorem out_eq (n : Fin 32) (i : Fin 128) (hk a : Fin 4) (d : Fin 64) : val_main_v85 (F := Ideal) a0 a1 (ix5 n hk d a i) = ((out (grp x n hk) a i d : ℝ) : EReal) := by
  have h1 := fun j => p_eq a0 a1 hx n i j hk a
  have h2 := fun j => v_eq a0 a1 hx n j hk d
  unfold val_main_v85
  generalize val_main_v84 (F := Ideal) a0 a1 = y at *
  generalize val_main_v15 (F := Ideal) a0 = z at *
  pointwise
  unfold out
  rw [coe_sum]
  refine Finset.sum_congr rfl fun j _ => ?_
  rw [h1, h2, ← EReal.coe_mul, mul_comm]

theorem result_eq (r : Fin 4096) (q : Fin 1024) : val_main_v88 (F := Ideal) a0 a1 (ix2 r q) = ((result x r q : ℝ) : EReal) := by
  refine Eq.trans ?_ ((out_eq a0 a1 hx ⟨r.val / 128, by omega⟩ ⟨r.val % 128, by omega⟩ ⟨q.val / 64 / 4, by omega⟩ ⟨q.val / 64 % 4, by omega⟩ ⟨q.val % 64, by omega⟩).trans ?_)
  · unfold val_main_v88 val_main_v87 val_main_v86
    generalize val_main_v85 (F := Ideal) a0 a1 = y
    pointwise
    congr 1
    congr 1 <;> exact Fin.ext (by dsimp only; omega)
  · unfold result
    rw [out_agree (agree x _ _)]

end Cert.Calls.SwaFwd.Ref

end
-- ==== Proof.SwaFwd.lean ====
module

public import proofs.«01_k».proof.Defs
public import proofs.«01_k».proof.Proof.Gen.SwaFwd.Frame
public import proofs.«01_k».proof.Proof.Gen.Pre_swafwd_finite
public import proofs.«01_k».proof.Proof.Finite
public import proofs.«01_k».proof.Proof.SwaFwdRef

@[expose] public section

set_option maxRecDepth 16384

noncomputable section

/-! The attention with sinks, forward: its frames, and the kernel's result against the reference's. -/

namespace Cert.Calls.SwaFwd

open Idealize.ShloMosaic Idealize.ShloMosaic.TcCoe Idealize.SL.Sem

theorem frame_p : Cert.quiescent_SwaFwd := fun m g _ => Cert.SwaFwd.Gen.frame m g
theorem frame_pi : Cert.quiescent_SwaFwdIdeal := fun m g _ => Cert.SwaFwdIdeal.Gen.frame m g
theorem frame_ri : Cert.quiescent_SwaFwdRefIdeal := fun m g _ =>
  (θ_run Cert.SwaFwdRefIdeal.defs _ _).mono
    (fun r h => ⟨fun c => (h c).2, sem_eq_zero_of_no_sems (by decide) r.2⟩)
    (Cert.SwaFwdRefIdeal.Value.run (F := Ideal) m g)

/-- The eight slopes' words are named by the roots they round, the mask's by −∞. -/
theorem preserves : Cert.preserves_SwaFwd_SwaFwdIdeal := by
  refine ⟨?_, ?_, ?_, ?_, ?_, ?_, ?_, ?_, ?_⟩
  all_goals exact IdealRules.named_const.statement Cert.SwaFwdIdeal.κ _ _ _ _ rfl

/-- Under the precondition the two arguments are reals. -/
theorem reals (m : (ℓ : Loc Cert.SwaFwdIdeal.nD Cert.SwaFwdIdeal.τ Cert.SwaFwdIdeal.sig) → Buf (Elt Ideal) ℓ) (h : Cert.Pre_SwaFwdIdeal_swafwd_finite m) (c : Dev Cert.SwaFwdIdeal.nD) :
    ∃ x : Swa.Args, Are x (m ((c : Thread Cert.SwaFwdIdeal.nD Cert.SwaFwdIdeal.τ).loc Cert.SwaFwdIdeal.main_arg0))
      (m ((c : Thread Cert.SwaFwdIdeal.nD Cert.SwaFwdIdeal.τ).loc Cert.SwaFwdIdeal.main_arg1)) := by
  have e := congrFun (h c) ix0
  unfold Cert.Pre_swafwd_finite.fn at e
  dsimp only at e
  obtain ⟨g0, h0⟩ := Finite.of_test (Finite.and_left e)
  obtain ⟨g1, h1⟩ := Finite.of_test (Finite.and_right e)
  exact ⟨⟨fun i j => g0 (ix2 i j), fun j => g1 (ix2 0 j), fun _ _ => 0⟩,
    fun i j => congrFun h0 _, fun j => congrFun h1 _, fun _ _ => rfl⟩

theorem algebraic : Cert.algebraic_SwaFwdIdeal_SwaFwdRefIdeal_pre_swafwd_finite := by
  pair_intro
  · run_from Cert.SwaFwdIdeal.Value.run_blocks m g
  · run_from Cert.SwaFwdRefIdeal.Value.run m' g'
    obtain ⟨x, hx⟩ := reals m hpre c
    have hx' := hx
    rw [← (hagree c).1, ← (hagree c).2] at hx'
    rw [Cert.SwaFwdRefIdeal.Read.val_main_v88_eq]
    funext i
    obtain ⟨r, q, rfl⟩ : ∃ r q, i = ix2 (n0 := 4096) (n1 := 1024) r q := ⟨_, _, eq_ix2 i⟩
    exact (Ref.result_eq _ _ hx' r q).trans (array hx r q).symm

end Cert.Calls.SwaFwd

end
-- ==== Proof.NormOut.lean ====
module

public import proofs.«01_k».proof.Proof.NormRow

@[expose] public section

noncomputable section

/-! The norm of a row, forward, and the arrays that the forward calls with a norm or a gate behind a product leave. -/

namespace Cert.NormOut

open Idealize.ShloMosaic

/-- The normed row, times the norm's weight, at one column. -/
def normed (w x : Fin 1024 → EReal) (q : Fin 1024) : EReal := x q * NormRow.rstd x * w q

/-- The norm of all rows of an array. -/
def normArr (w : Vec Ideal ⟨1, ![1024]⟩ .f32) (h : Fin 4096 → Fin 1024 → EReal) : FVec Ideal ⟨2, ![4096, 1024]⟩ .bf16 :=
  fun i => normed (fun k => w (ix1 k)) (h (i 0)) (i 1)

/-- A product's element at a row and a column. -/
def prod {K : Nat} (a : Vec Ideal ⟨2, ![4096, K]⟩ .bf16) (w : Vec Ideal ⟨2, ![K, 1024]⟩ .f32) (P : Fin 4096) (q : Fin 1024) : EReal :=
  ∑ j : Fin K, a (ix2 P j) * w (ix2 j q)

/-- The product with the residual added. -/
def res {K : Nat} (a : Vec Ideal ⟨2, ![4096, K]⟩ .bf16) (w : Vec Ideal ⟨2, ![K, 1024]⟩ .f32) (h : Vec Ideal ⟨2, ![4096, 1024]⟩ .f32)
    (P : Fin 4096) (q : Fin 1024) : EReal :=
  h (ix2 P q) + prod a w P q

/-- The residual with the gated rows added, the gate as the kernel computes it. -/
def gated (h z pe : EReal) : EReal :=
  h + (Ideal.ofBits .f32 0x3F000000#32 * Ideal.tanh (Ideal.ofBits .f32 0x3F000000#32 * z) + Ideal.ofBits .f32 0x3F000000#32) * pe

/-- The gated rows of all rows. -/
def gate {K : Nat} (a : Vec Ideal ⟨2, ![4096, K]⟩ .bf16) (w : Vec Ideal ⟨2, ![K, 1024]⟩ .f32)
    (h pe : Vec Ideal ⟨2, ![4096, 1024]⟩ .f32) (P : Fin 4096) (q : Fin 1024) : EReal :=
  gated (h (ix2 P q)) (prod a w P q) (pe (ix2 P q))

end Cert.NormOut

end
-- ==== Proof.RmsFwd.lean ====
module

public import proofs.«01_k».proof.Defs
public import proofs.«01_k».proof.Proof.Gen.RmsFwd.Frame
public import proofs.«01_k».proof.Proof.Gen.RmsFwdIdeal.Value
public import proofs.«01_k».proof.Proof.Gen.RmsFwdRefIdeal.Run
public import proofs.«01_k».proof.Proof.Gen.RmsFwdRefIdeal.Read
public import proofs.«01_k».proof.Proof.NormOut
public import Idealize.ShloMosaic.Lib.Pipeline.ReadBack

@[expose] public section

set_option maxRecDepth 16384

noncomputable section

namespace Cert.Calls.RmsFwd

open Idealize.ShloMosaic Idealize.ShloMosaic.TcCoe Idealize.SL.Sem
open Cert.RmsFwdIdeal Cert.RmsFwdIdeal.Gen

variable (m : (ℓ : Loc nD τ sig) → Buf (Elt Ideal) ℓ)

theorem idx : ∀ t : Fin grid0.N, win0_0.index t = ![t.val, 0] ∧ win0_1.index t = ![0, 0] ∧ win0_2.index t = ![t.val, 0] := by
  decide +kernel

/-- What the point at `t` leaves: the norm of each of its rows. -/
theorem out (c : Dev nD) (t : Fin cfg0.N) (p : Fin 512) (q : Fin 1024) :
    out0_2 (iblk m c 0 t) (iblk m c 1 t) (ix2 p q) =
      NormOut.normed (fun k => iblk m c 1 t (ix2 0 k)) (fun k => iblk m c 0 t (ix2 p k)) q := by
  generalize (iblk m c 0 t) = x0, (iblk m c 1 t) = x1
  frame_open
  frame_out
  open_payloads
  pointwise
  rfl

theorem array (c : Dev nD) : (dats m 0 c).arrAt 2 cfg0.N =
    NormOut.normArr (m ((c : Thread nD τ).loc main_arg1))
      (fun P k => (m ((c : Thread nD τ).loc main_arg0) : Vec Ideal S4096x1024 .f32) (ix2 P k)) := by
  refine (dats m 0 c).arrAt_eq_of_covers 2 _ (by decide +kernel) fun t hf y => ?_
  blk_simp
  rw [after0_2]
  have h0 : ((win0_2.blk t).view.emb y 0).val = t.val * 512 + (y 0).val := by blk_simp [idx t]
  have h1 : ((win0_2.blk t).view.emb y 1).val = (y 1).val := by blk_simp [idx t]
  have hq : (win0_2.blk t).view.emb y 1 = y 1 := Fin.ext h1
  refine (congrArg _ (ix2_eta y).symm).trans ((out m c t (y 0) (y 1)).trans ?_)
  unfold NormOut.normArr
  rw [hq]
  generalize hP : (win0_2.blk t).view.emb y 0 = P at h0
  congr 1
  · funext k
    blk_simp [iblk]
    entry_read
    pointwise
    blk_ext [idx t]
  · funext k; blk_ext [iblk, V, idx t]

theorem frame_p : Cert.quiescent_RmsFwd := fun m g _ => Cert.RmsFwd.Gen.frame m g
theorem frame_pi : Cert.quiescent_RmsFwdIdeal := fun m g _ => Cert.RmsFwdIdeal.Gen.frame m g
theorem frame_ri : Cert.quiescent_RmsFwdRefIdeal := fun m g _ =>
  (θ_run Cert.RmsFwdRefIdeal.defs _ _).mono
    (fun r h => ⟨fun c => (h c).2, sem_eq_zero_of_no_sems (by decide) r.2⟩)
    (Cert.RmsFwdRefIdeal.Value.run (F := Ideal) m g)

theorem algebraic : Cert.algebraic_RmsFwdIdeal_RmsFwdRefIdeal := by
  pair_intro
  · run_from Cert.RmsFwdIdeal.Value.run_blocks m g
  · run_from Cert.RmsFwdRefIdeal.Value.run m' g'
    rw [array]
    funext i
    obtain ⟨p, q, rfl⟩ : ∃ p q, i = ix2 (n0 := 4096) (n1 := 1024) p q := ⟨_, _, eq_ix2 i⟩
    pointwise
    rfl

end Cert.Calls.RmsFwd

end
-- ==== Proof.ResFwd.lean ====
module

public import proofs.«01_k».proof.Defs
public import proofs.«01_k».proof.Proof.Gen.ResFwd.Frame
public import proofs.«01_k».proof.Proof.Gen.ResFwdIdeal.Value
public import proofs.«01_k».proof.Proof.Gen.ResFwdRefIdeal.Run
public import proofs.«01_k».proof.Proof.Gen.ResFwdRefIdeal.Read
public import proofs.«01_k».proof.Proof.NormOut
public import Idealize.ShloMosaic.Lib.Pipeline.ReadBack

@[expose] public section

set_option maxRecDepth 16384

noncomputable section

namespace Cert.Calls.ResFwd

open Idealize.ShloMosaic Idealize.ShloMosaic.TcCoe Idealize.SL.Sem
open Cert.ResFwdIdeal Cert.ResFwdIdeal.Gen

variable (m : (ℓ : Loc nD τ sig) → Buf (Elt Ideal) ℓ)

theorem idx : ∀ t : Fin grid0.N, win0_0.index t = ![t.val, 0] ∧ win0_1.index t = ![0, 0] ∧ win0_2.index t = ![t.val, 0] ∧
    win0_3.index t = ![0, 0] ∧ win0_4.index t = ![t.val, 0] ∧ win0_5.index t = ![t.val, 0] := by decide +kernel

/-- The product with the residual added, at the point at `t`. -/
theorem outs_h (c : Dev nD) (t : Fin cfg0.N) (p : Fin 512) (q : Fin 1024) :
    (outsAt0 m c t).1 (ix2 p q) =
      k0_pay1 (iblk m c 0 t) (iblk m c 1 t) (ix2 p q) + iblk m c 2 t (ix2 p q) := by
  unfold outsAt0
  generalize (iblk m c 0 t) = x0, (iblk m c 1 t) = x1, (iblk m c 2 t) = x2, (iblk m c 3 t) = x3
  frame_open
  simp (disch := decide) only [↓ View.readCov_skip, ↓ View.readCov_cons_toLoadRect, ↓ View.readCov_fill]
  frame_out
  generalize k0_pay1 x0 x1 = acc
  canon_tiles y hh
  all_goals
    open_payloads
    pointwise
    obtain rfl : q = y 1 := Fin.ext hh1
    first
      | rw [show p = ⟨(y 0).val, by omega⟩ from Fin.ext hh0]; try rfl
      | rw [show p = ⟨_ + (y 0).val, by omega⟩ from Fin.ext hh0]; try rfl

/-- The norm of those rows. -/
theorem outs_n (c : Dev nD) (t : Fin cfg0.N) (p : Fin 512) (q : Fin 1024) :
    (outsAt0 m c t).2 (ix2 p q) =
      NormOut.normed (fun k => iblk m c 3 t (ix2 0 k)) (fun k => k0_pay1 (iblk m c 0 t) (iblk m c 1 t) (ix2 p k) + iblk m c 2 t (ix2 p k)) q := by
  unfold outsAt0
  generalize (iblk m c 0 t) = x0, (iblk m c 1 t) = x1, (iblk m c 2 t) = x2, (iblk m c 3 t) = x3
  frame_open
  simp (disch := decide) only [↓ View.readCov_skip, ↓ View.readCov_cons_toLoadRect, ↓ View.readCov_fill]
  frame_out
  generalize k0_pay1 x0 x1 = acc
  canon_tiles y hh
  all_goals
    open_payloads
    pointwise
    obtain rfl : q = y 1 := Fin.ext hh1
    first
      | rw [show p = ⟨(y 0).val, by omega⟩ from Fin.ext hh0]; try rfl
      | rw [show p = ⟨_ + (y 0).val, by omega⟩ from Fin.ext hh0]; try rfl

/-- The product at a row of the block is the product at the row of the array. -/
theorem prod_block (c : Dev nD) (t : Fin cfg0.N) (p : Fin 512) (k : Fin 1024) (P : Fin 4096) (hP : P.val = t.val * 512 + p.val) :
    k0_pay1 (iblk m c 0 t) (iblk m c 1 t) (ix2 p k) =
      NormOut.prod (m ((c : Thread nD τ).loc main_arg0)) (m ((c : Thread nD τ).loc main_arg1)) P k := by
  unfold k0_pay1 NormOut.prod
  pointwise
  refine Finset.sum_congr rfl fun j _ => ?_
  congr 1
  · blk_ext [iblk, V, idx t]
  · blk_ext [iblk, V, idx t]

theorem res_block (c : Dev nD) (t : Fin cfg0.N) (p : Fin 512) (k : Fin 1024) (P : Fin 4096) (hP : P.val = t.val * 512 + p.val) :
    k0_pay1 (iblk m c 0 t) (iblk m c 1 t) (ix2 p k) + iblk m c 2 t (ix2 p k) =
      NormOut.res (m ((c : Thread nD τ).loc main_arg0)) (m ((c : Thread nD τ).loc main_arg1)) (m ((c : Thread nD τ).loc main_arg2)) P k := by
  unfold NormOut.res
  rw [prod_block m c t p k P hP, add_comm]
  congr 1
  blk_ext [iblk, V, idx t]

theorem h_array (c : Dev nD) : (dats m 0 c).arrAt 4 cfg0.N =
    (fun i => NormOut.res (m ((c : Thread nD τ).loc main_arg0)) (m ((c : Thread nD τ).loc main_arg1)) (m ((c : Thread nD τ).loc main_arg2)) (i 0) (i 1)) := by
  refine (dats m 0 c).arrAt_eq_of_covers 4 _ (by decide +kernel) fun t hf y => ?_
  blk_simp
  rw [after0_4]
  have h0 : ((win0_4.blk t).view.emb y 0).val = t.val * 512 + (y 0).val := by blk_simp [idx t]
  have h1 : ((win0_4.blk t).view.emb y 1).val = (y 1).val := by blk_simp [idx t]
  have hq : (win0_4.blk t).view.emb y 1 = y 1 := Fin.ext h1
  refine (congrArg _ (ix2_eta y).symm).trans ((outs_h m c t (y 0) (y 1)).trans ?_)
  rw [hq]
  generalize hP : (win0_4.blk t).view.emb y 0 = P at h0
  exact res_block m c t _ _ P h0

theorem n_array (c : Dev nD) : (dats m 0 c).arrAt 5 cfg0.N =
    NormOut.normArr (m ((c : Thread nD τ).loc main_arg3)) (NormOut.res (m ((c : Thread nD τ).loc main_arg0)) (m ((c : Thread nD τ).loc main_arg1)) (m ((c : Thread nD τ).loc main_arg2))) := by
  refine (dats m 0 c).arrAt_eq_of_covers 5 _ (by decide +kernel) fun t hf y => ?_
  blk_simp
  rw [after0_5]
  have h0 : ((win0_5.blk t).view.emb y 0).val = t.val * 512 + (y 0).val := by blk_simp [idx t]
  have h1 : ((win0_5.blk t).view.emb y 1).val = (y 1).val := by blk_simp [idx t]
  have hq : (win0_5.blk t).view.emb y 1 = y 1 := Fin.ext h1
  refine (congrArg _ (ix2_eta y).symm).trans ((outs_n m c t (y 0) (y 1)).trans ?_)
  unfold NormOut.normArr
  rw [hq]
  generalize hP : (win0_5.blk t).view.emb y 0 = P at h0
  congr 1
  · funext k
    blk_simp [iblk]
    entry_read
    pointwise
    blk_ext [idx t]
  · funext k; exact res_block m c t _ k P h0

theorem frame_p : Cert.quiescent_ResFwd := fun m g _ => Cert.ResFwd.Gen.frame m g
theorem frame_pi : Cert.quiescent_ResFwdIdeal := fun m g _ => Cert.ResFwdIdeal.Gen.frame m g
theorem frame_ri : Cert.quiescent_ResFwdRefIdeal := fun m g _ =>
  (θ_run Cert.ResFwdRefIdeal.defs _ _).mono
    (fun r h => ⟨fun c => (h c).2.2, sem_eq_zero_of_no_sems (by decide) r.2⟩)
    (Cert.ResFwdRefIdeal.Value.run (F := Ideal) m g)

theorem algebraic : Cert.algebraic_ResFwdIdeal_ResFwdRefIdeal := by
  pair_intro
  · run_from Cert.ResFwdIdeal.Value.run_blocks m g
  · run_from Cert.ResFwdRefIdeal.Value.run m' g'
    · rw [h_array]
      funext i
      obtain ⟨p, q, rfl⟩ : ∃ p q, i = ix2 (n0 := 4096) (n1 := 1024) p q := ⟨_, _, eq_ix2 i⟩
      pointwise
      rfl
    · rw [n_array]
      funext i
      obtain ⟨p, q, rfl⟩ : ∃ p q, i = ix2 (n0 := 4096) (n1 := 1024) p q := ⟨_, _, eq_ix2 i⟩
      pointwise
      rfl

end Cert.Calls.ResFwd

end
-- ==== Proof.GateFwd.lean ====
module

public import proofs.«01_k».proof.Defs
public import proofs.«01_k».proof.Proof.Gen.GateFwd.Frame
public import proofs.«01_k».proof.Proof.Gen.GateFwdIdeal.Value
public import proofs.«01_k».proof.Proof.Gen.GateFwdRefIdeal.Run
public import proofs.«01_k».proof.Proof.Gen.GateFwdRefIdeal.Read
public import proofs.«01_k».proof.Proof.NormOut
public import proofs.«01_k».proof.Proof.Scalars
public import Idealize.ShloMosaic.Lib.Pipeline.ReadBack

@[expose] public section

set_option maxRecDepth 16384

noncomputable section

namespace Cert.Calls.GateFwd

open Idealize.ShloMosaic Idealize.ShloMosaic.TcCoe Idealize.SL.Sem
open Cert.GateFwdIdeal Cert.GateFwdIdeal.Gen

variable (m : (ℓ : Loc nD τ sig) → Buf (Elt Ideal) ℓ)

theorem idx : ∀ t : Fin grid0.N, win0_0.index t = ![t.val, 0] ∧ win0_1.index t = ![0, 0] ∧ win0_2.index t = ![t.val, 0] ∧
    win0_3.index t = ![t.val, 0] ∧ win0_4.index t = ![0, 0] ∧ win0_5.index t = ![t.val, 0] ∧ win0_6.index t = ![t.val, 0] ∧
    win0_7.index t = ![t.val, 0] := by decide +kernel

/-- The product, at the point at `t`. -/
theorem outs_z (c : Dev nD) (t : Fin cfg0.N) (p : Fin 512) (q : Fin 1024) :
    (outsAt0 m c t).1 (ix2 p q) =
      k0_pay1 (iblk m c 0 t) (iblk m c 1 t) (ix2 p q) := by
  unfold outsAt0
  generalize (iblk m c 0 t) = x0, (iblk m c 1 t) = x1, (iblk m c 2 t) = x2, (iblk m c 3 t) = x3, (iblk m c 4 t) = x4
  frame_open
  simp (disch := decide) only [↓ View.readCov_skip, ↓ View.readCov_cons_toLoadRect, ↓ View.readCov_fill]
  frame_out
  generalize k0_pay1 x0 x1 = acc
  canon_tiles y hh
  all_goals
    open_payloads
    pointwise
    obtain rfl : q = y 1 := Fin.ext hh1
    first
      | rw [show p = ⟨(y 0).val, by omega⟩ from Fin.ext hh0]; try rfl
      | rw [show p = ⟨_ + (y 0).val, by omega⟩ from Fin.ext hh0]; try rfl

/-- The residual with the gated rows added. -/
theorem outs_h (c : Dev nD) (t : Fin cfg0.N) (p : Fin 512) (q : Fin 1024) :
    (outsAt0 m c t).2.1 (ix2 p q) =
      NormOut.gated (iblk m c 2 t (ix2 p q)) (k0_pay1 (iblk m c 0 t) (iblk m c 1 t) (ix2 p q)) (iblk m c 3 t (ix2 p q)) := by
  unfold outsAt0
  generalize (iblk m c 0 t) = x0, (iblk m c 1 t) = x1, (iblk m c 2 t) = x2, (iblk m c 3 t) = x3, (iblk m c 4 t) = x4
  frame_open
  simp (disch := decide) only [↓ View.readCov_skip, ↓ View.readCov_cons_toLoadRect, ↓ View.readCov_fill]
  frame_out
  generalize k0_pay1 x0 x1 = acc
  canon_tiles y hh
  all_goals
    open_payloads
    pointwise
    obtain rfl : q = y 1 := Fin.ext hh1
    first
      | rw [show p = ⟨(y 0).val, by omega⟩ from Fin.ext hh0]; try rfl
      | rw [show p = ⟨_ + (y 0).val, by omega⟩ from Fin.ext hh0]; try rfl

/-- The norm of those rows. -/
theorem outs_n (c : Dev nD) (t : Fin cfg0.N) (p : Fin 512) (q : Fin 1024) :
    (outsAt0 m c t).2.2 (ix2 p q) =
      NormOut.normed (fun k => iblk m c 4 t (ix2 0 k)) (fun k => NormOut.gated (iblk m c 2 t (ix2 p k)) (k0_pay1 (iblk m c 0 t) (iblk m c 1 t) (ix2 p k)) (iblk m c 3 t (ix2 p k))) q := by
  unfold outsAt0
  generalize (iblk m c 0 t) = x0, (iblk m c 1 t) = x1, (iblk m c 2 t) = x2, (iblk m c 3 t) = x3, (iblk m c 4 t) = x4
  frame_open
  simp (disch := decide) only [↓ View.readCov_skip, ↓ View.readCov_cons_toLoadRect, ↓ View.readCov_fill]
  frame_out
  generalize k0_pay1 x0 x1 = acc
  canon_tiles y hh
  all_goals
    open_payloads
    pointwise
    obtain rfl : q = y 1 := Fin.ext hh1
    first
      | rw [show p = ⟨(y 0).val, by omega⟩ from Fin.ext hh0]; try rfl
      | rw [show p = ⟨_ + (y 0).val, by omega⟩ from Fin.ext hh0]; try rfl

/-- The product at a row of the block is the product at the row of the array. -/
theorem prod_block (c : Dev nD) (t : Fin cfg0.N) (p : Fin 512) (k : Fin 1024) (P : Fin 4096) (hP : P.val = t.val * 512 + p.val) :
    k0_pay1 (iblk m c 0 t) (iblk m c 1 t) (ix2 p k) =
      NormOut.prod (m ((c : Thread nD τ).loc main_arg0)) (m ((c : Thread nD τ).loc main_arg1)) P k := by
  unfold k0_pay1 NormOut.prod
  pointwise
  refine Finset.sum_congr rfl fun j _ => ?_
  congr 1
  · blk_ext [iblk, V, idx t]
  · blk_ext [iblk, V, idx t]

theorem gate_block (c : Dev nD) (t : Fin cfg0.N) (p : Fin 512) (k : Fin 1024) (P : Fin 4096) (hP : P.val = t.val * 512 + p.val) :
    NormOut.gated (iblk m c 2 t (ix2 p k)) (k0_pay1 (iblk m c 0 t) (iblk m c 1 t) (ix2 p k)) (iblk m c 3 t (ix2 p k)) =
      NormOut.gate (m ((c : Thread nD τ).loc main_arg0)) (m ((c : Thread nD τ).loc main_arg1)) (m ((c : Thread nD τ).loc main_arg2)) (m ((c : Thread nD τ).loc main_arg3)) P k := by
  unfold NormOut.gate
  rw [prod_block m c t p k P hP]
  congr 1
  · blk_ext [iblk, V, idx t]
  · blk_ext [iblk, V, idx t]

theorem z_array (c : Dev nD) : (dats m 0 c).arrAt 5 cfg0.N =
    (fun i => NormOut.prod (m ((c : Thread nD τ).loc main_arg0)) (m ((c : Thread nD τ).loc main_arg1)) (i 0) (i 1)) := by
  refine (dats m 0 c).arrAt_eq_of_covers 5 _ (by decide +kernel) fun t hf y => ?_
  blk_simp
  rw [after0_5]
  have h0 : ((win0_5.blk t).view.emb y 0).val = t.val * 512 + (y 0).val := by blk_simp [idx t]
  have h1 : ((win0_5.blk t).view.emb y 1).val = (y 1).val := by blk_simp [idx t]
  have hq : (win0_5.blk t).view.emb y 1 = y 1 := Fin.ext h1
  refine (congrArg _ (ix2_eta y).symm).trans ((outs_z m c t (y 0) (y 1)).trans ?_)
  rw [hq]
  generalize hP : (win0_5.blk t).view.emb y 0 = P at h0
  exact prod_block m c t _ _ P h0

theorem h_array (c : Dev nD) : (dats m 0 c).arrAt 6 cfg0.N =
    (fun i => NormOut.gate (m ((c : Thread nD τ).loc main_arg0)) (m ((c : Thread nD τ).loc main_arg1)) (m ((c : Thread nD τ).loc main_arg2)) (m ((c : Thread nD τ).loc main_arg3)) (i 0) (i 1)) := by
  refine (dats m 0 c).arrAt_eq_of_covers 6 _ (by decide +kernel) fun t hf y => ?_
  blk_simp
  rw [after0_6]
  have h0 : ((win0_6.blk t).view.emb y 0).val = t.val * 512 + (y 0).val := by blk_simp [idx t]
  have h1 : ((win0_6.blk t).view.emb y 1).val = (y 1).val := by blk_simp [idx t]
  have hq : (win0_6.blk t).view.emb y 1 = y 1 := Fin.ext h1
  refine (congrArg _ (ix2_eta y).symm).trans ((outs_h m c t (y 0) (y 1)).trans ?_)
  rw [hq]
  generalize hP : (win0_6.blk t).view.emb y 0 = P at h0
  exact gate_block m c t _ _ P h0

theorem n_array (c : Dev nD) : (dats m 0 c).arrAt 7 cfg0.N =
    NormOut.normArr (m ((c : Thread nD τ).loc main_arg4)) (NormOut.gate (m ((c : Thread nD τ).loc main_arg0)) (m ((c : Thread nD τ).loc main_arg1)) (m ((c : Thread nD τ).loc main_arg2)) (m ((c : Thread nD τ).loc main_arg3))) := by
  refine (dats m 0 c).arrAt_eq_of_covers 7 _ (by decide +kernel) fun t hf y => ?_
  blk_simp
  rw [after0_7]
  have h0 : ((win0_7.blk t).view.emb y 0).val = t.val * 512 + (y 0).val := by blk_simp [idx t]
  have h1 : ((win0_7.blk t).view.emb y 1).val = (y 1).val := by blk_simp [idx t]
  have hq : (win0_7.blk t).view.emb y 1 = y 1 := Fin.ext h1
  refine (congrArg _ (ix2_eta y).symm).trans ((outs_n m c t (y 0) (y 1)).trans ?_)
  unfold NormOut.normArr
  rw [hq]
  generalize hP : (win0_7.blk t).view.emb y 0 = P at h0
  congr 1
  · funext k
    blk_simp [iblk]
    entry_read
    pointwise
    blk_ext [idx t]
  · funext k; exact gate_block m c t _ k P h0

theorem frame_p : Cert.quiescent_GateFwd := fun m g _ => Cert.GateFwd.Gen.frame m g
theorem frame_pi : Cert.quiescent_GateFwdIdeal := fun m g _ => Cert.GateFwdIdeal.Gen.frame m g
theorem frame_ri : Cert.quiescent_GateFwdRefIdeal := fun m g _ =>
  (θ_run Cert.GateFwdRefIdeal.defs _ _).mono
    (fun r h => ⟨fun c => (h c).2.2.2, sem_eq_zero_of_no_sems (by decide) r.2⟩)
    (Cert.GateFwdRefIdeal.Value.run (F := Ideal) m g)

theorem algebraic : Cert.algebraic_GateFwdIdeal_GateFwdRefIdeal := by
  pair_intro
  · run_from Cert.GateFwdIdeal.Value.run_blocks m g
  · run_from Cert.GateFwdRefIdeal.Value.run m' g'
    · rw [z_array]
      funext i
      pointwise
      rfl
    · rw [h_array]
      funext i
      obtain ⟨p, q, rfl⟩ : ∃ p q, i = ix2 (n0 := 4096) (n1 := 1024) p q := ⟨_, _, eq_ix2 i⟩
      pointwise
      simp only [NormOut.gate, NormOut.gated, Scalars.half, Scalars.sigmoid]
      rfl
    · rw [n_array]
      funext i
      obtain ⟨p, q, rfl⟩ : ∃ p q, i = ix2 (n0 := 4096) (n1 := 1024) p q := ⟨_, _, eq_ix2 i⟩
      pointwise
      unfold NormOut.normArr NormOut.gate NormOut.gated
      simp only [Scalars.half, Scalars.sigmoid]
      rfl

end Cert.Calls.GateFwd

end
-- ==== Proof.GateLast.lean ====
module

public import proofs.«01_k».proof.Defs
public import proofs.«01_k».proof.Proof.Gen.GateLast.Frame
public import proofs.«01_k».proof.Proof.Gen.GateLastIdeal.Value
public import proofs.«01_k».proof.Proof.Gen.GateLastRefIdeal.Run
public import proofs.«01_k».proof.Proof.Gen.GateLastRefIdeal.Read
public import proofs.«01_k».proof.Proof.NormOut
public import proofs.«01_k».proof.Proof.Scalars
public import Idealize.ShloMosaic.Lib.Pipeline.ReadBack

@[expose] public section

set_option maxRecDepth 16384

noncomputable section

namespace Cert.Calls.GateLast

open Idealize.ShloMosaic Idealize.ShloMosaic.TcCoe Idealize.SL.Sem
open Cert.GateLastIdeal Cert.GateLastIdeal.Gen

variable (m : (ℓ : Loc nD τ sig) → Buf (Elt Ideal) ℓ)

theorem idx : ∀ t : Fin grid0.N, win0_0.index t = ![t.val, 0] ∧ win0_1.index t = ![0, 0] ∧ win0_2.index t = ![t.val, 0] ∧
    win0_3.index t = ![t.val, 0] ∧ win0_4.index t = ![t.val, 0] ∧ win0_5.index t = ![t.val, 0] := by decide +kernel

/-- The product, at the point at `t`. -/
theorem outs_z (c : Dev nD) (t : Fin cfg0.N) (p : Fin 512) (q : Fin 1024) :
    (outsAt0 m c t).1 (ix2 p q) =
      k0_pay1 (iblk m c 0 t) (iblk m c 1 t) (ix2 p q) := by
  unfold outsAt0
  generalize (iblk m c 0 t) = x0, (iblk m c 1 t) = x1, (iblk m c 2 t) = x2, (iblk m c 3 t) = x3
  frame_open
  simp (disch := decide) only [↓ View.readCov_skip, ↓ View.readCov_cons_toLoadRect, ↓ View.readCov_fill]
  frame_out
  generalize k0_pay1 x0 x1 = acc
  canon_tiles y hh
  all_goals
    open_payloads
    pointwise
    obtain rfl : q = y 1 := Fin.ext hh1
    first
      | rw [show p = ⟨(y 0).val, by omega⟩ from Fin.ext hh0]; try rfl
      | rw [show p = ⟨_ + (y 0).val, by omega⟩ from Fin.ext hh0]; try rfl

/-- The residual with the gated rows added. -/
theorem outs_h (c : Dev nD) (t : Fin cfg0.N) (p : Fin 512) (q : Fin 1024) :
    (outsAt0 m c t).2 (ix2 p q) =
      NormOut.gated (iblk m c 2 t (ix2 p q)) (k0_pay1 (iblk m c 0 t) (iblk m c 1 t) (ix2 p q)) (iblk m c 3 t (ix2 p q)) := by
  unfold outsAt0
  generalize (iblk m c 0 t) = x0, (iblk m c 1 t) = x1, (iblk m c 2 t) = x2, (iblk m c 3 t) = x3
  frame_open
  simp (disch := decide) only [↓ View.readCov_skip, ↓ View.readCov_cons_toLoadRect, ↓ View.readCov_fill]
  frame_out
  generalize k0_pay1 x0 x1 = acc
  canon_tiles y hh
  all_goals
    open_payloads
    pointwise
    obtain rfl : q = y 1 := Fin.ext hh1
    first
      | rw [show p = ⟨(y 0).val, by omega⟩ from Fin.ext hh0]; try rfl
      | rw [show p = ⟨_ + (y 0).val, by omega⟩ from Fin.ext hh0]; try rfl

/-- The product at a row of the block is the product at the row of the array. -/
theorem prod_block (c : Dev nD) (t : Fin cfg0.N) (p : Fin 512) (k : Fin 1024) (P : Fin 4096) (hP : P.val = t.val * 512 + p.val) :
    k0_pay1 (iblk m c 0 t) (iblk m c 1 t) (ix2 p k) =
      NormOut.prod (m ((c : Thread nD τ).loc main_arg0)) (m ((c : Thread nD τ).loc main_arg1)) P k := by
  unfold k0_pay1 NormOut.prod
  pointwise
  refine Finset.sum_congr rfl fun j _ => ?_
  congr 1
  · blk_ext [iblk, V, idx t]
  · blk_ext [iblk, V, idx t]

theorem gate_block (c : Dev nD) (t : Fin cfg0.N) (p : Fin 512) (k : Fin 1024) (P : Fin 4096) (hP : P.val = t.val * 512 + p.val) :
    NormOut.gated (iblk m c 2 t (ix2 p k)) (k0_pay1 (iblk m c 0 t) (iblk m c 1 t) (ix2 p k)) (iblk m c 3 t (ix2 p k)) =
      NormOut.gate (m ((c : Thread nD τ).loc main_arg0)) (m ((c : Thread nD τ).loc main_arg1)) (m ((c : Thread nD τ).loc main_arg2)) (m ((c : Thread nD τ).loc main_arg3)) P k := by
  unfold NormOut.gate
  rw [prod_block m c t p k P hP]
  congr 1
  · blk_ext [iblk, V, idx t]
  · blk_ext [iblk, V, idx t]

theorem z_array (c : Dev nD) : (dats m 0 c).arrAt 4 cfg0.N =
    (fun i => NormOut.prod (m ((c : Thread nD τ).loc main_arg0)) (m ((c : Thread nD τ).loc main_arg1)) (i 0) (i 1)) := by
  refine (dats m 0 c).arrAt_eq_of_covers 4 _ (by decide +kernel) fun t hf y => ?_
  blk_simp
  rw [after0_4]
  have h0 : ((win0_4.blk t).view.emb y 0).val = t.val * 512 + (y 0).val := by blk_simp [idx t]
  have h1 : ((win0_4.blk t).view.emb y 1).val = (y 1).val := by blk_simp [idx t]
  have hq : (win0_4.blk t).view.emb y 1 = y 1 := Fin.ext h1
  refine (congrArg _ (ix2_eta y).symm).trans ((outs_z m c t (y 0) (y 1)).trans ?_)
  rw [hq]
  generalize hP : (win0_4.blk t).view.emb y 0 = P at h0
  exact prod_block m c t _ _ P h0

theorem h_array (c : Dev nD) : (dats m 0 c).arrAt 5 cfg0.N =
    (fun i => NormOut.gate (m ((c : Thread nD τ).loc main_arg0)) (m ((c : Thread nD τ).loc main_arg1)) (m ((c : Thread nD τ).loc main_arg2)) (m ((c : Thread nD τ).loc main_arg3)) (i 0) (i 1)) := by
  refine (dats m 0 c).arrAt_eq_of_covers 5 _ (by decide +kernel) fun t hf y => ?_
  blk_simp
  rw [after0_5]
  have h0 : ((win0_5.blk t).view.emb y 0).val = t.val * 512 + (y 0).val := by blk_simp [idx t]
  have h1 : ((win0_5.blk t).view.emb y 1).val = (y 1).val := by blk_simp [idx t]
  have hq : (win0_5.blk t).view.emb y 1 = y 1 := Fin.ext h1
  refine (congrArg _ (ix2_eta y).symm).trans ((outs_h m c t (y 0) (y 1)).trans ?_)
  rw [hq]
  generalize hP : (win0_5.blk t).view.emb y 0 = P at h0
  exact gate_block m c t _ _ P h0

theorem frame_p : Cert.quiescent_GateLast := fun m g _ => Cert.GateLast.Gen.frame m g
theorem frame_pi : Cert.quiescent_GateLastIdeal := fun m g _ => Cert.GateLastIdeal.Gen.frame m g
theorem frame_ri : Cert.quiescent_GateLastRefIdeal := fun m g _ =>
  (θ_run Cert.GateLastRefIdeal.defs _ _).mono
    (fun r h => ⟨fun c => (h c).2.2, sem_eq_zero_of_no_sems (by decide) r.2⟩)
    (Cert.GateLastRefIdeal.Value.run (F := Ideal) m g)

theorem algebraic : Cert.algebraic_GateLastIdeal_GateLastRefIdeal := by
  pair_intro
  · run_from Cert.GateLastIdeal.Value.run_blocks m g
  · run_from Cert.GateLastRefIdeal.Value.run m' g'
    · rw [z_array]
      funext i
      pointwise
      rfl
    · rw [h_array]
      funext i
      obtain ⟨p, q, rfl⟩ : ∃ p q, i = ix2 (n0 := 4096) (n1 := 1024) p q := ⟨_, _, eq_ix2 i⟩
      pointwise
      simp only [NormOut.gate, NormOut.gated, Scalars.half, Scalars.sigmoid]
      rfl

end Cert.Calls.GateLast

end
-- ==== Proof.FfnChunk.lean ====
module

public import Idealize.ShloMosaic.Lib.Pointwise
public import Idealize.ShloMosaic.Lib.Layout
public import proofs.«01_k».proof.Proof.Scalars

@[expose] public section

noncomputable section

/-! What sixteen rows of the feed-forward layer's gated convolution give back, over the reals, for columns of any width. -/

namespace Cert.Calls.Ffn

open Idealize.ShloMosaic Idealize.ShloMosaic.TcCoe Idealize.ShloMosaic.Tactic

abbrev R (a w : ℕ) : Shape := ⟨2, ![a, w]⟩
abbrev R1 (a w : ℕ) : Shape := ⟨3, ![1, a, w]⟩

/-- What the body's operations ask of a width. -/
structure Wide (w : ℕ) : Prop where
  down : (R1 16 w).ShapeCasts (R 16 w)
  same : (R 16 w).ShapeCasts (R 16 w)
  up : (R 16 w).ShapeCasts (R1 16 w)
  row : (R 1 w).Broadcasts (R 16 w)
  top : (R 24 w).Slices ![0, 0] (R 16 w)
  turn : (R 24 w).Rotates 0 none
  low : (R 16 w).Slices ![0, 0] (R 8 w)
  high : (R 16 w).Slices ![8, 0] (R 8 w)
  fold : (R 8 w).Reduces [0] ⟨1, ![w]⟩
  line : (⟨1, ![w]⟩ : Shape).ShapeCasts (R 1 w)
  one : (R 1 w).ShapeCasts (R 1 w)
  eight : (R 8 w).ShapeCasts (R 8 w)
  width : w = 512 ∨ w = 384

variable {w : ℕ} (h : Wide w)

def rows (x : FVec Ideal (R1 16 w) .f32) : FVec Ideal (R 16 w) .f32 := shapeCast (R 16 w) x h.down

/-- A number in every row. -/
def all (n : BitVec 32) : FVec Ideal (R 16 w) .f32 := broadcast (R 16 w) (Scalar.ofBits .f32 n)

/-- The logistic function of the gate's rows. -/
def sg (yg : FVec Ideal (R1 16 w) .f32) : FVec Ideal (R 16 w) .f32 :=
  addf (mulf (all 0x3F000000#32) (tanh (mulf (all 0x3F000000#32) (rows h yg)))) (all 0x3F000000#32)

/-- The gradients of the gate's and of the value's rows. -/
def dGate (yg yv : FVec Ideal (R1 16 w) .f32) (da : FVec Ideal (R 16 w) .f32) : FVec Ideal (R 16 w) .f32 :=
  shapeCast (R 16 w) (mulf (mulf da (rows h yv))
    (mulf (sg h yg) (addf (all 0x3F800000#32) (mulf (rows h yg) (subf (all 0x3F800000#32) (sg h yg)))))) h.same
def dVal (yg : FVec Ideal (R1 16 w) .f32) (da : FVec Ideal (R 16 w) .f32) : FVec Ideal (R 16 w) .f32 :=
  shapeCast (R 16 w) (mulf da (mulf (rows h yg) (sg h yg))) h.same

/-- The sixteen rows that lie no, one and two rows ahead. -/
def ahead0 (a : FVec Ideal (R 24 w) .f32) : FVec Ideal (R 16 w) .f32 := extractStridedSlice (R 16 w) ![0, 0] a h.top
def ahead1 (a : FVec Ideal (R 24 w) .f32) : FVec Ideal (R 16 w) .f32 :=
  extractStridedSlice (R 16 w) ![0, 0] (dynamicRotate 0 23#32 none a h.turn) h.top
def ahead2 (a : FVec Ideal (R 24 w) .f32) : FVec Ideal (R 16 w) .f32 :=
  extractStridedSlice (R 16 w) ![0, 0] (dynamicRotate 0 22#32 none a h.turn) h.top

/-- The gradient of the rows before the convolution. -/
def dUp (a : FVec Ideal (R 24 w) .f32) (c2 c1 c0 : FVec Ideal (R 1 w) .f32) : FVec Ideal (R1 16 w) .bf16 :=
  shapeCast (R1 16 w) (truncf .bf16 (addf (addf (addf (all 0x00000000#32) (mulf (broadcastTo (R 16 w) c2 h.row) (ahead0 h a)))
    (mulf (broadcastTo (R 16 w) c1 h.row) (ahead1 h a))) (mulf (broadcastTo (R 16 w) c0 h.row) (ahead2 h a))) (by decide)) h.up

/-- A tap's sum, folded to eight rows, with sixteen rows' products added. -/
def addTap (acc : FVec Ideal (R 8 w) .f32) (x : FVec Ideal (R1 16 w) .f32) (d : FVec Ideal (R 16 w) .f32) : FVec Ideal (R 8 w) .f32 :=
  addf acc (addf (extractStridedSlice (R 8 w) ![0, 0] (mulf (rows h x) d) h.low) (extractStridedSlice (R 8 w) ![8, 0] (mulf (rows h x) d) h.high))

/-- The eight rows of a tap's sum added up. -/
def total (acc : FVec Ideal (R 8 w) .f32) : FVec Ideal (R 1 w) .f32 :=
  shapeCast (R 1 w) (multiReduction .add [0] ⟨1, ![w]⟩ acc 0x00000000#32 h.fold (.inl rfl) rfl) h.line
def zeroTap : FVec Ideal (R 8 w) .f32 := broadcast (R 8 w) (Scalar.ofBits .f32 0x00000000#32)
def moreTap (old : FVec Ideal (R 1 w) .f32) (acc : FVec Ideal (R 8 w) .f32) : FVec Ideal (R 1 w) .f32 :=
  addf (shapeCast (R 1 w) old h.one) (total h acc)

theorem wide512 : Wide 512 := by constructor <;> decide
theorem wide384 : Wide 384 := by constructor <;> decide

theorem rows_apply (x : FVec Ideal (R1 16 w) .f32) (i : Fin 16) (q : Fin w) : rows h x (ix2 i q) = x (ix3 0 i q) := by
  unfold rows; rcases h.width with rfl | rfl <;> pointwise

theorem ahead0_apply (a : FVec Ideal (R 24 w) .f32) (i : Fin 16) (q : Fin w) : ahead0 h a (ix2 i q) = a (ix2 ⟨i.val, by omega⟩ q) := by
  unfold ahead0; rcases h.width with rfl | rfl <;> pointwise
theorem ahead1_apply (a : FVec Ideal (R 24 w) .f32) (i : Fin 16) (q : Fin w) : ahead1 h a (ix2 i q) = a (ix2 ⟨i.val + 1, by omega⟩ q) := by
  unfold ahead1; rcases h.width with rfl | rfl <;> (pointwise; congr 2; exact Fin.ext (by dsimp only; omega))
theorem ahead2_apply (a : FVec Ideal (R 24 w) .f32) (i : Fin 16) (q : Fin w) : ahead2 h a (ix2 i q) = a (ix2 ⟨i.val + 2, by omega⟩ q) := by
  unfold ahead2; rcases h.width with rfl | rfl <;> (pointwise; congr 2; exact Fin.ext (by dsimp only; omega))

theorem sg_apply (yg : FVec Ideal (R1 16 w) .f32) (i : Fin 16) (q : Fin w) :
    sg h yg (ix2 i q) = Ideal.div 1 (1 + Ideal.exp (-(yg (ix3 0 i q) : EReal))) := by
  unfold sg all
  have e := rows_apply h yg i q
  generalize rows h yg = x at *
  rcases h.width with rfl | rfl <;> (pointwise; rw [e, Scalars.half, Scalars.sigmoid])

/-- The gate's derivative at a number. -/
def gateAt (y v a : EReal) : EReal :=
  a * v * (Ideal.div 1 (1 + Ideal.exp (-y)) * (1 + y * (1 - Ideal.div 1 (1 + Ideal.exp (-y)))))
def valAt (y a : EReal) : EReal := a * (y * Ideal.div 1 (1 + Ideal.exp (-y)))

theorem dGate_apply (yg yv : FVec Ideal (R1 16 w) .f32) (da : FVec Ideal (R 16 w) .f32) (i : Fin 16) (q : Fin w) :
    dGate h yg yv da (ix2 i q) = gateAt (yg (ix3 0 i q)) (yv (ix3 0 i q)) (da (ix2 i q)) := by
  unfold dGate all
  have e := sg_apply h yg i q
  have e1 := rows_apply h yg i q
  have e2 := rows_apply h yv i q
  generalize sg h yg = s at *; generalize rows h yg = x at *; generalize rows h yv = v at *
  rcases h.width with rfl | rfl <;> (pointwise; rw [e, e1, e2]; rfl)

theorem dVal_apply (yg : FVec Ideal (R1 16 w) .f32) (da : FVec Ideal (R 16 w) .f32) (i : Fin 16) (q : Fin w) :
    dVal h yg da (ix2 i q) = valAt (yg (ix3 0 i q)) (da (ix2 i q)) := by
  unfold dVal
  have e := sg_apply h yg i q
  have e1 := rows_apply h yg i q
  generalize sg h yg = s at *; generalize rows h yg = x at *
  rcases h.width with rfl | rfl <;> (pointwise; rw [e, e1]; rfl)

theorem dUp_apply (a : FVec Ideal (R 24 w) .f32) (c2 c1 c0 : FVec Ideal (R 1 w) .f32) (i : Fin 16) (q : Fin w) :
    dUp h a c2 c1 c0 (ix3 0 i q) = ((c2 (ix2 0 q) : EReal) * a (ix2 ⟨i.val, by omega⟩ q) + (c1 (ix2 0 q) : EReal) * a (ix2 ⟨i.val + 1, by omega⟩ q)
      + (c0 (ix2 0 q) : EReal) * a (ix2 ⟨i.val + 2, by omega⟩ q) : EReal) := by
  unfold dUp all
  have e0 := ahead0_apply h a i q
  have e1 := ahead1_apply h a i q
  have e2 := ahead2_apply h a i q
  generalize ahead0 h a = a0 at *; generalize ahead1 h a = a1 at *; generalize ahead2 h a = a2 at *
  rcases h.width with rfl | rfl <;> (pointwise; rw [e0, e1, e2])

theorem addTap_apply (acc : FVec Ideal (R 8 w) .f32) (x : FVec Ideal (R1 16 w) .f32) (d : FVec Ideal (R 16 w) .f32) (i : Fin 8) (q : Fin w) :
    addTap h acc x d (ix2 i q) = (acc (ix2 i q) + ((x (ix3 0 ⟨i.val, by omega⟩ q) : EReal) * d (ix2 ⟨i.val, by omega⟩ q)
      + (x (ix3 0 ⟨i.val + 8, by omega⟩ q) : EReal) * d (ix2 ⟨i.val + 8, by omega⟩ q)) : EReal) := by
  unfold addTap
  have e0 := rows_apply h x ⟨i.val, by omega⟩ q
  have e1 := rows_apply h x ⟨i.val + 8, by omega⟩ q
  generalize rows h x = x' at *
  rcases h.width with rfl | rfl <;> (pointwise; simp only [Nat.add_comm 8]; rw [← e0, ← e1])

theorem total_apply (acc : FVec Ideal (R 8 w) .f32) (q : Fin w) : total h acc (ix2 0 q) = (∑ k : Fin 8, acc (ix2 k q) : EReal) := by
  unfold total; rcases h.width with rfl | rfl <;> pointwise

theorem moreTap_apply (acc : FVec Ideal (R 8 w) .f32) (old : FVec Ideal (R 1 w) .f32) (q : Fin w) :
    moreTap h old acc (ix2 0 q) = (old (ix2 0 q) + ∑ k : Fin 8, acc (ix2 k q) : EReal) := by
  unfold moreTap
  have e := total_apply h acc q
  generalize total h acc = t at *
  rcases h.width with rfl | rfl <;> (pointwise; rw [e])

theorem zeroTap_apply (i : Fin 8) (q : Fin w) : (zeroTap (w := w)) (ix2 i q) = (0 : EReal) := by
  unfold zeroTap; pointwise

end Cert.Calls.Ffn
-- ==== Proof.FfnStores.lean ====
module

public import proofs.«01_k».proof.Proof.FfnChunk
public import proofs.«01_k».proof.Proof.Gen.FfnIdeal.Frame.Runs

@[expose] public section

set_option maxRecDepth 16384

noncomputable section

/-! The stores of the body, strip of columns by strip, sixteen rows after sixteen rows. -/

namespace Cert.Calls.Ffn

open Cert.FfnIdeal Cert.FfnIdeal.Gen
open Idealize.ShloMosaic Idealize.ShloMosaic.TcCoe Idealize.ShloMosaic.Tactic

/-- A strip of columns: where it begins and how wide it is. -/
structure Strip where
  o : ℕ
  w : ℕ
  wide : Wide w
  fits : o + w ≤ 1408

def strip0 : Strip := ⟨0, 512, wide512, by decide⟩
def strip1 : Strip := ⟨512, 512, wide512, by decide⟩
def strip2 : Strip := ⟨1024, 384, wide384, by decide⟩

abbrev Pieces := List (View.Piece (Elt Ideal) S520x1408 .f32)

/-- What a strip loads: the rows before the convolution, the rows behind it, the gradient of the gated rows, the taps. -/
structure Loads (w : ℕ) where
  ug : Fin 32 → FVec Ideal (R1 16 w) .f32
  uv : Fin 32 → FVec Ideal (R1 16 w) .f32
  yg : Fin 32 → FVec Ideal (R1 16 w) .f32
  yv : Fin 32 → FVec Ideal (R1 16 w) .f32
  da : Fin 32 → FVec Ideal (R 16 w) .f32
  cg : Fin 3 → FVec Ideal (R 1 w) .f32
  cv : Fin 3 → FVec Ideal (R 1 w) .f32

variable (s : Strip)

theorem inbRows (a k : ℕ) (h : a + k ≤ 520) : ∀ i, (![a, s.o] : Fin 2 → ℕ) i + (R k s.w).size i ≤ S520x1408.size i := by
  intro i; fin_cases i
  · exact h
  · exact s.fits

/-- The strip's rows `a …`. -/
def band (a k : ℕ) (h : a + k ≤ 520) : Rect S520x1408 := Rect.unit (s := S520x1408) ![a, s.o] (R k s.w).size (inbRows s a k h)

/-- The stores of the last `n` chunks' rows, over what was stored before. -/
def stores (pay : Fin 32 → FVec Ideal (R 16 s.w) .f32) (L : Pieces) : (n : ℕ) → n ≤ 32 → Pieces
  | 0, _ => L
  | n + 1, hn => ⟨band s (16 * (31 - n)) 16 (by omega), pay ⟨31 - n, by omega⟩⟩ :: stores pay L n (Nat.le_of_succ_le hn)

/-- What lies under the stores where rows are read back: only behind the last chunk is it what lay there before the point. -/
def under (v : View sig .tc .vmem S520x1408 .f32) (f : v.ty.Contents (Elt Ideal)) : ℕ → v.ty.Contents (Elt Ideal)
  | 0 => f
  | _ + 1 => v.junk

/-- The twenty-four rows that begin with chunk `31 - n`'s, read once that chunk is stored. -/
def window (v : View sig .tc .vmem S520x1408 .f32) (f : v.ty.Contents (Elt Ideal)) (pay : Fin 32 → FVec Ideal (R 16 s.w) .f32) (L : Pieces)
    (n : ℕ) (hn : n < 32) : FVec Ideal (R 24 s.w) .f32 :=
  View.readAt (Elt Ideal) v (band s (16 * (31 - n)) 24 (by omega)).toLoadRect (v.writes (Elt Ideal) (under v f n) (stores s pay L (n + 1) hn))

/-- A strip's stores, and its first eight rows kept behind the block's for the block before. -/
def done (v : View sig .tc .vmem S520x1408 .f32) (pay : Fin 32 → FVec Ideal (R 16 s.w) .f32) (L : Pieces) : Pieces :=
  ⟨band s 512 8 (by omega), shapeCast (R 8 s.w) (View.readAt (Elt Ideal) v (band s 0 8 (by omega)).toLoadRect
    (v.writes (Elt Ideal) v.junk (stores s pay L 32 (Nat.le_refl _)))) s.wide.eight⟩ :: stores s pay L 32 (Nat.le_refl _)

/-- A tap's folded sum over the last `n` chunks. -/
def tap (x : Fin 32 → FVec Ideal (R1 16 s.w) .f32) (a : (n : ℕ) → n < 32 → FVec Ideal (R 16 s.w) .f32) : (n : ℕ) → n ≤ 32 → FVec Ideal (R 8 s.w) .f32
  | 0, _ => zeroTap
  | n + 1, hn => addTap s.wide (tap x a n (Nat.le_of_succ_le hn)) (x ⟨31 - n, by omega⟩) (a n hn)

theorem inbUp (e a : ℕ) (he : e < 2) (h : a + 16 ≤ 512) : ∀ i, (![e, a, s.o] : Fin 3 → ℕ) i + (R1 16 s.w).size i ≤ S2x512x1408.size i := by
  intro i; fin_cases i
  · exact he
  · exact h
  · exact s.fits

/-- The stores of the gradient of the rows before the convolution. -/
def upStores (ld : Loads s.w) (g v : (n : ℕ) → n < 32 → FVec Ideal (R 24 s.w) .f32) (L : List (View.Piece (Elt Ideal) S2x512x1408 .bf16)) :
    (n : ℕ) → n ≤ 32 → List (View.Piece (Elt Ideal) S2x512x1408 .bf16)
  | 0, _ => L
  | n + 1, hn =>
    ⟨Rect.unit (s := S2x512x1408) ![1, 16 * (31 - n), s.o] (R1 16 s.w).size (inbUp s 1 _ (by omega) (by omega)),
      dUp s.wide (v n hn) (ld.cv 2) (ld.cv 1) (ld.cv 0)⟩ ::
    ⟨Rect.unit (s := S2x512x1408) ![0, 16 * (31 - n), s.o] (R1 16 s.w).size (inbUp s 0 _ (by omega) (by omega)),
      dUp s.wide (g n hn) (ld.cg 2) (ld.cg 1) (ld.cg 0)⟩ :: upStores ld g v L n (Nat.le_of_succ_le hn)

theorem inbTap (j : ℕ) (hj : j < 3) : ∀ i, (![j, s.o] : Fin 2 → ℕ) i + (R 1 s.w).size i ≤ S3x1408.size i := by
  intro i; fin_cases i
  · exact hj
  · exact s.fits

def tapRect (j : ℕ) (hj : j < 3) : Rect S3x1408 := Rect.unit (s := S3x1408) ![j, s.o] (R 1 s.w).size (inbTap s j hj)

/-- The taps' stores of a strip at the first point, and at a later one. -/
def tapsFirst (acc : Fin 3 → FVec Ideal (R 8 s.w) .f32) (L : List (View.Piece (Elt Ideal) S3x1408 .f32)) :
    (n : ℕ) → n ≤ 3 → List (View.Piece (Elt Ideal) S3x1408 .f32)
  | 0, _ => L
  | n + 1, hn => ⟨tapRect s n hn, total s.wide (acc ⟨n, hn⟩)⟩ :: tapsFirst acc L n (Nat.le_of_succ_le hn)
def tapsLater (v : View sig .tc .vmem S3x1408 .f32) (f : v.ty.Contents (Elt Ideal)) (acc : Fin 3 → FVec Ideal (R 8 s.w) .f32)
    (L : List (View.Piece (Elt Ideal) S3x1408 .f32)) : (n : ℕ) → n ≤ 3 → List (View.Piece (Elt Ideal) S3x1408 .f32)
  | 0, _ => L
  | n + 1, hn => ⟨tapRect s n hn, moreTap s.wide (View.readAt (Elt Ideal) v (tapRect s n hn).toLoadRect f) (acc ⟨n, hn⟩)⟩ :: tapsLater v f acc L n (Nat.le_of_succ_le hn)

end Cert.Calls.Ffn
-- ==== Proof.FfnRead.lean ====
module

public import proofs.«01_k».proof.Proof.FfnStores
public import Idealize.ShloMosaic.Lib.WritesUnit
public import Idealize.ShloMosaic.Lib.VecWindow
public import Idealize.ShloMosaic.Lib.WholeRead

@[expose] public section

set_option maxRecDepth 16384

noncomputable section

/-! What the strips' stores leave at an index, over the reals. -/

namespace Cert.Calls.Ffn

open Cert.FfnIdeal Cert.FfnIdeal.Gen
open Idealize.ShloMosaic Idealize.ShloMosaic.TcCoe Idealize.ShloMosaic.Tactic

/-- A store of a window of a two-dimensional array, read back. -/
theorem read_store2 {sg : RefSig} {n0 n1 : ℕ} {e : EltTy} (v : View sg .tc .vmem ⟨2, ![n0, n1]⟩ e) (f : v.ty.Contents (Elt Ideal))
    {o0 o1 k0 k1 : ℕ} (inb : ∀ a, (![o0, o1] : Fin 2 → ℕ) a + (R k0 k1).size a ≤ (⟨2, ![n0, n1]⟩ : Shape).size a)
    (L : List (View.Piece (Elt Ideal) ⟨2, ![n0, n1]⟩ e)) (w : (R k0 k1).Idx → Elt Ideal e) (r : Fin n0) (q : Fin n1) :
    v.read (Elt Ideal) (v.writes (Elt Ideal) f (⟨Rect.unit (s := ⟨2, ![n0, n1]⟩) ![o0, o1] (R k0 k1).size inb, w⟩ :: L)) (ix2 r q) =
      if h : (o0 ≤ r.val ∧ r.val < o0 + k0) ∧ (o1 ≤ q.val ∧ q.val < o1 + k1) then
        w (ix2 ⟨r.val - o0, by omega⟩ ⟨q.val - o1, by omega⟩)
      else v.read (Elt Ideal) (v.writes (Elt Ideal) f L) (ix2 r q) := by
  rw [View.read_writes_cons_unit v f inb _ L (ix2 r q) rfl]
  by_cases hin : (o0 ≤ r.val ∧ r.val < o0 + k0) ∧ (o1 ≤ q.val ∧ q.val < o1 + k1)
  · rw [dif_pos hin, dif_pos (by intro a; fin_cases a; exacts [hin.1, hin.2])]
    congr 1
    funext a; fin_cases a <;> rfl
  · rw [dif_neg hin, dif_neg (fun hh => hin ⟨hh 0, hh 1⟩)]

/-- A window of a two-dimensional array, read. -/
theorem read_window2 {sg : RefSig} {n0 n1 : ℕ} {e : EltTy} (v : View sg .tc .vmem ⟨2, ![n0, n1]⟩ e) (f : v.ty.Contents (Elt Ideal))
    {o0 o1 k0 k1 : ℕ} (inb : ∀ a, (![o0, o1] : Fin 2 → ℕ) a + (R k0 k1).size a ≤ (⟨2, ![n0, n1]⟩ : Shape).size a) (i : Fin k0) (q : Fin k1)
    (h0 : o0 + i.val < n0) (h1 : o1 + q.val < n1) :
    View.readAt (Elt Ideal) v (Rect.unit (s := ⟨2, ![n0, n1]⟩) ![o0, o1] (R k0 k1).size inb).toLoadRect f (ix2 i q) =
      v.read (Elt Ideal) f (ix2 ⟨o0 + i.val, h0⟩ ⟨o1 + q.val, h1⟩) := by
  rw [View.readAt_unit v f inb rfl inb]
  unfold VecWindow.window
  congr 1
  funext a; fin_cases a
  · exact Fin.ext (by show o0 + 1 * i.val = o0 + i.val; omega)
  · exact Fin.ext (by show o1 + 1 * q.val = o1 + q.val; omega)

theorem eight_apply {w : ℕ} (h : Wide w) (x : FVec Ideal (R 8 w) .f32) (i : Fin 8) (q : Fin w) : shapeCast (R 8 w) x h.eight (ix2 i q) = x (ix2 i q) := by
  rcases h.width with rfl | rfl <;> pointwise

variable (s : Strip)

/-- A strip's columns. -/
abbrev Strip.has (s : Strip) (q : ℕ) : Prop := s.o ≤ q ∧ q < s.o + s.w

theorem stores_read (v : View sig .tc .vmem S520x1408 .f32) (f : v.ty.Contents (Elt Ideal)) (pay : Fin 32 → FVec Ideal (R 16 s.w) .f32) (L : Pieces)
    (D : Fin 512 → Fin 1408 → EReal) (hD : ∀ (r : Fin 32) (i : Fin 16) (q : Fin s.w), pay r (ix2 i q) = D ⟨16 * r.val + i.val, by omega⟩ ⟨s.o + q.val, by have := s.fits; omega⟩)
    (r : Fin 520) (q : Fin 1408) : ∀ (n : ℕ) (hn : n ≤ 32),
    v.read (Elt Ideal) (v.writes (Elt Ideal) f (stores s pay L n hn)) (ix2 r q) =
      if h : s.has q.val ∧ 16 * (32 - n) ≤ r.val ∧ r.val < 512 then D ⟨r.val, h.2.2⟩ q
      else v.read (Elt Ideal) (v.writes (Elt Ideal) f L) (ix2 r q) := by
  intro n
  induction n with
  | zero => intro hn; rw [dif_neg (by omega)]; rfl
  | succ n ih =>
    intro hn
    have ih := ih (Nat.le_of_succ_le hn)
    unfold stores band
    refine (read_store2 v f (inbRows s (16 * (31 - n)) 16 (by omega)) _ _ r q).trans ?_
    rw [ih]
    by_cases hq : s.has q.val
    · by_cases hr : 16 * (31 - n) ≤ r.val ∧ r.val < 16 * (31 - n) + 16
      · rw [dif_pos ⟨hr, hq⟩, dif_pos ⟨hq, by omega⟩, hD]
        congr 1 <;> exact Fin.ext (by dsimp only; omega)
      · rw [dif_neg (fun h => hr h.1)]
        by_cases hr2 : 16 * (32 - n) ≤ r.val ∧ r.val < 512
        · rw [dif_pos ⟨hq, hr2⟩, dif_pos ⟨hq, by omega⟩]
        · rw [dif_neg (fun h => hr2 h.2), dif_neg (fun h => by omega)]
    · rw [dif_neg (fun h => hq h.2), dif_neg (fun h => hq h.1), dif_neg (fun h => hq h.1)]

/-- Rows and the eight that follow them. -/
def ext (D : Fin 512 → Fin 1408 → EReal) (H : Fin 8 → Fin 1408 → EReal) (r : Fin 520) (q : Fin 1408) : EReal :=
  if h : r.val < 512 then D ⟨r.val, h⟩ q else H ⟨r.val - 512, by omega⟩ q

theorem window_apply (v : View sig .tc .vmem S520x1408 .f32) (f : v.ty.Contents (Elt Ideal)) (pay : Fin 32 → FVec Ideal (R 16 s.w) .f32) (L : Pieces)
    (D : Fin 512 → Fin 1408 → EReal) (hD : ∀ (r : Fin 32) (i : Fin 16) (q : Fin s.w), pay r (ix2 i q) = D ⟨16 * r.val + i.val, by omega⟩ ⟨s.o + q.val, by have := s.fits; omega⟩)
    (H : Fin 8 → Fin 1408 → EReal) (hH : ∀ (i : Fin 8) (q : Fin 1408), s.has q.val → v.read (Elt Ideal) (v.writes (Elt Ideal) f L) (ix2 ⟨512 + i.val, by omega⟩ q) = H i q)
    (n : ℕ) (hn : n < 32) (i : Fin 24) (q : Fin s.w) :
    window s v f pay L n hn (ix2 i q) = ext D H ⟨16 * (31 - n) + i.val, by omega⟩ ⟨s.o + q.val, by have := s.fits; omega⟩ := by
  have hf := s.fits
  unfold window band
  rw [read_window2 v _ _ i q (by omega) (by omega), stores_read s v (under v f n) pay L D hD]
  unfold ext
  by_cases h : 16 * (31 - n) + i.val < 512
  · rw [dif_pos ⟨⟨by dsimp only; omega, by dsimp only; omega⟩, by dsimp only; omega, h⟩, dif_pos h]
  · have hn0 : n = 0 := by omega
    subst hn0
    rw [dif_neg (fun hh => h hh.2.2), dif_neg h, ← hH _ _ ⟨by dsimp only; omega, by dsimp only; omega⟩]
    unfold under
    congr 2; exact Fin.ext (by dsimp only; omega)

theorem done_read (v : View sig .tc .vmem S520x1408 .f32) (f : v.ty.Contents (Elt Ideal)) (pay : Fin 32 → FVec Ideal (R 16 s.w) .f32) (L : Pieces)
    (D : Fin 512 → Fin 1408 → EReal) (hD : ∀ (r : Fin 32) (i : Fin 16) (q : Fin s.w), pay r (ix2 i q) = D ⟨16 * r.val + i.val, by omega⟩ ⟨s.o + q.val, by have := s.fits; omega⟩)
    (r : Fin 520) (q : Fin 1408) :
    v.read (Elt Ideal) (v.writes (Elt Ideal) f (done s v pay L)) (ix2 r q) =
      if s.has q.val then ext D (fun i => D ⟨i.val, by omega⟩) r q else v.read (Elt Ideal) (v.writes (Elt Ideal) f L) (ix2 r q) := by
  have hf := s.fits
  unfold done band
  refine (read_store2 v f (inbRows s 512 8 (by omega)) _ _ r q).trans ?_
  rw [stores_read s v f pay L D hD]
  by_cases hq : s.has q.val
  · rw [if_pos hq]
    unfold ext
    by_cases hr : r.val < 512
    · rw [dif_neg (fun h => by omega), dif_pos ⟨hq, by omega, hr⟩, dif_pos hr]
    · rw [dif_pos ⟨by omega, hq⟩, dif_neg hr]
      refine (eight_apply s.wide _ _ _).trans ?_
      rw [read_window2 v _ _ _ _ (by dsimp only; omega) (by dsimp only; omega), stores_read s v v.junk pay L D hD,
        dif_pos ⟨⟨by dsimp only; omega, by dsimp only; omega⟩, by dsimp only; omega, by dsimp only; omega⟩]
      congr 1 <;> exact Fin.ext (by dsimp only; omega)
  · rw [if_neg hq, dif_neg (fun h => hq h.2), dif_neg (fun h => hq h.1)]

/-- A store of rows of one half of the gradient's block, read back. -/
theorem read_store3 (v : View sig .tc .vmem S2x512x1408 .bf16) (f : v.ty.Contents (Elt Ideal)) {k a o w : ℕ}
    (inb : ∀ x, (![k, a, o] : Fin 3 → ℕ) x + (R1 16 w).size x ≤ S2x512x1408.size x)
    (L : List (View.Piece (Elt Ideal) S2x512x1408 .bf16)) (x : FVec Ideal (R1 16 w) .bf16) (e : Fin 2) (r : Fin 512) (q : Fin 1408) :
    v.read (Elt Ideal) (v.writes (Elt Ideal) f (⟨Rect.unit (s := S2x512x1408) ![k, a, o] (R1 16 w).size inb, x⟩ :: L)) (ix3 e r q) =
      if h : e.val = k ∧ (a ≤ r.val ∧ r.val < a + 16) ∧ (o ≤ q.val ∧ q.val < o + w) then
        x (ix3 0 ⟨r.val - a, by omega⟩ ⟨q.val - o, by omega⟩)
      else v.read (Elt Ideal) (v.writes (Elt Ideal) f L) (ix3 e r q) := by
  rw [View.read_writes_cons_unit v f inb _ L (ix3 e r q) rfl]
  by_cases hin : e.val = k ∧ (a ≤ r.val ∧ r.val < a + 16) ∧ (o ≤ q.val ∧ q.val < o + w)
  · rw [dif_pos hin, dif_pos (by
      intro b; fin_cases b
      · exact ⟨hin.1.ge, by show e.val < k + 1; omega⟩
      · exact hin.2.1
      · exact hin.2.2)]
    congr 1
    funext b; fin_cases b
    · exact Fin.ext (by show e.val - k = 0; omega)
    · rfl
    · rfl
  · rw [dif_neg hin, dif_neg (fun hh => hin ⟨by
      have h1 := (hh 0).1; have h2 := (hh 0).2
      change k ≤ e.val at h1; change e.val < k + 1 at h2; omega, hh 1, hh 2⟩)]

theorem upStores_read (v : View sig .tc .vmem S2x512x1408 .bf16) (f : v.ty.Contents (Elt Ideal)) (ld : Loads s.w)
    (g w : (n : ℕ) → n < 32 → FVec Ideal (R 24 s.w) .f32) (L : List (View.Piece (Elt Ideal) S2x512x1408 .bf16))
    (U : Fin 2 → Fin 512 → Fin 1408 → EReal)
    (h0 : ∀ (n : ℕ) (hn : n < 32) (i : Fin 16) (q : Fin s.w), dUp s.wide (g n hn) (ld.cg 2) (ld.cg 1) (ld.cg 0) (ix3 0 i q) =
      U 0 ⟨16 * (31 - n) + i.val, by omega⟩ ⟨s.o + q.val, by have := s.fits; omega⟩)
    (h1 : ∀ (n : ℕ) (hn : n < 32) (i : Fin 16) (q : Fin s.w), dUp s.wide (w n hn) (ld.cv 2) (ld.cv 1) (ld.cv 0) (ix3 0 i q) =
      U 1 ⟨16 * (31 - n) + i.val, by omega⟩ ⟨s.o + q.val, by have := s.fits; omega⟩)
    (e : Fin 2) (r : Fin 512) (q : Fin 1408) : ∀ (n : ℕ) (hn : n ≤ 32),
    v.read (Elt Ideal) (v.writes (Elt Ideal) f (upStores s ld g w L n hn)) (ix3 e r q) =
      if s.has q.val ∧ 16 * (32 - n) ≤ r.val then U e r q else v.read (Elt Ideal) (v.writes (Elt Ideal) f L) (ix3 e r q) := by
  intro n
  induction n with
  | zero => intro hn; rw [if_neg (by omega)]; rfl
  | succ n ih =>
    intro hn
    have ih := ih (Nat.le_of_succ_le hn)
    unfold upStores
    refine (read_store3 v f (inbUp s 1 (16 * (31 - n)) (by omega) (by omega)) _ _ e r q).trans ?_
    by_cases hc : s.has q.val ∧ 16 * (31 - n) ≤ r.val ∧ r.val < 16 * (31 - n) + 16
    · rw [if_pos ⟨hc.1, by omega⟩]
      by_cases he : e.val = 1
      · rw [dif_pos ⟨he, hc.2, hc.1⟩, h1 n hn]
        congr 1
        · exact Fin.ext he.symm
        all_goals exact Fin.ext (by dsimp only; omega)
      · rw [dif_neg (fun h => he h.1)]
        refine (read_store3 v f (inbUp s 0 (16 * (31 - n)) (by omega) (by omega)) _ _ e r q).trans ?_
        rw [dif_pos ⟨by omega, hc.2, hc.1⟩, h0 n hn]
        congr 1
        · exact Fin.ext (by show 0 = e.val; omega)
        all_goals exact Fin.ext (by dsimp only; omega)
    · rw [dif_neg (fun h => hc ⟨h.2.2, h.2.1⟩)]
      refine (read_store3 v f (inbUp s 0 (16 * (31 - n)) (by omega) (by omega)) _ _ e r q).trans ?_
      rw [dif_neg (fun h => hc ⟨h.2.2, h.2.1⟩), ih]
      by_cases hq : s.has q.val
      · by_cases hr : 16 * (32 - n) ≤ r.val
        · rw [if_pos ⟨hq, hr⟩, if_pos ⟨hq, by omega⟩]
        · rw [if_neg (fun h => hr h.2), if_neg (fun h => hc ⟨h.1, by omega, by omega⟩)]
      · rw [if_neg (fun h => hq h.1), if_neg (fun h => hq h.1)]

/-- Sixteen rows' two halves, summed from the last to the first over a block, are the block's rows. -/
theorem sum_rows {M : Type} [AddCommMonoid M] (f : ℕ → M) :
    (∑ k : Fin 8, ∑ j ∈ Finset.range 32, (f (16 * (31 - j) + k.val) + f (16 * (31 - j) + k.val + 8))) = ∑ r : Fin 512, f r.val := by
  rw [Fin.sum_univ_eq_sum_range (fun k => ∑ j ∈ Finset.range 32, (f (16 * (31 - j) + k) + f (16 * (31 - j) + k + 8))) 8, Finset.sum_comm,
    Finset.sum_range_reflect (fun j => ∑ k ∈ Finset.range 8, (f (16 * j + k) + f (16 * j + k + 8))) 32,
    Fin.sum_univ_eq_sum_range f 512, show 512 = 32 * 16 from rfl]
  have key : ∀ n : ℕ, (∑ j ∈ Finset.range n, ∑ k ∈ Finset.range 8, (f (16 * j + k) + f (16 * j + k + 8))) = ∑ r ∈ Finset.range (n * 16), f r := by
    intro n
    induction n with
    | zero => simp
    | succ n ih =>
      rw [Finset.sum_range_succ, ih, show (n + 1) * 16 = n * 16 + 8 + 8 by omega, Finset.sum_range_add, Finset.sum_range_add,
        Finset.sum_add_distrib, add_assoc, Nat.mul_comm 16 n]
      congr 2
  exact key 32

/-- A tap's sum over a block's rows. -/
theorem tap_total (x : Fin 32 → FVec Ideal (R1 16 s.w) .f32) (a : (n : ℕ) → n < 32 → FVec Ideal (R 16 s.w) .f32)
    (q : Fin s.w) (T : ℕ → EReal)
    (hT : ∀ (n : ℕ) (hn : n < 32) (i : Fin 16), (x ⟨31 - n, by omega⟩ (ix3 0 i q) : EReal) * a n hn (ix2 i q) = T (16 * (31 - n) + i.val)) :
    total s.wide (tap s x a 32 (Nat.le_refl _)) (ix2 0 q) = (∑ r : Fin 512, T r.val : EReal) := by
  rw [total_apply, ← sum_rows]
  refine Finset.sum_congr rfl fun k _ => ?_
  have key : ∀ (n : ℕ) (hn : n ≤ 32), (tap s x a n hn (ix2 k q) : EReal) =
      ∑ j ∈ Finset.range n, (T (16 * (31 - j) + k.val) + T (16 * (31 - j) + k.val + 8)) := by
    intro n
    induction n with
    | zero => intro hn; simp only [Finset.range_zero, Finset.sum_empty]; exact zeroTap_apply k q
    | succ n ih =>
      intro hn
      rw [Finset.sum_range_succ, ← ih (Nat.le_of_succ_le hn)]
      have e : tap s x a (n + 1) hn = addTap s.wide (tap s x a n (Nat.le_of_succ_le hn)) (x ⟨31 - n, by omega⟩) (a n hn) := rfl
      rw [e, addTap_apply, hT n hn, hT n hn]
      rfl
  exact key 32 _

/-- The taps' stores, read back. -/
theorem tapsFirst_read (v : View sig .tc .vmem S3x1408 .f32) (f : v.ty.Contents (Elt Ideal)) (a : Fin 3 → FVec Ideal (R 8 s.w) .f32)
    (L : List (View.Piece (Elt Ideal) S3x1408 .f32)) (S : Fin 3 → Fin 1408 → EReal)
    (hS : ∀ (j : Fin 3) (q : Fin s.w), total s.wide (a j) (ix2 0 q) = S j ⟨s.o + q.val, by have := s.fits; omega⟩)
    (j : Fin 3) (q : Fin 1408) : ∀ (n : ℕ) (hn : n ≤ 3),
    v.read (Elt Ideal) (v.writes (Elt Ideal) f (tapsFirst s a L n hn)) (ix2 j q) =
      if s.has q.val ∧ j.val < n then S j q else v.read (Elt Ideal) (v.writes (Elt Ideal) f L) (ix2 j q) := by
  intro n
  induction n with
  | zero => intro hn; rw [if_neg (by omega)]; rfl
  | succ n ih =>
    intro hn
    have ih := ih (Nat.le_of_succ_le hn)
    unfold tapsFirst tapRect
    refine (read_store2 v f (inbTap s n hn) _ _ j q).trans ?_
    rw [ih]
    by_cases hq : s.has q.val
    · by_cases hj : j.val = n
      · subst hj
        rw [dif_pos ⟨by omega, hq⟩, if_pos ⟨hq, by omega⟩]
        have e : (⟨j.val - j.val, by omega⟩ : Fin 1) = 0 := Subsingleton.elim _ _
        refine (congrArg (fun z => total s.wide (a ⟨j.val, hn⟩) (ix2 z _)) e).trans ((hS _ _).trans ?_)
        congr 1; exact Fin.ext (by dsimp only; omega)
      · rw [dif_neg (by omega)]
        by_cases hl : j.val < n
        · rw [if_pos ⟨hq, hl⟩, if_pos ⟨hq, by omega⟩]
        · rw [if_neg (fun h => hl h.2), if_neg (by omega)]
    · rw [dif_neg (fun h => hq h.2), if_neg (fun h => hq h.1), if_neg (fun h => hq h.1)]

theorem tapsLater_read (v : View sig .tc .vmem S3x1408 .f32) (f : v.ty.Contents (Elt Ideal)) (v' : View sig .tc .vmem S3x1408 .f32)
    (f' : v'.ty.Contents (Elt Ideal)) (a : Fin 3 → FVec Ideal (R 8 s.w) .f32)
    (L : List (View.Piece (Elt Ideal) S3x1408 .f32)) (S : Fin 3 → Fin 1408 → EReal)
    (hS : ∀ (j : Fin 3) (q : Fin s.w), total s.wide (a j) (ix2 0 q) = S j ⟨s.o + q.val, by have := s.fits; omega⟩)
    (j : Fin 3) (q : Fin 1408) : ∀ (n : ℕ) (hn : n ≤ 3),
    v'.read (Elt Ideal) (v'.writes (Elt Ideal) f' (tapsLater s v f a L n hn)) (ix2 j q) =
      if s.has q.val ∧ j.val < n then (v.read (Elt Ideal) f (ix2 j q) + S j q : EReal) else v'.read (Elt Ideal) (v'.writes (Elt Ideal) f' L) (ix2 j q) := by
  have hf := s.fits
  intro n
  induction n with
  | zero => intro hn; rw [if_neg (by omega)]; rfl
  | succ n ih =>
    intro hn
    have ih := ih (Nat.le_of_succ_le hn)
    unfold tapsLater tapRect
    refine (read_store2 v' f' (inbTap s n hn) _ _ j q).trans ?_
    rw [ih]
    by_cases hq : s.has q.val
    · by_cases hj : j.val = n
      · subst hj
        rw [dif_pos ⟨by omega, hq⟩, if_pos ⟨hq, by omega⟩]
        have e : (⟨j.val - j.val, by omega⟩ : Fin 1) = 0 := Subsingleton.elim _ _
        refine (congrArg (fun z => moreTap s.wide _ (a ⟨j.val, hn⟩) (ix2 z _)) e).trans ((moreTap_apply s.wide _ _ _).trans ?_)
        rw [← total_apply s.wide, hS, read_window2 v f (inbTap s j.val hn) 0 _ (by simp) (by dsimp only; omega)]
        congr 2
        · congr 1; exact Fin.ext (by dsimp only; omega)
        · exact Fin.ext (by dsimp only; omega)
      · rw [dif_neg (by omega)]
        by_cases hl : j.val < n
        · rw [if_pos ⟨hq, hl⟩, if_pos ⟨hq, by omega⟩]
        · rw [if_neg (fun h => hl h.2), if_neg (by omega)]
    · rw [dif_neg (fun h => hq h.2), if_neg (fun h => hq h.1), if_neg (fun h => hq h.1)]

end Cert.Calls.Ffn
-- ==== Proof.FfnAt.lean ====
module

public import proofs.«01_k».proof.Proof.FfnStores
public import proofs.«01_k».proof.Proof.Gen.FfnIdeal.Frame.Runs

@[expose] public section

set_option maxRecDepth 16384

noncomputable section

/-! What the body loads at a point, and its stores, strip after strip. -/

namespace Cert.Calls.Ffn

open Cert.FfnIdeal Cert.FfnIdeal.Gen
open Idealize.ShloMosaic Idealize.ShloMosaic.TcCoe Idealize.ShloMosaic.Tactic

variable (m : (ℓ : Loc nD τ sig) → Buf (Elt Ideal) ℓ) (c : Dev nD) (t : Fin cfg0.N)

theorem inbLoad (s : Strip) (r : Fin 32) : ∀ i, (![0, 16 * r.val, s.o] : Fin 3 → ℕ) i + (R1 16 s.w).size i ≤ S1x512x1408.size i := by
  intro i; fin_cases i
  · exact Nat.le_refl _
  · show 16 * r.val + 16 ≤ 512; omega
  · exact s.fits

def loadRows (s : Strip) (a : Memref sig .tc .vmem S1x512x1408 .f32) (ha : a.IsWhole) (x : Vec Ideal S1x512x1408 .f32) (r : Fin 32) :
    FVec Ideal (R1 16 s.w) .f32 :=
  View.readAt (Elt Ideal) a.view (Rect.unit (s := S1x512x1408) ![0, 16 * r.val, s.o] (R1 16 s.w).size (inbLoad s r)).toLoadRect (ha.unread x)

def loadTap (s : Strip) (a : Memref sig .tc .vmem S3x1408 .f32) (ha : a.IsWhole) (x : Vec Ideal S3x1408 .f32) (j : Fin 3) : FVec Ideal (R 1 s.w) .f32 :=
  View.readAt (Elt Ideal) a.view (tapRect s j.val j.isLt).toLoadRect (ha.unread x)

abbrev Prods := List (View.Piece (Elt Ideal) S512x1408 .f32)

theorem inbProd (s : Strip) (r : Fin 32) : ∀ i, (![16 * r.val, s.o] : Fin 2 → ℕ) i + (R 16 s.w).size i ≤ S512x1408.size i := by
  intro i; fin_cases i
  · show 16 * r.val + 16 ≤ 512; omega
  · exact s.fits

def loadProd (s : Strip) (T : Prods) (r : Fin 32) : FVec Ideal (R 16 s.w) .f32 :=
  View.readCov scM0_2.view T (Rect.unit (s := S512x1408) ![16 * r.val, s.o] (R 16 s.w).size (inbProd s r)).toLoadRect

/-- The incoming gradient's rows, as the products take them. -/
def rowsIn : Vec Ideal S512x1024 .bf16 :=
  View.readCov scM0_3.view [⟨Rect.unit (s := S512x1024) ![0, 0] S512x1024.size inb_S512x1024_S512x1024_0_0,
    k0_pay5 (View.readAt (Elt Ideal) (ms0_0 t).view (Rect.unit ![0, 0] S512x1024.size inb_S512x1024_S512x1024_0_0).toLoadRect ((hs0_0 t).unread (iblk m c 0 t)))⟩]
    (Rect.unit ![0, 0] S512x1024.size inb_S512x1024_S512x1024_0_0).toLoadRect

def prods2 : Prods :=
  [⟨Rect.unit (s := S512x1408) ![0, 512] S512x512.size inb_S512x1408_S512x512_0_512, k0_pay7 (rowsIn m c t)
      (View.readAt (Elt Ideal) (ms0_1 t).view (Rect.unit (s := S1408x1024) ![512, 0] S512x1024.size inb_S1408x1024_S512x1024_512_0).toLoadRect ((hs0_1 t).unread (iblk m c 1 t)))⟩,
    ⟨Rect.unit (s := S512x1408) ![0, 0] S512x512.size inb_S512x1408_S512x512_0_0, k0_pay6 (rowsIn m c t)
      (View.readAt (Elt Ideal) (ms0_1 t).view (Rect.unit (s := S1408x1024) ![0, 0] S512x1024.size inb_S1408x1024_S512x1024_0_0).toLoadRect ((hs0_1 t).unread (iblk m c 1 t)))⟩]
def prods3 : Prods :=
  ⟨Rect.unit (s := S512x1408) ![0, 1024] S512x384.size inb_S512x1408_S512x384_0_1024, k0_pay754 (rowsIn m c t)
      (View.readAt (Elt Ideal) (ms0_1 t).view (Rect.unit (s := S1408x1024) ![1024, 0] S384x1024.size inb_S1408x1024_S384x1024_1024_0).toLoadRect ((hs0_1 t).unread (iblk m c 1 t)))⟩ ::
    prods2 m c t

def loads (s : Strip) (T : Prods) : Loads s.w where
  ug := loadRows s (ms0_2 t) (hs0_2 t) (iblk m c 2 t)
  uv := loadRows s (ms0_3 t) (hs0_3 t) (iblk m c 3 t)
  yg := loadRows s (ms0_4 t) (hs0_4 t) (iblk m c 4 t)
  yv := loadRows s (ms0_5 t) (hs0_5 t) (iblk m c 5 t)
  da := loadProd s T
  cg := loadTap s (ms0_6 t) (hs0_6 t) (iblk m c 6 t)
  cv := loadTap s (ms0_7 t) (hs0_7 t) (iblk m c 7 t)

def gatePay (s : Strip) (T : Prods) (r : Fin 32) : FVec Ideal (R 16 s.w) .f32 :=
  dGate s.wide ((loads m c t s T).yg r) ((loads m c t s T).yv r) ((loads m c t s T).da r)
def valPay (s : Strip) (T : Prods) (r : Fin 32) : FVec Ideal (R 16 s.w) .f32 :=
  dVal s.wide ((loads m c t s T).yg r) ((loads m c t s T).da r)

/-- The strips, and the products that lie ready for each. -/
def stripN : ℕ → Strip
  | 0 => strip0
  | 1 => strip1
  | _ => strip2
def prodsN : ℕ → Prods
  | 0 => prods2 m c t
  | _ => prods3 m c t
abbrev ld (k : ℕ) : Loads (stripN k).w := loads m c t (stripN k) (prodsN m c t k)

/-- The stores of the gate's (and of the value's) gradients once `n` strips are done, over what lay there at first. -/
def gateStores (L : Pieces) : ℕ → Pieces
  | 0 => L
  | k + 1 => done (stripN k) scM0_0.view (gatePay m c t (stripN k) (prodsN m c t k)) (gateStores L k)
def valStores (L : Pieces) : ℕ → Pieces
  | 0 => L
  | k + 1 => done (stripN k) scM0_1.view (valPay m c t (stripN k) (prodsN m c t k)) (valStores L k)

abbrev Win (w : ℕ) := (n : ℕ) → n < 32 → FVec Ideal (R 24 w) .f32

/-- The twenty-four rows a strip reads back chunk by chunk. -/
def gateWin (f : scM0_0.view.ty.Contents (Elt Ideal)) (L : Pieces) (k : ℕ) : Win (stripN k).w :=
  window (stripN k) scM0_0.view f (gatePay m c t (stripN k) (prodsN m c t k)) (gateStores m c t L k)
def valWin (f : scM0_1.view.ty.Contents (Elt Ideal)) (L : Pieces) (k : ℕ) : Win (stripN k).w :=
  window (stripN k) scM0_1.view f (valPay m c t (stripN k) (prodsN m c t k)) (valStores m c t L k)

/-- The stores of the gradient before the convolution once `n` strips are done. -/
def upAll (g v : (k : ℕ) → Win (stripN k).w) : ℕ → List (View.Piece (Elt Ideal) S2x512x1408 .bf16)
  | 0 => []
  | k + 1 => upStores (stripN k) (ld m c t k) (g k) (v k) (upAll g v k) 32 (Nat.le_refl _)

/-- A strip's sums for the three taps: the tap `j` meets the rows `2 - j` ahead. -/
def acc (s : Strip) (x : Fin 32 → FVec Ideal (R1 16 s.w) .f32) (a : Win s.w) : Fin 3 → FVec Ideal (R 8 s.w) .f32
  | 0 => tap s x (fun n hn => ahead2 s.wide (a n hn)) 32 (Nat.le_refl _)
  | 1 => tap s x (fun n hn => ahead1 s.wide (a n hn)) 32 (Nat.le_refl _)
  | 2 => tap s x (fun n hn => ahead0 s.wide (a n hn)) 32 (Nat.le_refl _)

abbrev Taps := List (View.Piece (Elt Ideal) S3x1408 .f32)

def tapsA (a : (k : ℕ) → Fin 3 → FVec Ideal (R 8 (stripN k).w) .f32) : ℕ → Taps
  | 0 => []
  | k + 1 => tapsFirst (stripN k) (a k) (tapsA a k) 3 (Nat.le_refl _)
def tapsB (v : View sig .tc .vmem S3x1408 .f32) (f : v.ty.Contents (Elt Ideal)) (a : (k : ℕ) → Fin 3 → FVec Ideal (R 8 (stripN k).w) .f32) : ℕ → Taps
  | 0 => []
  | k + 1 => tapsLater (stripN k) v f (a k) (tapsB v f a k) 3 (Nat.le_refl _)

/-- The zeros behind the last rows. -/
def zerosG : Pieces := [⟨Rect.unit (s := S520x1408) ![512, 0] S8x1408.size inb_S520x1408_S8x1408_512_0, k0_pay3 (F := Ideal)⟩]
def zerosV : Pieces := [⟨Rect.unit (s := S520x1408) ![512, 0] S8x1408.size inb_S520x1408_S8x1408_512_0, k0_pay4 (F := Ideal)⟩]

end Cert.Calls.Ffn
-- ==== Proof.FfnLoad.lean ====
module

public import proofs.«01_k».proof.Proof.FfnRead
public import proofs.«01_k».proof.Proof.FfnAt

@[expose] public section

set_option maxRecDepth 16384

noncomputable section

/-! What the strips load at a point, at an index of the point's blocks. -/

namespace Cert.Calls.Ffn

open Cert.FfnIdeal Cert.FfnIdeal.Gen
open Idealize.ShloMosaic Idealize.ShloMosaic.TcCoe Idealize.ShloMosaic.Tactic

variable (m : (ℓ : Loc nD τ sig) → Buf (Elt Ideal) ℓ) (c : Dev nD) (t : Fin cfg0.N) (s : Strip)

theorem loadRows_apply (a : Memref sig .tc .vmem S1x512x1408 .f32) (ha : a.IsWhole) (x : Vec Ideal S1x512x1408 .f32) (r : Fin 32) (i : Fin 16) (q : Fin s.w) :
    loadRows s a ha x r (ix3 0 i q) = x (ix3 0 ⟨16 * r.val + i.val, by omega⟩ ⟨s.o + q.val, by have := s.fits; omega⟩) := by
  unfold loadRows
  rw [View.readAt_unit a.view (ha.unread x) (inbLoad s r) rfl (inbLoad s r), ha.read_unread]
  unfold VecWindow.window
  congr 1
  funext b; fin_cases b
  · rfl
  · exact Fin.ext (by show 16 * r.val + 1 * i.val = 16 * r.val + i.val; omega)
  · exact Fin.ext (by show s.o + 1 * q.val = s.o + q.val; omega)

theorem loadTap_apply (a : Memref sig .tc .vmem S3x1408 .f32) (ha : a.IsWhole) (x : Vec Ideal S3x1408 .f32) (j : Fin 3) (q : Fin s.w) :
    loadTap s a ha x j (ix2 0 q) = x (ix2 j ⟨s.o + q.val, by have := s.fits; omega⟩) := by
  unfold loadTap tapRect
  rw [read_window2 a.view (ha.unread x) (inbTap s j.val j.isLt) 0 q (by simp) (by have := s.fits; omega), ha.read_unread]
  rfl

theorem rowsIn_apply (i : Fin 512) (k : Fin 1024) : rowsIn m c t (ix2 i k) = iblk m c 0 t (ix2 i k) := by
  unfold rowsIn View.readCov
  refine (read_window2 scM0_3.view _ inb_S512x1024_S512x1024_0_0 i k (by omega) (by omega)).trans ?_
  refine (read_store2 scM0_3.view _ inb_S512x1024_S512x1024_0_0 [] _ ⟨0 + i.val, by omega⟩ ⟨0 + k.val, by omega⟩).trans ?_
  rw [dif_pos ⟨by dsimp only; omega, by dsimp only; omega⟩]
  have e : ∀ (x : Vec Ideal S512x1024 .f32) (i : Fin 512) (k : Fin 1024), k0_pay5 (F := Ideal) x (ix2 i k) = x (ix2 i k) := by
    intro x i k; unfold k0_pay5; pointwise
  refine (e _ _ _).trans ?_
  refine (read_window2 (ms0_0 t).view _ inb_S512x1024_S512x1024_0_0 _ _ (by dsimp only; omega) (by dsimp only; omega)).trans ?_
  rw [(hs0_0 t).read_unread]
  congr 1
  funext b; fin_cases b
  · exact Fin.ext (by show 0 + (0 + i.val - 0) = i.val; omega)
  · exact Fin.ext (by show 0 + (0 + k.val - 0) = k.val; omega)

theorem pay6_apply (x : FVec Ideal S512x1024 .bf16) (y : FVec Ideal S512x1024 .bf16) (i j : Fin 512) :
    k0_pay6 (F := Ideal) x y (ix2 i j) = (∑ k : Fin 1024, (x (ix2 i k) : EReal) * y (ix2 j k) : EReal) := by
  unfold k0_pay6; pointwise
theorem pay7_apply (x : FVec Ideal S512x1024 .bf16) (y : FVec Ideal S512x1024 .bf16) (i j : Fin 512) :
    k0_pay7 (F := Ideal) x y (ix2 i j) = (∑ k : Fin 1024, (x (ix2 i k) : EReal) * y (ix2 j k) : EReal) := by
  unfold k0_pay7; pointwise
theorem pay754_apply (x : FVec Ideal S512x1024 .bf16) (y : FVec Ideal S384x1024 .bf16) (i : Fin 512) (j : Fin 384) :
    k0_pay754 (F := Ideal) x y (ix2 i j) = (∑ k : Fin 1024, (x (ix2 i k) : EReal) * y (ix2 j k) : EReal) := by
  unfold k0_pay754; pointwise

/-- The gradient of the gated rows of a block. -/
def daAt (x : FVec Ideal S512x1024 .f32) (y : FVec Ideal S1408x1024 .bf16) (i : Fin 512) (q : Fin 1408) : EReal :=
  ∑ k : Fin 1024, (x (ix2 i k) : EReal) * y (ix2 q k)
def daBlock (i : Fin 512) (q : Fin 1408) : EReal := daAt (iblk m c 0 t) (iblk m c 1 t) i q

theorem loadDown_apply {o n : ℕ} (inb : ∀ a, (![o, 0] : Fin 2 → ℕ) a + (R n 1024).size a ≤ S1408x1024.size a) (j : Fin n) (k : Fin 1024) (h : o + j.val < 1408) :
    View.readAt (Elt Ideal) (ms0_1 t).view (Rect.unit (s := S1408x1024) ![o, 0] (R n 1024).size inb).toLoadRect ((hs0_1 t).unread (iblk m c 1 t)) (ix2 j k) =
      iblk m c 1 t (ix2 ⟨o + j.val, h⟩ k) := by
  rw [read_window2 (ms0_1 t).view _ inb j k h (by omega), (hs0_1 t).read_unread]
  congr 1
  funext b; fin_cases b
  · rfl
  · exact Fin.ext (by show 0 + k.val = k.val; omega)

theorem prods2_read (f : scM0_2.view.ty.Contents (Elt Ideal)) (i : Fin 512) (q : Fin 1408) (hq : q.val < 1024) :
    scM0_2.view.read (Elt Ideal) (scM0_2.view.writes (Elt Ideal) f (prods2 m c t)) (ix2 i q) = daBlock m c t i q := by
  unfold prods2 daBlock daAt
  refine (read_store2 scM0_2.view f inb_S512x1408_S512x512_0_512 _ _ i q).trans ?_
  by_cases h : 512 ≤ q.val
  · rw [dif_pos ⟨by omega, by omega⟩]
    refine (pay7_apply _ _ _ _).trans (Finset.sum_congr rfl fun k _ => ?_)
    rw [rowsIn_apply]
    refine congrArg₂ _ (congrArg (iblk m c 0 t) ?_) ((loadDown_apply m c t inb_S1408x1024_S512x1024_512_0 _ k (by dsimp only; omega)).trans (congrArg (iblk m c 1 t) ?_))
    · funext b; fin_cases b
      · exact Fin.ext (by show i.val - 0 = i.val; omega)
      · rfl
    · funext b; fin_cases b
      · exact Fin.ext (by show 512 + (q.val - 512) = q.val; omega)
      · rfl
  · rw [dif_neg (by omega)]
    refine (read_store2 scM0_2.view f inb_S512x1408_S512x512_0_0 _ _ i q).trans ?_
    rw [dif_pos ⟨by omega, by omega⟩]
    refine (pay6_apply _ _ _ _).trans (Finset.sum_congr rfl fun k _ => ?_)
    rw [rowsIn_apply]
    refine congrArg₂ _ (congrArg (iblk m c 0 t) ?_) ((loadDown_apply m c t inb_S1408x1024_S512x1024_0_0 _ k (by dsimp only; omega)).trans (congrArg (iblk m c 1 t) ?_))
    · funext b; fin_cases b
      · exact Fin.ext (by show i.val - 0 = i.val; omega)
      · rfl
    · funext b; fin_cases b
      · exact Fin.ext (by show 0 + (q.val - 0) = q.val; omega)
      · rfl

theorem prods3_read (f : scM0_2.view.ty.Contents (Elt Ideal)) (i : Fin 512) (q : Fin 1408) :
    scM0_2.view.read (Elt Ideal) (scM0_2.view.writes (Elt Ideal) f (prods3 m c t)) (ix2 i q) = daBlock m c t i q := by
  unfold prods3
  refine (read_store2 scM0_2.view f inb_S512x1408_S512x384_0_1024 _ _ i q).trans ?_
  by_cases h : 1024 ≤ q.val
  · rw [dif_pos ⟨by omega, by omega⟩]
    unfold daBlock daAt
    refine (pay754_apply _ _ _ _).trans (Finset.sum_congr rfl fun k _ => ?_)
    rw [rowsIn_apply]
    refine congrArg₂ _ (congrArg (iblk m c 0 t) ?_) ((loadDown_apply m c t inb_S1408x1024_S384x1024_1024_0 _ k (by dsimp only; omega)).trans (congrArg (iblk m c 1 t) ?_))
    · funext b; fin_cases b
      · exact Fin.ext (by show i.val - 0 = i.val; omega)
      · rfl
    · funext b; fin_cases b
      · exact Fin.ext (by show 1024 + (q.val - 1024) = q.val; omega)
      · rfl
  · rw [dif_neg (by omega), prods2_read m c t f i q (by omega)]

/-- Each strip finds its products ready. -/
theorem loadProd_apply (k : ℕ) (r : Fin 32) (i : Fin 16) (q : Fin (stripN k).w) :
    loadProd (stripN k) (prodsN m c t k) r (ix2 i q) =
      daBlock m c t ⟨16 * r.val + i.val, by omega⟩ ⟨(stripN k).o + q.val, by have := (stripN k).fits; omega⟩ := by
  have hf := (stripN k).fits
  unfold loadProd View.readCov
  rw [read_window2 scM0_2.view _ (inbProd (stripN k) r) i q (by omega) (by omega)]
  match k with
  | 0 => exact prods2_read m c t _ _ _ (by show 0 + q.val < 1024; have : q.val < 512 := q.isLt; omega)
  | _ + 1 => exact prods3_read m c t _ _ _

/-- The gradients of a block's gate and value rows. -/
def dGBlock (i : Fin 512) (q : Fin 1408) : EReal := gateAt (iblk m c 4 t (ix3 0 i q)) (iblk m c 5 t (ix3 0 i q)) (daBlock m c t i q)
def dVBlock (i : Fin 512) (q : Fin 1408) : EReal := valAt (iblk m c 4 t (ix3 0 i q)) (daBlock m c t i q)

theorem gatePay_apply (k : ℕ) (r : Fin 32) (i : Fin 16) (q : Fin (stripN k).w) :
    gatePay m c t (stripN k) (prodsN m c t k) r (ix2 i q) =
      dGBlock m c t ⟨16 * r.val + i.val, by omega⟩ ⟨(stripN k).o + q.val, by have := (stripN k).fits; omega⟩ := by
  unfold gatePay loads
  dsimp only
  rw [dGate_apply, loadProd_apply, loadRows_apply, loadRows_apply]; rfl
theorem valPay_apply (k : ℕ) (r : Fin 32) (i : Fin 16) (q : Fin (stripN k).w) :
    valPay m c t (stripN k) (prodsN m c t k) r (ix2 i q) =
      dVBlock m c t ⟨16 * r.val + i.val, by omega⟩ ⟨(stripN k).o + q.val, by have := (stripN k).fits; omega⟩ := by
  unfold valPay loads
  dsimp only
  rw [dVal_apply, loadProd_apply, loadRows_apply]; rfl

end Cert.Calls.Ffn
-- ==== Proof.FfnPoint.lean ====
module

public import proofs.«01_k».proof.Proof.FfnLoad

@[expose] public section

set_option maxRecDepth 16384

noncomputable section

/-! What a point's stores leave at an index: the carried rows, the gradient before the convolution, the taps' sums. -/

namespace Cert.Calls.Ffn

open Cert.FfnIdeal Cert.FfnIdeal.Gen
open Idealize.ShloMosaic Idealize.ShloMosaic.TcCoe Idealize.ShloMosaic.Tactic

variable (m : (ℓ : Loc nD τ sig) → Buf (Elt Ideal) ℓ) (c : Dev nD) (t : Fin cfg0.N)

/-- Where a strip's columns begin. -/
def edge : ℕ → ℕ
  | 0 => 0
  | 1 => 512
  | 2 => 1024
  | _ => 1408

theorem has_iff (k : ℕ) (hk : k < 3) (q : ℕ) : (stripN k).has q ↔ edge k ≤ q ∧ q < edge (k + 1) := by
  match k, hk with
  | 0, _ => show (0 ≤ q ∧ q < 0 + 512) ↔ (0 ≤ q ∧ q < 512); omega
  | 1, _ => show (512 ≤ q ∧ q < 512 + 512) ↔ (512 ≤ q ∧ q < 1024); omega
  | 2, _ => show (1024 ≤ q ∧ q < 1024 + 384) ↔ (1024 ≤ q ∧ q < 1408); omega

theorem edge_le (k : ℕ) (hk : k < 3) : edge k ≤ edge (k + 1) := by
  match k, hk with
  | 0, _ => decide
  | 1, _ => decide
  | 2, _ => decide

/-- A block's rows and their first eight again. -/
abbrev own (D : Fin 512 → Fin 1408 → EReal) : Fin 520 → Fin 1408 → EReal := ext D fun i => D ⟨i.val, by omega⟩

theorem gateStores_read (f : scM0_0.view.ty.Contents (Elt Ideal)) (L : Pieces) (r : Fin 520) (q : Fin 1408) : ∀ (k : ℕ) (_ : k ≤ 3),
    scM0_0.view.read (Elt Ideal) (scM0_0.view.writes (Elt Ideal) f (gateStores m c t L k)) (ix2 r q) =
      if q.val < edge k then own (dGBlock m c t) r q else scM0_0.view.read (Elt Ideal) (scM0_0.view.writes (Elt Ideal) f L) (ix2 r q) := by
  intro k
  induction k with
  | zero => intro _; rw [if_neg (by simp [edge])]; rfl
  | succ k ih =>
    intro hk
    have hh := has_iff k (by omega) q.val
    have he := edge_le k (by omega)
    unfold gateStores
    rw [done_read (stripN k) scM0_0.view f _ _ (dGBlock m c t) (gatePay_apply m c t k), ih (by omega)]
    by_cases h : q.val < edge k
    · rw [if_neg (fun x => by have := hh.mp x; omega), if_pos h, if_pos (by omega)]
    · by_cases h2 : q.val < edge (k + 1)
      · rw [if_pos (hh.mpr ⟨by omega, h2⟩), if_pos h2]
      · rw [if_neg (fun x => h2 (hh.mp x).2), if_neg h, if_neg h2]

theorem valStores_read (f : scM0_1.view.ty.Contents (Elt Ideal)) (L : Pieces) (r : Fin 520) (q : Fin 1408) : ∀ (k : ℕ) (_ : k ≤ 3),
    scM0_1.view.read (Elt Ideal) (scM0_1.view.writes (Elt Ideal) f (valStores m c t L k)) (ix2 r q) =
      if q.val < edge k then own (dVBlock m c t) r q else scM0_1.view.read (Elt Ideal) (scM0_1.view.writes (Elt Ideal) f L) (ix2 r q) := by
  intro k
  induction k with
  | zero => intro _; rw [if_neg (by simp [edge])]; rfl
  | succ k ih =>
    intro hk
    have hh := has_iff k (by omega) q.val
    have he := edge_le k (by omega)
    unfold valStores
    rw [done_read (stripN k) scM0_1.view f _ _ (dVBlock m c t) (valPay_apply m c t k), ih (by omega)]
    by_cases h : q.val < edge k
    · rw [if_neg (fun x => by have := hh.mp x; omega), if_pos h, if_pos (by omega)]
    · by_cases h2 : q.val < edge (k + 1)
      · rw [if_pos (hh.mpr ⟨by omega, h2⟩), if_pos h2]
      · rw [if_neg (fun x => h2 (hh.mp x).2), if_neg h, if_neg h2]

variable (H H' : Fin 8 → Fin 1408 → EReal)

theorem gateWin_apply (f : scM0_0.view.ty.Contents (Elt Ideal)) (L : Pieces)
    (hH : ∀ (i : Fin 8) (q : Fin 1408), scM0_0.view.read (Elt Ideal) (scM0_0.view.writes (Elt Ideal) f L) (ix2 ⟨512 + i.val, by omega⟩ q) = H i q)
    (k : ℕ) (hk : k < 3) (n : ℕ) (hn : n < 32) (i : Fin 24) (q : Fin (stripN k).w) :
    gateWin m c t f L k n hn (ix2 i q) = ext (dGBlock m c t) H ⟨16 * (31 - n) + i.val, by omega⟩ ⟨(stripN k).o + q.val, by have := (stripN k).fits; omega⟩ := by
  unfold gateWin
  refine window_apply (stripN k) scM0_0.view f _ _ (dGBlock m c t) (gatePay_apply m c t k) H (fun i q hq => ?_) n hn i q
  rw [gateStores_read m c t f L _ q k (by omega), if_neg (by have := (has_iff k hk q.val).mp hq; omega)]
  exact hH i q

theorem valWin_apply (f : scM0_1.view.ty.Contents (Elt Ideal)) (L : Pieces)
    (hH : ∀ (i : Fin 8) (q : Fin 1408), scM0_1.view.read (Elt Ideal) (scM0_1.view.writes (Elt Ideal) f L) (ix2 ⟨512 + i.val, by omega⟩ q) = H i q)
    (k : ℕ) (hk : k < 3) (n : ℕ) (hn : n < 32) (i : Fin 24) (q : Fin (stripN k).w) :
    valWin m c t f L k n hn (ix2 i q) = ext (dVBlock m c t) H ⟨16 * (31 - n) + i.val, by omega⟩ ⟨(stripN k).o + q.val, by have := (stripN k).fits; omega⟩ := by
  unfold valWin
  refine window_apply (stripN k) scM0_1.view f _ _ (dVBlock m c t) (valPay_apply m c t k) H (fun i q hq => ?_) n hn i q
  rw [valStores_read m c t f L _ q k (by omega), if_neg (by have := (has_iff k hk q.val).mp hq; omega)]
  exact hH i q

/-- A row of the gradient before the convolution: the taps against the rows no, one and two ahead. -/
def upAt (w : FVec Ideal S3x1408 .f32) (E : Fin 520 → Fin 1408 → EReal) (r : Fin 512) (q : Fin 1408) : EReal :=
  (w (ix2 2 q) : EReal) * E ⟨r.val, by omega⟩ q + (w (ix2 1 q) : EReal) * E ⟨r.val + 1, by omega⟩ q + (w (ix2 0 q) : EReal) * E ⟨r.val + 2, by omega⟩ q

theorem dUp_at (s : Strip) (a : FVec Ideal (R 24 s.w) .f32) (E : Fin 520 → Fin 1408 → EReal) (n : ℕ) (hn : n < 32)
    (hE : ∀ (i : Fin 24) (q : Fin s.w), a (ix2 i q) = E ⟨16 * (31 - n) + i.val, by omega⟩ ⟨s.o + q.val, by have := s.fits; omega⟩)
    (M : Memref sig .tc .vmem S3x1408 .f32) (hM : M.IsWhole) (w : Vec Ideal S3x1408 .f32) (i : Fin 16) (q : Fin s.w) :
    dUp s.wide a (loadTap s M hM w 2) (loadTap s M hM w 1) (loadTap s M hM w 0) (ix3 0 i q) =
      upAt w E ⟨16 * (31 - n) + i.val, by omega⟩ ⟨s.o + q.val, by have := s.fits; omega⟩ := by
  rw [dUp_apply, hE, hE, hE, loadTap_apply, loadTap_apply, loadTap_apply]
  rfl

/-- Both halves of a block's gradient before the convolution. -/
def upBlock (e : Fin 2) (r : Fin 512) (q : Fin 1408) : EReal :=
  if e.val = 0 then upAt (iblk m c 6 t) (ext (dGBlock m c t) H) r q else upAt (iblk m c 7 t) (ext (dVBlock m c t) H') r q

theorem upAll_read (v : View sig .tc .vmem S2x512x1408 .bf16) (f : v.ty.Contents (Elt Ideal)) (g w : (k : ℕ) → Win (stripN k).w)
    (hg : ∀ (k : ℕ) (_ : k < 3) (n : ℕ) (hn : n < 32) (i : Fin 24) (q : Fin (stripN k).w),
      g k n hn (ix2 i q) = ext (dGBlock m c t) H ⟨16 * (31 - n) + i.val, by omega⟩ ⟨(stripN k).o + q.val, by have := (stripN k).fits; omega⟩)
    (hw : ∀ (k : ℕ) (_ : k < 3) (n : ℕ) (hn : n < 32) (i : Fin 24) (q : Fin (stripN k).w),
      w k n hn (ix2 i q) = ext (dVBlock m c t) H' ⟨16 * (31 - n) + i.val, by omega⟩ ⟨(stripN k).o + q.val, by have := (stripN k).fits; omega⟩)
    (e : Fin 2) (r : Fin 512) (q : Fin 1408) : ∀ (k : ℕ) (_ : k ≤ 3),
    v.read (Elt Ideal) (v.writes (Elt Ideal) f (upAll m c t g w k)) (ix3 e r q) =
      if q.val < edge k then upBlock m c t H H' e r q else v.read (Elt Ideal) (v.writes (Elt Ideal) f []) (ix3 e r q) := by
  intro k
  induction k with
  | zero => intro _; rw [if_neg (by simp [edge])]; rfl
  | succ k ih =>
    intro hk
    have hh := has_iff k (by omega) q.val
    have he := edge_le k (by omega)
    unfold upAll
    rw [upStores_read (stripN k) v f (ld m c t k) (g k) (w k) _ (upBlock m c t H H')
      (fun n hn i q => (dUp_at (stripN k) _ _ n hn (hg k (by omega) n hn) (ms0_6 t) (hs0_6 t) (iblk m c 6 t) i q).trans (if_pos rfl).symm)
      (fun n hn i q => (dUp_at (stripN k) _ _ n hn (hw k (by omega) n hn) (ms0_7 t) (hs0_7 t) (iblk m c 7 t) i q).trans (if_neg (show ¬((1 : Fin 2).val = 0) by decide)).symm)
      e r q 32 (Nat.le_refl _), ih (by omega)]
    by_cases h : q.val < edge k
    · rw [if_neg (fun x => by have := hh.mp x.1; omega), if_pos h, if_pos (by omega)]
    · by_cases h2 : q.val < edge (k + 1)
      · rw [if_pos ⟨hh.mpr ⟨by omega, h2⟩, by omega⟩, if_pos h2]
      · rw [if_neg (fun x => h2 (hh.mp x.1).2), if_neg h, if_neg h2]

/-- A tap's sum over a block: the rows before the convolution against the rows `2 - j` ahead. -/
def tapAt (x : FVec Ideal S1x512x1408 .f32) (E : Fin 520 → Fin 1408 → EReal) (j : Fin 3) (q : Fin 1408) : EReal :=
  ∑ r : Fin 512, (x (ix3 0 r q) : EReal) * E ⟨r.val + (2 - j.val), by omega⟩ q

theorem acc_total (s : Strip) (M : Memref sig .tc .vmem S1x512x1408 .f32) (hM : M.IsWhole) (x : Vec Ideal S1x512x1408 .f32) (a : Win s.w)
    (E : Fin 520 → Fin 1408 → EReal)
    (hE : ∀ (n : ℕ) (hn : n < 32) (i : Fin 24) (q : Fin s.w), a n hn (ix2 i q) = E ⟨16 * (31 - n) + i.val, by omega⟩ ⟨s.o + q.val, by have := s.fits; omega⟩)
    (j : Fin 3) (q : Fin s.w) :
    total s.wide (acc s (loadRows s M hM x) a j) (ix2 0 q) = tapAt x E j ⟨s.o + q.val, by have := s.fits; omega⟩ := by
  have hf := s.fits
  have key : ∀ (d : ℕ) (hd : d ≤ 2) (b : (n : ℕ) → n < 32 → FVec Ideal (R 16 s.w) .f32)
      (_ : ∀ (n : ℕ) (hn : n < 32) (i : Fin 16), b n hn (ix2 i q) = a n hn (ix2 ⟨i.val + d, by omega⟩ q)),
      total s.wide (tap s (loadRows s M hM x) b 32 (Nat.le_refl _)) (ix2 0 q) =
        (∑ r : Fin 512, (x (ix3 0 r ⟨s.o + q.val, by omega⟩) : EReal) * E ⟨r.val + d, by omega⟩ ⟨s.o + q.val, by omega⟩ : EReal) := by
    intro d hd b hb
    rw [tap_total s (loadRows s M hM x) b q
      (fun r => if h : r < 512 then (x (ix3 0 ⟨r, h⟩ ⟨s.o + q.val, by omega⟩) : EReal) * E ⟨r + d, by omega⟩ ⟨s.o + q.val, by omega⟩ else 0)
      (fun n hn i => ?_)]
    · refine Finset.sum_congr rfl fun r _ => ?_
      rw [dif_pos r.isLt]
    · rw [dif_pos (by omega), loadRows_apply, hb, hE]
      congr 2; exact Fin.ext (by dsimp only; omega)
  unfold tapAt
  match j with
  | 0 => exact key 2 (by omega) _ (fun n hn i => ahead2_apply s.wide _ i q)
  | 1 => exact key 1 (by omega) _ (fun n hn i => ahead1_apply s.wide _ i q)
  | 2 => exact key 0 (by omega) _ (fun n hn i => ahead0_apply s.wide _ i q)

theorem tapsA_read (v : View sig .tc .vmem S3x1408 .f32) (f : v.ty.Contents (Elt Ideal)) (a : (k : ℕ) → Fin 3 → FVec Ideal (R 8 (stripN k).w) .f32)
    (S : Fin 3 → Fin 1408 → EReal)
    (hS : ∀ (k : ℕ) (_ : k < 3) (j : Fin 3) (q : Fin (stripN k).w), total (stripN k).wide (a k j) (ix2 0 q) = S j ⟨(stripN k).o + q.val, by have := (stripN k).fits; omega⟩)
    (j : Fin 3) (q : Fin 1408) : ∀ (k : ℕ) (_ : k ≤ 3),
    v.read (Elt Ideal) (v.writes (Elt Ideal) f (tapsA a k)) (ix2 j q) =
      if q.val < edge k then S j q else v.read (Elt Ideal) (v.writes (Elt Ideal) f []) (ix2 j q) := by
  intro k
  induction k with
  | zero => intro _; rw [if_neg (by simp [edge])]; rfl
  | succ k ih =>
    intro hk
    have hh := has_iff k (by omega) q.val
    have he := edge_le k (by omega)
    unfold tapsA
    rw [tapsFirst_read (stripN k) v f (a k) _ S (hS k (by omega)) j q 3 (Nat.le_refl _), ih (by omega)]
    by_cases h : q.val < edge k
    · rw [if_neg (fun x => by have := hh.mp x.1; omega), if_pos h, if_pos (by omega)]
    · by_cases h2 : q.val < edge (k + 1)
      · rw [if_pos ⟨hh.mpr ⟨by omega, h2⟩, j.isLt⟩, if_pos h2]
      · rw [if_neg (fun x => h2 (hh.mp x.1).2), if_neg h, if_neg h2]

theorem tapsB_read (v : View sig .tc .vmem S3x1408 .f32) (f : v.ty.Contents (Elt Ideal)) (v' : View sig .tc .vmem S3x1408 .f32)
    (f' : v'.ty.Contents (Elt Ideal)) (a : (k : ℕ) → Fin 3 → FVec Ideal (R 8 (stripN k).w) .f32)
    (S : Fin 3 → Fin 1408 → EReal)
    (hS : ∀ (k : ℕ) (_ : k < 3) (j : Fin 3) (q : Fin (stripN k).w), total (stripN k).wide (a k j) (ix2 0 q) = S j ⟨(stripN k).o + q.val, by have := (stripN k).fits; omega⟩)
    (j : Fin 3) (q : Fin 1408) : ∀ (k : ℕ) (_ : k ≤ 3),
    v'.read (Elt Ideal) (v'.writes (Elt Ideal) f' (tapsB v f a k)) (ix2 j q) =
      if q.val < edge k then (v.read (Elt Ideal) f (ix2 j q) + S j q : EReal) else v'.read (Elt Ideal) (v'.writes (Elt Ideal) f' []) (ix2 j q) := by
  intro k
  induction k with
  | zero => intro _; rw [if_neg (by simp [edge])]; rfl
  | succ k ih =>
    intro hk
    have hh := has_iff k (by omega) q.val
    have he := edge_le k (by omega)
    unfold tapsB
    rw [tapsLater_read (stripN k) v f v' f' (a k) _ S (hS k (by omega)) j q 3 (Nat.le_refl _), ih (by omega)]
    by_cases h : q.val < edge k
    · rw [if_neg (fun x => by have := hh.mp x.1; omega), if_pos h, if_pos (by omega)]
    · by_cases h2 : q.val < edge (k + 1)
      · rw [if_pos ⟨hh.mpr ⟨by omega, h2⟩, j.isLt⟩, if_pos h2]
      · rw [if_neg (fun x => h2 (hh.mp x.1).2), if_neg h, if_neg h2]

end Cert.Calls.Ffn
-- ==== Proof.FfnRunA.lean ====
module

public import proofs.«01_k».proof.Proof.FfnAt
public import proofs.«01_k».proof.Proof.Gen.FfnIdeal.Frame.RunA

@[expose] public section

set_option maxRecDepth 16384

noncomputable section

/-! The body's stores at the first point of a column block, as the strips' stores. -/

namespace Cert.Calls.Ffn

open Cert.FfnIdeal Cert.FfnIdeal.Gen
open Idealize.ShloMosaic Idealize.ShloMosaic.TcCoe Idealize.ShloMosaic.Tactic

variable (m : (ℓ : Loc nD τ sig) → Buf (Elt Ideal) ℓ) (c : Dev nD) (t : Fin cfg0.N)

abbrev runA (h0 : t.val % 8 = 0) :=
  kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) ((hcond0_0 t).mpr h0) ((hcond0_1 t).mpr h0) (fun h => absurd ((hcond0_2 t).mp h) (by omega)) ((hcond0_3 t).mpr h0) (fun h => absurd ((hcond0_4 t).mp h) (by omega)) ((hcond0_5 t).mpr h0) (fun h => absurd ((hcond0_6 t).mp h) (by omega)) ((hcond0_7 t).mpr h0) (fun h => absurd ((hcond0_8 t).mp h) (by omega)) ((hcond0_9 t).mpr h0) (fun h => absurd ((hcond0_10 t).mp h) (by omega)) ((hcond0_11 t).mpr h0) (fun h => absurd ((hcond0_12 t).mp h) (by omega)) ((hcond0_13 t).mpr h0) (fun h => absurd ((hcond0_14 t).mp h) (by omega)) ((hcond0_15 t).mpr h0) (fun h => absurd ((hcond0_16 t).mp h) (by omega)) ((hcond0_17 t).mpr h0) (fun h => absurd ((hcond0_18 t).mp h) (by omega)) (iblk m c 0 t) (iblk m c 1 t) (iblk m c 2 t) (iblk m c 3 t) (iblk m c 4 t) (iblk m c 5 t) (iblk m c 6 t) (iblk m c 7 t)

theorem gate_first (h0 : t.val % 8 = 0) :
    (runA m c t h0).2.2.2.1 = gateStores m c t zerosG 3 := by sl_kernel_rfl
theorem val_first (h0 : t.val % 8 = 0) :
    (runA m c t h0).2.2.2.2.1 = valStores m c t zerosV 3 := by sl_kernel_rfl
theorem up_first (h0 : t.val % 8 = 0) :
    (runA m c t h0).1 = upAll m c t (gateWin m c t scM0_0.view.junk zerosG) (valWin m c t scM0_1.view.junk zerosV) 3 := by sl_kernel_rfl
theorem gtap_first (h0 : t.val % 8 = 0) :
    (runA m c t h0).2.1 = tapsA (fun k => acc (stripN k) (ld m c t k).ug (gateWin m c t scM0_0.view.junk zerosG k)) 3 := by sl_kernel_rfl
theorem vtap_first (h0 : t.val % 8 = 0) :
    (runA m c t h0).2.2.1 = tapsA (fun k => acc (stripN k) (ld m c t k).uv (valWin m c t scM0_1.view.junk zerosV k)) 3 := by sl_kernel_rfl

end Cert.Calls.Ffn
-- ==== Proof.FfnRunB.lean ====
module

public import proofs.«01_k».proof.Proof.FfnAt
public import proofs.«01_k».proof.Proof.Gen.FfnIdeal.Frame.RunB

@[expose] public section

set_option maxRecDepth 16384

noncomputable section

/-! The body's stores at a later point of a column block, as the strips' stores. -/

namespace Cert.Calls.Ffn

open Cert.FfnIdeal Cert.FfnIdeal.Gen
open Idealize.ShloMosaic Idealize.ShloMosaic.TcCoe Idealize.ShloMosaic.Tactic

variable (m : (ℓ : Loc nD τ sig) → Buf (Elt Ideal) ℓ) (c : Dev nD) (t : Fin cfg0.N)

abbrev runB (h0 : ¬t.val % 8 = 0) (y9 y10 : Vec Ideal S3x1408 .f32) (y0 y1 : Vec Ideal S520x1408 .f32) :=
  kernelRun0_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) (fun h => h0 ((hcond0_1 t).mp h)) ((hcond0_2 t).mpr (by omega)) (fun h => h0 ((hcond0_3 t).mp h)) ((hcond0_4 t).mpr (by omega)) (fun h => h0 ((hcond0_5 t).mp h)) ((hcond0_6 t).mpr (by omega)) (fun h => h0 ((hcond0_7 t).mp h)) ((hcond0_8 t).mpr (by omega)) (fun h => h0 ((hcond0_9 t).mp h)) ((hcond0_10 t).mpr (by omega)) (fun h => h0 ((hcond0_11 t).mp h)) ((hcond0_12 t).mpr (by omega)) (fun h => h0 ((hcond0_13 t).mp h)) ((hcond0_14 t).mpr (by omega)) (fun h => h0 ((hcond0_15 t).mp h)) ((hcond0_16 t).mpr (by omega)) (fun h => h0 ((hcond0_17 t).mp h)) ((hcond0_18 t).mpr (by omega)) (iblk m c 0 t) (iblk m c 1 t) (iblk m c 2 t) (iblk m c 3 t) (iblk m c 4 t) (iblk m c 5 t) (iblk m c 6 t) (iblk m c 7 t) y9 y10 y0 y1

abbrev oldG (y0 : Vec Ideal S520x1408 .f32) : scM0_0.view.ty.Contents (Elt Ideal) := (Memref.isWhole_whole _ : scM0_0.IsWhole).unread y0
abbrev oldV (y1 : Vec Ideal S520x1408 .f32) : scM0_1.view.ty.Contents (Elt Ideal) := (Memref.isWhole_whole _ : scM0_1.IsWhole).unread y1

variable (y9 y10 : Vec Ideal S3x1408 .f32) (y0 y1 : Vec Ideal S520x1408 .f32)

theorem gate_later (h0 : ¬t.val % 8 = 0) :
    (runB m c t h0 y9 y10 y0 y1).2.2.2.1 = gateStores m c t [] 3 := by sl_kernel_rfl
theorem val_later (h0 : ¬t.val % 8 = 0) :
    (runB m c t h0 y9 y10 y0 y1).2.2.2.2.1 = valStores m c t [] 3 := by sl_kernel_rfl
theorem up_later (h0 : ¬t.val % 8 = 0) :
    (runB m c t h0 y9 y10 y0 y1).1 = upAll m c t (gateWin m c t (oldG y0) []) (valWin m c t (oldV y1) []) 3 := by sl_kernel_rfl
theorem gtap_later (h0 : ¬t.val % 8 = 0) :
    (runB m c t h0 y9 y10 y0 y1).2.1 = tapsB (ms0_9 t).view ((hs0_9 t).unread y9) (fun k => acc (stripN k) (ld m c t k).ug (gateWin m c t (oldG y0) [] k)) 3 := by sl_kernel_rfl
theorem vtap_later (h0 : ¬t.val % 8 = 0) :
    (runB m c t h0 y9 y10 y0 y1).2.2.1 = tapsB (ms0_10 t).view ((hs0_10 t).unread y10) (fun k => acc (stripN k) (ld m c t k).uv (valWin m c t (oldV y1) [] k)) 3 := by sl_kernel_rfl

end Cert.Calls.Ffn
-- ==== Proof.FfnOuts.lean ====
module

public import proofs.«01_k».proof.Proof.FfnPoint
public import proofs.«01_k».proof.Proof.FfnRunA
public import proofs.«01_k».proof.Proof.FfnRunB
public import proofs.«01_k».proof.Proof.Gen.FfnIdeal.Frame

@[expose] public section

set_option maxRecDepth 16384

noncomputable section

/-! What a point leaves in the output blocks and the carried rows, over what the point before left. -/

namespace Cert.Calls.Ffn

open Cert.FfnIdeal Cert.FfnIdeal.Gen
open Idealize.ShloMosaic Idealize.ShloMosaic.TcCoe Idealize.ShloMosaic.Tactic

variable (m : (ℓ : Loc nD τ sig) → Buf (Elt Ideal) ℓ) (c : Dev nD) (t : Fin cfg0.N)

/-- No rows behind the last block. -/
abbrev none8 : Fin 8 → Fin 1408 → EReal := fun _ _ => 0

/-- The rows a carried array keeps behind the block. -/
abbrev tail8 (y : Vec Ideal S520x1408 .f32) : Fin 8 → Fin 1408 → EReal := fun i q => y (ix2 ⟨512 + i.val, by omega⟩ q)

theorem pay3_apply (i : Fin 8) (q : Fin 1408) : k0_pay3 (F := Ideal) (ix2 i q) = (0 : EReal) := by
  unfold k0_pay3; pointwise

theorem pay4_apply (i : Fin 8) (q : Fin 1408) : k0_pay4 (F := Ideal) (ix2 i q) = (0 : EReal) := by
  unfold k0_pay4; pointwise

theorem zerosG_read (i : Fin 8) (q : Fin 1408) :
    scM0_0.view.read (Elt Ideal) (scM0_0.view.writes (Elt Ideal) scM0_0.view.junk zerosG) (ix2 ⟨512 + i.val, by omega⟩ q) = none8 i q := by
  refine (read_store2 scM0_0.view _ inb_S520x1408_S8x1408_512_0 _ _ _ _).trans ?_
  rw [dif_pos (by dsimp only; omega)]
  exact pay3_apply _ _

theorem zerosV_read (i : Fin 8) (q : Fin 1408) :
    scM0_1.view.read (Elt Ideal) (scM0_1.view.writes (Elt Ideal) scM0_1.view.junk zerosV) (ix2 ⟨512 + i.val, by omega⟩ q) = none8 i q := by
  refine (read_store2 scM0_1.view _ inb_S520x1408_S8x1408_512_0 _ _ _ _).trans ?_
  rw [dif_pos (by dsimp only; omega)]
  exact pay4_apply _ _

theorem oldG_read (y : Vec Ideal S520x1408 .f32) (i : Fin 8) (q : Fin 1408) :
    scM0_0.view.read (Elt Ideal) (scM0_0.view.writes (Elt Ideal) (oldG y) []) (ix2 ⟨512 + i.val, by omega⟩ q) = tail8 y i q :=
  congrFun ((Memref.isWhole_whole _ : scM0_0.IsWhole).read_unread y) _

theorem oldV_read (y : Vec Ideal S520x1408 .f32) (i : Fin 8) (q : Fin 1408) :
    scM0_1.view.read (Elt Ideal) (scM0_1.view.writes (Elt Ideal) (oldV y) []) (ix2 ⟨512 + i.val, by omega⟩ q) = tail8 y i q :=
  congrFun ((Memref.isWhole_whole _ : scM0_1.IsWhole).read_unread y) _

section First
variable (h0 : t.val % 8 = 0)
include h0

theorem outs_first : outsAt0 m c t.val t.isLt =
    (VO0_8.read (Elt Ideal) (VO0_8.writes (Elt Ideal) VO0_8.junk (runA m c t h0).1),
     VO0_9.read (Elt Ideal) (VO0_9.writes (Elt Ideal) VO0_9.junk (runA m c t h0).2.1),
     VO0_10.read (Elt Ideal) (VO0_10.writes (Elt Ideal) VO0_10.junk (runA m c t h0).2.2.1),
     VS0_0.read (Elt Ideal) (VS0_0.writes (Elt Ideal) VS0_0.junk (runA m c t h0).2.2.2.1),
     VS0_1.read (Elt Ideal) (VS0_1.writes (Elt Ideal) VS0_1.junk (runA m c t h0).2.2.2.2.1)) :=
  outsAt0_A m c t h0 h0 (by omega) h0 (by omega) h0 (by omega) h0 (by omega) h0 (by omega) h0 (by omega) h0 (by omega) h0 (by omega) h0 (by omega)

theorem du_first (e : Fin 2) (r : Fin 512) (q : Fin 1408) :
    (outsAt0 m c t.val t.isLt).1 (ix3 e r q) = upBlock m c t none8 none8 e r q := by
  rw [outs_first m c t h0]
  dsimp only
  rw [up_first, upAll_read m c t none8 none8 _ _ _ _ (gateWin_apply m c t _ _ _ zerosG_read) (valWin_apply m c t _ _ _ zerosV_read) e r q 3 (Nat.le_refl _)]
  exact if_pos q.isLt

theorem gt_first (j : Fin 3) (q : Fin 1408) :
    (outsAt0 m c t.val t.isLt).2.1 (ix2 j q) = tapAt (iblk m c 2 t) (ext (dGBlock m c t) none8) j q := by
  rw [outs_first m c t h0]
  dsimp only
  rw [gtap_first]
  exact (tapsA_read _ _ _ (tapAt (iblk m c 2 t) (ext (dGBlock m c t) none8))
    (fun k hk j q => acc_total (stripN k) (ms0_2 t) (hs0_2 t) (iblk m c 2 t) _ _ (gateWin_apply m c t _ _ _ zerosG_read k hk) j q) j q 3 (Nat.le_refl _)).trans (if_pos q.isLt)

theorem vt_first (j : Fin 3) (q : Fin 1408) :
    (outsAt0 m c t.val t.isLt).2.2.1 (ix2 j q) = tapAt (iblk m c 3 t) (ext (dVBlock m c t) none8) j q := by
  rw [outs_first m c t h0]
  dsimp only
  rw [vtap_first]
  exact (tapsA_read _ _ _ (tapAt (iblk m c 3 t) (ext (dVBlock m c t) none8))
    (fun k hk j q => acc_total (stripN k) (ms0_3 t) (hs0_3 t) (iblk m c 3 t) _ _ (valWin_apply m c t _ _ _ zerosV_read k hk) j q) j q 3 (Nat.le_refl _)).trans (if_pos q.isLt)

theorem sg_first (r : Fin 520) (q : Fin 1408) : (outsAt0 m c t.val t.isLt).2.2.2.1 (ix2 r q) = own (dGBlock m c t) r q := by
  rw [outs_first m c t h0]
  dsimp only
  rw [gate_first, gateStores_read m c t _ _ _ _ 3 (Nat.le_refl _)]
  exact if_pos q.isLt

theorem sv_first (r : Fin 520) (q : Fin 1408) : (outsAt0 m c t.val t.isLt).2.2.2.2 (ix2 r q) = own (dVBlock m c t) r q := by
  rw [outs_first m c t h0]
  dsimp only
  rw [val_first, valStores_read m c t _ _ _ _ 3 (Nat.le_refl _)]
  exact if_pos q.isLt

end First

section Later
variable (h0 : ¬t.val % 8 = 0)
include h0

/-- What the point before left. -/
abbrev before := outsAt0 m c (t.val - 1) (by have := t.isLt; omega)

theorem outs_later : outsAt0 m c t.val t.isLt =
    (VO0_8.read (Elt Ideal) (VO0_8.writes (Elt Ideal) VO0_8.junk (runB m c t h0 (before m c t).2.1 (before m c t).2.2.1 (before m c t).2.2.2.1 (before m c t).2.2.2.2).1),
     VO0_9.read (Elt Ideal) (VO0_9.writes (Elt Ideal) VO0_9.junk (runB m c t h0 (before m c t).2.1 (before m c t).2.2.1 (before m c t).2.2.2.1 (before m c t).2.2.2.2).2.1),
     VO0_10.read (Elt Ideal) (VO0_10.writes (Elt Ideal) VO0_10.junk (runB m c t h0 (before m c t).2.1 (before m c t).2.2.1 (before m c t).2.2.2.1 (before m c t).2.2.2.2).2.2.1),
     VS0_0.read (Elt Ideal) (VS0_0.writes (Elt Ideal) VS0_0.junk (runB m c t h0 (before m c t).2.1 (before m c t).2.2.1 (before m c t).2.2.2.1 (before m c t).2.2.2.2).2.2.2.1),
     VS0_1.read (Elt Ideal) (VS0_1.writes (Elt Ideal) VS0_1.junk (runB m c t h0 (before m c t).2.1 (before m c t).2.2.1 (before m c t).2.2.2.1 (before m c t).2.2.2.2).2.2.2.2.1)) :=
  outsAt0_B m c t h0 h0 (by omega) h0 (by omega) h0 (by omega) h0 (by omega) h0 (by omega) h0 (by omega) h0 (by omega) h0 (by omega) h0 (by omega)

theorem du_later (e : Fin 2) (r : Fin 512) (q : Fin 1408) :
    (outsAt0 m c t.val t.isLt).1 (ix3 e r q) = upBlock m c t (tail8 (before m c t).2.2.2.1) (tail8 (before m c t).2.2.2.2) e r q := by
  rw [outs_later m c t h0]
  dsimp only
  rw [up_later, upAll_read m c t _ _ _ _ _ _ (gateWin_apply m c t _ _ _ (oldG_read _)) (valWin_apply m c t _ _ _ (oldV_read _)) e r q 3 (Nat.le_refl _)]
  exact if_pos q.isLt

theorem gt_later (j : Fin 3) (q : Fin 1408) :
    (outsAt0 m c t.val t.isLt).2.1 (ix2 j q) =
      ((before m c t).2.1 (ix2 j q) + tapAt (iblk m c 2 t) (ext (dGBlock m c t) (tail8 (before m c t).2.2.2.1)) j q : EReal) := by
  rw [outs_later m c t h0]
  dsimp only
  rw [gtap_later]
  refine (tapsB_read _ _ _ _ _ (tapAt (iblk m c 2 t) (ext (dGBlock m c t) (tail8 (before m c t).2.2.2.1)))
    (fun k hk j q => acc_total (stripN k) (ms0_2 t) (hs0_2 t) (iblk m c 2 t) _ _ (gateWin_apply m c t _ _ _ (oldG_read _) k hk) j q) j q 3 (Nat.le_refl _)).trans ((if_pos q.isLt).trans ?_)
  rw [(hs0_9 t).read_unread]

theorem vt_later (j : Fin 3) (q : Fin 1408) :
    (outsAt0 m c t.val t.isLt).2.2.1 (ix2 j q) =
      ((before m c t).2.2.1 (ix2 j q) + tapAt (iblk m c 3 t) (ext (dVBlock m c t) (tail8 (before m c t).2.2.2.2)) j q : EReal) := by
  rw [outs_later m c t h0]
  dsimp only
  rw [vtap_later]
  refine (tapsB_read _ _ _ _ _ (tapAt (iblk m c 3 t) (ext (dVBlock m c t) (tail8 (before m c t).2.2.2.2)))
    (fun k hk j q => acc_total (stripN k) (ms0_3 t) (hs0_3 t) (iblk m c 3 t) _ _ (valWin_apply m c t _ _ _ (oldV_read _) k hk) j q) j q 3 (Nat.le_refl _)).trans ((if_pos q.isLt).trans ?_)
  rw [(hs0_10 t).read_unread]

theorem sg_later (r : Fin 520) (q : Fin 1408) : (outsAt0 m c t.val t.isLt).2.2.2.1 (ix2 r q) = own (dGBlock m c t) r q := by
  rw [outs_later m c t h0]
  dsimp only
  rw [gate_later, gateStores_read m c t _ _ _ _ 3 (Nat.le_refl _)]
  exact if_pos q.isLt

theorem sv_later (r : Fin 520) (q : Fin 1408) : (outsAt0 m c t.val t.isLt).2.2.2.2 (ix2 r q) = own (dVBlock m c t) r q := by
  rw [outs_later m c t h0]
  dsimp only
  rw [val_later, valStores_read m c t _ _ _ _ 3 (Nat.le_refl _)]
  exact if_pos q.isLt

end Later

theorem sg_outs (r : Fin 520) (q : Fin 1408) : (outsAt0 m c t.val t.isLt).2.2.2.1 (ix2 r q) = own (dGBlock m c t) r q := by
  by_cases h0 : t.val % 8 = 0
  · exact sg_first m c t h0 r q
  · exact sg_later m c t h0 r q

theorem sv_outs (r : Fin 520) (q : Fin 1408) : (outsAt0 m c t.val t.isLt).2.2.2.2 (ix2 r q) = own (dVBlock m c t) r q := by
  by_cases h0 : t.val % 8 = 0
  · exact sv_first m c t h0 r q
  · exact sv_later m c t h0 r q

end Cert.Calls.Ffn
-- ==== Proof.FfnMath.lean ====
module

public import proofs.«01_k».proof.Proof.FfnChunk
public import proofs.«01_k».proof.FfnIdeal

@[expose] public section

noncomputable section

/-! The gradient of the gated convolution, entry by entry: the convolution's value, the gate's gradient, the gradient
before the convolution and the taps'. -/

namespace Cert.Calls.Ffn

open Cert.FfnIdeal
open Idealize.ShloMosaic Idealize.ShloMosaic.TcCoe Idealize.ShloMosaic.Tactic

variable (x : FVec Ideal S4096x5632 .f32) (w : FVec Ideal S3x5632 .f32) (wd : FVec Ideal S2816x1024 .f32) (dh : FVec Ideal S4096x1024 .f32)

/-- The rows, two rows of zeros before them. -/
def padded (R : ℕ) (C : Fin 5632) : EReal := if h : 2 ≤ R ∧ R < 4098 then x (ix2 ⟨R - 2, by omega⟩ C) else 0

/-- The convolution's value. -/
def conv (R : Fin 4096) (C : Fin 5632) : EReal :=
  (w (ix2 0 C) : EReal) * padded x R.val C + (w (ix2 1 C) : EReal) * padded x (R.val + 1) C + (w (ix2 2 C) : EReal) * padded x (R.val + 2) C

/-- The gradient reaching the gate. -/
def dAct (R : Fin 4096) (G : Fin 2816) : EReal := ∑ k : Fin 1024, (dh (ix2 R k) : EReal) * (wd (ix2 G k) : EReal)

abbrev lo (G : Fin 2816) : Fin 5632 := ⟨G.val, by omega⟩
abbrev hi (G : Fin 2816) : Fin 5632 := ⟨2816 + G.val, by omega⟩

def gradG (R : Fin 4096) (G : Fin 2816) : EReal := gateAt (conv x w R (lo G)) (conv x w R (hi G)) (dAct wd dh R G)
def gradV (R : Fin 4096) (G : Fin 2816) : EReal := valAt (conv x w R (lo G)) (dAct wd dh R G)

/-- A column of gradients after the convolution, zeros behind its last row. -/
def behind (D : Fin 4096 → EReal) (R : ℕ) : EReal := if h : R < 4096 then D ⟨R, h⟩ else 0

/-- A column of the gradient before the convolution. -/
def dRow (D : Fin 4096 → EReal) (C : Fin 5632) (R : Fin 4096) : EReal :=
  (w (ix2 2 C) : EReal) * behind D R.val + (w (ix2 1 C) : EReal) * behind D (R.val + 1) + (w (ix2 0 C) : EReal) * behind D (R.val + 2)

/-- A tap's gradient. -/
def dTap (D : Fin 4096 → EReal) (C : Fin 5632) (j : Fin 3) : EReal := ∑ R : Fin 4096, (x (ix2 R C) : EReal) * behind D (R.val + (2 - j.val))

end Cert.Calls.Ffn
-- ==== Proof.FfnBlocks.lean ====
module

public import proofs.«01_k».proof.Proof.FfnOuts
public import proofs.«01_k».proof.Proof.FfnMath
public import proofs.«01_k».proof.Proof.Gen.FfnIdeal.Value
public import Idealize.ShloMosaic.Lib.Pointwise
public import Idealize.ShloMosaic.Lib.Layout
public import Idealize.ShloMosaic.Lib.Pipeline.ReadBack
public import Idealize.ShloMosaic.Lib.Pipeline.ValueKit
public import Idealize.ShloMosaic.Lib.Claim

@[expose] public section

set_option maxRecDepth 16384

noncomputable section

/-! What the blocks the kernel reads hold, in terms of the arguments. -/

namespace Cert.Calls.Ffn

open Cert.FfnIdeal Cert.FfnIdeal.Gen
open Idealize.ShloMosaic Idealize.ShloMosaic.TcCoe Idealize.ShloMosaic.Tactic

variable (m : (ℓ : Loc nD τ sig) → Buf (Elt Ideal) ℓ) (c : Dev nD)

abbrev X : FVec Ideal S4096x5632 .f32 := m ((c : Thread nD τ).loc main_arg0)
abbrev W : FVec Ideal S3x5632 .f32 := m ((c : Thread nD τ).loc main_arg1)
abbrev WD : FVec Ideal S2816x1024 .f32 := m ((c : Thread nD τ).loc main_arg2)
abbrev DH : FVec Ideal S4096x1024 .f32 := m ((c : Thread nD τ).loc main_arg3)

theorem idx : ∀ t : Fin grid0.N, win0_0.index t = ![7 - t.val % 8, 0] ∧ win0_1.index t = ![t.val / 8, 0] ∧
    win0_2.index t = ![0, 7 - t.val % 8, t.val / 8] ∧ win0_3.index t = ![1, 7 - t.val % 8, t.val / 8] ∧
    win0_4.index t = ![0, 7 - t.val % 8, t.val / 8] ∧ win0_5.index t = ![1, 7 - t.val % 8, t.val / 8] ∧
    win0_6.index t = ![0, t.val / 8] ∧ win0_7.index t = ![0, 2 + t.val / 8] ∧
    win0_8.index t = ![0, 7 - t.val % 8, t.val / 8] ∧ win0_9.index t = ![0, t.val / 8] ∧ win0_10.index t = ![0, t.val / 8] := by
  decide +kernel

variable (t : Fin cfg0.N)

/-- The array's row of a block's row, the column of a block's column. -/
abbrev row (r : Fin 512) : Fin 4096 := ⟨512 * (7 - t.val % 8) + r.val, by omega⟩
abbrev col (q : Fin 1408) : Fin 2816 := ⟨1408 * (t.val / 8) + q.val, by have h := t.isLt; change t.val < 16 at h; omega⟩

theorem dh_block (r : Fin 512) (k : Fin 1024) : iblk m c 0 t (ix2 r k) = DH m c (ix2 (row t r) k) := by
  blk_ext [iblk, V, idx t]

theorem wd_block (q : Fin 1408) (k : Fin 1024) : iblk m c 1 t (ix2 q k) = WD m c (ix2 (col t q) k) := by
  blk_simp [iblk]
  entry_read
  pointwise
  blk_ext [idx t]

theorem padded_eq (x : FVec Ideal S4096x5632 .f32) (n n' : ℕ) (e : n' = n) (h : n < 4098) (C : Fin 5632) :
    (if _ : n' < 2 then (0 : EReal) else x (ix2 ⟨n' - 2, by omega⟩ C)) = padded x n C := by
  subst e
  unfold padded
  by_cases h2 : n' < 2
  · rw [dif_pos h2, dif_neg (by omega)]
  · rw [dif_neg h2, dif_pos (by omega)]

theorem padded_two (x : FVec Ideal S4096x5632 .f32) (R : Fin 4096) (C : Fin 5632) : x (ix2 R C) = padded x (R.val + 2) C := by
  unfold padded
  rw [dif_pos (by omega)]
  rfl

/-- The host's operations behind the convolution. -/
abbrev rest : List (HloOp τ sig (Elt Ideal)) := (hostOps0 (F := Ideal)).drop 23

theorem after_rest (b : Ref sig .tc) : V m c b = StableHlo.after rest (StableHlo.after ((hostOps0 (F := Ideal)).take 23) fun b => m (c, b)) b := rfl

theorem rest_y (σ : Valuation τ sig (Elt Ideal)) : StableHlo.after rest σ main_v21 = σ main_v21 := by
  simp only [rest, hostOps0, List.drop_succ_cons, List.drop_zero]
  entry_read
  rfl

theorem rest_lo (σ : Valuation τ sig (Elt Ideal)) (R : Fin 4096) (G : Fin 2816) :
    (StableHlo.after rest σ main_v32 : FVec Ideal S2x4096x2816 .f32) (ix3 0 R G) = (σ main_v21 : FVec Ideal S4096x5632 .f32) (ix2 R (lo G)) := by
  simp only [rest, hostOps0, List.drop_succ_cons, List.drop_zero]
  entry_read
  pointwise

theorem rest_hi (σ : Valuation τ sig (Elt Ideal)) (R : Fin 4096) (G : Fin 2816) :
    (StableHlo.after rest σ main_v32 : FVec Ideal S2x4096x2816 .f32) (ix3 1 R G) = (σ main_v21 : FVec Ideal S4096x5632 .f32) (ix2 R (hi G)) := by
  simp only [rest, hostOps0, List.drop_succ_cons, List.drop_zero]
  entry_read
  pointwise

/-- The convolution's value, as the host computes it. -/
theorem y_host (R : Fin 4096) (C : Fin 5632) : (V m c main_v21 : FVec Ideal S4096x5632 .f32) (ix2 R C) = conv (X m c) (W m c) R C := by
  entry_read
  pointwise
  unfold conv
  rw [padded_eq _ R.val R.val rfl (by omega), padded_eq _ (R.val + 1) (1 + R.val) (by omega) (by omega), ← padded_two]

theorem y_stack_lo (R : Fin 4096) (G : Fin 2816) : (V m c main_v32 : FVec Ideal S2x4096x2816 .f32) (ix3 0 R G) = conv (X m c) (W m c) R (lo G) := by
  rw [← y_host, after_rest m c main_v32, after_rest m c main_v21, rest_y]
  exact rest_lo _ R G

theorem y_stack_hi (R : Fin 4096) (G : Fin 2816) : (V m c main_v32 : FVec Ideal S2x4096x2816 .f32) (ix3 1 R G) = conv (X m c) (W m c) R (hi G) := by
  rw [← y_host, after_rest m c main_v32, after_rest m c main_v21, rest_y]
  exact rest_hi _ R G

theorem x_stack_lo (R : Fin 4096) (G : Fin 2816) : (V m c main_v27 : FVec Ideal S2x4096x2816 .f32) (ix3 0 R G) = X m c (ix2 R (lo G)) := by
  entry_read
  pointwise

theorem x_stack_hi (R : Fin 4096) (G : Fin 2816) : (V m c main_v27 : FVec Ideal S2x4096x2816 .f32) (ix3 1 R G) = X m c (ix2 R (hi G)) := by
  entry_read
  pointwise

theorem up_gate_block (r : Fin 512) (q : Fin 1408) : iblk m c 2 t (ix3 0 r q) = X m c (ix2 (row t r) (lo (col t q))) :=
  Eq.trans (by blk_ext [iblk, idx t]) (x_stack_lo m c (row t r) (col t q))

theorem up_val_block (r : Fin 512) (q : Fin 1408) : iblk m c 3 t (ix3 0 r q) = X m c (ix2 (row t r) (hi (col t q))) :=
  Eq.trans (by blk_ext [iblk, idx t]) (x_stack_hi m c (row t r) (col t q))

theorem y_gate_block (r : Fin 512) (q : Fin 1408) : iblk m c 4 t (ix3 0 r q) = conv (X m c) (W m c) (row t r) (lo (col t q)) :=
  Eq.trans (by blk_ext [iblk, idx t]) (y_stack_lo m c (row t r) (col t q))

theorem y_val_block (r : Fin 512) (q : Fin 1408) : iblk m c 5 t (ix3 0 r q) = conv (X m c) (W m c) (row t r) (hi (col t q)) :=
  Eq.trans (by blk_ext [iblk, idx t]) (y_stack_hi m c (row t r) (col t q))

theorem w_gate_block (j : Fin 3) (q : Fin 1408) : iblk m c 6 t (ix2 j q) = W m c (ix2 j (lo (col t q))) := by
  blk_ext [iblk, V, idx t]

theorem w_val_block (j : Fin 3) (q : Fin 1408) : iblk m c 7 t (ix2 j q) = W m c (ix2 j (hi (col t q))) := by
  blk_ext [iblk, V, idx t]

end Cert.Calls.Ffn
-- ==== Proof.FfnSteps.lean ====
module

public import proofs.«01_k».proof.Proof.FfnBlocks

@[expose] public section

set_option maxRecDepth 16384

noncomputable section

/-! What every point leaves, in terms of the arguments: rows of the gradient before the convolution, the taps' sums so far. -/

namespace Cert.Calls.Ffn

open Cert.FfnIdeal Cert.FfnIdeal.Gen
open Idealize.ShloMosaic Idealize.ShloMosaic.TcCoe Idealize.ShloMosaic.Tactic

variable (m : (ℓ : Loc nD τ sig) → Buf (Elt Ideal) ℓ) (c : Dev nD) (t : Fin cfg0.N)

/-- The columns of the gradient after the convolution. -/
abbrev DG (G : Fin 2816) (R : Fin 4096) : EReal := gradG (X m c) (W m c) (WD m c) (DH m c) R G
abbrev DV (G : Fin 2816) (R : Fin 4096) : EReal := gradV (X m c) (W m c) (WD m c) (DH m c) R G

theorem da_eq (r : Fin 512) (q : Fin 1408) : daBlock m c t r q = dAct (WD m c) (DH m c) (row t r) (col t q) := by
  unfold daBlock daAt dAct
  exact Finset.sum_congr rfl fun k _ => congrArg₂ (fun a b : EReal => a * b) (dh_block m c t r k) (wd_block m c t q k)

theorem dG_eq (r : Fin 512) (q : Fin 1408) : dGBlock m c t r q = DG m c (col t q) (row t r) := by
  unfold dGBlock DG gradG
  rw [da_eq, y_gate_block, y_val_block]

theorem dV_eq (r : Fin 512) (q : Fin 1408) : dVBlock m c t r q = DV m c (col t q) (row t r) := by
  unfold dVBlock DV gradV
  rw [da_eq, y_gate_block]

/-- A block's rows and the rows kept behind them are the array's rows from the block's first on. -/
theorem ext_eq (D : Fin 512 → Fin 1408 → EReal) (H : Fin 8 → Fin 1408 → EReal) (E : Fin 2816 → Fin 4096 → EReal)
    (hD : ∀ r q, D r q = E (col t q) (row t r))
    (hH : ∀ (i : Fin 8) q, H i q = behind (E (col t q)) (512 * (7 - t.val % 8) + 512 + i.val)) (r : Fin 520) (q : Fin 1408) :
    ext D H r q = behind (E (col t q)) (512 * (7 - t.val % 8) + r.val) := by
  unfold ext
  by_cases h : r.val < 512
  · rw [dif_pos h, hD]
    unfold behind
    rw [dif_pos (by omega)]
  · rw [dif_neg h, hH]
    congr 1
    dsimp only
    omega

theorem none_eq (h0 : t.val % 8 = 0) (D : Fin 4096 → EReal) (i : Fin 8) (q : Fin 1408) : none8 i q = behind D (512 * (7 - t.val % 8) + 512 + i.val) := by
  unfold behind
  rw [dif_neg (by omega)]

theorem kept (h0 : ¬t.val % 8 = 0) (y : Vec Ideal S520x1408 .f32) (D : Fin 512 → Fin 1408 → EReal) (E : Fin 2816 → Fin 4096 → EReal)
    (hy : ∀ r q, y (ix2 r q) = own D r q) (t' : Fin cfg0.N) (ht : t'.val = t.val - 1) (hD : ∀ r q, D r q = E (col t' q) (row t' r)) (i : Fin 8) (q : Fin 1408) :
    tail8 y i q = behind (E (col t q)) (512 * (7 - t.val % 8) + 512 + i.val) := by
  have e : col t' q = col t q := Fin.ext (by dsimp only; omega)
  unfold tail8
  rw [hy]
  unfold own ext
  rw [dif_neg (by dsimp only; omega)]
  dsimp only
  rw [hD, e]
  unfold behind
  have hN : t.val < 16 := t.isLt
  rw [dif_pos (by omega)]
  congr 1
  exact Fin.ext (by dsimp only; omega)

/-- The point before. -/
abbrev prev : Fin cfg0.N := ⟨t.val - 1, by have := t.isLt; omega⟩

theorem keptG (h0 : ¬t.val % 8 = 0) (i : Fin 8) (q : Fin 1408) :
    tail8 (before m c t).2.2.2.1 i q = behind (DG m c (col t q)) (512 * (7 - t.val % 8) + 512 + i.val) :=
  kept t h0 _ _ (DG m c) (sg_outs m c (prev t)) (prev t) rfl (dG_eq m c (prev t)) i q

theorem keptV (h0 : ¬t.val % 8 = 0) (i : Fin 8) (q : Fin 1408) :
    tail8 (before m c t).2.2.2.2 i q = behind (DV m c (col t q)) (512 * (7 - t.val % 8) + 512 + i.val) :=
  kept t h0 _ _ (DV m c) (sv_outs m c (prev t)) (prev t) rfl (dV_eq m c (prev t)) i q

theorem upAt_eq (w : FVec Ideal S3x1408 .f32) (C : Fin 5632) (E : Fin 520 → Fin 1408 → EReal) (D : Fin 4096 → EReal) (r : Fin 512) (q : Fin 1408)
    (hw : ∀ j, w (ix2 j q) = W m c (ix2 j C)) (hE : ∀ r, E r q = behind D (512 * (7 - t.val % 8) + r.val)) :
    upAt w E r q = dRow (W m c) D C (row t r) := by
  unfold upAt dRow
  rw [hE, hE, hE, hw, hw, hw]
  rfl

/-- A tap's share of the row block `b`. -/
def part (D : Fin 4096 → EReal) (C : Fin 5632) (j : Fin 3) (b : ℕ) : EReal :=
  ∑ r : Fin 512, (X m c (ix2 ⟨512 * (b % 8) + r.val, by omega⟩ C) : EReal) * behind D (512 * (b % 8) + r.val + (2 - j.val))

theorem tapAt_eq (x : FVec Ideal S1x512x1408 .f32) (C : Fin 5632) (E : Fin 520 → Fin 1408 → EReal) (D : Fin 4096 → EReal) (j : Fin 3) (q : Fin 1408)
    (hx : ∀ r, x (ix3 0 r q) = X m c (ix2 (row t r) C)) (hE : ∀ r, E r q = behind D (512 * (7 - t.val % 8) + r.val)) :
    tapAt x E j q = part m c D C j (7 - t.val % 8) := by
  unfold tapAt part
  refine Finset.sum_congr rfl fun r _ => ?_
  rw [hE, hx]
  have e : (7 - t.val % 8) % 8 = 7 - t.val % 8 := by omega
  simp only [e, Nat.add_assoc]

/-- The rows of the gradient before the convolution a point writes. -/
theorem du_outs (e : Fin 2) (r : Fin 512) (q : Fin 1408) :
    (outsAt0 m c t.val t.isLt).1 (ix3 e r q) =
      if e.val = 0 then dRow (W m c) (DG m c (col t q)) (lo (col t q)) (row t r) else dRow (W m c) (DV m c (col t q)) (hi (col t q)) (row t r) := by
  by_cases h0 : t.val % 8 = 0
  · rw [du_first m c t h0]
    unfold upBlock
    rw [upAt_eq m c t (iblk m c 6 t) (lo (col t q)) _ (DG m c (col t q)) r q (fun j => w_gate_block m c t j q) (fun r => ext_eq t _ _ (DG m c) (dG_eq m c t) (fun i q => none_eq t h0 _ i q) r q),
      upAt_eq m c t (iblk m c 7 t) (hi (col t q)) _ (DV m c (col t q)) r q (fun j => w_val_block m c t j q) (fun r => ext_eq t _ _ (DV m c) (dV_eq m c t) (fun i q => none_eq t h0 _ i q) r q)]
  · rw [du_later m c t h0]
    unfold upBlock
    rw [upAt_eq m c t (iblk m c 6 t) (lo (col t q)) _ (DG m c (col t q)) r q (fun j => w_gate_block m c t j q) (fun r => ext_eq t _ _ (DG m c) (dG_eq m c t) (keptG m c t h0) r q),
      upAt_eq m c t (iblk m c 7 t) (hi (col t q)) _ (DV m c (col t q)) r q (fun j => w_val_block m c t j q) (fun r => ext_eq t _ _ (DV m c) (dV_eq m c t) (keptV m c t h0) r q)]

theorem gt_start (h0 : t.val % 8 = 0) (j : Fin 3) (q : Fin 1408) :
    (outsAt0 m c t.val t.isLt).2.1 (ix2 j q) = part m c (DG m c (col t q)) (lo (col t q)) j 7 := by
  rw [gt_first m c t h0, tapAt_eq m c t (iblk m c 2 t) (lo (col t q)) _ (DG m c (col t q)) j q (fun r => up_gate_block m c t r q)
    (fun r => ext_eq t _ _ (DG m c) (dG_eq m c t) (fun i q => none_eq t h0 _ i q) r q), h0]

theorem vt_start (h0 : t.val % 8 = 0) (j : Fin 3) (q : Fin 1408) :
    (outsAt0 m c t.val t.isLt).2.2.1 (ix2 j q) = part m c (DV m c (col t q)) (hi (col t q)) j 7 := by
  rw [vt_first m c t h0, tapAt_eq m c t (iblk m c 3 t) (hi (col t q)) _ (DV m c (col t q)) j q (fun r => up_val_block m c t r q)
    (fun r => ext_eq t _ _ (DV m c) (dV_eq m c t) (fun i q => none_eq t h0 _ i q) r q), h0]

theorem gt_step (h0 : ¬t.val % 8 = 0) (j : Fin 3) (q : Fin 1408) :
    (outsAt0 m c t.val t.isLt).2.1 (ix2 j q) =
      ((before m c t).2.1 (ix2 j q) + part m c (DG m c (col t q)) (lo (col t q)) j (7 - t.val % 8) : EReal) := by
  rw [gt_later m c t h0, tapAt_eq m c t (iblk m c 2 t) (lo (col t q)) _ (DG m c (col t q)) j q (fun r => up_gate_block m c t r q)
    (fun r => ext_eq t _ _ (DG m c) (dG_eq m c t) (keptG m c t h0) r q)]

theorem vt_step (h0 : ¬t.val % 8 = 0) (j : Fin 3) (q : Fin 1408) :
    (outsAt0 m c t.val t.isLt).2.2.1 (ix2 j q) =
      ((before m c t).2.2.1 (ix2 j q) + part m c (DV m c (col t q)) (hi (col t q)) j (7 - t.val % 8) : EReal) := by
  rw [vt_later m c t h0, tapAt_eq m c t (iblk m c 3 t) (hi (col t q)) _ (DV m c (col t q)) j q (fun r => up_val_block m c t r q)
    (fun r => ext_eq t _ _ (DV m c) (dV_eq m c t) (keptV m c t h0) r q)]

/-- All row blocks' shares, the last block first, are the tap's gradient. -/
theorem parts (D : Fin 4096 → EReal) (C : Fin 5632) (j : Fin 3) : ∑ s ∈ Finset.range 8, part m c D C j (7 - s) = dTap (X m c) D C j := by
  rw [Finset.sum_range_reflect (fun s => part m c D C j s) 8, ← Fin.sum_univ_eq_sum_range]
  unfold dTap
  rw [← Fin.sum_mul_add_fin (L := 4096) 8 512]
  refine Finset.sum_congr rfl fun n _ => ?_
  unfold part
  refine Finset.sum_congr rfl fun r _ => ?_
  have e : 512 * (n.val % 8) + r.val = n.val * 512 + r.val := by omega
  simp only [e]

theorem gt_sum (h : Fin 2) (j : Fin 3) (q : Fin 1408) : ∀ (n : ℕ) (hn : n < 8),
    (outsAt0 m c (8 * h.val + n) (by change _ < 16; omega)).2.1 (ix2 j q) =
      (∑ s ∈ Finset.range (n + 1), part m c (DG m c ⟨1408 * h.val + q.val, by omega⟩) ⟨1408 * h.val + q.val, by omega⟩ j (7 - s) : EReal) := by
  intro n
  induction n with
  | zero =>
    intro hn
    have e : col ⟨8 * h.val + 0, by change _ < 16; omega⟩ q = ⟨1408 * h.val + q.val, by omega⟩ := Fin.ext (by dsimp only; omega)
    rw [Finset.sum_range_one, gt_start m c ⟨8 * h.val + 0, by change _ < 16; omega⟩ (by dsimp only; omega), e]
  | succ n ih =>
    intro hn
    have e : col ⟨8 * h.val + (n + 1), by change _ < 16; omega⟩ q = ⟨1408 * h.val + q.val, by omega⟩ := Fin.ext (by dsimp only; omega)
    have e2 : (8 * h.val + (n + 1)) % 8 = n + 1 := by omega
    rw [Finset.sum_range_succ, ← ih (by omega), gt_step m c ⟨8 * h.val + (n + 1), by change _ < 16; omega⟩ (by dsimp only; omega), e]
    dsimp only
    rw [e2]
    rfl

theorem vt_sum (h : Fin 2) (j : Fin 3) (q : Fin 1408) : ∀ (n : ℕ) (hn : n < 8),
    (outsAt0 m c (8 * h.val + n) (by change _ < 16; omega)).2.2.1 (ix2 j q) =
      (∑ s ∈ Finset.range (n + 1), part m c (DV m c ⟨1408 * h.val + q.val, by omega⟩) ⟨2816 + (1408 * h.val + q.val), by omega⟩ j (7 - s) : EReal) := by
  intro n
  induction n with
  | zero =>
    intro hn
    have e : col ⟨8 * h.val + 0, by change _ < 16; omega⟩ q = ⟨1408 * h.val + q.val, by omega⟩ := Fin.ext (by dsimp only; omega)
    rw [Finset.sum_range_one, vt_start m c ⟨8 * h.val + 0, by change _ < 16; omega⟩ (by dsimp only; omega), e]
  | succ n ih =>
    intro hn
    have e : col ⟨8 * h.val + (n + 1), by change _ < 16; omega⟩ q = ⟨1408 * h.val + q.val, by omega⟩ := Fin.ext (by dsimp only; omega)
    have e2 : (8 * h.val + (n + 1)) % 8 = n + 1 := by omega
    rw [Finset.sum_range_succ, ← ih (by omega), vt_step m c ⟨8 * h.val + (n + 1), by change _ < 16; omega⟩ (by dsimp only; omega), e]
    dsimp only
    rw [e2]
    rfl

end Cert.Calls.Ffn
-- ==== Proof.FfnArrays.lean ====
module

public import proofs.«01_k».proof.Proof.FfnSteps

@[expose] public section

set_option maxRecDepth 16384

noncomputable section

/-! What the three output arrays hold after the last point. -/

namespace Cert.Calls.Ffn

open Cert.FfnIdeal Cert.FfnIdeal.Gen
open Idealize.ShloMosaic Idealize.ShloMosaic.TcCoe Idealize.ShloMosaic.Tactic

variable (m : (ℓ : Loc nD τ sig) → Buf (Elt Ideal) ℓ) (c : Dev nD)

/-- The gradient before the convolution, both halves of its columns stacked. -/
def upArr : FVec Ideal S2x4096x2816 .bf16 := fun i =>
  if (i 0).val = 0 then dRow (W m c) (DG m c (i 2)) (lo (i 2)) (i 1) else dRow (W m c) (DV m c (i 2)) (hi (i 2)) (i 1)

/-- The taps' gradients, a half of the columns each. -/
def tapGArr : FVec Ideal S3x2816 .f32 := fun i => dTap (X m c) (DG m c (i 1)) (lo (i 1)) (i 0)
def tapVArr : FVec Ideal S3x2816 .f32 := fun i => dTap (X m c) (DV m c (i 1)) (hi (i 1)) (i 0)

theorem up_array : (dats m 0 c).arrAt 8 cfg0.N = upArr m c := by
  refine (dats m 0 c).arrAt_eq_of_covers 8 _ (by decide +kernel) fun t hf y => ?_
  blk_simp
  rw [after0_8]
  have h0 : ((win0_8.blk t).view.emb y 0).val = (y 0).val := by blk_simp [idx t]
  have h1 : ((win0_8.blk t).view.emb y 1).val = 512 * (7 - t.val % 8) + (y 1).val := by blk_simp [idx t]; omega
  have h2 : ((win0_8.blk t).view.emb y 2).val = 1408 * (t.val / 8) + (y 2).val := by blk_simp [idx t]; omega
  have e1 : (win0_8.blk t).view.emb y 1 = row t (y 1) := Fin.ext h1
  have e2 : (win0_8.blk t).view.emb y 2 = col t (y 2) := Fin.ext h2
  refine (congrArg _ (ix3_eta y).symm).trans ((du_outs m c t (y 0) (y 1) (y 2)).trans ?_)
  unfold upArr
  rw [e1, e2, h0]

theorem last_of_flush : ∀ t : Fin cfg0.N, ((cfg0.win 9).flush t = true ∨ (cfg0.win 10).flush t = true) → t.val % 8 = 7 := by decide +kernel

theorem tapG_array : (dats m 0 c).arrAt 9 cfg0.N = tapGArr m c := by
  refine (dats m 0 c).arrAt_eq_of_covers 9 _ (by decide +kernel) fun t hf y => ?_
  have ht := last_of_flush t (Or.inl hf)
  have hN : t.val < 16 := t.isLt
  blk_simp
  rw [after0_9]
  have h0 : ((win0_9.blk t).view.emb y 0).val = (y 0).val := by blk_simp [idx t]
  have h1 : ((win0_9.blk t).view.emb y 1).val = 1408 * (t.val / 8) + (y 1).val := by blk_simp [idx t]; omega
  have e0 : (win0_9.blk t).view.emb y 0 = y 0 := Fin.ext h0
  have e1 : (win0_9.blk t).view.emb y 1 = ⟨1408 * (t.val / 8) + (y 1).val, (col t (y 1)).isLt⟩ := Fin.ext h1
  have et : t.val = 8 * (t.val / 8) + 7 := by omega
  have key := (gt_sum m c ⟨t.val / 8, by omega⟩ (y 0) (y 1) 7 (by omega)).trans (parts m c _ _ _)
  simp only [← et] at key
  refine (congrArg _ (ix2_eta y).symm).trans (key.trans ?_)
  unfold tapGArr
  rw [e0, e1]
  rfl

theorem tapV_array : (dats m 0 c).arrAt 10 cfg0.N = tapVArr m c := by
  refine (dats m 0 c).arrAt_eq_of_covers 10 _ (by decide +kernel) fun t hf y => ?_
  have ht := last_of_flush t (Or.inr hf)
  have hN : t.val < 16 := t.isLt
  blk_simp
  rw [after0_10]
  have h0 : ((win0_10.blk t).view.emb y 0).val = (y 0).val := by blk_simp [idx t]
  have h1 : ((win0_10.blk t).view.emb y 1).val = 1408 * (t.val / 8) + (y 1).val := by blk_simp [idx t]; omega
  have e0 : (win0_10.blk t).view.emb y 0 = y 0 := Fin.ext h0
  have e1 : (win0_10.blk t).view.emb y 1 = ⟨1408 * (t.val / 8) + (y 1).val, (col t (y 1)).isLt⟩ := Fin.ext h1
  have et : t.val = 8 * (t.val / 8) + 7 := by omega
  have key := (vt_sum m c ⟨t.val / 8, by omega⟩ (y 0) (y 1) 7 (by omega)).trans (parts m c _ _ _)
  simp only [← et] at key
  refine (congrArg _ (ix2_eta y).symm).trans (key.trans ?_)
  unfold tapVArr
  rw [e0, e1]
  rfl

end Cert.Calls.Ffn
-- ==== Proof.FfnRef.lean ====
module

public import proofs.«01_k».proof.Proof.FfnMath
public import proofs.«01_k».proof.Proof.Gen.FfnRefIdeal.Run
public import proofs.«01_k».proof.Proof.Gen.FfnRefIdeal.Read
public import Idealize.ShloMosaic.Lib.Pointwise
public import Idealize.ShloMosaic.Lib.Layout
public import Idealize.ShloMosaic.Lib.Claim

@[expose] public section

set_option maxRecDepth 16384

noncomputable section

/-! What the reference computes, stage by stage, at an index. -/

namespace Cert.Calls.Ffn

open Cert.FfnIdeal
open Cert.FfnRefIdeal.Read
open Idealize.ShloMosaic Idealize.ShloMosaic.TcCoe Idealize.ShloMosaic.Tactic

variable (x : FVec Ideal S4096x5632 .f32) (w : FVec Ideal S3x5632 .f32) (wd : FVec Ideal S2816x1024 .f32) (dh : FVec Ideal S4096x1024 .f32)

theorem padded_ref (n n' : ℕ) (e : n' = n) (h : n < 4098) (C : Fin 5632) :
    (if _ : n' < 2 then (0 : EReal) else x (ix2 ⟨n' - 2, by omega⟩ C)) = padded x n C := by
  subst e
  unfold padded
  by_cases h2 : n' < 2
  · rw [dif_pos h2, dif_neg (by omega)]
  · rw [dif_neg h2, dif_pos (by omega)]

theorem padded_shift (R : Fin 4096) (C : Fin 5632) : x (ix2 R C) = padded x (R.val + 2) C := by
  unfold padded
  rw [dif_pos (by omega)]
  rfl

theorem ref_conv (R : Fin 4096) (C : Fin 5632) : val_main_v22 (F := Ideal) x w (ix2 R C) = conv x w R C := by
  unfold val_main_v22 val_main_v21 val_main_v20 val_main_v19 val_main_v18 val_main_v17 val_main_v16 val_main_v15 val_main_v14 val_main_v13
    val_main_v12 val_main_v11 val_main_v10 val_main_v9 val_main_v8 val_main_v7 val_main_v6 val_main_v5 val_main_v4 val_main_v3 val_main_v1 val_main_v0 val_main_cst
  pointwise
  unfold conv
  rw [padded_ref x R.val R.val rfl (by omega), padded_ref x (R.val + 1) (1 + R.val) (by omega) (by omega), ← padded_shift]

theorem ref_act (R : Fin 4096) (G : Fin 2816) : val_main_v28 (F := Ideal) wd dh (ix2 R G) = dAct wd dh R G := by
  unfold val_main_v28
  pointwise
  rfl

/-- The gate's gradient as the derivative writes it. -/
def gateRef (y v a : EReal) : EReal :=
  a * v * Ideal.div 1 (1 + Ideal.exp (-y)) + y * (a * v) * (Ideal.div 1 (1 + Ideal.exp (-y)) * (1 - Ideal.div 1 (1 + Ideal.exp (-y))))

theorem ref_lo (R : Fin 4096) (G : Fin 2816) : val_main_v23 (F := Ideal) x w (ix2 R G) = conv x w R (lo G) := by
  unfold val_main_v23
  pointwise
  exact ref_conv x w R (lo G)

theorem ref_hi (R : Fin 4096) (G : Fin 2816) : val_main_v24 (F := Ideal) x w (ix2 R G) = conv x w R (hi G) := by
  unfold val_main_v24
  pointwise
  exact ref_conv x w R (hi G)

theorem ref_sig (R : Fin 4096) (G : Fin 2816) :
    val_main_v25_2 (F := Ideal) x w (ix2 R G) = Ideal.div 1 (1 + Ideal.exp (-conv x w R (lo G))) := by
  unfold val_main_v25_2 val_main_call0_v4 val_main_call0_v3 val_main_call0_v2 val_main_call0_v1 val_main_call0_v0 val_main_call0_cst val_main_call0_cst_0
  pointwise
  rw [ref_lo]

theorem ref_gate (R : Fin 4096) (G : Fin 2816) :
    val_main_v31 (F := Ideal) x w wd dh (ix2 R G) = gateRef (conv x w R (lo G)) (conv x w R (hi G)) (dAct wd dh R G) := by
  unfold val_main_v31 val_main_call1_v2 val_main_call1_v1 val_main_call1_v0 val_main_v30 val_main_v25_1 val_main_call0_v7 val_main_call0_v6 val_main_call0_cst_1
  pointwise
  rw [ref_lo, ref_hi, ref_sig, ref_act]
  rfl

theorem ref_val (R : Fin 4096) (G : Fin 2816) :
    val_main_v29 (F := Ideal) x w wd dh (ix2 R G) = conv x w R (lo G) * Ideal.div 1 (1 + Ideal.exp (-conv x w R (lo G))) * dAct wd dh R G := by
  unfold val_main_v29 val_main_v25_0
  pointwise
  rw [ref_lo, ref_sig, ref_act]

/-- The gradient after the convolution, the gate's columns. -/
theorem ref_dy_lo (R : Fin 4096) (G : Fin 2816) : val_main_v34 (F := Ideal) x w wd dh (ix2 R (lo G)) = val_main_v31 (F := Ideal) x w wd dh (ix2 R G) := by
  unfold val_main_v34 val_main_v33 val_main_v32 val_main_cst_1 val_main_cst_2
  pointwise
  rw [dif_neg (fun h => h.1), zero_add]

/-- The value's columns. -/
theorem ref_dy_hi (R : Fin 4096) (G : Fin 2816) : val_main_v34 (F := Ideal) x w wd dh (ix2 R (hi G)) = val_main_v29 (F := Ideal) x w wd dh (ix2 R G) := by
  unfold val_main_v34 val_main_v33 val_main_v32 val_main_cst_1 val_main_cst_2
  pointwise

theorem ref_w2 (C : Fin 5632) : val_main_v19 (F := Ideal) w (ix2 0 C) = w (ix2 2 C) := by
  unfold val_main_v19 val_main_v17 val_main_v16
  pointwise
theorem ref_w1 (C : Fin 5632) : val_main_v12 (F := Ideal) w (ix2 0 C) = w (ix2 1 C) := by
  unfold val_main_v12 val_main_v10 val_main_v9
  pointwise
theorem ref_w0 (C : Fin 5632) : val_main_v6 (F := Ideal) w (ix2 0 C) = w (ix2 0 C) := by
  unfold val_main_v6 val_main_v4 val_main_v3
  pointwise

theorem behind_ref (u : EReal) (D : Fin 4096 → EReal) (n n' : ℕ) (e : n' = n) :
    (if h : n' < 4096 then u * D ⟨n', h⟩ else 0) = u * behind D n := by
  subst e
  unfold behind
  by_cases h : n' < 4096
  · rw [dif_pos h, dif_pos h]
  · rw [dif_neg h, dif_neg h, mul_zero]

/-- The rows of the gradient before the convolution. -/
theorem ref_rows (R : Fin 4096) (C : Fin 5632) :
    val_main_v67 (F := Ideal) x w wd dh (ix2 R C) = dRow w (fun R => val_main_v34 (F := Ideal) x w wd dh (ix2 R C)) C R := by
  unfold val_main_v67 val_main_v62 val_main_v61 val_main_v51 val_main_v50 val_main_v41 val_main_v56 val_main_v45 val_main_v36 val_main_cst_13 val_main_cst_9 val_main_cst_5 val_main_v55 val_main_v44 val_main_v35
  pointwise
  rw [ref_w0, ref_w1, ref_w2]
  unfold dRow
  rw [← behind_ref (w (ix2 0 C)) _ (R.val + 2) (2 + R.val) (by omega), ← behind_ref (w (ix2 1 C)) _ (R.val + 1) (2 + R.val - 1) (by omega)]
  congr 2
  · unfold behind
    rw [dif_pos R.isLt]
  · by_cases h : 2 + R.val - 1 < 4096
    · rw [dif_pos ⟨by omega, h⟩, dif_pos h]
    · rw [dif_neg (fun k => h k.2), dif_neg h]

theorem ref_up (e : Fin 2) (R : Fin 4096) (G : Fin 2816) :
    val_main_v70 (F := Ideal) x w wd dh (ix3 e R G) = val_main_v67 (F := Ideal) x w wd dh (ix2 R ⟨e.val * 2816 + G.val, by omega⟩) := by
  unfold val_main_v70 val_main_v69 val_main_v68
  pointwise

theorem ref_x2 (R : Fin 4096) (C : Fin 5632) : val_main_v18 (F := Ideal) x (ix2 R C) = padded x (R.val + 2) C := by
  unfold val_main_v18 val_main_v1 val_main_v0 val_main_cst
  pointwise
  exact padded_shift x R C
theorem ref_x1 (R : Fin 4096) (C : Fin 5632) : val_main_v11 (F := Ideal) x (ix2 R C) = padded x (R.val + 1) C := by
  unfold val_main_v11 val_main_v1 val_main_v0 val_main_cst
  pointwise
  exact padded_ref x (R.val + 1) (1 + R.val) (by omega) (by omega) C
theorem ref_x0 (R : Fin 4096) (C : Fin 5632) : val_main_v5 (F := Ideal) x (ix2 R C) = padded x R.val C := by
  unfold val_main_v5 val_main_v1 val_main_v0 val_main_cst
  pointwise
  exact padded_ref x R.val R.val rfl (by omega) C

theorem ref_taps (j : Fin 3) (C : Fin 5632) :
    val_main_v65 (F := Ideal) x w wd dh (ix2 j C) = (∑ R : Fin 4096, (val_main_v34 (F := Ideal) x w wd dh (ix2 R C) : EReal) * padded x (R.val + j.val) C : EReal) := by
  unfold val_main_v65 val_main_v64 val_main_v63 val_main_v60 val_main_v59 val_main_v58 val_main_v57 val_main_v54 val_main_v53 val_main_v52 val_main_v49 val_main_v48 val_main_v47 val_main_v46 val_main_v43 val_main_v42 val_main_v40 val_main_v39 val_main_v38 val_main_v37
  unfold val_main_cst_3 val_main_cst_4 val_main_cst_6 val_main_cst_7 val_main_cst_8 val_main_cst_10 val_main_cst_11 val_main_cst_12 val_main_cst_14
  pointwise
  simp only [ref_x0, ref_x1, ref_x2, Fin.sum_univ_one, Finset.univ_unique, Finset.sum_singleton]
  match j with
  | 0 => rw [dif_neg (by decide), dif_neg (by decide), dif_pos (by decide), zero_add, zero_add]; rfl
  | 1 => rw [dif_neg (by decide), dif_pos (by decide), dif_neg (by decide), zero_add, add_zero]; rfl
  | 2 => rw [dif_pos (by decide), dif_neg (by decide), dif_neg (by decide), add_zero, add_zero]; rfl

/-- Shifting the sum's row turns the padded rows into the rows and the gradient into the one behind. -/
theorem taps_shift (D : Fin 4096 → EReal) (C : Fin 5632) (j : Fin 3) : (∑ R : Fin 4096, D R * padded x (R.val + j.val) C : EReal) = dTap x D C j := by
  unfold dTap
  obtain ⟨k, hk⟩ : ∃ k, 2 - j.val = k := ⟨_, rfl⟩
  have hj : j.val + k = 2 := by omega
  have el : (∑ R : Fin 4096, D R * padded x (R.val + j.val) C : EReal) = ∑ n ∈ Finset.range (k + (4096 - k)), behind D n * padded x (n + j.val) C := by
    rw [show k + (4096 - k) = 4096 by omega, ← Fin.sum_univ_eq_sum_range]
    refine Finset.sum_congr rfl fun R _ => ?_
    unfold behind
    rw [dif_pos R.isLt]
  have er : (∑ R : Fin 4096, (x (ix2 R C) : EReal) * behind D (R.val + (2 - j.val)) : EReal) =
      ∑ n ∈ Finset.range ((4096 - k) + k), padded x (n + 2) C * behind D (n + k) := by
    rw [show (4096 - k) + k = 4096 by omega, ← Fin.sum_univ_eq_sum_range, hk]
    refine Finset.sum_congr rfl fun R _ => ?_
    rw [padded_shift x R C]
  rw [el, er, Finset.sum_range_add, Finset.sum_range_add]
  have z1 : (∑ n ∈ Finset.range k, behind D n * padded x (n + j.val) C : EReal) = 0 := Finset.sum_eq_zero fun n hn => by
    have := Finset.mem_range.mp hn
    unfold padded
    rw [dif_neg (by omega), mul_zero]
  have z2 : (∑ n ∈ Finset.range k, padded x (4096 - k + n + 2) C * behind D (4096 - k + n + k) : EReal) = 0 := Finset.sum_eq_zero fun n hn => by
    unfold behind
    rw [dif_neg (by omega), mul_zero]
  rw [z1, z2, zero_add, add_zero]
  refine Finset.sum_congr rfl fun n _ => ?_
  rw [mul_comm, show k + n + j.val = n + 2 by omega, Nat.add_comm k n]

end Cert.Calls.Ffn
-- ==== Proof.FfnEq.lean ====
module

public import proofs.«01_k».proof.Proof.FfnRef
public import proofs.«01_k».proof.Proof.NormRow

@[expose] public section

set_option maxRecDepth 16384

noncomputable section

/-! On real arguments the reference's results are the entries of `FfnMath`. -/

namespace Cert.Calls.Ffn

open Cert.FfnIdeal
open Cert.FfnRefIdeal.Read
open Idealize.ShloMosaic Idealize.ShloMosaic.TcCoe Idealize.ShloMosaic.Tactic

theorem gate_eq (y v a : ℝ) : gateRef (y : EReal) v a = gateAt y v a := by
  have hp : 1 + Real.exp (-y) ≠ 0 := (add_pos one_pos (Real.exp_pos _)).ne'
  have e : Ideal.div 1 (1 + Ideal.exp (-(y : EReal))) = ((1 / (1 + Real.exp (-y)) : ℝ) : EReal) := by
    rw [← EReal.coe_neg, Ideal.exp_coe, show (1 : EReal) = ((1 : ℝ) : EReal) from rfl, ← EReal.coe_add, NormRow.div_coe _ _ hp]
  unfold gateRef gateAt
  rw [e, show (1 : EReal) = ((1 : ℝ) : EReal) from rfl]
  simp only [← EReal.coe_mul, ← EReal.coe_sub, ← EReal.coe_add]
  congr 1
  ring

variable (x : FVec Ideal S4096x5632 .f32) (w : FVec Ideal S3x5632 .f32) (wd : FVec Ideal S2816x1024 .f32) (dh : FVec Ideal S4096x1024 .f32)

theorem conv_real (hx : ∃ r : S4096x5632.Idx → ℝ, x = fun i => (r i : EReal)) (hw : ∃ r : S3x5632.Idx → ℝ, w = fun i => (r i : EReal))
    (R : Fin 4096) (C : Fin 5632) : ∃ r : ℝ, conv x w R C = r := by
  obtain ⟨x, rfl⟩ := hx
  obtain ⟨w, rfl⟩ := hw
  have hp (n : ℕ) : ∃ r : ℝ, padded (fun i => (x i : EReal)) n C = r := by
    unfold padded
    by_cases h : 2 ≤ n ∧ n < 4098
    · rw [dif_pos h]; exact ⟨_, rfl⟩
    · rw [dif_neg h]; exact ⟨0, rfl⟩
  obtain ⟨a, ha⟩ := hp R.val
  obtain ⟨b, hb⟩ := hp (R.val + 1)
  obtain ⟨d, hd⟩ := hp (R.val + 2)
  unfold conv
  rw [ha, hb, hd]
  simp only [← EReal.coe_mul, ← EReal.coe_add]
  exact ⟨_, rfl⟩

theorem act_real (hwd : ∃ r : S2816x1024.Idx → ℝ, wd = fun i => (r i : EReal)) (hdh : ∃ r : S4096x1024.Idx → ℝ, dh = fun i => (r i : EReal))
    (R : Fin 4096) (G : Fin 2816) : ∃ r : ℝ, dAct wd dh R G = r := by
  obtain ⟨wd, rfl⟩ := hwd
  obtain ⟨dh, rfl⟩ := hdh
  unfold dAct
  simp only [← EReal.coe_mul, ← NormRow.coe_sum]
  exact ⟨_, rfl⟩

/-- The value's columns of the gradient after the convolution. -/
theorem cols_hi (G : Fin 2816) : (fun R => (val_main_v34 (F := Ideal) x w wd dh (ix2 R (hi G)) : EReal)) = fun R => gradV x w wd dh R G := by
  funext R
  rw [ref_dy_hi, ref_val]
  exact mul_comm _ _

variable (hx : ∃ r : S4096x5632.Idx → ℝ, x = fun i => (r i : EReal)) (hw : ∃ r : S3x5632.Idx → ℝ, w = fun i => (r i : EReal))
  (hwd : ∃ r : S2816x1024.Idx → ℝ, wd = fun i => (r i : EReal)) (hdh : ∃ r : S4096x1024.Idx → ℝ, dh = fun i => (r i : EReal))

include hx hw hwd hdh in
/-- The gate's columns. -/
theorem cols_lo (G : Fin 2816) : (fun R => (val_main_v34 (F := Ideal) x w wd dh (ix2 R (lo G)) : EReal)) = fun R => gradG x w wd dh R G := by
  funext R
  rw [ref_dy_lo, ref_gate]
  unfold gradG
  obtain ⟨y, hy⟩ := conv_real x w hx hw R (lo G)
  obtain ⟨v, hv⟩ := conv_real x w hx hw R (hi G)
  obtain ⟨a, ha⟩ := act_real wd dh hwd hdh R G
  rw [hy, hv, ha]
  exact gate_eq y v a

include hx hw hwd hdh in
theorem ref_up_array (i : S2x4096x2816.Idx) : (val_main_v70 (F := Ideal) x w wd dh i : EReal) =
    if (i 0).val = 0 then dRow w (fun R => gradG x w wd dh R (i 2)) (lo (i 2)) (i 1) else dRow w (fun R => gradV x w wd dh R (i 2)) (hi (i 2)) (i 1) := by
  obtain ⟨e, R, G, rfl⟩ : ∃ e R G, i = ix3 (n0 := 2) (n1 := 4096) (n2 := 2816) e R G := ⟨_, _, _, eq_ix3 i⟩
  refine (ref_up x w wd dh e R G).trans ((ref_rows x w wd dh R _).trans ?_)
  match e with
  | 0 =>
    refine Eq.trans ?_ (if_pos rfl).symm
    rw [show (⟨(0 : Fin 2).val * 2816 + G.val, by omega⟩ : Fin 5632) = lo G from Fin.ext (by simp)]
    exact congrArg (fun D => dRow w D (lo G) R) (cols_lo x w wd dh hx hw hwd hdh G)
  | 1 =>
    refine Eq.trans ?_ (if_neg (by decide : ¬(1 : Fin 2).val = 0)).symm
    rw [show (⟨(1 : Fin 2).val * 2816 + G.val, by omega⟩ : Fin 5632) = hi G from Fin.ext (by simp)]
    exact congrArg (fun D => dRow w D (hi G) R) (cols_hi x w wd dh G)

include hx hw hwd hdh in
theorem ref_tapG_array (i : S3x2816.Idx) : (val_main_v71 (F := Ideal) x w wd dh i : EReal) = dTap x (fun R => gradG x w wd dh R (i 1)) (lo (i 1)) (i 0) := by
  obtain ⟨j, G, rfl⟩ : ∃ j G, i = ix2 (n0 := 3) (n1 := 2816) j G := ⟨_, _, eq_ix2 i⟩
  have e : val_main_v71 (F := Ideal) x w wd dh (ix2 j G) = val_main_v65 (F := Ideal) x w wd dh (ix2 j (lo G)) := by
    unfold val_main_v71
    pointwise
  refine (e.trans (ref_taps x w wd dh j (lo G))).trans ((taps_shift x _ (lo G) j).trans ?_)
  exact congrArg (fun D => dTap x D (lo G) j) (cols_lo x w wd dh hx hw hwd hdh G)

theorem ref_tapV_array (i : S3x2816.Idx) : (val_main_v72 (F := Ideal) x w wd dh i : EReal) = dTap x (fun R => gradV x w wd dh R (i 1)) (hi (i 1)) (i 0) := by
  obtain ⟨j, G, rfl⟩ : ∃ j G, i = ix2 (n0 := 3) (n1 := 2816) j G := ⟨_, _, eq_ix2 i⟩
  have e : val_main_v72 (F := Ideal) x w wd dh (ix2 j G) = val_main_v65 (F := Ideal) x w wd dh (ix2 j (hi G)) := by
    unfold val_main_v72
    pointwise
  refine (e.trans (ref_taps x w wd dh j (hi G))).trans ((taps_shift x _ (hi G) j).trans ?_)
  exact congrArg (fun D => dTap x D (hi G) j) (cols_hi x w wd dh G)

end Cert.Calls.Ffn
-- ==== Proof.Ffn.lean ====
module

public import proofs.«01_k».proof.Defs
public import proofs.«01_k».proof.Proof.Gen.Ffn.Frame
public import proofs.«01_k».proof.Proof.Gen.FfnIdeal.Value
public import proofs.«01_k».proof.Proof.Gen.Pre_ffn_finite
public import proofs.«01_k».proof.Proof.FfnArrays
public import proofs.«01_k».proof.Proof.FfnEq
public import proofs.«01_k».proof.Proof.Finite

@[expose] public section

set_option maxRecDepth 32768

noncomputable section

/-! The gradient of the gated convolution: frames and values. -/

namespace Cert.Calls.Ffn

open Idealize.ShloMosaic Idealize.ShloMosaic.TcCoe Idealize.SL.Sem
open Cert.FfnIdeal Cert.FfnIdeal.Gen

theorem frame_p : Cert.quiescent_Ffn := fun m g _ => Cert.Ffn.Gen.frame m g
theorem frame_pi : Cert.quiescent_FfnIdeal := fun m g _ => Cert.FfnIdeal.Gen.frame m g
theorem frame_ri : Cert.quiescent_FfnRefIdeal := fun m g _ =>
  (θ_run Cert.FfnRefIdeal.defs _ _).mono
    (fun r h => ⟨fun c => (h c).2.2.2, sem_eq_zero_of_no_sems (by decide) r.2⟩)
    (Cert.FfnRefIdeal.Value.run (F := Ideal) m g)

/-- Under the precondition every argument is an array of reals. -/
theorem reals (m : (ℓ : Loc nD τ sig) → Buf (Elt Ideal) ℓ) (h : Cert.Pre_FfnIdeal_ffn_finite m) (c : Dev nD) :
    (∃ r : S4096x5632.Idx → ℝ, X m c = fun i => (r i : EReal)) ∧ (∃ r : S3x5632.Idx → ℝ, W m c = fun i => (r i : EReal)) ∧
    (∃ r : S2816x1024.Idx → ℝ, WD m c = fun i => (r i : EReal)) ∧ (∃ r : S4096x1024.Idx → ℝ, DH m c = fun i => (r i : EReal)) := by
  have e := congrFun (h c) ix0
  unfold Cert.Pre_ffn_finite.fn Cert.Pre_ffn_finite.fn_part1 at e
  dsimp only at e
  have e1 := Finite.and_left e
  have e2 := Finite.and_left e1
  exact ⟨Finite.of_test (Finite.and_left e2), Finite.of_test (Finite.and_right e2), Finite.of_test (Finite.and_right e1), Finite.of_test (Finite.and_right e)⟩

theorem algebraic : Cert.algebraic_FfnIdeal_FfnRefIdeal_pre_ffn_finite := by
  pair_intro
  · run_from Cert.FfnIdeal.Value.run_blocks m g
  · run_from Cert.FfnRefIdeal.Value.run m' g'
    all_goals
      obtain ⟨hx, hw, hwd, hdh⟩ := reals m hpre c
    · rw [Cert.FfnRefIdeal.Read.val_main_v70_eq, (hagree c).1, (hagree c).2.1, (hagree c).2.2.1, (hagree c).2.2.2, up_array]
      funext i
      exact ref_up_array _ _ _ _ hx hw hwd hdh i
    · rw [Cert.FfnRefIdeal.Read.val_main_v71_eq, (hagree c).1, (hagree c).2.1, (hagree c).2.2.1, (hagree c).2.2.2, tapG_array]
      funext i
      exact ref_tapG_array _ _ _ _ hx hw hwd hdh i
    · rw [Cert.FfnRefIdeal.Read.val_main_v72_eq, (hagree c).1, (hagree c).2.1, (hagree c).2.2.1, (hagree c).2.2.2, tapV_array]
      funext i
      exact ref_tapV_array _ _ _ _ i

end Cert.Calls.Ffn

end
-- ==== Proof.UpChunk.lean ====
module

public import Idealize.ShloMosaic.Lib.Pointwise
public import Idealize.ShloMosaic.Lib.Layout
public import proofs.«01_k».proof.Proof.Scalars

@[expose] public section

noncomputable section

/-! What sixteen rows of the feed-forward layer's convolution and gate give, over the reals, for columns of any width. -/

namespace Cert.Calls.Up

open Idealize.ShloMosaic Idealize.ShloMosaic.TcCoe Idealize.ShloMosaic.Tactic

abbrev R (a w : ℕ) : Shape := ⟨2, ![a, w]⟩
abbrev R1 (a w : ℕ) : Shape := ⟨3, ![1, a, w]⟩

/-- What the body's operations ask of a width. -/
structure Wide (w : ℕ) : Prop where
  up : (R 16 w).ShapeCasts (R1 16 w)
  row : (R 1 w).Broadcasts (R 16 w)
  tail : (R 24 w).Slices ![8, 0] (R 16 w)
  turn : (R 24 w).Rotates 0 none
  c24 : (R 24 w).ShapeCasts (R 24 w)
  c16 : (R 16 w).ShapeCasts (R 16 w)
  c8 : (R 8 w).ShapeCasts (R 8 w)
  width : w = 512 ∨ w = 384

variable {w : ℕ} (h : Wide w)

def half : FVec Ideal (R 16 w) .f32 := broadcast (R 16 w) (Scalar.ofBits .f32 0x3F000000#32)

/-- The rows of a window from its ninth on, and those one and two rows behind them. -/
def back0 (a : FVec Ideal (R 24 w) .f32) : FVec Ideal (R 16 w) .f32 := extractStridedSlice (R 16 w) ![8, 0] a h.tail
def back1 (a : FVec Ideal (R 24 w) .f32) : FVec Ideal (R 16 w) .f32 :=
  extractStridedSlice (R 16 w) ![8, 0] (dynamicRotate 0 1#32 none a h.turn) h.tail
def back2 (a : FVec Ideal (R 24 w) .f32) : FVec Ideal (R 16 w) .f32 :=
  extractStridedSlice (R 16 w) ![8, 0] (dynamicRotate 0 2#32 none a h.turn) h.tail

/-- The convolution of sixteen rows. -/
def conv (a : FVec Ideal (R 24 w) .f32) (c : Fin 3 → FVec Ideal (R 1 w) .f32) : FVec Ideal (R 16 w) .f32 :=
  addf (addf (mulf (broadcastTo (R 16 w) (c 2) h.row) (back0 h a)) (mulf (broadcastTo (R 16 w) (c 1) h.row) (back1 h a)))
    (mulf (broadcastTo (R 16 w) (c 0) h.row) (back2 h a))

def lift (y : FVec Ideal (R 16 w) .f32) : FVec Ideal (R1 16 w) .f32 := shapeCast (R1 16 w) y h.up

/-- The gate's rows through their gate, times the value's. -/
def gated (yg yv : FVec Ideal (R 16 w) .f32) : FVec Ideal (R 16 w) .bf16 :=
  truncf .bf16 (mulf (mulf yg (addf (mulf half (tanh (mulf half yg))) half)) yv) (by decide)

theorem wide512 : Wide 512 := by constructor <;> decide
theorem wide384 : Wide 384 := by constructor <;> decide

theorem back0_apply (a : FVec Ideal (R 24 w) .f32) (i : Fin 16) (q : Fin w) : back0 h a (ix2 i q) = a (ix2 ⟨i.val + 8, by omega⟩ q) := by
  unfold back0; rcases h.width with rfl | rfl <;> (pointwise; congr 2; exact Fin.ext (by dsimp only; omega))
theorem back1_apply (a : FVec Ideal (R 24 w) .f32) (i : Fin 16) (q : Fin w) : back1 h a (ix2 i q) = a (ix2 ⟨i.val + 7, by omega⟩ q) := by
  unfold back1; rcases h.width with rfl | rfl <;> (pointwise; congr 2; exact Fin.ext (by dsimp only; omega))
theorem back2_apply (a : FVec Ideal (R 24 w) .f32) (i : Fin 16) (q : Fin w) : back2 h a (ix2 i q) = a (ix2 ⟨i.val + 6, by omega⟩ q) := by
  unfold back2; rcases h.width with rfl | rfl <;> (pointwise; congr 2; exact Fin.ext (by dsimp only; omega))

theorem conv_apply (a : FVec Ideal (R 24 w) .f32) (c : Fin 3 → FVec Ideal (R 1 w) .f32) (i : Fin 16) (q : Fin w) :
    conv h a c (ix2 i q) = ((c 2 (ix2 0 q) : EReal) * a (ix2 ⟨i.val + 8, by omega⟩ q) + (c 1 (ix2 0 q) : EReal) * a (ix2 ⟨i.val + 7, by omega⟩ q)
      + (c 0 (ix2 0 q) : EReal) * a (ix2 ⟨i.val + 6, by omega⟩ q) : EReal) := by
  unfold conv
  have e0 := back0_apply h a i q
  have e1 := back1_apply h a i q
  have e2 := back2_apply h a i q
  generalize back0 h a = a0 at *; generalize back1 h a = a1 at *; generalize back2 h a = a2 at *
  rcases h.width with rfl | rfl <;> (pointwise; rw [e0, e1, e2])

theorem lift_apply (y : FVec Ideal (R 16 w) .f32) (i : Fin 16) (q : Fin w) : lift h y (ix3 0 i q) = y (ix2 i q) := by
  unfold lift; rcases h.width with rfl | rfl <;> pointwise

/-- A number through its gate, times another. -/
def gateAt (y v : EReal) : EReal := y * Ideal.div 1 (1 + Ideal.exp (-y)) * v

theorem gated_apply (hw : Wide w) (yg yv : FVec Ideal (R 16 w) .f32) (i : Fin 16) (q : Fin w) :
    gated yg yv (ix2 i q) = gateAt (yg (ix2 i q)) (yv (ix2 i q)) := by
  unfold gated half
  rcases hw.width with rfl | rfl <;> (pointwise; rw [Scalars.half, Scalars.sigmoid]; rfl)

theorem cast24_apply (x : FVec Ideal (R 24 w) .f32) (i : Fin 24) (q : Fin w) : shapeCast (R 24 w) x h.c24 (ix2 i q) = x (ix2 i q) := by
  rcases h.width with rfl | rfl <;> pointwise
theorem cast16_apply (x : FVec Ideal (R 16 w) .f32) (i : Fin 16) (q : Fin w) :
    shapeCast (R 16 w) (shapeCast (R 16 w) x h.c16) h.c16 (ix2 i q) = x (ix2 i q) := by
  rcases h.width with rfl | rfl <;> pointwise
theorem cast8_apply (x : FVec Ideal (R 8 w) .f32) (i : Fin 8) (q : Fin w) :
    shapeCast (R 8 w) (shapeCast (R 8 w) x h.c8) h.c8 (ix2 i q) = x (ix2 i q) := by
  rcases h.width with rfl | rfl <;> pointwise

end Cert.Calls.Up
-- ==== Proof.UpStores.lean ====
module

public import proofs.«01_k».proof.Proof.UpChunk
public import proofs.«01_k».proof.Proof.Gen.UpIdeal.Frame.Runs

@[expose] public section

set_option maxRecDepth 16384

noncomputable section

/-! The stores of the body, strip of columns by strip, sixteen rows after sixteen rows. -/

namespace Cert.Calls.Up

open Cert.UpIdeal Cert.UpIdeal.Gen
open Idealize.ShloMosaic Idealize.ShloMosaic.TcCoe Idealize.ShloMosaic.Tactic

/-- A strip of columns: where it begins and how wide it is. -/
structure Strip where
  o : ℕ
  w : ℕ
  wide : Wide w
  fits : o + w ≤ 1408

def strip0 : Strip := ⟨0, 512, wide512, by decide⟩
def strip1 : Strip := ⟨512, 512, wide512, by decide⟩
def strip2 : Strip := ⟨1024, 384, wide384, by decide⟩
def stripN : ℕ → Strip
  | 0 => strip0
  | 1 => strip1
  | _ => strip2

abbrev Rows := List (View.Piece (Elt Ideal) S24x1408 .f32)
abbrev Blocks := List (View.Piece (Elt Ideal) S2x512x1408 .f32)
abbrev Acts := List (View.Piece (Elt Ideal) S512x1408 .bf16)

variable (m : (ℓ : Loc nD τ sig) → Buf (Elt Ideal) ℓ) (c : Dev nD) (t : Fin cfg0.N)

/-- The block's rows, as the products take them. -/
def rowsIn : Vec Ideal S512x1024 .bf16 :=
  View.readAt (Elt Ideal) (ms0_0 t).view (Rect.unit (s := S512x1024) ![0, 0] S512x1024.size inb_S512x1024_S512x1024_0_0).toLoadRect ((hs0_0 t).unread (iblk m c 0 t))

/-- The products that lie ready for the first strip, and for the others. -/
def prods2 : Blocks :=
  [⟨Rect.unit (s := S2x512x1408) ![1, 0, 512] S1x512x512.size inb_S2x512x1408_S1x512x512_1_0_512, k0_pay7 (rowsIn m c t)
      (View.readAt (Elt Ideal) (ms0_2 t).view (Rect.unit (s := S1x1408x1024) ![0, 512, 0] S1x512x1024.size inb_S1x1408x1024_S1x512x1024_0_512_0).toLoadRect ((hs0_2 t).unread (iblk m c 2 t)))⟩,
    ⟨Rect.unit (s := S2x512x1408) ![0, 0, 512] S1x512x512.size inb_S2x512x1408_S1x512x512_0_0_512, k0_pay6 (rowsIn m c t)
      (View.readAt (Elt Ideal) (ms0_1 t).view (Rect.unit (s := S1x1408x1024) ![0, 512, 0] S1x512x1024.size inb_S1x1408x1024_S1x512x1024_0_512_0).toLoadRect ((hs0_1 t).unread (iblk m c 1 t)))⟩,
    ⟨Rect.unit (s := S2x512x1408) ![1, 0, 0] S1x512x512.size inb_S2x512x1408_S1x512x512_1_0_0, k0_pay5 (rowsIn m c t)
      (View.readAt (Elt Ideal) (ms0_2 t).view (Rect.unit (s := S1x1408x1024) ![0, 0, 0] S1x512x1024.size inb_S1x1408x1024_S1x512x1024_0_0_0).toLoadRect ((hs0_2 t).unread (iblk m c 2 t)))⟩,
    ⟨Rect.unit (s := S2x512x1408) ![0, 0, 0] S1x512x512.size inb_S2x512x1408_S1x512x512_0_0_0, k0_pay4 (rowsIn m c t)
      (View.readAt (Elt Ideal) (ms0_1 t).view (Rect.unit (s := S1x1408x1024) ![0, 0, 0] S1x512x1024.size inb_S1x1408x1024_S1x512x1024_0_0_0).toLoadRect ((hs0_1 t).unread (iblk m c 1 t)))⟩]

theorem wide3 : (S512x384).ShapeCasts S1x512x384 := by decide
theorem flat3 : (S1x384x1024).ShapeCasts S384x1024 := by decide
/-- The products of the last strip's columns. -/
def prod384 (x : FVec Ideal S512x1024 .bf16) (y : FVec Ideal S1x384x1024 .bf16) : FVec Ideal S1x512x384 .f32 :=
  shapeCast S1x512x384 (matmul dot_S512x1024_S384x1024_S512x384_1_1_0_0_n_n none x (shapeCast S384x1024 y flat3) (constant S512x384 .f32 0x00000000#32)) wide3

def prods3 : Blocks :=
  ⟨Rect.unit (s := S2x512x1408) ![1, 0, 1024] S1x512x384.size inb_S2x512x1408_S1x512x384_1_0_1024, prod384 (rowsIn m c t)
      (View.readAt (Elt Ideal) (ms0_2 t).view (Rect.unit (s := S1x1408x1024) ![0, 1024, 0] S1x384x1024.size inb_S1x1408x1024_S1x384x1024_0_1024_0).toLoadRect ((hs0_2 t).unread (iblk m c 2 t)))⟩ ::
    ⟨Rect.unit (s := S2x512x1408) ![0, 0, 1024] S1x512x384.size inb_S2x512x1408_S1x512x384_0_0_1024, prod384 (rowsIn m c t)
      (View.readAt (Elt Ideal) (ms0_1 t).view (Rect.unit (s := S1x1408x1024) ![0, 1024, 0] S1x384x1024.size inb_S1x1408x1024_S1x384x1024_0_1024_0).toLoadRect ((hs0_1 t).unread (iblk m c 1 t)))⟩ ::
    prods2 m c t

def prodsN : ℕ → Blocks
  | 0 => prods2 m c t
  | _ => prods3 m c t

theorem inbHalf (e : Fin 2) : ∀ i, (![e.val, 0, 0] : Fin 3 → ℕ) i + S1x512x1408.size i ≤ S2x512x1408.size i := by
  intro i; fin_cases i
  · show e.val + 1 ≤ 2; omega
  · exact Nat.le_refl _
  · exact Nat.le_refl _

theorem inbRows (s : Strip) (a k : ℕ) (h : a + k ≤ 512) : ∀ i, (![a, s.o] : Fin 2 → ℕ) i + (R k s.w).size i ≤ S512x1408.size i := by
  intro i; fin_cases i
  · exact h
  · exact s.fits

abbrev halfRect (e : Fin 2) : Rect S2x512x1408 := Rect.unit (s := S2x512x1408) ![e.val, 0, 0] S1x512x1408.size (inbHalf e)
abbrev rowsRect (s : Strip) (a k : ℕ) (h : a + k ≤ 512) : LoadRect S512x1408 := (Rect.unit (s := S512x1408) ![a, s.o] (R k s.w).size (inbRows s a k h)).toLoadRect
theorem sizes3 : ∀ i : Fin 2, (![1, 512, 1408] : Fin 3 → ℕ) i.succ = (![512, 1408] : Fin 2 → ℕ) i := by decide

/-- Rows of one half of the products, read back. -/
def loadUp (s : Strip) (e : Fin 2) (U : Blocks) (a k : ℕ) (h : a + k ≤ 512) : FVec Ideal (R k s.w) .f32 :=
  LoadRect.valAlong ((rowsRect s a k h).numel_consLift ![1, 512, 1408] rfl sizes3)
    (View.readCov (ms0_5 t).view U ((halfRect e).withinL ((rowsRect s a k h).consLift ![1, 512, 1408] rfl sizes3) (fun _ => rfl)))

theorem inbTap (s : Strip) (j : ℕ) (hj : j < 3) : ∀ i, (![j, s.o] : Fin 2 → ℕ) i + (R 1 s.w).size i ≤ S3x1408.size i := by
  intro i; fin_cases i
  · exact hj
  · exact s.fits

def loadTap (s : Strip) (a : Memref sig .tc .vmem S3x1408 .f32) (ha : a.IsWhole) (x : Vec Ideal S3x1408 .f32) (j : Fin 3) : FVec Ideal (R 1 s.w) .f32 :=
  View.readAt (Elt Ideal) a.view (Rect.unit (s := S3x1408) ![j.val, s.o] (R 1 s.w).size (inbTap s j.val j.isLt)).toLoadRect (ha.unread x)

theorem inbKeep (s : Strip) (a k : ℕ) (h : a + k ≤ 24) : ∀ i, (![a, s.o] : Fin 2 → ℕ) i + (R k s.w).size i ≤ S24x1408.size i := by
  intro i; fin_cases i
  · exact h
  · exact s.fits

/-- The rows kept for a strip: its first sixteen behind what was kept before. -/
def mid (s : Strip) (e : Fin 2) (U : Blocks) (L : Rows) : Rows :=
  ⟨Rect.unit (s := S24x1408) ![8, s.o] (R 16 s.w).size (inbKeep s 8 16 (by decide)),
    shapeCast (R 16 s.w) (shapeCast (R 16 s.w) (loadUp t s e U 0 16 (by decide)) s.wide.c16) s.wide.c16⟩ :: L
/-- … and its last eight for the block after. -/
def done (s : Strip) (e : Fin 2) (U : Blocks) (L : Rows) : Rows :=
  ⟨Rect.unit (s := S24x1408) ![0, s.o] (R 8 s.w).size (inbKeep s 0 8 (by decide)),
    shapeCast (R 8 s.w) (shapeCast (R 8 s.w) (loadUp t s e U 504 8 (by decide)) s.wide.c8) s.wide.c8⟩ :: mid t s e U L

def kept (e : Fin 2) (L : Rows) : ℕ → Rows
  | 0 => L
  | k + 1 => done t (stripN k) e (prodsN m c t k) (kept e L k)

/-- The twenty-four rows chunk `r`'s convolution reads. -/
def window (s : Strip) (e : Fin 2) (U : Blocks) (v : View sig .tc .vmem S24x1408 .f32) (f : v.ty.Contents (Elt Ideal)) (L : Rows) :
    (r : ℕ) → r < 32 → FVec Ideal (R 24 s.w) .f32
  | 0, _ => View.readAt (Elt Ideal) v (Rect.unit (s := S24x1408) ![0, s.o] (R 24 s.w).size (inbKeep s 0 24 (by decide))).toLoadRect
      (v.writes (Elt Ideal) f (mid t s e U L))
  | r + 1, h => shapeCast (R 24 s.w) (loadUp t s e U (16 * r + 8) 24 (by omega)) s.wide.c24

abbrev Win (w : ℕ) := (r : ℕ) → r < 32 → FVec Ideal (R 24 w) .f32

def gWin (f : scM0_0.view.ty.Contents (Elt Ideal)) (L : Rows) (k : ℕ) : Win (stripN k).w :=
  window t (stripN k) 0 (prodsN m c t k) scM0_0.view f (kept m c t 0 L k)
def vWin (f : scM0_1.view.ty.Contents (Elt Ideal)) (L : Rows) (k : ℕ) : Win (stripN k).w :=
  window t (stripN k) 1 (prodsN m c t k) scM0_1.view f (kept m c t 1 L k)

def yG (s : Strip) (a : FVec Ideal (R 24 s.w) .f32) : FVec Ideal (R 16 s.w) .f32 := conv s.wide a (loadTap s (ms0_3 t) (hs0_3 t) (iblk m c 3 t))
def yV (s : Strip) (a : FVec Ideal (R 24 s.w) .f32) : FVec Ideal (R 16 s.w) .f32 := conv s.wide a (loadTap s (ms0_4 t) (hs0_4 t) (iblk m c 4 t))

theorem inbOut (s : Strip) (e a : ℕ) (he : e < 2) (h : a + 16 ≤ 512) : ∀ i, (![e, a, s.o] : Fin 3 → ℕ) i + (R1 16 s.w).size i ≤ S2x512x1408.size i := by
  intro i; fin_cases i
  · exact he
  · exact h
  · exact s.fits

/-- The stores of the convolved rows, of the first `n` chunks. -/
def yStores (s : Strip) (g v : Win s.w) (L : Blocks) : (n : ℕ) → n ≤ 32 → Blocks
  | 0, _ => L
  | n + 1, hn =>
    ⟨Rect.unit (s := S2x512x1408) ![1, 16 * n, s.o] (R1 16 s.w).size (inbOut s 1 _ (by omega) (by omega)), lift s.wide (yV m c t s (v n hn))⟩ ::
    ⟨Rect.unit (s := S2x512x1408) ![0, 16 * n, s.o] (R1 16 s.w).size (inbOut s 0 _ (by omega) (by omega)), lift s.wide (yG m c t s (g n hn))⟩ ::
    yStores s g v L n (Nat.le_of_succ_le hn)

/-- The stores of the gated rows, of the first `n` chunks. -/
def aStores (s : Strip) (g v : Win s.w) (L : Acts) : (n : ℕ) → n ≤ 32 → Acts
  | 0, _ => L
  | n + 1, hn =>
    ⟨Rect.unit (s := S512x1408) ![16 * n, s.o] (R 16 s.w).size (inbRows s _ 16 (by omega)), gated (yG m c t s (g n hn)) (yV m c t s (v n hn))⟩ ::
    aStores s g v L n (Nat.le_of_succ_le hn)

def yAll (g v : (k : ℕ) → Win (stripN k).w) : ℕ → Blocks
  | 0 => []
  | k + 1 => yStores m c t (stripN k) (g k) (v k) (yAll g v k) 32 (Nat.le_refl _)
def aAll (g v : (k : ℕ) → Win (stripN k).w) : ℕ → Acts
  | 0 => []
  | k + 1 => aStores m c t (stripN k) (g k) (v k) (aAll g v k) 32 (Nat.le_refl _)

/-- The zeros before the first rows. -/
def zerosG : Rows := [⟨Rect.unit (s := S24x1408) ![0, 0] S8x1408.size inb_S24x1408_S8x1408_0_0, k0_pay2 (F := Ideal)⟩]
def zerosV : Rows := [⟨Rect.unit (s := S24x1408) ![0, 0] S8x1408.size inb_S24x1408_S8x1408_0_0, k0_pay3 (F := Ideal)⟩]

end Cert.Calls.Up
-- ==== Proof.UpRead.lean ====
module

public import proofs.«01_k».proof.Proof.UpStores
public import Idealize.ShloMosaic.Lib.WritesUnit
public import Idealize.ShloMosaic.Lib.VecWindow
public import Idealize.ShloMosaic.Lib.WholeRead
public import Idealize.ShloMosaic.Lib.ValueLayout

@[expose] public section

set_option maxRecDepth 16384

noncomputable section

/-! What the strips' loads and stores find and leave at an index, over the reals. -/

namespace Cert.Calls.Up

open Cert.UpIdeal Cert.UpIdeal.Gen
open Idealize.ShloMosaic Idealize.ShloMosaic.TcCoe Idealize.ShloMosaic.Tactic

/-- A store of a window of a two-dimensional array, read back. -/
theorem read_store2 {sg : RefSig} {n0 n1 : ℕ} {e : EltTy} (v : View sg .tc .vmem ⟨2, ![n0, n1]⟩ e) (f : v.ty.Contents (Elt Ideal))
    {o0 o1 k0 k1 : ℕ} (inb : ∀ a, (![o0, o1] : Fin 2 → ℕ) a + (R k0 k1).size a ≤ (⟨2, ![n0, n1]⟩ : Shape).size a)
    (L : List (View.Piece (Elt Ideal) ⟨2, ![n0, n1]⟩ e)) (w : (R k0 k1).Idx → Elt Ideal e) (r : Fin n0) (q : Fin n1) :
    v.read (Elt Ideal) (v.writes (Elt Ideal) f (⟨Rect.unit (s := ⟨2, ![n0, n1]⟩) ![o0, o1] (R k0 k1).size inb, w⟩ :: L)) (ix2 r q) =
      if h : (o0 ≤ r.val ∧ r.val < o0 + k0) ∧ (o1 ≤ q.val ∧ q.val < o1 + k1) then
        w (ix2 ⟨r.val - o0, by omega⟩ ⟨q.val - o1, by omega⟩)
      else v.read (Elt Ideal) (v.writes (Elt Ideal) f L) (ix2 r q) := by
  rw [View.read_writes_cons_unit v f inb _ L (ix2 r q) rfl]
  by_cases hin : (o0 ≤ r.val ∧ r.val < o0 + k0) ∧ (o1 ≤ q.val ∧ q.val < o1 + k1)
  · rw [dif_pos hin, dif_pos (by intro a; fin_cases a; exacts [hin.1, hin.2])]
    congr 1
    funext a; fin_cases a <;> rfl
  · rw [dif_neg hin, dif_neg (fun hh => hin ⟨hh 0, hh 1⟩)]

/-- A window of a two-dimensional array, read. -/
theorem read_window2 {sg : RefSig} {n0 n1 : ℕ} {e : EltTy} (v : View sg .tc .vmem ⟨2, ![n0, n1]⟩ e) (f : v.ty.Contents (Elt Ideal))
    {o0 o1 k0 k1 : ℕ} (inb : ∀ a, (![o0, o1] : Fin 2 → ℕ) a + (R k0 k1).size a ≤ (⟨2, ![n0, n1]⟩ : Shape).size a) (i : Fin k0) (q : Fin k1)
    (h0 : o0 + i.val < n0) (h1 : o1 + q.val < n1) :
    View.readAt (Elt Ideal) v (Rect.unit (s := ⟨2, ![n0, n1]⟩) ![o0, o1] (R k0 k1).size inb).toLoadRect f (ix2 i q) =
      v.read (Elt Ideal) f (ix2 ⟨o0 + i.val, h0⟩ ⟨o1 + q.val, h1⟩) := by
  rw [View.readAt_unit v f inb rfl inb]
  unfold VecWindow.window
  congr 1
  funext a; fin_cases a
  · exact Fin.ext (by show o0 + 1 * i.val = o0 + i.val; omega)
  · exact Fin.ext (by show o1 + 1 * q.val = o1 + q.val; omega)

/-- A store of rows of one half of a block, read back. -/
theorem read_store3 {b : EltTy} (v : View sig .tc .vmem S2x512x1408 b) (f : v.ty.Contents (Elt Ideal)) {k a o n w : ℕ}
    (inb : ∀ x, (![k, a, o] : Fin 3 → ℕ) x + (R1 n w).size x ≤ S2x512x1408.size x)
    (L : List (View.Piece (Elt Ideal) S2x512x1408 b)) (x : (R1 n w).Idx → Elt Ideal b) (e : Fin 2) (r : Fin 512) (q : Fin 1408) :
    v.read (Elt Ideal) (v.writes (Elt Ideal) f (⟨Rect.unit (s := S2x512x1408) ![k, a, o] (R1 n w).size inb, x⟩ :: L)) (ix3 e r q) =
      if h : e.val = k ∧ (a ≤ r.val ∧ r.val < a + n) ∧ (o ≤ q.val ∧ q.val < o + w) then
        x (ix3 0 ⟨r.val - a, by omega⟩ ⟨q.val - o, by omega⟩)
      else v.read (Elt Ideal) (v.writes (Elt Ideal) f L) (ix3 e r q) := by
  rw [View.read_writes_cons_unit v f inb _ L (ix3 e r q) rfl]
  by_cases hin : e.val = k ∧ (a ≤ r.val ∧ r.val < a + n) ∧ (o ≤ q.val ∧ q.val < o + w)
  · rw [dif_pos hin, dif_pos (by
      intro b; fin_cases b
      · exact ⟨hin.1.ge, by show e.val < k + 1; omega⟩
      · exact hin.2.1
      · exact hin.2.2)]
    congr 1
    funext b; fin_cases b
    · exact Fin.ext (by show e.val - k = 0; omega)
    · rfl
    · rfl
  · rw [dif_neg hin, dif_neg (fun hh => hin ⟨by
      have h1 := (hh 0).1; have h2 := (hh 0).2
      change k ≤ e.val at h1; change e.val < k + 1 at h2; omega, hh 1, hh 2⟩)]

variable (m : (ℓ : Loc nD τ sig) → Buf (Elt Ideal) ℓ) (c : Dev nD) (t : Fin cfg0.N) (s : Strip)

theorem loadTap_apply (a : Memref sig .tc .vmem S3x1408 .f32) (ha : a.IsWhole) (x : Vec Ideal S3x1408 .f32) (j : Fin 3) (q : Fin s.w) :
    loadTap s a ha x j (ix2 0 q) = x (ix2 j ⟨s.o + q.val, by have := s.fits; omega⟩) := by
  unfold loadTap
  rw [read_window2 a.view (ha.unread x) (inbTap s j.val j.isLt) 0 q (by simp) (by have := s.fits; omega), ha.read_unread]
  rfl

/-- Rows read back of one half of the products. -/
theorem loadUp_read (e : Fin 2) (U : Blocks) (a k : ℕ) (h : a + k ≤ 512) (i : Fin k) (q : Fin s.w) :
    loadUp t s e U a k h (ix2 i q) = (ms0_5 t).view.read (Elt Ideal) ((ms0_5 t).view.writes (Elt Ideal) (ms0_5 t).view.junk U)
      (ix3 e ⟨a + i.val, by omega⟩ ⟨s.o + q.val, by have := s.fits; omega⟩) := by
  unfold loadUp View.readCov
  show (ms0_5 t).view.read (Elt Ideal) _ (LoadRect.idx _ (Shape.reshapeEquiv _ (ix2 i q))) = _
  congr 1
  refine (congrArg (LoadRect.idx _) (ValueIdx.reshapeEquiv_ix2_1ab _ i q)).trans ?_
  funext b; fin_cases b
  · exact Fin.ext (by show e.val + 1 * (0 + 1 * 0) = e.val; omega)
  · exact Fin.ext (by show 0 + a + 1 * i.val = a + i.val; omega)
  · exact Fin.ext (by show 0 + s.o + 1 * q.val = s.o + q.val; omega)

theorem pay4_apply (x : FVec Ideal S512x1024 .bf16) (y : FVec Ideal S1x512x1024 .bf16) (i j : Fin 512) :
    k0_pay4 (F := Ideal) x y (ix3 0 i j) = (∑ k : Fin 1024, (x (ix2 i k) : EReal) * y (ix3 0 j k) : EReal) := by
  unfold k0_pay4; pointwise
theorem pay5_apply (x : FVec Ideal S512x1024 .bf16) (y : FVec Ideal S1x512x1024 .bf16) (i j : Fin 512) :
    k0_pay5 (F := Ideal) x y (ix3 0 i j) = (∑ k : Fin 1024, (x (ix2 i k) : EReal) * y (ix3 0 j k) : EReal) := by
  unfold k0_pay5; pointwise
theorem pay6_apply (x : FVec Ideal S512x1024 .bf16) (y : FVec Ideal S1x512x1024 .bf16) (i j : Fin 512) :
    k0_pay6 (F := Ideal) x y (ix3 0 i j) = (∑ k : Fin 1024, (x (ix2 i k) : EReal) * y (ix3 0 j k) : EReal) := by
  unfold k0_pay6; pointwise
theorem pay7_apply (x : FVec Ideal S512x1024 .bf16) (y : FVec Ideal S1x512x1024 .bf16) (i j : Fin 512) :
    k0_pay7 (F := Ideal) x y (ix3 0 i j) = (∑ k : Fin 1024, (x (ix2 i k) : EReal) * y (ix3 0 j k) : EReal) := by
  unfold k0_pay7; pointwise
theorem prod384_apply (x : FVec Ideal S512x1024 .bf16) (y : FVec Ideal S1x384x1024 .bf16) (i : Fin 512) (j : Fin 384) :
    prod384 x y (ix3 0 i j) = (∑ k : Fin 1024, (x (ix2 i k) : EReal) * y (ix3 0 j k) : EReal) := by
  unfold prod384; pointwise

/-- A block of products. -/
def prodAt (x : FVec Ideal S512x1024 .bf16) (y : FVec Ideal S1x1408x1024 .bf16) (i : Fin 512) (q : Fin 1408) : EReal :=
  ∑ k : Fin 1024, (x (ix2 i k) : EReal) * y (ix3 0 q k)
def upB (e : Fin 2) (i : Fin 512) (q : Fin 1408) : EReal :=
  if e.val = 0 then prodAt (iblk m c 0 t) (iblk m c 1 t) i q else prodAt (iblk m c 0 t) (iblk m c 2 t) i q

theorem rowsIn_apply (i : Fin 512) (k : Fin 1024) : rowsIn m c t (ix2 i k) = iblk m c 0 t (ix2 i k) := by
  unfold rowsIn
  refine (read_window2 (ms0_0 t).view _ inb_S512x1024_S512x1024_0_0 i k (by omega) (by omega)).trans ?_
  rw [(hs0_0 t).read_unread]
  congr 1
  funext b; fin_cases b
  · exact Fin.ext (by show 0 + i.val = i.val; omega)
  · exact Fin.ext (by show 0 + k.val = k.val; omega)

theorem loadW_apply (M : Memref sig .tc .vmem S1x1408x1024 .bf16) (hM : M.IsWhole) (x : Vec Ideal S1x1408x1024 .bf16) {o n : ℕ}
    (inb : ∀ a, (![0, o, 0] : Fin 3 → ℕ) a + (R1 n 1024).size a ≤ S1x1408x1024.size a) (j : Fin n) (k : Fin 1024) (h : o + j.val < 1408) :
    View.readAt (Elt Ideal) M.view (Rect.unit (s := S1x1408x1024) ![0, o, 0] (R1 n 1024).size inb).toLoadRect (hM.unread x) (ix3 0 j k) =
      x (ix3 0 ⟨o + j.val, h⟩ k) := by
  rw [View.readAt_unit M.view (hM.unread x) inb rfl inb, hM.read_unread]
  unfold VecWindow.window
  congr 1
  funext b; fin_cases b
  · rfl
  · exact Fin.ext (by show o + 1 * j.val = o + j.val; omega)
  · exact Fin.ext (by show 0 + 1 * k.val = k.val; omega)

/-- A strip's product is its block's. -/
theorem strip_prod {o n : ℕ} (M : Memref sig .tc .vmem S1x1408x1024 .bf16) (hM : M.IsWhole) (x : Vec Ideal S1x1408x1024 .bf16)
    (inb : ∀ a, (![0, o, 0] : Fin 3 → ℕ) a + (R1 n 1024).size a ≤ S1x1408x1024.size a) (i i' : Fin 512) (q : Fin 1408) (j : Fin n)
    (hi : i'.val = i.val) (hq : q.val = o + j.val) :
    (∑ k : Fin 1024, (rowsIn m c t (ix2 i' k) : EReal) *
      View.readAt (Elt Ideal) M.view (Rect.unit (s := S1x1408x1024) ![0, o, 0] (R1 n 1024).size inb).toLoadRect (hM.unread x) (ix3 0 j k) : EReal) =
      prodAt (iblk m c 0 t) x i q := by
  unfold prodAt
  refine Finset.sum_congr rfl fun k _ => ?_
  rw [rowsIn_apply, loadW_apply M hM x inb j k (by omega), show i' = i from Fin.ext hi]
  congr 3
  exact Fin.ext hq.symm

theorem prods2_read (v : View sig .tc .vmem S2x512x1408 .f32) (f : v.ty.Contents (Elt Ideal))
    (e : Fin 2) (i : Fin 512) (q : Fin 1408) (hq : q.val < 1024) :
    v.read (Elt Ideal) (v.writes (Elt Ideal) f (prods2 m c t)) (ix3 e i q) = upB m c t e i q := by
  unfold prods2 upB
  have he : e.val = 0 ∨ e.val = 1 := by omega
  refine (read_store3 v f inb_S2x512x1408_S1x512x512_1_0_512 _ _ e i q).trans ?_
  by_cases h : e.val = 1 ∧ 512 ≤ q.val
  · rw [dif_pos ⟨h.1, by omega, by omega⟩, if_neg (by omega)]
    exact (pay7_apply _ _ _ _).trans (strip_prod m c t (ms0_2 t) (hs0_2 t) _ inb_S1x1408x1024_S1x512x1024_0_512_0 i _ q _ (by dsimp only; omega) (by dsimp only; omega))
  rw [dif_neg (fun hh => h ⟨hh.1, hh.2.2.1⟩)]
  refine (read_store3 v f inb_S2x512x1408_S1x512x512_0_0_512 _ _ e i q).trans ?_
  by_cases h : e.val = 0 ∧ 512 ≤ q.val
  · rw [dif_pos ⟨h.1, by omega, by omega⟩, if_pos (by omega)]
    exact (pay6_apply _ _ _ _).trans (strip_prod m c t (ms0_1 t) (hs0_1 t) _ inb_S1x1408x1024_S1x512x1024_0_512_0 i _ q _ (by dsimp only; omega) (by dsimp only; omega))
  rw [dif_neg (fun hh => h ⟨hh.1, hh.2.2.1⟩)]
  refine (read_store3 v f inb_S2x512x1408_S1x512x512_1_0_0 _ _ e i q).trans ?_
  by_cases h : e.val = 1
  · rw [dif_pos ⟨h, by omega, by omega⟩, if_neg (by omega)]
    exact (pay5_apply _ _ _ _).trans (strip_prod m c t (ms0_2 t) (hs0_2 t) _ inb_S1x1408x1024_S1x512x1024_0_0_0 i _ q _ (by dsimp only; omega) (by dsimp only; omega))
  rw [dif_neg (fun hh => h hh.1)]
  refine (read_store3 v f inb_S2x512x1408_S1x512x512_0_0_0 _ _ e i q).trans ?_
  rw [dif_pos ⟨by omega, by omega, by omega⟩, if_pos (by omega)]
  exact (pay4_apply _ _ _ _).trans (strip_prod m c t (ms0_1 t) (hs0_1 t) _ inb_S1x1408x1024_S1x512x1024_0_0_0 i _ q _ (by dsimp only; omega) (by dsimp only; omega))

theorem prods3_read (v : View sig .tc .vmem S2x512x1408 .f32) (f : v.ty.Contents (Elt Ideal)) (e : Fin 2) (i : Fin 512) (q : Fin 1408) :
    v.read (Elt Ideal) (v.writes (Elt Ideal) f (prods3 m c t)) (ix3 e i q) = upB m c t e i q := by
  unfold prods3
  refine (read_store3 v f inb_S2x512x1408_S1x512x384_1_0_1024 _ _ e i q).trans ?_
  by_cases h : e.val = 1 ∧ 1024 ≤ q.val
  · rw [dif_pos ⟨h.1, by omega, by omega⟩]
    unfold upB
    rw [if_neg (by omega)]
    exact (prod384_apply _ _ _ _).trans (strip_prod m c t (ms0_2 t) (hs0_2 t) _ inb_S1x1408x1024_S1x384x1024_0_1024_0 i _ q _ (by dsimp only; omega) (by dsimp only; omega))
  rw [dif_neg (fun hh => h ⟨hh.1, hh.2.2.1⟩)]
  refine (read_store3 v f inb_S2x512x1408_S1x512x384_0_0_1024 _ _ e i q).trans ?_
  by_cases h : e.val = 0 ∧ 1024 ≤ q.val
  · rw [dif_pos ⟨h.1, by omega, by omega⟩]
    unfold upB
    rw [if_pos (by omega)]
    exact (prod384_apply _ _ _ _).trans (strip_prod m c t (ms0_1 t) (hs0_1 t) _ inb_S1x1408x1024_S1x384x1024_0_1024_0 i _ q _ (by dsimp only; omega) (by dsimp only; omega))
  rw [dif_neg (fun hh => h ⟨hh.1, hh.2.2.1⟩), prods2_read m c t v f e i q (by omega)]

/-- Each strip finds its products ready. -/
theorem loadN_apply (k : ℕ) (e : Fin 2) (a n : ℕ) (h : a + n ≤ 512) (i : Fin n) (q : Fin (stripN k).w) :
    loadUp t (stripN k) e (prodsN m c t k) a n h (ix2 i q) =
      upB m c t e ⟨a + i.val, by omega⟩ ⟨(stripN k).o + q.val, by have := (stripN k).fits; omega⟩ := by
  rw [loadUp_read]
  match k with
  | 0 => exact prods2_read m c t _ _ _ _ _ (by show 0 + q.val < 1024; have : q.val < 512 := q.isLt; omega)
  | _ + 1 => exact prods3_read m c t _ _ _ _ _

end Cert.Calls.Up
-- ==== Proof.UpPoint.lean ====
module

public import proofs.«01_k».proof.Proof.UpRead

@[expose] public section

set_option maxRecDepth 16384

noncomputable section

/-! What a point's stores leave at an index: the kept rows, the convolved rows, the gated rows. -/

namespace Cert.Calls.Up

open Cert.UpIdeal Cert.UpIdeal.Gen
open Idealize.ShloMosaic Idealize.ShloMosaic.TcCoe Idealize.ShloMosaic.Tactic

variable (m : (ℓ : Loc nD τ sig) → Buf (Elt Ideal) ℓ) (c : Dev nD) (t : Fin cfg0.N)

/-- Where a strip's columns begin. -/
def edge : ℕ → ℕ
  | 0 => 0
  | 1 => 512
  | 2 => 1024
  | _ => 1408

theorem has_iff (k : ℕ) (hk : k < 3) (q : ℕ) :
    ((stripN k).o ≤ q ∧ q < (stripN k).o + (stripN k).w) ↔ edge k ≤ q ∧ q < edge (k + 1) := by
  match k, hk with
  | 0, _ => show (0 ≤ q ∧ q < 0 + 512) ↔ (0 ≤ q ∧ q < 512); omega
  | 1, _ => show (512 ≤ q ∧ q < 512 + 512) ↔ (512 ≤ q ∧ q < 1024); omega
  | 2, _ => show (1024 ≤ q ∧ q < 1024 + 384) ↔ (1024 ≤ q ∧ q < 1408); omega

theorem edge_le (k : ℕ) (hk : k < 3) : edge k ≤ edge (k + 1) := by
  match k, hk with
  | 0, _ => decide
  | 1, _ => decide
  | 2, _ => decide

/-- Eight rows, and a block's rows behind them. -/
def ext (H : Fin 8 → Fin 1408 → EReal) (D : Fin 512 → Fin 1408 → EReal) (r : Fin 520) (q : Fin 1408) : EReal :=
  if h : r.val < 8 then H ⟨r.val, h⟩ q else D ⟨r.val - 8, by omega⟩ q

theorem ext_lo (H : Fin 8 → Fin 1408 → EReal) (D : Fin 512 → Fin 1408 → EReal) (r : Fin 520) (i : Fin 8) (q : Fin 1408) (h : r.val = i.val) :
    ext H D r q = H i q := by
  unfold ext; rw [dif_pos (by omega)]; congr 1; exact Fin.ext h
theorem ext_hi (H : Fin 8 → Fin 1408 → EReal) (D : Fin 512 → Fin 1408 → EReal) (r : Fin 520) (i : Fin 512) (q : Fin 1408) (h : r.val = i.val + 8) :
    ext H D r q = D i q := by
  unfold ext; rw [dif_neg (by omega)]; congr 1; exact Fin.ext (by dsimp only; omega)

/-- The last rows of a block's products. -/
abbrev tail (e : Fin 2) (i : Fin 8) (q : Fin 1408) : EReal := upB m c t e ⟨504 + i.val, by omega⟩ q

theorem mid_read (k : ℕ) (e : Fin 2) (v : View sig .tc .vmem S24x1408 .f32) (f : v.ty.Contents (Elt Ideal)) (L : Rows) (r : Fin 24) (q : Fin 1408) :
    v.read (Elt Ideal) (v.writes (Elt Ideal) f (mid t (stripN k) e (prodsN m c t k) L)) (ix2 r q) =
      if h : 8 ≤ r.val ∧ ((stripN k).o ≤ q.val ∧ q.val < (stripN k).o + (stripN k).w) then upB m c t e ⟨r.val - 8, by omega⟩ q
      else v.read (Elt Ideal) (v.writes (Elt Ideal) f L) (ix2 r q) := by
  unfold mid
  refine (read_store2 v f (inbKeep (stripN k) 8 16 (by decide)) _ _ r q).trans ?_
  by_cases h : 8 ≤ r.val ∧ ((stripN k).o ≤ q.val ∧ q.val < (stripN k).o + (stripN k).w)
  · rw [dif_pos ⟨⟨h.1, by omega⟩, h.2⟩, dif_pos h]
    refine (cast16_apply (stripN k).wide _ _ _).trans ((loadN_apply m c t k e 0 16 (by decide) _ _).trans ?_)
    congr 1
    · exact Fin.ext (by dsimp only; omega)
    · exact Fin.ext (by dsimp only; omega)
  · rw [dif_neg (fun x => h ⟨x.1.1, x.2⟩), dif_neg h]

theorem done_read (k : ℕ) (e : Fin 2) (v : View sig .tc .vmem S24x1408 .f32) (f : v.ty.Contents (Elt Ideal)) (L : Rows) (i : Fin 8) (q : Fin 1408) :
    v.read (Elt Ideal) (v.writes (Elt Ideal) f (done t (stripN k) e (prodsN m c t k) L)) (ix2 ⟨i.val, by omega⟩ q) =
      if (stripN k).o ≤ q.val ∧ q.val < (stripN k).o + (stripN k).w then tail m c t e i q
      else v.read (Elt Ideal) (v.writes (Elt Ideal) f L) (ix2 ⟨i.val, by omega⟩ q) := by
  unfold done
  refine (read_store2 v f (inbKeep (stripN k) 0 8 (by decide)) _ _ ⟨i.val, by omega⟩ q).trans ?_
  by_cases h : (stripN k).o ≤ q.val ∧ q.val < (stripN k).o + (stripN k).w
  · rw [dif_pos ⟨⟨by omega, by dsimp only; omega⟩, h⟩, if_pos h]
    refine (cast8_apply (stripN k).wide _ _ _).trans ((loadN_apply m c t k e 504 8 (by decide) _ _).trans ?_)
    unfold tail
    congr 1
    · exact Fin.ext (by dsimp only; omega)
  · rw [dif_neg (fun x => h x.2), if_neg h, mid_read, dif_neg (fun x => by have := x.1; dsimp only at this; omega)]

theorem kept_read (e : Fin 2) (v : View sig .tc .vmem S24x1408 .f32) (f : v.ty.Contents (Elt Ideal)) (L : Rows) (i : Fin 8) (q : Fin 1408) :
    ∀ (k : ℕ) (_ : k ≤ 3), v.read (Elt Ideal) (v.writes (Elt Ideal) f (kept m c t e L k)) (ix2 ⟨i.val, by omega⟩ q) =
      if q.val < edge k then tail m c t e i q else v.read (Elt Ideal) (v.writes (Elt Ideal) f L) (ix2 ⟨i.val, by omega⟩ q) := by
  intro k
  induction k with
  | zero => intro _; rw [if_neg (by simp [edge])]; rfl
  | succ k ih =>
    intro hk
    have hh := has_iff k (by omega) q.val
    have he := edge_le k (by omega)
    unfold kept
    rw [done_read, ih (by omega)]
    by_cases h : q.val < edge k
    · rw [if_neg (fun x => by have := hh.mp x; omega), if_pos h, if_pos (by omega)]
    · by_cases h2 : q.val < edge (k + 1)
      · rw [if_pos (hh.mpr ⟨by omega, h2⟩), if_pos h2]
      · rw [if_neg (fun x => h2 (hh.mp x).2), if_neg h, if_neg h2]

/-- A chunk's window is the block's rows behind the rows kept before. -/
theorem window_apply (e : Fin 2) (v : View sig .tc .vmem S24x1408 .f32) (f : v.ty.Contents (Elt Ideal)) (L : Rows) (H : Fin 8 → Fin 1408 → EReal)
    (hH : ∀ (i : Fin 8) (q : Fin 1408), v.read (Elt Ideal) (v.writes (Elt Ideal) f L) (ix2 ⟨i.val, by omega⟩ q) = H i q)
    (k : ℕ) (hk : k < 3) (n : ℕ) (hn : n < 32) (i : Fin 24) (q : Fin (stripN k).w) :
    window t (stripN k) e (prodsN m c t k) v f (kept m c t e L k) n hn (ix2 i q) =
      ext H (upB m c t e) ⟨16 * n + i.val, by omega⟩ ⟨(stripN k).o + q.val, by have := (stripN k).fits; omega⟩ := by
  have hf := (stripN k).fits
  have hq := q.isLt
  match n, hn with
  | 0, _ =>
    unfold window
    refine (read_window2 v _ (inbKeep (stripN k) 0 24 (by decide)) i q (by omega) (by omega)).trans ?_
    rw [mid_read]
    by_cases h : 8 ≤ i.val
    · rw [dif_pos ⟨by dsimp only; omega, by dsimp only; omega, by dsimp only; omega⟩]
      refine Eq.trans ?_ (ext_hi H _ _ ⟨i.val - 8, by omega⟩ _ (by dsimp only; omega)).symm
      congr 1
      exact Fin.ext (by dsimp only; omega)
    · rw [dif_neg (fun x => h (by have := x.1; dsimp only at this; omega))]
      refine Eq.trans ?_ (ext_lo H _ _ ⟨i.val, by omega⟩ _ (by dsimp only; omega)).symm
      have key := kept_read m c t e v f L ⟨i.val, by omega⟩ ⟨(stripN k).o + q.val, by omega⟩ k (by omega)
      rw [if_neg (by have := (has_iff k hk ((stripN k).o + q.val)).mp ⟨by omega, by omega⟩; dsimp only; omega), hH] at key
      refine Eq.trans ?_ key
      congr 2
      exact Fin.ext (by dsimp only; omega)
  | n + 1, hn =>
    unfold window
    refine (cast24_apply (stripN k).wide _ i q).trans ((loadN_apply m c t k e (16 * n + 8) 24 (by omega) i q).trans ?_)
    exact (ext_hi H _ _ _ _ (by dsimp only; omega)).symm

/-- A row of the convolution: the taps against the row and the two before it. -/
def convAt (w : FVec Ideal S3x1408 .f32) (E : Fin 520 → Fin 1408 → EReal) (r : Fin 512) (q : Fin 1408) : EReal :=
  (w (ix2 2 q) : EReal) * E ⟨r.val + 8, by omega⟩ q + (w (ix2 1 q) : EReal) * E ⟨r.val + 7, by omega⟩ q + (w (ix2 0 q) : EReal) * E ⟨r.val + 6, by omega⟩ q

theorem conv_at (s : Strip) (a : FVec Ideal (R 24 s.w) .f32) (E : Fin 520 → Fin 1408 → EReal) (n : ℕ) (hn : n < 32)
    (hE : ∀ (i : Fin 24) (q : Fin s.w), a (ix2 i q) = E ⟨16 * n + i.val, by omega⟩ ⟨s.o + q.val, by have := s.fits; omega⟩)
    (M : Memref sig .tc .vmem S3x1408 .f32) (hM : M.IsWhole) (w : Vec Ideal S3x1408 .f32) (i : Fin 16) (q : Fin s.w) :
    conv s.wide a (loadTap s M hM w) (ix2 i q) = convAt w E ⟨16 * n + i.val, by omega⟩ ⟨s.o + q.val, by have := s.fits; omega⟩ := by
  rw [conv_apply, hE, hE, hE, loadTap_apply, loadTap_apply, loadTap_apply]
  rfl

variable (H H' : Fin 8 → Fin 1408 → EReal)

/-- The convolved rows of a block's two halves, and the gated rows. -/
def yGate (r : Fin 512) (q : Fin 1408) : EReal := convAt (iblk m c 3 t) (ext H (upB m c t 0)) r q
def yVal (r : Fin 512) (q : Fin 1408) : EReal := convAt (iblk m c 4 t) (ext H' (upB m c t 1)) r q
def yB (e : Fin 2) (r : Fin 512) (q : Fin 1408) : EReal := if e.val = 0 then yGate m c t H r q else yVal m c t H' r q
def aB (r : Fin 512) (q : Fin 1408) : EReal := gateAt (yGate m c t H r q) (yVal m c t H' r q)

section Strips
variable (g v : (k : ℕ) → Win (stripN k).w)
variable (hg : ∀ (k : ℕ) (_ : k < 3) (n : ℕ) (hn : n < 32) (i : Fin 24) (q : Fin (stripN k).w),
  g k n hn (ix2 i q) = ext H (upB m c t 0) ⟨16 * n + i.val, by omega⟩ ⟨(stripN k).o + q.val, by have := (stripN k).fits; omega⟩)
variable (hv : ∀ (k : ℕ) (_ : k < 3) (n : ℕ) (hn : n < 32) (i : Fin 24) (q : Fin (stripN k).w),
  v k n hn (ix2 i q) = ext H' (upB m c t 1) ⟨16 * n + i.val, by omega⟩ ⟨(stripN k).o + q.val, by have := (stripN k).fits; omega⟩)
include hg hv

theorem yStores_read (k : ℕ) (hk : k < 3) (x : View sig .tc .vmem S2x512x1408 .f32) (f : x.ty.Contents (Elt Ideal)) (L : Blocks)
    (e : Fin 2) (r : Fin 512) (q : Fin 1408) : ∀ (n : ℕ) (hn : n ≤ 32),
    x.read (Elt Ideal) (x.writes (Elt Ideal) f (yStores m c t (stripN k) (g k) (v k) L n hn)) (ix3 e r q) =
      if ((stripN k).o ≤ q.val ∧ q.val < (stripN k).o + (stripN k).w) ∧ r.val < 16 * n then yB m c t H H' e r q
      else x.read (Elt Ideal) (x.writes (Elt Ideal) f L) (ix3 e r q) := by
  intro n
  induction n with
  | zero => intro _; rw [if_neg (by omega)]; rfl
  | succ n ih =>
    intro hn
    have he : e.val = 0 ∨ e.val = 1 := by omega
    unfold yStores
    refine (read_store3 x f (inbOut (stripN k) 1 (16 * n) (by omega) (by omega)) _ _ e r q).trans ?_
    by_cases h : e.val = 1 ∧ (16 * n ≤ r.val ∧ r.val < 16 * n + 16) ∧ ((stripN k).o ≤ q.val ∧ q.val < (stripN k).o + (stripN k).w)
    · rw [dif_pos h, if_pos ⟨h.2.2, by omega⟩]
      unfold yB
      rw [if_neg (by omega)]
      refine (lift_apply (stripN k).wide _ _ _).trans ((conv_at (stripN k) _ _ n (by omega) (hv k hk n (by omega)) (ms0_4 t) (hs0_4 t) (iblk m c 4 t) _ _).trans ?_)
      unfold yVal
      congr 1
      · exact Fin.ext (by dsimp only; omega)
      · exact Fin.ext (by dsimp only; omega)
    rw [dif_neg h]
    refine (read_store3 x f (inbOut (stripN k) 0 (16 * n) (by omega) (by omega)) _ _ e r q).trans ?_
    by_cases h' : e.val = 0 ∧ (16 * n ≤ r.val ∧ r.val < 16 * n + 16) ∧ ((stripN k).o ≤ q.val ∧ q.val < (stripN k).o + (stripN k).w)
    · rw [dif_pos h', if_pos ⟨h'.2.2, by omega⟩]
      unfold yB
      rw [if_pos h'.1]
      refine (lift_apply (stripN k).wide _ _ _).trans ((conv_at (stripN k) _ _ n (by omega) (hg k hk n (by omega)) (ms0_3 t) (hs0_3 t) (iblk m c 3 t) _ _).trans ?_)
      unfold yGate
      congr 1
      · exact Fin.ext (by dsimp only; omega)
      · exact Fin.ext (by dsimp only; omega)
    rw [dif_neg h', ih (by omega)]
    by_cases h2 : ((stripN k).o ≤ q.val ∧ q.val < (stripN k).o + (stripN k).w) ∧ r.val < 16 * n
    · rw [if_pos h2, if_pos ⟨h2.1, by omega⟩]
    · rw [if_neg h2, if_neg (fun x => by
        rcases he with he | he
        · exact h' ⟨he, ⟨by by_contra hc; exact h2 ⟨x.1, by omega⟩, by have := x.2; omega⟩, x.1⟩
        · exact h ⟨he, ⟨by by_contra hc; exact h2 ⟨x.1, by omega⟩, by have := x.2; omega⟩, x.1⟩)]

theorem aStores_read (k : ℕ) (hk : k < 3) (x : View sig .tc .vmem S512x1408 .bf16) (f : x.ty.Contents (Elt Ideal)) (L : Acts)
    (r : Fin 512) (q : Fin 1408) : ∀ (n : ℕ) (hn : n ≤ 32),
    x.read (Elt Ideal) (x.writes (Elt Ideal) f (aStores m c t (stripN k) (g k) (v k) L n hn)) (ix2 r q) =
      if ((stripN k).o ≤ q.val ∧ q.val < (stripN k).o + (stripN k).w) ∧ r.val < 16 * n then aB m c t H H' r q
      else x.read (Elt Ideal) (x.writes (Elt Ideal) f L) (ix2 r q) := by
  intro n
  induction n with
  | zero => intro _; rw [if_neg (by omega)]; rfl
  | succ n ih =>
    intro hn
    unfold aStores
    refine (read_store2 x f (inbRows (stripN k) (16 * n) 16 (by omega)) _ _ r q).trans ?_
    by_cases h : (16 * n ≤ r.val ∧ r.val < 16 * n + 16) ∧ ((stripN k).o ≤ q.val ∧ q.val < (stripN k).o + (stripN k).w)
    · rw [dif_pos h, if_pos ⟨h.2, by omega⟩]
      refine (gated_apply (stripN k).wide _ _ _ _).trans ?_
      unfold aB yG yV
      rw [conv_at (stripN k) _ _ n (by omega) (hv k hk n (by omega)) (ms0_4 t) (hs0_4 t) (iblk m c 4 t),
        conv_at (stripN k) _ _ n (by omega) (hg k hk n (by omega)) (ms0_3 t) (hs0_3 t) (iblk m c 3 t)]
      unfold yGate yVal
      have er : (⟨16 * n + (r.val - 16 * n), by omega⟩ : Fin 512) = r := Fin.ext (by dsimp only; omega)
      have eq : (⟨(stripN k).o + (q.val - (stripN k).o), by omega⟩ : Fin 1408) = q := Fin.ext (by dsimp only; omega)
      dsimp only
      rw [er, eq]
    rw [dif_neg h, ih (by omega)]
    by_cases h2 : ((stripN k).o ≤ q.val ∧ q.val < (stripN k).o + (stripN k).w) ∧ r.val < 16 * n
    · rw [if_pos h2, if_pos ⟨h2.1, by omega⟩]
    · rw [if_neg h2, if_neg (fun x => h ⟨⟨by by_contra hc; exact h2 ⟨x.1, by omega⟩, by have := x.2; omega⟩, x.1⟩)]

theorem yAll_read (x : View sig .tc .vmem S2x512x1408 .f32) (f : x.ty.Contents (Elt Ideal)) (e : Fin 2) (r : Fin 512) (q : Fin 1408) :
    ∀ (k : ℕ) (_ : k ≤ 3), x.read (Elt Ideal) (x.writes (Elt Ideal) f (yAll m c t g v k)) (ix3 e r q) =
      if q.val < edge k then yB m c t H H' e r q else x.read (Elt Ideal) (x.writes (Elt Ideal) f []) (ix3 e r q) := by
  intro k
  induction k with
  | zero => intro _; rw [if_neg (by simp [edge])]; rfl
  | succ k ih =>
    intro hk
    have hh := has_iff k (by omega) q.val
    have he := edge_le k (by omega)
    unfold yAll
    rw [yStores_read m c t H H' g v hg hv k (by omega) x f _ e r q 32 (Nat.le_refl _), ih (by omega)]
    by_cases h : q.val < edge k
    · rw [if_neg (fun x => by have := hh.mp x.1; omega), if_pos h, if_pos (by omega)]
    · by_cases h2 : q.val < edge (k + 1)
      · rw [if_pos ⟨hh.mpr ⟨by omega, h2⟩, by omega⟩, if_pos h2]
      · rw [if_neg (fun x => h2 (hh.mp x.1).2), if_neg h, if_neg h2]

theorem aAll_read (x : View sig .tc .vmem S512x1408 .bf16) (f : x.ty.Contents (Elt Ideal)) (r : Fin 512) (q : Fin 1408) :
    ∀ (k : ℕ) (_ : k ≤ 3), x.read (Elt Ideal) (x.writes (Elt Ideal) f (aAll m c t g v k)) (ix2 r q) =
      if q.val < edge k then aB m c t H H' r q else x.read (Elt Ideal) (x.writes (Elt Ideal) f []) (ix2 r q) := by
  intro k
  induction k with
  | zero => intro _; rw [if_neg (by simp [edge])]; rfl
  | succ k ih =>
    intro hk
    have hh := has_iff k (by omega) q.val
    have he := edge_le k (by omega)
    unfold aAll
    rw [aStores_read m c t H H' g v hg hv k (by omega) x f _ r q 32 (Nat.le_refl _), ih (by omega)]
    by_cases h : q.val < edge k
    · rw [if_neg (fun x => by have := hh.mp x.1; omega), if_pos h, if_pos (by omega)]
    · by_cases h2 : q.val < edge (k + 1)
      · rw [if_pos ⟨hh.mpr ⟨by omega, h2⟩, by omega⟩, if_pos h2]
      · rw [if_neg (fun x => h2 (hh.mp x.1).2), if_neg h, if_neg h2]

end Strips

end Cert.Calls.Up
-- ==== Proof.UpRunA.lean ====
module

public import proofs.«01_k».proof.Proof.UpStores
public import proofs.«01_k».proof.Proof.Gen.UpIdeal.Frame.RunA

@[expose] public section

set_option maxRecDepth 16384

noncomputable section

/-! The body's stores at the first point of a column block, as the strips' stores. -/

namespace Cert.Calls.Up

open Cert.UpIdeal Cert.UpIdeal.Gen
open Idealize.ShloMosaic Idealize.ShloMosaic.TcCoe Idealize.ShloMosaic.Tactic

variable (m : (ℓ : Loc nD τ sig) → Buf (Elt Ideal) ℓ) (c : Dev nD) (t : Fin cfg0.N)

abbrev runA (h0 : t.val % 8 = 0) :=
  kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t)

theorem up_first (h0 : t.val % 8 = 0) : (runA m c t h0).1 = prods3 m c t := by sl_kernel_rfl
theorem y_first (h0 : t.val % 8 = 0) : (runA m c t h0).2.1 = yAll m c t (gWin m c t scM0_0.view.junk zerosG) (vWin m c t scM0_1.view.junk zerosV) 3 := by sl_kernel_rfl
theorem a_first (h0 : t.val % 8 = 0) : (runA m c t h0).2.2.1 = aAll m c t (gWin m c t scM0_0.view.junk zerosG) (vWin m c t scM0_1.view.junk zerosV) 3 := by sl_kernel_rfl
theorem g_first (h0 : t.val % 8 = 0) : (runA m c t h0).2.2.2.1 = kept m c t 0 zerosG 3 := by sl_kernel_rfl
theorem v_first (h0 : t.val % 8 = 0) : (runA m c t h0).2.2.2.2.1 = kept m c t 1 zerosV 3 := by sl_kernel_rfl

end Cert.Calls.Up
-- ==== Proof.UpRunB.lean ====
module

public import proofs.«01_k».proof.Proof.UpStores
public import proofs.«01_k».proof.Proof.Gen.UpIdeal.Frame.RunB

@[expose] public section

set_option maxRecDepth 16384

noncomputable section

/-! The body's stores at a later point of a column block, as the strips' stores. -/

namespace Cert.Calls.Up

open Cert.UpIdeal Cert.UpIdeal.Gen
open Idealize.ShloMosaic Idealize.ShloMosaic.TcCoe Idealize.ShloMosaic.Tactic

variable (m : (ℓ : Loc nD τ sig) → Buf (Elt Ideal) ℓ) (c : Dev nD) (t : Fin cfg0.N)

abbrev runB (h0 : ¬t.val % 8 = 0) (y0 y1 : Vec Ideal S24x1408 .f32) :=
  kernelRun0_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (iblk m c 0 t) (iblk m c 1 t) (iblk m c 2 t) (iblk m c 3 t) (iblk m c 4 t) y0 y1

abbrev oldG (y0 : Vec Ideal S24x1408 .f32) : scM0_0.view.ty.Contents (Elt Ideal) := (Memref.isWhole_whole _ : scM0_0.IsWhole).unread y0
abbrev oldV (y1 : Vec Ideal S24x1408 .f32) : scM0_1.view.ty.Contents (Elt Ideal) := (Memref.isWhole_whole _ : scM0_1.IsWhole).unread y1

variable (y0 y1 : Vec Ideal S24x1408 .f32)

theorem up_later (h0 : ¬t.val % 8 = 0) : (runB m c t h0 y0 y1).1 = prods3 m c t := by sl_kernel_rfl
theorem y_later (h0 : ¬t.val % 8 = 0) : (runB m c t h0 y0 y1).2.1 = yAll m c t (gWin m c t (oldG y0) []) (vWin m c t (oldV y1) []) 3 := by sl_kernel_rfl
theorem a_later (h0 : ¬t.val % 8 = 0) : (runB m c t h0 y0 y1).2.2.1 = aAll m c t (gWin m c t (oldG y0) []) (vWin m c t (oldV y1) []) 3 := by sl_kernel_rfl
theorem g_later (h0 : ¬t.val % 8 = 0) : (runB m c t h0 y0 y1).2.2.2.1 = kept m c t 0 [] 3 := by sl_kernel_rfl
theorem v_later (h0 : ¬t.val % 8 = 0) : (runB m c t h0 y0 y1).2.2.2.2.1 = kept m c t 1 [] 3 := by sl_kernel_rfl

end Cert.Calls.Up
-- ==== Proof.UpOuts.lean ====
module

public import proofs.«01_k».proof.Proof.UpPoint
public import proofs.«01_k».proof.Proof.UpRunA
public import proofs.«01_k».proof.Proof.UpRunB
public import proofs.«01_k».proof.Proof.Gen.UpIdeal.Frame

@[expose] public section

set_option maxRecDepth 16384

noncomputable section

/-! What a point leaves in the output blocks and the kept rows, over what the point before left. -/

namespace Cert.Calls.Up

open Cert.UpIdeal Cert.UpIdeal.Gen
open Idealize.ShloMosaic Idealize.ShloMosaic.TcCoe Idealize.ShloMosaic.Tactic

variable (m : (ℓ : Loc nD τ sig) → Buf (Elt Ideal) ℓ) (c : Dev nD) (t : Fin cfg0.N)

/-- No rows before the first block. -/
abbrev none8 : Fin 8 → Fin 1408 → EReal := fun _ _ => 0

/-- The rows a kept array holds of the block before. -/
abbrev head8 (y : Vec Ideal S24x1408 .f32) : Fin 8 → Fin 1408 → EReal := fun i q => y (ix2 ⟨i.val, by omega⟩ q)

theorem pay2_apply (i : Fin 8) (q : Fin 1408) : k0_pay2 (F := Ideal) (ix2 i q) = (0 : EReal) := by
  unfold k0_pay2; pointwise

theorem pay3_apply (i : Fin 8) (q : Fin 1408) : k0_pay3 (F := Ideal) (ix2 i q) = (0 : EReal) := by
  unfold k0_pay3; pointwise

theorem zerosG_read (i : Fin 8) (q : Fin 1408) :
    scM0_0.view.read (Elt Ideal) (scM0_0.view.writes (Elt Ideal) scM0_0.view.junk zerosG) (ix2 ⟨i.val, by omega⟩ q) = none8 i q := by
  refine (read_store2 scM0_0.view _ inb_S24x1408_S8x1408_0_0 _ _ _ _).trans ?_
  rw [dif_pos (by dsimp only; omega)]
  exact pay2_apply _ _

theorem zerosV_read (i : Fin 8) (q : Fin 1408) :
    scM0_1.view.read (Elt Ideal) (scM0_1.view.writes (Elt Ideal) scM0_1.view.junk zerosV) (ix2 ⟨i.val, by omega⟩ q) = none8 i q := by
  refine (read_store2 scM0_1.view _ inb_S24x1408_S8x1408_0_0 _ _ _ _).trans ?_
  rw [dif_pos (by dsimp only; omega)]
  exact pay3_apply _ _

theorem oldG_read (y : Vec Ideal S24x1408 .f32) (i : Fin 8) (q : Fin 1408) :
    scM0_0.view.read (Elt Ideal) (scM0_0.view.writes (Elt Ideal) (oldG y) []) (ix2 ⟨i.val, by omega⟩ q) = head8 y i q :=
  congrFun ((Memref.isWhole_whole _ : scM0_0.IsWhole).read_unread y) _

theorem oldV_read (y : Vec Ideal S24x1408 .f32) (i : Fin 8) (q : Fin 1408) :
    scM0_1.view.read (Elt Ideal) (scM0_1.view.writes (Elt Ideal) (oldV y) []) (ix2 ⟨i.val, by omega⟩ q) = head8 y i q :=
  congrFun ((Memref.isWhole_whole _ : scM0_1.IsWhole).read_unread y) _

theorem gWin_apply (H : Fin 8 → Fin 1408 → EReal) (f : scM0_0.view.ty.Contents (Elt Ideal)) (L : Rows)
    (hH : ∀ (i : Fin 8) (q : Fin 1408), scM0_0.view.read (Elt Ideal) (scM0_0.view.writes (Elt Ideal) f L) (ix2 ⟨i.val, by omega⟩ q) = H i q)
    (k : ℕ) (hk : k < 3) (n : ℕ) (hn : n < 32) (i : Fin 24) (q : Fin (stripN k).w) :
    gWin m c t f L k n hn (ix2 i q) = ext H (upB m c t 0) ⟨16 * n + i.val, by omega⟩ ⟨(stripN k).o + q.val, by have := (stripN k).fits; omega⟩ := by
  unfold gWin
  exact window_apply m c t 0 scM0_0.view f L H hH k hk n hn i q

theorem vWin_apply (H : Fin 8 → Fin 1408 → EReal) (f : scM0_1.view.ty.Contents (Elt Ideal)) (L : Rows)
    (hH : ∀ (i : Fin 8) (q : Fin 1408), scM0_1.view.read (Elt Ideal) (scM0_1.view.writes (Elt Ideal) f L) (ix2 ⟨i.val, by omega⟩ q) = H i q)
    (k : ℕ) (hk : k < 3) (n : ℕ) (hn : n < 32) (i : Fin 24) (q : Fin (stripN k).w) :
    vWin m c t f L k n hn (ix2 i q) = ext H (upB m c t 1) ⟨16 * n + i.val, by omega⟩ ⟨(stripN k).o + q.val, by have := (stripN k).fits; omega⟩ := by
  unfold vWin
  exact window_apply m c t 1 scM0_1.view f L H hH k hk n hn i q

section First
variable (h0 : t.val % 8 = 0)
include h0

theorem outs_first : outsAt0 m c t.val t.isLt =
    (VO0_5.read (Elt Ideal) (VO0_5.writes (Elt Ideal) VO0_5.junk (runA m c t h0).1),
     VO0_6.read (Elt Ideal) (VO0_6.writes (Elt Ideal) VO0_6.junk (runA m c t h0).2.1),
     VO0_7.read (Elt Ideal) (VO0_7.writes (Elt Ideal) VO0_7.junk (runA m c t h0).2.2.1),
     VS0_0.read (Elt Ideal) (VS0_0.writes (Elt Ideal) VS0_0.junk (runA m c t h0).2.2.2.1),
     VS0_1.read (Elt Ideal) (VS0_1.writes (Elt Ideal) VS0_1.junk (runA m c t h0).2.2.2.2.1)) :=
  outsAt0_A m c t h0

theorem up_at_first (e : Fin 2) (r : Fin 512) (q : Fin 1408) : (outsAt0 m c t.val t.isLt).1 (ix3 e r q) = upB m c t e r q := by
  rw [outs_first m c t h0]
  dsimp only
  rw [up_first, prods3_read]

theorem y_at_first (e : Fin 2) (r : Fin 512) (q : Fin 1408) : (outsAt0 m c t.val t.isLt).2.1 (ix3 e r q) = yB m c t none8 none8 e r q := by
  rw [outs_first m c t h0]
  dsimp only
  rw [y_first, yAll_read m c t none8 none8 _ _ (gWin_apply m c t _ _ _ zerosG_read) (vWin_apply m c t _ _ _ zerosV_read) _ _ e r q 3 (Nat.le_refl _)]
  exact if_pos q.isLt

theorem a_at_first (r : Fin 512) (q : Fin 1408) : (outsAt0 m c t.val t.isLt).2.2.1 (ix2 r q) = aB m c t none8 none8 r q := by
  rw [outs_first m c t h0]
  dsimp only
  rw [a_first, aAll_read m c t none8 none8 _ _ (gWin_apply m c t _ _ _ zerosG_read) (vWin_apply m c t _ _ _ zerosV_read) _ _ r q 3 (Nat.le_refl _)]
  exact if_pos q.isLt

theorem g_at_first (i : Fin 8) (q : Fin 1408) : head8 (outsAt0 m c t.val t.isLt).2.2.2.1 i q = tail m c t 0 i q := by
  unfold head8
  rw [outs_first m c t h0]
  dsimp only
  rw [g_first, kept_read m c t 0 _ _ _ i q 3 (Nat.le_refl _)]
  exact if_pos q.isLt

theorem v_at_first (i : Fin 8) (q : Fin 1408) : head8 (outsAt0 m c t.val t.isLt).2.2.2.2 i q = tail m c t 1 i q := by
  unfold head8
  rw [outs_first m c t h0]
  dsimp only
  rw [v_first, kept_read m c t 1 _ _ _ i q 3 (Nat.le_refl _)]
  exact if_pos q.isLt

end First

section Later
variable (h0 : ¬t.val % 8 = 0)
include h0

/-- What the point before left. -/
abbrev before := outsAt0 m c (t.val - 1) (by have := t.isLt; omega)

theorem outs_later : outsAt0 m c t.val t.isLt =
    (VO0_5.read (Elt Ideal) (VO0_5.writes (Elt Ideal) VO0_5.junk (runB m c t h0 (before m c t).2.2.2.1 (before m c t).2.2.2.2).1),
     VO0_6.read (Elt Ideal) (VO0_6.writes (Elt Ideal) VO0_6.junk (runB m c t h0 (before m c t).2.2.2.1 (before m c t).2.2.2.2).2.1),
     VO0_7.read (Elt Ideal) (VO0_7.writes (Elt Ideal) VO0_7.junk (runB m c t h0 (before m c t).2.2.2.1 (before m c t).2.2.2.2).2.2.1),
     VS0_0.read (Elt Ideal) (VS0_0.writes (Elt Ideal) VS0_0.junk (runB m c t h0 (before m c t).2.2.2.1 (before m c t).2.2.2.2).2.2.2.1),
     VS0_1.read (Elt Ideal) (VS0_1.writes (Elt Ideal) VS0_1.junk (runB m c t h0 (before m c t).2.2.2.1 (before m c t).2.2.2.2).2.2.2.2.1)) :=
  outsAt0_B m c t h0

theorem up_at_later (e : Fin 2) (r : Fin 512) (q : Fin 1408) : (outsAt0 m c t.val t.isLt).1 (ix3 e r q) = upB m c t e r q := by
  rw [outs_later m c t h0]
  dsimp only
  rw [up_later, prods3_read]

theorem y_at_later (e : Fin 2) (r : Fin 512) (q : Fin 1408) :
    (outsAt0 m c t.val t.isLt).2.1 (ix3 e r q) = yB m c t (head8 (before m c t).2.2.2.1) (head8 (before m c t).2.2.2.2) e r q := by
  rw [outs_later m c t h0]
  dsimp only
  rw [y_later, yAll_read m c t _ _ _ _ (gWin_apply m c t _ _ _ (oldG_read _)) (vWin_apply m c t _ _ _ (oldV_read _)) _ _ e r q 3 (Nat.le_refl _)]
  exact if_pos q.isLt

theorem a_at_later (r : Fin 512) (q : Fin 1408) :
    (outsAt0 m c t.val t.isLt).2.2.1 (ix2 r q) = aB m c t (head8 (before m c t).2.2.2.1) (head8 (before m c t).2.2.2.2) r q := by
  rw [outs_later m c t h0]
  dsimp only
  rw [a_later, aAll_read m c t _ _ _ _ (gWin_apply m c t _ _ _ (oldG_read _)) (vWin_apply m c t _ _ _ (oldV_read _)) _ _ r q 3 (Nat.le_refl _)]
  exact if_pos q.isLt

theorem g_at_later (i : Fin 8) (q : Fin 1408) : head8 (outsAt0 m c t.val t.isLt).2.2.2.1 i q = tail m c t 0 i q := by
  unfold head8
  rw [outs_later m c t h0]
  dsimp only
  rw [g_later, kept_read m c t 0 _ _ _ i q 3 (Nat.le_refl _)]
  exact if_pos q.isLt

theorem v_at_later (i : Fin 8) (q : Fin 1408) : head8 (outsAt0 m c t.val t.isLt).2.2.2.2 i q = tail m c t 1 i q := by
  unfold head8
  rw [outs_later m c t h0]
  dsimp only
  rw [v_later, kept_read m c t 1 _ _ _ i q 3 (Nat.le_refl _)]
  exact if_pos q.isLt

end Later

theorem up_outs (e : Fin 2) (r : Fin 512) (q : Fin 1408) : (outsAt0 m c t.val t.isLt).1 (ix3 e r q) = upB m c t e r q := by
  by_cases h0 : t.val % 8 = 0
  · exact up_at_first m c t h0 e r q
  · exact up_at_later m c t h0 e r q

theorem g_outs (i : Fin 8) (q : Fin 1408) : head8 (outsAt0 m c t.val t.isLt).2.2.2.1 i q = tail m c t 0 i q := by
  by_cases h0 : t.val % 8 = 0
  · exact g_at_first m c t h0 i q
  · exact g_at_later m c t h0 i q

theorem v_outs (i : Fin 8) (q : Fin 1408) : head8 (outsAt0 m c t.val t.isLt).2.2.2.2 i q = tail m c t 1 i q := by
  by_cases h0 : t.val % 8 = 0
  · exact v_at_first m c t h0 i q
  · exact v_at_later m c t h0 i q

end Cert.Calls.Up
-- ==== Proof.UpMath.lean ====
module

public import proofs.«01_k».proof.Proof.UpChunk
public import proofs.«01_k».proof.UpIdeal

@[expose] public section

noncomputable section

/-! The rows before the gated convolution, the convolved rows and the gated rows, entry by entry. -/

namespace Cert.Calls.Up

open Cert.UpIdeal
open Idealize.ShloMosaic Idealize.ShloMosaic.TcCoe Idealize.ShloMosaic.Tactic

variable (x : FVec Ideal S4096x1024 .bf16) (u : FVec Ideal S1024x5632 .f32) (w : FVec Ideal S3x5632 .f32)

/-- The rows before the convolution. -/
def upAt (R : Fin 4096) (C : Fin 5632) : EReal := ∑ k : Fin 1024, (x (ix2 R k) : EReal) * (u (ix2 k C) : EReal)

/-- The same, two rows of zeros before them. -/
def padded (R : ℕ) (C : Fin 5632) : EReal := if h : 2 ≤ R ∧ R < 4098 then upAt x u ⟨R - 2, by omega⟩ C else 0

/-- The convolved rows. -/
def yAt (R : Fin 4096) (C : Fin 5632) : EReal :=
  (w (ix2 2 C) : EReal) * padded x u (R.val + 2) C + (w (ix2 1 C) : EReal) * padded x u (R.val + 1) C + (w (ix2 0 C) : EReal) * padded x u R.val C

/-- A column of one half. -/
abbrev hf (e : Fin 2) (G : Fin 2816) : Fin 5632 := ⟨2816 * e.val + G.val, by omega⟩

def actAt (R : Fin 4096) (G : Fin 2816) : EReal := gateAt (yAt x u w R (hf 0 G)) (yAt x u w R (hf 1 G))

end Cert.Calls.Up
-- ==== Proof.UpBlocks.lean ====
module

public import proofs.«01_k».proof.Proof.UpOuts
public import proofs.«01_k».proof.Proof.UpMath
public import proofs.«01_k».proof.Proof.Gen.UpIdeal.Value
public import Idealize.ShloMosaic.Lib.Pointwise
public import Idealize.ShloMosaic.Lib.Layout
public import Idealize.ShloMosaic.Lib.Pipeline.ReadBack
public import Idealize.ShloMosaic.Lib.Pipeline.ValueKit
public import Idealize.ShloMosaic.Lib.Claim

@[expose] public section

set_option maxRecDepth 16384

noncomputable section

/-! What a point's blocks hold, in terms of the arguments, and the three arrays after the last point. -/

namespace Cert.Calls.Up

open Cert.UpIdeal Cert.UpIdeal.Gen
open Idealize.ShloMosaic Idealize.ShloMosaic.TcCoe Idealize.ShloMosaic.Tactic

variable (m : (ℓ : Loc nD τ sig) → Buf (Elt Ideal) ℓ) (c : Dev nD)

abbrev X : FVec Ideal S4096x1024 .bf16 := m ((c : Thread nD τ).loc main_arg0)
abbrev U : FVec Ideal S1024x5632 .f32 := m ((c : Thread nD τ).loc main_arg1)
abbrev W : FVec Ideal S3x5632 .f32 := m ((c : Thread nD τ).loc main_arg2)

theorem idx : ∀ t : Fin grid0.N, win0_0.index t = ![t.val % 8, 0] ∧ win0_1.index t = ![0, t.val / 8, 0] ∧ win0_2.index t = ![1, t.val / 8, 0] ∧
    win0_3.index t = ![0, t.val / 8] ∧ win0_4.index t = ![0, 2 + t.val / 8] ∧
    win0_5.index t = ![0, t.val % 8, t.val / 8] ∧ win0_6.index t = ![0, t.val % 8, t.val / 8] ∧ win0_7.index t = ![t.val % 8, t.val / 8] := by
  decide +kernel

variable (t : Fin cfg0.N)

/-- The array's row of a block's row, the column of a block's column. -/
abbrev row (r : Fin 512) : Fin 4096 := ⟨512 * (t.val % 8) + r.val, by omega⟩
abbrev col (q : Fin 1408) : Fin 2816 := ⟨1408 * (t.val / 8) + q.val, by have h := t.isLt; change t.val < 16 at h; omega⟩

theorem x_block (r : Fin 512) (k : Fin 1024) : iblk m c 0 t (ix2 r k) = X m c (ix2 (row t r) k) := by
  blk_ext [iblk, V, idx t]

/-- The weight's halves, their columns as rows. -/
theorem u_stack (e : Fin 2) (G : Fin 2816) (k : Fin 1024) : (V m c main_v2 : FVec Ideal S2x2816x1024 .bf16) (ix3 e G k) = U m c (ix2 k (hf e G)) := by
  entry_read
  pointwise
  exact congrArg (fun C => U m c (ix2 k C)) (Fin.ext (by dsimp only; omega))

theorem u_block0 (q : Fin 1408) (k : Fin 1024) : iblk m c 1 t (ix3 0 q k) = U m c (ix2 k (hf 0 (col t q))) :=
  Eq.trans (by blk_ext [iblk, idx t]) (u_stack m c 0 (col t q) k)
theorem u_block1 (q : Fin 1408) (k : Fin 1024) : iblk m c 2 t (ix3 0 q k) = U m c (ix2 k (hf 1 (col t q))) :=
  Eq.trans (by blk_ext [iblk, idx t]) (u_stack m c 1 (col t q) k)

theorem w_block0 (j : Fin 3) (q : Fin 1408) : iblk m c 3 t (ix2 j q) = W m c (ix2 j (hf 0 (col t q))) := by
  blk_ext [iblk, V, idx t]
theorem w_block1 (j : Fin 3) (q : Fin 1408) : iblk m c 4 t (ix2 j q) = W m c (ix2 j (hf 1 (col t q))) := by
  blk_ext [iblk, V, idx t]

theorem up_eq (e : Fin 2) (r : Fin 512) (q : Fin 1408) : upB m c t e r q = upAt (X m c) (U m c) (row t r) (hf e (col t q)) := by
  have he : e = 0 ∨ e = 1 := by omega
  unfold upB prodAt upAt
  rcases he with rfl | rfl
  · refine (if_pos (show ((0 : Fin 2).val = 0) from rfl)).trans ?_
    exact Finset.sum_congr rfl fun k _ => congrArg₂ (fun a b : EReal => a * b) (x_block m c t r k) (u_block0 m c t q k)
  · rw [if_neg (by decide)]
    exact Finset.sum_congr rfl fun k _ => congrArg₂ (fun a b : EReal => a * b) (x_block m c t r k) (u_block1 m c t q k)

/-- The eight rows before the block, zeros before the first. -/
def ahead (e : Fin 2) (i : Fin 8) (q : Fin 1408) : EReal :=
  if h : t.val % 8 = 0 then 0 else upAt (X m c) (U m c) ⟨512 * (t.val % 8) + i.val - 8, by omega⟩ (hf e (col t q))

/-- The point before. -/
abbrev prev : Fin cfg0.N := ⟨t.val - 1, by have := t.isLt; omega⟩

theorem tail_prev (h0 : ¬t.val % 8 = 0) (e : Fin 2) (i : Fin 8) (q : Fin 1408) : tail m c (prev t) e i q = ahead m c t e i q := by
  have hc : col (prev t) q = col t q := Fin.ext (by dsimp only; omega)
  have hr : row (prev t) ⟨504 + i.val, by omega⟩ = ⟨512 * (t.val % 8) + i.val - 8, by omega⟩ := Fin.ext (by dsimp only; omega)
  unfold tail ahead
  rw [up_eq, hc, hr, dif_neg h0]

theorem ahead_first (h0 : t.val % 8 = 0) (e : Fin 2) : ahead m c t e = none8 := by
  funext i q
  unfold ahead
  rw [dif_pos h0]
theorem ahead_g (h0 : ¬t.val % 8 = 0) : head8 (before m c t).2.2.2.1 = ahead m c t 0 := by
  funext i q
  exact (g_outs m c (prev t) i q).trans (tail_prev m c t h0 0 i q)
theorem ahead_v (h0 : ¬t.val % 8 = 0) : head8 (before m c t).2.2.2.2 = ahead m c t 1 := by
  funext i q
  exact (v_outs m c (prev t) i q).trans (tail_prev m c t h0 1 i q)

theorem y_outs (e : Fin 2) (r : Fin 512) (q : Fin 1408) : (outsAt0 m c t.val t.isLt).2.1 (ix3 e r q) = yB m c t (ahead m c t 0) (ahead m c t 1) e r q := by
  by_cases h0 : t.val % 8 = 0
  · rw [y_at_first m c t h0, ahead_first m c t h0, ahead_first m c t h0]
  · rw [y_at_later m c t h0, ahead_g m c t h0, ahead_v m c t h0]

theorem a_outs (r : Fin 512) (q : Fin 1408) : (outsAt0 m c t.val t.isLt).2.2.1 (ix2 r q) = aB m c t (ahead m c t 0) (ahead m c t 1) r q := by
  by_cases h0 : t.val % 8 = 0
  · rw [a_at_first m c t h0, ahead_first m c t h0, ahead_first m c t h0]
  · rw [a_at_later m c t h0, ahead_g m c t h0, ahead_v m c t h0]

/-- The rows a convolution reads are the padded array's. -/
theorem ext_eq (e : Fin 2) (i : Fin 520) (hi : 6 ≤ i.val) (q : Fin 1408) (n : ℕ) (hn : n + 6 = 512 * (t.val % 8) + i.val) :
    ext (ahead m c t e) (upB m c t e) i q = padded (X m c) (U m c) n (hf e (col t q)) := by
  unfold ext padded
  by_cases h : i.val < 8
  · rw [dif_pos h]
    unfold ahead
    by_cases h0 : t.val % 8 = 0
    · rw [dif_pos h0, dif_neg (by omega)]
    · rw [dif_neg h0, dif_pos (by omega)]
      exact congrArg (fun R => upAt (X m c) (U m c) R _) (Fin.ext (by dsimp only; omega))
  · rw [dif_neg h, up_eq, dif_pos (by omega)]
    exact congrArg (fun R => upAt (X m c) (U m c) R _) (Fin.ext (by dsimp only; omega))

theorem yGate_eq (r : Fin 512) (q : Fin 1408) : yGate m c t (ahead m c t 0) r q = yAt (X m c) (U m c) (W m c) (row t r) (hf 0 (col t q)) := by
  unfold yGate convAt yAt
  rw [ext_eq m c t 0 _ (by dsimp only; omega) q (512 * (t.val % 8) + r.val + 2) (by dsimp only; omega), ext_eq m c t 0 _ (by dsimp only; omega) q (512 * (t.val % 8) + r.val + 1) (by dsimp only; omega),
    ext_eq m c t 0 _ (by dsimp only; omega) q (512 * (t.val % 8) + r.val) (by dsimp only; omega), w_block0, w_block0, w_block0]

theorem yVal_eq (r : Fin 512) (q : Fin 1408) : yVal m c t (ahead m c t 1) r q = yAt (X m c) (U m c) (W m c) (row t r) (hf 1 (col t q)) := by
  unfold yVal convAt yAt
  rw [ext_eq m c t 1 _ (by dsimp only; omega) q (512 * (t.val % 8) + r.val + 2) (by dsimp only; omega), ext_eq m c t 1 _ (by dsimp only; omega) q (512 * (t.val % 8) + r.val + 1) (by dsimp only; omega),
    ext_eq m c t 1 _ (by dsimp only; omega) q (512 * (t.val % 8) + r.val) (by dsimp only; omega), w_block1, w_block1, w_block1]

theorem y_eq (e : Fin 2) (r : Fin 512) (q : Fin 1408) :
    (outsAt0 m c t.val t.isLt).2.1 (ix3 e r q) = yAt (X m c) (U m c) (W m c) (row t r) (hf e (col t q)) := by
  have he : e = 0 ∨ e = 1 := by omega
  rw [y_outs]
  unfold yB
  rcases he with rfl | rfl
  · refine (if_pos (show ((0 : Fin 2).val = 0) from rfl)).trans ?_; exact yGate_eq m c t r q
  · rw [if_neg (by decide)]; exact yVal_eq m c t r q

theorem a_eq (r : Fin 512) (q : Fin 1408) : (outsAt0 m c t.val t.isLt).2.2.1 (ix2 r q) = actAt (X m c) (U m c) (W m c) (row t r) (col t q) := by
  rw [a_outs]
  unfold aB actAt
  rw [yGate_eq, yVal_eq]

def upArr : FVec Ideal S2x4096x2816 .f32 := fun i => upAt (X m c) (U m c) (i 1) (hf (i 0) (i 2))
def yArr : FVec Ideal S2x4096x2816 .f32 := fun i => yAt (X m c) (U m c) (W m c) (i 1) (hf (i 0) (i 2))
def actArr : FVec Ideal S4096x2816 .bf16 := fun i => actAt (X m c) (U m c) (W m c) (i 0) (i 1)

theorem up_array : (dats m 0 c).arrAt 5 cfg0.N = upArr m c := by
  refine (dats m 0 c).arrAt_eq_of_covers 5 _ (by decide +kernel) fun t hf y => ?_
  blk_simp
  rw [after0_5]
  have h0 : ((win0_5.blk t).view.emb y 0).val = (y 0).val := by blk_simp [idx t]
  have h1 : ((win0_5.blk t).view.emb y 1).val = 512 * (t.val % 8) + (y 1).val := by blk_simp [idx t]; omega
  have h2 : ((win0_5.blk t).view.emb y 2).val = 1408 * (t.val / 8) + (y 2).val := by blk_simp [idx t]; omega
  have e0 : (win0_5.blk t).view.emb y 0 = y 0 := Fin.ext h0
  have e1 : (win0_5.blk t).view.emb y 1 = row t (y 1) := Fin.ext h1
  have e2 : (win0_5.blk t).view.emb y 2 = col t (y 2) := Fin.ext h2
  refine (congrArg _ (ix3_eta y).symm).trans ((up_outs m c t (y 0) (y 1) (y 2)).trans ((up_eq m c t _ _ _).trans ?_))
  unfold upArr
  rw [e0, e1, e2]

theorem y_array : (dats m 0 c).arrAt 6 cfg0.N = yArr m c := by
  refine (dats m 0 c).arrAt_eq_of_covers 6 _ (by decide +kernel) fun t hf y => ?_
  blk_simp
  rw [after0_6]
  have h0 : ((win0_6.blk t).view.emb y 0).val = (y 0).val := by blk_simp [idx t]
  have h1 : ((win0_6.blk t).view.emb y 1).val = 512 * (t.val % 8) + (y 1).val := by blk_simp [idx t]; omega
  have h2 : ((win0_6.blk t).view.emb y 2).val = 1408 * (t.val / 8) + (y 2).val := by blk_simp [idx t]; omega
  have e0 : (win0_6.blk t).view.emb y 0 = y 0 := Fin.ext h0
  have e1 : (win0_6.blk t).view.emb y 1 = row t (y 1) := Fin.ext h1
  have e2 : (win0_6.blk t).view.emb y 2 = col t (y 2) := Fin.ext h2
  refine (congrArg _ (ix3_eta y).symm).trans ((y_eq m c t (y 0) (y 1) (y 2)).trans ?_)
  unfold yArr
  rw [e0, e1, e2]

theorem act_array : (dats m 0 c).arrAt 7 cfg0.N = actArr m c := by
  refine (dats m 0 c).arrAt_eq_of_covers 7 _ (by decide +kernel) fun t hf y => ?_
  blk_simp
  rw [after0_7]
  have h0 : ((win0_7.blk t).view.emb y 0).val = 512 * (t.val % 8) + (y 0).val := by blk_simp [idx t]; omega
  have h1 : ((win0_7.blk t).view.emb y 1).val = 1408 * (t.val / 8) + (y 1).val := by blk_simp [idx t]; omega
  have e0 : (win0_7.blk t).view.emb y 0 = row t (y 0) := Fin.ext h0
  have e1 : (win0_7.blk t).view.emb y 1 = col t (y 1) := Fin.ext h1
  refine (congrArg _ (ix2_eta y).symm).trans ((a_eq m c t (y 0) (y 1)).trans ?_)
  unfold actArr
  rw [e0, e1]

end Cert.Calls.Up
-- ==== Proof.UpRef.lean ====
module

public import proofs.«01_k».proof.Proof.UpMath
public import proofs.«01_k».proof.Proof.Gen.UpRefIdeal.Run
public import proofs.«01_k».proof.Proof.Gen.UpRefIdeal.Read
public import Idealize.ShloMosaic.Lib.Pointwise
public import Idealize.ShloMosaic.Lib.Layout
public import Idealize.ShloMosaic.Lib.Claim

@[expose] public section

set_option maxRecDepth 16384

noncomputable section

/-! What the reference computes at an index. -/

namespace Cert.Calls.Up

open Cert.UpIdeal
open Cert.UpRefIdeal.Read
open Idealize.ShloMosaic Idealize.ShloMosaic.TcCoe Idealize.ShloMosaic.Tactic

variable (x : FVec Ideal S4096x1024 .bf16) (u : FVec Ideal S1024x5632 .f32) (w : FVec Ideal S3x5632 .f32)

theorem ref_up (R : Fin 4096) (C : Fin 5632) : val_main_v1 (F := Ideal) x u (ix2 R C) = upAt x u R C := by
  unfold val_main_v1 val_main_v0
  pointwise
  rfl

theorem padded_ref (n n' : ℕ) (e : n' = n) (h : n < 4098) (C : Fin 5632) :
    (if _ : n' < 2 then (0 : EReal) else upAt x u ⟨n' - 2, by omega⟩ C) = padded x u n C := by
  subst e
  unfold padded
  by_cases h2 : n' < 2
  · rw [dif_pos h2, dif_neg (by omega)]
  · rw [dif_neg h2, dif_pos (by omega)]

theorem padded_shift (R : Fin 4096) (C : Fin 5632) : upAt x u R C = padded x u (R.val + 2) C := by
  unfold padded
  rw [dif_pos (by omega)]
  rfl

theorem ref_y (R : Fin 4096) (C : Fin 5632) : val_main_v23 (F := Ideal) x u w (ix2 R C) = yAt x u w R C := by
  unfold val_main_v23 val_main_v22 val_main_v21 val_main_v20 val_main_v19 val_main_v18 val_main_v17 val_main_v16 val_main_v15 val_main_v14 val_main_v13
    val_main_v12 val_main_v11 val_main_v10 val_main_v9 val_main_v8 val_main_v7 val_main_v6 val_main_v5 val_main_v4 val_main_v3 val_main_v2 val_main_cst
  have hu := ref_up x u
  generalize val_main_v1 (F := Ideal) x u = U at *
  pointwise
  simp only [hu]
  unfold yAt
  rw [padded_ref x u R.val R.val rfl (by omega), padded_ref x u (R.val + 1) (1 + R.val) (by omega) (by omega), padded_shift]
  abel

theorem ref_up_array (e : Fin 2) (R : Fin 4096) (G : Fin 2816) : val_main_v25 (F := Ideal) x u (ix3 e R G) = upAt x u R (hf e G) := by
  rw [← ref_up]
  unfold val_main_v25 val_main_v24
  generalize val_main_v1 (F := Ideal) x u = U
  pointwise
  exact congrArg (fun C => U (ix2 R C)) (Fin.ext (by dsimp only; omega))

theorem ref_y_array (e : Fin 2) (R : Fin 4096) (G : Fin 2816) : val_main_v27 (F := Ideal) x u w (ix3 e R G) = yAt x u w R (hf e G) := by
  rw [← ref_y]
  unfold val_main_v27 val_main_v26
  generalize val_main_v23 (F := Ideal) x u w = U
  pointwise
  exact congrArg (fun C => U (ix2 R C)) (Fin.ext (by dsimp only; omega))

theorem ref_act_array (R : Fin 4096) (G : Fin 2816) : val_main_v32 (F := Ideal) x u w (ix2 R G) = actAt x u w R G := by
  unfold actAt gateAt
  rw [← ref_y, ← ref_y]
  unfold val_main_v32 val_main_v31 val_main_v30 val_main_v29 val_main_call0_v5 val_main_call0_v4 val_main_call0_v3 val_main_call0_v2 val_main_call0_v1 val_main_call0_v0
    val_main_call0_cst val_main_call0_cst_0 val_main_v28
  generalize val_main_v23 (F := Ideal) x u w = U
  have e0 : hf 0 G = ⟨G.val, by omega⟩ := Fin.ext (by show 2816 * 0 + G.val = G.val; omega)
  have e1 : hf 1 G = ⟨2816 + G.val, by omega⟩ := Fin.ext (by show 2816 * 1 + G.val = 2816 + G.val; omega)
  rw [e0, e1]
  pointwise

end Cert.Calls.Up
-- ==== Proof.Up.lean ====
module

public import proofs.«01_k».proof.Defs
public import proofs.«01_k».proof.Proof.Gen.Up.Frame
public import proofs.«01_k».proof.Proof.Gen.UpIdeal.Value
public import proofs.«01_k».proof.Proof.UpBlocks
public import proofs.«01_k».proof.Proof.UpRef

@[expose] public section

set_option maxRecDepth 32768

noncomputable section

/-! The product, the gated convolution behind it: frames and values. -/

namespace Cert.Calls.Up

open Idealize.ShloMosaic Idealize.ShloMosaic.TcCoe Idealize.SL.Sem
open Cert.UpIdeal Cert.UpIdeal.Gen

theorem frame_p : Cert.quiescent_Up := fun m g _ => Cert.Up.Gen.frame m g
theorem frame_pi : Cert.quiescent_UpIdeal := fun m g _ => Cert.UpIdeal.Gen.frame m g
theorem frame_ri : Cert.quiescent_UpRefIdeal := fun m g _ =>
  (θ_run Cert.UpRefIdeal.defs _ _).mono
    (fun r h => ⟨fun c => (h c).2.2.2, sem_eq_zero_of_no_sems (by decide) r.2⟩)
    (Cert.UpRefIdeal.Value.run (F := Ideal) m g)

theorem algebraic : Cert.algebraic_UpIdeal_UpRefIdeal := by
  pair_intro
  · run_from Cert.UpIdeal.Value.run_blocks m g
  · run_from Cert.UpRefIdeal.Value.run m' g'
    · rw [Cert.UpRefIdeal.Read.val_main_v25_eq, up_array]
      funext i
      exact (congrArg _ (ix3_eta i).symm).trans (ref_up_array (X m c) (U m c) (i 0) (i 1) (i 2))
    · rw [Cert.UpRefIdeal.Read.val_main_v27_eq, y_array]
      funext i
      exact (congrArg _ (ix3_eta i).symm).trans (ref_y_array (X m c) (U m c) (W m c) (i 0) (i 1) (i 2))
    · rw [Cert.UpRefIdeal.Read.val_main_v32_eq, (hagree c).1, (hagree c).2.1, (hagree c).2.2, act_array]
      funext i
      exact (congrArg _ (ix2_eta i).symm).trans (ref_act_array (X m c) (U m c) (W m c) (i 0) (i 1))

end Cert.Calls.Up

end
-- ==== Proof.Sum.lean ====
module

public import proofs.«01_k».proof.Defs
public import proofs.«01_k».proof.Proof.Gen.Sum.Frame
public import proofs.«01_k».proof.Proof.Gen.SumIdeal.Value
public import proofs.«01_k».proof.Proof.Gen.SumRefIdeal.Run
public import Idealize.ShloMosaic.Lib.Pipeline.ReadBack
public import Idealize.ShloMosaic.Lib.Pipeline.ValueKit
public import Idealize.ShloMosaic.Lib.Pointwise
public import Idealize.ShloMosaic.Lib.ReduceAll
public import Idealize.ShloMosaic.Lib.ValueLayout
public import Idealize.ShloMosaic.Lib.VecWindow
public import Idealize.ShloMosaic.Lib.WholeRead

@[expose] public section

set_option maxRecDepth 16384

noncomputable section

namespace Cert.Calls.Sum

open Idealize.ShloMosaic Idealize.ShloMosaic.TcCoe Idealize.SL.Sem
open Cert.SumIdeal Cert.SumIdeal.Gen

/-- The kernel adds the eight parts one after the other. -/
theorem added (x : Vec Ideal S8x64x128 .f32) (p : Fin 64) (q : Fin 128) :
    k0_pay1 (View.ld x r0_0) (View.ld x r0_1) (View.ld x r0_2) (View.ld x r0_3) (View.ld x r0_4) (View.ld x r0_5)
      (View.ld x r0_6) (View.ld x r0_7) (ix2 p q) = ∑ j : Fin 8, x (ix3 j p q) := by
  unfold k0_pay1
  rw [Fin.sum_univ_eight]
  pointwise
  blk_ext []

theorem frame_p : Cert.quiescent_Sum := fun m g _ => Cert.Sum.Gen.frame m g
theorem frame_pi : Cert.quiescent_SumIdeal := fun m g _ => Cert.SumIdeal.Gen.frame m g
theorem frame_ri : Cert.quiescent_SumRefIdeal := fun m g _ =>
  (θ_run Cert.SumRefIdeal.defs _ _).mono
    (fun r h => ⟨fun c => (h c).2, sem_eq_zero_of_no_sems (by decide) r.2⟩)
    (Cert.SumRefIdeal.Value.run (F := Ideal) m g)

theorem algebraic : Cert.algebraic_SumIdeal_SumRefIdeal := by
  pair_intro
  · run_from Cert.SumIdeal.Value.run m g
  · run_from Cert.SumRefIdeal.Value.run m' g'
    funext i
    obtain ⟨p, q, rfl⟩ : ∃ p q, i = ix2 (n0 := 64) (n1 := 128) p q := ⟨_, _, eq_ix2 i⟩
    refine Eq.trans ?_ (added _ p q).symm
    pointwise

end Cert.Calls.Sum

end
-- ==== Proof.Adam.lean ====
module

public import proofs.«01_k».proof.Defs
public import proofs.«01_k».proof.Proof.Gen.Adam.Frame
public import proofs.«01_k».proof.Proof.Gen.AdamIdeal.Value
public import proofs.«01_k».proof.Proof.Gen.AdamRefIdeal.Run
public import Idealize.ShloMosaic.Lib.Pipeline.ReadBack
public import Idealize.ShloMosaic.Lib.Pipeline.ValueKit
public import Idealize.ShloMosaic.Lib.Pointwise
public import Idealize.ShloMosaic.PureOps.Ideal.Laws

@[expose] public section

set_option maxRecDepth 16384

noncomputable section

namespace Cert.Calls.Adam

open Idealize.ShloMosaic Idealize.ShloMosaic.TcCoe Idealize.SL.Sem

/-- The word of the first moment's correction. -/
theorem word1 : Ideal.ofBits .f32 0x3F26BD02#32 = ((5463681 / 8388608 : ℝ) : EReal) := by
  simp [Ideal.ofBits, Ideal.ieee]
  rw [← EReal.coe_mul]; norm_num

/-- The word of the second moment's correction. -/
theorem word2 : Ideal.ofBits .f32 0x3C231ACC#32 = ((2672307 / 268435456 : ℝ) : EReal) := by
  simp [Ideal.ofBits, Ideal.ieee]
  rw [← EReal.coe_mul]; norm_num

/-- Dividing by a real that is not zero is multiplying by its reciprocal. -/
theorem div_real (x : EReal) (r : ℝ) (h : r ≠ 0) : Ideal.div x (r : EReal) = x * ((r⁻¹ : ℝ) : EReal) := by
  rw [Ideal.div, if_neg (by exact_mod_cast h), EReal.coe_inv]

theorem frame_p : Cert.quiescent_Adam := fun m g _ => Cert.Adam.Gen.frame m g
theorem frame_pi : Cert.quiescent_AdamIdeal := fun m g _ => Cert.AdamIdeal.Gen.frame m g
theorem frame_ri : Cert.quiescent_AdamRefIdeal := fun m g _ =>
  (θ_run Cert.AdamRefIdeal.defs _ _).mono
    (fun r h => ⟨fun c => (h c).2.2.2, sem_eq_zero_of_no_sems (by decide) r.2⟩)
    (Cert.AdamRefIdeal.Value.run (F := Ideal) m g)

/-- The two reciprocals' words are named by the reciprocals they round. -/
theorem preserves : Cert.preserves_Adam_AdamIdeal := by
  refine ⟨?_, ?_⟩
  all_goals exact IdealRules.named_const.statement Cert.AdamIdeal.κ _ _ _ _ rfl

theorem algebraic : Cert.algebraic_AdamIdeal_AdamRefIdeal := by
  pair_intro
  · run_from Cert.AdamIdeal.Value.run_blocks m g
  · run_from Cert.AdamRefIdeal.Value.run m' g'
    · rw [Cert.AdamIdeal.Value.final4]
      funext i
      unfold Cert.AdamIdeal.Value.G4
      pointwise
      rw [word1, word2, div_real _ _ (by norm_num), div_real _ (2672307 / 268435456) (by norm_num)]
      rfl
    · rw [Cert.AdamIdeal.Value.final5]; rfl
    · rw [Cert.AdamIdeal.Value.final6]; rfl

end Cert.Calls.Adam

end
-- ==== Proof.Mat.lean ====
module

public import proofs.«01_k».proof.Defs
public import proofs.«01_k».proof.Proof.Gen.Mat.Frame
public import proofs.«01_k».proof.Proof.Gen.MatIdeal.Value
public import proofs.«01_k».proof.Proof.Gen.MatRefIdeal.Run
public import Idealize.ShloMosaic.Lib.Pipeline.ReadBack
public import Idealize.ShloMosaic.Lib.Pipeline.ValueKit
public import Idealize.ShloMosaic.Lib.Pointwise
public import Idealize.ShloMosaic.Lib.ReduceAll
public import Idealize.ShloMosaic.Lib.ValueLayout
public import Idealize.ShloMosaic.Lib.VecWindow
public import Idealize.ShloMosaic.Lib.WholeRead

@[expose] public section

set_option maxRecDepth 16384

noncomputable section

namespace Cert.Calls.Mat

open Idealize.ShloMosaic Idealize.ShloMosaic.TcCoe Idealize.SL.Sem
open Cert.MatIdeal Cert.MatIdeal.Gen

variable (m : (ℓ : Loc nD τ sig) → Buf (Elt Ideal) ℓ)

/-- What the scratch holds before the point at `t`. -/
def before (c : Dev nD) (t : Fin cfg0.N) : Vec Ideal S1408x1024 .f32 :=
  (outsAt0 m c (t.val - 1) (Nat.lt_of_le_of_lt (Nat.sub_le _ _) t.isLt)).2

theorem acc_A (c : Dev nD) (t : Fin cfg0.N) (h : t.val % 4 = 0) :
    (outsAt0 m c t.val t.isLt).2 = k0_pay1 (iblk m c 0 t) (iblk m c 1 t) := by
  rw [outsAt0_A m c t h (by omega) (by omega)]
  generalize (iblk m c 0 t) = x0, (iblk m c 1 t) = x1
  frame_open
  simp (disch := decide) only [↓ View.readCov_skip, ↓ View.readCov_cons_toLoadRect, ↓ View.readCov_fill]
  frame_out
  funext i
  unfold k0_pay2
  pointwise

theorem acc_step (x0 : Vec Ideal S1x1024x1408 .bf16) (x1 : Vec Ideal S1024x1024 .bf16) (a : Vec Ideal S1408x1024 .f32) :
    k0_pay3 x0 x1 a = addf a (k0_pay1 x0 x1) := by
  funext i
  unfold k0_pay3
  pointwise

theorem acc_B (c : Dev nD) (t : Fin cfg0.N) (h : ¬t.val % 4 = 0) (h3 : ¬t.val % 4 = 3) :
    (outsAt0 m c t.val t.isLt).2 = addf (before m c t) (k0_pay1 (iblk m c 0 t) (iblk m c 1 t)) := by
  rw [outsAt0_B m c t h (by omega) h3]
  unfold before
  generalize (outsAt0 m c (t.val - 1) (Nat.lt_of_le_of_lt (Nat.sub_le _ _) t.isLt)) = prev
  generalize (iblk m c 0 t) = x0, (iblk m c 1 t) = x1
  frame_open
  simp (disch := decide) only [↓ View.readCov_skip, ↓ View.readCov_cons_toLoadRect, ↓ View.readCov_fill]
  frame_out
  simp only [read_unread_whole]
  rw [acc_step]

/-- The last of four points hands out what it has added up. -/
theorem out_C (c : Dev nD) (t : Fin cfg0.N) (h : t.val % 4 = 3) (p : Fin 1408) (q : Fin 1024) :
    (outsAt0 m c t.val t.isLt).1 (ix3 0 p q) =
      before m c t (ix2 p q) + k0_pay1 (iblk m c 0 t) (iblk m c 1 t) (ix2 p q) := by
  rw [outsAt0_C m c t (by omega) (by omega) h]
  unfold before
  generalize (outsAt0 m c (t.val - 1) (Nat.lt_of_le_of_lt (Nat.sub_le _ _) t.isLt)) = prev
  generalize (iblk m c 0 t) = x0, (iblk m c 1 t) = x1
  frame_open
  simp (disch := decide) only [↓ View.readCov_skip, ↓ View.readCov_cons_toLoadRect, ↓ View.readCov_fill]
  frame_out
  simp only [read_unread_whole]
  rw [acc_step]
  generalize k0_pay1 x0 x1 = y
  unfold k0_pay4
  pointwise

/-- The product's terms in one quarter of the rows summed over. -/
def quarter (g : Vec Ideal S2x4096x2816 .bf16) (n : Vec Ideal S4096x1024 .bf16) (s : Fin 2) (P : Fin 2816) (Q : Fin 1024)
    (k : Fin 4) : EReal :=
  ∑ j : Fin 1024, g (ix3 s ⟨k.val * 1024 + j.val, by omega⟩ P) * n (ix2 ⟨k.val * 1024 + j.val, by omega⟩ Q)

/-- The product with the rows summed over. -/
def prod (g : Vec Ideal S2x4096x2816 .bf16) (n : Vec Ideal S4096x1024 .bf16) : Vec Ideal S2x2816x1024 .bf16 :=
  fun i => ∑ j : Fin 4096, g (ix3 (i 0) j (i 1)) * n (ix2 j (i 2))

theorem prod_eq (g : Vec Ideal S2x4096x2816 .bf16) (n : Vec Ideal S4096x1024 .bf16) (i : S2x2816x1024.Idx) :
    prod g n i = quarter g n (i 0) (i 1) (i 2) 0 + quarter g n (i 0) (i 1) (i 2) 1 + quarter g n (i 0) (i 1) (i 2) 2 +
      quarter g n (i 0) (i 1) (i 2) 3 := by
  unfold prod
  rw [← Fin.sum_mul_add_fin (L := 4096) 4 1024, Fin.sum_univ_four]
  rfl

theorem idx : ∀ t : Fin grid0.N, win0_0.index t = ![t.val / 8, t.val % 4, t.val / 4 % 2] ∧ win0_1.index t = ![t.val % 4, 0] ∧
    win0_2.index t = ![t.val / 8, t.val / 4 % 2, 0] := by decide +kernel

theorem block (c : Dev nD) (t : Fin cfg0.N) (p : Fin 1408) (q : Fin 1024) (s : Fin 2) (P : Fin 2816) (k : Fin 4)
    (hs : s.val = t.val / 8) (hP : P.val = t.val / 4 % 2 * 1408 + p.val) (hk : k.val = t.val % 4) :
    k0_pay1 (iblk m c 0 t) (iblk m c 1 t) (ix2 p q) =
      quarter (m ((c : Thread nD τ).loc main_arg0)) (m ((c : Thread nD τ).loc main_arg1)) s P q k := by
  unfold k0_pay1 quarter
  pointwise
  refine Finset.sum_congr rfl fun j _ => ?_
  congr 1 <;> blk_ext [iblk, V, idx t]

/-- What the point at `t` hands out, from the arrays. -/
theorem out_eq (c : Dev nD) (t : Fin cfg0.N) (h : t.val % 4 = 3) (p : Fin 1408) (q : Fin 1024) (s : Fin 2) (P : Fin 2816)
    (hs : s.val = t.val / 8) (hP : P.val = t.val / 4 % 2 * 1408 + p.val) :
    (outsAt0 m c t.val t.isLt).1 (ix3 0 p q) =
      prod (m ((c : Thread nD τ).loc main_arg0)) (m ((c : Thread nD τ).loc main_arg1)) (ix3 s P q) := by
  have ht : t.val < 16 := t.isLt
  rw [out_C m c t h, prod_eq, block m c t p q s P 3 hs hP (by simp only [h]; rfl)]
  refine congrArg (· + _) ?_
  refine (congrFun (acc_B m c ⟨t.val - 1, by omega⟩ (by simp only; omega) (by simp only; omega)) (ix2 p q)).trans ?_
  refine congrArg₂ (· + ·) ?_ (block m c _ p q s P 2 (by simp only; omega) (by simp only; omega) (by simp only [Fin.val_two]; omega))
  refine (congrFun (acc_B m c ⟨t.val - 1 - 1, by omega⟩ (by simp only; omega) (by simp only; omega)) (ix2 p q)).trans ?_
  refine congrArg₂ (· + ·) ?_ (block m c _ p q s P 1 (by simp only; omega) (by simp only; omega) (by simp only [Fin.val_one]; omega))
  refine (congrFun (acc_A m c ⟨t.val - 1 - 1 - 1, by omega⟩ (by simp only; omega)) (ix2 p q)).trans ?_
  exact block m c _ p q s P 0 (by simp only; omega) (by simp only; omega) (by simp only [Fin.val_zero]; omega)

theorem last_of_flush : ∀ t : Fin cfg0.N, (cfg0.win 2).flush t = true → t.val % 4 = 3 := by decide +kernel

theorem array (c : Dev nD) : (dats m 0 c).arrAt 2 cfg0.N =
    prod (m ((c : Thread nD τ).loc main_arg0)) (m ((c : Thread nD τ).loc main_arg1)) := by
  refine (dats m 0 c).arrAt_eq_of_covers 2 _ (by decide +kernel) fun t hf y => ?_
  blk_simp
  rw [after0_2]
  have h0 : ((win0_2.blk t).view.emb y 0).val = t.val / 8 + (y 0).val := by blk_simp [idx t]
  have h1 : ((win0_2.blk t).view.emb y 1).val = t.val / 4 % 2 * 1408 + (y 1).val := by blk_simp [idx t]
  have h2 : ((win0_2.blk t).view.emb y 2).val = (y 2).val := by blk_simp [idx t]
  have hl : (y 0).val < 1 := (y 0).isLt
  have hz : (y 0) = (0 : Fin 1) := Fin.ext (Nat.lt_one_iff.mp hl)
  have hq : (win0_2.blk t).view.emb y 2 = y 2 := Fin.ext h2
  rw [hz] at h0
  have hy : y = ix3 (0 : Fin 1) (y 1) (y 2) := (ix3_eta y).symm.trans (by rw [hz]; rfl)
  refine (congrArg _ hy).trans ((out_eq m c t (last_of_flush t hf) (y 1) (y 2) _ _ h0 h1).trans ?_)
  refine congrArg _ ?_
  rw [← hq]
  exact ix3_eta _

theorem frame_p : Cert.quiescent_Mat := fun m g _ => Cert.Mat.Gen.frame m g
theorem frame_pi : Cert.quiescent_MatIdeal := fun m g _ => Cert.MatIdeal.Gen.frame m g
theorem frame_ri : Cert.quiescent_MatRefIdeal := fun m g _ =>
  (θ_run Cert.MatRefIdeal.defs _ _).mono
    (fun r h => ⟨fun c => (h c).2, sem_eq_zero_of_no_sems (by decide) r.2⟩)
    (Cert.MatRefIdeal.Value.run (F := Ideal) m g)

theorem algebraic : Cert.algebraic_MatIdeal_MatRefIdeal := by
  pair_intro
  · run_from Cert.MatIdeal.Value.run_blocks m g
  · run_from Cert.MatRefIdeal.Value.run m' g'
    rw [array]
    funext i
    obtain ⟨s, p, q, rfl⟩ : ∃ s p q, i = ix3 (n0 := 2) (n1 := 2816) (n2 := 1024) s p q := ⟨_, _, _, eq_ix3 i⟩
    pointwise
    rfl

end Cert.Calls.Mat

end
-- ==== Proof.lean ====
module

public import proofs.«01_k».proof.Defs
public import proofs.«01_k».proof.Proof.Ple
public import proofs.«01_k».proof.Proof.Loss
public import proofs.«01_k».proof.Proof.NormGate
public import proofs.«01_k».proof.Proof.NormQkv
public import proofs.«01_k».proof.Proof.NormProj
public import proofs.«01_k».proof.Proof.NormUp
public import proofs.«01_k».proof.Proof.Swa
public import proofs.«01_k».proof.Proof.SwaFwd
public import proofs.«01_k».proof.Proof.RmsFwd
public import proofs.«01_k».proof.Proof.ResFwd
public import proofs.«01_k».proof.Proof.GateFwd
public import proofs.«01_k».proof.Proof.GateLast
public import proofs.«01_k».proof.Proof.Ffn
public import proofs.«01_k».proof.Proof.Up
public import proofs.«01_k».proof.Proof.Sum
public import proofs.«01_k».proof.Proof.Adam
public import proofs.«01_k».proof.Proof.Mat

@[expose] public section

noncomputable section

/-! The claims of the file beside it, call by call: each call's module proves its frames and its values. -/

namespace Cert.Proof

open Idealize.ShloMosaic Idealize.SL.Sem

theorem claim : Cert.Claim :=
  ⟨Cert.Ple.Gen.facts,
    Cert.PleIdeal.Gen.facts,
    Cert.PleRefIdeal.Gen.facts,
    Cert.Loss.Gen.facts,
    Cert.LossIdeal.Gen.facts,
    Cert.LossRefIdeal.Gen.facts,
    Cert.NormGate.Gen.facts,
    Cert.NormGateIdeal.Gen.facts,
    Cert.NormGateRefIdeal.Gen.facts,
    Cert.NormQkv.Gen.facts,
    Cert.NormQkvIdeal.Gen.facts,
    Cert.NormQkvRefIdeal.Gen.facts,
    Cert.NormProj.Gen.facts,
    Cert.NormProjIdeal.Gen.facts,
    Cert.NormProjRefIdeal.Gen.facts,
    Cert.NormUp.Gen.facts,
    Cert.NormUpIdeal.Gen.facts,
    Cert.NormUpRefIdeal.Gen.facts,
    Cert.Swa.Gen.facts,
    Cert.SwaIdeal.Gen.facts,
    Cert.SwaRefIdeal.Gen.facts,
    Cert.SwaFwd.Gen.facts,
    Cert.SwaFwdIdeal.Gen.facts,
    Cert.SwaFwdRefIdeal.Gen.facts,
    Cert.RmsFwd.Gen.facts,
    Cert.RmsFwdIdeal.Gen.facts,
    Cert.RmsFwdRefIdeal.Gen.facts,
    Cert.ResFwd.Gen.facts,
    Cert.ResFwdIdeal.Gen.facts,
    Cert.ResFwdRefIdeal.Gen.facts,
    Cert.GateFwd.Gen.facts,
    Cert.GateFwdIdeal.Gen.facts,
    Cert.GateFwdRefIdeal.Gen.facts,
    Cert.GateLast.Gen.facts,
    Cert.GateLastIdeal.Gen.facts,
    Cert.GateLastRefIdeal.Gen.facts,
    Cert.Ffn.Gen.facts,
    Cert.FfnIdeal.Gen.facts,
    Cert.FfnRefIdeal.Gen.facts,
    Cert.Up.Gen.facts,
    Cert.UpIdeal.Gen.facts,
    Cert.UpRefIdeal.Gen.facts,
    Cert.Sum.Gen.facts,
    Cert.SumIdeal.Gen.facts,
    Cert.SumRefIdeal.Gen.facts,
    Cert.Adam.Gen.facts,
    Cert.AdamIdeal.Gen.facts,
    Cert.AdamRefIdeal.Gen.facts,
    Cert.Mat.Gen.facts,
    Cert.MatIdeal.Gen.facts,
    Cert.MatRefIdeal.Gen.facts,
    Cert.Pre_loss_finite.Gen.facts,
    Cert.Pre_normgate_finite.Gen.facts,
    Cert.Pre_normqkv_finite.Gen.facts,
    Cert.Pre_normproj_finite.Gen.facts,
    Cert.Pre_normup_finite.Gen.facts,
    Cert.Pre_swa_finite.Gen.facts,
    Cert.Pre_swafwd_finite.Gen.facts,
    Cert.Pre_ffn_finite.Gen.facts,
    Cert.Calls.Ple.frame_p,
    Cert.Calls.Ple.frame_pi,
    Cert.Calls.Ple.frame_ri,
    Cert.Calls.Loss.frame_p,
    fun m g _ => Cert.Calls.Loss.frame_p m g trivial,
    Cert.Calls.Loss.frame_pi,
    fun m g _ => Cert.Calls.Loss.frame_pi m g trivial,
    Cert.Calls.Loss.frame_ri,
    fun m g _ => Cert.Calls.Loss.frame_ri m g trivial,
    Cert.Calls.NormGate.frame_p,
    fun m g _ => Cert.Calls.NormGate.frame_p m g trivial,
    Cert.Calls.NormGate.frame_pi,
    fun m g _ => Cert.Calls.NormGate.frame_pi m g trivial,
    Cert.Calls.NormGate.frame_ri,
    fun m g _ => Cert.Calls.NormGate.frame_ri m g trivial,
    Cert.Calls.NormQkv.frame_p,
    fun m g _ => Cert.Calls.NormQkv.frame_p m g trivial,
    Cert.Calls.NormQkv.frame_pi,
    fun m g _ => Cert.Calls.NormQkv.frame_pi m g trivial,
    Cert.Calls.NormQkv.frame_ri,
    fun m g _ => Cert.Calls.NormQkv.frame_ri m g trivial,
    Cert.Calls.NormProj.frame_p,
    fun m g _ => Cert.Calls.NormProj.frame_p m g trivial,
    Cert.Calls.NormProj.frame_pi,
    fun m g _ => Cert.Calls.NormProj.frame_pi m g trivial,
    Cert.Calls.NormProj.frame_ri,
    fun m g _ => Cert.Calls.NormProj.frame_ri m g trivial,
    Cert.Calls.NormUp.frame_p,
    fun m g _ => Cert.Calls.NormUp.frame_p m g trivial,
    Cert.Calls.NormUp.frame_pi,
    fun m g _ => Cert.Calls.NormUp.frame_pi m g trivial,
    Cert.Calls.NormUp.frame_ri,
    fun m g _ => Cert.Calls.NormUp.frame_ri m g trivial,
    Cert.Calls.Swa.frame_p,
    fun m g _ => Cert.Calls.Swa.frame_p m g trivial,
    Cert.Calls.Swa.frame_pi,
    fun m g _ => Cert.Calls.Swa.frame_pi m g trivial,
    Cert.Calls.Swa.frame_ri,
    fun m g _ => Cert.Calls.Swa.frame_ri m g trivial,
    Cert.Calls.SwaFwd.frame_p,
    fun m g _ => Cert.Calls.SwaFwd.frame_p m g trivial,
    Cert.Calls.SwaFwd.frame_pi,
    fun m g _ => Cert.Calls.SwaFwd.frame_pi m g trivial,
    Cert.Calls.SwaFwd.frame_ri,
    fun m g _ => Cert.Calls.SwaFwd.frame_ri m g trivial,
    Cert.Calls.RmsFwd.frame_p,
    Cert.Calls.RmsFwd.frame_pi,
    Cert.Calls.RmsFwd.frame_ri,
    Cert.Calls.ResFwd.frame_p,
    Cert.Calls.ResFwd.frame_pi,
    Cert.Calls.ResFwd.frame_ri,
    Cert.Calls.GateFwd.frame_p,
    Cert.Calls.GateFwd.frame_pi,
    Cert.Calls.GateFwd.frame_ri,
    Cert.Calls.GateLast.frame_p,
    Cert.Calls.GateLast.frame_pi,
    Cert.Calls.GateLast.frame_ri,
    Cert.Calls.Ffn.frame_p,
    fun m g _ => Cert.Calls.Ffn.frame_p m g trivial,
    Cert.Calls.Ffn.frame_pi,
    fun m g _ => Cert.Calls.Ffn.frame_pi m g trivial,
    Cert.Calls.Ffn.frame_ri,
    fun m g _ => Cert.Calls.Ffn.frame_ri m g trivial,
    Cert.Calls.Up.frame_p,
    Cert.Calls.Up.frame_pi,
    Cert.Calls.Up.frame_ri,
    Cert.Calls.Sum.frame_p,
    Cert.Calls.Sum.frame_pi,
    Cert.Calls.Sum.frame_ri,
    Cert.Calls.Adam.frame_p,
    Cert.Calls.Adam.frame_pi,
    Cert.Calls.Adam.frame_ri,
    Cert.Calls.Mat.frame_p,
    Cert.Calls.Mat.frame_pi,
    Cert.Calls.Mat.frame_ri,
    trivial,
    Cert.Calls.Ple.algebraic,
    trivial,
    Cert.Calls.Loss.algebraic,
    trivial,
    Cert.Calls.NormGate.algebraic,
    trivial,
    Cert.Calls.NormQkv.algebraic,
    trivial,
    Cert.Calls.NormProj.algebraic,
    trivial,
    Cert.Calls.NormUp.algebraic,
    Cert.Calls.Swa.preserves,
    Cert.Calls.Swa.algebraic,
    Cert.Calls.SwaFwd.preserves,
    Cert.Calls.SwaFwd.algebraic,
    trivial,
    Cert.Calls.RmsFwd.algebraic,
    trivial,
    Cert.Calls.ResFwd.algebraic,
    trivial,
    Cert.Calls.GateFwd.algebraic,
    trivial,
    Cert.Calls.GateLast.algebraic,
    trivial,
    Cert.Calls.Ffn.algebraic,
    trivial,
    Cert.Calls.Up.algebraic,
    trivial,
    Cert.Calls.Sum.algebraic,
    Cert.Calls.Adam.preserves,
    Cert.Calls.Adam.algebraic,
    trivial,
    Cert.Calls.Mat.algebraic⟩

end Cert.Proof

end
